-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_chip_exists [hPre_chip_exists : Cert.Pre_chip_exists.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_chip_exists.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10)) (m ((c.tc : Thread Cert.Kernel6Ideal.nD Cert.Kernel6Ideal.τ).loc Cert.Kernel6Ideal.main_arg11)) (m ((c.tc : Thread Cert.Kernel6Ideal.nD Cert.Kernel6Ideal.τ).loc Cert.Kernel6Ideal.main_arg12)) (m ((c.tc : Thread Cert.Kernel6Ideal.nD Cert.Kernel6Ideal.τ).loc Cert.Kernel6Ideal.main_arg13)) (m ((c.tc : Thread Cert.Kernel6Ideal.nD Cert.Kernel6Ideal.τ).loc Cert.Kernel6Ideal.main_arg14)) (m ((c.tc : Thread Cert.Kernel6Ideal.nD Cert.Kernel6Ideal.τ).loc Cert.Kernel6Ideal.main_arg15)) (m ((c.tc : Thread Cert.Kernel6Ideal.nD Cert.Kernel6Ideal.τ).loc Cert.Kernel6Ideal.main_arg16)) (m ((c.tc : Thread Cert.Kernel6Ideal.nD Cert.Kernel6Ideal.τ).loc Cert.Kernel6Ideal.main_arg17)) (m ((c.tc : Thread Cert.Kernel6Ideal.nD Cert.Kernel6Ideal.τ).loc Cert.Kernel6Ideal.main_arg18)) (m ((c.tc : Thread Cert.Kernel6Ideal.nD Cert.Kernel6Ideal.τ).loc Cert.Kernel6Ideal.main_arg19)) (m ((c.tc : Thread Cert.Kernel6Ideal.nD Cert.Kernel6Ideal.τ).loc Cert.Kernel6Ideal.main_arg20)) (m ((c.tc : Thread Cert.Kernel6Ideal.nD Cert.Kernel6Ideal.τ).loc Cert.Kernel6Ideal.main_arg21)) (m ((c.tc : Thread Cert.Kernel6Ideal.nD Cert.Kernel6Ideal.τ).loc Cert.Kernel6Ideal.main_arg22)) (m ((c.tc : Thread Cert.Kernel6Ideal.nD Cert.Kernel6Ideal.τ).loc Cert.Kernel6Ideal.main_arg23)) (m ((c.tc : Thread Cert.Kernel6Ideal.nD Cert.Kernel6Ideal.τ).loc Cert.Kernel6Ideal.main_arg24)) (m ((c.tc : Thread Cert.Kernel6Ideal.nD Cert.Kernel6Ideal.τ).loc Cert.Kernel6Ideal.main_arg25)) (m ((c.tc : Thread Cert.Kernel6Ideal.nD Cert.Kernel6Ideal.τ).loc Cert.Kernel6Ideal.main_arg26)) (m ((c.tc : Thread Cert.Kernel6Ideal.nD Cert.Kernel6Ideal.τ).loc Cert.Kernel6Ideal.main_arg27)) (m ((c.tc : Thread Cert.Kernel6Ideal.nD Cert.Kernel6Ideal.τ).loc Cert.Kernel6Ideal.main_arg28)) (m ((c.tc : Thread Cert.Kernel6Ideal.nD Cert.Kernel6Ideal.τ).loc Cert.Kernel6Ideal.main_arg29))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_chip_exists [hPre_chip_exists : Cert.Pre_chip_exists.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_chip_exists.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9)) (m ((c.tc : Thread Cert.Reference6Ideal.nD Cert.Reference6Ideal.τ).loc Cert.Reference6Ideal.main_arg10)) (m ((c.tc : Thread Cert.Reference6Ideal.nD Cert.Reference6Ideal.τ).loc Cert.Reference6Ideal.main_arg11)) (m ((c.tc : Thread Cert.Reference6Ideal.nD Cert.Reference6Ideal.τ).loc Cert.Reference6Ideal.main_arg12)) (m ((c.tc : Thread Cert.Reference6Ideal.nD Cert.Reference6Ideal.τ).loc Cert.Reference6Ideal.main_arg13)) (m ((c.tc : Thread Cert.Reference6Ideal.nD Cert.Reference6Ideal.τ).loc Cert.Reference6Ideal.main_arg14)) (m ((c.tc : Thread Cert.Reference6Ideal.nD Cert.Reference6Ideal.τ).loc Cert.Reference6Ideal.main_arg15)) (m ((c.tc : Thread Cert.Reference6Ideal.nD Cert.Reference6Ideal.τ).loc Cert.Reference6Ideal.main_arg16)) (m ((c.tc : Thread Cert.Reference6Ideal.nD Cert.Reference6Ideal.τ).loc Cert.Reference6Ideal.main_arg17)) (m ((c.tc : Thread Cert.Reference6Ideal.nD Cert.Reference6Ideal.τ).loc Cert.Reference6Ideal.main_arg18)) (m ((c.tc : Thread Cert.Reference6Ideal.nD Cert.Reference6Ideal.τ).loc Cert.Reference6Ideal.main_arg19)) (m ((c.tc : Thread Cert.Reference6Ideal.nD Cert.Reference6Ideal.τ).loc Cert.Reference6Ideal.main_arg20)) (m ((c.tc : Thread Cert.Reference6Ideal.nD Cert.Reference6Ideal.τ).loc Cert.Reference6Ideal.main_arg21)) (m ((c.tc : Thread Cert.Reference6Ideal.nD Cert.Reference6Ideal.τ).loc Cert.Reference6Ideal.main_arg22)) (m ((c.tc : Thread Cert.Reference6Ideal.nD Cert.Reference6Ideal.τ).loc Cert.Reference6Ideal.main_arg23)) (m ((c.tc : Thread Cert.Reference6Ideal.nD Cert.Reference6Ideal.τ).loc Cert.Reference6Ideal.main_arg24)) (m ((c.tc : Thread Cert.Reference6Ideal.nD Cert.Reference6Ideal.τ).loc Cert.Reference6Ideal.main_arg25)) (m ((c.tc : Thread Cert.Reference6Ideal.nD Cert.Reference6Ideal.τ).loc Cert.Reference6Ideal.main_arg26)) (m ((c.tc : Thread Cert.Reference6Ideal.nD Cert.Reference6Ideal.τ).loc Cert.Reference6Ideal.main_arg27)) (m ((c.tc : Thread Cert.Reference6Ideal.nD Cert.Reference6Ideal.τ).loc Cert.Reference6Ideal.main_arg28)) (m ((c.tc : Thread Cert.Reference6Ideal.nD Cert.Reference6Ideal.τ).loc Cert.Reference6Ideal.main_arg29))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10)
      ∧ r.2.mem ((c.tc : Thread Cert.Kernel6.nD Cert.Kernel6.τ).loc Cert.Kernel6.main_arg11) = m ((c.tc : Thread Cert.Kernel6.nD Cert.Kernel6.τ).loc Cert.Kernel6.main_arg11)
      ∧ r.2.mem ((c.tc : Thread Cert.Kernel6.nD Cert.Kernel6.τ).loc Cert.Kernel6.main_arg12) = m ((c.tc : Thread Cert.Kernel6.nD Cert.Kernel6.τ).loc Cert.Kernel6.main_arg12)
      ∧ r.2.mem ((c.tc : Thread Cert.Kernel6.nD Cert.Kernel6.τ).loc Cert.Kernel6.main_arg13) = m ((c.tc : Thread Cert.Kernel6.nD Cert.Kernel6.τ).loc Cert.Kernel6.main_arg13)
      ∧ r.2.mem ((c.tc : Thread Cert.Kernel6.nD Cert.Kernel6.τ).loc Cert.Kernel6.main_arg14) = m ((c.tc : Thread Cert.Kernel6.nD Cert.Kernel6.τ).loc Cert.Kernel6.main_arg14)
      ∧ r.2.mem ((c.tc : Thread Cert.Kernel6.nD Cert.Kernel6.τ).loc Cert.Kernel6.main_arg15) = m ((c.tc : Thread Cert.Kernel6.nD Cert.Kernel6.τ).loc Cert.Kernel6.main_arg15)
      ∧ r.2.mem ((c.tc : Thread Cert.Kernel6.nD Cert.Kernel6.τ).loc Cert.Kernel6.main_arg16) = m ((c.tc : Thread Cert.Kernel6.nD Cert.Kernel6.τ).loc Cert.Kernel6.main_arg16)
      ∧ r.2.mem ((c.tc : Thread Cert.Kernel6.nD Cert.Kernel6.τ).loc Cert.Kernel6.main_arg17) = m ((c.tc : Thread Cert.Kernel6.nD Cert.Kernel6.τ).loc Cert.Kernel6.main_arg17)
      ∧ r.2.mem ((c.tc : Thread Cert.Kernel6.nD Cert.Kernel6.τ).loc Cert.Kernel6.main_arg18) = m ((c.tc : Thread Cert.Kernel6.nD Cert.Kernel6.τ).loc Cert.Kernel6.main_arg18)
      ∧ r.2.mem ((c.tc : Thread Cert.Kernel6.nD Cert.Kernel6.τ).loc Cert.Kernel6.main_arg19) = m ((c.tc : Thread Cert.Kernel6.nD Cert.Kernel6.τ).loc Cert.Kernel6.main_arg19)
      ∧ r.2.mem ((c.tc : Thread Cert.Kernel6.nD Cert.Kernel6.τ).loc Cert.Kernel6.main_arg20) = m ((c.tc : Thread Cert.Kernel6.nD Cert.Kernel6.τ).loc Cert.Kernel6.main_arg20)
      ∧ r.2.mem ((c.tc : Thread Cert.Kernel6.nD Cert.Kernel6.τ).loc Cert.Kernel6.main_arg21) = m ((c.tc : Thread Cert.Kernel6.nD Cert.Kernel6.τ).loc Cert.Kernel6.main_arg21)
      ∧ r.2.mem ((c.tc : Thread Cert.Kernel6.nD Cert.Kernel6.τ).loc Cert.Kernel6.main_arg22) = m ((c.tc : Thread Cert.Kernel6.nD Cert.Kernel6.τ).loc Cert.Kernel6.main_arg22)
      ∧ r.2.mem ((c.tc : Thread Cert.Kernel6.nD Cert.Kernel6.τ).loc Cert.Kernel6.main_arg23) = m ((c.tc : Thread Cert.Kernel6.nD Cert.Kernel6.τ).loc Cert.Kernel6.main_arg23)
      ∧ r.2.mem ((c.tc : Thread Cert.Kernel6.nD Cert.Kernel6.τ).loc Cert.Kernel6.main_arg24) = m ((c.tc : Thread Cert.Kernel6.nD Cert.Kernel6.τ).loc Cert.Kernel6.main_arg24)
      ∧ r.2.mem ((c.tc : Thread Cert.Kernel6.nD Cert.Kernel6.τ).loc Cert.Kernel6.main_arg25) = m ((c.tc : Thread Cert.Kernel6.nD Cert.Kernel6.τ).loc Cert.Kernel6.main_arg25)
      ∧ r.2.mem ((c.tc : Thread Cert.Kernel6.nD Cert.Kernel6.τ).loc Cert.Kernel6.main_arg26) = m ((c.tc : Thread Cert.Kernel6.nD Cert.Kernel6.τ).loc Cert.Kernel6.main_arg26)
      ∧ r.2.mem ((c.tc : Thread Cert.Kernel6.nD Cert.Kernel6.τ).loc Cert.Kernel6.main_arg27) = m ((c.tc : Thread Cert.Kernel6.nD Cert.Kernel6.τ).loc Cert.Kernel6.main_arg27)
      ∧ r.2.mem ((c.tc : Thread Cert.Kernel6.nD Cert.Kernel6.τ).loc Cert.Kernel6.main_arg28) = m ((c.tc : Thread Cert.Kernel6.nD Cert.Kernel6.τ).loc Cert.Kernel6.main_arg28)
      ∧ r.2.mem ((c.tc : Thread Cert.Kernel6.nD Cert.Kernel6.τ).loc Cert.Kernel6.main_arg29) = m ((c.tc : Thread Cert.Kernel6.nD Cert.Kernel6.τ).loc Cert.Kernel6.main_arg29))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
      ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
      ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13)
      ∧ r.2.mem ((c.tc : Thread Cert.Kernel6Ideal.nD Cert.Kernel6Ideal.τ).loc Cert.Kernel6Ideal.main_arg14) = m ((c.tc : Thread Cert.Kernel6Ideal.nD Cert.Kernel6Ideal.τ).loc Cert.Kernel6Ideal.main_arg14)
      ∧ r.2.mem ((c.tc : Thread Cert.Kernel6Ideal.nD Cert.Kernel6Ideal.τ).loc Cert.Kernel6Ideal.main_arg15) = m ((c.tc : Thread Cert.Kernel6Ideal.nD Cert.Kernel6Ideal.τ).loc Cert.Kernel6Ideal.main_arg15)
      ∧ r.2.mem ((c.tc : Thread Cert.Kernel6Ideal.nD Cert.Kernel6Ideal.τ).loc Cert.Kernel6Ideal.main_arg16) = m ((c.tc : Thread Cert.Kernel6Ideal.nD Cert.Kernel6Ideal.τ).loc Cert.Kernel6Ideal.main_arg16)
      ∧ r.2.mem ((c.tc : Thread Cert.Kernel6Ideal.nD Cert.Kernel6Ideal.τ).loc Cert.Kernel6Ideal.main_arg17) = m ((c.tc : Thread Cert.Kernel6Ideal.nD Cert.Kernel6Ideal.τ).loc Cert.Kernel6Ideal.main_arg17)
      ∧ r.2.mem ((c.tc : Thread Cert.Kernel6Ideal.nD Cert.Kernel6Ideal.τ).loc Cert.Kernel6Ideal.main_arg18) = m ((c.tc : Thread Cert.Kernel6Ideal.nD Cert.Kernel6Ideal.τ).loc Cert.Kernel6Ideal.main_arg18)
      ∧ r.2.mem ((c.tc : Thread Cert.Kernel6Ideal.nD Cert.Kernel6Ideal.τ).loc Cert.Kernel6Ideal.main_arg19) = m ((c.tc : Thread Cert.Kernel6Ideal.nD Cert.Kernel6Ideal.τ).loc Cert.Kernel6Ideal.main_arg19)
      ∧ r.2.mem ((c.tc : Thread Cert.Kernel6Ideal.nD Cert.Kernel6Ideal.τ).loc Cert.Kernel6Ideal.main_arg20) = m ((c.tc : Thread Cert.Kernel6Ideal.nD Cert.Kernel6Ideal.τ).loc Cert.Kernel6Ideal.main_arg20)
      ∧ r.2.mem ((c.tc : Thread Cert.Kernel6Ideal.nD Cert.Kernel6Ideal.τ).loc Cert.Kernel6Ideal.main_arg21) = m ((c.tc : Thread Cert.Kernel6Ideal.nD Cert.Kernel6Ideal.τ).loc Cert.Kernel6Ideal.main_arg21)
      ∧ r.2.mem ((c.tc : Thread Cert.Kernel6Ideal.nD Cert.Kernel6Ideal.τ).loc Cert.Kernel6Ideal.main_arg22) = m ((c.tc : Thread Cert.Kernel6Ideal.nD Cert.Kernel6Ideal.τ).loc Cert.Kernel6Ideal.main_arg22)
      ∧ r.2.mem ((c.tc : Thread Cert.Kernel6Ideal.nD Cert.Kernel6Ideal.τ).loc Cert.Kernel6Ideal.main_arg23) = m ((c.tc : Thread Cert.Kernel6Ideal.nD Cert.Kernel6Ideal.τ).loc Cert.Kernel6Ideal.main_arg23)
      ∧ r.2.mem ((c.tc : Thread Cert.Kernel6Ideal.nD Cert.Kernel6Ideal.τ).loc Cert.Kernel6Ideal.main_arg24) = m ((c.tc : Thread Cert.Kernel6Ideal.nD Cert.Kernel6Ideal.τ).loc Cert.Kernel6Ideal.main_arg24)
      ∧ r.2.mem ((c.tc : Thread Cert.Kernel6Ideal.nD Cert.Kernel6Ideal.τ).loc Cert.Kernel6Ideal.main_arg25) = m ((c.tc : Thread Cert.Kernel6Ideal.nD Cert.Kernel6Ideal.τ).loc Cert.Kernel6Ideal.main_arg25)
      ∧ r.2.mem ((c.tc : Thread Cert.Kernel6Ideal.nD Cert.Kernel6Ideal.τ).loc Cert.Kernel6Ideal.main_arg26) = m ((c.tc : Thread Cert.Kernel6Ideal.nD Cert.Kernel6Ideal.τ).loc Cert.Kernel6Ideal.main_arg26)
      ∧ r.2.mem ((c.tc : Thread Cert.Kernel6Ideal.nD Cert.Kernel6Ideal.τ).loc Cert.Kernel6Ideal.main_arg27) = m ((c.tc : Thread Cert.Kernel6Ideal.nD Cert.Kernel6Ideal.τ).loc Cert.Kernel6Ideal.main_arg27)
      ∧ r.2.mem ((c.tc : Thread Cert.Kernel6Ideal.nD Cert.Kernel6Ideal.τ).loc Cert.Kernel6Ideal.main_arg28) = m ((c.tc : Thread Cert.Kernel6Ideal.nD Cert.Kernel6Ideal.τ).loc Cert.Kernel6Ideal.main_arg28)
      ∧ r.2.mem ((c.tc : Thread Cert.Kernel6Ideal.nD Cert.Kernel6Ideal.τ).loc Cert.Kernel6Ideal.main_arg29) = m ((c.tc : Thread Cert.Kernel6Ideal.nD Cert.Kernel6Ideal.τ).loc Cert.Kernel6Ideal.main_arg29))
      ∧ r.2.sem = fun _ => 0)

def quiescent_Kernel6Ideal_pre_chip_exists [hKernel6Ideal : Cert.Kernel6Ideal.Facts] [hPre_chip_exists : Cert.Pre_chip_exists.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_chip_exists m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
      ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
      ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13)
      ∧ r.2.mem ((c.tc : Thread Cert.Kernel6Ideal.nD Cert.Kernel6Ideal.τ).loc Cert.Kernel6Ideal.main_arg14) = m ((c.tc : Thread Cert.Kernel6Ideal.nD Cert.Kernel6Ideal.τ).loc Cert.Kernel6Ideal.main_arg14)
      ∧ r.2.mem ((c.tc : Thread Cert.Kernel6Ideal.nD Cert.Kernel6Ideal.τ).loc Cert.Kernel6Ideal.main_arg15) = m ((c.tc : Thread Cert.Kernel6Ideal.nD Cert.Kernel6Ideal.τ).loc Cert.Kernel6Ideal.main_arg15)
      ∧ r.2.mem ((c.tc : Thread Cert.Kernel6Ideal.nD Cert.Kernel6Ideal.τ).loc Cert.Kernel6Ideal.main_arg16) = m ((c.tc : Thread Cert.Kernel6Ideal.nD Cert.Kernel6Ideal.τ).loc Cert.Kernel6Ideal.main_arg16)
      ∧ r.2.mem ((c.tc : Thread Cert.Kernel6Ideal.nD Cert.Kernel6Ideal.τ).loc Cert.Kernel6Ideal.main_arg17) = m ((c.tc : Thread Cert.Kernel6Ideal.nD Cert.Kernel6Ideal.τ).loc Cert.Kernel6Ideal.main_arg17)
      ∧ r.2.mem ((c.tc : Thread Cert.Kernel6Ideal.nD Cert.Kernel6Ideal.τ).loc Cert.Kernel6Ideal.main_arg18) = m ((c.tc : Thread Cert.Kernel6Ideal.nD Cert.Kernel6Ideal.τ).loc Cert.Kernel6Ideal.main_arg18)
      ∧ r.2.mem ((c.tc : Thread Cert.Kernel6Ideal.nD Cert.Kernel6Ideal.τ).loc Cert.Kernel6Ideal.main_arg19) = m ((c.tc : Thread Cert.Kernel6Ideal.nD Cert.Kernel6Ideal.τ).loc Cert.Kernel6Ideal.main_arg19)
      ∧ r.2.mem ((c.tc : Thread Cert.Kernel6Ideal.nD Cert.Kernel6Ideal.τ).loc Cert.Kernel6Ideal.main_arg20) = m ((c.tc : Thread Cert.Kernel6Ideal.nD Cert.Kernel6Ideal.τ).loc Cert.Kernel6Ideal.main_arg20)
      ∧ r.2.mem ((c.tc : Thread Cert.Kernel6Ideal.nD Cert.Kernel6Ideal.τ).loc Cert.Kernel6Ideal.main_arg21) = m ((c.tc : Thread Cert.Kernel6Ideal.nD Cert.Kernel6Ideal.τ).loc Cert.Kernel6Ideal.main_arg21)
      ∧ r.2.mem ((c.tc : Thread Cert.Kernel6Ideal.nD Cert.Kernel6Ideal.τ).loc Cert.Kernel6Ideal.main_arg22) = m ((c.tc : Thread Cert.Kernel6Ideal.nD Cert.Kernel6Ideal.τ).loc Cert.Kernel6Ideal.main_arg22)
      ∧ r.2.mem ((c.tc : Thread Cert.Kernel6Ideal.nD Cert.Kernel6Ideal.τ).loc Cert.Kernel6Ideal.main_arg23) = m ((c.tc : Thread Cert.Kernel6Ideal.nD Cert.Kernel6Ideal.τ).loc Cert.Kernel6Ideal.main_arg23)
      ∧ r.2.mem ((c.tc : Thread Cert.Kernel6Ideal.nD Cert.Kernel6Ideal.τ).loc Cert.Kernel6Ideal.main_arg24) = m ((c.tc : Thread Cert.Kernel6Ideal.nD Cert.Kernel6Ideal.τ).loc Cert.Kernel6Ideal.main_arg24)
      ∧ r.2.mem ((c.tc : Thread Cert.Kernel6Ideal.nD Cert.Kernel6Ideal.τ).loc Cert.Kernel6Ideal.main_arg25) = m ((c.tc : Thread Cert.Kernel6Ideal.nD Cert.Kernel6Ideal.τ).loc Cert.Kernel6Ideal.main_arg25)
      ∧ r.2.mem ((c.tc : Thread Cert.Kernel6Ideal.nD Cert.Kernel6Ideal.τ).loc Cert.Kernel6Ideal.main_arg26) = m ((c.tc : Thread Cert.Kernel6Ideal.nD Cert.Kernel6Ideal.τ).loc Cert.Kernel6Ideal.main_arg26)
      ∧ r.2.mem ((c.tc : Thread Cert.Kernel6Ideal.nD Cert.Kernel6Ideal.τ).loc Cert.Kernel6Ideal.main_arg27) = m ((c.tc : Thread Cert.Kernel6Ideal.nD Cert.Kernel6Ideal.τ).loc Cert.Kernel6Ideal.main_arg27)
      ∧ r.2.mem ((c.tc : Thread Cert.Kernel6Ideal.nD Cert.Kernel6Ideal.τ).loc Cert.Kernel6Ideal.main_arg28) = m ((c.tc : Thread Cert.Kernel6Ideal.nD Cert.Kernel6Ideal.τ).loc Cert.Kernel6Ideal.main_arg28)
      ∧ r.2.mem ((c.tc : Thread Cert.Kernel6Ideal.nD Cert.Kernel6Ideal.τ).loc Cert.Kernel6Ideal.main_arg29) = m ((c.tc : Thread Cert.Kernel6Ideal.nD Cert.Kernel6Ideal.τ).loc Cert.Kernel6Ideal.main_arg29))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11)
      ∧ r.2.mem ((c.tc : Thread Cert.Reference6Ideal.nD Cert.Reference6Ideal.τ).loc Cert.Reference6Ideal.main_arg12) = m ((c.tc : Thread Cert.Reference6Ideal.nD Cert.Reference6Ideal.τ).loc Cert.Reference6Ideal.main_arg12)
      ∧ r.2.mem ((c.tc : Thread Cert.Reference6Ideal.nD Cert.Reference6Ideal.τ).loc Cert.Reference6Ideal.main_arg13) = m ((c.tc : Thread Cert.Reference6Ideal.nD Cert.Reference6Ideal.τ).loc Cert.Reference6Ideal.main_arg13)
      ∧ r.2.mem ((c.tc : Thread Cert.Reference6Ideal.nD Cert.Reference6Ideal.τ).loc Cert.Reference6Ideal.main_arg14) = m ((c.tc : Thread Cert.Reference6Ideal.nD Cert.Reference6Ideal.τ).loc Cert.Reference6Ideal.main_arg14)
      ∧ r.2.mem ((c.tc : Thread Cert.Reference6Ideal.nD Cert.Reference6Ideal.τ).loc Cert.Reference6Ideal.main_arg15) = m ((c.tc : Thread Cert.Reference6Ideal.nD Cert.Reference6Ideal.τ).loc Cert.Reference6Ideal.main_arg15)
      ∧ r.2.mem ((c.tc : Thread Cert.Reference6Ideal.nD Cert.Reference6Ideal.τ).loc Cert.Reference6Ideal.main_arg16) = m ((c.tc : Thread Cert.Reference6Ideal.nD Cert.Reference6Ideal.τ).loc Cert.Reference6Ideal.main_arg16)
      ∧ r.2.mem ((c.tc : Thread Cert.Reference6Ideal.nD Cert.Reference6Ideal.τ).loc Cert.Reference6Ideal.main_arg17) = m ((c.tc : Thread Cert.Reference6Ideal.nD Cert.Reference6Ideal.τ).loc Cert.Reference6Ideal.main_arg17)
      ∧ r.2.mem ((c.tc : Thread Cert.Reference6Ideal.nD Cert.Reference6Ideal.τ).loc Cert.Reference6Ideal.main_arg18) = m ((c.tc : Thread Cert.Reference6Ideal.nD Cert.Reference6Ideal.τ).loc Cert.Reference6Ideal.main_arg18)
      ∧ r.2.mem ((c.tc : Thread Cert.Reference6Ideal.nD Cert.Reference6Ideal.τ).loc Cert.Reference6Ideal.main_arg19) = m ((c.tc : Thread Cert.Reference6Ideal.nD Cert.Reference6Ideal.τ).loc Cert.Reference6Ideal.main_arg19)
      ∧ r.2.mem ((c.tc : Thread Cert.Reference6Ideal.nD Cert.Reference6Ideal.τ).loc Cert.Reference6Ideal.main_arg20) = m ((c.tc : Thread Cert.Reference6Ideal.nD Cert.Reference6Ideal.τ).loc Cert.Reference6Ideal.main_arg20)
      ∧ r.2.mem ((c.tc : Thread Cert.Reference6Ideal.nD Cert.Reference6Ideal.τ).loc Cert.Reference6Ideal.main_arg21) = m ((c.tc : Thread Cert.Reference6Ideal.nD Cert.Reference6Ideal.τ).loc Cert.Reference6Ideal.main_arg21)
      ∧ r.2.mem ((c.tc : Thread Cert.Reference6Ideal.nD Cert.Reference6Ideal.τ).loc Cert.Reference6Ideal.main_arg22) = m ((c.tc : Thread Cert.Reference6Ideal.nD Cert.Reference6Ideal.τ).loc Cert.Reference6Ideal.main_arg22)
      ∧ r.2.mem ((c.tc : Thread Cert.Reference6Ideal.nD Cert.Reference6Ideal.τ).loc Cert.Reference6Ideal.main_arg23) = m ((c.tc : Thread Cert.Reference6Ideal.nD Cert.Reference6Ideal.τ).loc Cert.Reference6Ideal.main_arg23)
      ∧ r.2.mem ((c.tc : Thread Cert.Reference6Ideal.nD Cert.Reference6Ideal.τ).loc Cert.Reference6Ideal.main_arg24) = m ((c.tc : Thread Cert.Reference6Ideal.nD Cert.Reference6Ideal.τ).loc Cert.Reference6Ideal.main_arg24)
      ∧ r.2.mem ((c.tc : Thread Cert.Reference6Ideal.nD Cert.Reference6Ideal.τ).loc Cert.Reference6Ideal.main_arg25) = m ((c.tc : Thread Cert.Reference6Ideal.nD Cert.Reference6Ideal.τ).loc Cert.Reference6Ideal.main_arg25)
      ∧ r.2.mem ((c.tc : Thread Cert.Reference6Ideal.nD Cert.Reference6Ideal.τ).loc Cert.Reference6Ideal.main_arg26) = m ((c.tc : Thread Cert.Reference6Ideal.nD Cert.Reference6Ideal.τ).loc Cert.Reference6Ideal.main_arg26)
      ∧ r.2.mem ((c.tc : Thread Cert.Reference6Ideal.nD Cert.Reference6Ideal.τ).loc Cert.Reference6Ideal.main_arg27) = m ((c.tc : Thread Cert.Reference6Ideal.nD Cert.Reference6Ideal.τ).loc Cert.Reference6Ideal.main_arg27)
      ∧ r.2.mem ((c.tc : Thread Cert.Reference6Ideal.nD Cert.Reference6Ideal.τ).loc Cert.Reference6Ideal.main_arg28) = m ((c.tc : Thread Cert.Reference6Ideal.nD Cert.Reference6Ideal.τ).loc Cert.Reference6Ideal.main_arg28)
      ∧ r.2.mem ((c.tc : Thread Cert.Reference6Ideal.nD Cert.Reference6Ideal.τ).loc Cert.Reference6Ideal.main_arg29) = m ((c.tc : Thread Cert.Reference6Ideal.nD Cert.Reference6Ideal.τ).loc Cert.Reference6Ideal.main_arg29))
      ∧ r.2.sem = fun _ => 0)

def quiescent_Reference6Ideal_pre_chip_exists [hReference6Ideal : Cert.Reference6Ideal.Facts] [hPre_chip_exists : Cert.Pre_chip_exists.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_chip_exists m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11)
      ∧ r.2.mem ((c.tc : Thread Cert.Reference6Ideal.nD Cert.Reference6Ideal.τ).loc Cert.Reference6Ideal.main_arg12) = m ((c.tc : Thread Cert.Reference6Ideal.nD Cert.Reference6Ideal.τ).loc Cert.Reference6Ideal.main_arg12)
      ∧ r.2.mem ((c.tc : Thread Cert.Reference6Ideal.nD Cert.Reference6Ideal.τ).loc Cert.Reference6Ideal.main_arg13) = m ((c.tc : Thread Cert.Reference6Ideal.nD Cert.Reference6Ideal.τ).loc Cert.Reference6Ideal.main_arg13)
      ∧ r.2.mem ((c.tc : Thread Cert.Reference6Ideal.nD Cert.Reference6Ideal.τ).loc Cert.Reference6Ideal.main_arg14) = m ((c.tc : Thread Cert.Reference6Ideal.nD Cert.Reference6Ideal.τ).loc Cert.Reference6Ideal.main_arg14)
      ∧ r.2.mem ((c.tc : Thread Cert.Reference6Ideal.nD Cert.Reference6Ideal.τ).loc Cert.Reference6Ideal.main_arg15) = m ((c.tc : Thread Cert.Reference6Ideal.nD Cert.Reference6Ideal.τ).loc Cert.Reference6Ideal.main_arg15)
      ∧ r.2.mem ((c.tc : Thread Cert.Reference6Ideal.nD Cert.Reference6Ideal.τ).loc Cert.Reference6Ideal.main_arg16) = m ((c.tc : Thread Cert.Reference6Ideal.nD Cert.Reference6Ideal.τ).loc Cert.Reference6Ideal.main_arg16)
      ∧ r.2.mem ((c.tc : Thread Cert.Reference6Ideal.nD Cert.Reference6Ideal.τ).loc Cert.Reference6Ideal.main_arg17) = m ((c.tc : Thread Cert.Reference6Ideal.nD Cert.Reference6Ideal.τ).loc Cert.Reference6Ideal.main_arg17)
      ∧ r.2.mem ((c.tc : Thread Cert.Reference6Ideal.nD Cert.Reference6Ideal.τ).loc Cert.Reference6Ideal.main_arg18) = m ((c.tc : Thread Cert.Reference6Ideal.nD Cert.Reference6Ideal.τ).loc Cert.Reference6Ideal.main_arg18)
      ∧ r.2.mem ((c.tc : Thread Cert.Reference6Ideal.nD Cert.Reference6Ideal.τ).loc Cert.Reference6Ideal.main_arg19) = m ((c.tc : Thread Cert.Reference6Ideal.nD Cert.Reference6Ideal.τ).loc Cert.Reference6Ideal.main_arg19)
      ∧ r.2.mem ((c.tc : Thread Cert.Reference6Ideal.nD Cert.Reference6Ideal.τ).loc Cert.Reference6Ideal.main_arg20) = m ((c.tc : Thread Cert.Reference6Ideal.nD Cert.Reference6Ideal.τ).loc Cert.Reference6Ideal.main_arg20)
      ∧ r.2.mem ((c.tc : Thread Cert.Reference6Ideal.nD Cert.Reference6Ideal.τ).loc Cert.Reference6Ideal.main_arg21) = m ((c.tc : Thread Cert.Reference6Ideal.nD Cert.Reference6Ideal.τ).loc Cert.Reference6Ideal.main_arg21)
      ∧ r.2.mem ((c.tc : Thread Cert.Reference6Ideal.nD Cert.Reference6Ideal.τ).loc Cert.Reference6Ideal.main_arg22) = m ((c.tc : Thread Cert.Reference6Ideal.nD Cert.Reference6Ideal.τ).loc Cert.Reference6Ideal.main_arg22)
      ∧ r.2.mem ((c.tc : Thread Cert.Reference6Ideal.nD Cert.Reference6Ideal.τ).loc Cert.Reference6Ideal.main_arg23) = m ((c.tc : Thread Cert.Reference6Ideal.nD Cert.Reference6Ideal.τ).loc Cert.Reference6Ideal.main_arg23)
      ∧ r.2.mem ((c.tc : Thread Cert.Reference6Ideal.nD Cert.Reference6Ideal.τ).loc Cert.Reference6Ideal.main_arg24) = m ((c.tc : Thread Cert.Reference6Ideal.nD Cert.Reference6Ideal.τ).loc Cert.Reference6Ideal.main_arg24)
      ∧ r.2.mem ((c.tc : Thread Cert.Reference6Ideal.nD Cert.Reference6Ideal.τ).loc Cert.Reference6Ideal.main_arg25) = m ((c.tc : Thread Cert.Reference6Ideal.nD Cert.Reference6Ideal.τ).loc Cert.Reference6Ideal.main_arg25)
      ∧ r.2.mem ((c.tc : Thread Cert.Reference6Ideal.nD Cert.Reference6Ideal.τ).loc Cert.Reference6Ideal.main_arg26) = m ((c.tc : Thread Cert.Reference6Ideal.nD Cert.Reference6Ideal.τ).loc Cert.Reference6Ideal.main_arg26)
      ∧ r.2.mem ((c.tc : Thread Cert.Reference6Ideal.nD Cert.Reference6Ideal.τ).loc Cert.Reference6Ideal.main_arg27) = m ((c.tc : Thread Cert.Reference6Ideal.nD Cert.Reference6Ideal.τ).loc Cert.Reference6Ideal.main_arg27)
      ∧ r.2.mem ((c.tc : Thread Cert.Reference6Ideal.nD Cert.Reference6Ideal.τ).loc Cert.Reference6Ideal.main_arg28) = m ((c.tc : Thread Cert.Reference6Ideal.nD Cert.Reference6Ideal.τ).loc Cert.Reference6Ideal.main_arg28)
      ∧ r.2.mem ((c.tc : Thread Cert.Reference6Ideal.nD Cert.Reference6Ideal.τ).loc Cert.Reference6Ideal.main_arg29) = m ((c.tc : Thread Cert.Reference6Ideal.nD Cert.Reference6Ideal.τ).loc Cert.Reference6Ideal.main_arg29))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v189_0)) (v1 : (c : Dev Cert.KernelIdeal.nD) → Buf (Elt Ideal) ((c.tc : Thread Cert.KernelIdeal.nD Cert.KernelIdeal.τ).loc Cert.KernelIdeal.main_v189_1)) (v2 : (c : Dev Cert.KernelIdeal.nD) → Buf (Elt Ideal) ((c.tc : Thread Cert.KernelIdeal.nD Cert.KernelIdeal.τ).loc Cert.KernelIdeal.main_v189_2)) (v3 : (c : Dev Cert.KernelIdeal.nD) → Buf (Elt Ideal) ((c.tc : Thread Cert.KernelIdeal.nD Cert.KernelIdeal.τ).loc Cert.KernelIdeal.main_v189_3)) (v4 : (c : Dev Cert.KernelIdeal.nD) → Buf (Elt Ideal) ((c.tc : Thread Cert.KernelIdeal.nD Cert.KernelIdeal.τ).loc Cert.KernelIdeal.main_v189_4)) (v5 : (c : Dev Cert.KernelIdeal.nD) → Buf (Elt Ideal) ((c.tc : Thread Cert.KernelIdeal.nD Cert.KernelIdeal.τ).loc Cert.KernelIdeal.main_v189_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v189_0) = v0 c
          ∧ r.2.mem ((c.tc : Thread Cert.KernelIdeal.nD Cert.KernelIdeal.τ).loc Cert.KernelIdeal.main_v189_1) = v1 c
          ∧ r.2.mem ((c.tc : Thread Cert.KernelIdeal.nD Cert.KernelIdeal.τ).loc Cert.KernelIdeal.main_v189_2) = v2 c
          ∧ r.2.mem ((c.tc : Thread Cert.KernelIdeal.nD Cert.KernelIdeal.τ).loc Cert.KernelIdeal.main_v189_3) = v3 c
          ∧ r.2.mem ((c.tc : Thread Cert.KernelIdeal.nD Cert.KernelIdeal.τ).loc Cert.KernelIdeal.main_v189_4) = v4 c
          ∧ r.2.mem ((c.tc : Thread Cert.KernelIdeal.nD Cert.KernelIdeal.τ).loc Cert.KernelIdeal.main_v189_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v298) = v0 c
          ∧ r.2.mem ((c.tc : Thread Cert.ReferenceIdeal.nD Cert.ReferenceIdeal.τ).loc Cert.ReferenceIdeal.main_v301) = v1 c
          ∧ r.2.mem ((c.tc : Thread Cert.ReferenceIdeal.nD Cert.ReferenceIdeal.τ).loc Cert.ReferenceIdeal.main_v302) = v2 c
          ∧ r.2.mem ((c.tc : Thread Cert.ReferenceIdeal.nD Cert.ReferenceIdeal.τ).loc Cert.ReferenceIdeal.main_v295) = v3 c
          ∧ r.2.mem ((c.tc : Thread Cert.ReferenceIdeal.nD Cert.ReferenceIdeal.τ).loc Cert.ReferenceIdeal.main_v297) = v4 c
          ∧ r.2.mem ((c.tc : Thread Cert.ReferenceIdeal.nD Cert.ReferenceIdeal.τ).loc Cert.ReferenceIdeal.main_v191) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v6_0)) (v1 : (c : Dev Cert.Kernel2Ideal.nD) → Buf (Elt Ideal) ((c.tc : Thread Cert.Kernel2Ideal.nD Cert.Kernel2Ideal.τ).loc Cert.Kernel2Ideal.main_v6_1)) (v2 : (c : Dev Cert.Kernel2Ideal.nD) → Buf (Elt Ideal) ((c.tc : Thread Cert.Kernel2Ideal.nD Cert.Kernel2Ideal.τ).loc Cert.Kernel2Ideal.main_v6_2)) (v3 : (c : Dev Cert.Kernel2Ideal.nD) → Buf (Elt Ideal) ((c.tc : Thread Cert.Kernel2Ideal.nD Cert.Kernel2Ideal.τ).loc Cert.Kernel2Ideal.main_v6_3)) (v4 : (c : Dev Cert.Kernel2Ideal.nD) → Buf (Elt Ideal) ((c.tc : Thread Cert.Kernel2Ideal.nD Cert.Kernel2Ideal.τ).loc Cert.Kernel2Ideal.main_v6_4)) (v5 : (c : Dev Cert.Kernel2Ideal.nD) → Buf (Elt Ideal) ((c.tc : Thread Cert.Kernel2Ideal.nD Cert.Kernel2Ideal.τ).loc Cert.Kernel2Ideal.main_v6_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6_0) = v0 c
          ∧ r.2.mem ((c.tc : Thread Cert.Kernel2Ideal.nD Cert.Kernel2Ideal.τ).loc Cert.Kernel2Ideal.main_v6_1) = v1 c
          ∧ r.2.mem ((c.tc : Thread Cert.Kernel2Ideal.nD Cert.Kernel2Ideal.τ).loc Cert.Kernel2Ideal.main_v6_2) = v2 c
          ∧ r.2.mem ((c.tc : Thread Cert.Kernel2Ideal.nD Cert.Kernel2Ideal.τ).loc Cert.Kernel2Ideal.main_v6_3) = v3 c
          ∧ r.2.mem ((c.tc : Thread Cert.Kernel2Ideal.nD Cert.Kernel2Ideal.τ).loc Cert.Kernel2Ideal.main_v6_4) = v4 c
          ∧ r.2.mem ((c.tc : Thread Cert.Kernel2Ideal.nD Cert.Kernel2Ideal.τ).loc Cert.Kernel2Ideal.main_v6_5) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v120) = v0 c
          ∧ r.2.mem ((c.tc : Thread Cert.Reference2Ideal.nD Cert.Reference2Ideal.τ).loc Cert.Reference2Ideal.main_v123) = v1 c
          ∧ r.2.mem ((c.tc : Thread Cert.Reference2Ideal.nD Cert.Reference2Ideal.τ).loc Cert.Reference2Ideal.main_v126) = v2 c
          ∧ r.2.mem ((c.tc : Thread Cert.Reference2Ideal.nD Cert.Reference2Ideal.τ).loc Cert.Reference2Ideal.main_v127) = v3 c
          ∧ r.2.mem ((c.tc : Thread Cert.Reference2Ideal.nD Cert.Reference2Ideal.τ).loc Cert.Reference2Ideal.main_v128) = v4 c
          ∧ r.2.mem ((c.tc : Thread Cert.Reference2Ideal.nD Cert.Reference2Ideal.τ).loc Cert.Reference2Ideal.main_v119) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v1_0)) (v1 : (c : Dev Cert.Kernel3Ideal.nD) → Buf (Elt Ideal) ((c.tc : Thread Cert.Kernel3Ideal.nD Cert.Kernel3Ideal.τ).loc Cert.Kernel3Ideal.main_v1_1)) (v2 : (c : Dev Cert.Kernel3Ideal.nD) → Buf (Elt Ideal) ((c.tc : Thread Cert.Kernel3Ideal.nD Cert.Kernel3Ideal.τ).loc Cert.Kernel3Ideal.main_v1_2)) (v3 : (c : Dev Cert.Kernel3Ideal.nD) → Buf (Elt Ideal) ((c.tc : Thread Cert.Kernel3Ideal.nD Cert.Kernel3Ideal.τ).loc Cert.Kernel3Ideal.main_v1_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1_0) = v0 c
          ∧ r.2.mem ((c.tc : Thread Cert.Kernel3Ideal.nD Cert.Kernel3Ideal.τ).loc Cert.Kernel3Ideal.main_v1_1) = v1 c
          ∧ r.2.mem ((c.tc : Thread Cert.Kernel3Ideal.nD Cert.Kernel3Ideal.τ).loc Cert.Kernel3Ideal.main_v1_2) = v2 c
          ∧ r.2.mem ((c.tc : Thread Cert.Kernel3Ideal.nD Cert.Kernel3Ideal.τ).loc Cert.Kernel3Ideal.main_v1_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_v26) = v1 c
          ∧ r.2.mem ((c.tc : Thread Cert.Reference3Ideal.nD Cert.Reference3Ideal.τ).loc Cert.Reference3Ideal.main_v7) = v2 c
          ∧ r.2.mem ((c.tc : Thread Cert.Reference3Ideal.nD Cert.Reference3Ideal.τ).loc Cert.Reference3Ideal.main_v13) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)) (v3 : (c : Dev Cert.Kernel4Ideal.nD) → Buf (Elt Ideal) ((c.tc : Thread Cert.Kernel4Ideal.nD Cert.Kernel4Ideal.τ).loc Cert.Kernel4Ideal.main_v0_3)) (v4 : (c : Dev Cert.Kernel4Ideal.nD) → Buf (Elt Ideal) ((c.tc : Thread Cert.Kernel4Ideal.nD Cert.Kernel4Ideal.τ).loc Cert.Kernel4Ideal.main_v0_4)) (v5 : (c : Dev Cert.Kernel4Ideal.nD) → Buf (Elt Ideal) ((c.tc : Thread Cert.Kernel4Ideal.nD Cert.Kernel4Ideal.τ).loc Cert.Kernel4Ideal.main_v0_5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_v0_3) = v3 c
          ∧ r.2.mem ((c.tc : Thread Cert.Kernel4Ideal.nD Cert.Kernel4Ideal.τ).loc Cert.Kernel4Ideal.main_v0_4) = v4 c
          ∧ r.2.mem ((c.tc : Thread Cert.Kernel4Ideal.nD Cert.Kernel4Ideal.τ).loc Cert.Kernel4Ideal.main_v0_5) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v23) = v0 c
          ∧ r.2.mem ((c.tc : Thread Cert.Reference4Ideal.nD Cert.Reference4Ideal.τ).loc Cert.Reference4Ideal.main_v4) = v1 c
          ∧ r.2.mem ((c.tc : Thread Cert.Reference4Ideal.nD Cert.Reference4Ideal.τ).loc Cert.Reference4Ideal.main_v10) = v2 c
          ∧ r.2.mem ((c.tc : Thread Cert.Reference4Ideal.nD Cert.Reference4Ideal.τ).loc Cert.Reference4Ideal.main_v47) = v3 c
          ∧ r.2.mem ((c.tc : Thread Cert.Reference4Ideal.nD Cert.Reference4Ideal.τ).loc Cert.Reference4Ideal.main_v28) = v4 c
          ∧ r.2.mem ((c.tc : Thread Cert.Reference4Ideal.nD Cert.Reference4Ideal.τ).loc Cert.Reference4Ideal.main_v34) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)) (v3 : (c : Dev Cert.Kernel5Ideal.nD) → Buf (Elt Ideal) ((c.tc : Thread Cert.Kernel5Ideal.nD Cert.Kernel5Ideal.τ).loc Cert.Kernel5Ideal.main_v0_3)) (v4 : (c : Dev Cert.Kernel5Ideal.nD) → Buf (Elt Ideal) ((c.tc : Thread Cert.Kernel5Ideal.nD Cert.Kernel5Ideal.τ).loc Cert.Kernel5Ideal.main_v0_4)) (v5 : (c : Dev Cert.Kernel5Ideal.nD) → Buf (Elt Ideal) ((c.tc : Thread Cert.Kernel5Ideal.nD Cert.Kernel5Ideal.τ).loc Cert.Kernel5Ideal.main_v0_5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_v0_3) = v3 c
          ∧ r.2.mem ((c.tc : Thread Cert.Kernel5Ideal.nD Cert.Kernel5Ideal.τ).loc Cert.Kernel5Ideal.main_v0_4) = v4 c
          ∧ r.2.mem ((c.tc : Thread Cert.Kernel5Ideal.nD Cert.Kernel5Ideal.τ).loc Cert.Kernel5Ideal.main_v0_5) = v5 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v23) = v0 c
          ∧ r.2.mem ((c.tc : Thread Cert.Reference5Ideal.nD Cert.Reference5Ideal.τ).loc Cert.Reference5Ideal.main_v4) = v1 c
          ∧ r.2.mem ((c.tc : Thread Cert.Reference5Ideal.nD Cert.Reference5Ideal.τ).loc Cert.Reference5Ideal.main_v10) = v2 c
          ∧ r.2.mem ((c.tc : Thread Cert.Reference5Ideal.nD Cert.Reference5Ideal.τ).loc Cert.Reference5Ideal.main_v47) = v3 c
          ∧ r.2.mem ((c.tc : Thread Cert.Reference5Ideal.nD Cert.Reference5Ideal.τ).loc Cert.Reference5Ideal.main_v28) = v4 c
          ∧ r.2.mem ((c.tc : Thread Cert.Reference5Ideal.nD Cert.Reference5Ideal.τ).loc Cert.Reference5Ideal.main_v34) = v5 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def preserves_Kernel6_Kernel6Ideal : Prop :=
  True

def algebraic_Kernel6Ideal_Reference6Ideal_pre_chip_exists [hKernel6Ideal : Cert.Kernel6Ideal.Facts] [hReference6Ideal : Cert.Reference6Ideal.Facts] [hPre_chip_exists : Cert.Pre_chip_exists.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_chip_exists m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)
      ∧ m' ((c.tc : Thread Cert.Reference6Ideal.nD Cert.Reference6Ideal.τ).loc Cert.Reference6Ideal.main_arg11) = m ((c.tc : Thread Cert.Kernel6Ideal.nD Cert.Kernel6Ideal.τ).loc Cert.Kernel6Ideal.main_arg11)
      ∧ m' ((c.tc : Thread Cert.Reference6Ideal.nD Cert.Reference6Ideal.τ).loc Cert.Reference6Ideal.main_arg12) = m ((c.tc : Thread Cert.Kernel6Ideal.nD Cert.Kernel6Ideal.τ).loc Cert.Kernel6Ideal.main_arg12)
      ∧ m' ((c.tc : Thread Cert.Reference6Ideal.nD Cert.Reference6Ideal.τ).loc Cert.Reference6Ideal.main_arg13) = m ((c.tc : Thread Cert.Kernel6Ideal.nD Cert.Kernel6Ideal.τ).loc Cert.Kernel6Ideal.main_arg13)
      ∧ m' ((c.tc : Thread Cert.Reference6Ideal.nD Cert.Reference6Ideal.τ).loc Cert.Reference6Ideal.main_arg14) = m ((c.tc : Thread Cert.Kernel6Ideal.nD Cert.Kernel6Ideal.τ).loc Cert.Kernel6Ideal.main_arg14)
      ∧ m' ((c.tc : Thread Cert.Reference6Ideal.nD Cert.Reference6Ideal.τ).loc Cert.Reference6Ideal.main_arg15) = m ((c.tc : Thread Cert.Kernel6Ideal.nD Cert.Kernel6Ideal.τ).loc Cert.Kernel6Ideal.main_arg15)
      ∧ m' ((c.tc : Thread Cert.Reference6Ideal.nD Cert.Reference6Ideal.τ).loc Cert.Reference6Ideal.main_arg16) = m ((c.tc : Thread Cert.Kernel6Ideal.nD Cert.Kernel6Ideal.τ).loc Cert.Kernel6Ideal.main_arg16)
      ∧ m' ((c.tc : Thread Cert.Reference6Ideal.nD Cert.Reference6Ideal.τ).loc Cert.Reference6Ideal.main_arg17) = m ((c.tc : Thread Cert.Kernel6Ideal.nD Cert.Kernel6Ideal.τ).loc Cert.Kernel6Ideal.main_arg17)
      ∧ m' ((c.tc : Thread Cert.Reference6Ideal.nD Cert.Reference6Ideal.τ).loc Cert.Reference6Ideal.main_arg18) = m ((c.tc : Thread Cert.Kernel6Ideal.nD Cert.Kernel6Ideal.τ).loc Cert.Kernel6Ideal.main_arg18)
      ∧ m' ((c.tc : Thread Cert.Reference6Ideal.nD Cert.Reference6Ideal.τ).loc Cert.Reference6Ideal.main_arg19) = m ((c.tc : Thread Cert.Kernel6Ideal.nD Cert.Kernel6Ideal.τ).loc Cert.Kernel6Ideal.main_arg19)
      ∧ m' ((c.tc : Thread Cert.Reference6Ideal.nD Cert.Reference6Ideal.τ).loc Cert.Reference6Ideal.main_arg20) = m ((c.tc : Thread Cert.Kernel6Ideal.nD Cert.Kernel6Ideal.τ).loc Cert.Kernel6Ideal.main_arg20)
      ∧ m' ((c.tc : Thread Cert.Reference6Ideal.nD Cert.Reference6Ideal.τ).loc Cert.Reference6Ideal.main_arg21) = m ((c.tc : Thread Cert.Kernel6Ideal.nD Cert.Kernel6Ideal.τ).loc Cert.Kernel6Ideal.main_arg21)
      ∧ m' ((c.tc : Thread Cert.Reference6Ideal.nD Cert.Reference6Ideal.τ).loc Cert.Reference6Ideal.main_arg22) = m ((c.tc : Thread Cert.Kernel6Ideal.nD Cert.Kernel6Ideal.τ).loc Cert.Kernel6Ideal.main_arg22)
      ∧ m' ((c.tc : Thread Cert.Reference6Ideal.nD Cert.Reference6Ideal.τ).loc Cert.Reference6Ideal.main_arg23) = m ((c.tc : Thread Cert.Kernel6Ideal.nD Cert.Kernel6Ideal.τ).loc Cert.Kernel6Ideal.main_arg23)
      ∧ m' ((c.tc : Thread Cert.Reference6Ideal.nD Cert.Reference6Ideal.τ).loc Cert.Reference6Ideal.main_arg24) = m ((c.tc : Thread Cert.Kernel6Ideal.nD Cert.Kernel6Ideal.τ).loc Cert.Kernel6Ideal.main_arg24)
      ∧ m' ((c.tc : Thread Cert.Reference6Ideal.nD Cert.Reference6Ideal.τ).loc Cert.Reference6Ideal.main_arg25) = m ((c.tc : Thread Cert.Kernel6Ideal.nD Cert.Kernel6Ideal.τ).loc Cert.Kernel6Ideal.main_arg25)
      ∧ m' ((c.tc : Thread Cert.Reference6Ideal.nD Cert.Reference6Ideal.τ).loc Cert.Reference6Ideal.main_arg26) = m ((c.tc : Thread Cert.Kernel6Ideal.nD Cert.Kernel6Ideal.τ).loc Cert.Kernel6Ideal.main_arg26)
      ∧ m' ((c.tc : Thread Cert.Reference6Ideal.nD Cert.Reference6Ideal.τ).loc Cert.Reference6Ideal.main_arg27) = m ((c.tc : Thread Cert.Kernel6Ideal.nD Cert.Kernel6Ideal.τ).loc Cert.Kernel6Ideal.main_arg27)
      ∧ m' ((c.tc : Thread Cert.Reference6Ideal.nD Cert.Reference6Ideal.τ).loc Cert.Reference6Ideal.main_arg28) = m ((c.tc : Thread Cert.Kernel6Ideal.nD Cert.Kernel6Ideal.τ).loc Cert.Kernel6Ideal.main_arg28)
      ∧ m' ((c.tc : Thread Cert.Reference6Ideal.nD Cert.Reference6Ideal.τ).loc Cert.Reference6Ideal.main_arg29) = m ((c.tc : Thread Cert.Kernel6Ideal.nD Cert.Kernel6Ideal.τ).loc Cert.Kernel6Ideal.main_arg29)) →
    ∃ (v0 : (c : Dev Cert.Kernel6Ideal.nD) → Buf (Elt Ideal) ((c.tc : Thread Cert.Kernel6Ideal.nD Cert.Kernel6Ideal.τ).loc Cert.Kernel6Ideal.main_v4_0)) (v1 : (c : Dev Cert.Kernel6Ideal.nD) → Buf (Elt Ideal) ((c.tc : Thread Cert.Kernel6Ideal.nD Cert.Kernel6Ideal.τ).loc Cert.Kernel6Ideal.main_v4_1)) (v2 : (c : Dev Cert.Kernel6Ideal.nD) → Buf (Elt Ideal) ((c.tc : Thread Cert.Kernel6Ideal.nD Cert.Kernel6Ideal.τ).loc Cert.Kernel6Ideal.main_v4_2)) (v3 : (c : Dev Cert.Kernel6Ideal.nD) → Buf (Elt Ideal) ((c.tc : Thread Cert.Kernel6Ideal.nD Cert.Kernel6Ideal.τ).loc Cert.Kernel6Ideal.main_v4_3)) (v4 : (c : Dev Cert.Kernel6Ideal.nD) → Buf (Elt Ideal) ((c.tc : Thread Cert.Kernel6Ideal.nD Cert.Kernel6Ideal.τ).loc Cert.Kernel6Ideal.main_v4_4)) (v5 : (c : Dev Cert.Kernel6Ideal.nD) → Buf (Elt Ideal) ((c.tc : Thread Cert.Kernel6Ideal.nD Cert.Kernel6Ideal.τ).loc Cert.Kernel6Ideal.main_v4_5)) (v6 : (c : Dev Cert.Kernel6Ideal.nD) → Buf (Elt Ideal) ((c.tc : Thread Cert.Kernel6Ideal.nD Cert.Kernel6Ideal.τ).loc Cert.Kernel6Ideal.main_v4_6)) (v7 : (c : Dev Cert.Kernel6Ideal.nD) → Buf (Elt Ideal) ((c.tc : Thread Cert.Kernel6Ideal.nD Cert.Kernel6Ideal.τ).loc Cert.Kernel6Ideal.main_v4_7)) (v8 : (c : Dev Cert.Kernel6Ideal.nD) → Buf (Elt Ideal) ((c.tc : Thread Cert.Kernel6Ideal.nD Cert.Kernel6Ideal.τ).loc Cert.Kernel6Ideal.main_v4_8)) (v9 : (c : Dev Cert.Kernel6Ideal.nD) → Buf (Elt Ideal) ((c.tc : Thread Cert.Kernel6Ideal.nD Cert.Kernel6Ideal.τ).loc Cert.Kernel6Ideal.main_v4_9)) (v10 : (c : Dev Cert.Kernel6Ideal.nD) → Buf (Elt Ideal) ((c.tc : Thread Cert.Kernel6Ideal.nD Cert.Kernel6Ideal.τ).loc Cert.Kernel6Ideal.main_v4_10)) (v11 : (c : Dev Cert.Kernel6Ideal.nD) → Buf (Elt Ideal) ((c.tc : Thread Cert.Kernel6Ideal.nD Cert.Kernel6Ideal.τ).loc Cert.Kernel6Ideal.main_v4_11)) (v12 : (c : Dev Cert.Kernel6Ideal.nD) → Buf (Elt Ideal) ((c.tc : Thread Cert.Kernel6Ideal.nD Cert.Kernel6Ideal.τ).loc Cert.Kernel6Ideal.main_v4_12)) (v13 : (c : Dev Cert.Kernel6Ideal.nD) → Buf (Elt Ideal) ((c.tc : Thread Cert.Kernel6Ideal.nD Cert.Kernel6Ideal.τ).loc Cert.Kernel6Ideal.main_v4_13)) (v14 : (c : Dev Cert.Kernel6Ideal.nD) → Buf (Elt Ideal) ((c.tc : Thread Cert.Kernel6Ideal.nD Cert.Kernel6Ideal.τ).loc Cert.Kernel6Ideal.main_v4_14)) (v15 : (c : Dev Cert.Kernel6Ideal.nD) → Buf (Elt Ideal) ((c.tc : Thread Cert.Kernel6Ideal.nD Cert.Kernel6Ideal.τ).loc Cert.Kernel6Ideal.main_v4_15)) (v16 : (c : Dev Cert.Kernel6Ideal.nD) → Buf (Elt Ideal) ((c.tc : Thread Cert.Kernel6Ideal.nD Cert.Kernel6Ideal.τ).loc Cert.Kernel6Ideal.main_v4_16)) (v17 : (c : Dev Cert.Kernel6Ideal.nD) → Buf (Elt Ideal) ((c.tc : Thread Cert.Kernel6Ideal.nD Cert.Kernel6Ideal.τ).loc Cert.Kernel6Ideal.main_v4_17)) (v18 : (c : Dev Cert.Kernel6Ideal.nD) → Buf (Elt Ideal) ((c.tc : Thread Cert.Kernel6Ideal.nD Cert.Kernel6Ideal.τ).loc Cert.Kernel6Ideal.main_v4_18)) (v19 : (c : Dev Cert.Kernel6Ideal.nD) → Buf (Elt Ideal) ((c.tc : Thread Cert.Kernel6Ideal.nD Cert.Kernel6Ideal.τ).loc Cert.Kernel6Ideal.main_v4_19)) (v20 : (c : Dev Cert.Kernel6Ideal.nD) → Buf (Elt Ideal) ((c.tc : Thread Cert.Kernel6Ideal.nD Cert.Kernel6Ideal.τ).loc Cert.Kernel6Ideal.main_v4_20)) (v21 : (c : Dev Cert.Kernel6Ideal.nD) → Buf (Elt Ideal) ((c.tc : Thread Cert.Kernel6Ideal.nD Cert.Kernel6Ideal.τ).loc Cert.Kernel6Ideal.main_v4_21)) (v22 : (c : Dev Cert.Kernel6Ideal.nD) → Buf (Elt Ideal) ((c.tc : Thread Cert.Kernel6Ideal.nD Cert.Kernel6Ideal.τ).loc Cert.Kernel6Ideal.main_v4_22)) (v23 : (c : Dev Cert.Kernel6Ideal.nD) → Buf (Elt Ideal) ((c.tc : Thread Cert.Kernel6Ideal.nD Cert.Kernel6Ideal.τ).loc Cert.Kernel6Ideal.main_v4_23)) (v24 : (c : Dev Cert.Kernel6Ideal.nD) → Buf (Elt Ideal) ((c.tc : Thread Cert.Kernel6Ideal.nD Cert.Kernel6Ideal.τ).loc Cert.Kernel6Ideal.main_v4_24)) (v25 : (c : Dev Cert.Kernel6Ideal.nD) → Buf (Elt Ideal) ((c.tc : Thread Cert.Kernel6Ideal.nD Cert.Kernel6Ideal.τ).loc Cert.Kernel6Ideal.main_v4_25)) (v26 : (c : Dev Cert.Kernel6Ideal.nD) → Buf (Elt Ideal) ((c.tc : Thread Cert.Kernel6Ideal.nD Cert.Kernel6Ideal.τ).loc Cert.Kernel6Ideal.main_v4_26)) (v27 : (c : Dev Cert.Kernel6Ideal.nD) → Buf (Elt Ideal) ((c.tc : Thread Cert.Kernel6Ideal.nD Cert.Kernel6Ideal.τ).loc Cert.Kernel6Ideal.main_v4_27)) (v28 : (c : Dev Cert.Kernel6Ideal.nD) → Buf (Elt Ideal) ((c.tc : Thread Cert.Kernel6Ideal.nD Cert.Kernel6Ideal.τ).loc Cert.Kernel6Ideal.main_v4_28)) (v29 : (c : Dev Cert.Kernel6Ideal.nD) → Buf (Elt Ideal) ((c.tc : Thread Cert.Kernel6Ideal.nD Cert.Kernel6Ideal.τ).loc Cert.Kernel6Ideal.main_v4_29)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4_0) = v0 c
          ∧ r.2.mem ((c.tc : Thread Cert.Kernel6Ideal.nD Cert.Kernel6Ideal.τ).loc Cert.Kernel6Ideal.main_v4_1) = v1 c
          ∧ r.2.mem ((c.tc : Thread Cert.Kernel6Ideal.nD Cert.Kernel6Ideal.τ).loc Cert.Kernel6Ideal.main_v4_2) = v2 c
          ∧ r.2.mem ((c.tc : Thread Cert.Kernel6Ideal.nD Cert.Kernel6Ideal.τ).loc Cert.Kernel6Ideal.main_v4_3) = v3 c
          ∧ r.2.mem ((c.tc : Thread Cert.Kernel6Ideal.nD Cert.Kernel6Ideal.τ).loc Cert.Kernel6Ideal.main_v4_4) = v4 c
          ∧ r.2.mem ((c.tc : Thread Cert.Kernel6Ideal.nD Cert.Kernel6Ideal.τ).loc Cert.Kernel6Ideal.main_v4_5) = v5 c
          ∧ r.2.mem ((c.tc : Thread Cert.Kernel6Ideal.nD Cert.Kernel6Ideal.τ).loc Cert.Kernel6Ideal.main_v4_6) = v6 c
          ∧ r.2.mem ((c.tc : Thread Cert.Kernel6Ideal.nD Cert.Kernel6Ideal.τ).loc Cert.Kernel6Ideal.main_v4_7) = v7 c
          ∧ r.2.mem ((c.tc : Thread Cert.Kernel6Ideal.nD Cert.Kernel6Ideal.τ).loc Cert.Kernel6Ideal.main_v4_8) = v8 c
          ∧ r.2.mem ((c.tc : Thread Cert.Kernel6Ideal.nD Cert.Kernel6Ideal.τ).loc Cert.Kernel6Ideal.main_v4_9) = v9 c
          ∧ r.2.mem ((c.tc : Thread Cert.Kernel6Ideal.nD Cert.Kernel6Ideal.τ).loc Cert.Kernel6Ideal.main_v4_10) = v10 c
          ∧ r.2.mem ((c.tc : Thread Cert.Kernel6Ideal.nD Cert.Kernel6Ideal.τ).loc Cert.Kernel6Ideal.main_v4_11) = v11 c
          ∧ r.2.mem ((c.tc : Thread Cert.Kernel6Ideal.nD Cert.Kernel6Ideal.τ).loc Cert.Kernel6Ideal.main_v4_12) = v12 c
          ∧ r.2.mem ((c.tc : Thread Cert.Kernel6Ideal.nD Cert.Kernel6Ideal.τ).loc Cert.Kernel6Ideal.main_v4_13) = v13 c
          ∧ r.2.mem ((c.tc : Thread Cert.Kernel6Ideal.nD Cert.Kernel6Ideal.τ).loc Cert.Kernel6Ideal.main_v4_14) = v14 c
          ∧ r.2.mem ((c.tc : Thread Cert.Kernel6Ideal.nD Cert.Kernel6Ideal.τ).loc Cert.Kernel6Ideal.main_v4_15) = v15 c
          ∧ r.2.mem ((c.tc : Thread Cert.Kernel6Ideal.nD Cert.Kernel6Ideal.τ).loc Cert.Kernel6Ideal.main_v4_16) = v16 c
          ∧ r.2.mem ((c.tc : Thread Cert.Kernel6Ideal.nD Cert.Kernel6Ideal.τ).loc Cert.Kernel6Ideal.main_v4_17) = v17 c
          ∧ r.2.mem ((c.tc : Thread Cert.Kernel6Ideal.nD Cert.Kernel6Ideal.τ).loc Cert.Kernel6Ideal.main_v4_18) = v18 c
          ∧ r.2.mem ((c.tc : Thread Cert.Kernel6Ideal.nD Cert.Kernel6Ideal.τ).loc Cert.Kernel6Ideal.main_v4_19) = v19 c
          ∧ r.2.mem ((c.tc : Thread Cert.Kernel6Ideal.nD Cert.Kernel6Ideal.τ).loc Cert.Kernel6Ideal.main_v4_20) = v20 c
          ∧ r.2.mem ((c.tc : Thread Cert.Kernel6Ideal.nD Cert.Kernel6Ideal.τ).loc Cert.Kernel6Ideal.main_v4_21) = v21 c
          ∧ r.2.mem ((c.tc : Thread Cert.Kernel6Ideal.nD Cert.Kernel6Ideal.τ).loc Cert.Kernel6Ideal.main_v4_22) = v22 c
          ∧ r.2.mem ((c.tc : Thread Cert.Kernel6Ideal.nD Cert.Kernel6Ideal.τ).loc Cert.Kernel6Ideal.main_v4_23) = v23 c
          ∧ r.2.mem ((c.tc : Thread Cert.Kernel6Ideal.nD Cert.Kernel6Ideal.τ).loc Cert.Kernel6Ideal.main_v4_24) = v24 c
          ∧ r.2.mem ((c.tc : Thread Cert.Kernel6Ideal.nD Cert.Kernel6Ideal.τ).loc Cert.Kernel6Ideal.main_v4_25) = v25 c
          ∧ r.2.mem ((c.tc : Thread Cert.Kernel6Ideal.nD Cert.Kernel6Ideal.τ).loc Cert.Kernel6Ideal.main_v4_26) = v26 c
          ∧ r.2.mem ((c.tc : Thread Cert.Kernel6Ideal.nD Cert.Kernel6Ideal.τ).loc Cert.Kernel6Ideal.main_v4_27) = v27 c
          ∧ r.2.mem ((c.tc : Thread Cert.Kernel6Ideal.nD Cert.Kernel6Ideal.τ).loc Cert.Kernel6Ideal.main_v4_28) = v28 c
          ∧ r.2.mem ((c.tc : Thread Cert.Kernel6Ideal.nD Cert.Kernel6Ideal.τ).loc Cert.Kernel6Ideal.main_v4_29) = v29 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
          ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
          ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
          ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13)
          ∧ r.2.mem ((c.tc : Thread Cert.Kernel6Ideal.nD Cert.Kernel6Ideal.τ).loc Cert.Kernel6Ideal.main_arg14) = m ((c.tc : Thread Cert.Kernel6Ideal.nD Cert.Kernel6Ideal.τ).loc Cert.Kernel6Ideal.main_arg14)
          ∧ r.2.mem ((c.tc : Thread Cert.Kernel6Ideal.nD Cert.Kernel6Ideal.τ).loc Cert.Kernel6Ideal.main_arg15) = m ((c.tc : Thread Cert.Kernel6Ideal.nD Cert.Kernel6Ideal.τ).loc Cert.Kernel6Ideal.main_arg15)
          ∧ r.2.mem ((c.tc : Thread Cert.Kernel6Ideal.nD Cert.Kernel6Ideal.τ).loc Cert.Kernel6Ideal.main_arg16) = m ((c.tc : Thread Cert.Kernel6Ideal.nD Cert.Kernel6Ideal.τ).loc Cert.Kernel6Ideal.main_arg16)
          ∧ r.2.mem ((c.tc : Thread Cert.Kernel6Ideal.nD Cert.Kernel6Ideal.τ).loc Cert.Kernel6Ideal.main_arg17) = m ((c.tc : Thread Cert.Kernel6Ideal.nD Cert.Kernel6Ideal.τ).loc Cert.Kernel6Ideal.main_arg17)
          ∧ r.2.mem ((c.tc : Thread Cert.Kernel6Ideal.nD Cert.Kernel6Ideal.τ).loc Cert.Kernel6Ideal.main_arg18) = m ((c.tc : Thread Cert.Kernel6Ideal.nD Cert.Kernel6Ideal.τ).loc Cert.Kernel6Ideal.main_arg18)
          ∧ r.2.mem ((c.tc : Thread Cert.Kernel6Ideal.nD Cert.Kernel6Ideal.τ).loc Cert.Kernel6Ideal.main_arg19) = m ((c.tc : Thread Cert.Kernel6Ideal.nD Cert.Kernel6Ideal.τ).loc Cert.Kernel6Ideal.main_arg19)
          ∧ r.2.mem ((c.tc : Thread Cert.Kernel6Ideal.nD Cert.Kernel6Ideal.τ).loc Cert.Kernel6Ideal.main_arg20) = m ((c.tc : Thread Cert.Kernel6Ideal.nD Cert.Kernel6Ideal.τ).loc Cert.Kernel6Ideal.main_arg20)
          ∧ r.2.mem ((c.tc : Thread Cert.Kernel6Ideal.nD Cert.Kernel6Ideal.τ).loc Cert.Kernel6Ideal.main_arg21) = m ((c.tc : Thread Cert.Kernel6Ideal.nD Cert.Kernel6Ideal.τ).loc Cert.Kernel6Ideal.main_arg21)
          ∧ r.2.mem ((c.tc : Thread Cert.Kernel6Ideal.nD Cert.Kernel6Ideal.τ).loc Cert.Kernel6Ideal.main_arg22) = m ((c.tc : Thread Cert.Kernel6Ideal.nD Cert.Kernel6Ideal.τ).loc Cert.Kernel6Ideal.main_arg22)
          ∧ r.2.mem ((c.tc : Thread Cert.Kernel6Ideal.nD Cert.Kernel6Ideal.τ).loc Cert.Kernel6Ideal.main_arg23) = m ((c.tc : Thread Cert.Kernel6Ideal.nD Cert.Kernel6Ideal.τ).loc Cert.Kernel6Ideal.main_arg23)
          ∧ r.2.mem ((c.tc : Thread Cert.Kernel6Ideal.nD Cert.Kernel6Ideal.τ).loc Cert.Kernel6Ideal.main_arg24) = m ((c.tc : Thread Cert.Kernel6Ideal.nD Cert.Kernel6Ideal.τ).loc Cert.Kernel6Ideal.main_arg24)
          ∧ r.2.mem ((c.tc : Thread Cert.Kernel6Ideal.nD Cert.Kernel6Ideal.τ).loc Cert.Kernel6Ideal.main_arg25) = m ((c.tc : Thread Cert.Kernel6Ideal.nD Cert.Kernel6Ideal.τ).loc Cert.Kernel6Ideal.main_arg25)
          ∧ r.2.mem ((c.tc : Thread Cert.Kernel6Ideal.nD Cert.Kernel6Ideal.τ).loc Cert.Kernel6Ideal.main_arg26) = m ((c.tc : Thread Cert.Kernel6Ideal.nD Cert.Kernel6Ideal.τ).loc Cert.Kernel6Ideal.main_arg26)
          ∧ r.2.mem ((c.tc : Thread Cert.Kernel6Ideal.nD Cert.Kernel6Ideal.τ).loc Cert.Kernel6Ideal.main_arg27) = m ((c.tc : Thread Cert.Kernel6Ideal.nD Cert.Kernel6Ideal.τ).loc Cert.Kernel6Ideal.main_arg27)
          ∧ r.2.mem ((c.tc : Thread Cert.Kernel6Ideal.nD Cert.Kernel6Ideal.τ).loc Cert.Kernel6Ideal.main_arg28) = m ((c.tc : Thread Cert.Kernel6Ideal.nD Cert.Kernel6Ideal.τ).loc Cert.Kernel6Ideal.main_arg28)
          ∧ r.2.mem ((c.tc : Thread Cert.Kernel6Ideal.nD Cert.Kernel6Ideal.τ).loc Cert.Kernel6Ideal.main_arg29) = m ((c.tc : Thread Cert.Kernel6Ideal.nD Cert.Kernel6Ideal.τ).loc Cert.Kernel6Ideal.main_arg29))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_v8) = v1 c
          ∧ r.2.mem ((c.tc : Thread Cert.Reference6Ideal.nD Cert.Reference6Ideal.τ).loc Cert.Reference6Ideal.main_v9) = v2 c
          ∧ r.2.mem ((c.tc : Thread Cert.Reference6Ideal.nD Cert.Reference6Ideal.τ).loc Cert.Reference6Ideal.main_v10) = v3 c
          ∧ r.2.mem ((c.tc : Thread Cert.Reference6Ideal.nD Cert.Reference6Ideal.τ).loc Cert.Reference6Ideal.main_v11) = v4 c
          ∧ r.2.mem ((c.tc : Thread Cert.Reference6Ideal.nD Cert.Reference6Ideal.τ).loc Cert.Reference6Ideal.main_v12) = v5 c
          ∧ r.2.mem ((c.tc : Thread Cert.Reference6Ideal.nD Cert.Reference6Ideal.τ).loc Cert.Reference6Ideal.main_v36) = v6 c
          ∧ r.2.mem ((c.tc : Thread Cert.Reference6Ideal.nD Cert.Reference6Ideal.τ).loc Cert.Reference6Ideal.main_v60) = v7 c
          ∧ r.2.mem ((c.tc : Thread Cert.Reference6Ideal.nD Cert.Reference6Ideal.τ).loc Cert.Reference6Ideal.main_v205) = v8 c
          ∧ r.2.mem ((c.tc : Thread Cert.Reference6Ideal.nD Cert.Reference6Ideal.τ).loc Cert.Reference6Ideal.main_v108) = v9 c
          ∧ r.2.mem ((c.tc : Thread Cert.Reference6Ideal.nD Cert.Reference6Ideal.τ).loc Cert.Reference6Ideal.main_v132) = v10 c
          ∧ r.2.mem ((c.tc : Thread Cert.Reference6Ideal.nD Cert.Reference6Ideal.τ).loc Cert.Reference6Ideal.main_v156) = v11 c
          ∧ r.2.mem ((c.tc : Thread Cert.Reference6Ideal.nD Cert.Reference6Ideal.τ).loc Cert.Reference6Ideal.main_v180) = v12 c
          ∧ r.2.mem ((c.tc : Thread Cert.Reference6Ideal.nD Cert.Reference6Ideal.τ).loc Cert.Reference6Ideal.main_v204) = v13 c
          ∧ r.2.mem ((c.tc : Thread Cert.Reference6Ideal.nD Cert.Reference6Ideal.τ).loc Cert.Reference6Ideal.main_v17) = v14 c
          ∧ r.2.mem ((c.tc : Thread Cert.Reference6Ideal.nD Cert.Reference6Ideal.τ).loc Cert.Reference6Ideal.main_v41) = v15 c
          ∧ r.2.mem ((c.tc : Thread Cert.Reference6Ideal.nD Cert.Reference6Ideal.τ).loc Cert.Reference6Ideal.main_v206) = v16 c
          ∧ r.2.mem ((c.tc : Thread Cert.Reference6Ideal.nD Cert.Reference6Ideal.τ).loc Cert.Reference6Ideal.main_v89) = v17 c
          ∧ r.2.mem ((c.tc : Thread Cert.Reference6Ideal.nD Cert.Reference6Ideal.τ).loc Cert.Reference6Ideal.main_v113) = v18 c
          ∧ r.2.mem ((c.tc : Thread Cert.Reference6Ideal.nD Cert.Reference6Ideal.τ).loc Cert.Reference6Ideal.main_v137) = v19 c
          ∧ r.2.mem ((c.tc : Thread Cert.Reference6Ideal.nD Cert.Reference6Ideal.τ).loc Cert.Reference6Ideal.main_v161) = v20 c
          ∧ r.2.mem ((c.tc : Thread Cert.Reference6Ideal.nD Cert.Reference6Ideal.τ).loc Cert.Reference6Ideal.main_v185) = v21 c
          ∧ r.2.mem ((c.tc : Thread Cert.Reference6Ideal.nD Cert.Reference6Ideal.τ).loc Cert.Reference6Ideal.main_v23) = v22 c
          ∧ r.2.mem ((c.tc : Thread Cert.Reference6Ideal.nD Cert.Reference6Ideal.τ).loc Cert.Reference6Ideal.main_v47) = v23 c
          ∧ r.2.mem ((c.tc : Thread Cert.Reference6Ideal.nD Cert.Reference6Ideal.τ).loc Cert.Reference6Ideal.main_v207) = v24 c
          ∧ r.2.mem ((c.tc : Thread Cert.Reference6Ideal.nD Cert.Reference6Ideal.τ).loc Cert.Reference6Ideal.main_v95) = v25 c
          ∧ r.2.mem ((c.tc : Thread Cert.Reference6Ideal.nD Cert.Reference6Ideal.τ).loc Cert.Reference6Ideal.main_v119) = v26 c
          ∧ r.2.mem ((c.tc : Thread Cert.Reference6Ideal.nD Cert.Reference6Ideal.τ).loc Cert.Reference6Ideal.main_v143) = v27 c
          ∧ r.2.mem ((c.tc : Thread Cert.Reference6Ideal.nD Cert.Reference6Ideal.τ).loc Cert.Reference6Ideal.main_v167) = v28 c
          ∧ r.2.mem ((c.tc : Thread Cert.Reference6Ideal.nD Cert.Reference6Ideal.τ).loc Cert.Reference6Ideal.main_v191) = v29 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10)
          ∧ r.2.mem ((c.tc : Thread Cert.Reference6Ideal.nD Cert.Reference6Ideal.τ).loc Cert.Reference6Ideal.main_arg11) = m' ((c.tc : Thread Cert.Reference6Ideal.nD Cert.Reference6Ideal.τ).loc Cert.Reference6Ideal.main_arg11)
          ∧ r.2.mem ((c.tc : Thread Cert.Reference6Ideal.nD Cert.Reference6Ideal.τ).loc Cert.Reference6Ideal.main_arg12) = m' ((c.tc : Thread Cert.Reference6Ideal.nD Cert.Reference6Ideal.τ).loc Cert.Reference6Ideal.main_arg12)
          ∧ r.2.mem ((c.tc : Thread Cert.Reference6Ideal.nD Cert.Reference6Ideal.τ).loc Cert.Reference6Ideal.main_arg13) = m' ((c.tc : Thread Cert.Reference6Ideal.nD Cert.Reference6Ideal.τ).loc Cert.Reference6Ideal.main_arg13)
          ∧ r.2.mem ((c.tc : Thread Cert.Reference6Ideal.nD Cert.Reference6Ideal.τ).loc Cert.Reference6Ideal.main_arg14) = m' ((c.tc : Thread Cert.Reference6Ideal.nD Cert.Reference6Ideal.τ).loc Cert.Reference6Ideal.main_arg14)
          ∧ r.2.mem ((c.tc : Thread Cert.Reference6Ideal.nD Cert.Reference6Ideal.τ).loc Cert.Reference6Ideal.main_arg15) = m' ((c.tc : Thread Cert.Reference6Ideal.nD Cert.Reference6Ideal.τ).loc Cert.Reference6Ideal.main_arg15)
          ∧ r.2.mem ((c.tc : Thread Cert.Reference6Ideal.nD Cert.Reference6Ideal.τ).loc Cert.Reference6Ideal.main_arg16) = m' ((c.tc : Thread Cert.Reference6Ideal.nD Cert.Reference6Ideal.τ).loc Cert.Reference6Ideal.main_arg16)
          ∧ r.2.mem ((c.tc : Thread Cert.Reference6Ideal.nD Cert.Reference6Ideal.τ).loc Cert.Reference6Ideal.main_arg17) = m' ((c.tc : Thread Cert.Reference6Ideal.nD Cert.Reference6Ideal.τ).loc Cert.Reference6Ideal.main_arg17)
          ∧ r.2.mem ((c.tc : Thread Cert.Reference6Ideal.nD Cert.Reference6Ideal.τ).loc Cert.Reference6Ideal.main_arg18) = m' ((c.tc : Thread Cert.Reference6Ideal.nD Cert.Reference6Ideal.τ).loc Cert.Reference6Ideal.main_arg18)
          ∧ r.2.mem ((c.tc : Thread Cert.Reference6Ideal.nD Cert.Reference6Ideal.τ).loc Cert.Reference6Ideal.main_arg19) = m' ((c.tc : Thread Cert.Reference6Ideal.nD Cert.Reference6Ideal.τ).loc Cert.Reference6Ideal.main_arg19)
          ∧ r.2.mem ((c.tc : Thread Cert.Reference6Ideal.nD Cert.Reference6Ideal.τ).loc Cert.Reference6Ideal.main_arg20) = m' ((c.tc : Thread Cert.Reference6Ideal.nD Cert.Reference6Ideal.τ).loc Cert.Reference6Ideal.main_arg20)
          ∧ r.2.mem ((c.tc : Thread Cert.Reference6Ideal.nD Cert.Reference6Ideal.τ).loc Cert.Reference6Ideal.main_arg21) = m' ((c.tc : Thread Cert.Reference6Ideal.nD Cert.Reference6Ideal.τ).loc Cert.Reference6Ideal.main_arg21)
          ∧ r.2.mem ((c.tc : Thread Cert.Reference6Ideal.nD Cert.Reference6Ideal.τ).loc Cert.Reference6Ideal.main_arg22) = m' ((c.tc : Thread Cert.Reference6Ideal.nD Cert.Reference6Ideal.τ).loc Cert.Reference6Ideal.main_arg22)
          ∧ r.2.mem ((c.tc : Thread Cert.Reference6Ideal.nD Cert.Reference6Ideal.τ).loc Cert.Reference6Ideal.main_arg23) = m' ((c.tc : Thread Cert.Reference6Ideal.nD Cert.Reference6Ideal.τ).loc Cert.Reference6Ideal.main_arg23)
          ∧ r.2.mem ((c.tc : Thread Cert.Reference6Ideal.nD Cert.Reference6Ideal.τ).loc Cert.Reference6Ideal.main_arg24) = m' ((c.tc : Thread Cert.Reference6Ideal.nD Cert.Reference6Ideal.τ).loc Cert.Reference6Ideal.main_arg24)
          ∧ r.2.mem ((c.tc : Thread Cert.Reference6Ideal.nD Cert.Reference6Ideal.τ).loc Cert.Reference6Ideal.main_arg25) = m' ((c.tc : Thread Cert.Reference6Ideal.nD Cert.Reference6Ideal.τ).loc Cert.Reference6Ideal.main_arg25)
          ∧ r.2.mem ((c.tc : Thread Cert.Reference6Ideal.nD Cert.Reference6Ideal.τ).loc Cert.Reference6Ideal.main_arg26) = m' ((c.tc : Thread Cert.Reference6Ideal.nD Cert.Reference6Ideal.τ).loc Cert.Reference6Ideal.main_arg26)
          ∧ r.2.mem ((c.tc : Thread Cert.Reference6Ideal.nD Cert.Reference6Ideal.τ).loc Cert.Reference6Ideal.main_arg27) = m' ((c.tc : Thread Cert.Reference6Ideal.nD Cert.Reference6Ideal.τ).loc Cert.Reference6Ideal.main_arg27)
          ∧ r.2.mem ((c.tc : Thread Cert.Reference6Ideal.nD Cert.Reference6Ideal.τ).loc Cert.Reference6Ideal.main_arg28) = m' ((c.tc : Thread Cert.Reference6Ideal.nD Cert.Reference6Ideal.τ).loc Cert.Reference6Ideal.main_arg28)
          ∧ r.2.mem ((c.tc : Thread Cert.Reference6Ideal.nD Cert.Reference6Ideal.τ).loc Cert.Reference6Ideal.main_arg29) = m' ((c.tc : Thread Cert.Reference6Ideal.nD Cert.Reference6Ideal.τ).loc Cert.Reference6Ideal.main_arg29))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_finite2 : Cert.Pre_finite2.Facts) (hPre_chip_exists : Cert.Pre_chip_exists.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_chip_exists (hKernel6Ideal := hKernel6Ideal) (hPre_chip_exists := hPre_chip_exists)
    ∧ quiescent_Reference6Ideal (hReference6Ideal := hReference6Ideal)
    ∧ quiescent_Reference6Ideal_pre_chip_exists (hReference6Ideal := hReference6Ideal) (hPre_chip_exists := hPre_chip_exists)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_chip_exists (hKernel6Ideal := hKernel6Ideal) (hReference6Ideal := hReference6Ideal) (hPre_chip_exists := hPre_chip_exists)
-- ==== Pre_chip_exists.lean ====
abbrev S2 : Shape := ⟨1, ![2]⟩
abbrev S8x1024 : Shape := ⟨2, ![8, 1024]⟩
abbrev S8x512 : Shape := ⟨2, ![8, 512]⟩
abbrev S1x6144 : Shape := ⟨2, ![1, 6144]⟩
abbrev S4x128x128 : Shape := ⟨3, ![4, 128, 128]⟩
abbrev S3x128 : Shape := ⟨2, ![3, 128]⟩
abbrev S1x512 : Shape := ⟨2, ![1, 512]⟩
abbrev S1x1024 : Shape := ⟨2, ![1, 1024]⟩
abbrev S1 : Shape := ⟨1, ![1]⟩
abbrev S_ : Shape := ⟨0, ![]⟩

class Facts : Prop where
  slices_S2_S1_1 : S2.Slices ![1] S1
  shapeCasts_S1_S_ : S1.ShapeCasts S_

variable [Facts]

def fn {F : FTy → Type} [FloatOps F] (main_arg0 : IVec S2 32) (main_arg1 : FVec F S8x1024 .f32) (main_arg2 : FVec F S8x1024 .f32) (main_arg3 : FVec F S8x512 .f32) (main_arg4 : FVec F S1x6144 .f32) (main_arg5 : FVec F S4x128x128 .f32) (main_arg6 : FVec F S1x6144 .f32) (main_arg7 : FVec F S3x128 .f32) (main_arg8 : FVec F S4x128x128 .f32) (main_arg9 : FVec F S1x512 .f32) (main_arg10 : FVec F S1x1024 .f32) (main_arg11 : FVec F S1x1024 .f32) (main_arg12 : FVec F S1x1024 .f32) (main_arg13 : FVec F S1x1024 .f32) (main_arg14 : FVec F S1x6144 .f32) (main_arg15 : FVec F S3x128 .f32) (main_arg16 : FVec F S4x128x128 .f32) (main_arg17 : FVec F S1x512 .f32) (main_arg18 : FVec F S1x1024 .f32) (main_arg19 : FVec F S1x1024 .f32) (main_arg20 : FVec F S1x1024 .f32) (main_arg21 : FVec F S1x1024 .f32) (main_arg22 : FVec F S1x6144 .f32) (main_arg23 : FVec F S3x128 .f32) (main_arg24 : FVec F S4x128x128 .f32) (main_arg25 : FVec F S1x512 .f32) (main_arg26 : FVec F S1x1024 .f32) (main_arg27 : FVec F S1x1024 .f32) (main_arg28 : FVec F S1x1024 .f32) (main_arg29 : FVec F S1x1024 .f32) : IVec S_ 1 :=
  let main_v0 : IVec S1 32 := (extractStridedSlice S1 ![1] · slices_S2_S1_1) main_arg0
  let main_v1 : IVec S_ 32 := shapeCast S_ main_v0 shapeCasts_S1_S_
  let main_c : IVec S_ 32 := constantI S_ 32 0#32
  let main_v2 : IVec S_ 1 := cmpi .sge main_v1 main_c
  let main_v3 : IVec S1 32 := (extractStridedSlice S1 ![1] · slices_S2_S1_1) main_arg0
  let main_v4 : IVec S_ 32 := shapeCast S_ main_v3 shapeCasts_S1_S_
  let main_c_0 : IVec S_ 32 := constantI S_ 32 4#32
  let main_v5 : IVec S_ 1 := cmpi .slt main_v4 main_c_0
  let main_v6 : IVec S_ 1 := andi main_v2 main_v5
  main_v6
-- ==== Pre_finite.lean ====
abbrev S8192x1024 : Shape := ⟨2, ![8192, 1024]⟩
abbrev S1x6144 : Shape := ⟨2, ![1, 6144]⟩
abbrev S1024x2048 : Shape := ⟨2, ![1024, 2048]⟩
abbrev S3x512 : Shape := ⟨2, ![3, 512]⟩
abbrev S4x128x128 : Shape := ⟨3, ![4, 128, 128]⟩
abbrev S1x512 : Shape := ⟨2, ![1, 512]⟩
abbrev S1024x1024 : Shape := ⟨2, ![1024, 1024]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x6144 : S_.BroadcastsInDim S1x6144 (![] : Fin 0 → Fin S1x6144.rank)
  reducesTo_S1x6144_S_d0_1 : S1x6144.ReducesTo [0, 1] S_
  bcast_S_S1024x2048 : S_.BroadcastsInDim S1024x2048 (![] : Fin 0 → Fin S1024x2048.rank)
  reducesTo_S1024x2048_S_d0_1 : S1024x2048.ReducesTo [0, 1] S_
  bcast_S_S3x512 : S_.BroadcastsInDim S3x512 (![] : Fin 0 → Fin S3x512.rank)
  reducesTo_S3x512_S_d0_1 : S3x512.ReducesTo [0, 1] S_
  bcast_S_S4x128x128 : S_.BroadcastsInDim S4x128x128 (![] : Fin 0 → Fin S4x128x128.rank)
  reducesTo_S4x128x128_S_d0_1_2 : S4x128x128.ReducesTo [0, 1, 2] S_
  bcast_S_S1x512 : S_.BroadcastsInDim S1x512 (![] : Fin 0 → Fin S1x512.rank)
  reducesTo_S1x512_S_d0_1 : S1x512.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part2 {F : FTy → Type} [FloatOps F] (main_arg7 : FVec F S1x1024 .f32) (main_arg8 : FVec F S8192x1024 .f32) (main_v29 : IVec S_ 1) (main_v32 : IVec S1024x1024 1) (main_c_12 : IVec S_ 1) : IVec S_ 1 :=
  let main_v33 : IVec S_ 1 := (fun x v => Host.reduce IntOp.andi x v reducesTo_S1024x1024_S_d0_1 h_S_) main_v32 main_c_12
  let main_v34 : IVec S_ 1 := andi main_v29 main_v33
  let main_v35 : FVec F S1x1024 .f32 := Host.absf main_arg7
  let main_cst_13 : FVec F S_ .f32 := constant S_ .f32 0x7F800000#32
  let main_v36 : FVec F S1x1024 .f32 := broadcastInDim S1x1024 ![] bcast_S_S1x1024 main_cst_13
  let main_v37 : IVec S1x1024 1 := cmpf .olt main_v35 main_v36
  let main_c_14 : IVec S_ 1 := constantI S_ 1 1#1
  let main_v38 : IVec S_ 1 := (fun x v => Host.reduce IntOp.andi x v reducesTo_S1x1024_S_d0_1 h_S_) main_v37 main_c_14
  let main_v39 : IVec S_ 1 := andi main_v34 main_v38
  let main_v40 : FVec F S8192x1024 .f32 := Host.absf main_arg8
  let main_cst_15 : FVec F S_ .f32 := constant S_ .f32 0x7F800000#32
  let main_v41 : FVec F S8192x1024 .f32 := broadcastInDim S8192x1024 ![] bcast_S_S8192x1024 main_cst_15
  let main_v42 : IVec S8192x1024 1 := cmpf .olt main_v40 main_v41
  let main_c_16 : IVec S_ 1 := constantI S_ 1 1#1
  let main_v43 : IVec S_ 1 := (fun x v => Host.reduce IntOp.andi x v reducesTo_S8192x1024_S_d0_1 h_S_) main_v42 main_c_16
  let main_v44 : IVec S_ 1 := andi main_v39 main_v43
  main_v44

def fn_part1 {F : FTy → Type} [FloatOps F] (main_arg4 : FVec F S4x128x128 .f32) (main_arg5 : FVec F S1x512 .f32) (main_arg6 : FVec F S1024x1024 .f32) (main_arg7 : FVec F S1x1024 .f32) (main_arg8 : FVec F S8192x1024 .f32) (main_v14 : IVec S_ 1) (main_v15 : FVec F S3x512 .f32) (main_cst_5 : FVec F S_ .f32) : IVec S_ 1 :=
  let main_v16 : FVec F S3x512 .f32 := broadcastInDim S3x512 ![] bcast_S_S3x512 main_cst_5
  let main_v17 : IVec S3x512 1 := cmpf .olt main_v15 main_v16
  let main_c_6 : IVec S_ 1 := constantI S_ 1 1#1
  let main_v18 : IVec S_ 1 := (fun x v => Host.reduce IntOp.andi x v reducesTo_S3x512_S_d0_1 h_S_) main_v17 main_c_6
  let main_v19 : IVec S_ 1 := andi main_v14 main_v18
  let main_v20 : FVec F S4x128x128 .f32 := Host.absf main_arg4
  let main_cst_7 : FVec F S_ .f32 := constant S_ .f32 0x7F800000#32
  let main_v21 : FVec F S4x128x128 .f32 := broadcastInDim S4x128x128 ![] bcast_S_S4x128x128 main_cst_7
  let main_v22 : IVec S4x128x128 1 := cmpf .olt main_v20 main_v21
  let main_c_8 : IVec S_ 1 := constantI S_ 1 1#1
  let main_v23 : IVec S_ 1 := (fun x v => Host.reduce IntOp.andi x v reducesTo_S4x128x128_S_d0_1_2 h_S_) main_v22 main_c_8
  let main_v24 : IVec S_ 1 := andi main_v19 main_v23
  let main_v25 : FVec F S1x512 .f32 := Host.absf main_arg5
  let main_cst_9 : FVec F S_ .f32 := constant S_ .f32 0x7F800000#32
  let main_v26 : FVec F S1x512 .f32 := broadcastInDim S1x512 ![] bcast_S_S1x512 main_cst_9
  let main_v27 : IVec S1x512 1 := cmpf .olt main_v25 main_v26
  let main_c_10 : IVec S_ 1 := constantI S_ 1 1#1
  let main_v28 : IVec S_ 1 := (fun x v => Host.reduce IntOp.andi x v reducesTo_S1x512_S_d0_1 h_S_) main_v27 main_c_10
  let main_v29 : IVec S_ 1 := andi main_v24 main_v28
  let main_v30 : FVec F S1024x1024 .f32 := Host.absf main_arg6
  let main_cst_11 : FVec F S_ .f32 := constant S_ .f32 0x7F800000#32
  let main_v31 : FVec F S1024x1024 .f32 := broadcastInDim S1024x1024 ![] bcast_S_S1024x1024 main_cst_11
  let main_v32 : IVec S1024x1024 1 := cmpf .olt main_v30 main_v31
  let main_c_12 : IVec S_ 1 := constantI S_ 1 1#1
  fn_part2 (F := F) main_arg7 main_arg8 main_v29 main_v32 main_c_12

def fn {F : FTy → Type} [FloatOps F] (main_arg0 : FVec F S8192x1024 .f32) (main_arg1 : FVec F S1x6144 .f32) (main_arg2 : FVec F S1024x2048 .f32) (main_arg3 : FVec F S3x512 .f32) (main_arg4 : FVec F S4x128x128 .f32) (main_arg5 : FVec F S1x512 .f32) (main_arg6 : FVec F S1024x1024 .f32) (main_arg7 : FVec F S1x1024 .f32) (main_arg8 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_c_0 : IVec S_ 1 := constantI S_ 1 1#1
  let main_v4 : IVec S_ 1 := andi main_c_0 main_v3
  let main_v5 : FVec F S1x6144 .f32 := Host.absf main_arg1
  let main_cst_1 : FVec F S_ .f32 := constant S_ .f32 0x7F800000#32
  let main_v6 : FVec F S1x6144 .f32 := broadcastInDim S1x6144 ![] bcast_S_S1x6144 main_cst_1
  let main_v7 : IVec S1x6144 1 := cmpf .olt main_v5 main_v6
  let main_c_2 : IVec S_ 1 := constantI S_ 1 1#1
  let main_v8 : IVec S_ 1 := (fun x v => Host.reduce IntOp.andi x v reducesTo_S1x6144_S_d0_1 h_S_) main_v7 main_c_2
  let main_v9 : IVec S_ 1 := andi main_v4 main_v8
  let main_v10 : FVec F S1024x2048 .f32 := Host.absf main_arg2
  let main_cst_3 : FVec F S_ .f32 := constant S_ .f32 0x7F800000#32
  let main_v11 : FVec F S1024x2048 .f32 := broadcastInDim S1024x2048 ![] bcast_S_S1024x2048 main_cst_3
  let main_v12 : IVec S1024x2048 1 := cmpf .olt main_v10 main_v11
  let main_c_4 : IVec S_ 1 := constantI S_ 1 1#1
  let main_v13 : IVec S_ 1 := (fun x v => Host.reduce IntOp.andi x v reducesTo_S1024x2048_S_d0_1 h_S_) main_v12 main_c_4
  let main_v14 : IVec S_ 1 := andi main_v9 main_v13
  let main_v15 : FVec F S3x512 .f32 := Host.absf main_arg3
  let main_cst_5 : FVec F S_ .f32 := constant S_ .f32 0x7F800000#32
  fn_part1 (F := F) main_arg4 main_arg5 main_arg6 main_arg7 main_arg8 main_v14 main_v15 main_cst_5
-- ==== Pre_finite2.lean ====
abbrev S8192x1024 : Shape := ⟨2, ![8192, 1024]⟩
abbrev S1x6144 : Shape := ⟨2, ![1, 6144]⟩
abbrev S1024x4096 : Shape := ⟨2, ![1024, 4096]⟩
abbrev S4096x1024 : Shape := ⟨2, ![4096, 1024]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x6144 : S_.BroadcastsInDim S1x6144 (![] : Fin 0 → Fin S1x6144.rank)
  reducesTo_S1x6144_S_d0_1 : S1x6144.ReducesTo [0, 1] S_
  bcast_S_S1024x4096 : S_.BroadcastsInDim S1024x4096 (![] : Fin 0 → Fin S1024x4096.rank)
  reducesTo_S1024x4096_S_d0_1 : S1024x4096.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part2 {F : FTy → Type} [FloatOps F] (main_v29 : IVec S_ 1) (main_v32 : IVec S1x1024 1) (main_c_12 : IVec S_ 1) : IVec S_ 1 :=
  let main_v33 : IVec S_ 1 := (fun x v => Host.reduce IntOp.andi x v reducesTo_S1x1024_S_d0_1 h_S_) main_v32 main_c_12
  let main_v34 : IVec S_ 1 := andi main_v29 main_v33
  main_v34

def fn_part1 {F : FTy → Type} [FloatOps F] (main_arg4 : FVec F S4096x1024 .f32) (main_arg5 : FVec F S1x1024 .f32) (main_arg6 : FVec F S1x1024 .f32) (main_v14 : IVec S_ 1) (main_v15 : FVec F S1024x4096 .f32) (main_cst_5 : FVec F S_ .f32) : IVec S_ 1 :=
  let main_v16 : FVec F S1024x4096 .f32 := broadcastInDim S1024x4096 ![] bcast_S_S1024x4096 main_cst_5
  let main_v17 : IVec S1024x4096 1 := cmpf .olt main_v15 main_v16
  let main_c_6 : IVec S_ 1 := constantI S_ 1 1#1
  let main_v18 : IVec S_ 1 := (fun x v => Host.reduce IntOp.andi x v reducesTo_S1024x4096_S_d0_1 h_S_) main_v17 main_c_6
  let main_v19 : IVec S_ 1 := andi main_v14 main_v18
  let main_v20 : FVec F S4096x1024 .f32 := Host.absf main_arg4
  let main_cst_7 : FVec F S_ .f32 := constant S_ .f32 0x7F800000#32
  let main_v21 : FVec F S4096x1024 .f32 := broadcastInDim S4096x1024 ![] bcast_S_S4096x1024 main_cst_7
  let main_v22 : IVec S4096x1024 1 := cmpf .olt main_v20 main_v21
  let main_c_8 : IVec S_ 1 := constantI S_ 1 1#1
  let main_v23 : IVec S_ 1 := (fun x v => Host.reduce IntOp.andi x v reducesTo_S4096x1024_S_d0_1 h_S_) main_v22 main_c_8
  let main_v24 : IVec S_ 1 := andi main_v19 main_v23
  let main_v25 : FVec F S1x1024 .f32 := Host.absf main_arg5
  let main_cst_9 : FVec F S_ .f32 := constant S_ .f32 0x7F800000#32
  let main_v26 : FVec F S1x1024 .f32 := broadcastInDim S1x1024 ![] bcast_S_S1x1024 main_cst_9
  let main_v27 : IVec S1x1024 1 := cmpf .olt main_v25 main_v26
  let main_c_10 : IVec S_ 1 := constantI S_ 1 1#1
  let main_v28 : IVec S_ 1 := (fun x v => Host.reduce IntOp.andi x v reducesTo_S1x1024_S_d0_1 h_S_) main_v27 main_c_10
  let main_v29 : IVec S_ 1 := andi main_v24 main_v28
  let main_v30 : FVec F S1x1024 .f32 := Host.absf main_arg6
  let main_cst_11 : FVec F S_ .f32 := constant S_ .f32 0x7F800000#32
  let main_v31 : FVec F S1x1024 .f32 := broadcastInDim S1x1024 ![] bcast_S_S1x1024 main_cst_11
  let main_v32 : IVec S1x1024 1 := cmpf .olt main_v30 main_v31
  let main_c_12 : IVec S_ 1 := constantI S_ 1 1#1
  fn_part2 (F := F) main_v29 main_v32 main_c_12

def fn {F : FTy → Type} [FloatOps F] (main_arg0 : FVec F S8192x1024 .f32) (main_arg1 : FVec F S8192x1024 .f32) (main_arg2 : FVec F S1x6144 .f32) (main_arg3 : FVec F S1024x4096 .f32) (main_arg4 : FVec F S4096x1024 .f32) (main_arg5 : FVec F S1x1024 .f32) (main_arg6 : FVec F S1x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_c_0 : IVec S_ 1 := constantI S_ 1 1#1
  let main_v4 : IVec S_ 1 := andi main_c_0 main_v3
  let main_v5 : FVec F S8192x1024 .f32 := Host.absf main_arg1
  let main_cst_1 : FVec F S_ .f32 := constant S_ .f32 0x7F800000#32
  let main_v6 : FVec F S8192x1024 .f32 := broadcastInDim S8192x1024 ![] bcast_S_S8192x1024 main_cst_1
  let main_v7 : IVec S8192x1024 1 := cmpf .olt main_v5 main_v6
  let main_c_2 : IVec S_ 1 := constantI S_ 1 1#1
  let main_v8 : IVec S_ 1 := (fun x v => Host.reduce IntOp.andi x v reducesTo_S8192x1024_S_d0_1 h_S_) main_v7 main_c_2
  let main_v9 : IVec S_ 1 := andi main_v4 main_v8
  let main_v10 : FVec F S1x6144 .f32 := Host.absf main_arg2
  let main_cst_3 : FVec F S_ .f32 := constant S_ .f32 0x7F800000#32
  let main_v11 : FVec F S1x6144 .f32 := broadcastInDim S1x6144 ![] bcast_S_S1x6144 main_cst_3
  let main_v12 : IVec S1x6144 1 := cmpf .olt main_v10 main_v11
  let main_c_4 : IVec S_ 1 := constantI S_ 1 1#1
  let main_v13 : IVec S_ 1 := (fun x v => Host.reduce IntOp.andi x v reducesTo_S1x6144_S_d0_1 h_S_) main_v12 main_c_4
  let main_v14 : IVec S_ 1 := andi main_v9 main_v13
  let main_v15 : FVec F S1024x4096 .f32 := Host.absf main_arg3
  let main_cst_5 : FVec F S_ .f32 := constant S_ .f32 0x7F800000#32
  fn_part1 (F := F) main_arg4 main_arg5 main_arg6 main_v14 main_v15 main_cst_5
-- ==== Kernel.lean ====
abbrev S8192x1024 : Shape := ⟨2, ![8192, 1024]⟩
abbrev S1x6144 : Shape := ⟨2, ![1, 6144]⟩
abbrev S1024x2048 : Shape := ⟨2, ![1024, 2048]⟩
abbrev S3x512 : Shape := ⟨2, ![3, 512]⟩
abbrev S4x128x128 : Shape := ⟨3, ![4, 128, 128]⟩
abbrev S1x512 : Shape := ⟨2, ![1, 512]⟩
abbrev S1024x1024 : Shape := ⟨2, ![1024, 1024]⟩
abbrev S1x1024 : Shape := ⟨2, ![1, 1024]⟩
abbrev S_ : Shape := ⟨0, ![]⟩
abbrev S8192x2048 : Shape := ⟨2, ![8192, 2048]⟩
abbrev S8192x512 : Shape := ⟨2, ![8192, 512]⟩
abbrev S2x512 : Shape := ⟨2, ![2, 512]⟩
abbrev S8194x512 : Shape := ⟨2, ![8194, 512]⟩
abbrev S512 : Shape := ⟨1, ![512]⟩
abbrev S8192 : Shape := ⟨1, ![8192]⟩
abbrev S8192x1 : Shape := ⟨2, ![8192, 1]⟩
abbrev S8192x128 : Shape := ⟨2, ![8192, 128]⟩
abbrev S2x128 : Shape := ⟨2, ![2, 128]⟩
abbrev S8190x128 : Shape := ⟨2, ![8190, 128]⟩
abbrev S4x128 : Shape := ⟨2, ![4, 128]⟩
abbrev S8188x128 : Shape := ⟨2, ![8188, 128]⟩
abbrev S8x128 : Shape := ⟨2, ![8, 128]⟩
abbrev S8184x128 : Shape := ⟨2, ![8184, 128]⟩
abbrev S16x128 : Shape := ⟨2, ![16, 128]⟩
abbrev S8176x128 : Shape := ⟨2, ![8176, 128]⟩
abbrev S8192x1x128 : Shape := ⟨3, ![8192, 1, 128]⟩
abbrev S8192x4x128 : Shape := ⟨3, ![8192, 4, 128]⟩
abbrev S8192x1536 : Shape := ⟨2, ![8192, 1536]⟩
abbrev S8192x2560 : Shape := ⟨2, ![8192, 2560]⟩
abbrev S4x128x8192 : Shape := ⟨3, ![4, 128, 8192]⟩
abbrev S8x6144 : Shape := ⟨2, ![8, 6144]⟩
abbrev S8x512 : Shape := ⟨2, ![8, 512]⟩
abbrev S1024x4x512 : Shape := ⟨3, ![1024, 4, 512]⟩
abbrev S4x1024x512 : Shape := ⟨3, ![4, 1024, 512]⟩
abbrev S4x8192x512 : Shape := ⟨3, ![4, 8192, 512]⟩
abbrev S8x1024 : Shape := ⟨2, ![8, 1024]⟩
abbrev S512x1024 : Shape := ⟨2, ![512, 1024]⟩
abbrev S512x2560 : Shape := ⟨2, ![512, 2560]⟩
abbrev S4x512x512 : Shape := ⟨3, ![4, 512, 512]⟩
abbrev S528x512 : Shape := ⟨2, ![528, 512]⟩
abbrev S5x8x1024 : Shape := ⟨3, ![5, 8, 1024]⟩
abbrev S4x8x512 : Shape := ⟨3, ![4, 8, 512]⟩
abbrev S16x512 : Shape := ⟨2, ![16, 512]⟩
abbrev S512x1 : Shape := ⟨2, ![512, 1]⟩
abbrev S512x512 : Shape := ⟨2, ![512, 512]⟩
abbrev S1x8x512 : Shape := ⟨3, ![1, 8, 512]⟩
abbrev S64x8x512 : Shape := ⟨3, ![64, 8, 512]⟩
abbrev S512x128 : Shape := ⟨2, ![512, 128]⟩
abbrev S1x128x128 : Shape := ⟨3, ![1, 128, 128]⟩
abbrev S128x128 : Shape := ⟨2, ![128, 128]⟩
abbrev S1x512x512 : Shape := ⟨3, ![1, 512, 512]⟩
abbrev S1x1024x512 : Shape := ⟨3, ![1, 1024, 512]⟩
abbrev S1024x512 : Shape := ⟨2, ![1024, 512]⟩
abbrev S1x8x1024 : Shape := ⟨3, ![1, 8, 1024]⟩
abbrev S64x8x1024 : Shape := ⟨3, ![64, 8, 1024]⟩
abbrev S1024 : Shape := ⟨1, ![1024]⟩
abbrev S3x1024 : Shape := ⟨2, ![3, 1024]⟩
abbrev S4x512 : Shape := ⟨2, ![4, 512]⟩

abbrev nBuf : Space → Nat
  | .hbm => 232
  | .vmem => 29
  | .smem => 0
  | _ => 0

abbrev hbmTy0_0 (i : Nat) : BufTy := match i % 128 with
  | 0 => ⟨S8192x1024, .f32⟩
  | 1 => ⟨S1x6144, .f32⟩
  | 2 => ⟨S1024x2048, .f32⟩
  | 3 => ⟨S3x512, .f32⟩
  | 4 => ⟨S4x128x128, .f32⟩
  | 5 => ⟨S1x512, .f32⟩
  | 6 => ⟨S1024x1024, .f32⟩
  | 7 => ⟨S1x1024, .f32⟩
  | 8 => ⟨S8192x1024, .f32⟩
  | 9 => ⟨S1x1024, .f32⟩
  | 10 => ⟨S1x1024, .f32⟩
  | 11 => ⟨S_, .f32⟩
  | 12 => ⟨S1x1024, .f32⟩
  | 13 => ⟨S1x1024, .f32⟩
  | 14 => ⟨S8192x1024, .f32⟩
  | 15 => ⟨S8192x1024, .f32⟩
  | 16 => ⟨S8192x1024, .f32⟩
  | 17 => ⟨S8192x1024, .f32⟩
  | 18 => ⟨S8192x2048, .f32⟩
  | 19 => ⟨S8192x512, .f32⟩
  | 20 => ⟨S8192x512, .f32⟩
  | 21 => ⟨S8192x512, .f32⟩
  | 22 => ⟨S_, .f32⟩
  | 23 => ⟨S2x512, .f32⟩
  | 24 => ⟨S8194x512, .f32⟩
  | 25 => ⟨S8192x512, .f32⟩
  | 26 => ⟨S1x512, .f32⟩
  | 27 => ⟨S512, .f32⟩
  | 28 => ⟨S1x512, .f32⟩
  | 29 => ⟨S8192x512, .f32⟩
  | 30 => ⟨S8192x512, .f32⟩
  | 31 => ⟨S8192x512, .f32⟩
  | 32 => ⟨S1x512, .f32⟩
  | 33 => ⟨S512, .f32⟩
  | 34 => ⟨S1x512, .f32⟩
  | 35 => ⟨S8192x512, .f32⟩
  | 36 => ⟨S8192x512, .f32⟩
  | 37 => ⟨S8192x512, .f32⟩
  | 38 => ⟨S8192x512, .f32⟩
  | 39 => ⟨S1x512, .f32⟩
  | 40 => ⟨S512, .f32⟩
  | 41 => ⟨S1x512, .f32⟩
  | 42 => ⟨S8192x512, .f32⟩
  | 43 => ⟨S8192x512, .f32⟩
  | 44 => ⟨S8192x512, .f32⟩
  | 45 => ⟨S8192x512, .f32⟩
  | 46 => ⟨S_, .f32⟩
  | 47 => ⟨S_, .f32⟩
  | 48 => ⟨S8192x512, .f32⟩
  | 49 => ⟨S8192, .f32⟩
  | 50 => ⟨S_, .f32⟩
  | 51 => ⟨S8192, .f32⟩
  | 52 => ⟨S8192, .f32⟩
  | 53 => ⟨S8192x1, .f32⟩
  | 54 => ⟨S8192x128, .f32⟩
  | 55 => ⟨S_, .f32⟩
  | 56 => ⟨S2x128, .f32⟩
  | 57 => ⟨S8190x128, .f32⟩
  | 58 => ⟨S8192x128, .f32⟩
  | 59 => ⟨S8192x128, .f32⟩
  | 60 => ⟨S_, .f32⟩
  | 61 => ⟨S8192x1, .f32⟩
  | 62 => ⟨S8192x1, .f32⟩
  | 63 => ⟨S8192x128, .f32⟩
  | 64 => ⟨S8192x128, .f32⟩
  | 65 => ⟨S8192x128, .f32⟩
  | 66 => ⟨S8192x128, .f32⟩
  | 67 => ⟨S8192x128, .f32⟩
  | 68 => ⟨S_, .f32⟩
  | 69 => ⟨S4x128, .f32⟩
  | 70 => ⟨S8188x128, .f32⟩
  | 71 => ⟨S8192x128, .f32⟩
  | 72 => ⟨S8192x128, .f32⟩
  | 73 => ⟨S_, .f32⟩
  | 74 => ⟨S8192x1, .f32⟩
  | 75 => ⟨S8192x1, .f32⟩
  | 76 => ⟨S8192x128, .f32⟩
  | 77 => ⟨S8192x128, .f32⟩
  | 78 => ⟨S8192x128, .f32⟩
  | 79 => ⟨S8192x128, .f32⟩
  | 80 => ⟨S8192x128, .f32⟩
  | 81 => ⟨S_, .f32⟩
  | 82 => ⟨S8x128, .f32⟩
  | 83 => ⟨S8184x128, .f32⟩
  | 84 => ⟨S8192x128, .f32⟩
  | 85 => ⟨S8192x128, .f32⟩
  | 86 => ⟨S_, .f32⟩
  | 87 => ⟨S8192x1, .f32⟩
  | 88 => ⟨S8192x1, .f32⟩
  | 89 => ⟨S8192x128, .f32⟩
  | 90 => ⟨S8192x128, .f32⟩
  | 91 => ⟨S8192x128, .f32⟩
  | 92 => ⟨S8192x128, .f32⟩
  | 93 => ⟨S8192x128, .f32⟩
  | 94 => ⟨S_, .f32⟩
  | 95 => ⟨S16x128, .f32⟩
  | 96 => ⟨S8176x128, .f32⟩
  | 97 => ⟨S8192x128, .f32⟩
  | 98 => ⟨S8192x128, .f32⟩
  | 99 => ⟨S_, .f32⟩
  | 100 => ⟨S8192x1, .f32⟩
  | 101 => ⟨S8192x1, .f32⟩
  | 102 => ⟨S8192x128, .f32⟩
  | 103 => ⟨S8192x128, .f32⟩
  | 104 => ⟨S8192x128, .f32⟩
  | 105 => ⟨S8192x128, .f32⟩
  | 106 => ⟨S8192x1x128, .f32⟩
  | 107 => ⟨S8192x1x128, .f32⟩
  | 108 => ⟨S8192x1x128, .f32⟩
  | 109 => ⟨S8192x1x128, .f32⟩
  | 110 => ⟨S8192x4x128, .f32⟩
  | 111 => ⟨S8192x512, .f32⟩
  | 112 => ⟨S8192x1536, .f32⟩
  | 113 => ⟨S8192x2560, .f32⟩
  | 114 => ⟨S8192x2560, .bf16⟩
  | 115 => ⟨S8192x512, .f32⟩
  | 116 => ⟨S8192x512, .f32⟩
  | 117 => ⟨S8192x512, .f32⟩
  | 118 => ⟨S8192x512, .f32⟩
  | 119 => ⟨S8192x512, .f32⟩
  | 120 => ⟨S_, .f32⟩
  | 121 => ⟨S2x512, .f32⟩
  | 122 => ⟨S8194x512, .f32⟩
  | 123 => ⟨S8192x512, .f32⟩
  | 124 => ⟨S1x512, .f32⟩
  | 125 => ⟨S512, .f32⟩
  | 126 => ⟨S1x512, .f32⟩
  | 127 => ⟨S8192x512, .f32⟩
  | _ => ⟨S8192x1024, .f32⟩

abbrev hbmTy0_1 (i : Nat) : BufTy := match i % 128 with
  | 0 => ⟨S8192x512, .f32⟩
  | 1 => ⟨S8192x512, .f32⟩
  | 2 => ⟨S1x512, .f32⟩
  | 3 => ⟨S512, .f32⟩
  | 4 => ⟨S1x512, .f32⟩
  | 5 => ⟨S8192x512, .f32⟩
  | 6 => ⟨S8192x512, .f32⟩
  | 7 => ⟨S8192x512, .f32⟩
  | 8 => ⟨S8192x512, .f32⟩
  | 9 => ⟨S1x512, .f32⟩
  | 10 => ⟨S512, .f32⟩
  | 11 => ⟨S1x512, .f32⟩
  | 12 => ⟨S8192x512, .f32⟩
  | 13 => ⟨S8192x512, .f32⟩
  | 14 => ⟨S8192x512, .f32⟩
  | 15 => ⟨S8192x512, .f32⟩
  | 16 => ⟨S_, .f32⟩
  | 17 => ⟨S_, .f32⟩
  | 18 => ⟨S8192x512, .f32⟩
  | 19 => ⟨S8192, .f32⟩
  | 20 => ⟨S_, .f32⟩
  | 21 => ⟨S8192, .f32⟩
  | 22 => ⟨S8192, .f32⟩
  | 23 => ⟨S8192x1, .f32⟩
  | 24 => ⟨S8192x128, .f32⟩
  | 25 => ⟨S_, .f32⟩
  | 26 => ⟨S2x128, .f32⟩
  | 27 => ⟨S8190x128, .f32⟩
  | 28 => ⟨S8192x128, .f32⟩
  | 29 => ⟨S8192x128, .f32⟩
  | 30 => ⟨S_, .f32⟩
  | 31 => ⟨S8192x1, .f32⟩
  | 32 => ⟨S8192x1, .f32⟩
  | 33 => ⟨S8192x128, .f32⟩
  | 34 => ⟨S8192x128, .f32⟩
  | 35 => ⟨S8192x128, .f32⟩
  | 36 => ⟨S8192x128, .f32⟩
  | 37 => ⟨S8192x128, .f32⟩
  | 38 => ⟨S_, .f32⟩
  | 39 => ⟨S4x128, .f32⟩
  | 40 => ⟨S8188x128, .f32⟩
  | 41 => ⟨S8192x128, .f32⟩
  | 42 => ⟨S8192x128, .f32⟩
  | 43 => ⟨S_, .f32⟩
  | 44 => ⟨S8192x1, .f32⟩
  | 45 => ⟨S8192x1, .f32⟩
  | 46 => ⟨S8192x128, .f32⟩
  | 47 => ⟨S8192x128, .f32⟩
  | 48 => ⟨S8192x128, .f32⟩
  | 49 => ⟨S8192x128, .f32⟩
  | 50 => ⟨S8192x128, .f32⟩
  | 51 => ⟨S_, .f32⟩
  | 52 => ⟨S8x128, .f32⟩
  | 53 => ⟨S8184x128, .f32⟩
  | 54 => ⟨S8192x128, .f32⟩
  | 55 => ⟨S8192x128, .f32⟩
  | 56 => ⟨S_, .f32⟩
  | 57 => ⟨S8192x1, .f32⟩
  | 58 => ⟨S8192x1, .f32⟩
  | 59 => ⟨S8192x128, .f32⟩
  | 60 => ⟨S8192x128, .f32⟩
  | 61 => ⟨S8192x128, .f32⟩
  | 62 => ⟨S8192x128, .f32⟩
  | 63 => ⟨S8192x128, .f32⟩
  | 64 => ⟨S_, .f32⟩
  | 65 => ⟨S16x128, .f32⟩
  | 66 => ⟨S8176x128, .f32⟩
  | 67 => ⟨S8192x128, .f32⟩
  | 68 => ⟨S8192x128, .f32⟩
  | 69 => ⟨S_, .f32⟩
  | 70 => ⟨S8192x1, .f32⟩
  | 71 => ⟨S8192x1, .f32⟩
  | 72 => ⟨S8192x128, .f32⟩
  | 73 => ⟨S8192x128, .f32⟩
  | 74 => ⟨S8192x128, .f32⟩
  | 75 => ⟨S8192x128, .f32⟩
  | 76 => ⟨S8192x1x128, .f32⟩
  | 77 => ⟨S8192x1x128, .f32⟩
  | 78 => ⟨S8192x1x128, .f32⟩
  | 79 => ⟨S8192x1x128, .f32⟩
  | 80 => ⟨S8192x4x128, .f32⟩
  | 81 => ⟨S4x128x8192, .f32⟩
  | 82 => ⟨S8192x4x128, .f32⟩
  | 83 => ⟨S8192x512, .f32⟩
  | 84 => ⟨S8192x512, .f32⟩
  | 85 => ⟨S8192x512, .f32⟩
  | 86 => ⟨S8192x1024, .f32⟩
  | 87 => ⟨S8192x1024, .f32⟩
  | 88 => ⟨S8x6144, .f32⟩
  | 89 => ⟨S_, .i32⟩
  | 90 => ⟨S_, .f32⟩
  | 91 => ⟨S8x512, .f32⟩
  | 92 => ⟨S1024x4x512, .f32⟩
  | 93 => ⟨S4x1024x512, .f32⟩
  | 94 => ⟨S4x1024x512, .bf16⟩
  | 95 => ⟨S_, .f32⟩
  | 96 => ⟨S8x128, .f32⟩
  | 97 => ⟨S1024x1024, .bf16⟩
  | 98 => ⟨S8192x1024, .f32⟩
  | 99 => ⟨S4x8192x512, .bf16⟩
  | 100 => ⟨S8192x1024, .bf16⟩
  | 101 => ⟨S8x1024, .f32⟩
  | 102 => ⟨S8x512, .f32⟩
  | 103 => ⟨S4x128x128, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x2560, .bf16⟩
  | .local _ .vmem, ⟨7, _⟩ => ⟨S512x2560, .bf16⟩
  | .local _ .vmem, ⟨8, _⟩ => ⟨S8x6144, .f32⟩
  | .local _ .vmem, ⟨9, _⟩ => ⟨S8x512, .f32⟩
  | .local _ .vmem, ⟨10, _⟩ => ⟨S4x1024x512, .bf16⟩
  | .local _ .vmem, ⟨11, _⟩ => ⟨S4x128x128, .f32⟩
  | .local _ .vmem, ⟨12, _⟩ => ⟨S1x512, .f32⟩
  | .local _ .vmem, ⟨13, _⟩ => ⟨S1024x1024, .bf16⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | .local _ .vmem, ⟨17, _⟩ => ⟨S4x512x512, .bf16⟩
  | .local _ .vmem, ⟨18, _⟩ => ⟨S4x512x512, .bf16⟩
  | .local _ .vmem, ⟨19, _⟩ => ⟨S512x1024, .bf16⟩
  | .local _ .vmem, ⟨20, _⟩ => ⟨S512x1024, .bf16⟩
  | .local _ .vmem, ⟨21, _⟩ => ⟨S8x1024, .f32⟩
  | .local _ .vmem, ⟨22, _⟩ => ⟨S8x512, .f32⟩
  | .local _ .vmem, ⟨23, _⟩ => ⟨S4x128x128, .f32⟩
  | .local _ .vmem, ⟨24, _⟩ => ⟨S528x512, .f32⟩
  | .local _ .vmem, ⟨25, _⟩ => ⟨S528x512, .f32⟩
  | .local _ .vmem, ⟨26, _⟩ => ⟨S5x8x1024, .f32⟩
  | .local _ .vmem, ⟨27, _⟩ => ⟨S4x8x512, .f32⟩
  | .local _ .vmem, ⟨28, _⟩ => ⟨S4x128x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_call0_call0_cst : Ref sig .tc := ⟨.hbm, 46, rfl⟩
abbrev main_call0_call0_v0 : Ref sig .tc := ⟨.hbm, 47, rfl⟩
abbrev main_v35 : Ref sig .tc := ⟨.hbm, 48, rfl⟩
abbrev main_v36 : Ref sig .tc := ⟨.hbm, 49, rfl⟩
abbrev main_cst_1 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_2 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_3 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_4 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_5 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_cst_6 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_cst_7 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_cst_8 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_cst_9 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_cst_10 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_call1_call0_cst : Ref sig .tc := ⟨.hbm, 144, rfl⟩
abbrev main_call1_call0_v0 : Ref sig .tc := ⟨.hbm, 145, rfl⟩
abbrev main_v121 : Ref sig .tc := ⟨.hbm, 146, rfl⟩
abbrev main_v122 : Ref sig .tc := ⟨.hbm, 147, rfl⟩
abbrev main_cst_11 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_cst_12 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_cst_13 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_cst_14 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_cst_15 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_v145 : Ref sig .tc := ⟨.hbm, 175, rfl⟩
abbrev main_v146 : Ref sig .tc := ⟨.hbm, 176, rfl⟩
abbrev main_v147 : Ref sig .tc := ⟨.hbm, 177, rfl⟩
abbrev main_v148 : Ref sig .tc := ⟨.hbm, 178, rfl⟩
abbrev main_cst_16 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_v152 : Ref sig .tc := ⟨.hbm, 183, rfl⟩
abbrev main_cst_17 : Ref sig .tc := ⟨.hbm, 184, rfl⟩
abbrev main_v153 : Ref sig .tc := ⟨.hbm, 185, rfl⟩
abbrev main_v154 : Ref sig .tc := ⟨.hbm, 186, rfl⟩
abbrev main_v155 : Ref sig .tc := ⟨.hbm, 187, rfl⟩
abbrev main_v156 : Ref sig .tc := ⟨.hbm, 188, rfl⟩
abbrev main_v157 : Ref sig .tc := ⟨.hbm, 189, rfl⟩
abbrev main_v158 : Ref sig .tc := ⟨.hbm, 190, rfl⟩
abbrev main_v159 : Ref sig .tc := ⟨.hbm, 191, rfl⟩
abbrev main_cst_18 : Ref sig .tc := ⟨.hbm, 192, rfl⟩
abbrev main_v160 : Ref sig .tc := ⟨.hbm, 193, rfl⟩
abbrev main_v161 : Ref sig .tc := ⟨.hbm, 194, rfl⟩
abbrev main_v162 : Ref sig .tc := ⟨.hbm, 195, rfl⟩
abbrev main_v163 : Ref sig .tc := ⟨.hbm, 196, rfl⟩
abbrev main_cst_19 : Ref sig .tc := ⟨.hbm, 197, rfl⟩
abbrev main_v164 : Ref sig .tc := ⟨.hbm, 198, rfl⟩
abbrev main_v165 : Ref sig .tc := ⟨.hbm, 199, rfl⟩
abbrev main_v166 : Ref sig .tc := ⟨.hbm, 200, rfl⟩
abbrev main_v167 : Ref sig .tc := ⟨.hbm, 201, rfl⟩
abbrev main_v168 : Ref sig .tc := ⟨.hbm, 202, rfl⟩
abbrev main_v169 : Ref sig .tc := ⟨.hbm, 203, rfl⟩
abbrev main_v170 : Ref sig .tc := ⟨.hbm, 204, rfl⟩
abbrev main_v171 : Ref sig .tc := ⟨.hbm, 205, rfl⟩
abbrev main_v172 : Ref sig .tc := ⟨.hbm, 206, rfl⟩
abbrev main_v173 : Ref sig .tc := ⟨.hbm, 207, rfl⟩
abbrev main_v174 : Ref sig .tc := ⟨.hbm, 208, rfl⟩
abbrev main_v175 : Ref sig .tc := ⟨.hbm, 209, rfl⟩
abbrev main_v176 : Ref sig .tc := ⟨.hbm, 210, rfl⟩
abbrev main_v177 : Ref sig .tc := ⟨.hbm, 211, rfl⟩
abbrev main_v178 : Ref sig .tc := ⟨.hbm, 212, rfl⟩
abbrev main_v179 : Ref sig .tc := ⟨.hbm, 213, rfl⟩
abbrev main_v180 : Ref sig .tc := ⟨.hbm, 214, rfl⟩
abbrev main_v181 : Ref sig .tc := ⟨.hbm, 215, rfl⟩
abbrev main_v182 : Ref sig .tc := ⟨.hbm, 216, rfl⟩
abbrev main_c : Ref sig .tc := ⟨.hbm, 217, rfl⟩
abbrev main_call2_v0 : Ref sig .tc := ⟨.hbm, 218, rfl⟩
abbrev main_v183 : Ref sig .tc := ⟨.hbm, 219, rfl⟩
abbrev main_v184 : Ref sig .tc := ⟨.hbm, 220, rfl⟩
abbrev main_v185 : Ref sig .tc := ⟨.hbm, 221, rfl⟩
abbrev main_v186 : Ref sig .tc := ⟨.hbm, 222, rfl⟩
abbrev main_cst_20 : Ref sig .tc := ⟨.hbm, 223, rfl⟩
abbrev main_v187 : Ref sig .tc := ⟨.hbm, 224, rfl⟩
abbrev main_v188 : Ref sig .tc := ⟨.hbm, 225, rfl⟩
abbrev main_v189_0 : Ref sig .tc := ⟨.hbm, 226, rfl⟩
abbrev main_v189_1 : Ref sig .tc := ⟨.hbm, 227, rfl⟩
abbrev main_v189_2 : Ref sig .tc := ⟨.hbm, 228, rfl⟩
abbrev main_v189_3 : Ref sig .tc := ⟨.hbm, 229, rfl⟩
abbrev main_v189_4 : Ref sig .tc := ⟨.hbm, 230, rfl⟩
abbrev main_v189_5 : Ref sig .tc := ⟨.hbm, 231, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem15_0 : DmaSem sig := 22
abbrev cc0_sem16_0 : DmaSem sig := 23

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32_264 : BitVec 32 := 15#32
  let v420 : BitVec 1 := Scalar.cmpi .eq arg0 c15_i32_264
  let v421 : BitVec 32 := Scalar.extui v420
  let c0_i32_265 : BitVec 32 := 0#32
  let v422 : BitVec 1 := Scalar.cmpi .ne v421 c0_i32_265
  v422

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_13 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_14 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2560 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S8x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S8x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S4x128x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== ReferenceIdeal.lean ====
abbrev S8192x1024 : Shape := ⟨2, ![8192, 1024]⟩
abbrev S1x6144 : Shape := ⟨2, ![1, 6144]⟩
abbrev S1024x2048 : Shape := ⟨2, ![1024, 2048]⟩
abbrev S3x512 : Shape := ⟨2, ![3, 512]⟩
abbrev S4x128x128 : Shape := ⟨3, ![4, 128, 128]⟩
abbrev S1x512 : Shape := ⟨2, ![1, 512]⟩
abbrev S1024x1024 : Shape := ⟨2, ![1024, 1024]⟩
abbrev S1x1024 : Shape := ⟨2, ![1, 1024]⟩
abbrev S_ : Shape := ⟨0, ![]⟩
abbrev S8192x2048 : Shape := ⟨2, ![8192, 2048]⟩
abbrev S8192x512 : Shape := ⟨2, ![8192, 512]⟩
abbrev S2x512 : Shape := ⟨2, ![2, 512]⟩
abbrev S8194x512 : Shape := ⟨2, ![8194, 512]⟩
abbrev S512 : Shape := ⟨1, ![512]⟩
abbrev S8192 : Shape := ⟨1, ![8192]⟩
abbrev S8192x1 : Shape := ⟨2, ![8192, 1]⟩
abbrev S8192x128 : Shape := ⟨2, ![8192, 128]⟩
abbrev S2x128 : Shape := ⟨2, ![2, 128]⟩
abbrev S8190x128 : Shape := ⟨2, ![8190, 128]⟩
abbrev S4x128 : Shape := ⟨2, ![4, 128]⟩
abbrev S8188x128 : Shape := ⟨2, ![8188, 128]⟩
abbrev S8x128 : Shape := ⟨2, ![8, 128]⟩
abbrev S8184x128 : Shape := ⟨2, ![8184, 128]⟩
abbrev S16x128 : Shape := ⟨2, ![16, 128]⟩
abbrev S8176x128 : Shape := ⟨2, ![8176, 128]⟩
abbrev S8192x1x128 : Shape := ⟨3, ![8192, 1, 128]⟩
abbrev S8192x4x128 : Shape := ⟨3, ![8192, 4, 128]⟩
abbrev S4x128x8192 : Shape := ⟨3, ![4, 128, 8192]⟩
abbrev S1024 : Shape := ⟨1, ![1024]⟩
abbrev S4x8192x128 : Shape := ⟨3, ![4, 8192, 128]⟩
abbrev S3x1024 : Shape := ⟨2, ![3, 1024]⟩
abbrev S8x1024 : Shape := ⟨2, ![8, 1024]⟩
abbrev S4x512 : Shape := ⟨2, ![4, 512]⟩
abbrev S8x512 : Shape := ⟨2, ![8, 512]⟩
abbrev S8192x4x512 : Shape := ⟨3, ![8192, 4, 512]⟩
abbrev S4x8192x512 : Shape := ⟨3, ![4, 8192, 512]⟩

abbrev nBuf : Space → Nat
  | .hbm => 382
  | .vmem => 0
  | .smem => 0
  | _ => 0

abbrev hbmTy0_0 (i : Nat) : BufTy := match i % 128 with
  | 0 => ⟨S8192x1024, .f32⟩
  | 1 => ⟨S1x6144, .f32⟩
  | 2 => ⟨S1024x2048, .f32⟩
  | 3 => ⟨S3x512, .f32⟩
  | 4 => ⟨S4x128x128, .f32⟩
  | 5 => ⟨S1x512, .f32⟩
  | 6 => ⟨S1024x1024, .f32⟩
  | 7 => ⟨S1x1024, .f32⟩
  | 8 => ⟨S8192x1024, .f32⟩
  | 9 => ⟨S1x1024, .f32⟩
  | 10 => ⟨S1x1024, .f32⟩
  | 11 => ⟨S1x1024, .f32⟩
  | 12 => ⟨S_, .f32⟩
  | 13 => ⟨S1x1024, .f32⟩
  | 14 => ⟨S1x1024, .f32⟩
  | 15 => ⟨S8192x1024, .f32⟩
  | 16 => ⟨S8192x1024, .f32⟩
  | 17 => ⟨S8192x1024, .f32⟩
  | 18 => ⟨S8192x1024, .f32⟩
  | 19 => ⟨S8192x2048, .f32⟩
  | 20 => ⟨S8192x512, .f32⟩
  | 21 => ⟨S8192x512, .f32⟩
  | 22 => ⟨S8192x512, .f32⟩
  | 23 => ⟨S8192x512, .f32⟩
  | 24 => ⟨S8192x512, .f32⟩
  | 25 => ⟨S_, .f32⟩
  | 26 => ⟨S2x512, .f32⟩
  | 27 => ⟨S8194x512, .f32⟩
  | 28 => ⟨S_, .f32⟩
  | 29 => ⟨S2x512, .f32⟩
  | 30 => ⟨S8192x512, .f32⟩
  | 31 => ⟨S1x512, .f32⟩
  | 32 => ⟨S512, .f32⟩
  | 33 => ⟨S1x512, .f32⟩
  | 34 => ⟨S8192x512, .f32⟩
  | 35 => ⟨S8192x512, .f32⟩
  | 36 => ⟨S8192x512, .f32⟩
  | 37 => ⟨S1x512, .f32⟩
  | 38 => ⟨S512, .f32⟩
  | 39 => ⟨S1x512, .f32⟩
  | 40 => ⟨S8192x512, .f32⟩
  | 41 => ⟨S8192x512, .f32⟩
  | 42 => ⟨S8192x512, .f32⟩
  | 43 => ⟨S8192x512, .f32⟩
  | 44 => ⟨S1x512, .f32⟩
  | 45 => ⟨S512, .f32⟩
  | 46 => ⟨S1x512, .f32⟩
  | 47 => ⟨S8192x512, .f32⟩
  | 48 => ⟨S8192x512, .f32⟩
  | 49 => ⟨S8192x512, .f32⟩
  | 50 => ⟨S8192x512, .f32⟩
  | 51 => ⟨S_, .f32⟩
  | 52 => ⟨S_, .f32⟩
  | 53 => ⟨S8192x512, .f32⟩
  | 54 => ⟨S8192, .f32⟩
  | 55 => ⟨S_, .f32⟩
  | 56 => ⟨S8192, .f32⟩
  | 57 => ⟨S8192, .f32⟩
  | 58 => ⟨S8192x1, .f32⟩
  | 59 => ⟨S8192x128, .f32⟩
  | 60 => ⟨S_, .f32⟩
  | 61 => ⟨S2x128, .f32⟩
  | 62 => ⟨S8190x128, .f32⟩
  | 63 => ⟨S8192x128, .f32⟩
  | 64 => ⟨S_, .f32⟩
  | 65 => ⟨S2x128, .f32⟩
  | 66 => ⟨S8192x128, .f32⟩
  | 67 => ⟨S_, .f32⟩
  | 68 => ⟨S8192x1, .f32⟩
  | 69 => ⟨S8192x1, .f32⟩
  | 70 => ⟨S8192x128, .f32⟩
  | 71 => ⟨S8192x128, .f32⟩
  | 72 => ⟨S8192x128, .f32⟩
  | 73 => ⟨S8192x128, .f32⟩
  | 74 => ⟨S8192x128, .f32⟩
  | 75 => ⟨S_, .f32⟩
  | 76 => ⟨S4x128, .f32⟩
  | 77 => ⟨S8188x128, .f32⟩
  | 78 => ⟨S8192x128, .f32⟩
  | 79 => ⟨S_, .f32⟩
  | 80 => ⟨S4x128, .f32⟩
  | 81 => ⟨S8192x128, .f32⟩
  | 82 => ⟨S_, .f32⟩
  | 83 => ⟨S8192x1, .f32⟩
  | 84 => ⟨S8192x1, .f32⟩
  | 85 => ⟨S8192x128, .f32⟩
  | 86 => ⟨S8192x128, .f32⟩
  | 87 => ⟨S8192x128, .f32⟩
  | 88 => ⟨S8192x128, .f32⟩
  | 89 => ⟨S8192x128, .f32⟩
  | 90 => ⟨S_, .f32⟩
  | 91 => ⟨S8x128, .f32⟩
  | 92 => ⟨S8184x128, .f32⟩
  | 93 => ⟨S8192x128, .f32⟩
  | 94 => ⟨S_, .f32⟩
  | 95 => ⟨S8x128, .f32⟩
  | 96 => ⟨S8192x128, .f32⟩
  | 97 => ⟨S_, .f32⟩
  | 98 => ⟨S8192x1, .f32⟩
  | 99 => ⟨S8192x1, .f32⟩
  | 100 => ⟨S8192x128, .f32⟩
  | 101 => ⟨S8192x128, .f32⟩
  | 102 => ⟨S8192x128, .f32⟩
  | 103 => ⟨S8192x128, .f32⟩
  | 104 => ⟨S8192x128, .f32⟩
  | 105 => ⟨S_, .f32⟩
  | 106 => ⟨S16x128, .f32⟩
  | 107 => ⟨S8176x128, .f32⟩
  | 108 => ⟨S8192x128, .f32⟩
  | 109 => ⟨S_, .f32⟩
  | 110 => ⟨S16x128, .f32⟩
  | 111 => ⟨S8192x128, .f32⟩
  | 112 => ⟨S_, .f32⟩
  | 113 => ⟨S8192x1, .f32⟩
  | 114 => ⟨S8192x1, .f32⟩
  | 115 => ⟨S8192x128, .f32⟩
  | 116 => ⟨S8192x128, .f32⟩
  | 117 => ⟨S8192x128, .f32⟩
  | 118 => ⟨S8192x128, .f32⟩
  | 119 => ⟨S8192x1x128, .f32⟩
  | 120 => ⟨S8192x1x128, .f32⟩
  | 121 => ⟨S8192x1x128, .f32⟩
  | 122 => ⟨S8192x1x128, .f32⟩
  | 123 => ⟨S8192x4x128, .f32⟩
  | 124 => ⟨S4x128x8192, .f32⟩
  | 125 => ⟨S8192x4x128, .f32⟩
  | 126 => ⟨S8192x512, .f32⟩
  | 127 => ⟨S8192x512, .f32⟩
  | _ => ⟨S8192x1024, .f32⟩

abbrev hbmTy0_1 (i : Nat) : BufTy := match i % 128 with
  | 0 => ⟨S8192x512, .f32⟩
  | 1 => ⟨S8192x1024, .f32⟩
  | 2 => ⟨S8192x1024, .f32⟩
  | 3 => ⟨S_, .f32⟩
  | 4 => ⟨S1x1024, .f32⟩
  | 5 => ⟨S_, .f32⟩
  | 6 => ⟨S8192x1024, .f32⟩
  | 7 => ⟨S8192x1024, .f32⟩
  | 8 => ⟨S_, .f32⟩
  | 9 => ⟨S1x1024, .f32⟩
  | 10 => ⟨S1x1024, .f32⟩
  | 11 => ⟨S8192x1024, .f32⟩
  | 12 => ⟨S8192x1024, .f32⟩
  | 13 => ⟨S8192x1024, .f32⟩
  | 14 => ⟨S_, .f32⟩
  | 15 => ⟨S8192, .f32⟩
  | 16 => ⟨S8192x1, .f32⟩
  | 17 => ⟨S_, .f32⟩
  | 18 => ⟨S8192x1, .f32⟩
  | 19 => ⟨S8192x1, .f32⟩
  | 20 => ⟨S8192x1024, .f32⟩
  | 21 => ⟨S8192x1024, .f32⟩
  | 22 => ⟨S8192x1024, .f32⟩
  | 23 => ⟨S_, .f32⟩
  | 24 => ⟨S8192x1024, .f32⟩
  | 25 => ⟨S8192x1024, .f32⟩
  | 26 => ⟨S_, .f32⟩
  | 27 => ⟨S8192, .f32⟩
  | 28 => ⟨S8192x1, .f32⟩
  | 29 => ⟨S_, .f32⟩
  | 30 => ⟨S8192x1, .f32⟩
  | 31 => ⟨S8192x1, .f32⟩
  | 32 => ⟨S8192x1024, .f32⟩
  | 33 => ⟨S8192x1024, .f32⟩
  | 34 => ⟨S_, .f32⟩
  | 35 => ⟨S8192x1, .f32⟩
  | 36 => ⟨S8192x1, .f32⟩
  | 37 => ⟨S8192x1, .f32⟩
  | 38 => ⟨S8192x1, .f32⟩
  | 39 => ⟨S_, .f32⟩
  | 40 => ⟨S8192x1, .f32⟩
  | 41 => ⟨S8192x1, .f32⟩
  | 42 => ⟨S8192x1024, .f32⟩
  | 43 => ⟨S8192x1024, .f32⟩
  | 44 => ⟨S8192x1024, .f32⟩
  | 45 => ⟨S8192x1024, .f32⟩
  | 46 => ⟨S8192x1024, .f32⟩
  | 47 => ⟨S8192x1024, .f32⟩
  | 48 => ⟨S8192x1024, .f32⟩
  | 49 => ⟨S_, .f32⟩
  | 50 => ⟨S1024, .f32⟩
  | 51 => ⟨S1x1024, .f32⟩
  | 52 => ⟨S8192x1024, .f32⟩
  | 53 => ⟨S_, .f32⟩
  | 54 => ⟨S1024, .f32⟩
  | 55 => ⟨S1x1024, .f32⟩
  | 56 => ⟨S8192x1024, .f32⟩
  | 57 => ⟨S8192x1024, .f32⟩
  | 58 => ⟨S8192x1024, .f32⟩
  | 59 => ⟨S_, .f32⟩
  | 60 => ⟨S8192, .f32⟩
  | 61 => ⟨S8192x1, .f32⟩
  | 62 => ⟨S8192x1024, .f32⟩
  | 63 => ⟨S8192x1024, .f32⟩
  | 64 => ⟨S8192x1, .f32⟩
  | 65 => ⟨S8192x1024, .f32⟩
  | 66 => ⟨S_, .f32⟩
  | 67 => ⟨S8192, .f32⟩
  | 68 => ⟨S8192x1, .f32⟩
  | 69 => ⟨S_, .f32⟩
  | 70 => ⟨S8192x1, .f32⟩
  | 71 => ⟨S8192x1, .f32⟩
  | 72 => ⟨S_, .f32⟩
  | 73 => ⟨S8192, .f32⟩
  | 74 => ⟨S8192x1024, .f32⟩
  | 75 => ⟨S8192x1024, .f32⟩
  | 76 => ⟨S8192x1024, .f32⟩
  | 77 => ⟨S_, .f32⟩
  | 78 => ⟨S8192, .f32⟩
  | 79 => ⟨S8192x1, .f32⟩
  | 80 => ⟨S8192x1024, .f32⟩
  | 81 => ⟨S8192x1, .f32⟩
  | 82 => ⟨S_, .f32⟩
  | 83 => ⟨S8192x1, .f32⟩
  | 84 => ⟨S8192x1, .f32⟩
  | 85 => ⟨S_, .f32⟩
  | 86 => ⟨S8192, .f32⟩
  | 87 => ⟨S8192x1024, .f32⟩
  | 88 => ⟨S8192x1024, .f32⟩
  | 89 => ⟨S8192x1024, .f32⟩
  | 90 => ⟨S8192x1024, .f32⟩
  | 91 => ⟨S8192x1024, .f32⟩
  | 92 => ⟨S_, .f32⟩
  | 93 => ⟨S1024, .f32⟩
  | 94 => ⟨S1x1024, .f32⟩
  | 95 => ⟨S_, .f32⟩
  | 96 => ⟨S8192x1024, .f32⟩
  | 97 => ⟨S8192x1024, .f32⟩
  | 98 => ⟨S8192x1024, .f32⟩
  | 99 => ⟨S8192x512, .f32⟩
  | 100 => ⟨S8192x512, .f32⟩
  | 101 => ⟨S8192x512, .f32⟩
  | 102 => ⟨S_, .f32⟩
  | 103 => ⟨S512, .f32⟩
  | 104 => ⟨S1x512, .f32⟩
  | 105 => ⟨S8192x512, .f32⟩
  | 106 => ⟨S8192x512, .f32⟩
  | 107 => ⟨S8192x4x128, .f32⟩
  | 108 => ⟨S4x128x8192, .f32⟩
  | 109 => ⟨S4x8192x128, .f32⟩
  | 110 => ⟨S8192x4x128, .f32⟩
  | 111 => ⟨S4x128x128, .f32⟩
  | 112 => ⟨S4x128x128, .f32⟩
  | 113 => ⟨S8192x1x128, .f32⟩
  | 114 => ⟨S8192x128, .f32⟩
  | 115 => ⟨S8192x1x128, .f32⟩
  | 116 => ⟨S8192x128, .f32⟩
  | 117 => ⟨S8192x1x128, .f32⟩
  | 118 => ⟨S8192x128, .f32⟩
  | 119 => ⟨S8192x1x128, .f32⟩
  | 120 => ⟨S8192x128, .f32⟩
  | 121 => ⟨S8192x128, .f32⟩
  | 122 => ⟨S_, .f32⟩
  | 123 => ⟨S8192x512, .f32⟩
  | 124 => ⟨S8192x128, .f32⟩
  | 125 => ⟨S8192x128, .f32⟩
  | 126 => ⟨S8192x128, .f32⟩
  | 127 => ⟨S16x128, .f32⟩
  | _ => ⟨S8192x1024, .f32⟩

abbrev hbmTy0_2 (i : Nat) : BufTy := match i % 128 with
  | 0 => ⟨S8176x128, .f32⟩
  | 1 => ⟨S_, .f32⟩
  | 2 => ⟨S8192x128, .f32⟩
  | 3 => ⟨S8192x128, .f32⟩
  | 4 => ⟨S_, .f32⟩
  | 5 => ⟨S8192x512, .f32⟩
  | 6 => ⟨S8192x128, .f32⟩
  | 7 => ⟨S_, .f32⟩
  | 8 => ⟨S8192x512, .f32⟩
  | 9 => ⟨S8192x512, .f32⟩
  | 10 => ⟨S8192x128, .f32⟩
  | 11 => ⟨S8192x128, .f32⟩
  | 12 => ⟨S8192x128, .f32⟩
  | 13 => ⟨S8x128, .f32⟩
  | 14 => ⟨S8184x128, .f32⟩
  | 15 => ⟨S_, .f32⟩
  | 16 => ⟨S8192x128, .f32⟩
  | 17 => ⟨S8192x128, .f32⟩
  | 18 => ⟨S_, .f32⟩
  | 19 => ⟨S8192x512, .f32⟩
  | 20 => ⟨S8192x512, .f32⟩
  | 21 => ⟨S8192x128, .f32⟩
  | 22 => ⟨S_, .f32⟩
  | 23 => ⟨S8192x512, .f32⟩
  | 24 => ⟨S8192x512, .f32⟩
  | 25 => ⟨S8192x128, .f32⟩
  | 26 => ⟨S8192x128, .f32⟩
  | 27 => ⟨S8192x128, .f32⟩
  | 28 => ⟨S4x128, .f32⟩
  | 29 => ⟨S8188x128, .f32⟩
  | 30 => ⟨S_, .f32⟩
  | 31 => ⟨S8192x128, .f32⟩
  | 32 => ⟨S8192x128, .f32⟩
  | 33 => ⟨S_, .f32⟩
  | 34 => ⟨S8192x512, .f32⟩
  | 35 => ⟨S8192x512, .f32⟩
  | 36 => ⟨S8192x128, .f32⟩
  | 37 => ⟨S_, .f32⟩
  | 38 => ⟨S8192x512, .f32⟩
  | 39 => ⟨S8192x512, .f32⟩
  | 40 => ⟨S8192x128, .f32⟩
  | 41 => ⟨S8192x128, .f32⟩
  | 42 => ⟨S8192x128, .f32⟩
  | 43 => ⟨S2x128, .f32⟩
  | 44 => ⟨S8190x128, .f32⟩
  | 45 => ⟨S_, .f32⟩
  | 46 => ⟨S8192x128, .f32⟩
  | 47 => ⟨S8192x128, .f32⟩
  | 48 => ⟨S_, .f32⟩
  | 49 => ⟨S8192x512, .f32⟩
  | 50 => ⟨S8192x512, .f32⟩
  | 51 => ⟨S_, .f32⟩
  | 52 => ⟨S_, .f32⟩
  | 53 => ⟨S8192x512, .f32⟩
  | 54 => ⟨S8192x512, .f32⟩
  | 55 => ⟨S8192x512, .f32⟩
  | 56 => ⟨S8192x512, .f32⟩
  | 57 => ⟨S8192x512, .f32⟩
  | 58 => ⟨S_, .f32⟩
  | 59 => ⟨S512, .f32⟩
  | 60 => ⟨S1x512, .f32⟩
  | 61 => ⟨S8192x512, .f32⟩
  | 62 => ⟨S8192x512, .f32⟩
  | 63 => ⟨S_, .f32⟩
  | 64 => ⟨S512, .f32⟩
  | 65 => ⟨S1x512, .f32⟩
  | 66 => ⟨S_, .f32⟩
  | 67 => ⟨S3x512, .f32⟩
  | 68 => ⟨S_, .f32⟩
  | 69 => ⟨S8194x512, .f32⟩
  | 70 => ⟨S8192x512, .f32⟩
  | 71 => ⟨S_, .f32⟩
  | 72 => ⟨S512, .f32⟩
  | 73 => ⟨S1x512, .f32⟩
  | 74 => ⟨S8192x512, .f32⟩
  | 75 => ⟨S8192x512, .f32⟩
  | 76 => ⟨S_, .f32⟩
  | 77 => ⟨S512, .f32⟩
  | 78 => ⟨S1x512, .f32⟩
  | 79 => ⟨S_, .f32⟩
  | 80 => ⟨S3x512, .f32⟩
  | 81 => ⟨S3x512, .f32⟩
  | 82 => ⟨S_, .f32⟩
  | 83 => ⟨S8194x512, .f32⟩
  | 84 => ⟨S8194x512, .f32⟩
  | 85 => ⟨S8192x512, .f32⟩
  | 86 => ⟨S_, .f32⟩
  | 87 => ⟨S512, .f32⟩
  | 88 => ⟨S1x512, .f32⟩
  | 89 => ⟨S8192x512, .f32⟩
  | 90 => ⟨S8192x512, .f32⟩
  | 91 => ⟨S_, .f32⟩
  | 92 => ⟨S512, .f32⟩
  | 93 => ⟨S1x512, .f32⟩
  | 94 => ⟨S_, .f32⟩
  | 95 => ⟨S3x512, .f32⟩
  | 96 => ⟨S3x512, .f32⟩
  | 97 => ⟨S_, .f32⟩
  | 98 => ⟨S8194x512, .f32⟩
  | 99 => ⟨S8194x512, .f32⟩
  | 100 => ⟨S2x512, .f32⟩
  | 101 => ⟨S8192x512, .f32⟩
  | 102 => ⟨S8192x512, .f32⟩
  | 103 => ⟨S8192x512, .f32⟩
  | 104 => ⟨S8192x2048, .f32⟩
  | 105 => ⟨S8192x1024, .f32⟩
  | 106 => ⟨S_, .f32⟩
  | 107 => ⟨S1024, .f32⟩
  | 108 => ⟨S1x1024, .f32⟩
  | 109 => ⟨S8192x1024, .f32⟩
  | 110 => ⟨S_, .f32⟩
  | 111 => ⟨S1024, .f32⟩
  | 112 => ⟨S1x1024, .f32⟩
  | 113 => ⟨S8192x1024, .f32⟩
  | 114 => ⟨S8192x1024, .f32⟩
  | 115 => ⟨S_, .f32⟩
  | 116 => ⟨S3x1024, .f32⟩
  | 117 => ⟨S8x1024, .f32⟩
  | 118 => ⟨S_, .f32⟩
  | 119 => ⟨S4x512, .f32⟩
  | 120 => ⟨S8x512, .f32⟩
  | 121 => ⟨S8192x1024, .f32⟩
  | 122 => ⟨S8192x4x512, .f32⟩
  | 123 => ⟨S4x8192x512, .f32⟩
  | 124 => ⟨S4x8192x512, .bf16⟩
  | 125 => ⟨S8192x1024, .bf16⟩
  | _ => ⟨S8192x1024, .f32⟩

abbrev hbmTy (i : Nat) : BufTy := match i / 128 with
  | 0 => hbmTy0_0 i
  | 1 => hbmTy0_1 i
  | 2 => hbmTy0_2 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_0 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_call0_call0_cst : Ref sig .tc := ⟨.hbm, 51, rfl⟩
abbrev main_call0_call0_v0 : Ref sig .tc := ⟨.hbm, 52, rfl⟩
abbrev main_v39 : Ref sig .tc := ⟨.hbm, 53, rfl⟩
abbrev main_v40 : Ref sig .tc := ⟨.hbm, 54, rfl⟩
abbrev main_cst_2 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_3 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_4 : Ref sig .tc := ⟨.hbm, 64, rfl⟩
abbrev main_v48 : Ref sig .tc := ⟨.hbm, 65, rfl⟩
abbrev main_v49 : Ref sig .tc := ⟨.hbm, 66, rfl⟩
abbrev main_cst_5 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_6 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_7 : Ref sig .tc := ⟨.hbm, 79, rfl⟩
abbrev main_v60 : Ref sig .tc := ⟨.hbm, 80, rfl⟩
abbrev main_v61 : Ref sig .tc := ⟨.hbm, 81, rfl⟩
abbrev main_cst_8 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_9 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst_10 : Ref sig .tc := ⟨.hbm, 94, rfl⟩
abbrev main_v72 : Ref sig .tc := ⟨.hbm, 95, rfl⟩
abbrev main_v73 : Ref sig .tc := ⟨.hbm, 96, rfl⟩
abbrev main_cst_11 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_cst_12 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_cst_13 : Ref sig .tc := ⟨.hbm, 109, rfl⟩
abbrev main_v84 : Ref sig .tc := ⟨.hbm, 110, rfl⟩
abbrev main_v85 : Ref sig .tc := ⟨.hbm, 111, rfl⟩
abbrev main_cst_14 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_cst_15 : Ref sig .tc := ⟨.hbm, 131, rfl⟩
abbrev main_v104 : Ref sig .tc := ⟨.hbm, 132, rfl⟩
abbrev main_cst_16 : Ref sig .tc := ⟨.hbm, 133, rfl⟩
abbrev main_v105 : Ref sig .tc := ⟨.hbm, 134, rfl⟩
abbrev main_v106 : Ref sig .tc := ⟨.hbm, 135, rfl⟩
abbrev main_cst_17 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_cst_18 : Ref sig .tc := ⟨.hbm, 142, rfl⟩
abbrev main_v112 : Ref sig .tc := ⟨.hbm, 143, rfl⟩
abbrev main_v113 : Ref sig .tc := ⟨.hbm, 144, rfl⟩
abbrev main_cst_19 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_cst_20 : Ref sig .tc := ⟨.hbm, 151, rfl⟩
abbrev main_v119 : Ref sig .tc := ⟨.hbm, 152, rfl⟩
abbrev main_v120 : Ref sig .tc := ⟨.hbm, 153, rfl⟩
abbrev main_cst_21 : Ref sig .tc := ⟨.hbm, 154, rfl⟩
abbrev main_v121 : Ref sig .tc := ⟨.hbm, 155, rfl⟩
abbrev main_v122 : Ref sig .tc := ⟨.hbm, 156, rfl⟩
abbrev main_cst_22 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_cst_23 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_cst_24 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_cst_25 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_cst_26 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_cst_27 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_cst_28 : Ref sig .tc := ⟨.hbm, 194, rfl⟩
abbrev main_v154 : Ref sig .tc := ⟨.hbm, 195, rfl⟩
abbrev main_v155 : Ref sig .tc := ⟨.hbm, 196, rfl⟩
abbrev main_cst_29 : Ref sig .tc := ⟨.hbm, 197, rfl⟩
abbrev main_v156 : Ref sig .tc := ⟨.hbm, 198, rfl⟩
abbrev main_v157 : Ref sig .tc := ⟨.hbm, 199, rfl⟩
abbrev main_cst_30 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_cst_31 : Ref sig .tc := ⟨.hbm, 205, rfl⟩
abbrev main_v162 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_cst_32 : Ref sig .tc := ⟨.hbm, 210, rfl⟩
abbrev main_v166 : Ref sig .tc := ⟨.hbm, 211, rfl⟩
abbrev main_v167 : Ref sig .tc := ⟨.hbm, 212, rfl⟩
abbrev main_cst_33 : Ref sig .tc := ⟨.hbm, 213, rfl⟩
abbrev main_v168 : Ref sig .tc := ⟨.hbm, 214, rfl⟩
abbrev main_v169 : Ref sig .tc := ⟨.hbm, 215, rfl⟩
abbrev main_v170 : Ref sig .tc := ⟨.hbm, 216, rfl⟩
abbrev main_v171 : Ref sig .tc := ⟨.hbm, 217, rfl⟩
abbrev main_v172 : Ref sig .tc := ⟨.hbm, 218, rfl⟩
abbrev main_v173 : Ref sig .tc := ⟨.hbm, 219, rfl⟩
abbrev main_cst_34 : Ref sig .tc := ⟨.hbm, 220, rfl⟩
abbrev main_v174 : Ref sig .tc := ⟨.hbm, 221, rfl⟩
abbrev main_v175 : Ref sig .tc := ⟨.hbm, 222, rfl⟩
abbrev main_cst_35 : Ref sig .tc := ⟨.hbm, 223, rfl⟩
abbrev main_v176 : Ref sig .tc := ⟨.hbm, 224, rfl⟩
abbrev main_v177 : Ref sig .tc := ⟨.hbm, 225, rfl⟩
abbrev main_v178 : Ref sig .tc := ⟨.hbm, 226, rfl⟩
abbrev main_v179 : Ref sig .tc := ⟨.hbm, 227, rfl⟩
abbrev main_v180 : Ref sig .tc := ⟨.hbm, 228, rfl⟩
abbrev main_v181 : Ref sig .tc := ⟨.hbm, 229, rfl⟩
abbrev main_cst_36 : Ref sig .tc := ⟨.hbm, 230, rfl⟩
abbrev main_v182 : Ref sig .tc := ⟨.hbm, 231, rfl⟩
abbrev main_v183 : Ref sig .tc := ⟨.hbm, 232, rfl⟩
abbrev main_v184 : Ref sig .tc := ⟨.hbm, 233, rfl⟩
abbrev main_v185 : Ref sig .tc := ⟨.hbm, 234, rfl⟩
abbrev main_v186 : Ref sig .tc := ⟨.hbm, 235, rfl⟩
abbrev main_v187 : Ref sig .tc := ⟨.hbm, 236, rfl⟩
abbrev main_v188 : Ref sig .tc := ⟨.hbm, 237, rfl⟩
abbrev main_v189 : Ref sig .tc := ⟨.hbm, 238, rfl⟩
abbrev main_v190 : Ref sig .tc := ⟨.hbm, 239, rfl⟩
abbrev main_v191 : Ref sig .tc := ⟨.hbm, 240, rfl⟩
abbrev main_v192 : Ref sig .tc := ⟨.hbm, 241, rfl⟩
abbrev main_v193 : Ref sig .tc := ⟨.hbm, 242, rfl⟩
abbrev main_v194 : Ref sig .tc := ⟨.hbm, 243, rfl⟩
abbrev main_v195 : Ref sig .tc := ⟨.hbm, 244, rfl⟩
abbrev main_v196 : Ref sig .tc := ⟨.hbm, 245, rfl⟩
abbrev main_v197 : Ref sig .tc := ⟨.hbm, 246, rfl⟩
abbrev main_v198 : Ref sig .tc := ⟨.hbm, 247, rfl⟩
abbrev main_v199 : Ref sig .tc := ⟨.hbm, 248, rfl⟩
abbrev main_v200 : Ref sig .tc := ⟨.hbm, 249, rfl⟩
abbrev main_cst_37 : Ref sig .tc := ⟨.hbm, 250, rfl⟩
abbrev main_v201 : Ref sig .tc := ⟨.hbm, 251, rfl⟩
abbrev main_v202 : Ref sig .tc := ⟨.hbm, 252, rfl⟩
abbrev main_v203 : Ref sig .tc := ⟨.hbm, 253, rfl⟩
abbrev main_v204 : Ref sig .tc := ⟨.hbm, 254, rfl⟩
abbrev main_v205 : Ref sig .tc := ⟨.hbm, 255, rfl⟩
abbrev main_v206 : Ref sig .tc := ⟨.hbm, 256, rfl⟩
abbrev main_cst_38 : Ref sig .tc := ⟨.hbm, 257, rfl⟩
abbrev main_v207 : Ref sig .tc := ⟨.hbm, 258, rfl⟩
abbrev main_v208 : Ref sig .tc := ⟨.hbm, 259, rfl⟩
abbrev main_cst_39 : Ref sig .tc := ⟨.hbm, 260, rfl⟩
abbrev main_v209 : Ref sig .tc := ⟨.hbm, 261, rfl⟩
abbrev main_v210 : Ref sig .tc := ⟨.hbm, 262, rfl⟩
abbrev main_cst_40 : Ref sig .tc := ⟨.hbm, 263, rfl⟩
abbrev main_v211 : Ref sig .tc := ⟨.hbm, 264, rfl⟩
abbrev main_v212 : Ref sig .tc := ⟨.hbm, 265, rfl⟩
abbrev main_v213 : Ref sig .tc := ⟨.hbm, 266, rfl⟩
abbrev main_v214 : Ref sig .tc := ⟨.hbm, 267, rfl⟩
abbrev main_v215 : Ref sig .tc := ⟨.hbm, 268, rfl⟩
abbrev main_v216 : Ref sig .tc := ⟨.hbm, 269, rfl⟩
abbrev main_v217 : Ref sig .tc := ⟨.hbm, 270, rfl⟩
abbrev main_cst_41 : Ref sig .tc := ⟨.hbm, 271, rfl⟩
abbrev main_v218 : Ref sig .tc := ⟨.hbm, 272, rfl⟩
abbrev main_v219 : Ref sig .tc := ⟨.hbm, 273, rfl⟩
abbrev main_cst_42 : Ref sig .tc := ⟨.hbm, 274, rfl⟩
abbrev main_v220 : Ref sig .tc := ⟨.hbm, 275, rfl⟩
abbrev main_v221 : Ref sig .tc := ⟨.hbm, 276, rfl⟩
abbrev main_v222 : Ref sig .tc := ⟨.hbm, 277, rfl⟩
abbrev main_cst_43 : Ref sig .tc := ⟨.hbm, 278, rfl⟩
abbrev main_v223 : Ref sig .tc := ⟨.hbm, 279, rfl⟩
abbrev main_v224 : Ref sig .tc := ⟨.hbm, 280, rfl⟩
abbrev main_v225 : Ref sig .tc := ⟨.hbm, 281, rfl⟩
abbrev main_v226 : Ref sig .tc := ⟨.hbm, 282, rfl⟩
abbrev main_v227 : Ref sig .tc := ⟨.hbm, 283, rfl⟩
abbrev main_v228 : Ref sig .tc := ⟨.hbm, 284, rfl⟩
abbrev main_v229 : Ref sig .tc := ⟨.hbm, 285, rfl⟩
abbrev main_cst_44 : Ref sig .tc := ⟨.hbm, 286, rfl⟩
abbrev main_v230 : Ref sig .tc := ⟨.hbm, 287, rfl⟩
abbrev main_v231 : Ref sig .tc := ⟨.hbm, 288, rfl⟩
abbrev main_cst_45 : Ref sig .tc := ⟨.hbm, 289, rfl⟩
abbrev main_v232 : Ref sig .tc := ⟨.hbm, 290, rfl⟩
abbrev main_v233 : Ref sig .tc := ⟨.hbm, 291, rfl⟩
abbrev main_v234 : Ref sig .tc := ⟨.hbm, 292, rfl⟩
abbrev main_cst_46 : Ref sig .tc := ⟨.hbm, 293, rfl⟩
abbrev main_v235 : Ref sig .tc := ⟨.hbm, 294, rfl⟩
abbrev main_v236 : Ref sig .tc := ⟨.hbm, 295, rfl⟩
abbrev main_v237 : Ref sig .tc := ⟨.hbm, 296, rfl⟩
abbrev main_v238 : Ref sig .tc := ⟨.hbm, 297, rfl⟩
abbrev main_v239 : Ref sig .tc := ⟨.hbm, 298, rfl⟩
abbrev main_v240 : Ref sig .tc := ⟨.hbm, 299, rfl⟩
abbrev main_v241 : Ref sig .tc := ⟨.hbm, 300, rfl⟩
abbrev main_cst_47 : Ref sig .tc := ⟨.hbm, 301, rfl⟩
abbrev main_v242 : Ref sig .tc := ⟨.hbm, 302, rfl⟩
abbrev main_v243 : Ref sig .tc := ⟨.hbm, 303, rfl⟩
abbrev main_cst_48 : Ref sig .tc := ⟨.hbm, 304, rfl⟩
abbrev main_v244 : Ref sig .tc := ⟨.hbm, 305, rfl⟩
abbrev main_v245 : Ref sig .tc := ⟨.hbm, 306, rfl⟩
abbrev main_call1_call0_cst : Ref sig .tc := ⟨.hbm, 307, rfl⟩
abbrev main_call1_call0_v0 : Ref sig .tc := ⟨.hbm, 308, rfl⟩
abbrev main_v246 : Ref sig .tc := ⟨.hbm, 309, rfl⟩
abbrev main_v247 : Ref sig .tc := ⟨.hbm, 310, rfl⟩
abbrev main_v248 : Ref sig .tc := ⟨.hbm, 311, rfl⟩
abbrev main_v249 : Ref sig .tc := ⟨.hbm, 312, rfl⟩
abbrev main_v250 : Ref sig .tc := ⟨.hbm, 313, rfl⟩
abbrev main_cst_49 : Ref sig .tc := ⟨.hbm, 314, rfl⟩
abbrev main_v251 : Ref sig .tc := ⟨.hbm, 315, rfl⟩
abbrev main_v252 : Ref sig .tc := ⟨.hbm, 316, rfl⟩
abbrev main_v253 : Ref sig .tc := ⟨.hbm, 317, rfl⟩
abbrev main_v254 : Ref sig .tc := ⟨.hbm, 318, rfl⟩
abbrev main_cst_50 : Ref sig .tc := ⟨.hbm, 319, rfl⟩
abbrev main_v255 : Ref sig .tc := ⟨.hbm, 320, rfl⟩
abbrev main_v256 : Ref sig .tc := ⟨.hbm, 321, rfl⟩
abbrev main_cst_51 : Ref sig .tc := ⟨.hbm, 322, rfl⟩
abbrev main_v257 : Ref sig .tc := ⟨.hbm, 323, rfl⟩
abbrev main_cst_52 : Ref sig .tc := ⟨.hbm, 324, rfl⟩
abbrev main_v258 : Ref sig .tc := ⟨.hbm, 325, rfl⟩
abbrev main_v259 : Ref sig .tc := ⟨.hbm, 326, rfl⟩
abbrev main_cst_53 : Ref sig .tc := ⟨.hbm, 327, rfl⟩
abbrev main_v260 : Ref sig .tc := ⟨.hbm, 328, rfl⟩
abbrev main_v261 : Ref sig .tc := ⟨.hbm, 329, rfl⟩
abbrev main_v262 : Ref sig .tc := ⟨.hbm, 330, rfl⟩
abbrev main_v263 : Ref sig .tc := ⟨.hbm, 331, rfl⟩
abbrev main_cst_54 : Ref sig .tc := ⟨.hbm, 332, rfl⟩
abbrev main_v264 : Ref sig .tc := ⟨.hbm, 333, rfl⟩
abbrev main_v265 : Ref sig .tc := ⟨.hbm, 334, rfl⟩
abbrev main_cst_55 : Ref sig .tc := ⟨.hbm, 335, rfl⟩
abbrev main_v266 : Ref sig .tc := ⟨.hbm, 336, rfl⟩
abbrev main_v267 : Ref sig .tc := ⟨.hbm, 337, rfl⟩
abbrev main_cst_56 : Ref sig .tc := ⟨.hbm, 338, rfl⟩
abbrev main_v268 : Ref sig .tc := ⟨.hbm, 339, rfl⟩
abbrev main_v269 : Ref sig .tc := ⟨.hbm, 340, rfl⟩
abbrev main_v270 : Ref sig .tc := ⟨.hbm, 341, rfl⟩
abbrev main_cst_57 : Ref sig .tc := ⟨.hbm, 342, rfl⟩
abbrev main_v271 : Ref sig .tc := ⟨.hbm, 343, rfl⟩
abbrev main_v272 : Ref sig .tc := ⟨.hbm, 344, rfl⟩
abbrev main_v273 : Ref sig .tc := ⟨.hbm, 345, rfl⟩
abbrev main_v274 : Ref sig .tc := ⟨.hbm, 346, rfl⟩
abbrev main_cst_58 : Ref sig .tc := ⟨.hbm, 347, rfl⟩
abbrev main_v275 : Ref sig .tc := ⟨.hbm, 348, rfl⟩
abbrev main_v276 : Ref sig .tc := ⟨.hbm, 349, rfl⟩
abbrev main_cst_59 : Ref sig .tc := ⟨.hbm, 350, rfl⟩
abbrev main_v277 : Ref sig .tc := ⟨.hbm, 351, rfl⟩
abbrev main_v278 : Ref sig .tc := ⟨.hbm, 352, rfl⟩
abbrev main_cst_60 : Ref sig .tc := ⟨.hbm, 353, rfl⟩
abbrev main_v279 : Ref sig .tc := ⟨.hbm, 354, rfl⟩
abbrev main_v280 : Ref sig .tc := ⟨.hbm, 355, rfl⟩
abbrev main_v281 : Ref sig .tc := ⟨.hbm, 356, rfl⟩
abbrev main_v282 : Ref sig .tc := ⟨.hbm, 357, rfl⟩
abbrev main_v283 : Ref sig .tc := ⟨.hbm, 358, rfl⟩
abbrev main_v284 : Ref sig .tc := ⟨.hbm, 359, rfl⟩
abbrev main_v285 : Ref sig .tc := ⟨.hbm, 360, rfl⟩
abbrev main_v286 : Ref sig .tc := ⟨.hbm, 361, rfl⟩
abbrev main_cst_61 : Ref sig .tc := ⟨.hbm, 362, rfl⟩
abbrev main_v287 : Ref sig .tc := ⟨.hbm, 363, rfl⟩
abbrev main_v288 : Ref sig .tc := ⟨.hbm, 364, rfl⟩
abbrev main_v289 : Ref sig .tc := ⟨.hbm, 365, rfl⟩
abbrev main_cst_62 : Ref sig .tc := ⟨.hbm, 366, rfl⟩
abbrev main_v290 : Ref sig .tc := ⟨.hbm, 367, rfl⟩
abbrev main_v291 : Ref sig .tc := ⟨.hbm, 368, rfl⟩
abbrev main_v292 : Ref sig .tc := ⟨.hbm, 369, rfl⟩
abbrev main_v293 : Ref sig .tc := ⟨.hbm, 370, rfl⟩
abbrev main_cst_63 : Ref sig .tc := ⟨.hbm, 371, rfl⟩
abbrev main_v294 : Ref sig .tc := ⟨.hbm, 372, rfl⟩
abbrev main_v295 : Ref sig .tc := ⟨.hbm, 373, rfl⟩
abbrev main_cst_64 : Ref sig .tc := ⟨.hbm, 374, rfl⟩
abbrev main_v296 : Ref sig .tc := ⟨.hbm, 375, rfl⟩
abbrev main_v297 : Ref sig .tc := ⟨.hbm, 376, rfl⟩
abbrev main_v298 : Ref sig .tc := ⟨.hbm, 377, rfl⟩
abbrev main_v299 : Ref sig .tc := ⟨.hbm, 378, rfl⟩
abbrev main_v300 : Ref sig .tc := ⟨.hbm, 379, rfl⟩
abbrev main_v301 : Ref sig .tc := ⟨.hbm, 380, rfl⟩
abbrev main_v302 : Ref sig .tc := ⟨.hbm, 381, rfl⟩

abbrev nD : Nat := 1
abbrev τ : Topo := Topo.v7x

variable {F : FTy → Type} [FloatOps F]
-- ==== Kernel2.lean ====
abbrev S8192x1024 : Shape := ⟨2, ![8192, 1024]⟩
abbrev S1x6144 : Shape := ⟨2, ![1, 6144]⟩
abbrev S1024x4096 : Shape := ⟨2, ![1024, 4096]⟩
abbrev S4096x1024 : Shape := ⟨2, ![4096, 1024]⟩
abbrev S1x1024 : Shape := ⟨2, ![1, 1024]⟩
abbrev S8x6144 : Shape := ⟨2, ![8, 6144]⟩
abbrev S1024x4x1024 : Shape := ⟨3, ![1024, 4, 1024]⟩
abbrev S4x1024x1024 : Shape := ⟨3, ![4, 1024, 1024]⟩
abbrev S4x8192x1024 : Shape := ⟨3, ![4, 8192, 1024]⟩
abbrev S8x1024 : Shape := ⟨2, ![8, 1024]⟩
abbrev S256x1024 : Shape := ⟨2, ![256, 1024]⟩
abbrev S4x256x1024 : Shape := ⟨3, ![4, 256, 1024]⟩
abbrev S6x8x1024 : Shape := ⟨3, ![6, 8, 1024]⟩
abbrev S1x1024x1024 : Shape := ⟨3, ![1, 1024, 1024]⟩
abbrev S1024x1024 : Shape := ⟨2, ![1024, 1024]⟩
abbrev S1x256x1024 : Shape := ⟨3, ![1, 256, 1024]⟩
abbrev S256 : Shape := ⟨1, ![256]⟩
abbrev S256x1 : Shape := ⟨2, ![256, 1]⟩
abbrev S1x8x1024 : Shape := ⟨3, ![1, 8, 1024]⟩
abbrev S32x8x1024 : Shape := ⟨3, ![32, 8, 1024]⟩
abbrev S1024 : Shape := ⟨1, ![1024]⟩
abbrev S1 : Shape := ⟨1, ![1]⟩
abbrev S1x1x1 : Shape := ⟨3, ![1, 1, 1]⟩
abbrev S2x1024 : Shape := ⟨2, ![2, 1024]⟩

abbrev nBuf : Space → Nat
  | .hbm => 19
  | .vmem => 22
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x6144, .f32⟩
  | .hbm, ⟨3, _⟩ => ⟨S1024x4096, .f32⟩
  | .hbm, ⟨4, _⟩ => ⟨S4096x1024, .f32⟩
  | .hbm, ⟨5, _⟩ => ⟨S1x1024, .f32⟩
  | .hbm, ⟨6, _⟩ => ⟨S1x1024, .f32⟩
  | .hbm, ⟨7, _⟩ => ⟨S8x6144, .f32⟩
  | .hbm, ⟨8, _⟩ => ⟨S1024x4x1024, .f32⟩
  | .hbm, ⟨9, _⟩ => ⟨S4x1024x1024, .f32⟩
  | .hbm, ⟨10, _⟩ => ⟨S4x1024x1024, .bf16⟩
  | .hbm, ⟨11, _⟩ => ⟨S4x1024x1024, .f32⟩
  | .hbm, ⟨12, _⟩ => ⟨S4x1024x1024, .bf16⟩
  | .hbm, ⟨13, _⟩ => ⟨S8192x1024, .f32⟩
  | .hbm, ⟨14, _⟩ => ⟨S4x8192x1024, .bf16⟩
  | .hbm, ⟨15, _⟩ => ⟨S4x8192x1024, .bf16⟩
  | .hbm, ⟨16, _⟩ => ⟨S8192x1024, .bf16⟩
  | .hbm, ⟨17, _⟩ => ⟨S8192x1024, .bf16⟩
  | .hbm, ⟨18, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S8x6144, .f32⟩
  | .local _ .vmem, ⟨5, _⟩ => ⟨S4x1024x1024, .bf16⟩
  | .local _ .vmem, ⟨6, _⟩ => ⟨S4x1024x1024, .bf16⟩
  | .local _ .vmem, ⟨7, _⟩ => ⟨S1x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S4x256x1024, .bf16⟩
  | .local _ .vmem, ⟨12, _⟩ => ⟨S4x256x1024, .bf16⟩
  | .local _ .vmem, ⟨13, _⟩ => ⟨S4x256x1024, .bf16⟩
  | .local _ .vmem, ⟨14, _⟩ => ⟨S4x256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S8x1024, .f32⟩
  | .local _ .vmem, ⟨20, _⟩ => ⟨S4x256x1024, .f32⟩
  | .local _ .vmem, ⟨21, _⟩ => ⟨S6x8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v6_3 : Ref sig .tc := ⟨.hbm, 16, rfl⟩
abbrev main_v6_4 : Ref sig .tc := ⟨.hbm, 17, rfl⟩
abbrev main_v6_5 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v269 : BitVec 1 := Scalar.cmpi .eq arg0 c31_i32
  let v270 : BitVec 32 := Scalar.extui v269
  let c0_i32_191 : BitVec 32 := 0#32
  let v271 : BitVec 1 := Scalar.cmpi .ne v270 c0_i32_191
  v271

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference2Ideal.lean ====
abbrev S8192x1024 : Shape := ⟨2, ![8192, 1024]⟩
abbrev S1x6144 : Shape := ⟨2, ![1, 6144]⟩
abbrev S1024x4096 : Shape := ⟨2, ![1024, 4096]⟩
abbrev S4096x1024 : Shape := ⟨2, ![4096, 1024]⟩
abbrev S1x1024 : Shape := ⟨2, ![1, 1024]⟩
abbrev S_ : Shape := ⟨0, ![]⟩
abbrev S8192x4096 : Shape := ⟨2, ![8192, 4096]⟩
abbrev S8192 : Shape := ⟨1, ![8192]⟩
abbrev S8192x1 : Shape := ⟨2, ![8192, 1]⟩
abbrev S1024 : Shape := ⟨1, ![1024]⟩
abbrev S2x1024 : Shape := ⟨2, ![2, 1024]⟩
abbrev S8x1024 : Shape := ⟨2, ![8, 1024]⟩
abbrev S8192x4x1024 : Shape := ⟨3, ![8192, 4, 1024]⟩
abbrev S4x8192x1024 : Shape := ⟨3, ![4, 8192, 1024]⟩

abbrev nBuf : Space → Nat
  | .hbm => 174
  | .vmem => 0
  | .smem => 0
  | _ => 0

abbrev hbmTy0_0 (i : Nat) : BufTy := match i % 128 with
  | 0 => ⟨S8192x1024, .f32⟩
  | 1 => ⟨S8192x1024, .f32⟩
  | 2 => ⟨S1x6144, .f32⟩
  | 3 => ⟨S1024x4096, .f32⟩
  | 4 => ⟨S4096x1024, .f32⟩
  | 5 => ⟨S1x1024, .f32⟩
  | 6 => ⟨S1x1024, .f32⟩
  | 7 => ⟨S1x1024, .f32⟩
  | 8 => ⟨S1x1024, .f32⟩
  | 9 => ⟨S1x1024, .f32⟩
  | 10 => ⟨S_, .f32⟩
  | 11 => ⟨S1x1024, .f32⟩
  | 12 => ⟨S1x1024, .f32⟩
  | 13 => ⟨S8192x1024, .f32⟩
  | 14 => ⟨S8192x1024, .f32⟩
  | 15 => ⟨S8192x1024, .f32⟩
  | 16 => ⟨S8192x1024, .f32⟩
  | 17 => ⟨S8192x4096, .f32⟩
  | 18 => ⟨S_, .f32⟩
  | 19 => ⟨S8192x4096, .f32⟩
  | 20 => ⟨S8192x4096, .f32⟩
  | 21 => ⟨S_, .f32⟩
  | 22 => ⟨S8192x4096, .f32⟩
  | 23 => ⟨S8192x4096, .i1⟩
  | 24 => ⟨S_, .f32⟩
  | 25 => ⟨S8192x4096, .f32⟩
  | 26 => ⟨S8192x4096, .f32⟩
  | 27 => ⟨S_, .f32⟩
  | 28 => ⟨S8192x4096, .f32⟩
  | 29 => ⟨S8192x4096, .f32⟩
  | 30 => ⟨S8192x1024, .f32⟩
  | 31 => ⟨S_, .f32⟩
  | 32 => ⟨S8192x1024, .f32⟩
  | 33 => ⟨S8192x1024, .f32⟩
  | 34 => ⟨S_, .f32⟩
  | 35 => ⟨S1x1024, .f32⟩
  | 36 => ⟨S1x1024, .f32⟩
  | 37 => ⟨S8192x1024, .f32⟩
  | 38 => ⟨S8192x1024, .f32⟩
  | 39 => ⟨S8192x1024, .f32⟩
  | 40 => ⟨S_, .f32⟩
  | 41 => ⟨S8192, .f32⟩
  | 42 => ⟨S8192x1, .f32⟩
  | 43 => ⟨S_, .f32⟩
  | 44 => ⟨S8192x1, .f32⟩
  | 45 => ⟨S8192x1, .f32⟩
  | 46 => ⟨S8192x1024, .f32⟩
  | 47 => ⟨S8192x1024, .f32⟩
  | 48 => ⟨S8192x1024, .f32⟩
  | 49 => ⟨S_, .f32⟩
  | 50 => ⟨S8192x1024, .f32⟩
  | 51 => ⟨S8192x1024, .f32⟩
  | 52 => ⟨S_, .f32⟩
  | 53 => ⟨S8192, .f32⟩
  | 54 => ⟨S8192x1, .f32⟩
  | 55 => ⟨S_, .f32⟩
  | 56 => ⟨S8192x1, .f32⟩
  | 57 => ⟨S8192x1, .f32⟩
  | 58 => ⟨S8192x1024, .f32⟩
  | 59 => ⟨S8192x1024, .f32⟩
  | 60 => ⟨S_, .f32⟩
  | 61 => ⟨S8192x1, .f32⟩
  | 62 => ⟨S8192x1, .f32⟩
  | 63 => ⟨S8192x1, .f32⟩
  | 64 => ⟨S8192x1, .f32⟩
  | 65 => ⟨S_, .f32⟩
  | 66 => ⟨S8192x1, .f32⟩
  | 67 => ⟨S8192x1, .f32⟩
  | 68 => ⟨S8192x1024, .f32⟩
  | 69 => ⟨S8192x1024, .f32⟩
  | 70 => ⟨S8192x1024, .f32⟩
  | 71 => ⟨S8192x1024, .f32⟩
  | 72 => ⟨S8192x1024, .f32⟩
  | 73 => ⟨S8192x1024, .f32⟩
  | 74 => ⟨S8192x1024, .f32⟩
  | 75 => ⟨S8192x1024, .f32⟩
  | 76 => ⟨S_, .f32⟩
  | 77 => ⟨S8192x1024, .f32⟩
  | 78 => ⟨S8192x1024, .f32⟩
  | 79 => ⟨S_, .f32⟩
  | 80 => ⟨S8192, .f32⟩
  | 81 => ⟨S_, .f32⟩
  | 82 => ⟨S8192, .f32⟩
  | 83 => ⟨S8192, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S8192, .f32⟩
  | 92 => ⟨S_, .f32⟩
  | 93 => ⟨S8192, .f32⟩
  | 94 => ⟨S8192, .f32⟩
  | 95 => ⟨S8192x1024, .f32⟩
  | 96 => ⟨S8192x1024, .f32⟩
  | 97 => ⟨S_, .f32⟩
  | 98 => ⟨S1024, .f32⟩
  | 99 => ⟨S1x1024, .f32⟩
  | 100 => ⟨S8192x1024, .f32⟩
  | 101 => ⟨S_, .f32⟩
  | 102 => ⟨S1024, .f32⟩
  | 103 => ⟨S1x1024, .f32⟩
  | 104 => ⟨S8192x1024, .f32⟩
  | 105 => ⟨S8192x1024, .f32⟩
  | 106 => ⟨S8192x1024, .f32⟩
  | 107 => ⟨S_, .f32⟩
  | 108 => ⟨S8192, .f32⟩
  | 109 => ⟨S8192x1, .f32⟩
  | 110 => ⟨S8192x1024, .f32⟩
  | 111 => ⟨S8192x1024, .f32⟩
  | 112 => ⟨S8192x1, .f32⟩
  | 113 => ⟨S8192x1024, .f32⟩
  | 114 => ⟨S_, .f32⟩
  | 115 => ⟨S8192, .f32⟩
  | 116 => ⟨S8192x1, .f32⟩
  | 117 => ⟨S_, .f32⟩
  | 118 => ⟨S8192x1, .f32⟩
  | 119 => ⟨S8192x1, .f32⟩
  | 120 => ⟨S_, .f32⟩
  | 121 => ⟨S8192, .f32⟩
  | 122 => ⟨S8192x1024, .f32⟩
  | 123 => ⟨S8192x1024, .f32⟩
  | 124 => ⟨S8192x1024, .f32⟩
  | 125 => ⟨S_, .f32⟩
  | 126 => ⟨S8192, .f32⟩
  | 127 => ⟨S8192x1, .f32⟩
  | _ => ⟨S8192x1024, .f32⟩

abbrev hbmTy0_1 (i : Nat) : BufTy := match i % 128 with
  | 0 => ⟨S8192x1024, .f32⟩
  | 1 => ⟨S8192x1, .f32⟩
  | 2 => ⟨S_, .f32⟩
  | 3 => ⟨S8192x1, .f32⟩
  | 4 => ⟨S8192x1, .f32⟩
  | 5 => ⟨S_, .f32⟩
  | 6 => ⟨S8192, .f32⟩
  | 7 => ⟨S8192x1024, .f32⟩
  | 8 => ⟨S8192x1024, .f32⟩
  | 9 => ⟨S8192x1024, .f32⟩
  | 10 => ⟨S8192x1024, .f32⟩
  | 11 => ⟨S8192x1024, .f32⟩
  | 12 => ⟨S_, .f32⟩
  | 13 => ⟨S1024, .f32⟩
  | 14 => ⟨S1x1024, .f32⟩
  | 15 => ⟨S_, .f32⟩
  | 16 => ⟨S8192x1024, .f32⟩
  | 17 => ⟨S8192x1024, .f32⟩
  | 18 => ⟨S8192x4096, .f32⟩
  | 19 => ⟨S8192x4096, .f32⟩
  | 20 => ⟨S_, .f32⟩
  | 21 => ⟨S8192x4096, .f32⟩
  | 22 => ⟨S8192x4096, .f32⟩
  | 23 => ⟨S8192x1024, .f32⟩
  | 24 => ⟨S_, .f32⟩
  | 25 => ⟨S1024, .f32⟩
  | 26 => ⟨S1x1024, .f32⟩
  | 27 => ⟨S8192x1024, .f32⟩
  | 28 => ⟨S_, .f32⟩
  | 29 => ⟨S1024, .f32⟩
  | 30 => ⟨S1x1024, .f32⟩
  | 31 => ⟨S8192x1024, .f32⟩
  | 32 => ⟨S8192x1024, .f32⟩
  | 33 => ⟨S1x1024, .f32⟩
  | 34 => ⟨S_, .f32⟩
  | 35 => ⟨S2x1024, .f32⟩
  | 36 => ⟨S8x1024, .f32⟩
  | 37 => ⟨S8192x1024, .f32⟩
  | 38 => ⟨S8192x4x1024, .f32⟩
  | 39 => ⟨S4x8192x1024, .f32⟩
  | 40 => ⟨S4x8192x1024, .bf16⟩
  | 41 => ⟨S8192x4x1024, .f32⟩
  | 42 => ⟨S4x8192x1024, .f32⟩
  | 43 => ⟨S4x8192x1024, .bf16⟩
  | 44 => ⟨S8192x1024, .bf16⟩
  | 45 => ⟨S8192x1024, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_call0_cst : Ref sig .tc := ⟨.hbm, 18, rfl⟩
abbrev main_call0_v0 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_5 : Ref sig .tc := ⟨.hbm, 40, rfl⟩
abbrev main_v25 : Ref sig .tc := ⟨.hbm, 41, rfl⟩
abbrev main_v26 : Ref sig .tc := ⟨.hbm, 42, rfl⟩
abbrev main_cst_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_7 : Ref sig .tc := ⟨.hbm, 49, rfl⟩
abbrev main_v32 : Ref sig .tc := ⟨.hbm, 50, rfl⟩
abbrev main_v33 : Ref sig .tc := ⟨.hbm, 51, rfl⟩
abbrev main_cst_8 : Ref sig .tc := ⟨.hbm, 52, rfl⟩
abbrev main_v34 : Ref sig .tc := ⟨.hbm, 53, rfl⟩
abbrev main_v35 : Ref sig .tc := ⟨.hbm, 54, rfl⟩
abbrev main_cst_9 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_10 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_11 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_12 : Ref sig .tc := ⟨.hbm, 76, rfl⟩
abbrev main_v54 : Ref sig .tc := ⟨.hbm, 77, rfl⟩
abbrev main_v55 : Ref sig .tc := ⟨.hbm, 78, rfl⟩
abbrev main_cst_13 : Ref sig .tc := ⟨.hbm, 79, rfl⟩
abbrev main_v56 : Ref sig .tc := ⟨.hbm, 80, rfl⟩
abbrev main_cst_14 : Ref sig .tc := ⟨.hbm, 81, rfl⟩
abbrev main_v57 : Ref sig .tc := ⟨.hbm, 82, rfl⟩
abbrev main_v58 : Ref sig .tc := ⟨.hbm, 83, rfl⟩
abbrev main_cst_15 : Ref sig .tc := ⟨.hbm, 84, rfl⟩
abbrev main_v59 : Ref sig .tc := ⟨.hbm, 85, rfl⟩
abbrev main_cst_16 : Ref sig .tc := ⟨.hbm, 86, rfl⟩
abbrev main_v60 : Ref sig .tc := ⟨.hbm, 87, rfl⟩
abbrev main_cst_17 : Ref sig .tc := ⟨.hbm, 88, rfl⟩
abbrev main_cst_18 : Ref sig .tc := ⟨.hbm, 89, rfl⟩
abbrev main_v61 : Ref sig .tc := ⟨.hbm, 90, rfl⟩
abbrev main_v62 : Ref sig .tc := ⟨.hbm, 91, rfl⟩
abbrev main_cst_19 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_20 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_cst_21 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_cst_22 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_cst_23 : Ref sig .tc := ⟨.hbm, 114, rfl⟩
abbrev main_v81 : Ref sig .tc := ⟨.hbm, 115, rfl⟩
abbrev main_v82 : Ref sig .tc := ⟨.hbm, 116, rfl⟩
abbrev main_cst_24 : Ref sig .tc := ⟨.hbm, 117, rfl⟩
abbrev main_v83 : Ref sig .tc := ⟨.hbm, 118, rfl⟩
abbrev main_v84 : Ref sig .tc := ⟨.hbm, 119, rfl⟩
abbrev main_cst_25 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_cst_26 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_cst_27 : Ref sig .tc := ⟨.hbm, 130, rfl⟩
abbrev main_v93 : Ref sig .tc := ⟨.hbm, 131, rfl⟩
abbrev main_v94 : Ref sig .tc := ⟨.hbm, 132, rfl⟩
abbrev main_cst_28 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_cst_29 : Ref sig .tc := ⟨.hbm, 140, rfl⟩
abbrev main_v101 : Ref sig .tc := ⟨.hbm, 141, rfl⟩
abbrev main_v102 : Ref sig .tc := ⟨.hbm, 142, rfl⟩
abbrev main_cst_30 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_cst_31 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_cst_32 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_cst_33 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_cst_34 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩

abbrev nD : Nat := 1
abbrev τ : Topo := Topo.v7x

variable {F : FTy → Type} [FloatOps F]
-- ==== Kernel3.lean ====
abbrev S8x1024 : Shape := ⟨2, ![8, 1024]⟩
abbrev S8x1536 : Shape := ⟨2, ![8, 1536]⟩
abbrev S1024x1536 : Shape := ⟨2, ![1024, 1536]⟩
abbrev S_ : Shape := ⟨0, ![]⟩
abbrev S8x128 : Shape := ⟨2, ![8, 128]⟩
abbrev S128x1536 : Shape := ⟨2, ![128, 1536]⟩

abbrev nBuf : Space → Nat
  | .hbm => 11
  | .vmem => 17
  | .smem => 0
  | _ => 0

abbrev bufTy : (tb : Table) → Fin (tcTables nBuf tb) → BufTy
  | .hbm, ⟨0, _⟩ => ⟨S8x1024, .f32⟩
  | .hbm, ⟨1, _⟩ => ⟨S8x1536, .f32⟩
  | .hbm, ⟨2, _⟩ => ⟨S1024x1536, .f32⟩
  | .hbm, ⟨3, _⟩ => ⟨S1024x1536, .f32⟩
  | .hbm, ⟨4, _⟩ => ⟨S1024x1536, .f32⟩
  | .hbm, ⟨5, _⟩ => ⟨S_, .f32⟩
  | .hbm, ⟨6, _⟩ => ⟨S8x128, .f32⟩
  | .hbm, ⟨7, _⟩ => ⟨S1024x1536, .f32⟩
  | .hbm, ⟨8, _⟩ => ⟨S1024x1536, .f32⟩
  | .hbm, ⟨9, _⟩ => ⟨S1024x1536, .f32⟩
  | .hbm, ⟨10, _⟩ => ⟨S1024x1536, .f32⟩
  | .local _ .vmem, ⟨0, _⟩ => ⟨S8x128, .f32⟩
  | .local _ .vmem, ⟨1, _⟩ => ⟨S8x128, .f32⟩
  | .local _ .vmem, ⟨2, _⟩ => ⟨S8x1536, .f32⟩
  | .local _ .vmem, ⟨3, _⟩ => ⟨S128x1536, .f32⟩
  | .local _ .vmem, ⟨4, _⟩ => ⟨S128x1536, .f32⟩
  | .local _ .vmem, ⟨5, _⟩ => ⟨S128x1536, .f32⟩
  | .local _ .vmem, ⟨6, _⟩ => ⟨S128x1536, .f32⟩
  | .local _ .vmem, ⟨7, _⟩ => ⟨S128x1536, .f32⟩
  | .local _ .vmem, ⟨8, _⟩ => ⟨S128x1536, .f32⟩
  | .local _ .vmem, ⟨9, _⟩ => ⟨S128x1536, .f32⟩
  | .local _ .vmem, ⟨10, _⟩ => ⟨S128x1536, .f32⟩
  | .local _ .vmem, ⟨11, _⟩ => ⟨S128x1536, .f32⟩
  | .local _ .vmem, ⟨12, _⟩ => ⟨S128x1536, .f32⟩
  | .local _ .vmem, ⟨13, _⟩ => ⟨S128x1536, .f32⟩
  | .local _ .vmem, ⟨14, _⟩ => ⟨S128x1536, .f32⟩
  | .local _ .vmem, ⟨15, _⟩ => ⟨S128x1536, .f32⟩
  | .local _ .vmem, ⟨16, _⟩ => ⟨S128x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S8x1024 : Shape := ⟨2, ![8, 1024]⟩
abbrev S8x1536 : Shape := ⟨2, ![8, 1536]⟩
abbrev S1024x1536 : Shape := ⟨2, ![1024, 1536]⟩
abbrev S1536x1024 : Shape := ⟨2, ![1536, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x1536, .f32⟩
  | .hbm, ⟨2, _⟩ => ⟨S1024x1536, .f32⟩
  | .hbm, ⟨3, _⟩ => ⟨S1024x1536, .f32⟩
  | .hbm, ⟨4, _⟩ => ⟨S1024x1536, .f32⟩
  | .hbm, ⟨5, _⟩ => ⟨S8x1536, .f32⟩
  | .hbm, ⟨6, _⟩ => ⟨S1536x1024, .f32⟩
  | .hbm, ⟨7, _⟩ => ⟨S1024x1536, .f32⟩
  | .hbm, ⟨8, _⟩ => ⟨S_, .f32⟩
  | .hbm, ⟨9, _⟩ => ⟨S1024x1536, .f32⟩
  | .hbm, ⟨10, _⟩ => ⟨S1024x1536, .f32⟩
  | .hbm, ⟨11, _⟩ => ⟨S_, .f32⟩
  | .hbm, ⟨12, _⟩ => ⟨S1024x1536, .f32⟩
  | .hbm, ⟨13, _⟩ => ⟨S1024x1536, .f32⟩
  | .hbm, ⟨14, _⟩ => ⟨S1024x1536, .f32⟩
  | .hbm, ⟨15, _⟩ => ⟨S_, .f32⟩
  | .hbm, ⟨16, _⟩ => ⟨S1024x1536, .f32⟩
  | .hbm, ⟨17, _⟩ => ⟨S1024x1536, .f32⟩
  | .hbm, ⟨18, _⟩ => ⟨S1024x1536, .f32⟩
  | .hbm, ⟨19, _⟩ => ⟨S_, .f32⟩
  | .hbm, ⟨20, _⟩ => ⟨S1024x1536, .f32⟩
  | .hbm, ⟨21, _⟩ => ⟨S1024x1536, .f32⟩
  | .hbm, ⟨22, _⟩ => ⟨S1024x1536, .f32⟩
  | .hbm, ⟨23, _⟩ => ⟨S_, .f32⟩
  | .hbm, ⟨24, _⟩ => ⟨S1024x1536, .f32⟩
  | .hbm, ⟨25, _⟩ => ⟨S1024x1536, .f32⟩
  | .hbm, ⟨26, _⟩ => ⟨S_, .f32⟩
  | .hbm, ⟨27, _⟩ => ⟨S1024x1536, .f32⟩
  | .hbm, ⟨28, _⟩ => ⟨S1024x1536, .f32⟩
  | .hbm, ⟨29, _⟩ => ⟨S1024x1536, .f32⟩
  | .hbm, ⟨30, _⟩ => ⟨S_, .f32⟩
  | .hbm, ⟨31, _⟩ => ⟨S1024x1536, .f32⟩
  | .hbm, ⟨32, _⟩ => ⟨S1024x1536, .f32⟩
  | .hbm, ⟨33, _⟩ => ⟨S1024x1536, .f32⟩
  | .hbm, ⟨34, _⟩ => ⟨S_, .f32⟩
  | .hbm, ⟨35, _⟩ => ⟨S1024x1536, .f32⟩
  | .hbm, ⟨36, _⟩ => ⟨S1024x1536, .f32⟩
  | .hbm, ⟨37, _⟩ => ⟨S1024x1536, .f32⟩
  | .hbm, ⟨38, _⟩ => ⟨S_, .f32⟩
  | .hbm, ⟨39, _⟩ => ⟨S1024x1536, .f32⟩
  | .hbm, ⟨40, _⟩ => ⟨S1024x1536, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel4.lean ====
abbrev S1024x1024 : Shape := ⟨2, ![1024, 1024]⟩
abbrev S256x1024 : Shape := ⟨2, ![256, 1024]⟩

abbrev nBuf : Space → Nat
  | .hbm => 14
  | .vmem => 28
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | .local _ .vmem, ⟨25, _⟩ => ⟨S256x1024, .f32⟩
  | .local _ .vmem, ⟨26, _⟩ => ⟨S256x1024, .f32⟩
  | .local _ .vmem, ⟨27, _⟩ => ⟨S256x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Kernel4Ideal.lean ====
abbrev S1024x1024 : Shape := ⟨2, ![1024, 1024]⟩
abbrev S256x1024 : Shape := ⟨2, ![256, 1024]⟩

abbrev nBuf : Space → Nat
  | .hbm => 14
  | .vmem => 28
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | .local _ .vmem, ⟨25, _⟩ => ⟨S256x1024, .f32⟩
  | .local _ .vmem, ⟨26, _⟩ => ⟨S256x1024, .f32⟩
  | .local _ .vmem, ⟨27, _⟩ => ⟨S256x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference4Ideal.lean ====
abbrev S1024x1024 : Shape := ⟨2, ![1024, 1024]⟩
abbrev S_ : Shape := ⟨0, ![]⟩

abbrev nBuf : Space → Nat
  | .hbm => 74
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S_, .f32⟩
  | .hbm, ⟨9, _⟩ => ⟨S1024x1024, .f32⟩
  | .hbm, ⟨10, _⟩ => ⟨S1024x1024, .f32⟩
  | .hbm, ⟨11, _⟩ => ⟨S_, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S_, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S_, .f32⟩
  | .hbm, ⟨20, _⟩ => ⟨S1024x1024, .f32⟩
  | .hbm, ⟨21, _⟩ => ⟨S1024x1024, .f32⟩
  | .hbm, ⟨22, _⟩ => ⟨S1024x1024, .f32⟩
  | .hbm, ⟨23, _⟩ => ⟨S_, .f32⟩
  | .hbm, ⟨24, _⟩ => ⟨S1024x1024, .f32⟩
  | .hbm, ⟨25, _⟩ => ⟨S1024x1024, .f32⟩
  | .hbm, ⟨26, _⟩ => ⟨S_, .f32⟩
  | .hbm, ⟨27, _⟩ => ⟨S1024x1024, .f32⟩
  | .hbm, ⟨28, _⟩ => ⟨S1024x1024, .f32⟩
  | .hbm, ⟨29, _⟩ => ⟨S1024x1024, .f32⟩
  | .hbm, ⟨30, _⟩ => ⟨S_, .f32⟩
  | .hbm, ⟨31, _⟩ => ⟨S1024x1024, .f32⟩
  | .hbm, ⟨32, _⟩ => ⟨S1024x1024, .f32⟩
  | .hbm, ⟨33, _⟩ => ⟨S1024x1024, .f32⟩
  | .hbm, ⟨34, _⟩ => ⟨S_, .f32⟩
  | .hbm, ⟨35, _⟩ => ⟨S1024x1024, .f32⟩
  | .hbm, ⟨36, _⟩ => ⟨S1024x1024, .f32⟩
  | .hbm, ⟨37, _⟩ => ⟨S1024x1024, .f32⟩
  | .hbm, ⟨38, _⟩ => ⟨S_, .f32⟩
  | .hbm, ⟨39, _⟩ => ⟨S1024x1024, .f32⟩
  | .hbm, ⟨40, _⟩ => ⟨S1024x1024, .f32⟩
  | .hbm, ⟨41, _⟩ => ⟨S_, .f32⟩
  | .hbm, ⟨42, _⟩ => ⟨S1024x1024, .f32⟩
  | .hbm, ⟨43, _⟩ => ⟨S1024x1024, .f32⟩
  | .hbm, ⟨44, _⟩ => ⟨S_, .f32⟩
  | .hbm, ⟨45, _⟩ => ⟨S1024x1024, .f32⟩
  | .hbm, ⟨46, _⟩ => ⟨S1024x1024, .f32⟩
  | .hbm, ⟨47, _⟩ => ⟨S1024x1024, .f32⟩
  | .hbm, ⟨48, _⟩ => ⟨S_, .f32⟩
  | .hbm, ⟨49, _⟩ => ⟨S1024x1024, .f32⟩
  | .hbm, ⟨50, _⟩ => ⟨S1024x1024, .f32⟩
  | .hbm, ⟨51, _⟩ => ⟨S1024x1024, .f32⟩
  | .hbm, ⟨52, _⟩ => ⟨S_, .f32⟩
  | .hbm, ⟨53, _⟩ => ⟨S1024x1024, .f32⟩
  | .hbm, ⟨54, _⟩ => ⟨S1024x1024, .f32⟩
  | .hbm, ⟨55, _⟩ => ⟨S1024x1024, .f32⟩
  | .hbm, ⟨56, _⟩ => ⟨S_, .f32⟩
  | .hbm, ⟨57, _⟩ => ⟨S1024x1024, .f32⟩
  | .hbm, ⟨58, _⟩ => ⟨S1024x1024, .f32⟩
  | .hbm, ⟨59, _⟩ => ⟨S_, .f32⟩
  | .hbm, ⟨60, _⟩ => ⟨S1024x1024, .f32⟩
  | .hbm, ⟨61, _⟩ => ⟨S1024x1024, .f32⟩
  | .hbm, ⟨62, _⟩ => ⟨S1024x1024, .f32⟩
  | .hbm, ⟨63, _⟩ => ⟨S_, .f32⟩
  | .hbm, ⟨64, _⟩ => ⟨S1024x1024, .f32⟩
  | .hbm, ⟨65, _⟩ => ⟨S1024x1024, .f32⟩
  | .hbm, ⟨66, _⟩ => ⟨S1024x1024, .f32⟩
  | .hbm, ⟨67, _⟩ => ⟨S_, .f32⟩
  | .hbm, ⟨68, _⟩ => ⟨S1024x1024, .f32⟩
  | .hbm, ⟨69, _⟩ => ⟨S1024x1024, .f32⟩
  | .hbm, ⟨70, _⟩ => ⟨S1024x1024, .f32⟩
  | .hbm, ⟨71, _⟩ => ⟨S_, .f32⟩
  | .hbm, ⟨72, _⟩ => ⟨S1024x1024, .f32⟩
  | .hbm, ⟨73, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_6 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_7 : Ref sig .tc := ⟨.hbm, 38, rfl⟩
abbrev main_v22 : Ref sig .tc := ⟨.hbm, 39, rfl⟩
abbrev main_v23 : Ref sig .tc := ⟨.hbm, 40, rfl⟩
abbrev main_cst_8 : Ref sig .tc := ⟨.hbm, 41, rfl⟩
abbrev main_v24 : Ref sig .tc := ⟨.hbm, 42, rfl⟩
abbrev main_v25 : Ref sig .tc := ⟨.hbm, 43, rfl⟩
abbrev main_cst_9 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_10 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_11 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_12 : Ref sig .tc := ⟨.hbm, 56, rfl⟩
abbrev main_v35 : Ref sig .tc := ⟨.hbm, 57, rfl⟩
abbrev main_v36 : Ref sig .tc := ⟨.hbm, 58, rfl⟩
abbrev main_cst_13 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_14 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_15 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_16 : Ref sig .tc := ⟨.hbm, 71, rfl⟩
abbrev main_v46 : Ref sig .tc := ⟨.hbm, 72, rfl⟩
abbrev main_v47 : Ref sig .tc := ⟨.hbm, 73, rfl⟩

abbrev nD : Nat := 1
abbrev τ : Topo := Topo.v7x

variable {F : FTy → Type} [FloatOps F]
-- ==== Kernel5.lean ====
abbrev S1024x512 : Shape := ⟨2, ![1024, 512]⟩
abbrev S256x1024 : Shape := ⟨2, ![256, 1024]⟩
abbrev S256x512 : Shape := ⟨2, ![256, 512]⟩
abbrev S64x1024 : Shape := ⟨2, ![64, 1024]⟩

abbrev nBuf : Space → Nat
  | .hbm => 14
  | .vmem => 28
  | .smem => 0
  | _ => 0

abbrev bufTy : (tb : Table) → Fin (tcTables nBuf tb) → BufTy
  | .hbm, ⟨0, _⟩ => ⟨S1024x512, .f32⟩
  | .hbm, ⟨1, _⟩ => ⟨S256x1024, .f32⟩
  | .hbm, ⟨2, _⟩ => ⟨S1024x512, .f32⟩
  | .hbm, ⟨3, _⟩ => ⟨S256x1024, .f32⟩
  | .hbm, ⟨4, _⟩ => ⟨S1024x512, .f32⟩
  | .hbm, ⟨5, _⟩ => ⟨S256x1024, .f32⟩
  | .hbm, ⟨6, _⟩ => ⟨S1024x512, .f32⟩
  | .hbm, ⟨7, _⟩ => ⟨S256x1024, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S256x1024, .f32⟩
  | .hbm, ⟨12, _⟩ => ⟨S256x1024, .f32⟩
  | .hbm, ⟨13, _⟩ => ⟨S256x1024, .f32⟩
  | .local _ .vmem, ⟨0, _⟩ => ⟨S256x512, .f32⟩
  | .local _ .vmem, ⟨1, _⟩ => ⟨S256x512, .f32⟩
  | .local _ .vmem, ⟨2, _⟩ => ⟨S64x1024, .f32⟩
  | .local _ .vmem, ⟨3, _⟩ => ⟨S64x1024, .f32⟩
  | .local _ .vmem, ⟨4, _⟩ => ⟨S256x512, .f32⟩
  | .local _ .vmem, ⟨5, _⟩ => ⟨S256x512, .f32⟩
  | .local _ .vmem, ⟨6, _⟩ => ⟨S64x1024, .f32⟩
  | .local _ .vmem, ⟨7, _⟩ => ⟨S64x1024, .f32⟩
  | .local _ .vmem, ⟨8, _⟩ => ⟨S256x512, .f32⟩
  | .local _ .vmem, ⟨9, _⟩ => ⟨S256x512, .f32⟩
  | .local _ .vmem, ⟨10, _⟩ => ⟨S64x1024, .f32⟩
  | .local _ .vmem, ⟨11, _⟩ => ⟨S64x1024, .f32⟩
  | .local _ .vmem, ⟨12, _⟩ => ⟨S256x512, .f32⟩
  | .local _ .vmem, ⟨13, _⟩ => ⟨S256x512, .f32⟩
  | .local _ .vmem, ⟨14, _⟩ => ⟨S64x1024, .f32⟩
  | .local _ .vmem, ⟨15, _⟩ => ⟨S64x1024, .f32⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S256x512, .f32⟩
  | .local _ .vmem, ⟨20, _⟩ => ⟨S256x512, .f32⟩
  | .local _ .vmem, ⟨21, _⟩ => ⟨S256x512, .f32⟩
  | .local _ .vmem, ⟨22, _⟩ => ⟨S64x1024, .f32⟩
  | .local _ .vmem, ⟨23, _⟩ => ⟨S64x1024, .f32⟩
  | .local _ .vmem, ⟨24, _⟩ => ⟨S64x1024, .f32⟩
  | .local _ .vmem, ⟨25, _⟩ => ⟨S64x1024, .f32⟩
  | .local _ .vmem, ⟨26, _⟩ => ⟨S64x1024, .f32⟩
  | .local _ .vmem, ⟨27, _⟩ => ⟨S64x1024, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S64x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S64x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S64x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference5Ideal.lean ====
abbrev S1024x512 : Shape := ⟨2, ![1024, 512]⟩
abbrev S256x1024 : Shape := ⟨2, ![256, 1024]⟩
abbrev S_ : Shape := ⟨0, ![]⟩

abbrev nBuf : Space → Nat
  | .hbm => 74
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S256x1024, .f32⟩
  | .hbm, ⟨2, _⟩ => ⟨S1024x512, .f32⟩
  | .hbm, ⟨3, _⟩ => ⟨S256x1024, .f32⟩
  | .hbm, ⟨4, _⟩ => ⟨S1024x512, .f32⟩
  | .hbm, ⟨5, _⟩ => ⟨S256x1024, .f32⟩
  | .hbm, ⟨6, _⟩ => ⟨S1024x512, .f32⟩
  | .hbm, ⟨7, _⟩ => ⟨S256x1024, .f32⟩
  | .hbm, ⟨8, _⟩ => ⟨S_, .f32⟩
  | .hbm, ⟨9, _⟩ => ⟨S1024x512, .f32⟩
  | .hbm, ⟨10, _⟩ => ⟨S1024x512, .f32⟩
  | .hbm, ⟨11, _⟩ => ⟨S_, .f32⟩
  | .hbm, ⟨12, _⟩ => ⟨S1024x512, .f32⟩
  | .hbm, ⟨13, _⟩ => ⟨S1024x512, .f32⟩
  | .hbm, ⟨14, _⟩ => ⟨S1024x512, .f32⟩
  | .hbm, ⟨15, _⟩ => ⟨S_, .f32⟩
  | .hbm, ⟨16, _⟩ => ⟨S1024x512, .f32⟩
  | .hbm, ⟨17, _⟩ => ⟨S1024x512, .f32⟩
  | .hbm, ⟨18, _⟩ => ⟨S1024x512, .f32⟩
  | .hbm, ⟨19, _⟩ => ⟨S_, .f32⟩
  | .hbm, ⟨20, _⟩ => ⟨S1024x512, .f32⟩
  | .hbm, ⟨21, _⟩ => ⟨S1024x512, .f32⟩
  | .hbm, ⟨22, _⟩ => ⟨S1024x512, .f32⟩
  | .hbm, ⟨23, _⟩ => ⟨S_, .f32⟩
  | .hbm, ⟨24, _⟩ => ⟨S1024x512, .f32⟩
  | .hbm, ⟨25, _⟩ => ⟨S1024x512, .f32⟩
  | .hbm, ⟨26, _⟩ => ⟨S_, .f32⟩
  | .hbm, ⟨27, _⟩ => ⟨S1024x512, .f32⟩
  | .hbm, ⟨28, _⟩ => ⟨S1024x512, .f32⟩
  | .hbm, ⟨29, _⟩ => ⟨S1024x512, .f32⟩
  | .hbm, ⟨30, _⟩ => ⟨S_, .f32⟩
  | .hbm, ⟨31, _⟩ => ⟨S1024x512, .f32⟩
  | .hbm, ⟨32, _⟩ => ⟨S1024x512, .f32⟩
  | .hbm, ⟨33, _⟩ => ⟨S1024x512, .f32⟩
  | .hbm, ⟨34, _⟩ => ⟨S_, .f32⟩
  | .hbm, ⟨35, _⟩ => ⟨S1024x512, .f32⟩
  | .hbm, ⟨36, _⟩ => ⟨S1024x512, .f32⟩
  | .hbm, ⟨37, _⟩ => ⟨S1024x512, .f32⟩
  | .hbm, ⟨38, _⟩ => ⟨S_, .f32⟩
  | .hbm, ⟨39, _⟩ => ⟨S1024x512, .f32⟩
  | .hbm, ⟨40, _⟩ => ⟨S1024x512, .f32⟩
  | .hbm, ⟨41, _⟩ => ⟨S_, .f32⟩
  | .hbm, ⟨42, _⟩ => ⟨S256x1024, .f32⟩
  | .hbm, ⟨43, _⟩ => ⟨S256x1024, .f32⟩
  | .hbm, ⟨44, _⟩ => ⟨S_, .f32⟩
  | .hbm, ⟨45, _⟩ => ⟨S256x1024, .f32⟩
  | .hbm, ⟨46, _⟩ => ⟨S256x1024, .f32⟩
  | .hbm, ⟨47, _⟩ => ⟨S256x1024, .f32⟩
  | .hbm, ⟨48, _⟩ => ⟨S_, .f32⟩
  | .hbm, ⟨49, _⟩ => ⟨S256x1024, .f32⟩
  | .hbm, ⟨50, _⟩ => ⟨S256x1024, .f32⟩
  | .hbm, ⟨51, _⟩ => ⟨S256x1024, .f32⟩
  | .hbm, ⟨52, _⟩ => ⟨S_, .f32⟩
  | .hbm, ⟨53, _⟩ => ⟨S256x1024, .f32⟩
  | .hbm, ⟨54, _⟩ => ⟨S256x1024, .f32⟩
  | .hbm, ⟨55, _⟩ => ⟨S256x1024, .f32⟩
  | .hbm, ⟨56, _⟩ => ⟨S_, .f32⟩
  | .hbm, ⟨57, _⟩ => ⟨S256x1024, .f32⟩
  | .hbm, ⟨58, _⟩ => ⟨S256x1024, .f32⟩
  | .hbm, ⟨59, _⟩ => ⟨S_, .f32⟩
  | .hbm, ⟨60, _⟩ => ⟨S256x1024, .f32⟩
  | .hbm, ⟨61, _⟩ => ⟨S256x1024, .f32⟩
  | .hbm, ⟨62, _⟩ => ⟨S256x1024, .f32⟩
  | .hbm, ⟨63, _⟩ => ⟨S_, .f32⟩
  | .hbm, ⟨64, _⟩ => ⟨S256x1024, .f32⟩
  | .hbm, ⟨65, _⟩ => ⟨S256x1024, .f32⟩
  | .hbm, ⟨66, _⟩ => ⟨S256x1024, .f32⟩
  | .hbm, ⟨67, _⟩ => ⟨S_, .f32⟩
  | .hbm, ⟨68, _⟩ => ⟨S256x1024, .f32⟩
  | .hbm, ⟨69, _⟩ => ⟨S256x1024, .f32⟩
  | .hbm, ⟨70, _⟩ => ⟨S256x1024, .f32⟩
  | .hbm, ⟨71, _⟩ => ⟨S_, .f32⟩
  | .hbm, ⟨72, _⟩ => ⟨S256x1024, .f32⟩
  | .hbm, ⟨73, _⟩ => ⟨S256x1024, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_6 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_7 : Ref sig .tc := ⟨.hbm, 38, rfl⟩
abbrev main_v22 : Ref sig .tc := ⟨.hbm, 39, rfl⟩
abbrev main_v23 : Ref sig .tc := ⟨.hbm, 40, rfl⟩
abbrev main_cst_8 : Ref sig .tc := ⟨.hbm, 41, rfl⟩
abbrev main_v24 : Ref sig .tc := ⟨.hbm, 42, rfl⟩
abbrev main_v25 : Ref sig .tc := ⟨.hbm, 43, rfl⟩
abbrev main_cst_9 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_10 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_11 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_12 : Ref sig .tc := ⟨.hbm, 56, rfl⟩
abbrev main_v35 : Ref sig .tc := ⟨.hbm, 57, rfl⟩
abbrev main_v36 : Ref sig .tc := ⟨.hbm, 58, rfl⟩
abbrev main_cst_13 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_14 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_15 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_16 : Ref sig .tc := ⟨.hbm, 71, rfl⟩
abbrev main_v46 : Ref sig .tc := ⟨.hbm, 72, rfl⟩
abbrev main_v47 : Ref sig .tc := ⟨.hbm, 73, rfl⟩

abbrev nD : Nat := 1
abbrev τ : Topo := Topo.v7x

variable {F : FTy → Type} [FloatOps F]
-- ==== Kernel6.lean ====
abbrev S2 : Shape := ⟨1, ![2]⟩
abbrev S8x1024 : Shape := ⟨2, ![8, 1024]⟩
abbrev S8x512 : Shape := ⟨2, ![8, 512]⟩
abbrev S1x6144 : Shape := ⟨2, ![1, 6144]⟩
abbrev S4x128x128 : Shape := ⟨3, ![4, 128, 128]⟩
abbrev S3x128 : Shape := ⟨2, ![3, 128]⟩
abbrev S1x512 : Shape := ⟨2, ![1, 512]⟩
abbrev S1x1024 : Shape := ⟨2, ![1, 1024]⟩
abbrev S512x128 : Shape := ⟨2, ![512, 128]⟩
abbrev S1 : Shape := ⟨1, ![1]⟩

abbrev nBuf : Space → Nat
  | .hbm => 64
  | .vmem => 59
  | .smem => 1
  | _ => 0

abbrev bufTy : (tb : Table) → Fin (tcTables nBuf tb) → BufTy
  | .hbm, ⟨0, _⟩ => ⟨S2, .i32⟩
  | .hbm, ⟨1, _⟩ => ⟨S8x1024, .f32⟩
  | .hbm, ⟨2, _⟩ => ⟨S8x1024, .f32⟩
  | .hbm, ⟨3, _⟩ => ⟨S8x512, .f32⟩
  | .hbm, ⟨4, _⟩ => ⟨S1x6144, .f32⟩
  | .hbm, ⟨5, _⟩ => ⟨S4x128x128, .f32⟩
  | .hbm, ⟨6, _⟩ => ⟨S1x6144, .f32⟩
  | .hbm, ⟨7, _⟩ => ⟨S3x128, .f32⟩
  | .hbm, ⟨8, _⟩ => ⟨S4x128x128, .f32⟩
  | .hbm, ⟨9, _⟩ => ⟨S1x512, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x6144, .f32⟩
  | .hbm, ⟨15, _⟩ => ⟨S3x128, .f32⟩
  | .hbm, ⟨16, _⟩ => ⟨S4x128x128, .f32⟩
  | .hbm, ⟨17, _⟩ => ⟨S1x512, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S1x6144, .f32⟩
  | .hbm, ⟨23, _⟩ => ⟨S3x128, .f32⟩
  | .hbm, ⟨24, _⟩ => ⟨S4x128x128, .f32⟩
  | .hbm, ⟨25, _⟩ => ⟨S1x512, .f32⟩
  | .hbm, ⟨26, _⟩ => ⟨S1x1024, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S512x128, .f32⟩
  | .hbm, ⟨31, _⟩ => ⟨S512x128, .f32⟩
  | .hbm, ⟨32, _⟩ => ⟨S512x128, .f32⟩
  | .hbm, ⟨33, _⟩ => ⟨S512x128, .f32⟩
  | .hbm, ⟨34, _⟩ => ⟨S3x128, .f32⟩
  | .hbm, ⟨35, _⟩ => ⟨S1x512, .f32⟩
  | .hbm, ⟨36, _⟩ => ⟨S1x1024, .f32⟩
  | .hbm, ⟨37, _⟩ => ⟨S1x1024, .f32⟩
  | .hbm, ⟨38, _⟩ => ⟨S1x1024, .f32⟩
  | .hbm, ⟨39, _⟩ => ⟨S1x1024, .f32⟩
  | .hbm, ⟨40, _⟩ => ⟨S1x6144, .f32⟩
  | .hbm, ⟨41, _⟩ => ⟨S3x128, .f32⟩
  | .hbm, ⟨42, _⟩ => ⟨S512x128, .f32⟩
  | .hbm, ⟨43, _⟩ => ⟨S1x512, .f32⟩
  | .hbm, ⟨44, _⟩ => ⟨S1x1024, .f32⟩
  | .hbm, ⟨45, _⟩ => ⟨S1x1024, .f32⟩
  | .hbm, ⟨46, _⟩ => ⟨S1x1024, .f32⟩
  | .hbm, ⟨47, _⟩ => ⟨S1x1024, .f32⟩
  | .hbm, ⟨48, _⟩ => ⟨S1x6144, .f32⟩
  | .hbm, ⟨49, _⟩ => ⟨S3x128, .f32⟩
  | .hbm, ⟨50, _⟩ => ⟨S512x128, .f32⟩
  | .hbm, ⟨51, _⟩ => ⟨S1x512, .f32⟩
  | .hbm, ⟨52, _⟩ => ⟨S1x1024, .f32⟩
  | .hbm, ⟨53, _⟩ => ⟨S1x1024, .f32⟩
  | .hbm, ⟨54, _⟩ => ⟨S1x1024, .f32⟩
  | .hbm, ⟨55, _⟩ => ⟨S1x1024, .f32⟩
  | .hbm, ⟨56, _⟩ => ⟨S1x6144, .f32⟩
  | .hbm, ⟨57, _⟩ => ⟨S3x128, .f32⟩
  | .hbm, ⟨58, _⟩ => ⟨S512x128, .f32⟩
  | .hbm, ⟨59, _⟩ => ⟨S1x512, .f32⟩
  | .hbm, ⟨60, _⟩ => ⟨S1x1024, .f32⟩
  | .hbm, ⟨61, _⟩ => ⟨S1x1024, .f32⟩
  | .hbm, ⟨62, _⟩ => ⟨S1x1024, .f32⟩
  | .hbm, ⟨63, _⟩ => ⟨S1x1024, .f32⟩
  | .local _ .vmem, ⟨0, _⟩ => ⟨S8x1024, .f32⟩
  | .local _ .vmem, ⟨1, _⟩ => ⟨S8x1024, .f32⟩
  | .local _ .vmem, ⟨2, _⟩ => ⟨S8x512, .f32⟩
  | .local _ .vmem, ⟨3, _⟩ => ⟨S1x6144, .f32⟩
  | .local _ .vmem, ⟨4, _⟩ => ⟨S512x128, .f32⟩
  | .local _ .vmem, ⟨5, _⟩ => ⟨S1x6144, .f32⟩
  | .local _ .vmem, ⟨6, _⟩ => ⟨S3x128, .f32⟩
  | .local _ .vmem, ⟨7, _⟩ => ⟨S512x128, .f32⟩
  | .local _ .vmem, ⟨8, _⟩ => ⟨S1x512, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x6144, .f32⟩
  | .local _ .vmem, ⟨14, _⟩ => ⟨S3x128, .f32⟩
  | .local _ .vmem, ⟨15, _⟩ => ⟨S512x128, .f32⟩
  | .local _ .vmem, ⟨16, _⟩ => ⟨S1x512, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S1x6144, .f32⟩
  | .local _ .vmem, ⟨22, _⟩ => ⟨S3x128, .f32⟩
  | .local _ .vmem, ⟨23, _⟩ => ⟨S512x128, .f32⟩
  | .local _ .vmem, ⟨24, _⟩ => ⟨S1x512, .f32⟩
  | .local _ .vmem, ⟨25, _⟩ => ⟨S1x1024, .f32⟩
  | .local _ .vmem, ⟨26, _⟩ => ⟨S1x1024, .f32⟩
  | .local _ .vmem, ⟨27, _⟩ => ⟨S1x1024, .f32⟩
  | .local _ .vmem, ⟨28, _⟩ => ⟨S1x1024, .f32⟩
  | .local _ .vmem, ⟨29, _⟩ => ⟨S3x128, .f32⟩
  | .local _ .vmem, ⟨30, _⟩ => ⟨S1x512, .f32⟩
  | .local _ .vmem, ⟨31, _⟩ => ⟨S1x1024, .f32⟩
  | .local _ .vmem, ⟨32, _⟩ => ⟨S1x1024, .f32⟩
  | .local _ .vmem, ⟨33, _⟩ => ⟨S1x1024, .f32⟩
  | .local _ .vmem, ⟨34, _⟩ => ⟨S1x1024, .f32⟩
  | .local _ .vmem, ⟨35, _⟩ => ⟨S1x6144, .f32⟩
  | .local _ .vmem, ⟨36, _⟩ => ⟨S3x128, .f32⟩
  | .local _ .vmem, ⟨37, _⟩ => ⟨S512x128, .f32⟩
  | .local _ .vmem, ⟨38, _⟩ => ⟨S1x512, .f32⟩
  | .local _ .vmem, ⟨39, _⟩ => ⟨S1x1024, .f32⟩
  | .local _ .vmem, ⟨40, _⟩ => ⟨S1x1024, .f32⟩
  | .local _ .vmem, ⟨41, _⟩ => ⟨S1x1024, .f32⟩
  | .local _ .vmem, ⟨42, _⟩ => ⟨S1x1024, .f32⟩
  | .local _ .vmem, ⟨43, _⟩ => ⟨S1x6144, .f32⟩
  | .local _ .vmem, ⟨44, _⟩ => ⟨S3x128, .f32⟩
  | .local _ .vmem, ⟨45, _⟩ => ⟨S512x128, .f32⟩
  | .local _ .vmem, ⟨46, _⟩ => ⟨S1x512, .f32⟩
  | .local _ .vmem, ⟨47, _⟩ => ⟨S1x1024, .f32⟩
  | .local _ .vmem, ⟨48, _⟩ => ⟨S1x1024, .f32⟩
  | .local _ .vmem, ⟨49, _⟩ => ⟨S1x1024, .f32⟩
  | .local _ .vmem, ⟨50, _⟩ => ⟨S1x1024, .f32⟩
  | .local _ .vmem, ⟨51, _⟩ => ⟨S1x6144, .f32⟩
  | .local _ .vmem, ⟨52, _⟩ => ⟨S3x128, .f32⟩
  | .local _ .vmem, ⟨53, _⟩ => ⟨S512x128, .f32⟩
  | .local _ .vmem, ⟨54, _⟩ => ⟨S1x512, .f32⟩
  | .local _ .vmem, ⟨55, _⟩ => ⟨S1x1024, .f32⟩
  | .local _ .vmem, ⟨56, _⟩ => ⟨S1x1024, .f32⟩
  | .local _ .vmem, ⟨57, _⟩ => ⟨S1x1024, .f32⟩
  | .local _ .vmem, ⟨58, _⟩ => ⟨S1x1024, .f32⟩
  | .local _ .smem, ⟨0, _⟩ => ⟨S2, .i32⟩
  | _, _ => ⟨S2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .smem, ⟨0, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4_0 : Ref sig .tc := ⟨.hbm, 34, rfl⟩
abbrev main_v4_1 : Ref sig .tc := ⟨.hbm, 35, rfl⟩
abbrev main_v4_2 : Ref sig .tc := ⟨.hbm, 36, rfl⟩
abbrev main_v4_3 : Ref sig .tc := ⟨.hbm, 37, rfl⟩
abbrev main_v4_4 : Ref sig .tc := ⟨.hbm, 38, rfl⟩
abbrev main_v4_5 : Ref sig .tc := ⟨.hbm, 39, rfl⟩
abbrev main_v4_6 : Ref sig .tc := ⟨.hbm, 40, rfl⟩
abbrev main_v4_7 : Ref sig .tc := ⟨.hbm, 41, rfl⟩
abbrev main_v4_8 : Ref sig .tc := ⟨.hbm, 42, rfl⟩
abbrev main_v4_9 : Ref sig .tc := ⟨.hbm, 43, rfl⟩
abbrev main_v4_10 : Ref sig .tc := ⟨.hbm, 44, rfl⟩
abbrev main_v4_11 : Ref sig .tc := ⟨.hbm, 45, rfl⟩
abbrev main_v4_12 : Ref sig .tc := ⟨.hbm, 46, rfl⟩
abbrev main_v4_13 : Ref sig .tc := ⟨.hbm, 47, rfl⟩
abbrev main_v4_14 : Ref sig .tc := ⟨.hbm, 48, rfl⟩
abbrev main_v4_15 : Ref sig .tc := ⟨.hbm, 49, rfl⟩
abbrev main_v4_16 : Ref sig .tc := ⟨.hbm, 50, rfl⟩
abbrev main_v4_17 : Ref sig .tc := ⟨.hbm, 51, rfl⟩
abbrev main_v4_18 : Ref sig .tc := ⟨.hbm, 52, rfl⟩
abbrev main_v4_19 : Ref sig .tc := ⟨.hbm, 53, rfl⟩
abbrev main_v4_20 : Ref sig .tc := ⟨.hbm, 54, rfl⟩
abbrev main_v4_21 : Ref sig .tc := ⟨.hbm, 55, rfl⟩
abbrev main_v4_22 : Ref sig .tc := ⟨.hbm, 56, rfl⟩
abbrev main_v4_23 : Ref sig .tc := ⟨.hbm, 57, rfl⟩
abbrev main_v4_24 : Ref sig .tc := ⟨.hbm, 58, rfl⟩
abbrev main_v4_25 : Ref sig .tc := ⟨.hbm, 59, rfl⟩
abbrev main_v4_26 : Ref sig .tc := ⟨.hbm, 60, rfl⟩
abbrev main_v4_27 : Ref sig .tc := ⟨.hbm, 61, rfl⟩
abbrev main_v4_28 : Ref sig .tc := ⟨.hbm, 62, rfl⟩
abbrev main_v4_29 : Ref sig .tc := ⟨.hbm, 63, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg10_0 : Ref sig .tc := ⟨.vmem, 9, rfl⟩
abbrev cc0_stg11_0 : Ref sig .tc := ⟨.vmem, 10, rfl⟩
abbrev cc0_stg12_0 : Ref sig .tc := ⟨.vmem, 11, rfl⟩
abbrev cc0_stg13_0 : Ref sig .tc := ⟨.vmem, 12, rfl⟩
abbrev cc0_stg14_0 : Ref sig .tc := ⟨.vmem, 13, rfl⟩
abbrev cc0_stg15_0 : Ref sig .tc := ⟨.vmem, 14, rfl⟩
abbrev cc0_stg16_0 : Ref sig .tc := ⟨.vmem, 15, rfl⟩
abbrev cc0_stg17_0 : Ref sig .tc := ⟨.vmem, 16, rfl⟩
abbrev cc0_stg18_0 : Ref sig .tc := ⟨.vmem, 17, rfl⟩
abbrev cc0_stg19_0 : Ref sig .tc := ⟨.vmem, 18, rfl⟩
abbrev cc0_stg20_0 : Ref sig .tc := ⟨.vmem, 19, rfl⟩
abbrev cc0_stg21_0 : Ref sig .tc := ⟨.vmem, 20, rfl⟩
abbrev cc0_stg22_0 : Ref sig .tc := ⟨.vmem, 21, rfl⟩
abbrev cc0_stg23_0 : Ref sig .tc := ⟨.vmem, 22, rfl⟩
abbrev cc0_stg24_0 : Ref sig .tc := ⟨.vmem, 23, rfl⟩
abbrev cc0_stg25_0 : Ref sig .tc := ⟨.vmem, 24, rfl⟩
abbrev cc0_stg26_0 : Ref sig .tc := ⟨.vmem, 25, rfl⟩
abbrev cc0_stg27_0 : Ref sig .tc := ⟨.vmem, 26, rfl⟩
abbrev cc0_stg28_0 : Ref sig .tc := ⟨.vmem, 27, rfl⟩
abbrev cc0_stg29_0 : Ref sig .tc := ⟨.vmem, 28, rfl⟩
abbrev cc0_stg30_0 : Ref sig .tc := ⟨.vmem, 29, rfl⟩
abbrev cc0_stg31_0 : Ref sig .tc := ⟨.vmem, 30, rfl⟩
abbrev cc0_stg32_0 : Ref sig .tc := ⟨.vmem, 31, rfl⟩
abbrev cc0_stg33_0 : Ref sig .tc := ⟨.vmem, 32, rfl⟩
abbrev cc0_stg34_0 : Ref sig .tc := ⟨.vmem, 33, rfl⟩
abbrev cc0_stg35_0 : Ref sig .tc := ⟨.vmem, 34, rfl⟩
abbrev cc0_stg36_0 : Ref sig .tc := ⟨.vmem, 35, rfl⟩
abbrev cc0_stg37_0 : Ref sig .tc := ⟨.vmem, 36, rfl⟩
abbrev cc0_stg38_0 : Ref sig .tc := ⟨.vmem, 37, rfl⟩
abbrev cc0_stg39_0 : Ref sig .tc := ⟨.vmem, 38, rfl⟩
abbrev cc0_stg40_0 : Ref sig .tc := ⟨.vmem, 39, rfl⟩
abbrev cc0_stg41_0 : Ref sig .tc := ⟨.vmem, 40, rfl⟩
abbrev cc0_stg42_0 : Ref sig .tc := ⟨.vmem, 41, rfl⟩
abbrev cc0_stg43_0 : Ref sig .tc := ⟨.vmem, 42, rfl⟩
abbrev cc0_stg44_0 : Ref sig .tc := ⟨.vmem, 43, rfl⟩
abbrev cc0_stg45_0 : Ref sig .tc := ⟨.vmem, 44, rfl⟩
abbrev cc0_stg46_0 : Ref sig .tc := ⟨.vmem, 45, rfl⟩
abbrev cc0_stg47_0 : Ref sig .tc := ⟨.vmem, 46, rfl⟩
abbrev cc0_stg48_0 : Ref sig .tc := ⟨.vmem, 47, rfl⟩
abbrev cc0_stg49_0 : Ref sig .tc := ⟨.vmem, 48, rfl⟩
abbrev cc0_stg50_0 : Ref sig .tc := ⟨.vmem, 49, rfl⟩
abbrev cc0_stg51_0 : Ref sig .tc := ⟨.vmem, 50, rfl⟩
abbrev cc0_stg52_0 : Ref sig .tc := ⟨.vmem, 51, rfl⟩
abbrev cc0_stg53_0 : Ref sig .tc := ⟨.vmem, 52, rfl⟩
abbrev cc0_stg54_0 : Ref sig .tc := ⟨.vmem, 53, rfl⟩
abbrev cc0_stg55_0 : Ref sig .tc := ⟨.vmem, 54, rfl⟩
abbrev cc0_stg56_0 : Ref sig .tc := ⟨.vmem, 55, rfl⟩
abbrev cc0_stg57_0 : Ref sig .tc := ⟨.vmem, 56, rfl⟩
abbrev cc0_stg58_0 : Ref sig .tc := ⟨.vmem, 57, rfl⟩
abbrev cc0_stg59_0 : Ref sig .tc := ⟨.vmem, 58, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30
abbrev cc0_sem31_0 : DmaSem sig := 31
abbrev cc0_sem32_0 : DmaSem sig := 32
abbrev cc0_sem33_0 : DmaSem sig := 33
abbrev cc0_sem34_0 : DmaSem sig := 34
abbrev cc0_sem35_0 : DmaSem sig := 35
abbrev cc0_sem36_0 : DmaSem sig := 36
abbrev cc0_sem37_0 : DmaSem sig := 37
abbrev cc0_sem38_0 : DmaSem sig := 38
abbrev cc0_sem39_0 : DmaSem sig := 39
abbrev cc0_sem40_0 : DmaSem sig := 40
abbrev cc0_sem41_0 : DmaSem sig := 41
abbrev cc0_sem42_0 : DmaSem sig := 42
abbrev cc0_sem43_0 : DmaSem sig := 43
abbrev cc0_sem44_0 : DmaSem sig := 44
abbrev cc0_sem45_0 : DmaSem sig := 45
abbrev cc0_sem46_0 : DmaSem sig := 46
abbrev cc0_sem47_0 : DmaSem sig := 47
abbrev cc0_sem48_0 : DmaSem sig := 48
abbrev cc0_sem49_0 : DmaSem sig := 49
abbrev cc0_sem50_0 : DmaSem sig := 50
abbrev cc0_sem51_0 : DmaSem sig := 51
abbrev cc0_sem52_0 : DmaSem sig := 52
abbrev cc0_sem53_0 : DmaSem sig := 53
abbrev cc0_sem54_0 : DmaSem sig := 54
abbrev cc0_sem55_0 : DmaSem sig := 55
abbrev cc0_sem56_0 : DmaSem sig := 56
abbrev cc0_sem57_0 : DmaSem sig := 57
abbrev cc0_sem58_0 : DmaSem sig := 58
abbrev cc0_sem59_0 : DmaSem sig := 59

abbrev nD : Nat := 1
abbrev τ : Topo := Topo.v7x

variable {F : FTy → Type} [FloatOps F]

abbrev grid0 : Pipeline.Grid := .none

abbrev stage0_0 : Fin 1 → Memref sig .tc .smem S2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S512x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x6144 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S3x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S512x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x6144 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S3x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S512x128 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S1x512 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S1x1024 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S1x1024 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))

abbrev stage0_28 : Fin 1 → Memref sig .tc .vmem S1x1024 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))

abbrev stage0_29 : Fin 1 → Memref sig .tc .vmem S1x1024 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))

abbrev stage0_30 : Fin 1 → Memref sig .tc .vmem S3x128 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))

abbrev stage0_31 : Fin 1 → Memref sig .tc .vmem S1x512 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))

abbrev stage0_32 : Fin 1 → Memref sig .tc .vmem S1x1024 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))

abbrev stage0_33 : Fin 1 → Memref sig .tc .vmem S1x1024 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))

abbrev stage0_34 : Fin 1 → Memref sig .tc .vmem S1x1024 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))

abbrev stage0_35 : Fin 1 → Memref sig .tc .vmem S1x1024 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))

abbrev stage0_36 : Fin 1 → Memref sig .tc .vmem S1x6144 .f32 := fun | 0 => Memref.whole cc0_stg36_0 | ⟨_ + 1, h⟩ => absurd h (Nat.not_lt.2 (Nat.le_add_left _ _))
abbrev sem0_36 : Fin 1 → DmaSem sig := fun | 0 => cc0_sem36_0 | ⟨_ + 1, h⟩ => absurd h (Nat.not_lt.2 (Nat.le_add_left _ _))

abbrev stage0_37 : Fin 1 → Memref sig .tc .vmem S3x128 .f32 := fun | 0 => Memref.whole cc0_stg37_0 | ⟨_ + 1, h⟩ => absurd h (Nat.not_lt.2 (Nat.le_add_left _ _))
abbrev sem0_37 : Fin 1 → DmaSem sig := fun | 0 => cc0_sem37_0 | ⟨_ + 1, h⟩ => absurd h (Nat.not_lt.2 (Nat.le_add_left _ _))

abbrev stage0_38 : Fin 1 → Memref sig .tc .vmem S512x128 .f32 := fun | 0 => Memref.whole cc0_stg38_0 | ⟨_ + 1, h⟩ => absurd h (Nat.not_lt.2 (Nat.le_add_left _ _))
abbrev sem0_38 : Fin 1 → DmaSem sig := fun | 0 => cc0_sem38_0 | ⟨_ + 1, h⟩ => absurd h (Nat.not_lt.2 (Nat.le_add_left _ _))

abbrev stage0_39 : Fin 1 → Memref sig .tc .vmem S1x512 .f32 := fun | 0 => Memref.whole cc0_stg39_0 | ⟨_ + 1, h⟩ => absurd h (Nat.not_lt.2 (Nat.le_add_left _ _))
abbrev sem0_39 : Fin 1 → DmaSem sig := fun | 0 => cc0_sem39_0 | ⟨_ + 1, h⟩ => absurd h (Nat.not_lt.2 (Nat.le_add_left _ _))

abbrev stage0_40 : Fin 1 → Memref sig .tc .vmem S1x1024 .f32 := fun | 0 => Memref.whole cc0_stg40_0 | ⟨_ + 1, h⟩ => absurd h (Nat.not_lt.2 (Nat.le_add_left _ _))
abbrev sem0_40 : Fin 1 → DmaSem sig := fun | 0 => cc0_sem40_0 | ⟨_ + 1, h⟩ => absurd h (Nat.not_lt.2 (Nat.le_add_left _ _))

abbrev stage0_41 : Fin 1 → Memref sig .tc .vmem S1x1024 .f32 := fun | 0 => Memref.whole cc0_stg41_0 | ⟨_ + 1, h⟩ => absurd h (Nat.not_lt.2 (Nat.le_add_left _ _))
abbrev sem0_41 : Fin 1 → DmaSem sig := fun | 0 => cc0_sem41_0 | ⟨_ + 1, h⟩ => absurd h (Nat.not_lt.2 (Nat.le_add_left _ _))

abbrev stage0_42 : Fin 1 → Memref sig .tc .vmem S1x1024 .f32 := fun | 0 => Memref.whole cc0_stg42_0 | ⟨_ + 1, h⟩ => absurd h (Nat.not_lt.2 (Nat.le_add_left _ _))
abbrev sem0_42 : Fin 1 → DmaSem sig := fun | 0 => cc0_sem42_0 | ⟨_ + 1, h⟩ => absurd h (Nat.not_lt.2 (Nat.le_add_left _ _))

abbrev stage0_43 : Fin 1 → Memref sig .tc .vmem S1x1024 .f32 := fun | 0 => Memref.whole cc0_stg43_0 | ⟨_ + 1, h⟩ => absurd h (Nat.not_lt.2 (Nat.le_add_left _ _))
abbrev sem0_43 : Fin 1 → DmaSem sig := fun | 0 => cc0_sem43_0 | ⟨_ + 1, h⟩ => absurd h (Nat.not_lt.2 (Nat.le_add_left _ _))

abbrev stage0_44 : Fin 1 → Memref sig .tc .vmem S1x6144 .f32 := fun | 0 => Memref.whole cc0_stg44_0 | ⟨_ + 1, h⟩ => absurd h (Nat.not_lt.2 (Nat.le_add_left _ _))
abbrev sem0_44 : Fin 1 → DmaSem sig := fun | 0 => cc0_sem44_0 | ⟨_ + 1, h⟩ => absurd h (Nat.not_lt.2 (Nat.le_add_left _ _))

abbrev stage0_45 : Fin 1 → Memref sig .tc .vmem S3x128 .f32 := fun | 0 => Memref.whole cc0_stg45_0 | ⟨_ + 1, h⟩ => absurd h (Nat.not_lt.2 (Nat.le_add_left _ _))
abbrev sem0_45 : Fin 1 → DmaSem sig := fun | 0 => cc0_sem45_0 | ⟨_ + 1, h⟩ => absurd h (Nat.not_lt.2 (Nat.le_add_left _ _))

abbrev stage0_46 : Fin 1 → Memref sig .tc .vmem S512x128 .f32 := fun | 0 => Memref.whole cc0_stg46_0 | ⟨_ + 1, h⟩ => absurd h (Nat.not_lt.2 (Nat.le_add_left _ _))
abbrev sem0_46 : Fin 1 → DmaSem sig := fun | 0 => cc0_sem46_0 | ⟨_ + 1, h⟩ => absurd h (Nat.not_lt.2 (Nat.le_add_left _ _))

abbrev stage0_47 : Fin 1 → Memref sig .tc .vmem S1x512 .f32 := fun | 0 => Memref.whole cc0_stg47_0 | ⟨_ + 1, h⟩ => absurd h (Nat.not_lt.2 (Nat.le_add_left _ _))
abbrev sem0_47 : Fin 1 → DmaSem sig := fun | 0 => cc0_sem47_0 | ⟨_ + 1, h⟩ => absurd h (Nat.not_lt.2 (Nat.le_add_left _ _))

abbrev stage0_48 : Fin 1 → Memref sig .tc .vmem S1x1024 .f32 := fun | 0 => Memref.whole cc0_stg48_0 | ⟨_ + 1, h⟩ => absurd h (Nat.not_lt.2 (Nat.le_add_left _ _))
abbrev sem0_48 : Fin 1 → DmaSem sig := fun | 0 => cc0_sem48_0 | ⟨_ + 1, h⟩ => absurd h (Nat.not_lt.2 (Nat.le_add_left _ _))

abbrev stage0_49 : Fin 1 → Memref sig .tc .vmem S1x1024 .f32 := fun | 0 => Memref.whole cc0_stg49_0 | ⟨_ + 1, h⟩ => absurd h (Nat.not_lt.2 (Nat.le_add_left _ _))
abbrev sem0_49 : Fin 1 → DmaSem sig := fun | 0 => cc0_sem49_0 | ⟨_ + 1, h⟩ => absurd h (Nat.not_lt.2 (Nat.le_add_left _ _))

abbrev stage0_50 : Fin 1 → Memref sig .tc .vmem S1x1024 .f32 := fun | 0 => Memref.whole cc0_stg50_0 | ⟨_ + 1, h⟩ => absurd h (Nat.not_lt.2 (Nat.le_add_left _ _))
abbrev sem0_50 : Fin 1 → DmaSem sig := fun | 0 => cc0_sem50_0 | ⟨_ + 1, h⟩ => absurd h (Nat.not_lt.2 (Nat.le_add_left _ _))

abbrev stage0_51 : Fin 1 → Memref sig .tc .vmem S1x1024 .f32 := fun | 0 => Memref.whole cc0_stg51_0 | ⟨_ + 1, h⟩ => absurd h (Nat.not_lt.2 (Nat.le_add_left _ _))
abbrev sem0_51 : Fin 1 → DmaSem sig := fun | 0 => cc0_sem51_0 | ⟨_ + 1, h⟩ => absurd h (Nat.not_lt.2 (Nat.le_add_left _ _))

abbrev stage0_52 : Fin 1 → Memref sig .tc .vmem S1x6144 .f32 := fun | 0 => Memref.whole cc0_stg52_0 | ⟨_ + 1, h⟩ => absurd h (Nat.not_lt.2 (Nat.le_add_left _ _))
abbrev sem0_52 : Fin 1 → DmaSem sig := fun | 0 => cc0_sem52_0 | ⟨_ + 1, h⟩ => absurd h (Nat.not_lt.2 (Nat.le_add_left _ _))

abbrev stage0_53 : Fin 1 → Memref sig .tc .vmem S3x128 .f32 := fun | 0 => Memref.whole cc0_stg53_0 | ⟨_ + 1, h⟩ => absurd h (Nat.not_lt.2 (Nat.le_add_left _ _))
abbrev sem0_53 : Fin 1 → DmaSem sig := fun | 0 => cc0_sem53_0 | ⟨_ + 1, h⟩ => absurd h (Nat.not_lt.2 (Nat.le_add_left _ _))

abbrev stage0_54 : Fin 1 → Memref sig .tc .vmem S512x128 .f32 := fun | 0 => Memref.whole cc0_stg54_0 | ⟨_ + 1, h⟩ => absurd h (Nat.not_lt.2 (Nat.le_add_left _ _))
abbrev sem0_54 : Fin 1 → DmaSem sig := fun | 0 => cc0_sem54_0 | ⟨_ + 1, h⟩ => absurd h (Nat.not_lt.2 (Nat.le_add_left _ _))

abbrev stage0_55 : Fin 1 → Memref sig .tc .vmem S1x512 .f32 := fun | 0 => Memref.whole cc0_stg55_0 | ⟨_ + 1, h⟩ => absurd h (Nat.not_lt.2 (Nat.le_add_left _ _))
abbrev sem0_55 : Fin 1 → DmaSem sig := fun | 0 => cc0_sem55_0 | ⟨_ + 1, h⟩ => absurd h (Nat.not_lt.2 (Nat.le_add_left _ _))

abbrev stage0_56 : Fin 1 → Memref sig .tc .vmem S1x1024 .f32 := fun | 0 => Memref.whole cc0_stg56_0 | ⟨_ + 1, h⟩ => absurd h (Nat.not_lt.2 (Nat.le_add_left _ _))
abbrev sem0_56 : Fin 1 → DmaSem sig := fun | 0 => cc0_sem56_0 | ⟨_ + 1, h⟩ => absurd h (Nat.not_lt.2 (Nat.le_add_left _ _))

abbrev stage0_57 : Fin 1 → Memref sig .tc .vmem S1x1024 .f32 := fun | 0 => Memref.whole cc0_stg57_0 | ⟨_ + 1, h⟩ => absurd h (Nat.not_lt.2 (Nat.le_add_left _ _))
abbrev sem0_57 : Fin 1 → DmaSem sig := fun | 0 => cc0_sem57_0 | ⟨_ + 1, h⟩ => absurd h (Nat.not_lt.2 (Nat.le_add_left _ _))

abbrev stage0_58 : Fin 1 → Memref sig .tc .vmem S1x1024 .f32 := fun | 0 => Memref.whole cc0_stg58_0 | ⟨_ + 1, h⟩ => absurd h (Nat.not_lt.2 (Nat.le_add_left _ _))
abbrev sem0_58 : Fin 1 → DmaSem sig := fun | 0 => cc0_sem58_0 | ⟨_ + 1, h⟩ => absurd h (Nat.not_lt.2 (Nat.le_add_left _ _))

abbrev stage0_59 : Fin 1 → Memref sig .tc .vmem S1x1024 .f32 := fun | 0 => Memref.whole cc0_stg59_0 | ⟨_ + 1, h⟩ => absurd h (Nat.not_lt.2 (Nat.le_add_left _ _))
abbrev sem0_59 : Fin 1 → DmaSem sig := fun | 0 => cc0_sem59_0 | ⟨_ + 1, h⟩ => absurd h (Nat.not_lt.2 (Nat.le_add_left _ _))
-- ==== Reference6Ideal.lean ====
abbrev S2 : Shape := ⟨1, ![2]⟩
abbrev S8x1024 : Shape := ⟨2, ![8, 1024]⟩
abbrev S8x512 : Shape := ⟨2, ![8, 512]⟩
abbrev S1x6144 : Shape := ⟨2, ![1, 6144]⟩
abbrev S4x128x128 : Shape := ⟨3, ![4, 128, 128]⟩
abbrev S3x128 : Shape := ⟨2, ![3, 128]⟩
abbrev S1x512 : Shape := ⟨2, ![1, 512]⟩
abbrev S1x1024 : Shape := ⟨2, ![1, 1024]⟩
abbrev S3x512 : Shape := ⟨2, ![3, 512]⟩
abbrev S1 : Shape := ⟨1, ![1]⟩
abbrev S_ : Shape := ⟨0, ![]⟩
abbrev S512x128 : Shape := ⟨2, ![512, 128]⟩

abbrev nBuf : Space → Nat
  | .hbm => 314
  | .vmem => 0
  | .smem => 0
  | _ => 0

abbrev hbmTy0_0 (i : Nat) : BufTy := match i % 128 with
  | 0 => ⟨S2, .i32⟩
  | 1 => ⟨S8x1024, .f32⟩
  | 2 => ⟨S8x1024, .f32⟩
  | 3 => ⟨S8x512, .f32⟩
  | 4 => ⟨S1x6144, .f32⟩
  | 5 => ⟨S4x128x128, .f32⟩
  | 6 => ⟨S1x6144, .f32⟩
  | 7 => ⟨S3x128, .f32⟩
  | 8 => ⟨S4x128x128, .f32⟩
  | 9 => ⟨S1x512, .f32⟩
  | 10 => ⟨S1x1024, .f32⟩
  | 11 => ⟨S1x1024, .f32⟩
  | 12 => ⟨S1x1024, .f32⟩
  | 13 => ⟨S1x1024, .f32⟩
  | 14 => ⟨S1x6144, .f32⟩
  | 15 => ⟨S3x128, .f32⟩
  | 16 => ⟨S4x128x128, .f32⟩
  | 17 => ⟨S1x512, .f32⟩
  | 18 => ⟨S1x1024, .f32⟩
  | 19 => ⟨S1x1024, .f32⟩
  | 20 => ⟨S1x1024, .f32⟩
  | 21 => ⟨S1x1024, .f32⟩
  | 22 => ⟨S1x6144, .f32⟩
  | 23 => ⟨S3x128, .f32⟩
  | 24 => ⟨S4x128x128, .f32⟩
  | 25 => ⟨S1x512, .f32⟩
  | 26 => ⟨S1x1024, .f32⟩
  | 27 => ⟨S1x1024, .f32⟩
  | 28 => ⟨S1x1024, .f32⟩
  | 29 => ⟨S1x1024, .f32⟩
  | 30 => ⟨S3x512, .f32⟩
  | 31 => ⟨S1, .i32⟩
  | 32 => ⟨S_, .i32⟩
  | 33 => ⟨S_, .i32⟩
  | 34 => ⟨S_, .i32⟩
  | 35 => ⟨S_, .i32⟩
  | 36 => ⟨S_, .i1⟩
  | 37 => ⟨S_, .i32⟩
  | 38 => ⟨S_, .i32⟩
  | 39 => ⟨S_, .i32⟩
  | 40 => ⟨S_, .i32⟩
  | 41 => ⟨S3x128, .f32⟩
  | 42 => ⟨S1x512, .f32⟩
  | 43 => ⟨S1x1024, .f32⟩
  | 44 => ⟨S1x1024, .f32⟩
  | 45 => ⟨S1x1024, .f32⟩
  | 46 => ⟨S1x1024, .f32⟩
  | 47 => ⟨S_, .f32⟩
  | 48 => ⟨S1x6144, .f32⟩
  | 49 => ⟨S1x6144, .f32⟩
  | 50 => ⟨S_, .f32⟩
  | 51 => ⟨S1x6144, .f32⟩
  | 52 => ⟨S1x6144, .f32⟩
  | 53 => ⟨S1x6144, .f32⟩
  | 54 => ⟨S_, .f32⟩
  | 55 => ⟨S1x6144, .f32⟩
  | 56 => ⟨S1x6144, .f32⟩
  | 57 => ⟨S1x6144, .f32⟩
  | 58 => ⟨S_, .f32⟩
  | 59 => ⟨S1x6144, .f32⟩
  | 60 => ⟨S1x6144, .f32⟩
  | 61 => ⟨S1x6144, .f32⟩
  | 62 => ⟨S_, .f32⟩
  | 63 => ⟨S1x6144, .f32⟩
  | 64 => ⟨S1x6144, .f32⟩
  | 65 => ⟨S_, .f32⟩
  | 66 => ⟨S1x6144, .f32⟩
  | 67 => ⟨S1x6144, .f32⟩
  | 68 => ⟨S1x6144, .f32⟩
  | 69 => ⟨S_, .f32⟩
  | 70 => ⟨S1x6144, .f32⟩
  | 71 => ⟨S1x6144, .f32⟩
  | 72 => ⟨S1x6144, .f32⟩
  | 73 => ⟨S_, .f32⟩
  | 74 => ⟨S1x6144, .f32⟩
  | 75 => ⟨S1x6144, .f32⟩
  | 76 => ⟨S1x6144, .f32⟩
  | 77 => ⟨S_, .f32⟩
  | 78 => ⟨S1x6144, .f32⟩
  | 79 => ⟨S1x6144, .f32⟩
  | 80 => ⟨S_, .f32⟩
  | 81 => ⟨S3x128, .f32⟩
  | 82 => ⟨S3x128, .f32⟩
  | 83 => ⟨S_, .f32⟩
  | 84 => ⟨S3x128, .f32⟩
  | 85 => ⟨S3x128, .f32⟩
  | 86 => ⟨S3x128, .f32⟩
  | 87 => ⟨S_, .f32⟩
  | 88 => ⟨S3x128, .f32⟩
  | 89 => ⟨S3x128, .f32⟩
  | 90 => ⟨S3x128, .f32⟩
  | 91 => ⟨S_, .f32⟩
  | 92 => ⟨S3x128, .f32⟩
  | 93 => ⟨S3x128, .f32⟩
  | 94 => ⟨S3x128, .f32⟩
  | 95 => ⟨S_, .f32⟩
  | 96 => ⟨S3x128, .f32⟩
  | 97 => ⟨S3x128, .f32⟩
  | 98 => ⟨S_, .f32⟩
  | 99 => ⟨S3x128, .f32⟩
  | 100 => ⟨S3x128, .f32⟩
  | 101 => ⟨S3x128, .f32⟩
  | 102 => ⟨S_, .f32⟩
  | 103 => ⟨S3x128, .f32⟩
  | 104 => ⟨S3x128, .f32⟩
  | 105 => ⟨S3x128, .f32⟩
  | 106 => ⟨S_, .f32⟩
  | 107 => ⟨S3x128, .f32⟩
  | 108 => ⟨S3x128, .f32⟩
  | 109 => ⟨S3x128, .f32⟩
  | 110 => ⟨S_, .f32⟩
  | 111 => ⟨S3x128, .f32⟩
  | 112 => ⟨S3x128, .f32⟩
  | 113 => ⟨S_, .f32⟩
  | 114 => ⟨S4x128x128, .f32⟩
  | 115 => ⟨S4x128x128, .f32⟩
  | 116 => ⟨S_, .f32⟩
  | 117 => ⟨S4x128x128, .f32⟩
  | 118 => ⟨S4x128x128, .f32⟩
  | 119 => ⟨S4x128x128, .f32⟩
  | 120 => ⟨S_, .f32⟩
  | 121 => ⟨S4x128x128, .f32⟩
  | 122 => ⟨S4x128x128, .f32⟩
  | 123 => ⟨S4x128x128, .f32⟩
  | 124 => ⟨S_, .f32⟩
  | 125 => ⟨S4x128x128, .f32⟩
  | 126 => ⟨S4x128x128, .f32⟩
  | 127 => ⟨S4x128x128, .f32⟩
  | _ => ⟨S2, .i32⟩

abbrev hbmTy0_1 (i : Nat) : BufTy := match i % 128 with
  | 0 => ⟨S_, .f32⟩
  | 1 => ⟨S4x128x128, .f32⟩
  | 2 => ⟨S4x128x128, .f32⟩
  | 3 => ⟨S_, .f32⟩
  | 4 => ⟨S4x128x128, .f32⟩
  | 5 => ⟨S4x128x128, .f32⟩
  | 6 => ⟨S4x128x128, .f32⟩
  | 7 => ⟨S_, .f32⟩
  | 8 => ⟨S4x128x128, .f32⟩
  | 9 => ⟨S4x128x128, .f32⟩
  | 10 => ⟨S4x128x128, .f32⟩
  | 11 => ⟨S_, .f32⟩
  | 12 => ⟨S4x128x128, .f32⟩
  | 13 => ⟨S4x128x128, .f32⟩
  | 14 => ⟨S4x128x128, .f32⟩
  | 15 => ⟨S_, .f32⟩
  | 16 => ⟨S4x128x128, .f32⟩
  | 17 => ⟨S4x128x128, .f32⟩
  | 18 => ⟨S_, .f32⟩
  | 19 => ⟨S1x512, .f32⟩
  | 20 => ⟨S1x512, .f32⟩
  | 21 => ⟨S_, .f32⟩
  | 22 => ⟨S1x512, .f32⟩
  | 23 => ⟨S1x512, .f32⟩
  | 24 => ⟨S1x512, .f32⟩
  | 25 => ⟨S_, .f32⟩
  | 26 => ⟨S1x512, .f32⟩
  | 27 => ⟨S1x512, .f32⟩
  | 28 => ⟨S1x512, .f32⟩
  | 29 => ⟨S_, .f32⟩
  | 30 => ⟨S1x512, .f32⟩
  | 31 => ⟨S1x512, .f32⟩
  | 32 => ⟨S1x512, .f32⟩
  | 33 => ⟨S_, .f32⟩
  | 34 => ⟨S1x512, .f32⟩
  | 35 => ⟨S1x512, .f32⟩
  | 36 => ⟨S_, .f32⟩
  | 37 => ⟨S1x512, .f32⟩
  | 38 => ⟨S1x512, .f32⟩
  | 39 => ⟨S1x512, .f32⟩
  | 40 => ⟨S_, .f32⟩
  | 41 => ⟨S1x512, .f32⟩
  | 42 => ⟨S1x512, .f32⟩
  | 43 => ⟨S1x512, .f32⟩
  | 44 => ⟨S_, .f32⟩
  | 45 => ⟨S1x512, .f32⟩
  | 46 => ⟨S1x512, .f32⟩
  | 47 => ⟨S1x512, .f32⟩
  | 48 => ⟨S_, .f32⟩
  | 49 => ⟨S1x512, .f32⟩
  | 50 => ⟨S1x512, .f32⟩
  | 51 => ⟨S_, .f32⟩
  | 52 => ⟨S1x1024, .f32⟩
  | 53 => ⟨S1x1024, .f32⟩
  | 54 => ⟨S_, .f32⟩
  | 55 => ⟨S1x1024, .f32⟩
  | 56 => ⟨S1x1024, .f32⟩
  | 57 => ⟨S1x1024, .f32⟩
  | 58 => ⟨S_, .f32⟩
  | 59 => ⟨S1x1024, .f32⟩
  | 60 => ⟨S1x1024, .f32⟩
  | 61 => ⟨S1x1024, .f32⟩
  | 62 => ⟨S_, .f32⟩
  | 63 => ⟨S1x1024, .f32⟩
  | 64 => ⟨S1x1024, .f32⟩
  | 65 => ⟨S1x1024, .f32⟩
  | 66 => ⟨S_, .f32⟩
  | 67 => ⟨S1x1024, .f32⟩
  | 68 => ⟨S1x1024, .f32⟩
  | 69 => ⟨S_, .f32⟩
  | 70 => ⟨S1x1024, .f32⟩
  | 71 => ⟨S1x1024, .f32⟩
  | 72 => ⟨S1x1024, .f32⟩
  | 73 => ⟨S_, .f32⟩
  | 74 => ⟨S1x1024, .f32⟩
  | 75 => ⟨S1x1024, .f32⟩
  | 76 => ⟨S1x1024, .f32⟩
  | 77 => ⟨S_, .f32⟩
  | 78 => ⟨S1x1024, .f32⟩
  | 79 => ⟨S1x1024, .f32⟩
  | 80 => ⟨S1x1024, .f32⟩
  | 81 => ⟨S_, .f32⟩
  | 82 => ⟨S1x1024, .f32⟩
  | 83 => ⟨S1x1024, .f32⟩
  | 84 => ⟨S_, .f32⟩
  | 85 => ⟨S1x1024, .f32⟩
  | 86 => ⟨S1x1024, .f32⟩
  | 87 => ⟨S_, .f32⟩
  | 88 => ⟨S1x1024, .f32⟩
  | 89 => ⟨S1x1024, .f32⟩
  | 90 => ⟨S1x1024, .f32⟩
  | 91 => ⟨S_, .f32⟩
  | 92 => ⟨S1x1024, .f32⟩
  | 93 => ⟨S1x1024, .f32⟩
  | 94 => ⟨S1x1024, .f32⟩
  | 95 => ⟨S_, .f32⟩
  | 96 => ⟨S1x1024, .f32⟩
  | 97 => ⟨S1x1024, .f32⟩
  | 98 => ⟨S1x1024, .f32⟩
  | 99 => ⟨S_, .f32⟩
  | 100 => ⟨S1x1024, .f32⟩
  | 101 => ⟨S1x1024, .f32⟩
  | 102 => ⟨S_, .f32⟩
  | 103 => ⟨S1x1024, .f32⟩
  | 104 => ⟨S1x1024, .f32⟩
  | 105 => ⟨S1x1024, .f32⟩
  | 106 => ⟨S_, .f32⟩
  | 107 => ⟨S1x1024, .f32⟩
  | 108 => ⟨S1x1024, .f32⟩
  | 109 => ⟨S1x1024, .f32⟩
  | 110 => ⟨S_, .f32⟩
  | 111 => ⟨S1x1024, .f32⟩
  | 112 => ⟨S1x1024, .f32⟩
  | 113 => ⟨S1x1024, .f32⟩
  | 114 => ⟨S_, .f32⟩
  | 115 => ⟨S1x1024, .f32⟩
  | 116 => ⟨S1x1024, .f32⟩
  | 117 => ⟨S_, .f32⟩
  | 118 => ⟨S1x1024, .f32⟩
  | 119 => ⟨S1x1024, .f32⟩
  | 120 => ⟨S_, .f32⟩
  | 121 => ⟨S1x1024, .f32⟩
  | 122 => ⟨S1x1024, .f32⟩
  | 123 => ⟨S1x1024, .f32⟩
  | 124 => ⟨S_, .f32⟩
  | 125 => ⟨S1x1024, .f32⟩
  | 126 => ⟨S1x1024, .f32⟩
  | 127 => ⟨S1x1024, .f32⟩
  | _ => ⟨S2, .i32⟩

abbrev hbmTy0_2 (i : Nat) : BufTy := match i % 128 with
  | 0 => ⟨S_, .f32⟩
  | 1 => ⟨S1x1024, .f32⟩
  | 2 => ⟨S1x1024, .f32⟩
  | 3 => ⟨S1x1024, .f32⟩
  | 4 => ⟨S_, .f32⟩
  | 5 => ⟨S1x1024, .f32⟩
  | 6 => ⟨S1x1024, .f32⟩
  | 7 => ⟨S_, .f32⟩
  | 8 => ⟨S1x1024, .f32⟩
  | 9 => ⟨S1x1024, .f32⟩
  | 10 => ⟨S1x1024, .f32⟩
  | 11 => ⟨S_, .f32⟩
  | 12 => ⟨S1x1024, .f32⟩
  | 13 => ⟨S1x1024, .f32⟩
  | 14 => ⟨S1x1024, .f32⟩
  | 15 => ⟨S_, .f32⟩
  | 16 => ⟨S1x1024, .f32⟩
  | 17 => ⟨S1x1024, .f32⟩
  | 18 => ⟨S1x1024, .f32⟩
  | 19 => ⟨S_, .f32⟩
  | 20 => ⟨S1x1024, .f32⟩
  | 21 => ⟨S1x1024, .f32⟩
  | 22 => ⟨S_, .f32⟩
  | 23 => ⟨S1x1024, .f32⟩
  | 24 => ⟨S1x1024, .f32⟩
  | 25 => ⟨S_, .f32⟩
  | 26 => ⟨S1x1024, .f32⟩
  | 27 => ⟨S1x1024, .f32⟩
  | 28 => ⟨S1x1024, .f32⟩
  | 29 => ⟨S_, .f32⟩
  | 30 => ⟨S1x1024, .f32⟩
  | 31 => ⟨S1x1024, .f32⟩
  | 32 => ⟨S1x1024, .f32⟩
  | 33 => ⟨S_, .f32⟩
  | 34 => ⟨S1x1024, .f32⟩
  | 35 => ⟨S1x1024, .f32⟩
  | 36 => ⟨S1x1024, .f32⟩
  | 37 => ⟨S_, .f32⟩
  | 38 => ⟨S1x1024, .f32⟩
  | 39 => ⟨S1x1024, .f32⟩
  | 40 => ⟨S_, .f32⟩
  | 41 => ⟨S1x1024, .f32⟩
  | 42 => ⟨S1x1024, .f32⟩
  | 43 => ⟨S1x1024, .f32⟩
  | 44 => ⟨S_, .f32⟩
  | 45 => ⟨S1x1024, .f32⟩
  | 46 => ⟨S1x1024, .f32⟩
  | 47 => ⟨S1x1024, .f32⟩
  | 48 => ⟨S_, .f32⟩
  | 49 => ⟨S1x1024, .f32⟩
  | 50 => ⟨S1x1024, .f32⟩
  | 51 => ⟨S1x1024, .f32⟩
  | 52 => ⟨S_, .f32⟩
  | 53 => ⟨S1x1024, .f32⟩
  | 54 => ⟨S1x1024, .f32⟩
  | 55 => ⟨S512x128, .f32⟩
  | 56 => ⟨S512x128, .f32⟩
  | 57 => ⟨S512x128, .f32⟩
  | _ => ⟨S2, .i32⟩

abbrev hbmTy (i : Nat) : BufTy := match i / 128 with
  | 0 => hbmTy0_0 i
  | 1 => hbmTy0_1 i
  | 2 => hbmTy0_2 i
  | _ => ⟨S2, .i32⟩

abbrev bufTy : (tb : Table) → Fin (tcTables nBuf tb) → BufTy
  | .hbm, ⟨i, _⟩ => hbmTy i
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_c : Ref sig .tc := ⟨.hbm, 33, rfl⟩
abbrev main_v3 : Ref sig .tc := ⟨.hbm, 34, rfl⟩
abbrev main_c_0 : Ref sig .tc := ⟨.hbm, 35, rfl⟩
abbrev main_v4 : Ref sig .tc := ⟨.hbm, 36, rfl⟩
abbrev main_c_1 : Ref sig .tc := ⟨.hbm, 37, rfl⟩
abbrev main_v5 : Ref sig .tc := ⟨.hbm, 38, rfl⟩
abbrev main_v6 : Ref sig .tc := ⟨.hbm, 39, rfl⟩
abbrev main_c_2 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_cst : Ref sig .tc := ⟨.hbm, 47, rfl⟩
abbrev main_v13 : Ref sig .tc := ⟨.hbm, 48, rfl⟩
abbrev main_v14 : Ref sig .tc := ⟨.hbm, 49, rfl⟩
abbrev main_cst_3 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_cst_4 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_cst_5 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_cst_6 : Ref sig .tc := ⟨.hbm, 62, rfl⟩
abbrev main_v24 : Ref sig .tc := ⟨.hbm, 63, rfl⟩
abbrev main_v25 : Ref sig .tc := ⟨.hbm, 64, rfl⟩
abbrev main_cst_7 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_cst_8 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_cst_9 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_cst_10 : Ref sig .tc := ⟨.hbm, 77, rfl⟩
abbrev main_v35 : Ref sig .tc := ⟨.hbm, 78, rfl⟩
abbrev main_v36 : Ref sig .tc := ⟨.hbm, 79, rfl⟩
abbrev main_cst_11 : Ref sig .tc := ⟨.hbm, 80, rfl⟩
abbrev main_v37 : Ref sig .tc := ⟨.hbm, 81, rfl⟩
abbrev main_v38 : Ref sig .tc := ⟨.hbm, 82, rfl⟩
abbrev main_cst_12 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_cst_13 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_cst_14 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_cst_15 : Ref sig .tc := ⟨.hbm, 95, rfl⟩
abbrev main_v48 : Ref sig .tc := ⟨.hbm, 96, rfl⟩
abbrev main_v49 : Ref sig .tc := ⟨.hbm, 97, rfl⟩
abbrev main_cst_16 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_cst_17 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_cst_18 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_cst_19 : Ref sig .tc := ⟨.hbm, 110, rfl⟩
abbrev main_v59 : Ref sig .tc := ⟨.hbm, 111, rfl⟩
abbrev main_v60 : Ref sig .tc := ⟨.hbm, 112, rfl⟩
abbrev main_cst_20 : Ref sig .tc := ⟨.hbm, 113, rfl⟩
abbrev main_v61 : Ref sig .tc := ⟨.hbm, 114, rfl⟩
abbrev main_v62 : Ref sig .tc := ⟨.hbm, 115, rfl⟩
abbrev main_cst_21 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_cst_22 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_cst_23 : Ref sig .tc := ⟨.hbm, 124, rfl⟩
abbrev main_v69 : Ref sig .tc := ⟨.hbm, 125, rfl⟩
abbrev main_v70 : Ref sig .tc := ⟨.hbm, 126, rfl⟩
abbrev main_v71 : Ref sig .tc := ⟨.hbm, 127, rfl⟩
abbrev main_cst_24 : Ref sig .tc := ⟨.hbm, 128, rfl⟩
abbrev main_v72 : Ref sig .tc := ⟨.hbm, 129, rfl⟩
abbrev main_v73 : Ref sig .tc := ⟨.hbm, 130, rfl⟩
abbrev main_cst_25 : Ref sig .tc := ⟨.hbm, 131, rfl⟩
abbrev main_v74 : Ref sig .tc := ⟨.hbm, 132, rfl⟩
abbrev main_v75 : Ref sig .tc := ⟨.hbm, 133, rfl⟩
abbrev main_v76 : Ref sig .tc := ⟨.hbm, 134, rfl⟩
abbrev main_cst_26 : Ref sig .tc := ⟨.hbm, 135, rfl⟩
abbrev main_v77 : Ref sig .tc := ⟨.hbm, 136, rfl⟩
abbrev main_v78 : Ref sig .tc := ⟨.hbm, 137, rfl⟩
abbrev main_v79 : Ref sig .tc := ⟨.hbm, 138, rfl⟩
abbrev main_cst_27 : Ref sig .tc := ⟨.hbm, 139, rfl⟩
abbrev main_v80 : Ref sig .tc := ⟨.hbm, 140, rfl⟩
abbrev main_v81 : Ref sig .tc := ⟨.hbm, 141, rfl⟩
abbrev main_v82 : Ref sig .tc := ⟨.hbm, 142, rfl⟩
abbrev main_cst_28 : Ref sig .tc := ⟨.hbm, 143, rfl⟩
abbrev main_v83 : Ref sig .tc := ⟨.hbm, 144, rfl⟩
abbrev main_v84 : Ref sig .tc := ⟨.hbm, 145, rfl⟩
abbrev main_cst_29 : Ref sig .tc := ⟨.hbm, 146, rfl⟩
abbrev main_v85 : Ref sig .tc := ⟨.hbm, 147, rfl⟩
abbrev main_v86 : Ref sig .tc := ⟨.hbm, 148, rfl⟩
abbrev main_cst_30 : Ref sig .tc := ⟨.hbm, 149, rfl⟩
abbrev main_v87 : Ref sig .tc := ⟨.hbm, 150, rfl⟩
abbrev main_v88 : Ref sig .tc := ⟨.hbm, 151, rfl⟩
abbrev main_v89 : Ref sig .tc := ⟨.hbm, 152, rfl⟩
abbrev main_cst_31 : Ref sig .tc := ⟨.hbm, 153, rfl⟩
abbrev main_v90 : Ref sig .tc := ⟨.hbm, 154, rfl⟩
abbrev main_v91 : Ref sig .tc := ⟨.hbm, 155, rfl⟩
abbrev main_v92 : Ref sig .tc := ⟨.hbm, 156, rfl⟩
abbrev main_cst_32 : Ref sig .tc := ⟨.hbm, 157, rfl⟩
abbrev main_v93 : Ref sig .tc := ⟨.hbm, 158, rfl⟩
abbrev main_v94 : Ref sig .tc := ⟨.hbm, 159, rfl⟩
abbrev main_v95 : Ref sig .tc := ⟨.hbm, 160, rfl⟩
abbrev main_cst_33 : Ref sig .tc := ⟨.hbm, 161, rfl⟩
abbrev main_v96 : Ref sig .tc := ⟨.hbm, 162, rfl⟩
abbrev main_v97 : Ref sig .tc := ⟨.hbm, 163, rfl⟩
abbrev main_cst_34 : Ref sig .tc := ⟨.hbm, 164, rfl⟩
abbrev main_v98 : Ref sig .tc := ⟨.hbm, 165, rfl⟩
abbrev main_v99 : Ref sig .tc := ⟨.hbm, 166, rfl⟩
abbrev main_v100 : Ref sig .tc := ⟨.hbm, 167, rfl⟩
abbrev main_cst_35 : Ref sig .tc := ⟨.hbm, 168, rfl⟩
abbrev main_v101 : Ref sig .tc := ⟨.hbm, 169, rfl⟩
abbrev main_v102 : Ref sig .tc := ⟨.hbm, 170, rfl⟩
abbrev main_v103 : Ref sig .tc := ⟨.hbm, 171, rfl⟩
abbrev main_cst_36 : Ref sig .tc := ⟨.hbm, 172, rfl⟩
abbrev main_v104 : Ref sig .tc := ⟨.hbm, 173, rfl⟩
abbrev main_v105 : Ref sig .tc := ⟨.hbm, 174, rfl⟩
abbrev main_v106 : Ref sig .tc := ⟨.hbm, 175, rfl⟩
abbrev main_cst_37 : Ref sig .tc := ⟨.hbm, 176, rfl⟩
abbrev main_v107 : Ref sig .tc := ⟨.hbm, 177, rfl⟩
abbrev main_v108 : Ref sig .tc := ⟨.hbm, 178, rfl⟩
abbrev main_cst_38 : Ref sig .tc := ⟨.hbm, 179, rfl⟩
abbrev main_v109 : Ref sig .tc := ⟨.hbm, 180, rfl⟩
abbrev main_v110 : Ref sig .tc := ⟨.hbm, 181, rfl⟩
abbrev main_cst_39 : Ref sig .tc := ⟨.hbm, 182, rfl⟩
abbrev main_v111 : Ref sig .tc := ⟨.hbm, 183, rfl⟩
abbrev main_v112 : Ref sig .tc := ⟨.hbm, 184, rfl⟩
abbrev main_v113 : Ref sig .tc := ⟨.hbm, 185, rfl⟩
abbrev main_cst_40 : Ref sig .tc := ⟨.hbm, 186, rfl⟩
abbrev main_v114 : Ref sig .tc := ⟨.hbm, 187, rfl⟩
abbrev main_v115 : Ref sig .tc := ⟨.hbm, 188, rfl⟩
abbrev main_v116 : Ref sig .tc := ⟨.hbm, 189, rfl⟩
abbrev main_cst_41 : Ref sig .tc := ⟨.hbm, 190, rfl⟩
abbrev main_v117 : Ref sig .tc := ⟨.hbm, 191, rfl⟩
abbrev main_v118 : Ref sig .tc := ⟨.hbm, 192, rfl⟩
abbrev main_v119 : Ref sig .tc := ⟨.hbm, 193, rfl⟩
abbrev main_cst_42 : Ref sig .tc := ⟨.hbm, 194, rfl⟩
abbrev main_v120 : Ref sig .tc := ⟨.hbm, 195, rfl⟩
abbrev main_v121 : Ref sig .tc := ⟨.hbm, 196, rfl⟩
abbrev main_cst_43 : Ref sig .tc := ⟨.hbm, 197, rfl⟩
abbrev main_v122 : Ref sig .tc := ⟨.hbm, 198, rfl⟩
abbrev main_v123 : Ref sig .tc := ⟨.hbm, 199, rfl⟩
abbrev main_v124 : Ref sig .tc := ⟨.hbm, 200, rfl⟩
abbrev main_cst_44 : Ref sig .tc := ⟨.hbm, 201, rfl⟩
abbrev main_v125 : Ref sig .tc := ⟨.hbm, 202, rfl⟩
abbrev main_v126 : Ref sig .tc := ⟨.hbm, 203, rfl⟩
abbrev main_v127 : Ref sig .tc := ⟨.hbm, 204, rfl⟩
abbrev main_cst_45 : Ref sig .tc := ⟨.hbm, 205, rfl⟩
abbrev main_v128 : Ref sig .tc := ⟨.hbm, 206, rfl⟩
abbrev main_v129 : Ref sig .tc := ⟨.hbm, 207, rfl⟩
abbrev main_v130 : Ref sig .tc := ⟨.hbm, 208, rfl⟩
abbrev main_cst_46 : Ref sig .tc := ⟨.hbm, 209, rfl⟩
abbrev main_v131 : Ref sig .tc := ⟨.hbm, 210, rfl⟩
abbrev main_v132 : Ref sig .tc := ⟨.hbm, 211, rfl⟩
abbrev main_cst_47 : Ref sig .tc := ⟨.hbm, 212, rfl⟩
abbrev main_v133 : Ref sig .tc := ⟨.hbm, 213, rfl⟩
abbrev main_v134 : Ref sig .tc := ⟨.hbm, 214, rfl⟩
abbrev main_cst_48 : Ref sig .tc := ⟨.hbm, 215, rfl⟩
abbrev main_v135 : Ref sig .tc := ⟨.hbm, 216, rfl⟩
abbrev main_v136 : Ref sig .tc := ⟨.hbm, 217, rfl⟩
abbrev main_v137 : Ref sig .tc := ⟨.hbm, 218, rfl⟩
abbrev main_cst_49 : Ref sig .tc := ⟨.hbm, 219, rfl⟩
abbrev main_v138 : Ref sig .tc := ⟨.hbm, 220, rfl⟩
abbrev main_v139 : Ref sig .tc := ⟨.hbm, 221, rfl⟩
abbrev main_v140 : Ref sig .tc := ⟨.hbm, 222, rfl⟩
abbrev main_cst_50 : Ref sig .tc := ⟨.hbm, 223, rfl⟩
abbrev main_v141 : Ref sig .tc := ⟨.hbm, 224, rfl⟩
abbrev main_v142 : Ref sig .tc := ⟨.hbm, 225, rfl⟩
abbrev main_v143 : Ref sig .tc := ⟨.hbm, 226, rfl⟩
abbrev main_cst_51 : Ref sig .tc := ⟨.hbm, 227, rfl⟩
abbrev main_v144 : Ref sig .tc := ⟨.hbm, 228, rfl⟩
abbrev main_v145 : Ref sig .tc := ⟨.hbm, 229, rfl⟩
abbrev main_cst_52 : Ref sig .tc := ⟨.hbm, 230, rfl⟩
abbrev main_v146 : Ref sig .tc := ⟨.hbm, 231, rfl⟩
abbrev main_v147 : Ref sig .tc := ⟨.hbm, 232, rfl⟩
abbrev main_v148 : Ref sig .tc := ⟨.hbm, 233, rfl⟩
abbrev main_cst_53 : Ref sig .tc := ⟨.hbm, 234, rfl⟩
abbrev main_v149 : Ref sig .tc := ⟨.hbm, 235, rfl⟩
abbrev main_v150 : Ref sig .tc := ⟨.hbm, 236, rfl⟩
abbrev main_v151 : Ref sig .tc := ⟨.hbm, 237, rfl⟩
abbrev main_cst_54 : Ref sig .tc := ⟨.hbm, 238, rfl⟩
abbrev main_v152 : Ref sig .tc := ⟨.hbm, 239, rfl⟩
abbrev main_v153 : Ref sig .tc := ⟨.hbm, 240, rfl⟩
abbrev main_v154 : Ref sig .tc := ⟨.hbm, 241, rfl⟩
abbrev main_cst_55 : Ref sig .tc := ⟨.hbm, 242, rfl⟩
abbrev main_v155 : Ref sig .tc := ⟨.hbm, 243, rfl⟩
abbrev main_v156 : Ref sig .tc := ⟨.hbm, 244, rfl⟩
abbrev main_cst_56 : Ref sig .tc := ⟨.hbm, 245, rfl⟩
abbrev main_v157 : Ref sig .tc := ⟨.hbm, 246, rfl⟩
abbrev main_v158 : Ref sig .tc := ⟨.hbm, 247, rfl⟩
abbrev main_cst_57 : Ref sig .tc := ⟨.hbm, 248, rfl⟩
abbrev main_v159 : Ref sig .tc := ⟨.hbm, 249, rfl⟩
abbrev main_v160 : Ref sig .tc := ⟨.hbm, 250, rfl⟩
abbrev main_v161 : Ref sig .tc := ⟨.hbm, 251, rfl⟩
abbrev main_cst_58 : Ref sig .tc := ⟨.hbm, 252, rfl⟩
abbrev main_v162 : Ref sig .tc := ⟨.hbm, 253, rfl⟩
abbrev main_v163 : Ref sig .tc := ⟨.hbm, 254, rfl⟩
abbrev main_v164 : Ref sig .tc := ⟨.hbm, 255, rfl⟩
abbrev main_cst_59 : Ref sig .tc := ⟨.hbm, 256, rfl⟩
abbrev main_v165 : Ref sig .tc := ⟨.hbm, 257, rfl⟩
abbrev main_v166 : Ref sig .tc := ⟨.hbm, 258, rfl⟩
abbrev main_v167 : Ref sig .tc := ⟨.hbm, 259, rfl⟩
abbrev main_cst_60 : Ref sig .tc := ⟨.hbm, 260, rfl⟩
abbrev main_v168 : Ref sig .tc := ⟨.hbm, 261, rfl⟩
abbrev main_v169 : Ref sig .tc := ⟨.hbm, 262, rfl⟩
abbrev main_cst_61 : Ref sig .tc := ⟨.hbm, 263, rfl⟩
abbrev main_v170 : Ref sig .tc := ⟨.hbm, 264, rfl⟩
abbrev main_v171 : Ref sig .tc := ⟨.hbm, 265, rfl⟩
abbrev main_v172 : Ref sig .tc := ⟨.hbm, 266, rfl⟩
abbrev main_cst_62 : Ref sig .tc := ⟨.hbm, 267, rfl⟩
abbrev main_v173 : Ref sig .tc := ⟨.hbm, 268, rfl⟩
abbrev main_v174 : Ref sig .tc := ⟨.hbm, 269, rfl⟩
abbrev main_v175 : Ref sig .tc := ⟨.hbm, 270, rfl⟩
abbrev main_cst_63 : Ref sig .tc := ⟨.hbm, 271, rfl⟩
abbrev main_v176 : Ref sig .tc := ⟨.hbm, 272, rfl⟩
abbrev main_v177 : Ref sig .tc := ⟨.hbm, 273, rfl⟩
abbrev main_v178 : Ref sig .tc := ⟨.hbm, 274, rfl⟩
abbrev main_cst_64 : Ref sig .tc := ⟨.hbm, 275, rfl⟩
abbrev main_v179 : Ref sig .tc := ⟨.hbm, 276, rfl⟩
abbrev main_v180 : Ref sig .tc := ⟨.hbm, 277, rfl⟩
abbrev main_cst_65 : Ref sig .tc := ⟨.hbm, 278, rfl⟩
abbrev main_v181 : Ref sig .tc := ⟨.hbm, 279, rfl⟩
abbrev main_v182 : Ref sig .tc := ⟨.hbm, 280, rfl⟩
abbrev main_cst_66 : Ref sig .tc := ⟨.hbm, 281, rfl⟩
abbrev main_v183 : Ref sig .tc := ⟨.hbm, 282, rfl⟩
abbrev main_v184 : Ref sig .tc := ⟨.hbm, 283, rfl⟩
abbrev main_v185 : Ref sig .tc := ⟨.hbm, 284, rfl⟩
abbrev main_cst_67 : Ref sig .tc := ⟨.hbm, 285, rfl⟩
abbrev main_v186 : Ref sig .tc := ⟨.hbm, 286, rfl⟩
abbrev main_v187 : Ref sig .tc := ⟨.hbm, 287, rfl⟩
abbrev main_v188 : Ref sig .tc := ⟨.hbm, 288, rfl⟩
abbrev main_cst_68 : Ref sig .tc := ⟨.hbm, 289, rfl⟩
abbrev main_v189 : Ref sig .tc := ⟨.hbm, 290, rfl⟩
abbrev main_v190 : Ref sig .tc := ⟨.hbm, 291, rfl⟩
abbrev main_v191 : Ref sig .tc := ⟨.hbm, 292, rfl⟩
abbrev main_cst_69 : Ref sig .tc := ⟨.hbm, 293, rfl⟩
abbrev main_v192 : Ref sig .tc := ⟨.hbm, 294, rfl⟩
abbrev main_v193 : Ref sig .tc := ⟨.hbm, 295, rfl⟩
abbrev main_cst_70 : Ref sig .tc := ⟨.hbm, 296, rfl⟩
abbrev main_v194 : Ref sig .tc := ⟨.hbm, 297, rfl⟩
abbrev main_v195 : Ref sig .tc := ⟨.hbm, 298, rfl⟩
abbrev main_v196 : Ref sig .tc := ⟨.hbm, 299, rfl⟩
abbrev main_cst_71 : Ref sig .tc := ⟨.hbm, 300, rfl⟩
abbrev main_v197 : Ref sig .tc := ⟨.hbm, 301, rfl⟩
abbrev main_v198 : Ref sig .tc := ⟨.hbm, 302, rfl⟩
abbrev main_v199 : Ref sig .tc := ⟨.hbm, 303, rfl⟩
abbrev main_cst_72 : Ref sig .tc := ⟨.hbm, 304, rfl⟩
abbrev main_v200 : Ref sig .tc := ⟨.hbm, 305, rfl⟩
abbrev main_v201 : Ref sig .tc := ⟨.hbm, 306, rfl⟩
abbrev main_v202 : Ref sig .tc := ⟨.hbm, 307, rfl⟩
abbrev main_cst_73 : Ref sig .tc := ⟨.hbm, 308, rfl⟩
abbrev main_v203 : Ref sig .tc := ⟨.hbm, 309, rfl⟩
abbrev main_v204 : Ref sig .tc := ⟨.hbm, 310, rfl⟩
abbrev main_v205 : Ref sig .tc := ⟨.hbm, 311, rfl⟩
abbrev main_v206 : Ref sig .tc := ⟨.hbm, 312, rfl⟩
abbrev main_v207 : Ref sig .tc := ⟨.hbm, 313, rfl⟩

abbrev nD : Nat := 1
abbrev τ : Topo := Topo.v7x

variable {F : FTy → Type} [FloatOps F]
-- ==== Proof.Norm.lean ====
/- One row of a layer norm over the extended reals: the kernel's closed form of its backward, the chain of
   derivatives the reference takes, and their equality on a row of finite numbers. -/
module

public import Idealize.ShloMosaic.Lib.IdealHost
public import Idealize.ShloMosaic.PureOps.Ideal.Laws

@[expose] public section

noncomputable section

namespace Cert.Norm

open Idealize.ShloMosaic

/-- An extended real that is a real number. -/
def Fin' (x : EReal) : Prop := ∃ r : ℝ, x = (r : EReal)

theorem fin_coe (r : ℝ) : Fin' (r : EReal) := ⟨r, rfl⟩

theorem fin_zero : Fin' (0 : EReal) := ⟨0, rfl⟩

theorem fin_one : Fin' (1 : EReal) := ⟨1, rfl⟩

theorem Fin'.add {x y : EReal} (hx : Fin' x) (hy : Fin' y) : Fin' (x + y) := by
  obtain ⟨a, rfl⟩ := hx; obtain ⟨b, rfl⟩ := hy; exact ⟨a + b, by norm_cast⟩

theorem Fin'.sub {x y : EReal} (hx : Fin' x) (hy : Fin' y) : Fin' (x - y) := by
  obtain ⟨a, rfl⟩ := hx; obtain ⟨b, rfl⟩ := hy; exact ⟨a - b, by norm_cast⟩

theorem Fin'.mul {x y : EReal} (hx : Fin' x) (hy : Fin' y) : Fin' (x * y) := by
  obtain ⟨a, rfl⟩ := hx; obtain ⟨b, rfl⟩ := hy; exact ⟨a * b, by norm_cast⟩

theorem Fin'.neg {x : EReal} (hx : Fin' x) : Fin' (-x) := by
  obtain ⟨a, rfl⟩ := hx; exact ⟨-a, by norm_cast⟩

theorem coe_sum {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem fin_sum {ι : Type*} (s : Finset ι) {f : ι → EReal} (h : ∀ i ∈ s, Fin' (f i)) : Fin' (∑ i ∈ s, f i) := by
  classical
  induction s using Finset.induction_on with
  | empty => simpa using fin_zero
  | insert a s ha ih =>
    rw [Finset.sum_insert ha]
    exact (h a (Finset.mem_insert_self a s)).add (ih fun i hi => h i (Finset.mem_insert_of_mem hi))

theorem div_coe_coe (a b : ℝ) (hb : b ≠ 0) : Ideal.div (a : EReal) (b : EReal) = ((a / b : ℝ) : EReal) := by
  unfold Ideal.div
  rw [if_neg (by exact_mod_cast hb), div_eq_mul_inv, EReal.coe_mul, EReal.coe_inv]

theorem Fin'.div {x y : EReal} (hx : Fin' x) (hy : Fin' y) (h0 : y ≠ 0) : Fin' (Ideal.div x y) := by
  obtain ⟨a, rfl⟩ := hx; obtain ⟨b, rfl⟩ := hy
  exact ⟨a / b, div_coe_coe a b (by exact_mod_cast h0)⟩

theorem rsqrt_coe_pos (a : ℝ) (ha : 0 < a) : Ideal.rsqrt (a : EReal) = (((Real.sqrt a)⁻¹ : ℝ) : EReal) := by
  show (if a < 0 then (⊥ : EReal) else if a = 0 then ⊤ else (((Real.sqrt a)⁻¹ : ℝ) : EReal)) = _
  rw [if_neg (not_lt.2 ha.le), if_neg ha.ne']

theorem ofBits_1024 : Ideal.ofBits .f32 0x44800000#32 = ((1024 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_4 : Ideal.ofBits .f32 0x40800000#32 = ((4 : ℝ) : EReal) := by
  simp [Ideal.ofBits, Ideal.ieee, -EReal.coe_mul]; norm_num

theorem ofBits_8 : Ideal.ofBits .f32 0x41000000#32 = ((8 : ℝ) : EReal) := by
  simp [Ideal.ofBits, Ideal.ieee, -EReal.coe_mul]; norm_num

theorem ofBits_16 : Ideal.ofBits .f32 0x41800000#32 = ((16 : ℝ) : EReal) := by
  simp [Ideal.ofBits, Ideal.ieee, -EReal.coe_mul]; norm_num

/-- The smaller of two natural numbers, as extended reals. -/
theorem min_nat (a b : ℕ) : min ((a : ℝ) : EReal) ((b : ℝ) : EReal) = (((min a b : ℕ) : ℝ) : EReal) := by
  rcases le_total a b with h | h
  · rw [min_eq_left h, min_eq_left]
    exact EReal.coe_le_coe_iff.mpr (Nat.cast_le.mpr h)
  · rw [min_eq_right h, min_eq_right]
    exact EReal.coe_le_coe_iff.mpr (Nat.cast_le.mpr h)

theorem ofBits_neg_half : Ideal.ofBits .f32 0xBF000000#32 = ((-(1 / 2) : ℝ) : EReal) := by
  simp [Ideal.ofBits, Ideal.ieee, -EReal.coe_mul, -EReal.coe_neg]; norm_num

/-- The small number added to the variance. -/
def epsR : ℝ := (2 ^ 23 + 2606508 : ℕ) * (2 : ℝ) ^ (-40 : ℤ)

theorem ofBits_eps : Ideal.ofBits .f32 0x3727C5AC#32 = ((epsR : ℝ) : EReal) := by
  simp [Ideal.ofBits, Ideal.ieee, -EReal.coe_mul, epsR]

theorem epsR_pos : 0 < epsR := by unfold epsR; positivity

/-- The factor of the residual stream. -/
theorem fin_alpha : Fin' (Ideal.ofBits .f32 0x3F9837F0#32) := by
  refine ⟨(2 ^ 23 + 1587184 : ℕ) * (2 : ℝ) ^ (-23 : ℤ), ?_⟩
  simp [Ideal.ofBits, Ideal.ieee, -EReal.coe_mul]

/-! ### The row functions -/

variable {n : ℕ}

/-- Mean over a row (of 1024 entries). -/
def mean (v : Fin n → EReal) : EReal := Ideal.div (∑ k, v k) (Ideal.ofBits .f32 0x44800000#32)

/-- The row less its mean. -/
def cen (v : Fin n → EReal) (k : Fin n) : EReal := v k - mean v

/-- Variance plus the small number. -/
def varEps (v : Fin n → EReal) : EReal := mean (fun k => cen v k * cen v k) + Ideal.ofBits .f32 0x3727C5AC#32

def rstd (v : Fin n → EReal) : EReal := Ideal.rsqrt (varEps v)

def xhat (v : Fin n → EReal) (k : Fin n) : EReal := cen v k * rstd v

/-- The closed form of the backward: `d` is the gradient of the normalised row. -/
def bwd (v d : Fin n → EReal) (k : Fin n) : EReal :=
  rstd v * (d k - mean d - xhat v k * mean (fun l => d l * xhat v l))

/-- The gradient with respect to the variance, spread over a row. -/
def dvar (v d : Fin n → EReal) : EReal :=
  Ideal.div ((∑ l, cen v l * d l) * (Ideal.ofBits .f32 0xBF000000#32 * Ideal.div (rstd v) (varEps v)))
    (Ideal.ofBits .f32 0x44800000#32)

/-- What flows through the variance. -/
def viaVar (v d : Fin n → EReal) (k : Fin n) : EReal := dvar v d * (Ideal.ofBits .f32 0x40000000#32 * cen v k)

/-- The backward as the chain rule gives it. -/
def bwdChain (v d : Fin n → EReal) (k : Fin n) : EReal :=
  d k * rstd v + viaVar v d k
    + Ideal.div ((∑ l, -(d l * rstd v)) + ∑ l, -(viaVar v d l)) (Ideal.ofBits .f32 0x44800000#32)

/-! ### On finite rows -/

theorem mean_coe (a : Fin n → ℝ) : mean (fun k => (a k : EReal)) = (((∑ k, a k) / 1024 : ℝ) : EReal) := by
  unfold mean; rw [coe_sum, ofBits_1024, div_coe_coe _ _ (by norm_num)]

/-- The real counterparts. -/
def cenR (a : Fin n → ℝ) (k : Fin n) : ℝ := a k - (∑ l, a l) / 1024

def veR (a : Fin n → ℝ) : ℝ := (∑ k, cenR a k * cenR a k) / 1024 + epsR

theorem veR_pos (a : Fin n → ℝ) : 0 < veR a := by
  have h : 0 ≤ (∑ k, cenR a k * cenR a k) / 1024 := div_nonneg (Finset.sum_nonneg fun k _ => mul_self_nonneg _) (by norm_num)
  have := epsR_pos
  unfold veR; linarith

theorem cen_coe (a : Fin n → ℝ) (k : Fin n) : cen (fun k => (a k : EReal)) k = (cenR a k : EReal) := by
  unfold cen cenR; rw [mean_coe, EReal.coe_sub]

theorem varEps_coe (a : Fin n → ℝ) : varEps (fun k => (a k : EReal)) = (veR a : EReal) := by
  unfold varEps veR
  simp only [cen_coe, ← EReal.coe_mul]
  rw [mean_coe, ofBits_eps, EReal.coe_add]

theorem rstd_coe (a : Fin n → ℝ) : rstd (fun k => (a k : EReal)) = (((Real.sqrt (veR a))⁻¹ : ℝ) : EReal) := by
  unfold rstd; rw [varEps_coe, rsqrt_coe_pos _ (veR_pos a)]

theorem xhat_coe (a : Fin n → ℝ) (k : Fin n) :
    xhat (fun k => (a k : EReal)) k = ((cenR a k * (Real.sqrt (veR a))⁻¹ : ℝ) : EReal) := by
  unfold xhat; rw [cen_coe, rstd_coe, EReal.coe_mul]

theorem bwd_coe (a b : Fin n → ℝ) (k : Fin n) :
    bwd (fun k => (a k : EReal)) (fun k => (b k : EReal)) k
      = (((Real.sqrt (veR a))⁻¹ * (b k - (∑ l, b l) / 1024
          - cenR a k * (Real.sqrt (veR a))⁻¹ * ((∑ l, b l * (cenR a l * (Real.sqrt (veR a))⁻¹)) / 1024)) : ℝ) : EReal) := by
  unfold bwd
  simp only [rstd_coe, xhat_coe, mean_coe, ← EReal.coe_mul, ← EReal.coe_sub]

theorem dvar_coe (a b : Fin n → ℝ) :
    dvar (fun k => (a k : EReal)) (fun k => (b k : EReal))
      = (((∑ l, cenR a l * b l) * (-(1 / 2) * ((Real.sqrt (veR a))⁻¹ / veR a)) / 1024 : ℝ) : EReal) := by
  unfold dvar
  simp only [rstd_coe, cen_coe, varEps_coe, ofBits_neg_half, ofBits_1024, div_coe_coe _ _ (veR_pos a).ne', ← EReal.coe_mul, coe_sum,
    div_coe_coe _ _ (show (1024 : ℝ) ≠ 0 by norm_num)]

theorem viaVar_coe (a b : Fin n → ℝ) (k : Fin n) :
    viaVar (fun k => (a k : EReal)) (fun k => (b k : EReal)) k
      = (((∑ l, cenR a l * b l) * (-(1 / 2) * ((Real.sqrt (veR a))⁻¹ / veR a)) / 1024 * (2 * cenR a k) : ℝ) : EReal) := by
  unfold viaVar
  simp only [dvar_coe, cen_coe, ofBits_two, ← EReal.coe_mul]

theorem sum_cenR (a : Fin 1024 → ℝ) : ∑ k, cenR a k = 0 := by
  unfold cenR; rw [Finset.sum_sub_distrib, Finset.sum_const, Finset.card_univ, Fintype.card_fin]; simp; ring

/-- THE EQUALITY: on finite rows the chain rule's backward is the closed form. -/
theorem bwdChain_eq {v d : Fin 1024 → EReal} (hv : ∀ k, Fin' (v k)) (hd : ∀ k, Fin' (d k)) (k : Fin 1024) :
    bwdChain v d k = bwd v d k := by
  choose a ha using hv
  choose b hb using hd
  obtain rfl : v = fun k => (a k : EReal) := funext ha
  obtain rfl : d = fun k => (b k : EReal) := funext hb
  rw [bwd_coe]
  unfold bwdChain
  simp only [rstd_coe, viaVar_coe, ofBits_1024, ← EReal.coe_mul, ← EReal.coe_neg, coe_sum, ← EReal.coe_add,
    div_coe_coe _ _ (show (1024 : ℝ) ≠ 0 by norm_num)]
  congr 1
  have hs : Real.sqrt (veR a) ≠ 0 := (Real.sqrt_pos.2 (veR_pos a)).ne'
  have hq : veR a = Real.sqrt (veR a) * Real.sqrt (veR a) := (Real.mul_self_sqrt (veR_pos a).le).symm
  have h1 : ∑ l, -((∑ l, cenR a l * b l) * (-(1 / 2) * ((Real.sqrt (veR a))⁻¹ / veR a)) / 1024 * (2 * cenR a l)) = 0 := by
    rw [Finset.sum_neg_distrib, ← Finset.mul_sum, ← Finset.mul_sum, sum_cenR]; ring
  have h2 : ∑ l, -(b l * (Real.sqrt (veR a))⁻¹) = -((∑ l, b l) * (Real.sqrt (veR a))⁻¹) := by
    rw [Finset.sum_neg_distrib, Finset.sum_mul]
  have h3 : ∑ l, b l * (cenR a l * (Real.sqrt (veR a))⁻¹) = (∑ l, cenR a l * b l) * (Real.sqrt (veR a))⁻¹ := by
    rw [Finset.sum_mul]; exact Finset.sum_congr rfl fun l _ => by ring
  rw [h1, h2, h3]
  generalize hσ : Real.sqrt (veR a) = σ at *
  rw [hq]
  field_simp
  ring

theorem fin_rstd {v : Fin n → EReal} (hv : ∀ k, Fin' (v k)) : Fin' (rstd v) := by
  choose a ha using hv
  obtain rfl : v = fun k => (a k : EReal) := funext ha
  rw [rstd_coe]; exact fin_coe _

theorem fin_xhat {v : Fin n → EReal} (hv : ∀ k, Fin' (v k)) (k : Fin n) : Fin' (xhat v k) := by
  choose a ha using hv
  obtain rfl : v = fun k => (a k : EReal) := funext ha
  rw [xhat_coe]; exact fin_coe _

theorem fin_bwd {v d : Fin n → EReal} (hv : ∀ k, Fin' (v k)) (hd : ∀ k, Fin' (d k)) (k : Fin n) : Fin' (bwd v d k) := by
  choose a ha using hv
  choose b hb using hd
  obtain rfl : v = fun k => (a k : EReal) := funext ha
  obtain rfl : d = fun k => (b k : EReal) := funext hb
  rw [bwd_coe]; exact fin_coe _

end Cert.Norm
-- ==== Proof.Spec.lean ====
module

public import proofs.«01_k».proof.Proof.Norm

@[expose] public section

/-!
# The backward of the mixing layer, row by row

What the kernel and the reference both compute, written over rows, columns and groups of columns. `Data` holds what
the layer reads; the functions after it are the gradients.
-/

noncomputable section

namespace Cert.Spec
open Idealize.ShloMosaic Cert.Norm

/-- What the backward reads: the two summands of the residual, the gradient coming in, the saved columns of the forward
(gate `zb`, factors `zc` and `zv`, convolution `cv`, pooled values `pl`), and the parameters. -/
structure Data where
  x : Fin 8192 → Fin 1024 → EReal
  mix : Fin 8192 → Fin 1024 → EReal
  dx : Fin 8192 → Fin 1024 → EReal
  zb : Fin 8192 → Fin 512 → EReal
  zc : Fin 8192 → Fin 512 → EReal
  zv : Fin 8192 → Fin 512 → EReal
  cv : Fin 8192 → Fin 512 → EReal
  pl : Fin 8192 → Fin 512 → EReal
  sc1 : Fin 1024 → EReal
  g1 : Fin 1024 → EReal
  cw : Fin 3 → Fin 512 → EReal
  wi : Fin 4 → Fin 1024 → Fin 512 → EReal
  wp : Fin 4 → Fin 128 → Fin 128 → EReal
  ps : Fin 512 → EReal
  wo : Fin 1024 → Fin 1024 → EReal
  lng : Fin 1024 → EReal

/-- The residual's scale. -/
def alpha : EReal := Ideal.ofBits .f32 0x3F9837F0#32

/-- Column `e` of group `g`. -/
def gcol (g : Fin 4) (e : Fin 128) : Fin 512 := ⟨128 * g.val + e.val, by omega⟩

/-- The group of a column. -/
def grp (c : Fin 512) : Fin 4 := ⟨c.val / 128, by omega⟩

/-- A column's place in its group. -/
def plc (c : Fin 512) : Fin 128 := ⟨c.val % 128, by omega⟩

theorem gcol_grp_plc (c : Fin 512) : gcol (grp c) (plc c) = c := Fin.ext (Nat.div_add_mod c.val 128)

theorem grp_gcol (g : Fin 4) (e : Fin 128) : grp (gcol g e) = g := Fin.ext (by simp only [grp, gcol]; omega)

theorem plc_gcol (g : Fin 4) (e : Fin 128) : plc (gcol g e) = e := Fin.ext (by simp only [plc, gcol]; omega)

/-- The length of a group's window. -/
def win (g : Fin 4) : ℕ := 2 ^ (g.val + 1)

/-- One over the number of rows in the window ending at row `n`. -/
def inv (w n : ℕ) : EReal := Ideal.div 1 (((min (n + 1) w : ℕ) : ℝ) : EReal)

/-- A function of the rows, zero past the last. -/
def past {ι : Type} (f : Fin 8192 → ι → EReal) (n : ℕ) (c : ι) : EReal := if h : n < 8192 then f ⟨n, h⟩ c else 0

theorem past_of_lt {ι : Type} (f : Fin 8192 → ι → EReal) (n : ℕ) (c : ι) (h : n < 8192) : past f n c = f ⟨n, h⟩ c := dif_pos h

theorem past_of_le {ι : Type} (f : Fin 8192 → ι → EReal) (n : ℕ) (c : ι) (h : 8192 ≤ n) : past f n c = 0 :=
  dif_neg (Nat.not_lt.mpr h)

namespace Data
variable (D : Data)

/-- The row that is normalised. -/
def R (r : Fin 8192) (k : Fin 1024) : EReal := alpha * D.x r k + (1 + D.g1 k) * D.mix r k

def XH (r : Fin 8192) (k : Fin 1024) : EReal := xhat (D.R r) k

/-- The gradient of the residual. -/
def DR (r : Fin 8192) (k : Fin 1024) : EReal := bwd (D.R r) (fun l => D.dx r l * D.lng l) k

/-- The gradient of the mixed values. -/
def DM (r : Fin 8192) (k : Fin 1024) : EReal := (1 + D.g1 k) * D.DR r k

/-- The gradient of the two halves the output projection reads. -/
def DC (r : Fin 8192) (c : Fin 1024) : EReal := ∑ k, D.DM r k * D.wo c k

def DYC (r : Fin 8192) (c : Fin 512) : EReal := D.DC r ⟨c.val, by omega⟩

def DYP (r : Fin 8192) (c : Fin 512) : EReal := D.DC r ⟨512 + c.val, by omega⟩

def DZB (r : Fin 8192) (c : Fin 512) : EReal := D.DYC r c * D.cv r c

/-- The gradient of the convolution's values. -/
def DCV (r : Fin 8192) (c : Fin 512) : EReal := D.DYC r c * D.zb r c

/-- The transposed convolution: the gradient at a row reads that row and the two after it. -/
def DU (r : Fin 8192) (c : Fin 512) : EReal :=
  D.cw 2 c * D.DCV r c + D.cw 1 c * past D.DCV (r.val + 1) c + D.cw 0 c * past D.DCV (r.val + 2) c

def U (r : Fin 8192) (c : Fin 512) : EReal := D.zc r c * D.zv r c

def DZC (r : Fin 8192) (c : Fin 512) : EReal := D.DU r c * D.zv r c

def DZV (r : Fin 8192) (c : Fin 512) : EReal := D.DU r c * D.zc r c

def DPW (r : Fin 8192) (c : Fin 512) : EReal := D.DYP r c * D.ps c

/-- The pooled values through their group's matrix. -/
def PM (r : Fin 8192) (c : Fin 512) : EReal := ∑ d, D.pl r (gcol (grp c) d) * D.wp (grp c) d (plc c)

/-- The gradient of the pooled values. -/
def DP (r : Fin 8192) (c : Fin 512) : EReal := ∑ e, D.DPW r (gcol (grp c) e) * D.wp (grp c) (plc c) e

/-- The same over the count of the window. -/
def Q (r : Fin 8192) (c : Fin 512) : EReal := D.DP r c * inv (win (grp c)) r.val

/-- The transposed pooling: a row is in the windows of the rows at and after it. -/
def DZP (r : Fin 8192) (c : Fin 512) : EReal :=
  (∑ s ∈ Finset.range (win (grp c)), past D.Q (r.val + s) c) - D.DP r c

/-- The gradient of the input projection, the four parts side by side. -/
def DZ (j : Fin 4) : Fin 8192 → Fin 512 → EReal := ![D.DZB, D.DZC, D.DZV, D.DZP] j

/-- The gradient of what the input projection reads. -/
def DH (r : Fin 8192) (k : Fin 1024) : EReal :=
  (∑ c, D.DZB r c * D.wi 0 k c) + (∑ c, D.DZC r c * D.wi 1 k c) + (∑ c, D.DZV r c * D.wi 2 k c)
    + ∑ c, D.DZP r c * D.wi 3 k c

/-- The gradient of the layer's input. -/
def GX (r : Fin 8192) (k : Fin 1024) : EReal := alpha * D.DR r k + D.DH r k * (1 + D.sc1 k)

/-- The five sums over the rows of model width. -/
def termD (q : Fin 5) (r : Fin 8192) (k : Fin 1024) : EReal :=
  ![D.dx r k * D.XH r k, D.dx r k, D.DR r k * D.mix r k, D.DH r k * D.x r k, D.DH r k] q

/-- The four sums over the rows of channel width. -/
def termC (q : Fin 4) (r : Fin 8192) (c : Fin 512) : EReal :=
  ![D.U r c * past D.DCV (r.val + 2) c, D.U r c * past D.DCV (r.val + 1) c, D.U r c * D.DCV r c, D.DYP r c * D.PM r c] q

/-- What the gradient of a group's matrix sums over the rows. -/
def termP (g : Fin 4) (d e : Fin 128) (r : Fin 8192) : EReal := D.pl r (gcol g d) * D.DPW r (gcol g e)

end Data
end Cert.Spec
-- ==== Proof.Window.lean ====
/- Running sums over the rows of an array: the reference's `reduce_window` as a sum, its finiteness, and the
   telescoping of a running sum of differences into a sum over a window. -/
module

public import proofs.«01_k».proof.Proof.Norm
public import Idealize.ShloMosaic.Lib.Pointwise

@[expose] public section

noncomputable section

namespace Cert.Window

open Idealize.ShloMosaic Cert.Norm

theorem foldl_add {ι : Type*} (l : List ι) (f : ι → EReal) (v : EReal) :
    l.foldl (fun r n => r + f n) v = v + (l.map f).sum := by
  induction l generalizing v with
  | nil => simp
  | cons a l ih => rw [List.foldl_cons, ih, List.map_cons, List.sum_cons, add_assoc]

theorem numelCol (N : ℕ) : (⟨2, ![N, 1]⟩ : Shape).numel = N := by
  show ∏ a : Fin 2, (![N, 1] : Fin 2 → Nat) a = N
  rw [Fin.prod_univ_two]
  exact Nat.mul_one N

theorem symmCol {N : ℕ} (n : Fin (⟨2, ![N, 1]⟩ : Shape).numel) :
    (⟨2, ![N, 1]⟩ : Shape).rowMajor.symm n = ix2 (n.cast (numelCol N)) (0 : Fin 1) :=
  ((⟨2, ![N, 1]⟩ : Shape).rowMajor.symm_apply_eq).2 (Fin.ext (by
    rw [Shape.rowMajor_val_two]
    show n.val = n.val * 1 + 0
    omega))

/-- A running sum from the last row up. -/
theorem revSum {N C M : ℕ} {φ : FTy} {u : Shape} (x : FVec Ideal ⟨2, ![N, C]⟩ φ) (init : u.Idx → Ideal φ)
    (h : (⟨2, ![N, C]⟩ : Shape).ReduceWindows ![N, 1] ![1, 1] ![0, 0] ![M, 0] ⟨2, ![N, C]⟩) (hu : 0 < u.numel)
    (hi : init (Shape.Idx.first hu) = (0 : EReal)) (r : Fin N) (c : Fin C) :
    Host.reduceWindowAdd (F := Ideal) ![N, 1] ![1, 1] ![0, 0] ![M, 0] x init h hu (ix2 r c)
      = ∑ k : Fin N, (if hk : r.val + k.val < N then (x (ix2 ⟨r.val + k.val, hk⟩ c) : EReal) else 0) := by
  show Ideal.hostReduceWindowAdd _ _ _ _ h x (init (Shape.Idx.first hu)) (ix2 r c) = _
  rw [hi]
  unfold Ideal.hostReduceWindowAdd Host.reduceWindow
  refine (foldl_add _ _ _).trans ?_
  rw [zero_add, ← Fin.sum_univ_def]
  refine Fintype.sum_equiv (finCongr (numelCol N)) _ _ fun n => ?_
  have hw0 : ((⟨2, ![N, 1]⟩ : Shape).rowMajor.symm n 0).val = n.val := by rw [symmCol]; rfl
  have hw1 : ((⟨2, ![N, 1]⟩ : Shape).rowMajor.symm n 1).val = 0 := by rw [symmCol]; rfl
  have hc := c.isLt
  dsimp only
  by_cases hk : r.val + n.val < N
  · rw [dif_pos (show r.val + (finCongr (numelCol N) n).val < N from hk), dif_pos]
    · refine congrArg x (funext fun a => Fin.ext ?_)
      match a with
      | ⟨0, _⟩ =>
        show r.val * 1 + ((⟨2, ![N, 1]⟩ : Shape).rowMajor.symm n 0).val - 0 = r.val + n.val
        rw [hw0]; omega
      | ⟨1, _⟩ =>
        show c.val * 1 + ((⟨2, ![N, 1]⟩ : Shape).rowMajor.symm n 1).val - 0 = c.val
        rw [hw1]; omega
    · intro a
      match a with
      | ⟨0, _⟩ =>
        show 0 ≤ r.val * 1 + ((⟨2, ![N, 1]⟩ : Shape).rowMajor.symm n 0).val
          ∧ r.val * 1 + ((⟨2, ![N, 1]⟩ : Shape).rowMajor.symm n 0).val - 0 < N
        rw [hw0]; omega
      | ⟨1, _⟩ =>
        show 0 ≤ c.val * 1 + ((⟨2, ![N, 1]⟩ : Shape).rowMajor.symm n 1).val
          ∧ c.val * 1 + ((⟨2, ![N, 1]⟩ : Shape).rowMajor.symm n 1).val - 0 < C
        rw [hw1]; omega
  · rw [dif_neg (show ¬ r.val + (finCongr (numelCol N) n).val < N from hk), dif_neg]
    intro hin
    have h0 : r.val * 1 + ((⟨2, ![N, 1]⟩ : Shape).rowMajor.symm n 0).val - 0 < N := (hin 0).2
    rw [hw0] at h0
    omega

/-- A running sum of finite values is finite. -/
theorem fin_reduceWindowAdd {s t u : Shape} {φ : FTy} (window strides lo hi : Fin s.rank → Nat) (x : FVec Ideal s φ)
    (init : u.Idx → Ideal φ) (h : s.ReduceWindows window strides lo hi t) (hu : 0 < u.numel)
    (hi0 : init (Shape.Idx.first hu) = (0 : EReal)) (hx : ∀ i, Fin' (x i)) (j : t.Idx) :
    Fin' (Host.reduceWindowAdd (F := Ideal) window strides lo hi x init h hu j) := by
  show Fin' (Ideal.hostReduceWindowAdd _ _ _ _ h x (init (Shape.Idx.first hu)) j)
  rw [hi0]
  unfold Ideal.hostReduceWindowAdd Host.reduceWindow
  dsimp only
  generalize List.finRange _ = l
  suffices H : ∀ v : EReal, Fin' v → Fin' (l.foldl _ v) from H 0 fin_zero
  induction l with
  | nil => exact fun v hv => hv
  | cons a l ih =>
    intro v hv
    rw [List.foldl_cons]
    refine ih _ (hv.add ?_)
    split
    · exact hx _
    · exact fin_zero

/-- Over the rows from `r` on, the sum of the differences `Q i - Q (i + w)` is the sum of the first `w` rows. -/
theorem telescope {N : ℕ} (Q : ℕ → EReal) (hf : ∀ i, Fin' (Q i)) (h0 : ∀ i, N ≤ i → Q i = 0) (r w : ℕ) :
    (∑ k : Fin N, (if r + k.val < N then Q (r + k.val) + -(Q (r + k.val + w)) else 0))
      = ∑ s ∈ Finset.range w, Q (r + s) := by
  choose q hq using hf
  have hz : ∀ i, N ≤ i → q i = 0 := fun i hi => by
    have := hq i; rw [h0 i hi] at this; exact_mod_cast this.symm
  have e1 : ∀ k : Fin N, (if r + k.val < N then Q (r + k.val) + -(Q (r + k.val + w)) else 0)
      = ((q (r + k.val) - q (r + k.val + w) : ℝ) : EReal) := fun k => by
    split
    · rw [hq, hq, EReal.coe_sub, sub_eq_add_neg]
    · next h => rw [hz _ (by omega), hz _ (by omega)]; simp
  rw [Finset.sum_congr rfl fun k _ => e1 k]
  simp only [hq]
  rw [coe_sum, coe_sum]
  congr 1
  rw [Fin.sum_univ_eq_sum_range (fun k => q (r + k) - q (r + k + w)) N, Finset.sum_sub_distrib]
  have e2 : ∑ k ∈ Finset.range (w + N), q (r + k) = ∑ k ∈ Finset.range w, q (r + k) + ∑ k ∈ Finset.range N, q (r + k + w) := by
    rw [Finset.sum_range_add]
    congr 1
    exact Finset.sum_congr rfl fun k _ => by congr 1; omega
  have e3 : ∑ k ∈ Finset.range (N + w), q (r + k) = ∑ k ∈ Finset.range N, q (r + k) := by
    rw [Finset.sum_range_add, Finset.sum_eq_zero (s := Finset.range w), add_zero]
    exact fun k _ => hz _ (by omega)
  rw [Nat.add_comm w N, e3] at e2
  linarith

end Cert.Window
-- ==== Proof.RefNorm.lean ====
module

public import proofs.«01_k».proof.Proof.Gen.ReferenceIdeal.Read
public import proofs.«01_k».proof.Proof.Spec
public import proofs.«01_k».proof.Proof.Window
public import Idealize.ShloMosaic.Lib.Pointwise

@[expose] public section

set_option maxRecDepth 16384

/-!
# The reference's backward through the layer norm

The arguments of the reference give the data of the specification. On finite data the chain rule's backward is the
specification's closed form.
-/

noncomputable section

namespace Cert.ReferenceIdeal.Hand
open Cert.ReferenceIdeal Cert.ReferenceIdeal.Gen Cert.ReferenceIdeal.Read Idealize.ShloMosaic Idealize.ShloMosaic.TcCoe
open Cert.Norm Cert.Spec

variable (x0 : FVec Ideal S8192x1024 .f32) (x1 : FVec Ideal S1x6144 .f32) (x2 : FVec Ideal S1024x2048 .f32)
  (x3 : FVec Ideal S3x512 .f32) (x4 : FVec Ideal S4x128x128 .f32) (x5 : FVec Ideal S1x512 .f32)
  (x6 : FVec Ideal S1024x1024 .f32) (x7 : FVec Ideal S1x1024 .f32) (x8 : FVec Ideal S8192x1024 .f32)

/-- The data the reference works on: its arguments and what its forward lines leave. -/
def refData : Data where
  x r k := x0 (ix2 r k)
  mix r k := (val_main_v103 (F := Ideal) x0 x1 x2 x3 x4 x5 x6) (ix2 r k)
  dx r k := x8 (ix2 r k)
  zb r c := (val_main_v10 (F := Ideal) x0 x1 x2) (ix2 r c)
  zc r c := (val_main_v11 (F := Ideal) x0 x1 x2) (ix2 r c)
  zv r c := (val_main_v12 (F := Ideal) x0 x1 x2) (ix2 r c)
  cv r c := (val_main_v37 (F := Ideal) x0 x1 x2 x3) (ix2 r c)
  pl r c := (val_main_v96 (F := Ideal) x0 x1 x2) (ix3 r (grp c) (plc c))
  sc1 k := x1 (ix2 0 ⟨1024 + k.val, by omega⟩)
  g1 k := x1 (ix2 0 ⟨2048 + k.val, by omega⟩)
  cw q c := x3 (ix2 q c)
  wi j k c := x2 (ix2 k ⟨512 * j.val + c.val, by omega⟩)
  wp g d e := x4 (ix3 g d e)
  ps c := x5 (ix2 0 c)
  wo c k := x6 (ix2 c k)
  lng k := x7 (ix2 0 k)

theorem R_eq (r : Fin 8192) (k : Fin 1024) : (val_main_v111 (F := Ideal) x0 x1 x2 x3 x4 x5 x6) (ix2 r k) = ((refData x0 x1 x2 x3 x4 x5 x6 x7 x8)).R r k := by
  pointwise [val_main_v2, val_main_cst_15, val_main_v104, val_main_cst_16, val_main_v105, val_main_v106, val_main_cst_17, val_main_v107, val_main_v108, val_main_v109, val_main_v110, val_main_v111]
  rfl

theorem mean_eq (r : Fin 8192) : (val_main_v115 (F := Ideal) x0 x1 x2 x3 x4 x5 x6) (ix2 r 0) = mean (((refData x0 x1 x2 x3 x4 x5 x6 x7 x8)).R r) := by
  pointwise [val_main_cst_18, val_main_v112, val_main_v113, val_main_cst_19, val_main_v114, val_main_v115]
  simp only [R_eq x0 x1 x2 x3 x4 x5 x6 x7 x8]
  rfl

theorem cen_eq (r : Fin 8192) (k : Fin 1024) : (val_main_v126 (F := Ideal) x0 x1 x2 x3 x4 x5 x6) (ix2 r k) = cen (((refData x0 x1 x2 x3 x4 x5 x6 x7 x8)).R r) k := by
  pointwise [val_main_v125, val_main_v126]
  rw [R_eq x0 x1 x2 x3 x4 x5 x6 x7 x8, mean_eq x0 x1 x2 x3 x4 x5 x6 x7 x8]
  rfl

theorem cen'_eq (r : Fin 8192) (k : Fin 1024) : (val_main_v117 (F := Ideal) x0 x1 x2 x3 x4 x5 x6) (ix2 r k) = cen (((refData x0 x1 x2 x3 x4 x5 x6 x7 x8)).R r) k := by
  pointwise [val_main_v116, val_main_v117]
  rw [R_eq x0 x1 x2 x3 x4 x5 x6 x7 x8, mean_eq x0 x1 x2 x3 x4 x5 x6 x7 x8]
  rfl

theorem varEps_eq (r : Fin 8192) : (val_main_v128 (F := Ideal) x0 x1 x2 x3 x4 x5 x6) (ix2 r 0) = varEps (((refData x0 x1 x2 x3 x4 x5 x6 x7 x8)).R r) := by
  pointwise [val_main_v118, val_main_cst_21, val_main_v121, val_main_v122, val_main_cst_22, val_main_v123, val_main_v124, val_main_cst_23, val_main_v127, val_main_v128]
  simp only [cen'_eq x0 x1 x2 x3 x4 x5 x6 x7 x8]
  rfl

theorem rstd_eq (r : Fin 8192) : (val_main_v129 (F := Ideal) x0 x1 x2 x3 x4 x5 x6) (ix2 r 0) = rstd (((refData x0 x1 x2 x3 x4 x5 x6 x7 x8)).R r) := by
  pointwise [val_main_v129]
  rw [varEps_eq x0 x1 x2 x3 x4 x5 x6 x7 x8]
  rfl

theorem xhat_eq (r : Fin 8192) (k : Fin 1024) : (val_main_v134 (F := Ideal) x0 x1 x2 x3 x4 x5 x6) (ix2 r k) = ((refData x0 x1 x2 x3 x4 x5 x6 x7 x8)).XH r k := by
  pointwise [val_main_v133, val_main_v134]
  rw [cen_eq x0 x1 x2 x3 x4 x5 x6 x7 x8, rstd_eq x0 x1 x2 x3 x4 x5 x6 x7 x8]
  rfl

theorem dx_eq (r : Fin 8192) (k : Fin 1024) : (val_main_v139 (F := Ideal) x8) (ix2 r k) = ((refData x0 x1 x2 x3 x4 x5 x6 x7 x8)).dx r k := by
  pointwise [val_main_v139]
  rfl

theorem dl_eq (r : Fin 8192) (k : Fin 1024) : (val_main_v146 (F := Ideal) x7 x8) (ix2 r k) = ((refData x0 x1 x2 x3 x4 x5 x6 x7 x8)).dx r k * ((refData x0 x1 x2 x3 x4 x5 x6 x7 x8)).lng k := by
  pointwise [val_main_v145, val_main_v146]
  rw [dx_eq x0 x1 x2 x3 x4 x5 x6 x7 x8]
  rfl

theorem dvar_eq (r : Fin 8192) : (val_main_v157 (F := Ideal) x0 x1 x2 x3 x4 x5 x6 x7 x8) (ix2 r 0) = dvar (((refData x0 x1 x2 x3 x4 x5 x6 x7 x8)).R r) (fun l => ((refData x0 x1 x2 x3 x4 x5 x6 x7 x8)).dx r l * ((refData x0 x1 x2 x3 x4 x5 x6 x7 x8)).lng l) := by
  pointwise [val_main_v130, val_main_cst_24, val_main_v131, val_main_v132, val_main_v147, val_main_cst_27, val_main_v148, val_main_v149, val_main_v152, val_main_cst_29, val_main_v156, val_main_v157]
  simp only [dl_eq x0 x1 x2 x3 x4 x5 x6 x7 x8, cen_eq x0 x1 x2 x3 x4 x5 x6 x7 x8, rstd_eq x0 x1 x2 x3 x4 x5 x6 x7 x8, varEps_eq x0 x1 x2 x3 x4 x5 x6 x7 x8]
  rfl

theorem scaled_eq (r : Fin 8192) (k : Fin 1024) :
    (val_main_v151 (F := Ideal) x0 x1 x2 x3 x4 x5 x6 x7 x8) (ix2 r k) = ((refData x0 x1 x2 x3 x4 x5 x6 x7 x8)).dx r k * ((refData x0 x1 x2 x3 x4 x5 x6 x7 x8)).lng k * rstd (((refData x0 x1 x2 x3 x4 x5 x6 x7 x8)).R r) := by
  pointwise [val_main_v150, val_main_v151]
  rw [dl_eq x0 x1 x2 x3 x4 x5 x6 x7 x8, rstd_eq x0 x1 x2 x3 x4 x5 x6 x7 x8]

theorem viaVar_eq (r : Fin 8192) (k : Fin 1024) :
    (val_main_v160 (F := Ideal) x0 x1 x2 x3 x4 x5 x6 x7 x8) (ix2 r k) = viaVar (((refData x0 x1 x2 x3 x4 x5 x6 x7 x8)).R r) (fun l => ((refData x0 x1 x2 x3 x4 x5 x6 x7 x8)).dx r l * ((refData x0 x1 x2 x3 x4 x5 x6 x7 x8)).lng l) k := by
  pointwise [val_main_cst_30, val_main_v158, val_main_v159, val_main_v160, val_main_cst_20, val_main_v119, val_main_v120]
  rw [Fin.sum_univ_one]
  rw [cen'_eq x0 x1 x2 x3 x4 x5 x6 x7 x8, dvar_eq x0 x1 x2 x3 x4 x5 x6 x7 x8]
  rfl

theorem drChain_eq (r : Fin 8192) (k : Fin 1024) :
    (val_main_v170 (F := Ideal) x0 x1 x2 x3 x4 x5 x6 x7 x8) (ix2 r k) = bwdChain (((refData x0 x1 x2 x3 x4 x5 x6 x7 x8)).R r) (fun l => ((refData x0 x1 x2 x3 x4 x5 x6 x7 x8)).dx r l * ((refData x0 x1 x2 x3 x4 x5 x6 x7 x8)).lng l) k := by
  pointwise [val_main_v153, val_main_cst_28, val_main_v154, val_main_v155, val_main_v161, val_main_cst_31, val_main_v162, val_main_v163, val_main_v164, val_main_v165, val_main_cst_32, val_main_v166, val_main_v167, val_main_cst_33, val_main_v168, val_main_v169, val_main_v170]
  rw [Fin.sum_univ_one]
  simp only [scaled_eq x0 x1 x2 x3 x4 x5 x6 x7 x8, viaVar_eq x0 x1 x2 x3 x4 x5 x6 x7 x8]
  rfl

/-- The gradient of the residual, on finite rows. -/
theorem dr_eq (hR : ∀ r k, Fin' (((refData x0 x1 x2 x3 x4 x5 x6 x7 x8)).R r k)) (hd : ∀ r k, Fin' (((refData x0 x1 x2 x3 x4 x5 x6 x7 x8)).dx r k * ((refData x0 x1 x2 x3 x4 x5 x6 x7 x8)).lng k)) (r : Fin 8192) (k : Fin 1024) :
    (val_main_v170 (F := Ideal) x0 x1 x2 x3 x4 x5 x6 x7 x8) (ix2 r k) = ((refData x0 x1 x2 x3 x4 x5 x6 x7 x8)).DR r k :=
  (drChain_eq x0 x1 x2 x3 x4 x5 x6 x7 x8 r k).trans (bwdChain_eq (hR r) (hd r) k)

theorem dm_eq (hR : ∀ r k, Fin' (((refData x0 x1 x2 x3 x4 x5 x6 x7 x8)).R r k)) (hd : ∀ r k, Fin' (((refData x0 x1 x2 x3 x4 x5 x6 x7 x8)).dx r k * ((refData x0 x1 x2 x3 x4 x5 x6 x7 x8)).lng k)) (r : Fin 8192) (k : Fin 1024) :
    (val_main_v172 (F := Ideal) x0 x1 x2 x3 x4 x5 x6 x7 x8) (ix2 r k) = ((refData x0 x1 x2 x3 x4 x5 x6 x7 x8)).DM r k := by
  pointwise [val_main_v2, val_main_cst_17, val_main_v107, val_main_v108, val_main_v171, val_main_v172]
  rw [dr_eq x0 x1 x2 x3 x4 x5 x6 x7 x8 hR hd]
  rfl

end Cert.ReferenceIdeal.Hand
-- ==== Proof.RefGrad.lean ====
module

public import proofs.«01_k».proof.Proof.RefNorm
public import Idealize.ShloMosaic.Lib.Pointwise

@[expose] public section

set_option maxRecDepth 16384

/-!
# The reference's backward through the output projection, the pool's matrices and the gates
-/

noncomputable section

namespace Cert.ReferenceIdeal.Hand
open Cert.ReferenceIdeal Cert.ReferenceIdeal.Gen Cert.ReferenceIdeal.Read Idealize.ShloMosaic Idealize.ShloMosaic.TcCoe
open Cert.Norm Cert.Spec

variable (x0 : FVec Ideal S8192x1024 .f32) (x1 : FVec Ideal S1x6144 .f32) (x2 : FVec Ideal S1024x2048 .f32)
  (x3 : FVec Ideal S3x512 .f32) (x4 : FVec Ideal S4x128x128 .f32) (x5 : FVec Ideal S1x512 .f32)
  (x6 : FVec Ideal S1024x1024 .f32) (x7 : FVec Ideal S1x1024 .f32) (x8 : FVec Ideal S8192x1024 .f32)

section
variable {x0 x1 x2 x3 x4 x5 x6 x7 x8} (hDM : ∀ r k, (val_main_v172 (F := Ideal) x0 x1 x2 x3 x4 x5 x6 x7 x8) (ix2 r k) = ((refData x0 x1 x2 x3 x4 x5 x6 x7 x8)).DM r k)
include hDM

theorem dc_eq (r : Fin 8192) (c : Fin 1024) : (val_main_v178 (F := Ideal) x0 x1 x2 x3 x4 x5 x6 x7 x8) (ix2 r c) = ((refData x0 x1 x2 x3 x4 x5 x6 x7 x8)).DC r c := by
  pointwise [val_main_v178]
  simp only [hDM]
  rfl

theorem dyc_eq (r : Fin 8192) (c : Fin 512) : (val_main_v179 (F := Ideal) x0 x1 x2 x3 x4 x5 x6 x7 x8) (ix2 r c) = ((refData x0 x1 x2 x3 x4 x5 x6 x7 x8)).DYC r c := by
  pointwise [val_main_v179]
  exact dc_eq hDM r _

theorem dyp_eq (r : Fin 8192) (c : Fin 512) : (val_main_v180 (F := Ideal) x0 x1 x2 x3 x4 x5 x6 x7 x8) (ix2 r c) = ((refData x0 x1 x2 x3 x4 x5 x6 x7 x8)).DYP r c := by
  pointwise [val_main_v180]
  exact dc_eq hDM r _

theorem dpw_eq (r : Fin 8192) (c : Fin 512) : (val_main_v185 (F := Ideal) x0 x1 x2 x3 x4 x5 x6 x7 x8) (ix2 r c) = ((refData x0 x1 x2 x3 x4 x5 x6 x7 x8)).DPW r c := by
  pointwise [val_main_v184, val_main_v185]
  rw [dyp_eq hDM]
  rfl

theorem dpw3_eq (r : Fin 8192) (g : Fin 4) (e : Fin 128) : (val_main_v187 (F := Ideal) x0 x1 x2 x3 x4 x5 x6 x7 x8) (ix3 g e r) = ((refData x0 x1 x2 x3 x4 x5 x6 x7 x8)).DPW r (gcol g e) := by
  pointwise [val_main_v186, val_main_v187]
  exact (congrArg (fun c => (val_main_v185 (F := Ideal) x0 x1 x2 x3 x4 x5 x6 x7 x8) (ix2 r c)) (Fin.ext (by simp only [gcol]; omega))).trans (dpw_eq hDM r (gcol g e))

theorem dp_eq (r : Fin 8192) (g : Fin 4) (e : Fin 128) : (val_main_v189 (F := Ideal) x0 x1 x2 x3 x4 x5 x6 x7 x8) (ix3 r g e) = ((refData x0 x1 x2 x3 x4 x5 x6 x7 x8)).DP r (gcol g e) := by
  pointwise [val_main_v188, val_main_v189]
  simp only [dpw3_eq hDM, Data.DP, grp_gcol, plc_gcol]
  rfl

theorem dwp_eq (g : Fin 4) (d e : Fin 128) : (val_main_v191 (F := Ideal) x0 x1 x2 x3 x4 x5 x6 x7 x8) (ix3 g d e) = ∑ r, ((refData x0 x1 x2 x3 x4 x5 x6 x7 x8)).termP g d e r := by
  pointwise [val_main_v190, val_main_v191]
  simp only [dpw3_eq hDM, Data.termP, refData, grp_gcol, plc_gcol, mul_comm]

omit hDM in
variable (x0 x1 x2 x3 x4 x5 x6 x7 x8) in
theorem pm_eq (r : Fin 8192) (c : Fin 512) : (val_main_v99 (F := Ideal) x0 x1 x2 x4) (ix2 r c) = ((refData x0 x1 x2 x3 x4 x5 x6 x7 x8)).PM r c := by
  pointwise [val_main_v97, val_main_v98, val_main_v99]
  refine Finset.sum_congr rfl fun d _ => ?_
  simp only [refData, grp_gcol, plc_gcol]
  exact mul_comm _ _

theorem sumPm_eq (c : Fin 512) : (val_main_v183 (F := Ideal) x0 x1 x2 x3 x4 x5 x6 x7 x8) (ix2 0 c) = ∑ r, ((refData x0 x1 x2 x3 x4 x5 x6 x7 x8)).DYP r c * ((refData x0 x1 x2 x3 x4 x5 x6 x7 x8)).PM r c := by
  pointwise [val_main_v181, val_main_cst_36, val_main_v182, val_main_v183]
  simp only [dyp_eq hDM, pm_eq x0 x1 x2 x3 x4 x5 x6 x7 x8]
  exact Finset.sum_congr rfl fun r _ => mul_comm _ _

theorem dcv_eq (r : Fin 8192) (c : Fin 512) : (val_main_v248 (F := Ideal) x0 x1 x2 x3 x4 x5 x6 x7 x8) (ix2 r c) = ((refData x0 x1 x2 x3 x4 x5 x6 x7 x8)).DCV r c := by
  pointwise [val_main_v248]
  rw [dyc_eq hDM, mul_comm]
  rfl

theorem dzb_eq (r : Fin 8192) (c : Fin 512) : (val_main_v249 (F := Ideal) x0 x1 x2 x3 x4 x5 x6 x7 x8) (ix2 r c) = ((refData x0 x1 x2 x3 x4 x5 x6 x7 x8)).DZB r c := by
  pointwise [val_main_v249]
  rw [dyc_eq hDM]
  rfl

end
end Cert.ReferenceIdeal.Hand
-- ==== Proof.RefPool.lean ====
module

public import proofs.«01_k».proof.Proof.RefGrad
public import Idealize.ShloMosaic.Lib.Pointwise

@[expose] public section

set_option maxRecDepth 16384

/-!
# The reference's backward through the moving averages
-/

noncomputable section

namespace Cert.ReferenceIdeal.Hand
open Cert.ReferenceIdeal Cert.ReferenceIdeal.Gen Cert.ReferenceIdeal.Read Idealize.ShloMosaic Idealize.ShloMosaic.TcCoe
open Cert.Norm Cert.Spec

variable (x0 : FVec Ideal S8192x1024 .f32) (x1 : FVec Ideal S1x6144 .f32) (x2 : FVec Ideal S1024x2048 .f32)
  (x3 : FVec Ideal S3x512 .f32) (x4 : FVec Ideal S4x128x128 .f32) (x5 : FVec Ideal S1x512 .f32)
  (x6 : FVec Ideal S1024x1024 .f32) (x7 : FVec Ideal S1x1024 .f32) (x8 : FVec Ideal S8192x1024 .f32)

/-- A row's number plus one, as the reference counts it. -/
theorem count_eq (n : ℕ) (hn : n < 8192) :
    (1 + FloatOps.sitofp (F := Ideal) FTy.f32 (BitVec.ofNat 32 n) : EReal) = (((n + 1 : ℕ) : ℝ) : EReal) := by
  show (1 : EReal) + (((BitVec.ofNat 32 n).toInt : ℝ) : EReal) = _
  have h : (BitVec.ofNat 32 n).toInt = ((n : ℕ) : ℤ) := by
    rw [BitVec.toInt_eq_toNat_cond, BitVec.toNat_ofNat]
    omega
  rw [h, Nat.cast_add, Nat.cast_one, EReal.coe_add, add_comm]
  rfl

/-- Dividing by the count of a window is multiplying by one over it. -/
theorem div_count (g : Fin 4) {w : EReal} (hw : w = (((win g : ℕ) : ℝ) : EReal)) (x : EReal) (n : ℕ) (hn : n < 8192) :
    Ideal.div x (min (1 + FloatOps.sitofp (F := Ideal) FTy.f32 (BitVec.ofNat 32 n) : EReal) w) = x * inv (win g) n := by
  have h0 : (((min (n + 1) (win g) : ℕ) : ℝ) : EReal) ≠ 0 := by
    have : 0 < min (n + 1) (win g) := Nat.lt_min.2 ⟨Nat.succ_pos n, Nat.two_pow_pos _⟩
    exact_mod_cast this.ne'
  rw [count_eq n hn, hw, min_nat, Spec.inv.eq_1]
  unfold Ideal.div
  rw [if_neg h0, if_neg h0, one_mul]

theorem win_0 : Ideal.ofBits .f32 0x40000000#32 = (((win 0 : ℕ) : ℝ) : EReal) := by rw [ofBits_two]; norm_num [win]
theorem win_1 : Ideal.ofBits .f32 0x40800000#32 = (((win 1 : ℕ) : ℝ) : EReal) := by rw [ofBits_4]; norm_num [win]
theorem win_2 : Ideal.ofBits .f32 0x41000000#32 = (((win 2 : ℕ) : ℝ) : EReal) := by rw [ofBits_8]; norm_num [win]
theorem win_3 : Ideal.ofBits .f32 0x41800000#32 = (((win 3 : ℕ) : ℝ) : EReal) := by rw [ofBits_16]; norm_num [win]

section
variable {x0 x1 x2 x3 x4 x5 x6 x7 x8} (hDM : ∀ r k, (val_main_v172 (F := Ideal) x0 x1 x2 x3 x4 x5 x6 x7 x8) (ix2 r k) = ((refData x0 x1 x2 x3 x4 x5 x6 x7 x8)).DM r k)
include hDM

theorem neg_eq (r : Fin 8192) (g : Fin 4) (e : Fin 128) : (val_main_v236 (F := Ideal) x0 x1 x2 x3 x4 x5 x6 x7 x8) (ix2 r (gcol g e)) = -((refData x0 x1 x2 x3 x4 x5 x6 x7 x8)).DP r (gcol g e) := by
  have he := e.isLt
  rw [← dp_eq hDM]
  fin_cases g
  · pointwise [gcol, val_main_v192, val_main_v193, val_main_v194, val_main_v195, val_main_v196, val_main_v197, val_main_v198, val_main_v199, val_main_v200, val_main_cst_37, val_main_v201, val_main_v210, val_main_cst_40, val_main_v211, val_main_v212, val_main_v222, val_main_cst_43, val_main_v223, val_main_v224, val_main_v234, val_main_cst_46, val_main_v235, val_main_v236]
    rw [dif_neg (by omega), dif_neg (by omega), dif_neg (fun h => h.1), zero_add, zero_add, zero_add]
  · pointwise [gcol, val_main_v192, val_main_v193, val_main_v194, val_main_v195, val_main_v196, val_main_v197, val_main_v198, val_main_v199, val_main_v200, val_main_cst_37, val_main_v201, val_main_v210, val_main_cst_40, val_main_v211, val_main_v212, val_main_v222, val_main_cst_43, val_main_v223, val_main_v224, val_main_v234, val_main_cst_46, val_main_v235, val_main_v236]
    rw [dif_neg (by omega), dif_neg (by omega), zero_add, zero_add]
  · pointwise [gcol, val_main_v192, val_main_v193, val_main_v194, val_main_v195, val_main_v196, val_main_v197, val_main_v198, val_main_v199, val_main_v200, val_main_cst_37, val_main_v201, val_main_v210, val_main_cst_40, val_main_v211, val_main_v212, val_main_v222, val_main_cst_43, val_main_v223, val_main_v224, val_main_v234, val_main_cst_46, val_main_v235, val_main_v236]
    rw [dif_neg (by omega), dif_neg (by omega), dif_neg (by omega), zero_add, add_zero, add_zero]
  · pointwise [gcol, val_main_v192, val_main_v193, val_main_v194, val_main_v195, val_main_v196, val_main_v197, val_main_v198, val_main_v199, val_main_v200, val_main_cst_37, val_main_v201, val_main_v210, val_main_cst_40, val_main_v211, val_main_v212, val_main_v222, val_main_cst_43, val_main_v223, val_main_v224, val_main_v234, val_main_cst_46, val_main_v235, val_main_v236]
    rw [dif_neg (by omega), dif_neg (by omega), dif_neg (by omega), add_zero, add_zero, add_zero]

theorem q0_eq (r : Fin 8192) (e : Fin 128) : (val_main_v238 (F := Ideal) x0 x1 x2 x3 x4 x5 x6 x7 x8) (ix2 r e) = ((refData x0 x1 x2 x3 x4 x5 x6 x7 x8)).Q r (gcol 0 e) := by
  pointwise [val_main_v40, val_main_cst_2, val_main_v41, val_main_v42, val_main_v43, val_main_v51, val_main_cst_5, val_main_v50, val_main_v192, val_main_v193, val_main_v237, val_main_v238]
  rw [div_count 0 win_0 _ _ r.isLt, dp_eq hDM, Data.Q, grp_gcol]

theorem diff0_eq (r : Fin 8192) (e : Fin 128) :
    (val_main_v243 (F := Ideal) x0 x1 x2 x3 x4 x5 x6 x7 x8) (ix2 r e) = ((refData x0 x1 x2 x3 x4 x5 x6 x7 x8)).Q r (gcol 0 e) + -past ((refData x0 x1 x2 x3 x4 x5 x6 x7 x8)).Q (r.val + win 0) (gcol 0 e) := by
  pointwise [val_main_v239, val_main_v240, val_main_v241, val_main_cst_47, val_main_v242, val_main_v243]
  have h : (if h : r.val < 8190 then -(val_main_v238 (F := Ideal) x0 x1 x2 x3 x4 x5 x6 x7 x8) (ix2 ⟨2 + r.val, by omega⟩ e) else 0)
      = -past ((refData x0 x1 x2 x3 x4 x5 x6 x7 x8)).Q (r.val + win 0) (gcol 0 e) := by
    have hw : win 0 = 2 := rfl
    by_cases h : r.val < 8190
    · rw [dif_pos h, past_of_lt _ _ _ (by omega), q0_eq hDM]
      simp only [hw, Nat.add_comm]
    · rw [dif_neg h, past_of_le _ _ _ (by omega), neg_zero]
  rw [q0_eq hDM]
  exact congrArg _ h

theorem q1_eq (r : Fin 8192) (e : Fin 128) : (val_main_v226 (F := Ideal) x0 x1 x2 x3 x4 x5 x6 x7 x8) (ix2 r e) = ((refData x0 x1 x2 x3 x4 x5 x6 x7 x8)).Q r (gcol 1 e) := by
  pointwise [val_main_v40, val_main_cst_2, val_main_v41, val_main_v42, val_main_v43, val_main_cst_8, val_main_v62, val_main_v63, val_main_v194, val_main_v195, val_main_v225, val_main_v226]
  rw [div_count 1 win_1 _ _ r.isLt, dp_eq hDM, Data.Q, grp_gcol]

theorem diff1_eq (r : Fin 8192) (e : Fin 128) :
    (val_main_v231 (F := Ideal) x0 x1 x2 x3 x4 x5 x6 x7 x8) (ix2 r e) = ((refData x0 x1 x2 x3 x4 x5 x6 x7 x8)).Q r (gcol 1 e) + -past ((refData x0 x1 x2 x3 x4 x5 x6 x7 x8)).Q (r.val + win 1) (gcol 1 e) := by
  pointwise [val_main_v227, val_main_v228, val_main_v229, val_main_cst_44, val_main_v230, val_main_v231]
  have h : (if h : r.val < 8188 then -(val_main_v226 (F := Ideal) x0 x1 x2 x3 x4 x5 x6 x7 x8) (ix2 ⟨4 + r.val, by omega⟩ e) else 0)
      = -past ((refData x0 x1 x2 x3 x4 x5 x6 x7 x8)).Q (r.val + win 1) (gcol 1 e) := by
    have hw : win 1 = 4 := rfl
    by_cases h : r.val < 8188
    · rw [dif_pos h, past_of_lt _ _ _ (by omega), q1_eq hDM]
      simp only [hw, Nat.add_comm]
    · rw [dif_neg h, past_of_le _ _ _ (by omega), neg_zero]
  rw [q1_eq hDM]
  exact congrArg _ h

theorem q2_eq (r : Fin 8192) (e : Fin 128) : (val_main_v214 (F := Ideal) x0 x1 x2 x3 x4 x5 x6 x7 x8) (ix2 r e) = ((refData x0 x1 x2 x3 x4 x5 x6 x7 x8)).Q r (gcol 2 e) := by
  pointwise [val_main_v40, val_main_cst_2, val_main_v41, val_main_v42, val_main_v43, val_main_cst_11, val_main_v74, val_main_v75, val_main_v196, val_main_v197, val_main_v213, val_main_v214]
  rw [div_count 2 win_2 _ _ r.isLt, dp_eq hDM, Data.Q, grp_gcol]

theorem diff2_eq (r : Fin 8192) (e : Fin 128) :
    (val_main_v219 (F := Ideal) x0 x1 x2 x3 x4 x5 x6 x7 x8) (ix2 r e) = ((refData x0 x1 x2 x3 x4 x5 x6 x7 x8)).Q r (gcol 2 e) + -past ((refData x0 x1 x2 x3 x4 x5 x6 x7 x8)).Q (r.val + win 2) (gcol 2 e) := by
  pointwise [val_main_v215, val_main_v216, val_main_v217, val_main_cst_41, val_main_v218, val_main_v219]
  have h : (if h : r.val < 8184 then -(val_main_v214 (F := Ideal) x0 x1 x2 x3 x4 x5 x6 x7 x8) (ix2 ⟨8 + r.val, by omega⟩ e) else 0)
      = -past ((refData x0 x1 x2 x3 x4 x5 x6 x7 x8)).Q (r.val + win 2) (gcol 2 e) := by
    have hw : win 2 = 8 := rfl
    by_cases h : r.val < 8184
    · rw [dif_pos h, past_of_lt _ _ _ (by omega), q2_eq hDM]
      simp only [hw, Nat.add_comm]
    · rw [dif_neg h, past_of_le _ _ _ (by omega), neg_zero]
  rw [q2_eq hDM]
  exact congrArg _ h

theorem q3_eq (r : Fin 8192) (e : Fin 128) : (val_main_v203 (F := Ideal) x0 x1 x2 x3 x4 x5 x6 x7 x8) (ix2 r e) = ((refData x0 x1 x2 x3 x4 x5 x6 x7 x8)).Q r (gcol 3 e) := by
  pointwise [val_main_v40, val_main_cst_2, val_main_v41, val_main_v42, val_main_v43, val_main_cst_14, val_main_v86, val_main_v87, val_main_v198, val_main_v199, val_main_v202, val_main_v203]
  rw [div_count 3 win_3 _ _ r.isLt, dp_eq hDM, Data.Q, grp_gcol]

theorem diff3_eq (r : Fin 8192) (e : Fin 128) :
    (val_main_v208 (F := Ideal) x0 x1 x2 x3 x4 x5 x6 x7 x8) (ix2 r e) = ((refData x0 x1 x2 x3 x4 x5 x6 x7 x8)).Q r (gcol 3 e) + -past ((refData x0 x1 x2 x3 x4 x5 x6 x7 x8)).Q (r.val + win 3) (gcol 3 e) := by
  pointwise [val_main_v204, val_main_v205, val_main_v206, val_main_cst_38, val_main_v207, val_main_v208]
  have h : (if h : r.val < 8176 then -(val_main_v203 (F := Ideal) x0 x1 x2 x3 x4 x5 x6 x7 x8) (ix2 ⟨16 + r.val, by omega⟩ e) else 0)
      = -past ((refData x0 x1 x2 x3 x4 x5 x6 x7 x8)).Q (r.val + win 3) (gcol 3 e) := by
    have hw : win 3 = 16 := rfl
    by_cases h : r.val < 8176
    · rw [dif_pos h, past_of_lt _ _ _ (by omega), q3_eq hDM]
      simp only [hw, Nat.add_comm]
    · rw [dif_neg h, past_of_le _ _ _ (by omega), neg_zero]
  rw [q3_eq hDM]
  exact congrArg _ h

theorem diff_eq (r : Fin 8192) (g : Fin 4) (e : Fin 128) :
    (val_main_v245 (F := Ideal) x0 x1 x2 x3 x4 x5 x6 x7 x8) (ix2 r (gcol g e)) = ((refData x0 x1 x2 x3 x4 x5 x6 x7 x8)).Q r (gcol g e) + -past ((refData x0 x1 x2 x3 x4 x5 x6 x7 x8)).Q (r.val + win g) (gcol g e) := by
  have he := e.isLt
  fin_cases g
  · refine Eq.trans ?_ (diff0_eq hDM r e)
    pointwise [gcol, val_main_cst_39, val_main_v209, val_main_cst_42, val_main_v220, val_main_v221, val_main_cst_45, val_main_v232, val_main_v233, val_main_cst_48, val_main_v244, val_main_v245]
    rw [dif_neg (by omega), dif_neg (by omega), dif_neg (fun h => h.1), zero_add, zero_add, zero_add]
  · refine Eq.trans ?_ (diff1_eq hDM r e)
    pointwise [gcol, val_main_cst_39, val_main_v209, val_main_cst_42, val_main_v220, val_main_v221, val_main_cst_45, val_main_v232, val_main_v233, val_main_cst_48, val_main_v244, val_main_v245]
    rw [dif_neg (by omega), dif_neg (by omega), zero_add, zero_add]
  · refine Eq.trans ?_ (diff2_eq hDM r e)
    pointwise [gcol, val_main_cst_39, val_main_v209, val_main_cst_42, val_main_v220, val_main_v221, val_main_cst_45, val_main_v232, val_main_v233, val_main_cst_48, val_main_v244, val_main_v245]
    rw [dif_neg (by omega), dif_neg (by omega), dif_neg (by omega), zero_add, add_zero, add_zero]
  · refine Eq.trans ?_ (diff3_eq hDM r e)
    pointwise [gcol, val_main_cst_39, val_main_v209, val_main_cst_42, val_main_v220, val_main_v221, val_main_cst_45, val_main_v232, val_main_v233, val_main_cst_48, val_main_v244, val_main_v245]
    rw [dif_neg (by omega), dif_neg (by omega), dif_neg (by omega), add_zero, add_zero, add_zero]

/-- The transposed pooling: the reversed running sum of the differences is the sum over the windows. -/
theorem dzp_eq (hQ : ∀ r c, Fin' (((refData x0 x1 x2 x3 x4 x5 x6 x7 x8)).Q r c)) (r : Fin 8192) (c : Fin 512) : (val_main_v247 (F := Ideal) x0 x1 x2 x3 x4 x5 x6 x7 x8) (ix2 r c) = ((refData x0 x1 x2 x3 x4 x5 x6 x7 x8)).DZP r c := by
  rw [← gcol_grp_plc c]
  generalize grp c = g
  generalize plc c = e
  have hsum : (val_main_v246 (F := Ideal) x0 x1 x2 x3 x4 x5 x6 x7 x8) (ix2 r (gcol g e)) = ∑ s ∈ Finset.range (win g), past ((refData x0 x1 x2 x3 x4 x5 x6 x7 x8)).Q (r.val + s) (gcol g e) := by
    refine (Window.revSum _ _ _ _ (by pointwise [val_main_call1_call0_v0, val_main_call1_call0_cst]) r (gcol g e)).trans ?_
    refine Eq.trans ?_ (Window.telescope (fun n => past ((refData x0 x1 x2 x3 x4 x5 x6 x7 x8)).Q n (gcol g e)) (fun i => ?_) (fun i h => past_of_le _ _ _ h) r.val (win g))
    · refine Finset.sum_congr rfl fun k _ => ?_
      by_cases h : r.val + k.val < 8192
      · rw [dif_pos h, if_pos h, diff_eq hDM, past_of_lt _ _ _ h]
      · rw [dif_neg h, if_neg h]
    · show Fin' (past ((refData x0 x1 x2 x3 x4 x5 x6 x7 x8)).Q i (gcol g e))
      unfold past
      split
      · exact hQ _ _
      · exact fin_zero
  pointwise [val_main_v247]
  rw [neg_eq hDM, hsum, Data.DZP, grp_gcol, sub_eq_add_neg, add_comm]

end
end Cert.ReferenceIdeal.Hand
-- ==== Proof.RefFin.lean ====
module

public import proofs.«01_k».proof.Proof.RefPool
public import Idealize.ShloMosaic.Lib.Pointwise

@[expose] public section

set_option maxRecDepth 16384

/-!
# The reference's forward lines are finite on finite arguments
-/

noncomputable section

namespace Cert.ReferenceIdeal.Hand
open Cert.ReferenceIdeal Cert.ReferenceIdeal.Gen Cert.ReferenceIdeal.Read Idealize.ShloMosaic Idealize.ShloMosaic.TcCoe
open Cert.Norm Cert.Spec

variable (x0 : FVec Ideal S8192x1024 .f32) (x1 : FVec Ideal S1x6144 .f32) (x2 : FVec Ideal S1024x2048 .f32)
  (x3 : FVec Ideal S3x512 .f32) (x4 : FVec Ideal S4x128x128 .f32) (x5 : FVec Ideal S1x512 .f32)
  (x6 : FVec Ideal S1024x1024 .f32) (x7 : FVec Ideal S1x1024 .f32) (x8 : FVec Ideal S8192x1024 .f32)

theorem fin_inv (g : Fin 4) (n : ℕ) : Fin' (inv (win g) n) := by
  have : 0 < min (n + 1) (win g) := Nat.lt_min.2 ⟨Nat.succ_pos n, Nat.two_pow_pos _⟩
  exact fin_one.div (fin_coe _) (by exact_mod_cast this.ne')

theorem fin_dite {p : Prop} [Decidable p] {f : ¬p → EReal} (h : ∀ hp, Fin' (f hp)) : Fin' (if hp : p then 0 else f hp) := by
  split
  · exact fin_zero
  · exact h _

section
variable {x0 x1 x2 x3 x4 x5 x6 x7 x8} (h0 : ∀ r k, Fin' (x0 (ix2 r k))) (h1 : ∀ k, Fin' (x1 (ix2 0 k))) (h2 : ∀ k c, Fin' (x2 (ix2 k c)))
  (h3 : ∀ q c, Fin' (x3 (ix2 q c))) (h4 : ∀ g d e, Fin' (x4 (ix3 g d e))) (h5 : ∀ c, Fin' (x5 (ix2 0 c)))
  (h6 : ∀ c k, Fin' (x6 (ix2 c k)))
include h0 h1 h2

theorem fin_z (r : Fin 8192) (k : Fin 2048) : Fin' ((val_main_v9 (F := Ideal) x0 x1 x2) (ix2 r k)) := by
  pointwise [val_main_v0, val_main_v1, val_main_v2, val_main_cst, val_main_v3, val_main_v4, val_main_v5, val_main_v6, val_main_v7, val_main_v8, val_main_v9]
  exact fin_sum _ fun l _ => (((h0 r l).mul (fin_one.add (h1 _))).add (h1 _)).mul (h2 l k)

theorem fin_zb (r : Fin 8192) (c : Fin 512) : Fin' ((val_main_v10 (F := Ideal) x0 x1 x2) (ix2 r c)) := by
  pointwise [val_main_v10]
  exact fin_z h0 h1 h2 r _

theorem fin_zc (r : Fin 8192) (c : Fin 512) : Fin' ((val_main_v11 (F := Ideal) x0 x1 x2) (ix2 r c)) := by
  pointwise [val_main_v11]
  exact fin_z h0 h1 h2 r _

theorem fin_zv (r : Fin 8192) (c : Fin 512) : Fin' ((val_main_v12 (F := Ideal) x0 x1 x2) (ix2 r c)) := by
  pointwise [val_main_v12]
  exact fin_z h0 h1 h2 r _

theorem fin_zp (r : Fin 8192) (c : Fin 512) : Fin' ((val_main_v13 (F := Ideal) x0 x1 x2) (ix2 r c)) := by
  pointwise [val_main_v13]
  exact fin_z h0 h1 h2 r _

theorem fin_u (r : Fin 8192) (c : Fin 512) : Fin' ((val_main_v14 (F := Ideal) x0 x1 x2) (ix2 r c)) := by
  pointwise [val_main_v14]
  exact (fin_zc h0 h1 h2 r c).mul (fin_zv h0 h1 h2 r c)

theorem fin_run (r : Fin 8192) (c : Fin 512) : Fin' ((val_main_v39 (F := Ideal) x0 x1 x2) (ix2 r c)) :=
  Window.fin_reduceWindowAdd _ _ _ _ _ _ _ _ (by pointwise [val_main_call0_call0_v0, val_main_call0_call0_cst])
    (fun i => by
      have h : i = ix2 (i 0) (i 1) := by funext a; fin_cases a <;> rfl
      rw [h]
      exact fin_zp h0 h1 h2 (i 0) (i 1)) _

theorem fin_pl (r : Fin 8192) (g : Fin 4) (e : Fin 128) : Fin' ((val_main_v96 (F := Ideal) x0 x1 x2) (ix3 r g e)) := by
  fin_cases g
  · pointwise [val_main_v40, val_main_cst_2, val_main_v41, val_main_v42, val_main_v43, val_main_v44, val_main_cst_3, val_main_v45, val_main_v46, val_main_v47, val_main_cst_4, val_main_v48, val_main_v49, val_main_cst_5, val_main_v50, val_main_v51, val_main_v52, val_main_v53, val_main_v54, val_main_v55, val_main_v56, val_main_cst_6, val_main_v57, val_main_v58, val_main_v59, val_main_cst_7, val_main_v60, val_main_v61, val_main_cst_8, val_main_v62, val_main_v63, val_main_v64, val_main_v65, val_main_v66, val_main_v67, val_main_v68, val_main_cst_9, val_main_v69, val_main_v70, val_main_v71, val_main_cst_10, val_main_v72, val_main_v73, val_main_cst_11, val_main_v74, val_main_v75, val_main_v76, val_main_v77, val_main_v78, val_main_v79, val_main_v80, val_main_cst_12, val_main_v81, val_main_v82, val_main_v83, val_main_cst_13, val_main_v84, val_main_v85, val_main_cst_14, val_main_v86, val_main_v87, val_main_v88, val_main_v89, val_main_v90, val_main_v91, val_main_v92, val_main_v93, val_main_v94, val_main_v95, val_main_v96]
    rw [div_count 0 win_0 _ _ r.isLt]
    exact (((fin_run h0 h1 h2 r _).sub (fin_dite fun _ => fin_run h0 h1 h2 _ _)).mul (fin_inv _ _)).sub (fin_zp h0 h1 h2 r _)
  · pointwise [val_main_v40, val_main_cst_2, val_main_v41, val_main_v42, val_main_v43, val_main_v44, val_main_cst_3, val_main_v45, val_main_v46, val_main_v47, val_main_cst_4, val_main_v48, val_main_v49, val_main_cst_5, val_main_v50, val_main_v51, val_main_v52, val_main_v53, val_main_v54, val_main_v55, val_main_v56, val_main_cst_6, val_main_v57, val_main_v58, val_main_v59, val_main_cst_7, val_main_v60, val_main_v61, val_main_cst_8, val_main_v62, val_main_v63, val_main_v64, val_main_v65, val_main_v66, val_main_v67, val_main_v68, val_main_cst_9, val_main_v69, val_main_v70, val_main_v71, val_main_cst_10, val_main_v72, val_main_v73, val_main_cst_11, val_main_v74, val_main_v75, val_main_v76, val_main_v77, val_main_v78, val_main_v79, val_main_v80, val_main_cst_12, val_main_v81, val_main_v82, val_main_v83, val_main_cst_13, val_main_v84, val_main_v85, val_main_cst_14, val_main_v86, val_main_v87, val_main_v88, val_main_v89, val_main_v90, val_main_v91, val_main_v92, val_main_v93, val_main_v94, val_main_v95, val_main_v96]
    rw [div_count 1 win_1 _ _ r.isLt]
    exact (((fin_run h0 h1 h2 r _).sub (fin_dite fun _ => fin_run h0 h1 h2 _ _)).mul (fin_inv _ _)).sub (fin_zp h0 h1 h2 r _)
  · pointwise [val_main_v40, val_main_cst_2, val_main_v41, val_main_v42, val_main_v43, val_main_v44, val_main_cst_3, val_main_v45, val_main_v46, val_main_v47, val_main_cst_4, val_main_v48, val_main_v49, val_main_cst_5, val_main_v50, val_main_v51, val_main_v52, val_main_v53, val_main_v54, val_main_v55, val_main_v56, val_main_cst_6, val_main_v57, val_main_v58, val_main_v59, val_main_cst_7, val_main_v60, val_main_v61, val_main_cst_8, val_main_v62, val_main_v63, val_main_v64, val_main_v65, val_main_v66, val_main_v67, val_main_v68, val_main_cst_9, val_main_v69, val_main_v70, val_main_v71, val_main_cst_10, val_main_v72, val_main_v73, val_main_cst_11, val_main_v74, val_main_v75, val_main_v76, val_main_v77, val_main_v78, val_main_v79, val_main_v80, val_main_cst_12, val_main_v81, val_main_v82, val_main_v83, val_main_cst_13, val_main_v84, val_main_v85, val_main_cst_14, val_main_v86, val_main_v87, val_main_v88, val_main_v89, val_main_v90, val_main_v91, val_main_v92, val_main_v93, val_main_v94, val_main_v95, val_main_v96]
    rw [div_count 2 win_2 _ _ r.isLt]
    exact (((fin_run h0 h1 h2 r _).sub (fin_dite fun _ => fin_run h0 h1 h2 _ _)).mul (fin_inv _ _)).sub (fin_zp h0 h1 h2 r _)
  · pointwise [val_main_v40, val_main_cst_2, val_main_v41, val_main_v42, val_main_v43, val_main_v44, val_main_cst_3, val_main_v45, val_main_v46, val_main_v47, val_main_cst_4, val_main_v48, val_main_v49, val_main_cst_5, val_main_v50, val_main_v51, val_main_v52, val_main_v53, val_main_v54, val_main_v55, val_main_v56, val_main_cst_6, val_main_v57, val_main_v58, val_main_v59, val_main_cst_7, val_main_v60, val_main_v61, val_main_cst_8, val_main_v62, val_main_v63, val_main_v64, val_main_v65, val_main_v66, val_main_v67, val_main_v68, val_main_cst_9, val_main_v69, val_main_v70, val_main_v71, val_main_cst_10, val_main_v72, val_main_v73, val_main_cst_11, val_main_v74, val_main_v75, val_main_v76, val_main_v77, val_main_v78, val_main_v79, val_main_v80, val_main_cst_12, val_main_v81, val_main_v82, val_main_v83, val_main_cst_13, val_main_v84, val_main_v85, val_main_cst_14, val_main_v86, val_main_v87, val_main_v88, val_main_v89, val_main_v90, val_main_v91, val_main_v92, val_main_v93, val_main_v94, val_main_v95, val_main_v96]
    rw [div_count 3 win_3 _ _ r.isLt]
    exact (((fin_run h0 h1 h2 r _).sub (fin_dite fun _ => fin_run h0 h1 h2 _ _)).mul (fin_inv _ _)).sub (fin_zp h0 h1 h2 r _)

include h3
theorem fin_conv (r : Fin 8192) (c : Fin 512) : Fin' ((val_main_v37 (F := Ideal) x0 x1 x2 x3) (ix2 r c)) := by
  pointwise [val_main_cst_0, val_main_v15, val_main_v16, val_main_cst_1, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37]
  exact (((fin_dite fun _ => fin_u h0 h1 h2 _ _).mul (h3 0 c)).add ((fin_dite fun _ => fin_u h0 h1 h2 _ _).mul (h3 1 c))).add
    ((fin_u h0 h1 h2 r c).mul (h3 2 c))

include h4 h5 h6
theorem fin_mix (r : Fin 8192) (k : Fin 1024) : Fin' ((val_main_v103 (F := Ideal) x0 x1 x2 x3 x4 x5 x6) (ix2 r k)) := by
  pointwise [val_main_v38, val_main_v97, val_main_v98, val_main_v99, val_main_v100, val_main_v101, val_main_v102, val_main_v103]
  exact (fin_sum _ fun c _ => ((fin_zb h0 h1 h2 r c).mul (fin_conv h0 h1 h2 h3 r c)).mul (h6 _ _)).add
    (fin_sum _ fun c _ => ((fin_sum _ fun d _ => (h4 _ _ _).mul (fin_pl h0 h1 h2 r _ d)).mul (h5 c)).mul (h6 _ _))

end
end Cert.ReferenceIdeal.Hand
-- ==== Proof.RefConv.lean ====
module

public import proofs.«01_k».proof.Proof.RefGrad
public import Idealize.ShloMosaic.Lib.Pointwise

@[expose] public section

set_option maxRecDepth 16384

/-!
# The reference's backward through the convolution
-/

noncomputable section

namespace Cert.ReferenceIdeal.Hand
open Cert.ReferenceIdeal Cert.ReferenceIdeal.Gen Cert.ReferenceIdeal.Read Idealize.ShloMosaic Idealize.ShloMosaic.TcCoe
open Cert.Norm Cert.Spec

variable (x0 : FVec Ideal S8192x1024 .f32) (x1 : FVec Ideal S1x6144 .f32) (x2 : FVec Ideal S1024x2048 .f32)
  (x3 : FVec Ideal S3x512 .f32) (x4 : FVec Ideal S4x128x128 .f32) (x5 : FVec Ideal S1x512 .f32)
  (x6 : FVec Ideal S1024x1024 .f32) (x7 : FVec Ideal S1x1024 .f32) (x8 : FVec Ideal S8192x1024 .f32)

/-- A function against another shifted down is the other shifted up against it. -/
theorem sum_shift (s : ℕ) (f g : Fin 8192 → Fin 512 → EReal) (c : Fin 512) :
    (∑ r : Fin 8192, (if h : s ≤ r.val then f ⟨r.val - s, by omega⟩ c else 0) * g r c)
      = ∑ r : Fin 8192, f r c * past g (r.val + s) c := by
  have h1 : (∑ r : Fin 8192, (if h : s ≤ r.val then f ⟨r.val - s, by omega⟩ c else 0) * g r c)
      = ∑ n ∈ Finset.range 8192, (if s ≤ n then past f (n - s) c else 0) * past g n c := by
    rw [← Fin.sum_univ_eq_sum_range (fun n => (if s ≤ n then past f (n - s) c else 0) * past g n c) 8192]
    refine Finset.sum_congr rfl fun r _ => ?_
    rw [past_of_lt g _ _ r.isLt]
    refine congrArg (· * _) ?_
    by_cases h : s ≤ r.val
    · rw [dif_pos h, if_pos h, past_of_lt f _ _ (by omega)]
    · rw [dif_neg h, if_neg h]
  have h2 : (∑ r : Fin 8192, f r c * past g (r.val + s) c) = ∑ n ∈ Finset.range 8192, past f n c * past g (n + s) c := by
    rw [← Fin.sum_univ_eq_sum_range (fun n => past f n c * past g (n + s) c) 8192]
    exact Finset.sum_congr rfl fun r _ => by rw [past_of_lt f _ _ r.isLt]
  have h3 := Finset.sum_range_add (fun n => (if s ≤ n then past f (n - s) c else 0) * past g n c) 8192 s
  have h4 := Finset.sum_range_add (fun n => (if s ≤ n then past f (n - s) c else 0) * past g n c) s 8192
  rw [Finset.sum_eq_zero (s := Finset.range s) fun n _ => by rw [past_of_le g _ _ (by omega), mul_zero], add_zero] at h3
  rw [Finset.sum_eq_zero (s := Finset.range s) fun n hn => by
    rw [if_neg (by have := Finset.mem_range.1 hn; omega), zero_mul], zero_add, Nat.add_comm s 8192, h3] at h4
  rw [h1, h2, h4]
  refine Finset.sum_congr rfl fun n _ => ?_
  rw [if_pos (Nat.le_add_right s n), Nat.add_sub_cancel_left, Nat.add_comm]

section
variable {x0 x1 x2 x3 x4 x5 x6 x7 x8} (hDM : ∀ r k, (val_main_v172 (F := Ideal) x0 x1 x2 x3 x4 x5 x6 x7 x8) (ix2 r k) = ((refData x0 x1 x2 x3 x4 x5 x6 x7 x8)).DM r k)
include hDM

theorem du_eq (r : Fin 8192) (c : Fin 512) : (val_main_v282 (F := Ideal) x0 x1 x2 x3 x4 x5 x6 x7 x8) (ix2 r c) = ((refData x0 x1 x2 x3 x4 x5 x6 x7 x8)).DU r c := by
  pointwise [val_main_v19, val_main_v20, val_main_v21, val_main_v25, val_main_v26, val_main_v27, val_main_v32, val_main_v33, val_main_v34, val_main_v253, val_main_v254, val_main_cst_52, val_main_v258, val_main_v262, val_main_v263, val_main_cst_56, val_main_v268, val_main_v269, val_main_v273, val_main_v274, val_main_cst_60, val_main_v279, val_main_v280, val_main_v282]
  have h2 : (if h : 2 + r.val < 8192 then (val_main_v248 (F := Ideal) x0 x1 x2 x3 x4 x5 x6 x7 x8) (ix2 ⟨2 + r.val, h⟩ c) * x3 (ix2 0 c) else 0)
      = ((refData x0 x1 x2 x3 x4 x5 x6 x7 x8)).cw 0 c * past ((refData x0 x1 x2 x3 x4 x5 x6 x7 x8)).DCV (r.val + 2) c := by
    rw [Nat.add_comm 2 r.val, past]
    split
    · rw [dcv_eq hDM]; exact mul_comm _ _
    · exact (mul_zero _).symm
  have h1 : (if h : 1 ≤ 2 + r.val ∧ 2 + r.val - 1 < 8192 then (val_main_v248 (F := Ideal) x0 x1 x2 x3 x4 x5 x6 x7 x8) (ix2 ⟨2 + r.val - 1, h.2⟩ c) * x3 (ix2 1 c) else 0)
      = ((refData x0 x1 x2 x3 x4 x5 x6 x7 x8)).cw 1 c * past ((refData x0 x1 x2 x3 x4 x5 x6 x7 x8)).DCV (r.val + 1) c := by
    have e : 2 + r.val - 1 = r.val + 1 := by omega
    by_cases h : r.val + 1 < 8192
    · rw [dif_pos ⟨by omega, by omega⟩, past_of_lt _ _ _ h, mul_comm]
      refine congrArg _ ?_
      rw [← dcv_eq hDM]
      exact congrArg (fun r => (val_main_v248 (F := Ideal) x0 x1 x2 x3 x4 x5 x6 x7 x8) (ix2 r c)) (Fin.ext e)
    · rw [dif_neg (by omega), past_of_le _ _ _ (by omega), mul_zero]
  refine congrArg₂ _ (congrArg₂ _ ?_ h1) h2
  rw [dcv_eq hDM]
  exact mul_comm _ _

theorem dzc_eq (r : Fin 8192) (c : Fin 512) : (val_main_v284 (F := Ideal) x0 x1 x2 x3 x4 x5 x6 x7 x8) (ix2 r c) = ((refData x0 x1 x2 x3 x4 x5 x6 x7 x8)).DZC r c := by
  pointwise [val_main_v284]
  rw [du_eq hDM]
  rfl

theorem dzv_eq (r : Fin 8192) (c : Fin 512) : (val_main_v283 (F := Ideal) x0 x1 x2 x3 x4 x5 x6 x7 x8) (ix2 r c) = ((refData x0 x1 x2 x3 x4 x5 x6 x7 x8)).DZV r c := by
  pointwise [val_main_v283]
  rw [du_eq hDM]
  exact mul_comm _ _

omit hDM in
variable (x0 x1 x2 x3 x4 x5 x6 x7 x8) in
/-- The inputs of the convolution's taps: the products shifted down by two rows, by one and by none. -/
theorem tap_eq (r : Fin 8192) (c : Fin 512) :
    (val_main_v18 (F := Ideal) x0 x1 x2) (ix2 r c) = (if h : 2 ≤ r.val then ((refData x0 x1 x2 x3 x4 x5 x6 x7 x8)).U ⟨r.val - 2, by omega⟩ c else 0)
    ∧ (val_main_v24 (F := Ideal) x0 x1 x2) (ix2 r c) = (if h : 1 ≤ r.val then ((refData x0 x1 x2 x3 x4 x5 x6 x7 x8)).U ⟨r.val - 1, by omega⟩ c else 0)
    ∧ (val_main_v31 (F := Ideal) x0 x1 x2) (ix2 r c) = ((refData x0 x1 x2 x3 x4 x5 x6 x7 x8)).U r c := by
  refine ⟨?_, ?_, ?_⟩
  · pointwise [val_main_v14, val_main_cst_0, val_main_v15, val_main_v16, val_main_v18]
    by_cases h : r.val < 2
    · rw [dif_pos h, dif_neg (by omega)]
    · rw [dif_neg h, dif_pos (by omega)]; rfl
  · pointwise [val_main_v14, val_main_cst_0, val_main_v15, val_main_v16, val_main_v24]
    by_cases h : 1 + r.val < 2
    · rw [dif_pos h, dif_neg (by omega)]
    · rw [dif_neg h, dif_pos (by omega)]
      simp only [show 1 + r.val - 2 = r.val - 1 by omega]
      rfl
  · pointwise [val_main_v14, val_main_cst_0, val_main_v15, val_main_v16, val_main_v31]
    rfl

/-- The four sums over the rows of channel width. -/
theorem rowsC_eq (q : Fin 8) (c : Fin 512) :
    (val_main_v297 (F := Ideal) x0 x1 x2 x3 x4 x5 x6 x7 x8) (ix2 q c) = if h : q.val < 4 then ∑ r, ((refData x0 x1 x2 x3 x4 x5 x6 x7 x8)).termC ⟨q.val, h⟩ r c else 0 := by
  fin_cases q
  · pointwise [val_main_v250, val_main_cst_49, val_main_v251, val_main_v252, val_main_cst_50, val_main_v255, val_main_v256, val_main_cst_51, val_main_v257, val_main_v259, val_main_cst_53, val_main_v260, val_main_v261, val_main_cst_54, val_main_v264, val_main_v265, val_main_cst_55, val_main_v266, val_main_v267, val_main_v270, val_main_cst_57, val_main_v271, val_main_v272, val_main_cst_58, val_main_v275, val_main_v276, val_main_cst_59, val_main_v277, val_main_v278, val_main_cst_64, val_main_v296, val_main_v297]
    simp only [Fin.sum_univ_one, (tap_eq x0 x1 x2 x3 x4 x5 x6 x7 x8 _ c).1, dcv_eq hDM]
    exact sum_shift 2 ((refData x0 x1 x2 x3 x4 x5 x6 x7 x8)).U ((refData x0 x1 x2 x3 x4 x5 x6 x7 x8)).DCV c
  · pointwise [val_main_v250, val_main_cst_49, val_main_v251, val_main_v252, val_main_cst_50, val_main_v255, val_main_v256, val_main_cst_51, val_main_v257, val_main_v259, val_main_cst_53, val_main_v260, val_main_v261, val_main_cst_54, val_main_v264, val_main_v265, val_main_cst_55, val_main_v266, val_main_v267, val_main_v270, val_main_cst_57, val_main_v271, val_main_v272, val_main_cst_58, val_main_v275, val_main_v276, val_main_cst_59, val_main_v277, val_main_v278, val_main_cst_64, val_main_v296, val_main_v297]
    simp only [Fin.sum_univ_one, (tap_eq x0 x1 x2 x3 x4 x5 x6 x7 x8 _ c).2.1, dcv_eq hDM]
    exact sum_shift 1 ((refData x0 x1 x2 x3 x4 x5 x6 x7 x8)).U ((refData x0 x1 x2 x3 x4 x5 x6 x7 x8)).DCV c
  · pointwise [val_main_v250, val_main_cst_49, val_main_v251, val_main_v252, val_main_cst_50, val_main_v255, val_main_v256, val_main_cst_51, val_main_v257, val_main_v259, val_main_cst_53, val_main_v260, val_main_v261, val_main_cst_54, val_main_v264, val_main_v265, val_main_cst_55, val_main_v266, val_main_v267, val_main_v270, val_main_cst_57, val_main_v271, val_main_v272, val_main_cst_58, val_main_v275, val_main_v276, val_main_cst_59, val_main_v277, val_main_v278, val_main_cst_64, val_main_v296, val_main_v297]
    simp only [Fin.sum_univ_one, (tap_eq x0 x1 x2 x3 x4 x5 x6 x7 x8 _ c).2.2, dcv_eq hDM]
    rfl
  · pointwise [val_main_cst_64, val_main_v296, val_main_v297]
    exact sumPm_eq hDM c
  all_goals
    pointwise [val_main_cst_64, val_main_v296, val_main_v297]

end
end Cert.ReferenceIdeal.Hand
-- ==== Proof.RefOut.lean ====
module

public import proofs.«01_k».proof.Proof.RefFin
public import proofs.«01_k».proof.Proof.RefConv
public import Idealize.ShloMosaic.Lib.Pointwise

@[expose] public section

set_option maxRecDepth 16384

/-!
# The reference's six results

On finite arguments each result is the specification's function of `refData`.
-/

noncomputable section

namespace Cert.ReferenceIdeal.Hand
open Cert.ReferenceIdeal Cert.ReferenceIdeal.Gen Cert.ReferenceIdeal.Read Idealize.ShloMosaic Idealize.ShloMosaic.TcCoe
open Cert.Norm Cert.Spec

variable (x0 : FVec Ideal S8192x1024 .f32) (x1 : FVec Ideal S1x6144 .f32) (x2 : FVec Ideal S1024x2048 .f32)
  (x3 : FVec Ideal S3x512 .f32) (x4 : FVec Ideal S4x128x128 .f32) (x5 : FVec Ideal S1x512 .f32)
  (x6 : FVec Ideal S1024x1024 .f32) (x7 : FVec Ideal S1x1024 .f32) (x8 : FVec Ideal S8192x1024 .f32)

/-- Every argument holds finite numbers. -/
structure Finite : Prop where
  a0 : ∀ r k, Fin' (x0 (ix2 r k))
  a1 : ∀ k, Fin' (x1 (ix2 0 k))
  a2 : ∀ k c, Fin' (x2 (ix2 k c))
  a3 : ∀ q c, Fin' (x3 (ix2 q c))
  a4 : ∀ g d e, Fin' (x4 (ix3 g d e))
  a5 : ∀ c, Fin' (x5 (ix2 0 c))
  a6 : ∀ c k, Fin' (x6 (ix2 c k))
  a7 : ∀ k, Fin' (x7 (ix2 0 k))
  a8 : ∀ r k, Fin' (x8 (ix2 r k))

section
variable {x0 x1 x2 x3 x4 x5 x6 x7 x8} (H : Finite x0 x1 x2 x3 x4 x5 x6 x7 x8)
include H

theorem fin_R (r : Fin 8192) (k : Fin 1024) : Fin' (((refData x0 x1 x2 x3 x4 x5 x6 x7 x8)).R r k) :=
  (fin_alpha.mul (H.a0 r k)).add ((fin_one.add (H.a1 _)).mul (fin_mix H.a0 H.a1 H.a2 H.a3 H.a4 H.a5 H.a6 r k))

theorem fin_dl (r : Fin 8192) (k : Fin 1024) : Fin' (((refData x0 x1 x2 x3 x4 x5 x6 x7 x8)).dx r k * ((refData x0 x1 x2 x3 x4 x5 x6 x7 x8)).lng k) := (H.a8 r k).mul (H.a7 k)

theorem fin_DM (r : Fin 8192) (k : Fin 1024) : Fin' (((refData x0 x1 x2 x3 x4 x5 x6 x7 x8)).DM r k) :=
  (fin_one.add (H.a1 _)).mul (fin_bwd (fin_R H r) (fin_dl H r) k)

theorem fin_DC (r : Fin 8192) (c : Fin 1024) : Fin' (((refData x0 x1 x2 x3 x4 x5 x6 x7 x8)).DC r c) := by
  unfold Data.DC
  exact fin_sum _ fun k _ => (fin_DM H r k).mul (H.a6 c k)

theorem fin_DPW (r : Fin 8192) (c : Fin 512) : Fin' (((refData x0 x1 x2 x3 x4 x5 x6 x7 x8)).DPW r c) := by
  unfold Data.DPW Data.DYP
  exact (fin_DC H r _).mul (H.a5 c)

theorem fin_Q (r : Fin 8192) (c : Fin 512) : Fin' (((refData x0 x1 x2 x3 x4 x5 x6 x7 x8)).Q r c) := by
  unfold Data.Q Data.DP
  exact (fin_sum _ fun e _ => (fin_DPW H r _).mul (H.a4 _ _ e)).mul (fin_inv _ _)

theorem dr (r : Fin 8192) (k : Fin 1024) : (val_main_v170 (F := Ideal) x0 x1 x2 x3 x4 x5 x6 x7 x8) (ix2 r k) = ((refData x0 x1 x2 x3 x4 x5 x6 x7 x8)).DR r k := dr_eq x0 x1 x2 x3 x4 x5 x6 x7 x8 (fin_R H) (fin_dl H) r k

theorem dm (r : Fin 8192) (k : Fin 1024) : (val_main_v172 (F := Ideal) x0 x1 x2 x3 x4 x5 x6 x7 x8) (ix2 r k) = ((refData x0 x1 x2 x3 x4 x5 x6 x7 x8)).DM r k := dm_eq x0 x1 x2 x3 x4 x5 x6 x7 x8 (fin_R H) (fin_dl H) r k

/-- The four parts of the input projection's gradient, side by side. -/
theorem dzs (r : Fin 8192) (c : Fin 512) :
    (val_main_v285 (F := Ideal) x0 x1 x2 x3 x4 x5 x6 x7 x8) (ix2 r ⟨c.val, by omega⟩) = ((refData x0 x1 x2 x3 x4 x5 x6 x7 x8)).DZB r c
    ∧ (val_main_v285 (F := Ideal) x0 x1 x2 x3 x4 x5 x6 x7 x8) (ix2 r ⟨512 + c.val, by omega⟩) = ((refData x0 x1 x2 x3 x4 x5 x6 x7 x8)).DZC r c
    ∧ (val_main_v285 (F := Ideal) x0 x1 x2 x3 x4 x5 x6 x7 x8) (ix2 r ⟨1024 + c.val, by omega⟩) = ((refData x0 x1 x2 x3 x4 x5 x6 x7 x8)).DZV r c
    ∧ (val_main_v285 (F := Ideal) x0 x1 x2 x3 x4 x5 x6 x7 x8) (ix2 r ⟨1536 + c.val, by omega⟩) = ((refData x0 x1 x2 x3 x4 x5 x6 x7 x8)).DZP r c := by
  refine ⟨?_, ?_, ?_, ?_⟩
  · pointwise [val_main_v285]
    exact dzb_eq (dm H) r c
  · pointwise [val_main_v285]
    exact dzc_eq (dm H) r c
  · pointwise [val_main_v285]
    rw [dif_neg (by omega), dif_neg (by omega), dif_pos (by omega)]
    simp only [show 1024 + c.val - 512 - 512 = c.val by omega]
    exact dzv_eq (dm H) r c
  · pointwise [val_main_v285]
    rw [dif_neg (by omega), dif_neg (by omega), dif_neg (by omega)]
    simp only [show 1536 + c.val - 512 - 512 - 512 = c.val by omega]
    exact dzp_eq (dm H) (fin_Q H) r c

theorem dh (r : Fin 8192) (k : Fin 1024) : (val_main_v286 (F := Ideal) x0 x1 x2 x3 x4 x5 x6 x7 x8) (ix2 r k) = ((refData x0 x1 x2 x3 x4 x5 x6 x7 x8)).DH r k := by
  pointwise [val_main_v286]
  rw [Fin.sum_univ_tiles 4 512 rfl, Fin.sum_univ_four]
  refine congrArg₂ _ (congrArg₂ _ (congrArg₂ _ ?_ ?_) ?_) ?_
  · refine Finset.sum_congr rfl fun c _ => ?_
    rw [← (dzs H r c).1]
    simp only [refData, Fin.val_zero, Nat.zero_mul, Nat.mul_zero, Nat.zero_add]
  · refine Finset.sum_congr rfl fun c _ => ?_
    rw [← (dzs H r c).2.1]
    rfl
  · refine Finset.sum_congr rfl fun c _ => ?_
    rw [← (dzs H r c).2.2.1]
    rfl
  · refine Finset.sum_congr rfl fun c _ => ?_
    rw [← (dzs H r c).2.2.2]
    rfl

/-- The gradient of the layer's input. -/
theorem out_gx (r : Fin 8192) (k : Fin 1024) : (val_main_v298 (F := Ideal) x0 x1 x2 x3 x4 x5 x6 x7 x8) (ix2 r k) = ((refData x0 x1 x2 x3 x4 x5 x6 x7 x8)).GX r k := by
  pointwise [val_main_v0, val_main_v1, val_main_v2, val_main_cst, val_main_v3, val_main_v4, val_main_v5, val_main_cst_35, val_main_v176, val_main_v177, val_main_v292, val_main_v293, val_main_v298]
  rw [dr H, dh H]
  rfl

/-- The gradient of the input projection, in bfloat16. -/
theorem out_dz (j : Fin 4) (r : Fin 8192) (c : Fin 512) : (val_main_v301 (F := Ideal) x0 x1 x2 x3 x4 x5 x6 x7 x8) (ix3 j r c) = ((refData x0 x1 x2 x3 x4 x5 x6 x7 x8)).DZ j r c := by
  fin_cases j
  · pointwise [val_main_v299, val_main_v300, val_main_v301]
    exact (dzs H r c).1
  · pointwise [val_main_v299, val_main_v300, val_main_v301]
    exact (dzs H r c).2.1
  · pointwise [val_main_v299, val_main_v300, val_main_v301]
    exact (dzs H r c).2.2.1
  · pointwise [val_main_v299, val_main_v300, val_main_v301]
    exact (dzs H r c).2.2.2

theorem out_dm (r : Fin 8192) (k : Fin 1024) : (val_main_v302 (F := Ideal) x0 x1 x2 x3 x4 x5 x6 x7 x8) (ix2 r k) = ((refData x0 x1 x2 x3 x4 x5 x6 x7 x8)).DM r k := by
  pointwise [val_main_v302]
  exact dm H r k

/-- The sums over the rows of model width. -/
theorem out_sd (q : Fin 8) (k : Fin 1024) :
    (val_main_v295 (F := Ideal) x0 x1 x2 x3 x4 x5 x6 x7 x8) (ix2 q k) = if h : q.val < 5 then ∑ r, ((refData x0 x1 x2 x3 x4 x5 x6 x7 x8)).termD ⟨q.val, h⟩ r k else 0 := by
  fin_cases q
  · pointwise [val_main_cst_63, val_main_v294, val_main_v295, val_main_v142, val_main_cst_26, val_main_v143, val_main_v144]
    simp only [xhat_eq x0 x1 x2 x3 x4 x5 x6 x7 x8, dx_eq x0 x1 x2 x3 x4 x5 x6 x7 x8]
    exact Finset.sum_congr rfl fun r _ => mul_comm _ _
  · pointwise [val_main_cst_63, val_main_v294, val_main_v295, val_main_v139, val_main_cst_25, val_main_v140, val_main_v141]
    rfl
  · pointwise [val_main_cst_63, val_main_v294, val_main_v295, val_main_v173, val_main_cst_34, val_main_v174, val_main_v175]
    simp only [dr H]
    rfl
  · pointwise [val_main_cst_63, val_main_v294, val_main_v295, val_main_v289, val_main_cst_62, val_main_v290, val_main_v291]
    simp only [dh H]
    exact Finset.sum_congr rfl fun r _ => mul_comm _ _
  · pointwise [val_main_cst_63, val_main_v294, val_main_v295, val_main_cst_61, val_main_v287, val_main_v288]
    simp only [dh H]
    rfl
  all_goals
    pointwise [val_main_cst_63, val_main_v294, val_main_v295]

theorem out_sc (q : Fin 8) (c : Fin 512) :
    (val_main_v297 (F := Ideal) x0 x1 x2 x3 x4 x5 x6 x7 x8) (ix2 q c) = if h : q.val < 4 then ∑ r, ((refData x0 x1 x2 x3 x4 x5 x6 x7 x8)).termC ⟨q.val, h⟩ r c else 0 := rowsC_eq (dm H) q c

theorem out_dwp (g : Fin 4) (d e : Fin 128) : (val_main_v191 (F := Ideal) x0 x1 x2 x3 x4 x5 x6 x7 x8) (ix3 g d e) = ∑ r, ((refData x0 x1 x2 x3 x4 x5 x6 x7 x8)).termP g d e r := dwp_eq (dm H) g d e

end
end Cert.ReferenceIdeal.Hand
-- ==== Proof.Pre.lean ====
module

public import proofs.«01_k».proof.Defs
public import proofs.«01_k».proof.Proof.Gen.Pre_finite
public import proofs.«01_k».proof.Proof.RefOut
public import Idealize.ShloMosaic.Lib.ReduceAll
public import Idealize.ShloMosaic.Lib.WordCmp

/-! What the precondition says: every element of every argument is a finite number. -/

@[expose] public section

noncomputable section

namespace Cert.Pre_finite.Hand

open Idealize.ShloMosaic Cert.Norm Cert.Pre_finite

/-- A comparison of absolute values with infinity that is true at an index says the element is finite. -/
theorem fin_of_cmp {s : Shape} (a : FVec Ideal s .f32) (b : S_.BroadcastsInDim s (![] : Fin 0 → Fin s.rank)) (i : s.Idx)
    (h : cmpf .olt (Host.absf a) (broadcastInDim s ![] b (constant S_ .f32 0x7F800000#32)) i = 1#1) : Fin' (a i) := by
  change FloatOps.cmpf (F := Ideal) (φ := .f32) .olt (FloatOps.absf (F := Ideal) (φ := .f32) (a i)) (FloatOps.ofBits (F := Ideal) .f32 0x7F800000#32) = 1#1 at h
  change BitVec.ofBool (decide (max (a i) (-a i) < FloatOps.ofBits (F := Ideal) .f32 0x7F800000#32)) = 1#1 at h
  have h1 : max (a i) (-a i) < FloatOps.ofBits (F := Ideal) .f32 0x7F800000#32 := by
    by_contra hn
    rw [decide_eq_false hn] at h
    exact absurd h (by decide)
  have h2 := max_lt_iff.1 (lt_top_of_lt h1)
  refine ⟨(a i).toReal, (EReal.coe_toReal h2.1.ne ?_).symm⟩
  intro hb
  rw [hb] at h2
  exact absurd h2.2 (by simp)

attribute [local instance] Cert.Pre_finite.Gen.facts

instance : Subsingleton S_.Idx := ⟨fun a b => funext fun d => d.elim0⟩

/-- The precondition gives finite numbers everywhere. -/
theorem finite_of_fn (x0 : FVec Ideal S8192x1024 .f32) (x1 : FVec Ideal S1x6144 .f32) (x2 : FVec Ideal S1024x2048 .f32)
    (x3 : FVec Ideal S3x512 .f32) (x4 : FVec Ideal S4x128x128 .f32) (x5 : FVec Ideal S1x512 .f32)
    (x6 : FVec Ideal S1024x1024 .f32) (x7 : FVec Ideal S1x1024 .f32) (x8 : FVec Ideal S8192x1024 .f32) (j : S_.Idx)
    (h : fn (F := Ideal) x0 x1 x2 x3 x4 x5 x6 x7 x8 j = 1#1) :
    Cert.ReferenceIdeal.Hand.Finite x0 x1 x2 x3 x4 x5 x6 x7 x8 := by
  dsimp only [fn, fn_part1, fn_part2] at h
  simp only [show ∀ (x y : IVec S_ 1) (i : S_.Idx), andi x y i = IntOp.andi (x i) (y i) from fun _ _ _ => rfl, IntOp.andi_eq_one] at h
  obtain ⟨⟨⟨⟨⟨⟨⟨⟨⟨-, h0⟩, h1⟩, h2⟩, h3⟩, h4⟩, h5⟩, h6⟩, h7⟩, h8⟩ := h
  exact {
    a0 := fun r k => fin_of_cmp x0 _ _ (Host.reduce_andi_all _ _ _ _ _ h0 _)
    a1 := fun k => fin_of_cmp x1 _ _ (Host.reduce_andi_all _ _ _ _ _ h1 _)
    a2 := fun r k => fin_of_cmp x2 _ _ (Host.reduce_andi_all _ _ _ _ _ h2 _)
    a3 := fun r k => fin_of_cmp x3 _ _ (Host.reduce_andi_all _ _ _ _ _ h3 _)
    a4 := fun g r k => fin_of_cmp x4 _ _ (Host.reduce_andi_all _ _ _ _ _ h4 _)
    a5 := fun k => fin_of_cmp x5 _ _ (Host.reduce_andi_all _ _ _ _ _ h5 _)
    a6 := fun r k => fin_of_cmp x6 _ _ (Host.reduce_andi_all _ _ _ _ _ h6 _)
    a7 := fun k => fin_of_cmp x7 _ _ (Host.reduce_andi_all _ _ _ _ _ h7 _)
    a8 := fun r k => fin_of_cmp x8 _ _ (Host.reduce_andi_all _ _ _ _ _ h8 _) }

end Cert.Pre_finite.Hand

end
-- ==== Proof.Read.lean ====
module

public import proofs.«01_k».proof.Proof.Spec
public import Idealize.ShloMosaic.Lib.Pipeline.ValueKit
public import Idealize.ShloMosaic.Lib.Pointwise

@[expose] public section

/-!
# Reading a buffer written in pieces

A load of a rectangle at an index, and what a list of writes leaves at an index when every piece holds the values of
one function.
-/

noncomputable section

namespace Cert.Read
open Idealize.ShloMosaic

section Load
variable {Val : EltTy → Type} {e : EltTy}

/-- A load of a rectangle of a matrix, at an index. -/
theorem ld2 {N M n m a b : ℕ} (X : (⟨2, ![N, M]⟩ : Shape).Idx → Val e)
    (h : ∀ d, (![a, b] : Fin 2 → ℕ) d + (![n, m] : Fin 2 → ℕ) d ≤ (⟨2, ![N, M]⟩ : Shape).size d) (i : Fin n) (j : Fin m) :
    View.ld X (Rect.unit (s := ⟨2, ![N, M]⟩) ![a, b] ![n, m] h) (ix2 i j)
      = X (ix2 ⟨a + i.val, lt_of_lt_of_le (Nat.add_lt_add_left i.isLt a) (h 0)⟩
          ⟨b + j.val, lt_of_lt_of_le (Nat.add_lt_add_left j.isLt b) (h 1)⟩) := by
  rw [View.ld_apply]
  refine congrArg X (funext fun d => Fin.ext ?_)
  fin_cases d
  · show a + 1 * i.val = a + i.val
    rw [Nat.one_mul]
  · show b + 1 * j.val = b + j.val
    rw [Nat.one_mul]

/-- A load of a box of a rank-3 array, at an index. -/
theorem ld3 {N M K n m k a b c : ℕ} (X : (⟨3, ![N, M, K]⟩ : Shape).Idx → Val e)
    (h : ∀ d, (![a, b, c] : Fin 3 → ℕ) d + (![n, m, k] : Fin 3 → ℕ) d ≤ (⟨3, ![N, M, K]⟩ : Shape).size d)
    (i : Fin n) (j : Fin m) (l : Fin k) :
    View.ld X (Rect.unit (s := ⟨3, ![N, M, K]⟩) ![a, b, c] ![n, m, k] h) (ix3 i j l)
      = X (ix3 ⟨a + i.val, lt_of_lt_of_le (Nat.add_lt_add_left i.isLt a) (h 0)⟩
          ⟨b + j.val, lt_of_lt_of_le (Nat.add_lt_add_left j.isLt b) (h 1)⟩
          ⟨c + l.val, lt_of_lt_of_le (Nat.add_lt_add_left l.isLt c) (h 2)⟩) := by
  rw [View.ld_apply]
  refine congrArg X (funext fun d => Fin.ext ?_)
  fin_cases d
  · show a + 1 * i.val = a + i.val
    rw [Nat.one_mul]
  · show b + 1 * j.val = b + j.val
    rw [Nat.one_mul]
  · show c + 1 * l.val = c + l.val
    rw [Nat.one_mul]

end Load

section Writes
variable {sig : RefSig} {κ : Kind} {sp : Space} {s : Shape} {e : EltTy} {Val : EltTy → Type} [∀ e, Nonempty (Val e)]

/-- What a list of writes leaves at an index, when each piece that holds the index has the value `g` there and, where
none does, the prior contents have it. -/
theorem read_writes_eq (v : View sig κ sp s e) (f : v.ty.Contents Val) (y : s.Idx) (g : Val e) :
    ∀ L : List (View.Piece Val s e), (∀ p ∈ L, ∀ x : p.1.shape.Idx, p.1.emb x = y → p.2 x = g) →
      ((∀ p ∈ L, y ∉ p.1.set) → v.read Val f y = g) → v.read Val (v.writes Val f L) y = g
  | [], _, h0 => by rw [View.writes_nil]; exact h0 (fun p hp => absurd hp List.not_mem_nil)
  | p :: L, h, h0 => by
    by_cases hy : y ∈ p.1.set
    · obtain ⟨r, w⟩ := p
      obtain ⟨x, rfl⟩ : ∃ x, r.emb x = y := r.exists_idx_of_mem hy
      rw [View.read_writes_cons_emb]
      exact h _ List.mem_cons_self x rfl
    · have hy' : y ∉ Finset.univ.map p.1.emb := by rwa [Rect.map_emb_univ]
      rw [View.writes_cons, View.read_slice_write_of_not_mem p.1 _ _ _ hy']
      refine read_writes_eq v f y g L (fun q hq => h q (List.mem_cons_of_mem p hq)) fun hL => h0 fun q hq => ?_
      rcases List.mem_cons.mp hq with rfl | hq
      · exact hy
      · exact hL q hq

/-- The same of the pieces alone, where one of them holds the index. -/
theorem canon_eq (y : s.Idx) (g : Val e) :
    ∀ L : List (View.Piece Val s e), (∀ p ∈ L, ∀ x : p.1.shape.Idx, p.1.emb x = y → p.2 x = g) →
      (∃ p ∈ L, y ∈ p.1.set) → View.canon L y = g
  | [], _, h0 => by obtain ⟨p, hp, _⟩ := h0; exact absurd hp List.not_mem_nil
  | p :: L, h, h0 => by
    by_cases hy : y ∈ p.1.set
    · obtain ⟨r, w⟩ := p
      obtain ⟨x, rfl⟩ : ∃ x, r.emb x = y := r.exists_idx_of_mem hy
      rw [View.canon_cons_emb]
      exact h _ List.mem_cons_self x rfl
    · rw [View.canon_cons_of_not_mem p L hy]
      refine canon_eq y g L (fun q hq => h q (List.mem_cons_of_mem p hq)) ?_
      obtain ⟨q, hq, hqy⟩ := h0
      rcases List.mem_cons.mp hq with rfl | hq
      · exact absurd hqy hy
      · exact ⟨q, hq, hqy⟩

end Writes

section Slab
variable {Val : EltTy → Type} {e : EltTy} {N n m : ℕ}

/-- A slab `[q]` stored last is what the array holds there. -/
theorem canon_slab_eq [∀ e, Nonempty (Val e)] (q : ℕ) (q' : Fin N) (hq : q'.val = q)
    (h : ∀ d, (![q, 0, 0] : Fin 3 → ℕ) d + (![1, n, m] : Fin 3 → ℕ) d ≤ (⟨3, ![N, n, m]⟩ : Shape).size d)
    (w : (⟨3, ![1, n, m]⟩ : Shape).Idx → Val e) (L : List (View.Piece Val ⟨3, ![N, n, m]⟩ e)) (i : Fin n) (j : Fin m) :
    View.canon ((⟨Rect.unit (s := ⟨3, ![N, n, m]⟩) ![q, 0, 0] ![1, n, m] h, w⟩ : View.Piece Val ⟨3, ![N, n, m]⟩ e) :: L)
      (ix3 q' i j) = w (ix3 0 i j) := by
  refine Eq.trans (congrArg (View.canon _) ?_)
    (View.canon_cons_emb (Rect.unit (s := ⟨3, ![N, n, m]⟩) ![q, 0, 0] ![1, n, m] h) w L (ix3 0 i j))
  refine funext fun d => Fin.ext ?_
  fin_cases d
  · show q'.val = q + 1 * 0
    omega
  · show i.val = 0 + 1 * i.val
    omega
  · show j.val = 0 + 1 * j.val
    omega

/-- Another slab does not touch it. -/
theorem canon_slab_ne [∀ e, Nonempty (Val e)] (q : ℕ) (q' : Fin N) (hq : q'.val ≠ q)
    (h : ∀ d, (![q, 0, 0] : Fin 3 → ℕ) d + (![1, n, m] : Fin 3 → ℕ) d ≤ (⟨3, ![N, n, m]⟩ : Shape).size d)
    (w : (⟨3, ![1, n, m]⟩ : Shape).Idx → Val e) (L : List (View.Piece Val ⟨3, ![N, n, m]⟩ e)) (i : Fin n) (j : Fin m) :
    View.canon ((⟨Rect.unit (s := ⟨3, ![N, n, m]⟩) ![q, 0, 0] ![1, n, m] h, w⟩ : View.Piece Val ⟨3, ![N, n, m]⟩ e) :: L)
      (ix3 q' i j) = View.canon L (ix3 q' i j) := by
  refine View.canon_cons_of_not_mem _ _ ?_
  rw [Rect.mem_set_unit]
  intro hall
  have := hall 0
  change q ≤ q'.val ∧ q'.val < q + 1 at this
  omega

/-- A store of the whole array. -/
theorem canon_whole3 [∀ e, Nonempty (Val e)]
    (h : ∀ d, (![0, 0, 0] : Fin 3 → ℕ) d + (![N, n, m] : Fin 3 → ℕ) d ≤ (⟨3, ![N, n, m]⟩ : Shape).size d)
    (w : (⟨3, ![N, n, m]⟩ : Shape).Idx → Val e) (L : List (View.Piece Val ⟨3, ![N, n, m]⟩ e)) (q : Fin N) (i : Fin n) (j : Fin m) :
    View.canon ((⟨Rect.unit (s := ⟨3, ![N, n, m]⟩) ![0, 0, 0] ![N, n, m] h, w⟩ : View.Piece Val ⟨3, ![N, n, m]⟩ e) :: L)
      (ix3 q i j) = w (ix3 q i j) := by
  refine Eq.trans (congrArg (View.canon _) ?_)
    (View.canon_cons_emb (Rect.unit (s := ⟨3, ![N, n, m]⟩) ![0, 0, 0] ![N, n, m] h) w L (ix3 q i j))
  refine funext fun d => Fin.ext ?_
  fin_cases d
  · show q.val = 0 + 1 * q.val
    omega
  · show i.val = 0 + 1 * i.val
    omega
  · show j.val = 0 + 1 * j.val
    omega

/-- A row `[q]` of a matrix stored last is what the matrix holds there. -/
theorem canon_row_eq [∀ e, Nonempty (Val e)] (q : ℕ) (q' : Fin N) (hq : q'.val = q)
    (h : ∀ d, (![q, 0] : Fin 2 → ℕ) d + (![1, m] : Fin 2 → ℕ) d ≤ (⟨2, ![N, m]⟩ : Shape).size d)
    (w : (⟨2, ![1, m]⟩ : Shape).Idx → Val e) (L : List (View.Piece Val ⟨2, ![N, m]⟩ e)) (j : Fin m) :
    View.canon ((⟨Rect.unit (s := ⟨2, ![N, m]⟩) ![q, 0] ![1, m] h, w⟩ : View.Piece Val ⟨2, ![N, m]⟩ e) :: L)
      (ix2 q' j) = w (ix2 0 j) := by
  refine Eq.trans (congrArg (View.canon _) ?_)
    (View.canon_cons_emb (Rect.unit (s := ⟨2, ![N, m]⟩) ![q, 0] ![1, m] h) w L (ix2 0 j))
  refine funext fun d => Fin.ext ?_
  fin_cases d
  · show q'.val = q + 1 * 0
    omega
  · show j.val = 0 + 1 * j.val
    omega

/-- Rows of other numbers do not touch it. -/
theorem canon_row_ne [∀ e, Nonempty (Val e)] (q k : ℕ) (q' : Fin N) (hq : q'.val < q ∨ q + k ≤ q'.val)
    (h : ∀ d, (![q, 0] : Fin 2 → ℕ) d + (![k, m] : Fin 2 → ℕ) d ≤ (⟨2, ![N, m]⟩ : Shape).size d)
    (w : (⟨2, ![k, m]⟩ : Shape).Idx → Val e) (L : List (View.Piece Val ⟨2, ![N, m]⟩ e)) (j : Fin m) :
    View.canon ((⟨Rect.unit (s := ⟨2, ![N, m]⟩) ![q, 0] ![k, m] h, w⟩ : View.Piece Val ⟨2, ![N, m]⟩ e) :: L)
      (ix2 q' j) = View.canon L (ix2 q' j) := by
  refine View.canon_cons_of_not_mem _ _ ?_
  rw [Rect.mem_set_unit]
  intro hall
  have := hall 0
  change q ≤ q'.val ∧ q'.val < q + k at this
  omega

/-- Rows `q …` stored last are what the matrix holds there. -/
theorem canon_rows_eq [∀ e, Nonempty (Val e)] (q k : ℕ) (i : Fin k) (q' : Fin N) (hq : q'.val = q + i.val)
    (h : ∀ d, (![q, 0] : Fin 2 → ℕ) d + (![k, m] : Fin 2 → ℕ) d ≤ (⟨2, ![N, m]⟩ : Shape).size d)
    (w : (⟨2, ![k, m]⟩ : Shape).Idx → Val e) (L : List (View.Piece Val ⟨2, ![N, m]⟩ e)) (j : Fin m) :
    View.canon ((⟨Rect.unit (s := ⟨2, ![N, m]⟩) ![q, 0] ![k, m] h, w⟩ : View.Piece Val ⟨2, ![N, m]⟩ e) :: L)
      (ix2 q' j) = w (ix2 i j) := by
  refine Eq.trans (congrArg (View.canon _) ?_)
    (View.canon_cons_emb (Rect.unit (s := ⟨2, ![N, m]⟩) ![q, 0] ![k, m] h) w L (ix2 i j))
  refine funext fun d => Fin.ext ?_
  fin_cases d
  · show q'.val = q + 1 * i.val
    omega
  · show j.val = 0 + 1 * j.val
    omega

end Slab

section Cover
variable {Val : EltTy → Type} {e : EltTy} {sig : RefSig} {κ : Kind} {sp : Space} [∀ e, Nonempty (Val e)] {N n m : ℕ}

/-- A load of slab `[q]` of what a list of writes left. -/
theorem cov_slab (v : View sig κ sp ⟨3, ![N, n, m]⟩ e) (L : List (View.Piece Val ⟨3, ![N, n, m]⟩ e)) (q : ℕ) (q' : Fin N)
    (hq : q'.val = q) (h : ∀ d, (![q, 0, 0] : Fin 3 → ℕ) d + (![1, n, m] : Fin 3 → ℕ) d ≤ (⟨3, ![N, n, m]⟩ : Shape).size d)
    (i : Fin n) (j : Fin m) :
    v.readCov L (Rect.unit (s := ⟨3, ![N, n, m]⟩) ![q, 0, 0] ![1, n, m] h).toLoadRect (ix3 0 i j)
      = View.canon L (ix3 q' i j) := by
  refine (congrFun (View.readCov_eq_canon' v L _) _).trans (congrArg (View.canon L) (funext fun d => Fin.ext ?_))
  fin_cases d
  · show q + 1 * 0 = q'.val
    omega
  · show 0 + 1 * i.val = i.val
    omega
  · show 0 + 1 * j.val = j.val
    omega

/-- A load of the whole of it. -/
theorem cov_whole3 (v : View sig κ sp ⟨3, ![N, n, m]⟩ e) (L : List (View.Piece Val ⟨3, ![N, n, m]⟩ e))
    (h : ∀ d, (![0, 0, 0] : Fin 3 → ℕ) d + (![N, n, m] : Fin 3 → ℕ) d ≤ (⟨3, ![N, n, m]⟩ : Shape).size d)
    (q : Fin N) (i : Fin n) (j : Fin m) :
    v.readCov L (Rect.unit (s := ⟨3, ![N, n, m]⟩) ![0, 0, 0] ![N, n, m] h).toLoadRect (ix3 q i j)
      = View.canon L (ix3 q i j) := by
  refine (congrFun (View.readCov_eq_canon' v L _) _).trans (congrArg (View.canon L) (funext fun d => Fin.ext ?_))
  fin_cases d
  · show 0 + 1 * q.val = q.val
    omega
  · show 0 + 1 * i.val = i.val
    omega
  · show 0 + 1 * j.val = j.val
    omega

end Cover

end Cert.Read
-- ==== Proof.Point.lean ====
module

public import proofs.«01_k».proof.Proof.Gen.KernelIdeal.Value
public import proofs.«01_k».proof.Proof.Read
public import Idealize.ShloMosaic.Lib.Pipeline.ValueKit
public import Idealize.ShloMosaic.Lib.Pointwise

@[expose] public section

set_option maxRecDepth 16384

/-!
# What the kernel's body computes at one point

Point `t` works on the row tile `τ = 15 - t`. Each lemma reads one value of the body at an index, the blocks being
the rows of the tile and the whole of the parameters.
-/

noncomputable section

namespace Cert.KernelIdeal.Hand
open Cert.KernelIdeal Cert.KernelIdeal.Gen Cert.KernelIdeal.Value Idealize.ShloMosaic Idealize.ShloMosaic.TcCoe Idealize.SL.Sem
open Idealize.ShloMosaic.Pipeline (Dat)
open Cert.Norm Cert.Spec Cert.Read

/-- Row `ρ` of tile `τ`. -/
def row (τ : Fin 16) (ρ : Fin 512) : Fin 8192 := ⟨512 * τ.val + ρ.val, by omega⟩

/-- The blocks of a point are the tile's rows and the parameters. -/
structure Blk (D : Data) (τ : Fin 16) (x0 x1 x2 : Vec Ideal S512x1024 .f32) (x3 : Vec Ideal S512x2560 .bf16)
    (x4 : Vec Ideal S8x6144 .f32) (x5 : Vec Ideal S8x512 .f32) (x6 : Vec Ideal S4x1024x512 .bf16)
    (x7 : Vec Ideal S4x128x128 .f32) (x8 : Vec Ideal S1x512 .f32) (x9 : Vec Ideal S1024x1024 .bf16)
    (x10 : Vec Ideal S1x1024 .f32) : Prop where
  x : ∀ ρ k, x0 (ix2 ρ k) = D.x (row τ ρ) k
  mix : ∀ ρ k, x1 (ix2 ρ k) = D.mix (row τ ρ) k
  dx : ∀ ρ k, x2 (ix2 ρ k) = D.dx (row τ ρ) k
  zb : ∀ ρ (c : Fin 512), x3 (ix2 ρ ⟨c.val, by omega⟩) = D.zb (row τ ρ) c
  zc : ∀ ρ (c : Fin 512), x3 (ix2 ρ ⟨512 + c.val, by omega⟩) = D.zc (row τ ρ) c
  zv : ∀ ρ (c : Fin 512), x3 (ix2 ρ ⟨1024 + c.val, by omega⟩) = D.zv (row τ ρ) c
  cv : ∀ ρ (c : Fin 512), x3 (ix2 ρ ⟨1536 + c.val, by omega⟩) = D.cv (row τ ρ) c
  pl : ∀ ρ (c : Fin 512), x3 (ix2 ρ ⟨2048 + c.val, by omega⟩) = D.pl (row τ ρ) c
  sc1 : ∀ k : Fin 1024, x4 (ix2 0 ⟨1024 + k.val, by omega⟩) = D.sc1 k
  g1 : ∀ k : Fin 1024, x4 (ix2 0 ⟨2048 + k.val, by omega⟩) = D.g1 k
  cw : ∀ (q : Fin 3) c, x5 (ix2 ⟨q.val, by omega⟩ c) = D.cw q c
  wi : ∀ j k c, x6 (ix3 j k c) = D.wi j k c
  wp : ∀ g d e, x7 (ix3 g d e) = D.wp g d e
  ps : ∀ c, x8 (ix2 0 c) = D.ps c
  wo : ∀ c k, x9 (ix2 c k) = D.wo c k
  lng : ∀ k, x10 (ix2 0 k) = D.lng k

section Tile
variable {D : Data} {τ : Fin 16} {x0 x1 x2 : Vec Ideal S512x1024 .f32} {x3 : Vec Ideal S512x2560 .bf16}
    {x4 : Vec Ideal S8x6144 .f32} {x5 : Vec Ideal S8x512 .f32} {x6 : Vec Ideal S4x1024x512 .bf16}
    {x7 : Vec Ideal S4x128x128 .f32} {x8 : Vec Ideal S1x512 .f32} {x9 : Vec Ideal S1024x1024 .bf16}
    {x10 : Vec Ideal S1x1024 .f32} (hB : Blk D τ x0 x1 x2 x3 x4 x5 x6 x7 x8 x9 x10)

/-- The gate's row and the scale's row of the modulation. -/
abbrev ldg (x4 : Vec Ideal S8x6144 .f32) : Vec Ideal S1x1024 .f32 :=
  View.ld x4 (Rect.unit ![0, 2048] S1x1024.size inb_S8x6144_S1x1024_0_2048)
abbrev ldsc (x4 : Vec Ideal S8x6144 .f32) : Vec Ideal S1x1024 .f32 :=
  View.ld x4 (Rect.unit ![0, 1024] S1x1024.size inb_S8x6144_S1x1024_0_1024)

include hB

theorem ldg_eq (k : Fin 1024) : ldg x4 (ix2 0 k) = D.g1 k := (ld2 x4 _ 0 k).trans (hB.g1 k)
theorem ldsc_eq (k : Fin 1024) : ldsc x4 (ix2 0 k) = D.sc1 k := (ld2 x4 _ 0 k).trans (hB.sc1 k)

theorem pay22_eq (ρ : Fin 512) (k : Fin 1024) : k0_pay22 x0 x1 (ldg x4) (ix2 ρ k) = cen (D.R (row τ ρ)) k := by
  pointwise [k0_pay22, k0_pay21, k0_pay19]
  simp only [hB.x, hB.mix, ldg_eq hB]
  rfl

theorem pay23_eq (ρ : Fin 512) : k0_pay23 x0 x1 (ldg x4) (ix2 ρ 0) = rstd (D.R (row τ ρ)) := by
  pointwise [k0_pay23]
  simp only [pay22_eq hB]
  rfl

theorem pay24_eq (ρ : Fin 512) (k : Fin 1024) : k0_pay24 x0 x1 (ldg x4) (ix2 ρ k) = D.XH (row τ ρ) k := by
  pointwise [k0_pay24]
  rw [pay22_eq hB, pay23_eq hB]
  rfl

theorem pay25_eq (ρ : Fin 512) (k : Fin 1024) :
    k0_pay25 x2 (k0_pay23 x0 x1 (ldg x4)) (k0_pay24 x0 x1 (ldg x4)) x10 (ix2 ρ k) = D.DR (row τ ρ) k := by
  pointwise [k0_pay25]
  simp only [pay23_eq hB, pay24_eq hB, hB.dx, hB.lng]
  rfl

theorem pay26_eq (ρ : Fin 512) (k : Fin 1024) :
    k0_pay26 x2 (k0_pay21 (ldg x4)) (k0_pay23 x0 x1 (ldg x4)) (k0_pay24 x0 x1 (ldg x4)) x10 (ix2 ρ k)
      = D.DM (row τ ρ) k := by
  pointwise [k0_pay26, k0_pay21]
  rw [pay25_eq hB, ldg_eq hB]
  rfl

/-- The two halves of the gradient the output projection sends back. -/
abbrev dyc (x0 x1 x2 : Vec Ideal S512x1024 .f32) (x4 : Vec Ideal S8x6144 .f32) (x9 : Vec Ideal S1024x1024 .bf16)
    (x10 : Vec Ideal S1x1024 .f32) : FVec Ideal S512x512 .f32 :=
  k0_pay28 x2 (k0_pay21 (ldg x4)) (k0_pay23 x0 x1 (ldg x4)) (k0_pay24 x0 x1 (ldg x4)) x10 x9
abbrev dyp (x0 x1 x2 : Vec Ideal S512x1024 .f32) (x4 : Vec Ideal S8x6144 .f32) (x9 : Vec Ideal S1024x1024 .bf16)
    (x10 : Vec Ideal S1x1024 .f32) : FVec Ideal S512x512 .f32 :=
  k0_pay29 x2 (k0_pay21 (ldg x4)) (k0_pay23 x0 x1 (ldg x4)) (k0_pay24 x0 x1 (ldg x4)) x10 x9

theorem dyc_eq (ρ c : Fin 512) : dyc x0 x1 x2 x4 x9 x10 (ix2 ρ c) = D.DYC (row τ ρ) c := by
  pointwise [dyc, k0_pay28, k0_pay27]
  simp only [pay26_eq hB, hB.wo]
  rfl

theorem dyp_eq (ρ c : Fin 512) : dyp x0 x1 x2 x4 x9 x10 (ix2 ρ c) = D.DYP (row τ ρ) c := by
  pointwise [dyp, k0_pay29, k0_pay27]
  simp only [pay26_eq hB, hB.wo]
  rfl

/-- The saved columns. -/
abbrev ldz (x3 : Vec Ideal S512x2560 .bf16) : FVec Ideal S512x512 .f32 :=
  k0_pay30 (View.ld x3 (Rect.unit ![0, 0] S512x512.size inb_S512x2560_S512x512_0_0))
abbrev ldc (x3 : Vec Ideal S512x2560 .bf16) : FVec Ideal S512x512 .f32 :=
  k0_pay31 (View.ld x3 (Rect.unit ![0, 512] S512x512.size inb_S512x2560_S512x512_0_512))
abbrev ldv (x3 : Vec Ideal S512x2560 .bf16) : FVec Ideal S512x512 .f32 :=
  k0_pay32 (View.ld x3 (Rect.unit ![0, 1024] S512x512.size inb_S512x2560_S512x512_0_1024))
abbrev ldcv (x3 : Vec Ideal S512x2560 .bf16) : FVec Ideal S512x512 .f32 :=
  k0_pay33 (View.ld x3 (Rect.unit ![0, 1536] S512x512.size inb_S512x2560_S512x512_0_1536))
abbrev ldpl (x3 : Vec Ideal S512x2560 .bf16) : FVec Ideal S512x512 .bf16 :=
  k0_pay34 (View.ld x3 (Rect.unit ![0, 2048] S512x512.size inb_S512x2560_S512x512_0_2048))

theorem ldz_eq (ρ c : Fin 512) : ldz x3 (ix2 ρ c) = D.zb (row τ ρ) c := by
  pointwise [ldz, k0_pay30]
  exact hB.zb ρ c
theorem ldc_eq (ρ c : Fin 512) : ldc x3 (ix2 ρ c) = D.zc (row τ ρ) c := by
  pointwise [ldc, k0_pay31]
  exact hB.zc ρ c
theorem ldv_eq (ρ c : Fin 512) : ldv x3 (ix2 ρ c) = D.zv (row τ ρ) c := by
  pointwise [ldv, k0_pay32]
  exact hB.zv ρ c
theorem ldcv_eq (ρ c : Fin 512) : ldcv x3 (ix2 ρ c) = D.cv (row τ ρ) c := by
  pointwise [ldcv, k0_pay33]
  exact hB.cv ρ c
theorem ldpl_eq (ρ c : Fin 512) : ldpl x3 (ix2 ρ c) = D.pl (row τ ρ) c := by
  pointwise [ldpl, k0_pay34]
  exact hB.pl ρ c

/-- The gradients of the gate and of the convolution's values. -/
theorem dzb_eq (ρ c : Fin 512) : k0_pay35 (dyc x0 x1 x2 x4 x9 x10) (ldcv x3) (ix2 ρ c) = D.DZB (row τ ρ) c := by
  pointwise [k0_pay35]
  rw [dyc_eq hB, ldcv_eq hB]
  rfl
theorem dcv_eq (ρ c : Fin 512) : k0_pay36 (dyc x0 x1 x2 x4 x9 x10) (ldz x3) (ix2 ρ c) = D.DCV (row τ ρ) c := by
  pointwise [k0_pay36]
  rw [dyc_eq hB, ldz_eq hB]
  rfl
theorem dcv'_eq (ρ c : Fin 512) : k0_pay37 (dyc x0 x1 x2 x4 x9 x10) (ldz x3) (ix2 ρ c) = D.DCV (row τ ρ) c := by
  pointwise [k0_pay37]
  exact dcv_eq hB ρ c

abbrev du (x0 x1 x2 : Vec Ideal S512x1024 .f32) (x3 : Vec Ideal S512x2560 .bf16) (x4 : Vec Ideal S8x6144 .f32)
    (x5 : Vec Ideal S8x512 .f32) (x9 : Vec Ideal S1024x1024 .bf16) (x10 : Vec Ideal S1x1024 .f32)
    (d1 d2 : Vec Ideal S512x512 .f32) : FVec Ideal S512x512 .f32 :=
  k0_pay38 (dyc x0 x1 x2 x4 x9 x10) (ldz x3) d1 d2
    (View.ld x5 (Rect.unit ![2, 0] S1x512.size inb_S8x512_S1x512_2_0))
    (View.ld x5 (Rect.unit ![1, 0] S1x512.size inb_S8x512_S1x512_1_0))
    (View.ld x5 (Rect.unit ![0, 0] S1x512.size inb_S8x512_S1x512_0_0))

section Shifted
variable {d1 d2 : Vec Ideal S512x512 .f32} (hd1 : ∀ ρ c, d1 (ix2 ρ c) = past D.DCV ((row τ ρ).val + 1) c)
  (hd2 : ∀ ρ c, d2 (ix2 ρ c) = past D.DCV ((row τ ρ).val + 2) c)
include hd1 hd2

theorem du_eq (ρ c : Fin 512) : du x0 x1 x2 x3 x4 x5 x9 x10 d1 d2 (ix2 ρ c) = D.DU (row τ ρ) c := by
  pointwise [du, k0_pay38]
  rw [dcv_eq hB, hd1, hd2]
  exact congrArg₂ _ (congrArg₂ _ (congrArg₂ _ (hB.cw 2 c) rfl) (congrArg₂ _ (hB.cw 1 c) rfl)) (congrArg₂ _ (hB.cw 0 c) rfl)

theorem dzc_eq (ρ c : Fin 512) :
    k0_pay45 (ldv x3) (du x0 x1 x2 x3 x4 x5 x9 x10 d1 d2) (ix2 ρ c) = D.DZC (row τ ρ) c := by
  pointwise [k0_pay45]
  rw [du_eq hB hd1 hd2, ldv_eq hB]
  rfl

theorem dzv_eq (ρ c : Fin 512) :
    k0_pay46 (ldc x3) (du x0 x1 x2 x3 x4 x5 x9 x10 d1 d2) (ix2 ρ c) = D.DZV (row τ ρ) c := by
  pointwise [k0_pay46]
  rw [du_eq hB hd1 hd2, ldc_eq hB]
  rfl
end Shifted

/-- Row `l` of the eighth of the tile that lane `x` holds. -/
def lane (x : Fin 64) (l : Fin 8) : Fin 512 := ⟨x.val * 8 + l.val, by omega⟩

theorem accC0_eq {d2 : Vec Ideal S512x512 .f32} (hd2 : ∀ ρ c, d2 (ix2 ρ c) = past D.DCV ((row τ ρ).val + 2) c)
    (a : Vec Ideal S1x8x512 .f32) (l : Fin 8) (c : Fin 512) :
    k0_pay42 (k0_pay41 (ldc x3) (ldv x3) d2 a) (ix3 0 l c) = a (ix3 0 l c) + ∑ x, D.termC 0 (row τ (lane x l)) c := by
  pointwise [k0_pay42, k0_pay41, k0_pay40]
  simp only [ldc_eq hB, ldv_eq hB, hd2]
  rfl

theorem accC1_eq {d1 : Vec Ideal S512x512 .f32} (hd1 : ∀ ρ c, d1 (ix2 ρ c) = past D.DCV ((row τ ρ).val + 1) c)
    (a : Vec Ideal S1x8x512 .f32) (l : Fin 8) (c : Fin 512) :
    k0_pay43 d1 (k0_pay40 (ldc x3) (ldv x3)) a (ix3 0 l c) = a (ix3 0 l c) + ∑ x, D.termC 1 (row τ (lane x l)) c := by
  pointwise [k0_pay43, k0_pay40]
  simp only [ldc_eq hB, ldv_eq hB, hd1]
  rfl

theorem accC2_eq (a : Vec Ideal S1x8x512 .f32) (l : Fin 8) (c : Fin 512) :
    k0_pay44 (k0_pay36 (dyc x0 x1 x2 x4 x9 x10) (ldz x3)) (k0_pay40 (ldc x3) (ldv x3)) a (ix3 0 l c)
      = a (ix3 0 l c) + ∑ x, D.termC 2 (row τ (lane x l)) c := by
  pointwise [k0_pay44, k0_pay40]
  simp only [ldc_eq hB, ldv_eq hB, dcv_eq hB]
  rfl

abbrev dpw (x0 x1 x2 : Vec Ideal S512x1024 .f32) (x4 : Vec Ideal S8x6144 .f32) (x8 : Vec Ideal S1x512 .f32)
    (x9 : Vec Ideal S1024x1024 .bf16) (x10 : Vec Ideal S1x1024 .f32) : FVec Ideal S512x512 .f32 :=
  k0_pay47 (dyp x0 x1 x2 x4 x9 x10) x8

theorem dpw_eq (ρ c : Fin 512) : dpw x0 x1 x2 x4 x8 x9 x10 (ix2 ρ c) = D.DPW (row τ ρ) c := by
  pointwise [dpw, k0_pay47]
  rw [dyp_eq hB, hB.ps]
  rfl

/-! Group 0 -/

theorem pl0_eq (ρ : Fin 512) (d : Fin 128) : k0_pay48 (ldpl x3) (ix2 ρ d) = D.pl (row τ ρ) (gcol 0 d) := by
  pointwise [k0_pay48]
  exact (congrArg (ldpl x3) (by congr 1 <;> exact Fin.ext (by simp [gcol]))).trans (ldpl_eq hB ρ (gcol 0 d))

theorem dpw0_eq (ρ : Fin 512) (d : Fin 128) : k0_pay49 (dyp x0 x1 x2 x4 x9 x10) x8 (ix2 ρ d) = D.DPW (row τ ρ) (gcol 0 d) := by
  pointwise [k0_pay49]
  exact (congrArg (dpw x0 x1 x2 x4 x8 x9 x10) (by congr 1 <;> exact Fin.ext (by simp [gcol]))).trans (dpw_eq hB ρ (gcol 0 d))

theorem pm0_eq (ρ : Fin 512) (e : Fin 128) : k0_pay51 (ldpl x3) (View.ld x7 (Rect.unit ![0, 0, 0] S1x128x128.size inb_S4x128x128_S1x128x128_0_0_0)) (ix2 ρ e) = D.PM (row τ ρ) (gcol 0 e) := by
  pointwise [k0_pay51, k0_pay50]
  simp only [pl0_eq hB, hB.wp, Data.PM, grp_gcol, plc_gcol]

theorem dp0_eq (ρ : Fin 512) (e : Fin 128) : k0_pay53 (k0_pay49 (dyp x0 x1 x2 x4 x9 x10) x8) (k0_pay50 (View.ld x7 (Rect.unit ![0, 0, 0] S1x128x128.size inb_S4x128x128_S1x128x128_0_0_0))) (ix2 ρ e) = D.DP (row τ ρ) (gcol 0 e) := by
  pointwise [k0_pay53, k0_pay50]
  simp only [dpw0_eq hB, hB.wp, Data.DP, grp_gcol, plc_gcol]

theorem accP0_eq (a : Vec Ideal S1x128x128 .f32) (d e : Fin 128) :
    k0_pay52 (k0_pay48 (ldpl x3)) (k0_pay49 (dyp x0 x1 x2 x4 x9 x10) x8) a (ix3 0 d e) = a (ix3 0 d e) + ∑ ρ, D.termP 0 d e (row τ ρ) := by
  pointwise [k0_pay52]
  simp only [pl0_eq hB, dpw0_eq hB]
  rfl

/-! Group 1 -/

theorem pl1_eq (ρ : Fin 512) (d : Fin 128) : k0_pay55 (ldpl x3) (ix2 ρ d) = D.pl (row τ ρ) (gcol 1 d) := by
  pointwise [k0_pay55]
  exact (congrArg (ldpl x3) (by congr 1 <;> exact Fin.ext (by simp [gcol]))).trans (ldpl_eq hB ρ (gcol 1 d))

theorem dpw1_eq (ρ : Fin 512) (d : Fin 128) : k0_pay56 (dpw x0 x1 x2 x4 x8 x9 x10) (ix2 ρ d) = D.DPW (row τ ρ) (gcol 1 d) := by
  pointwise [k0_pay56]
  exact (congrArg (dpw x0 x1 x2 x4 x8 x9 x10) (by congr 1 <;> exact Fin.ext (by simp [gcol]))).trans (dpw_eq hB ρ (gcol 1 d))

theorem pm1_eq (ρ : Fin 512) (e : Fin 128) : k0_pay58 (ldpl x3) (View.ld x7 (Rect.unit ![1, 0, 0] S1x128x128.size inb_S4x128x128_S1x128x128_1_0_0)) (ix2 ρ e) = D.PM (row τ ρ) (gcol 1 e) := by
  pointwise [k0_pay58, k0_pay57]
  simp only [pl1_eq hB, hB.wp, Data.PM, grp_gcol, plc_gcol]

theorem dp1_eq (ρ : Fin 512) (e : Fin 128) : k0_pay61 (k0_pay56 (dpw x0 x1 x2 x4 x8 x9 x10)) (k0_pay57 (View.ld x7 (Rect.unit ![1, 0, 0] S1x128x128.size inb_S4x128x128_S1x128x128_1_0_0))) (ix2 ρ e) = D.DP (row τ ρ) (gcol 1 e) := by
  pointwise [k0_pay61, k0_pay57]
  simp only [dpw1_eq hB, hB.wp, Data.DP, grp_gcol, plc_gcol]

theorem accP1_eq (a : Vec Ideal S1x128x128 .f32) (d e : Fin 128) :
    k0_pay60 (k0_pay59 (ldpl x3) (dpw x0 x1 x2 x4 x8 x9 x10) a) (ix3 0 d e) = a (ix3 0 d e) + ∑ ρ, D.termP 1 d e (row τ ρ) := by
  pointwise [k0_pay60, k0_pay59]
  simp only [pl1_eq hB, dpw1_eq hB]
  rfl

/-! Group 2 -/

theorem pl2_eq (ρ : Fin 512) (d : Fin 128) : k0_pay63 (ldpl x3) (ix2 ρ d) = D.pl (row τ ρ) (gcol 2 d) := by
  pointwise [k0_pay63]
  exact (congrArg (ldpl x3) (by congr 1 <;> exact Fin.ext (by simp [gcol]))).trans (ldpl_eq hB ρ (gcol 2 d))

theorem dpw2_eq (ρ : Fin 512) (d : Fin 128) : k0_pay64 (dpw x0 x1 x2 x4 x8 x9 x10) (ix2 ρ d) = D.DPW (row τ ρ) (gcol 2 d) := by
  pointwise [k0_pay64]
  exact (congrArg (dpw x0 x1 x2 x4 x8 x9 x10) (by congr 1 <;> exact Fin.ext (by simp [gcol]))).trans (dpw_eq hB ρ (gcol 2 d))

theorem pm2_eq (ρ : Fin 512) (e : Fin 128) : k0_pay66 (ldpl x3) (View.ld x7 (Rect.unit ![2, 0, 0] S1x128x128.size inb_S4x128x128_S1x128x128_2_0_0)) (ix2 ρ e) = D.PM (row τ ρ) (gcol 2 e) := by
  pointwise [k0_pay66, k0_pay65]
  simp only [pl2_eq hB, hB.wp, Data.PM, grp_gcol, plc_gcol]

theorem dp2_eq (ρ : Fin 512) (e : Fin 128) : k0_pay68 (dpw x0 x1 x2 x4 x8 x9 x10) (View.ld x7 (Rect.unit ![2, 0, 0] S1x128x128.size inb_S4x128x128_S1x128x128_2_0_0)) (ix2 ρ e) = D.DP (row τ ρ) (gcol 2 e) := by
  pointwise [k0_pay68, k0_pay65]
  simp only [dpw2_eq hB, hB.wp, Data.DP, grp_gcol, plc_gcol]

theorem accP2_eq (a : Vec Ideal S1x128x128 .f32) (d e : Fin 128) :
    k0_pay67 (ldpl x3) (dpw x0 x1 x2 x4 x8 x9 x10) a (ix3 0 d e) = a (ix3 0 d e) + ∑ ρ, D.termP 2 d e (row τ ρ) := by
  pointwise [k0_pay67]
  simp only [pl2_eq hB, dpw2_eq hB]
  rfl

/-! Group 3 -/

theorem pl3_eq (ρ : Fin 512) (d : Fin 128) : k0_pay71 (ldpl x3) (ix2 ρ d) = D.pl (row τ ρ) (gcol 3 d) := by
  pointwise [k0_pay71]
  exact (congrArg (ldpl x3) (by congr 1 <;> exact Fin.ext (by simp [gcol]))).trans (ldpl_eq hB ρ (gcol 3 d))

theorem dpw3_eq (ρ : Fin 512) (d : Fin 128) : k0_pay72 (dpw x0 x1 x2 x4 x8 x9 x10) (ix2 ρ d) = D.DPW (row τ ρ) (gcol 3 d) := by
  pointwise [k0_pay72]
  exact (congrArg (dpw x0 x1 x2 x4 x8 x9 x10) (by congr 1 <;> exact Fin.ext (by simp [gcol]))).trans (dpw_eq hB ρ (gcol 3 d))

theorem pm3_eq (ρ : Fin 512) (e : Fin 128) : k0_pay74 (ldpl x3) (View.ld x7 (Rect.unit ![3, 0, 0] S1x128x128.size inb_S4x128x128_S1x128x128_3_0_0)) (ix2 ρ e) = D.PM (row τ ρ) (gcol 3 e) := by
  pointwise [k0_pay74, k0_pay73]
  simp only [pl3_eq hB, hB.wp, Data.PM, grp_gcol, plc_gcol]

theorem dp3_eq (ρ : Fin 512) (e : Fin 128) : k0_pay76 (dpw x0 x1 x2 x4 x8 x9 x10) (View.ld x7 (Rect.unit ![3, 0, 0] S1x128x128.size inb_S4x128x128_S1x128x128_3_0_0)) (ix2 ρ e) = D.DP (row τ ρ) (gcol 3 e) := by
  pointwise [k0_pay76, k0_pay73]
  simp only [dpw3_eq hB, hB.wp, Data.DP, grp_gcol, plc_gcol]

theorem accP3_eq (a : Vec Ideal S1x128x128 .f32) (d e : Fin 128) :
    k0_pay75 (ldpl x3) (dpw x0 x1 x2 x4 x8 x9 x10) a (ix3 0 d e) = a (ix3 0 d e) + ∑ ρ, D.termP 3 d e (row τ ρ) := by
  pointwise [k0_pay75]
  simp only [pl3_eq hB, dpw3_eq hB]
  rfl

omit hB in
/-- The row's number, counted from one, as a float. -/
theorem word_eq (τ : Fin 16) (ρ : Fin 512) (v0 : BitVec 32) (hv : v0 = BitVec.ofNat 32 τ.val) :
    (FloatOps.sitofp (F := Ideal) FTy.f32 (IntOp.addi (IntOp.addi (Scalar.muli v0 512#32) (BitVec.ofNat 32 ρ.val)) 1#32) : EReal)
      = ((((row τ ρ).val + 1 : ℕ) : ℝ) : EReal) := by
  subst hv
  have e : IntOp.addi (IntOp.addi (Scalar.muli (BitVec.ofNat 32 τ.val) 512#32) (BitVec.ofNat 32 ρ.val)) 1#32
      = BitVec.ofNat 32 ((row τ ρ).val + 1) := by
    apply BitVec.eq_of_toNat_eq
    show (BitVec.ofNat 32 τ.val * 512#32 + BitVec.ofNat 32 ρ.val + 1#32).toNat = _
    simp only [BitVec.toNat_add, BitVec.toNat_mul, BitVec.toNat_ofNat, row]
    omega
  rw [e]
  show (((BitVec.ofNat 32 ((row τ ρ).val + 1)).toInt : ℝ) : EReal) = _
  have h : (BitVec.ofNat 32 ((row τ ρ).val + 1)).toInt = (((row τ ρ).val + 1 : ℕ) : ℤ) := by
    rw [BitVec.toInt_eq_toNat_cond, BitVec.toNat_ofNat]
    have := (row τ ρ).isLt
    split <;> omega
  rw [h]
  rfl

theorem q0_eq (v0 : BitVec 32) (hv : v0 = BitVec.ofNat 32 τ.val) (ρ : Fin 512) (e : Fin 128) :
    k0_pay54 v0 (k0_pay49 (dyp x0 x1 x2 x4 x9 x10) x8) (k0_pay50 (View.ld x7 (Rect.unit ![0, 0, 0] S1x128x128.size inb_S4x128x128_S1x128x128_0_0_0))) (ix2 ρ e)
      = D.Q (row τ ρ) (gcol 0 e) := by
  pointwise [k0_pay54]
  rw [dp0_eq hB, word_eq τ ρ v0 hv, ofBits_two]
  refine congrArg₂ _ rfl (congrArg (Ideal.div 1) ?_)
  rw [grp_gcol]
  exact min_nat _ 2

theorem q1_eq (v0 : BitVec 32) (hv : v0 = BitVec.ofNat 32 τ.val) (ρ : Fin 512) (e : Fin 128) :
    k0_pay62 v0 (k0_pay56 (dpw x0 x1 x2 x4 x8 x9 x10)) (k0_pay57 (View.ld x7 (Rect.unit ![1, 0, 0] S1x128x128.size inb_S4x128x128_S1x128x128_1_0_0))) (ix2 ρ e)
      = D.Q (row τ ρ) (gcol 1 e) := by
  pointwise [k0_pay62]
  rw [dp1_eq hB, word_eq τ ρ v0 hv, ofBits_4]
  refine congrArg₂ _ rfl (congrArg (Ideal.div 1) ?_)
  rw [grp_gcol]
  exact min_nat _ 4

theorem q2_eq (v0 : BitVec 32) (hv : v0 = BitVec.ofNat 32 τ.val) (ρ : Fin 512) (e : Fin 128) :
    k0_pay70 (k0_pay68 (dpw x0 x1 x2 x4 x8 x9 x10) (View.ld x7 (Rect.unit ![2, 0, 0] S1x128x128.size inb_S4x128x128_S1x128x128_2_0_0))) (iota .tc S512x1 32 [0] iota_S512x1_d0_w32) (k0_pay69 v0) (ix2 ρ e)
      = D.Q (row τ ρ) (gcol 2 e) := by
  pointwise [k0_pay70, k0_pay69]
  rw [dp2_eq hB, word_eq τ ρ v0 hv, ofBits_8]
  refine congrArg₂ _ rfl (congrArg (Ideal.div 1) ?_)
  rw [grp_gcol]
  exact min_nat _ 8

theorem q3_eq (v0 : BitVec 32) (hv : v0 = BitVec.ofNat 32 τ.val) (ρ : Fin 512) (e : Fin 128) :
    k0_pay78 (k0_pay76 (dpw x0 x1 x2 x4 x8 x9 x10) (View.ld x7 (Rect.unit ![3, 0, 0] S1x128x128.size inb_S4x128x128_S1x128x128_3_0_0))) (k0_pay77 v0) (Scalar.ofBits .f32 0x3F800000#32) (ix2 ρ e)
      = D.Q (row τ ρ) (gcol 3 e) := by
  pointwise [k0_pay78, k0_pay77]
  rw [dp3_eq hB, word_eq τ ρ v0 hv, ofBits_16]
  refine congrArg₂ _ rfl (congrArg (Ideal.div 1) ?_)
  rw [grp_gcol]
  exact min_nat _ 16

omit hB in
/-- Reads of the four groups laid side by side. -/
theorem four (a : Fin 4 → Fin 128 → EReal) (f : Fin 512 → EReal) (h : ∀ g e, a g e = f (gcol g e)) (c : Fin 512) :
    (if h : c.val < 128 then a 0 ⟨c.val, h⟩
      else if h : c.val - 128 < 128 then a 1 ⟨c.val - 128, h⟩
      else if h : c.val - 128 - 128 < 128 then a 2 ⟨c.val - 128 - 128, h⟩
      else a 3 ⟨c.val - 128 - 128 - 128, by omega⟩) = f c := by
  split_ifs with h0 h1 h2
  · rw [h]; exact congrArg f (Fin.ext (by simp only [gcol]; simp))
  · rw [h]; exact congrArg f (Fin.ext (by simp only [gcol]; simp; omega))
  · rw [h]; exact congrArg f (Fin.ext (by simp only [gcol]; simp; omega))
  · rw [h]; exact congrArg f (Fin.ext (by simp only [gcol]; simp; omega))

abbrev pms (x3 : Vec Ideal S512x2560 .bf16) (x7 : Vec Ideal S4x128x128 .f32) : Fin 4 → FVec Ideal S512x128 .f32 :=
  ![k0_pay51 (ldpl x3) (View.ld x7 (Rect.unit ![0, 0, 0] S1x128x128.size inb_S4x128x128_S1x128x128_0_0_0)),
    k0_pay58 (ldpl x3) (View.ld x7 (Rect.unit ![1, 0, 0] S1x128x128.size inb_S4x128x128_S1x128x128_1_0_0)),
    k0_pay66 (ldpl x3) (View.ld x7 (Rect.unit ![2, 0, 0] S1x128x128.size inb_S4x128x128_S1x128x128_2_0_0)),
    k0_pay74 (ldpl x3) (View.ld x7 (Rect.unit ![3, 0, 0] S1x128x128.size inb_S4x128x128_S1x128x128_3_0_0))]

theorem pms_eq (g : Fin 4) (ρ : Fin 512) (e : Fin 128) : pms x3 x7 g (ix2 ρ e) = D.PM (row τ ρ) (gcol g e) := by
  fin_cases g
  · exact pm0_eq hB ρ e
  · exact pm1_eq hB ρ e
  · exact pm2_eq hB ρ e
  · exact pm3_eq hB ρ e

theorem accC3_eq (a : Vec Ideal S1x8x512 .f32) (l : Fin 8) (c : Fin 512) :
    k0_pay79 (dyp x0 x1 x2 x4 x9 x10)
      (k0_pay51 (ldpl x3) (View.ld x7 (Rect.unit ![0, 0, 0] S1x128x128.size inb_S4x128x128_S1x128x128_0_0_0)))
      (k0_pay58 (ldpl x3) (View.ld x7 (Rect.unit ![1, 0, 0] S1x128x128.size inb_S4x128x128_S1x128x128_1_0_0)))
      (k0_pay66 (ldpl x3) (View.ld x7 (Rect.unit ![2, 0, 0] S1x128x128.size inb_S4x128x128_S1x128x128_2_0_0)))
      (k0_pay74 (ldpl x3) (View.ld x7 (Rect.unit ![3, 0, 0] S1x128x128.size inb_S4x128x128_S1x128x128_3_0_0))) a (ix3 0 l c)
      = a (ix3 0 l c) + ∑ x, D.termC 3 (row τ (lane x l)) c := by
  pointwise [k0_pay79]
  simp only [dyp_eq hB]
  refine congrArg₂ _ rfl (Finset.sum_congr rfl fun x _ => congrArg₂ _ rfl ?_)
  exact four (fun g e => pms x3 x7 g (ix2 (lane x l) e)) (fun c => D.PM (row τ (lane x l)) c)
    (fun g e => pms_eq hB g (lane x l) e) c

omit hB in
/-- A load of the pooled gradient's buffer, group `g`, `s` rows on. -/
def IsQ (D : Data) (τ : Fin 16) (g : Fin 4) (s : ℕ) (L : Vec Ideal S512x128 .f32) : Prop :=
  ∀ ρ e, L (ix2 ρ e) = past D.Q ((row τ ρ).val + s) (gcol g e)

abbrev dzp (x0 x1 x2 : Vec Ideal S512x1024 .f32) (x3 : Vec Ideal S512x2560 .bf16) (x4 : Vec Ideal S8x6144 .f32) (x7 : Vec Ideal S4x128x128 .f32) (x8 : Vec Ideal S1x512 .f32) (x9 : Vec Ideal S1024x1024 .bf16) (x10 : Vec Ideal S1x1024 .f32)
    (l0_0 l0_1 l1_0 l1_1 l1_2 l1_3 l2_0 l2_1 l2_2 l2_3 l2_4 l2_5 l2_6 l2_7 l3_0 l3_1 l3_2 l3_3 l3_4 l3_5 l3_6 l3_7 l3_8 l3_9 l3_10 l3_11 l3_12 l3_13 l3_14 l3_15 : Vec Ideal S512x128 .f32) : FVec Ideal S512x512 .bf16 :=
  k0_pay89 (k0_pay76 (dpw x0 x1 x2 x4 x8 x9 x10) (View.ld x7 (Rect.unit ![3, 0, 0] S1x128x128.size inb_S4x128x128_S1x128x128_3_0_0)))
    (k0_pay80 (k0_pay53 (k0_pay49 (dyp x0 x1 x2 x4 x9 x10) x8) (k0_pay50 (View.ld x7 (Rect.unit ![0, 0, 0] S1x128x128.size inb_S4x128x128_S1x128x128_0_0_0)))) l0_0 l0_1)
    (k0_pay81 (k0_pay61 (k0_pay56 (dpw x0 x1 x2 x4 x8 x9 x10)) (k0_pay57 (View.ld x7 (Rect.unit ![1, 0, 0] S1x128x128.size inb_S4x128x128_S1x128x128_1_0_0)))) l1_0 l1_1 l1_2 l1_3)
    (k0_pay83 (k0_pay68 (dpw x0 x1 x2 x4 x8 x9 x10) (View.ld x7 (Rect.unit ![2, 0, 0] S1x128x128.size inb_S4x128x128_S1x128x128_2_0_0))) (k0_pay82 l2_0 l2_1) l2_2 l2_3 l2_4 l2_5 l2_6 l2_7)
    (k0_pay84 l3_0 l3_1 l3_2 l3_3 l3_4 l3_5 l3_6 l3_7 l3_8) l3_9 l3_10 l3_11 l3_12 l3_13 l3_14 l3_15

section Pooled
variable {l0_0 l0_1 l1_0 l1_1 l1_2 l1_3 l2_0 l2_1 l2_2 l2_3 l2_4 l2_5 l2_6 l2_7 l3_0 l3_1 l3_2 l3_3 l3_4 l3_5 l3_6 l3_7 l3_8 l3_9 l3_10 l3_11 l3_12 l3_13 l3_14 l3_15 : Vec Ideal S512x128 .f32}
  (h0_0 : IsQ D τ 0 0 l0_0) (h0_1 : IsQ D τ 0 1 l0_1) (h1_0 : IsQ D τ 1 0 l1_0) (h1_1 : IsQ D τ 1 1 l1_1) (h1_2 : IsQ D τ 1 2 l1_2) (h1_3 : IsQ D τ 1 3 l1_3) (h2_0 : IsQ D τ 2 0 l2_0) (h2_1 : IsQ D τ 2 1 l2_1) (h2_2 : IsQ D τ 2 2 l2_2) (h2_3 : IsQ D τ 2 3 l2_3) (h2_4 : IsQ D τ 2 4 l2_4) (h2_5 : IsQ D τ 2 5 l2_5) (h2_6 : IsQ D τ 2 6 l2_6) (h2_7 : IsQ D τ 2 7 l2_7) (h3_0 : IsQ D τ 3 0 l3_0) (h3_1 : IsQ D τ 3 1 l3_1) (h3_2 : IsQ D τ 3 2 l3_2) (h3_3 : IsQ D τ 3 3 l3_3) (h3_4 : IsQ D τ 3 4 l3_4) (h3_5 : IsQ D τ 3 5 l3_5) (h3_6 : IsQ D τ 3 6 l3_6) (h3_7 : IsQ D τ 3 7 l3_7) (h3_8 : IsQ D τ 3 8 l3_8) (h3_9 : IsQ D τ 3 9 l3_9) (h3_10 : IsQ D τ 3 10 l3_10) (h3_11 : IsQ D τ 3 11 l3_11) (h3_12 : IsQ D τ 3 12 l3_12) (h3_13 : IsQ D τ 3 13 l3_13) (h3_14 : IsQ D τ 3 14 l3_14) (h3_15 : IsQ D τ 3 15 l3_15)
include h0_0 h0_1 h1_0 h1_1 h1_2 h1_3 h2_0 h2_1 h2_2 h2_3 h2_4 h2_5 h2_6 h2_7 h3_0 h3_1 h3_2 h3_3 h3_4 h3_5 h3_6 h3_7 h3_8 h3_9 h3_10 h3_11 h3_12 h3_13 h3_14 h3_15

theorem dzp_eq (ρ c : Fin 512) :
    dzp x0 x1 x2 x3 x4 x7 x8 x9 x10 l0_0 l0_1 l1_0 l1_1 l1_2 l1_3 l2_0 l2_1 l2_2 l2_3 l2_4 l2_5 l2_6 l2_7 l3_0 l3_1 l3_2 l3_3 l3_4 l3_5 l3_6 l3_7 l3_8 l3_9 l3_10 l3_11 l3_12 l3_13 l3_14 l3_15 (ix2 ρ c)
      = D.DZP (row τ ρ) c := by
  pointwise [dzp, k0_pay89, k0_pay80, k0_pay81, k0_pay82, k0_pay83, k0_pay84]
  refine four ![fun e => l0_0 (ix2 ρ e) + l0_1 (ix2 ρ e) - (k0_pay53 (k0_pay49 (dyp x0 x1 x2 x4 x9 x10) x8) (k0_pay50 (View.ld x7 (Rect.unit ![0, 0, 0] S1x128x128.size inb_S4x128x128_S1x128x128_0_0_0)))) (ix2 ρ e),
    fun e => l1_0 (ix2 ρ e) + l1_1 (ix2 ρ e) + l1_2 (ix2 ρ e) + l1_3 (ix2 ρ e) - (k0_pay61 (k0_pay56 (dpw x0 x1 x2 x4 x8 x9 x10)) (k0_pay57 (View.ld x7 (Rect.unit ![1, 0, 0] S1x128x128.size inb_S4x128x128_S1x128x128_1_0_0)))) (ix2 ρ e),
    fun e => l2_0 (ix2 ρ e) + l2_1 (ix2 ρ e) + l2_2 (ix2 ρ e) + l2_3 (ix2 ρ e) + l2_4 (ix2 ρ e) + l2_5 (ix2 ρ e) + l2_6 (ix2 ρ e) + l2_7 (ix2 ρ e) - (k0_pay68 (dpw x0 x1 x2 x4 x8 x9 x10) (View.ld x7 (Rect.unit ![2, 0, 0] S1x128x128.size inb_S4x128x128_S1x128x128_2_0_0))) (ix2 ρ e),
    fun e => l3_0 (ix2 ρ e) + l3_1 (ix2 ρ e) + l3_2 (ix2 ρ e) + l3_3 (ix2 ρ e) + l3_4 (ix2 ρ e) + l3_5 (ix2 ρ e) + l3_6 (ix2 ρ e) + l3_7 (ix2 ρ e) + l3_8 (ix2 ρ e) + l3_9 (ix2 ρ e) + l3_10 (ix2 ρ e) + l3_11 (ix2 ρ e) + l3_12 (ix2 ρ e) + l3_13 (ix2 ρ e) + l3_14 (ix2 ρ e) + l3_15 (ix2 ρ e) - (k0_pay76 (dpw x0 x1 x2 x4 x8 x9 x10) (View.ld x7 (Rect.unit ![3, 0, 0] S1x128x128.size inb_S4x128x128_S1x128x128_3_0_0))) (ix2 ρ e)]
    (fun c => D.DZP (row τ ρ) c) (fun g e => ?_) c
  fin_cases g
  · show l0_0 (ix2 ρ e) + l0_1 (ix2 ρ e) - (k0_pay53 (k0_pay49 (dyp x0 x1 x2 x4 x9 x10) x8) (k0_pay50 (View.ld x7 (Rect.unit ![0, 0, 0] S1x128x128.size inb_S4x128x128_S1x128x128_0_0_0)))) (ix2 ρ e) = D.DZP (row τ ρ) (gcol 0 e)
    rw [h0_0, h0_1, dp0_eq hB]
    refine congrArg₂ _ ?_ rfl
    rw [grp_gcol, show win 0 = 2 from rfl]
    simp only [Finset.sum_range_succ, Finset.sum_range_zero, zero_add]
  · show l1_0 (ix2 ρ e) + l1_1 (ix2 ρ e) + l1_2 (ix2 ρ e) + l1_3 (ix2 ρ e) - (k0_pay61 (k0_pay56 (dpw x0 x1 x2 x4 x8 x9 x10)) (k0_pay57 (View.ld x7 (Rect.unit ![1, 0, 0] S1x128x128.size inb_S4x128x128_S1x128x128_1_0_0)))) (ix2 ρ e) = D.DZP (row τ ρ) (gcol 1 e)
    rw [h1_0, h1_1, h1_2, h1_3, dp1_eq hB]
    refine congrArg₂ _ ?_ rfl
    rw [grp_gcol, show win 1 = 4 from rfl]
    simp only [Finset.sum_range_succ, Finset.sum_range_zero, zero_add]
  · show l2_0 (ix2 ρ e) + l2_1 (ix2 ρ e) + l2_2 (ix2 ρ e) + l2_3 (ix2 ρ e) + l2_4 (ix2 ρ e) + l2_5 (ix2 ρ e) + l2_6 (ix2 ρ e) + l2_7 (ix2 ρ e) - (k0_pay68 (dpw x0 x1 x2 x4 x8 x9 x10) (View.ld x7 (Rect.unit ![2, 0, 0] S1x128x128.size inb_S4x128x128_S1x128x128_2_0_0))) (ix2 ρ e) = D.DZP (row τ ρ) (gcol 2 e)
    rw [h2_0, h2_1, h2_2, h2_3, h2_4, h2_5, h2_6, h2_7, dp2_eq hB]
    refine congrArg₂ _ ?_ rfl
    rw [grp_gcol, show win 2 = 8 from rfl]
    simp only [Finset.sum_range_succ, Finset.sum_range_zero, zero_add]
  · show l3_0 (ix2 ρ e) + l3_1 (ix2 ρ e) + l3_2 (ix2 ρ e) + l3_3 (ix2 ρ e) + l3_4 (ix2 ρ e) + l3_5 (ix2 ρ e) + l3_6 (ix2 ρ e) + l3_7 (ix2 ρ e) + l3_8 (ix2 ρ e) + l3_9 (ix2 ρ e) + l3_10 (ix2 ρ e) + l3_11 (ix2 ρ e) + l3_12 (ix2 ρ e) + l3_13 (ix2 ρ e) + l3_14 (ix2 ρ e) + l3_15 (ix2 ρ e) - (k0_pay76 (dpw x0 x1 x2 x4 x8 x9 x10) (View.ld x7 (Rect.unit ![3, 0, 0] S1x128x128.size inb_S4x128x128_S1x128x128_3_0_0))) (ix2 ρ e) = D.DZP (row τ ρ) (gcol 3 e)
    rw [h3_0, h3_1, h3_2, h3_3, h3_4, h3_5, h3_6, h3_7, h3_8, h3_9, h3_10, h3_11, h3_12, h3_13, h3_14, h3_15, dp3_eq hB]
    refine congrArg₂ _ ?_ rfl
    rw [grp_gcol, show win 3 = 16 from rfl]
    simp only [Finset.sum_range_succ, Finset.sum_range_zero, zero_add]

theorem dz3_eq (ρ c : Fin 512) : k0_pay94 (dzp x0 x1 x2 x3 x4 x7 x8 x9 x10 l0_0 l0_1 l1_0 l1_1 l1_2 l1_3 l2_0 l2_1 l2_2 l2_3 l2_4 l2_5 l2_6 l2_7 l3_0 l3_1 l3_2 l3_3 l3_4 l3_5 l3_6 l3_7 l3_8 l3_9 l3_10 l3_11 l3_12 l3_13 l3_14 l3_15) (ix3 0 ρ c) = D.DZ 3 (row τ ρ) c := by
  pointwise [k0_pay94]
  exact dzp_eq hB h0_0 h0_1 h1_0 h1_1 h1_2 h1_3 h2_0 h2_1 h2_2 h2_3 h2_4 h2_5 h2_6 h2_7 h3_0 h3_1 h3_2 h3_3 h3_4 h3_5 h3_6 h3_7 h3_8 h3_9 h3_10 h3_11 h3_12 h3_13 h3_14 h3_15 ρ c

section Both
variable {d1 d2 : Vec Ideal S512x512 .f32} (hd1 : ∀ ρ c, d1 (ix2 ρ c) = past D.DCV ((row τ ρ).val + 1) c)
  (hd2 : ∀ ρ c, d2 (ix2 ρ c) = past D.DCV ((row τ ρ).val + 2) c)
include hd1 hd2

theorem dh_eq (ρ : Fin 512) (k : Fin 1024) :
    k0_pay95 (k0_pay87 (k0_pay45 (ldv x3) (du x0 x1 x2 x3 x4 x5 x9 x10 d1 d2))) (k0_pay88 (k0_pay46 (ldc x3) (du x0 x1 x2 x3 x4 x5 x9 x10 d1 d2))) (dzp x0 x1 x2 x3 x4 x7 x8 x9 x10 l0_0 l0_1 l1_0 l1_1 l1_2 l1_3 l2_0 l2_1 l2_2 l2_3 l2_4 l2_5 l2_6 l2_7 l3_0 l3_1 l3_2 l3_3 l3_4 l3_5 l3_6 l3_7 l3_8 l3_9 l3_10 l3_11 l3_12 l3_13 l3_14 l3_15) (k0_pay91 (k0_pay35 (dyc x0 x1 x2 x4 x9 x10) (ldcv x3)) (View.ld x6 (Rect.unit ![0, 0, 0] S1x1024x512.size inb_S4x1024x512_S1x1024x512_0_0_0))) (View.ld x6 (Rect.unit ![1, 0, 0] S1x1024x512.size inb_S4x1024x512_S1x1024x512_1_0_0)) (View.ld x6 (Rect.unit ![2, 0, 0] S1x1024x512.size inb_S4x1024x512_S1x1024x512_2_0_0)) (View.ld x6 (Rect.unit ![3, 0, 0] S1x1024x512.size inb_S4x1024x512_S1x1024x512_3_0_0)) (ix2 ρ k) = D.DH (row τ ρ) k := by
  pointwise [k0_pay95, k0_pay91, k0_pay86, k0_pay87, k0_pay88]
  simp only [dzb_eq hB, dzc_eq hB hd1 hd2, dzv_eq hB hd1 hd2, dzp_eq hB h0_0 h0_1 h1_0 h1_1 h1_2 h1_3 h2_0 h2_1 h2_2 h2_3 h2_4 h2_5 h2_6 h2_7 h3_0 h3_1 h3_2 h3_3 h3_4 h3_5 h3_6 h3_7 h3_8 h3_9 h3_10 h3_11 h3_12 h3_13 h3_14 h3_15, hB.wi]
  rfl

theorem gx_eq (ρ : Fin 512) (k : Fin 1024) :
    k0_pay96 (k0_pay20 (ldsc x4)) (k0_pay25 x2 (k0_pay23 x0 x1 (ldg x4)) (k0_pay24 x0 x1 (ldg x4)) x10)
      (k0_pay87 (k0_pay45 (ldv x3) (du x0 x1 x2 x3 x4 x5 x9 x10 d1 d2))) (k0_pay88 (k0_pay46 (ldc x3) (du x0 x1 x2 x3 x4 x5 x9 x10 d1 d2))) (dzp x0 x1 x2 x3 x4 x7 x8 x9 x10 l0_0 l0_1 l1_0 l1_1 l1_2 l1_3 l2_0 l2_1 l2_2 l2_3 l2_4 l2_5 l2_6 l2_7 l3_0 l3_1 l3_2 l3_3 l3_4 l3_5 l3_6 l3_7 l3_8 l3_9 l3_10 l3_11 l3_12 l3_13 l3_14 l3_15) (k0_pay91 (k0_pay35 (dyc x0 x1 x2 x4 x9 x10) (ldcv x3)) (View.ld x6 (Rect.unit ![0, 0, 0] S1x1024x512.size inb_S4x1024x512_S1x1024x512_0_0_0))) (View.ld x6 (Rect.unit ![1, 0, 0] S1x1024x512.size inb_S4x1024x512_S1x1024x512_1_0_0)) (View.ld x6 (Rect.unit ![2, 0, 0] S1x1024x512.size inb_S4x1024x512_S1x1024x512_2_0_0)) (View.ld x6 (Rect.unit ![3, 0, 0] S1x1024x512.size inb_S4x1024x512_S1x1024x512_3_0_0)) (ix2 ρ k) = D.GX (row τ ρ) k := by
  pointwise [k0_pay96, k0_pay20]
  rw [pay25_eq hB, ldsc_eq hB, dh_eq hB h0_0 h0_1 h1_0 h1_1 h1_2 h1_3 h2_0 h2_1 h2_2 h2_3 h2_4 h2_5 h2_6 h2_7 h3_0 h3_1 h3_2 h3_3 h3_4 h3_5 h3_6 h3_7 h3_8 h3_9 h3_10 h3_11 h3_12 h3_13 h3_14 h3_15 hd1 hd2]
  rfl

theorem accD3_eq (a : Vec Ideal S1x8x1024 .f32) (l : Fin 8) (k : Fin 1024) :
    k0_pay1 (k0_pay100 x0 (k0_pay95 (k0_pay87 (k0_pay45 (ldv x3) (du x0 x1 x2 x3 x4 x5 x9 x10 d1 d2))) (k0_pay88 (k0_pay46 (ldc x3) (du x0 x1 x2 x3 x4 x5 x9 x10 d1 d2))) (dzp x0 x1 x2 x3 x4 x7 x8 x9 x10 l0_0 l0_1 l1_0 l1_1 l1_2 l1_3 l2_0 l2_1 l2_2 l2_3 l2_4 l2_5 l2_6 l2_7 l3_0 l3_1 l3_2 l3_3 l3_4 l3_5 l3_6 l3_7 l3_8 l3_9 l3_10 l3_11 l3_12 l3_13 l3_14 l3_15) (k0_pay91 (k0_pay35 (dyc x0 x1 x2 x4 x9 x10) (ldcv x3)) (View.ld x6 (Rect.unit ![0, 0, 0] S1x1024x512.size inb_S4x1024x512_S1x1024x512_0_0_0))) (View.ld x6 (Rect.unit ![1, 0, 0] S1x1024x512.size inb_S4x1024x512_S1x1024x512_1_0_0)) (View.ld x6 (Rect.unit ![2, 0, 0] S1x1024x512.size inb_S4x1024x512_S1x1024x512_2_0_0)) (View.ld x6 (Rect.unit ![3, 0, 0] S1x1024x512.size inb_S4x1024x512_S1x1024x512_3_0_0))) a) (ix3 0 l k) = a (ix3 0 l k) + ∑ x, D.termD 3 (row τ (lane x l)) k := by
  pointwise [k0_pay1, k0_pay100]
  refine congrArg₂ _ rfl (Finset.sum_congr rfl fun x _ => congrArg₂ _ (dh_eq hB h0_0 h0_1 h1_0 h1_1 h1_2 h1_3 h2_0 h2_1 h2_2 h2_3 h2_4 h2_5 h2_6 h2_7 h3_0 h3_1 h3_2 h3_3 h3_4 h3_5 h3_6 h3_7 h3_8 h3_9 h3_10 h3_11 h3_12 h3_13 h3_14 h3_15 hd1 hd2 (lane x l) k) (hB.x _ k))

theorem accD4_eq (a : Vec Ideal S1x8x1024 .f32) (l : Fin 8) (k : Fin 1024) :
    k0_pay2 (k0_pay95 (k0_pay87 (k0_pay45 (ldv x3) (du x0 x1 x2 x3 x4 x5 x9 x10 d1 d2))) (k0_pay88 (k0_pay46 (ldc x3) (du x0 x1 x2 x3 x4 x5 x9 x10 d1 d2))) (dzp x0 x1 x2 x3 x4 x7 x8 x9 x10 l0_0 l0_1 l1_0 l1_1 l1_2 l1_3 l2_0 l2_1 l2_2 l2_3 l2_4 l2_5 l2_6 l2_7 l3_0 l3_1 l3_2 l3_3 l3_4 l3_5 l3_6 l3_7 l3_8 l3_9 l3_10 l3_11 l3_12 l3_13 l3_14 l3_15) (k0_pay91 (k0_pay35 (dyc x0 x1 x2 x4 x9 x10) (ldcv x3)) (View.ld x6 (Rect.unit ![0, 0, 0] S1x1024x512.size inb_S4x1024x512_S1x1024x512_0_0_0))) (View.ld x6 (Rect.unit ![1, 0, 0] S1x1024x512.size inb_S4x1024x512_S1x1024x512_1_0_0)) (View.ld x6 (Rect.unit ![2, 0, 0] S1x1024x512.size inb_S4x1024x512_S1x1024x512_2_0_0)) (View.ld x6 (Rect.unit ![3, 0, 0] S1x1024x512.size inb_S4x1024x512_S1x1024x512_3_0_0))) a (ix3 0 l k) = a (ix3 0 l k) + ∑ x, D.termD 4 (row τ (lane x l)) k := by
  pointwise [k0_pay2]
  refine congrArg₂ _ rfl (Finset.sum_congr rfl fun x _ => dh_eq hB h0_0 h0_1 h1_0 h1_1 h1_2 h1_3 h2_0 h2_1 h2_2 h2_3 h2_4 h2_5 h2_6 h2_7 h3_0 h3_1 h3_2 h3_3 h3_4 h3_5 h3_6 h3_7 h3_8 h3_9 h3_10 h3_11 h3_12 h3_13 h3_14 h3_15 hd1 hd2 (lane x l) k)

end Both
end Pooled

theorem dz0_eq (ρ c : Fin 512) : k0_pay90 (k0_pay35 (dyc x0 x1 x2 x4 x9 x10) (ldcv x3)) (ix3 0 ρ c) = D.DZ 0 (row τ ρ) c := by
  pointwise [k0_pay90, k0_pay86]
  exact dzb_eq hB ρ c

theorem dz1_eq {d1 d2 : Vec Ideal S512x512 .f32} (hd1 : ∀ ρ c, d1 (ix2 ρ c) = past D.DCV ((row τ ρ).val + 1) c)
    (hd2 : ∀ ρ c, d2 (ix2 ρ c) = past D.DCV ((row τ ρ).val + 2) c) (ρ c : Fin 512) :
    k0_pay92 (k0_pay87 (k0_pay45 (ldv x3) (du x0 x1 x2 x3 x4 x5 x9 x10 d1 d2))) (ix3 0 ρ c) = D.DZ 1 (row τ ρ) c := by
  pointwise [k0_pay92, k0_pay87]
  exact dzc_eq hB hd1 hd2 ρ c

theorem dz2_eq {d1 d2 : Vec Ideal S512x512 .f32} (hd1 : ∀ ρ c, d1 (ix2 ρ c) = past D.DCV ((row τ ρ).val + 1) c)
    (hd2 : ∀ ρ c, d2 (ix2 ρ c) = past D.DCV ((row τ ρ).val + 2) c) (ρ c : Fin 512) :
    k0_pay93 (k0_pay88 (k0_pay46 (ldc x3) (du x0 x1 x2 x3 x4 x5 x9 x10 d1 d2))) (ix3 0 ρ c) = D.DZ 2 (row τ ρ) c := by
  pointwise [k0_pay93, k0_pay88]
  exact dzv_eq hB hd1 hd2 ρ c

theorem accD0_eq (a : Vec Ideal S1x8x1024 .f32) (l : Fin 8) (k : Fin 1024) :
    k0_pay97 x2 (k0_pay24 x0 x1 (ldg x4)) a (ix3 0 l k) = a (ix3 0 l k) + ∑ x, D.termD 0 (row τ (lane x l)) k := by
  pointwise [k0_pay97]
  simp only [pay24_eq hB, hB.dx]
  rfl

theorem accD1_eq (a : Vec Ideal S1x8x1024 .f32) (l : Fin 8) (k : Fin 1024) :
    k0_pay98 x2 a (ix3 0 l k) = a (ix3 0 l k) + ∑ x, D.termD 1 (row τ (lane x l)) k := by
  pointwise [k0_pay98]
  simp only [hB.dx]
  rfl

theorem accD2_eq (a : Vec Ideal S1x8x1024 .f32) (l : Fin 8) (k : Fin 1024) :
    k0_pay99 (k0_pay19 x1) (k0_pay25 x2 (k0_pay23 x0 x1 (ldg x4)) (k0_pay24 x0 x1 (ldg x4)) x10) a (ix3 0 l k)
      = a (ix3 0 l k) + ∑ x, D.termD 2 (row τ (lane x l)) k := by
  pointwise [k0_pay99, k0_pay19]
  simp only [pay25_eq hB, hB.mix]
  rfl

end Tile

end Cert.KernelIdeal.Hand
-- ==== Proof.Buffers.lean ====
module

public import proofs.«01_k».proof.Proof.Gen.KernelIdeal.Value
public import proofs.«01_k».proof.Proof.Point
public import Idealize.ShloMosaic.Lib.Pipeline.ValueKit
public import Idealize.ShloMosaic.Lib.Pointwise
public import Idealize.ShloMosaic.Lib.WritesUnit

@[expose] public section

set_option maxRecDepth 16384

/-!
# The two buffers that carry rows between points

Each holds the tile's 512 rows and, under them, the first rows of the tile after it. A load some rows on reads the
gradient at the row it names, zero past the last row.
-/

noncomputable section

namespace Cert.KernelIdeal.Hand
open Cert.KernelIdeal Cert.KernelIdeal.Gen Cert.KernelIdeal.Value Idealize.ShloMosaic Idealize.ShloMosaic.TcCoe Idealize.SL.Sem
open Idealize.ShloMosaic.Pipeline (Dat)
open Cert.Norm Cert.Spec Cert.Read

section Buffers
variable {D : Data} {τ : Fin 16} {x0 x1 x2 : Vec Ideal S512x1024 .f32} {x3 : Vec Ideal S512x2560 .bf16}
    {x4 : Vec Ideal S8x6144 .f32} {x5 : Vec Ideal S8x512 .f32} {x6 : Vec Ideal S4x1024x512 .bf16}
    {x7 : Vec Ideal S4x128x128 .f32} {x8 : Vec Ideal S1x512 .f32} {x9 : Vec Ideal S1024x1024 .bf16}
    {x10 : Vec Ideal S1x1024 .f32} (hB : Blk D τ x0 x1 x2 x3 x4 x5 x6 x7 x8 x9 x10)
    (v0 : BitVec 32) (hv : v0 = BitVec.ofNat 32 τ.val)
    (v : View sig .tc .vmem S528x512 .f32) (f : v.ty.Contents (Elt Ideal)) (L : List (View.Piece (Elt Ideal) S528x512 .f32))

/-- The store of the tile's rows in the first buffer. -/
abbrev pieceD (x0 x1 x2 : Vec Ideal S512x1024 .f32) (x3 : Vec Ideal S512x2560 .bf16) (x4 : Vec Ideal S8x6144 .f32)
    (x9 : Vec Ideal S1024x1024 .bf16) (x10 : Vec Ideal S1x1024 .f32) : View.Piece (Elt Ideal) S528x512 .f32 :=
  ⟨Rect.unit ![0, 0] S512x512.size inb_S528x512_S512x512_0_0, k0_pay37 (dyc x0 x1 x2 x4 x9 x10) (ldz x3)⟩

/-- The stores of the four groups' columns in the second, over what was there. -/
abbrev piecesQ (v0 : BitVec 32) (x0 x1 x2 : Vec Ideal S512x1024 .f32) (x4 : Vec Ideal S8x6144 .f32)
    (x7 : Vec Ideal S4x128x128 .f32) (x8 : Vec Ideal S1x512 .f32) (x9 : Vec Ideal S1024x1024 .bf16)
    (x10 : Vec Ideal S1x1024 .f32) (L : List (View.Piece (Elt Ideal) S528x512 .f32)) : List (View.Piece (Elt Ideal) S528x512 .f32) :=
  ⟨Rect.unit ![0, 384] S512x128.size inb_S528x512_S512x128_0_384,
    k0_pay78 (k0_pay76 (dpw x0 x1 x2 x4 x8 x9 x10) (View.ld x7 (Rect.unit ![3, 0, 0] S1x128x128.size inb_S4x128x128_S1x128x128_3_0_0))) (k0_pay77 v0) (Scalar.ofBits .f32 0x3F800000#32)⟩ ::
  ⟨Rect.unit ![0, 256] S512x128.size inb_S528x512_S512x128_0_256,
    k0_pay70 (k0_pay68 (dpw x0 x1 x2 x4 x8 x9 x10) (View.ld x7 (Rect.unit ![2, 0, 0] S1x128x128.size inb_S4x128x128_S1x128x128_2_0_0))) (iota .tc S512x1 32 [0] iota_S512x1_d0_w32) (k0_pay69 v0)⟩ ::
  ⟨Rect.unit ![0, 128] S512x128.size inb_S528x512_S512x128_0_128,
    k0_pay62 v0 (k0_pay56 (dpw x0 x1 x2 x4 x8 x9 x10)) (k0_pay57 (View.ld x7 (Rect.unit ![1, 0, 0] S1x128x128.size inb_S4x128x128_S1x128x128_1_0_0)))⟩ ::
  ⟨Rect.unit ![0, 0] S512x128.size inb_S528x512_S512x128_0_0,
    k0_pay54 v0 (k0_pay49 (dyp x0 x1 x2 x4 x9 x10) x8) (k0_pay50 (View.ld x7 (Rect.unit ![0, 0, 0] S1x128x128.size inb_S4x128x128_S1x128x128_0_0_0)))⟩ ::
  L

include hB

theorem readD_eq (ρ : Fin 528) (c : Fin 512)
    (h : 512 ≤ ρ.val → v.read (Elt Ideal) (v.writes (Elt Ideal) f L) (ix2 ρ c) = past D.DCV (512 * τ.val + ρ.val) c) :
    v.read (Elt Ideal) (v.writes (Elt Ideal) f (pieceD x0 x1 x2 x3 x4 x9 x10 :: L)) (ix2 ρ c)
      = past D.DCV (512 * τ.val + ρ.val) c := by
  by_cases hρ : ρ.val < 512
  · refine (View.read_writes_cons_rows_of_mem v f _ _ L (ix2 ρ c) (ix2 ⟨ρ.val, hρ⟩ c) (o := 0) rfl
      (Nat.zero_add _).symm rfl).trans ?_
    refine (dcv'_eq hB ⟨ρ.val, hρ⟩ c).trans ?_
    rw [past_of_lt _ _ _ (by omega)]
    rfl
  · refine (View.read_writes_cons_rows_of_not_mem v f _ _ L (ix2 ρ c) (o := 0) (W := 512) rfl rfl
      (Or.inr (by show 0 + 512 ≤ ρ.val; omega))).trans (h (by omega))

/-- The first buffer read `s` rows on. -/
theorem ldD_eq (s : ℕ) (hs : ∀ d, (![s, 0] : Fin 2 → ℕ) d + S512x512.size d ≤ S528x512.size d)
    (h : ∀ (ρ : Fin 528) (c : Fin 512), 512 ≤ ρ.val → ρ.val < s + 512 →
      v.read (Elt Ideal) (v.writes (Elt Ideal) f L) (ix2 ρ c) = past D.DCV (512 * τ.val + ρ.val) c)
    (ρ c : Fin 512) :
    View.ld (v.read (Elt Ideal) (v.writes (Elt Ideal) f (pieceD x0 x1 x2 x3 x4 x9 x10 :: L)))
      (Rect.unit ![s, 0] S512x512.size hs) (ix2 ρ c) = past D.DCV ((row τ ρ).val + s) c := by
  have hs0 : s ≤ 16 := by have := hs 0; change s + 512 ≤ 528 at this; omega
  refine (ld2 (N := 528) (M := 512) (n := 512) (m := 512) _ hs ρ c).trans ?_
  refine (readD_eq hB v f L _ _ (fun h5 => h _ _ h5 (by show s + ρ.val < s + 512; omega))).trans ?_
  refine congrArg₂ _ ?_ (Fin.ext (Nat.zero_add _))
  show 512 * τ.val + (s + ρ.val) = 512 * τ.val + ρ.val + s
  omega

/-- Its first sixteen rows, copied. -/
theorem haloD_eq (h : Fin 16) (c : Fin 512) :
    k0_pay39 (v.readCov (pieceD x0 x1 x2 x3 x4 x9 x10 :: L)
      (Rect.unit (s := S528x512) ![0, 0] S16x512.size inb_S528x512_S16x512_0_0).toLoadRect) (ix2 h c)
      = past D.DCV (512 * τ.val + h.val) c := by
  pointwise [k0_pay39]
  refine (ld2 (N := 528) (M := 512) (n := 16) (m := 512)
    (v.read (Elt Ideal) (v.writes (Elt Ideal) v.junk (pieceD x0 x1 x2 x3 x4 x9 x10 :: L)))
    inb_S528x512_S16x512_0_0 h c).trans ?_
  refine (readD_eq hB v v.junk L _ _ (fun h5 => absurd h5 (by show ¬ 512 ≤ 0 + h.val; omega))).trans ?_
  exact congrArg₂ _ (congrArg (512 * τ.val + ·) (Nat.zero_add _)) (Fin.ext (Nat.zero_add _))

include hv

theorem readQ_eq (ρ : Fin 528) (c : Fin 512)
    (h : 512 ≤ ρ.val → v.read (Elt Ideal) (v.writes (Elt Ideal) f L) (ix2 ρ c) = past D.Q (512 * τ.val + ρ.val) c) :
    v.read (Elt Ideal) (v.writes (Elt Ideal) f (piecesQ v0 x0 x1 x2 x4 x7 x8 x9 x10 L)) (ix2 ρ c)
      = past D.Q (512 * τ.val + ρ.val) c := by
  by_cases hρ : ρ.val < 512
  · have key : ∀ g : Fin 4, ∀ c' : Fin 512, c' = c → ∀ hc : 128 * g.val ≤ c'.val ∧ c'.val < 128 * g.val + 128,
        D.Q (row τ ⟨ρ.val, hρ⟩) (gcol g ⟨c'.val - 128 * g.val, by omega⟩) = past D.Q (512 * τ.val + ρ.val) c := by
      rintro g c' rfl hc
      rw [past_of_lt _ _ _ (by omega)]
      refine congrArg₂ _ rfl (Fin.ext ?_)
      show 128 * g.val + (c'.val - 128 * g.val) = c'.val
      omega
    by_cases h3 : 384 ≤ c.val
    · refine (View.read_writes_cons_unit_of_mem v f _ _ _ (ix2 ρ c) (ix2 ⟨ρ.val, hρ⟩ ⟨c.val - 384, by omega⟩)
        (off' := ![0, 384]) rfl (Fin.forall_fin_two.mpr ⟨(Nat.zero_add _).symm, by show c.val = 384 + (c.val - 384); omega⟩)).trans ?_
      exact (q3_eq hB v0 hv ⟨ρ.val, hρ⟩ ⟨c.val - 384, by omega⟩).trans (key 3 c rfl (by constructor <;> simp <;> omega))
    refine (View.read_writes_cons_unit_of_not_mem v f _ _ _ (ix2 ρ c) (off' := ![0, 384]) rfl 1
      (Or.inl (by show c.val < 384; omega))).trans ?_
    by_cases h2 : 256 ≤ c.val
    · refine (View.read_writes_cons_unit_of_mem v f _ _ _ (ix2 ρ c) (ix2 ⟨ρ.val, hρ⟩ ⟨c.val - 256, by omega⟩)
        (off' := ![0, 256]) rfl (Fin.forall_fin_two.mpr ⟨(Nat.zero_add _).symm, by show c.val = 256 + (c.val - 256); omega⟩)).trans ?_
      exact (q2_eq hB v0 hv ⟨ρ.val, hρ⟩ ⟨c.val - 256, by omega⟩).trans (key 2 c rfl (by constructor <;> simp <;> omega))
    refine (View.read_writes_cons_unit_of_not_mem v f _ _ _ (ix2 ρ c) (off' := ![0, 256]) rfl 1
      (Or.inl (by show c.val < 256; omega))).trans ?_
    by_cases h1 : 128 ≤ c.val
    · refine (View.read_writes_cons_unit_of_mem v f _ _ _ (ix2 ρ c) (ix2 ⟨ρ.val, hρ⟩ ⟨c.val - 128, by omega⟩)
        (off' := ![0, 128]) rfl (Fin.forall_fin_two.mpr ⟨(Nat.zero_add _).symm, by show c.val = 128 + (c.val - 128); omega⟩)).trans ?_
      exact (q1_eq hB v0 hv ⟨ρ.val, hρ⟩ ⟨c.val - 128, by omega⟩).trans (key 1 c rfl (by constructor <;> simp <;> omega))
    refine (View.read_writes_cons_unit_of_not_mem v f _ _ _ (ix2 ρ c) (off' := ![0, 128]) rfl 1
      (Or.inl (by show c.val < 128; omega))).trans ?_
    refine (View.read_writes_cons_unit_of_mem v f _ _ _ (ix2 ρ c) (ix2 ⟨ρ.val, hρ⟩ ⟨c.val - 0, by omega⟩)
      (off' := ![0, 0]) rfl (Fin.forall_fin_two.mpr ⟨(Nat.zero_add _).symm, by show c.val = 0 + (c.val - 0); omega⟩)).trans ?_
    exact (q0_eq hB v0 hv ⟨ρ.val, hρ⟩ ⟨c.val - 0, by omega⟩).trans (key 0 c rfl (by constructor <;> simp <;> omega))
  · have hn : ∀ (o : ℕ) (hi : ∀ d, (![0, o] : Fin 2 → ℕ) d + S512x128.size d ≤ S528x512.size d) (w : Vec Ideal S512x128 .f32)
        (K : List (View.Piece (Elt Ideal) S528x512 .f32)),
        v.read (Elt Ideal) (v.writes (Elt Ideal) f (⟨Rect.unit ![0, o] S512x128.size hi, w⟩ :: K)) (ix2 ρ c)
          = v.read (Elt Ideal) (v.writes (Elt Ideal) f K) (ix2 ρ c) := fun o hi w K =>
      View.read_writes_cons_unit_of_not_mem v f hi w K (ix2 ρ c) (off' := ![0, o]) rfl 0
        (Or.inr (by show 0 + 512 ≤ ρ.val; omega))
    refine (hn 384 _ _ _).trans ((hn 256 _ _ _).trans ((hn 128 _ _ _).trans ((hn 0 _ _ _).trans (h (by omega)))))

/-- The second buffer read `s` rows on, in group `g`'s columns. -/
theorem ldQ_eq (g : Fin 4) (s o : ℕ) (ho : o = 128 * g.val)
    (hs : ∀ d, (![s, o] : Fin 2 → ℕ) d + S512x128.size d ≤ S528x512.size d)
    (h : ∀ (ρ : Fin 528) (c : Fin 512), 512 ≤ ρ.val → ρ.val < s + 512 →
      v.read (Elt Ideal) (v.writes (Elt Ideal) f L) (ix2 ρ c) = past D.Q (512 * τ.val + ρ.val) c) :
    IsQ D τ g s (View.ld (v.read (Elt Ideal) (v.writes (Elt Ideal) f (piecesQ v0 x0 x1 x2 x4 x7 x8 x9 x10 L)))
      (Rect.unit ![s, o] S512x128.size hs)) := by
  intro ρ e
  have hs0 : s ≤ 16 := by have := hs 0; change s + 512 ≤ 528 at this; omega
  refine (ld2 (N := 528) (M := 512) (n := 512) (m := 128) _ hs ρ e).trans ?_
  refine (readQ_eq hB v0 hv v f L _ _ (fun h5 => h _ _ h5 (by show s + ρ.val < s + 512; omega))).trans ?_
  subst ho
  refine congrArg₂ _ ?_ rfl
  show 512 * τ.val + (s + ρ.val) = 512 * τ.val + ρ.val + s
  omega

/-- Its first sixteen rows, copied. -/
theorem haloQ_eq (h : Fin 16) (c : Fin 512) :
    k0_pay85 (v.readCov (piecesQ v0 x0 x1 x2 x4 x7 x8 x9 x10 L)
      (Rect.unit (s := S528x512) ![0, 0] S16x512.size inb_S528x512_S16x512_0_0).toLoadRect) (ix2 h c)
      = past D.Q (512 * τ.val + h.val) c := by
  pointwise [k0_pay85]
  refine (ld2 (N := 528) (M := 512) (n := 16) (m := 512)
    (v.read (Elt Ideal) (v.writes (Elt Ideal) v.junk (piecesQ v0 x0 x1 x2 x4 x7 x8 x9 x10 L)))
    inb_S528x512_S16x512_0_0 h c).trans ?_
  refine (readQ_eq hB v0 hv v v.junk L _ _ (fun h5 => absurd h5 (by show ¬ 512 ≤ 0 + h.val; omega))).trans ?_
  exact congrArg₂ _ (congrArg (512 * τ.val + ·) (Nat.zero_add _)) (Fin.ext (Nat.zero_add _))

end Buffers

/-- The rows under the tile's hold what the first rows of the tile after it are. -/
def Halo (F : Fin 8192 → Fin 512 → EReal) (τ : Fin 16) (xs : Vec Ideal S528x512 .f32) : Prop :=
  ∀ (h : Fin 16) (c : Fin 512), xs (ix2 ⟨512 + h.val, by omega⟩ c) = past F (512 * τ.val + 512 + h.val) c

/-- Read where no store of the point reaches, they are still there. -/
theorem Halo.read {F : Fin 8192 → Fin 512 → EReal} {τ : Fin 16} {xs : Vec Ideal S528x512 .f32} (hx : Halo F τ xs)
    (m : Memref sig .tc .vmem S528x512 .f32) (hm : m.IsWhole) (s : ℕ) (ρ : Fin 528) (c : Fin 512) (h5 : 512 ≤ ρ.val)
    (_ : ρ.val < s + 512) :
    m.view.read (Elt Ideal) (m.view.writes (Elt Ideal) (hm.unread xs) []) (ix2 ρ c) = past F (512 * τ.val + ρ.val) c := by
  rw [View.writes_nil, hm.read_unread]
  refine Eq.trans (congrArg xs ?_) ((hx ⟨ρ.val - 512, by omega⟩ c).trans (congrArg₂ _ ?_ rfl))
  · exact congrArg (ix2 · c) (Fin.ext (show ρ.val = 512 + (ρ.val - 512) by omega))
  · show 512 * τ.val + 512 + (ρ.val - 512) = 512 * τ.val + ρ.val
    omega

/-- At the first point, whose tile is the last, they are zero. -/
theorem zero_read {F : Fin 8192 → Fin 512 → EReal} {τ : Fin 16} (hτ : τ.val = 15)
    (v : View sig .tc .vmem S528x512 .f32) (f : v.ty.Contents (Elt Ideal))
    (hi : ∀ d, (![512, 0] : Fin 2 → ℕ) d + S16x512.size d ≤ S528x512.size d) (w : Vec Ideal S16x512 .f32)
    (hw : ∀ h c, w (ix2 h c) = 0) (s : ℕ) (ρ : Fin 528) (c : Fin 512) (h5 : 512 ≤ ρ.val) (_ : ρ.val < s + 512) :
    v.read (Elt Ideal) (v.writes (Elt Ideal) f
      [(⟨Rect.unit (s := S528x512) ![512, 0] S16x512.size hi, w⟩ : View.Piece (Elt Ideal) S528x512 .f32)]) (ix2 ρ c)
      = past F (512 * τ.val + ρ.val) c := by
  refine (View.read_writes_cons_rows_of_mem v f (size := S16x512.size) hi w [] (ix2 ρ c) (ix2 ⟨ρ.val - 512, by omega⟩ c) (o := 512) rfl
    (by show ρ.val = 512 + (ρ.val - 512); omega) rfl).trans ?_
  rw [hw, past_of_le _ _ _ (by omega)]

end Cert.KernelIdeal.Hand
-- ==== Proof.CaseA.lean ====
module

public import proofs.«01_k».proof.Proof.Gen.KernelIdeal.Value
public import proofs.«01_k».proof.Proof.Buffers
public import Idealize.ShloMosaic.Lib.Pipeline.ValueKit
public import Idealize.ShloMosaic.Lib.Pointwise

@[expose] public section

set_option maxRecDepth 16384

/-!
# The outputs and the scratch after the first point
-/

noncomputable section

namespace Cert.KernelIdeal.Hand
open Cert.KernelIdeal Cert.KernelIdeal.Gen Cert.KernelIdeal.Value Idealize.ShloMosaic Idealize.ShloMosaic.TcCoe Idealize.SL.Sem
open Idealize.ShloMosaic.Pipeline (Dat)
open Cert.Norm Cert.Spec Cert.Read

namespace CaseA

variable (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x1024 .f32) (harg3 : arg3.IsWhole) (arg4 : Memref sig .tc .vmem S512x2560 .bf16) (harg4 : arg4.IsWhole) (arg5 : Memref sig .tc .vmem S8x6144 .f32) (harg5 : arg5.IsWhole) (arg6 : Memref sig .tc .vmem S8x512 .f32) (harg6 : arg6.IsWhole) (arg7 : Memref sig .tc .vmem S4x1024x512 .bf16) (harg7 : arg7.IsWhole) (arg8 : Memref sig .tc .vmem S4x128x128 .f32) (harg8 : arg8.IsWhole) (arg9 : Memref sig .tc .vmem S1x512 .f32) (harg9 : arg9.IsWhole) (arg10 : Memref sig .tc .vmem S1024x1024 .bf16) (harg10 : arg10.IsWhole) (arg11 : Memref sig .tc .vmem S1x1024 .f32) (harg11 : arg11.IsWhole) (arg13 : Memref sig .tc .vmem S512x1024 .f32) (harg13 : arg13.IsWhole) (arg14 : Memref sig .tc .vmem S4x512x512 .bf16) (harg14 : arg14.IsWhole) (arg15 : Memref sig .tc .vmem S512x1024 .bf16) (harg15 : arg15.IsWhole) (arg16 : Memref sig .tc .vmem S8x1024 .f32) (harg16 : arg16.IsWhole) (arg17 : Memref sig .tc .vmem S8x512 .f32) (harg17 : arg17.IsWhole) (arg18 : Memref sig .tc .vmem S4x128x128 .f32) (harg18 : arg18.IsWhole) (arg19 : Memref sig .tc .vmem S528x512 .f32) (harg19 : arg19.IsWhole) (arg20 : Memref sig .tc .vmem S528x512 .f32) (harg20 : arg20.IsWhole) (arg21 : Memref sig .tc .vmem S5x8x1024 .f32) (harg21 : arg21.IsWhole) (arg22 : Memref sig .tc .vmem S4x8x512 .f32) (harg22 : arg22.IsWhole) (arg23 : Memref sig .tc .vmem S4x128x128 .f32) (harg23 : arg23.IsWhole) (hc0 : cond0_0 i) (hc1 : ¬cond0_1 i)
    (x0 : Vec Ideal S512x1024 .f32) (x1 : Vec Ideal S512x1024 .f32) (x2 : Vec Ideal S512x1024 .f32) (x3 : Vec Ideal S512x2560 .bf16) (x4 : Vec Ideal S8x6144 .f32) (x5 : Vec Ideal S8x512 .f32) (x6 : Vec Ideal S4x1024x512 .bf16) (x7 : Vec Ideal S4x128x128 .f32) (x8 : Vec Ideal S1x512 .f32) (x9 : Vec Ideal S1024x1024 .bf16) (x10 : Vec Ideal S1x1024 .f32)
    {D : Data} {τ : Fin 16} (hB : Blk D τ x0 x1 x2 x3 x4 x5 x6 x7 x8 x9 x10)

include hB

theorem dm (ρ : Fin 512) (k : Fin 1024) :
    out0_A_13 (F := Ideal) c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 (ix2 ρ k) = D.DM (row τ ρ) k := by
  frame_out
  exact pay26_eq hB ρ k

theorem halo0 (h : Fin 16) (c' : Fin 512) :
    sout0_A_0 (F := Ideal) c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 (ix2 ⟨512 + h.val, by omega⟩ c') = past D.DCV (512 * τ.val + h.val) c' := by
  frame_out
  exact (canon_rows_eq 512 16 h _ rfl _ _ _ c').trans (haloD_eq hB _ _ h c')

theorem accP (g : Fin 4) (d e : Fin 128) :
    sout0_A_4 (F := Ideal) c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 (ix3 g d e) = 0 + ∑ ρ, D.termP g d e (row τ ρ) := by
  frame_out
  match g with
  | 0 =>
    refine (canon_slab_ne 3 0 (by decide) _ _ _ _ _).trans ((canon_slab_ne 2 0 (by decide) _ _ _ _ _).trans ((canon_slab_ne 1 0 (by decide) _ _ _ _ _).trans ((canon_slab_eq 0 0 rfl _ _ _ _ _).trans ?_)))
    refine (accP0_eq hB _ d e).trans (congrArg (· + _) ?_)
    refine (cov_slab _ _ 0 0 rfl _ _ _).trans ?_
    refine (canon_whole3 _ _ _ _ _ _).trans ?_
    pointwise [k0_pay18]
  | 1 =>
    refine (canon_slab_ne 3 1 (by decide) _ _ _ _ _).trans ((canon_slab_ne 2 1 (by decide) _ _ _ _ _).trans ((canon_slab_eq 1 1 rfl _ _ _ _ _).trans ?_))
    refine (accP1_eq hB _ d e).trans (congrArg (· + _) ?_)
    refine (cov_slab _ _ 1 1 rfl _ _ _).trans ?_
    refine (canon_slab_ne 0 1 (by decide) _ _ _ _ _).trans ?_
    refine (canon_whole3 _ _ _ _ _ _).trans ?_
    pointwise [k0_pay18]
  | 2 =>
    refine (canon_slab_ne 3 2 (by decide) _ _ _ _ _).trans ((canon_slab_eq 2 2 rfl _ _ _ _ _).trans ?_)
    refine (accP2_eq hB _ d e).trans (congrArg (· + _) ?_)
    refine (cov_slab _ _ 2 2 rfl _ _ _).trans ?_
    refine (canon_slab_ne 1 2 (by decide) _ _ _ _ _).trans ?_
    refine (canon_slab_ne 0 2 (by decide) _ _ _ _ _).trans ?_
    refine (canon_whole3 _ _ _ _ _ _).trans ?_
    pointwise [k0_pay18]
  | 3 =>
    refine (canon_slab_eq 3 3 rfl _ _ _ _ _).trans ?_
    refine (accP3_eq hB _ d e).trans (congrArg (· + _) ?_)
    refine (cov_slab _ _ 3 3 rfl _ _ _).trans ?_
    refine (canon_slab_ne 2 3 (by decide) _ _ _ _ _).trans ?_
    refine (canon_slab_ne 1 3 (by decide) _ _ _ _ _).trans ?_
    refine (canon_slab_ne 0 3 (by decide) _ _ _ _ _).trans ?_
    refine (canon_whole3 _ _ _ _ _ _).trans ?_
    pointwise [k0_pay18]

section Conv
variable (hτ : τ.val = 15)
include hτ

theorem accC (q : Fin 4) (l : Fin 8) (c' : Fin 512) :
    sout0_A_3 (F := Ideal) c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 (ix3 q l c') = 0 + ∑ x, D.termC q (row τ (lane x l)) c' := by
  frame_out
  match q with
  | 0 =>
    refine (canon_slab_ne 3 0 (by decide) _ _ _ _ _).trans ((canon_slab_ne 2 0 (by decide) _ _ _ _ _).trans ((canon_slab_ne 1 0 (by decide) _ _ _ _ _).trans ((canon_slab_eq 0 0 rfl _ _ _ _ _).trans ?_)))
    refine (accC0_eq hB ?_ _ l c').trans (congrArg (· + _) ?_)
    · exact ldD_eq hB _ _ _ 2 _ (zero_read hτ _ _ _ _ (fun h c => by pointwise [k0_pay14]) _)
    refine (cov_slab _ _ 0 0 rfl _ _ _).trans ?_
    refine (canon_whole3 _ _ _ _ _ _).trans ?_
    pointwise [k0_pay17]
  | 1 =>
    refine (canon_slab_ne 3 1 (by decide) _ _ _ _ _).trans ((canon_slab_ne 2 1 (by decide) _ _ _ _ _).trans ((canon_slab_eq 1 1 rfl _ _ _ _ _).trans ?_))
    refine (accC1_eq hB ?_ _ l c').trans (congrArg (· + _) ?_)
    · exact ldD_eq hB _ _ _ 1 _ (zero_read hτ _ _ _ _ (fun h c => by pointwise [k0_pay14]) _)
    refine (cov_slab _ _ 1 1 rfl _ _ _).trans ?_
    refine (canon_slab_ne 0 1 (by decide) _ _ _ _ _).trans ?_
    refine (canon_whole3 _ _ _ _ _ _).trans ?_
    pointwise [k0_pay17]
  | 2 =>
    refine (canon_slab_ne 3 2 (by decide) _ _ _ _ _).trans ((canon_slab_eq 2 2 rfl _ _ _ _ _).trans ?_)
    refine (accC2_eq hB _ l c').trans (congrArg (· + _) ?_)
    refine (cov_slab _ _ 2 2 rfl _ _ _).trans ?_
    refine (canon_slab_ne 1 2 (by decide) _ _ _ _ _).trans ?_
    refine (canon_slab_ne 0 2 (by decide) _ _ _ _ _).trans ?_
    refine (canon_whole3 _ _ _ _ _ _).trans ?_
    pointwise [k0_pay17]
  | 3 =>
    refine (canon_slab_eq 3 3 rfl _ _ _ _ _).trans ?_
    refine (accC3_eq hB _ l c').trans (congrArg (· + _) ?_)
    refine (cov_slab _ _ 3 3 rfl _ _ _).trans ?_
    refine (canon_slab_ne 2 3 (by decide) _ _ _ _ _).trans ?_
    refine (canon_slab_ne 1 3 (by decide) _ _ _ _ _).trans ?_
    refine (canon_slab_ne 0 3 (by decide) _ _ _ _ _).trans ?_
    refine (canon_whole3 _ _ _ _ _ _).trans ?_
    pointwise [k0_pay17]

end Conv

section Pool
variable (hv : Scalar.subi 15#32 (BitVec.ofNat 32 (i 0).val) = BitVec.ofNat 32 τ.val)
include hv

theorem halo1 (h : Fin 16) (c' : Fin 512) :
    sout0_A_1 (F := Ideal) c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 (ix2 ⟨512 + h.val, by omega⟩ c') = past D.Q (512 * τ.val + h.val) c' := by
  frame_out
  exact (canon_rows_eq 512 16 h _ rfl _ _ _ c').trans (haloQ_eq hB _ hv _ _ h c')

section Both
variable (hτ : τ.val = 15)
include hτ

theorem gx (ρ : Fin 512) (k : Fin 1024) :
    out0_A_11 (F := Ideal) c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 (ix2 ρ k) = D.GX (row τ ρ) k := by
  frame_out
  refine gx_eq hB ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ρ k
  rotate_left 30
  · exact ldD_eq hB _ _ _ 1 _ (zero_read hτ _ _ _ _ (fun h c => by pointwise [k0_pay14]) _)
  · exact ldD_eq hB _ _ _ 2 _ (zero_read hτ _ _ _ _ (fun h c => by pointwise [k0_pay14]) _)
  all_goals first
    | exact ldQ_eq hB _ hv _ _ _ _ _ _ rfl _ (zero_read hτ _ _ _ _ (fun h c => by pointwise [k0_pay15]) _)
    | exact ldQ_eq hB _ hv _ _ _ _ 0 _ rfl _ (fun ρ c h5 h6 => absurd h6 (by omega))

theorem dz (j : Fin 4) (ρ c' : Fin 512) :
    out0_A_12 (F := Ideal) c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 (ix3 j ρ c') = D.DZ j (row τ ρ) c' := by
  frame_out
  match j with
  | 0 =>
    refine (canon_slab_ne 3 0 (by decide) _ _ _ _ _).trans ((canon_slab_ne 2 0 (by decide) _ _ _ _ _).trans ((canon_slab_ne 1 0 (by decide) _ _ _ _ _).trans ((canon_slab_eq 0 0 rfl _ _ _ _ _).trans ?_)))
    exact dz0_eq hB ρ c'
  | 1 =>
    refine (canon_slab_ne 3 1 (by decide) _ _ _ _ _).trans ((canon_slab_ne 2 1 (by decide) _ _ _ _ _).trans ((canon_slab_eq 1 1 rfl _ _ _ _ _).trans ?_))
    refine dz1_eq hB ?_ ?_ ρ c'
    · exact ldD_eq hB _ _ _ 1 _ (zero_read hτ _ _ _ _ (fun h c => by pointwise [k0_pay14]) _)
    · exact ldD_eq hB _ _ _ 2 _ (zero_read hτ _ _ _ _ (fun h c => by pointwise [k0_pay14]) _)
  | 2 =>
    refine (canon_slab_ne 3 2 (by decide) _ _ _ _ _).trans ((canon_slab_eq 2 2 rfl _ _ _ _ _).trans ?_)
    refine dz2_eq hB ?_ ?_ ρ c'
    · exact ldD_eq hB _ _ _ 1 _ (zero_read hτ _ _ _ _ (fun h c => by pointwise [k0_pay14]) _)
    · exact ldD_eq hB _ _ _ 2 _ (zero_read hτ _ _ _ _ (fun h c => by pointwise [k0_pay14]) _)
  | 3 =>
    refine (canon_slab_eq 3 3 rfl _ _ _ _ _).trans ?_
    refine dz3_eq hB ?_ ?_ ?_ ?_ ?_ ?_ ?_ ?_ ?_ ?_ ?_ ?_ ?_ ?_ ?_ ?_ ?_ ?_ ?_ ?_ ?_ ?_ ?_ ?_ ?_ ?_ ?_ ?_ ?_ ?_ ρ c'
    all_goals first
      | exact ldQ_eq hB _ hv _ _ _ _ _ _ rfl _ (zero_read hτ _ _ _ _ (fun h c => by pointwise [k0_pay15]) _)
      | exact ldQ_eq hB _ hv _ _ _ _ 0 _ rfl _ (fun ρ c h5 h6 => absurd h6 (by omega))

set_option maxHeartbeats 1600000 in
theorem accD (q : Fin 5) (l : Fin 8) (k : Fin 1024) :
    sout0_A_2 (F := Ideal) c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 (ix3 q l k) = 0 + ∑ x, D.termD q (row τ (lane x l)) k := by
  frame_out
  match q with
  | 0 =>
    refine (canon_slab_ne 4 0 (by decide) _ _ _ _ _).trans ((canon_slab_ne 3 0 (by decide) _ _ _ _ _).trans ((canon_slab_ne 2 0 (by decide) _ _ _ _ _).trans ((canon_slab_ne 1 0 (by decide) _ _ _ _ _).trans ((canon_slab_eq 0 0 rfl _ _ _ _ _).trans ?_))))
    refine (accD0_eq hB _ l k).trans (congrArg (· + _) ?_)
    refine (cov_slab _ _ 0 0 rfl _ _ _).trans ?_
    refine (canon_whole3 _ _ _ _ _ _).trans ?_
    pointwise [k0_pay16]
  | 1 =>
    refine (canon_slab_ne 4 1 (by decide) _ _ _ _ _).trans ((canon_slab_ne 3 1 (by decide) _ _ _ _ _).trans ((canon_slab_ne 2 1 (by decide) _ _ _ _ _).trans ((canon_slab_eq 1 1 rfl _ _ _ _ _).trans ?_)))
    refine (accD1_eq hB _ l k).trans (congrArg (· + _) ?_)
    refine (cov_slab _ _ 1 1 rfl _ _ _).trans ?_
    refine (canon_slab_ne 0 1 (by decide) _ _ _ _ _).trans ?_
    refine (canon_whole3 _ _ _ _ _ _).trans ?_
    pointwise [k0_pay16]
  | 2 =>
    refine (canon_slab_ne 4 2 (by decide) _ _ _ _ _).trans ((canon_slab_ne 3 2 (by decide) _ _ _ _ _).trans ((canon_slab_eq 2 2 rfl _ _ _ _ _).trans ?_))
    refine (accD2_eq hB _ l k).trans (congrArg (· + _) ?_)
    refine (cov_slab _ _ 2 2 rfl _ _ _).trans ?_
    refine (canon_slab_ne 1 2 (by decide) _ _ _ _ _).trans ?_
    refine (canon_slab_ne 0 2 (by decide) _ _ _ _ _).trans ?_
    refine (canon_whole3 _ _ _ _ _ _).trans ?_
    pointwise [k0_pay16]
  | 3 =>
    refine (canon_slab_ne 4 3 (by decide) _ _ _ _ _).trans ((canon_slab_eq 3 3 rfl _ _ _ _ _).trans ?_)
    refine (accD3_eq hB ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ _ l k).trans (congrArg (· + _) ?_)
    rotate_left 32
    · refine (cov_slab _ _ 3 3 rfl _ _ _).trans ?_
      refine (canon_slab_ne 2 3 (by decide) _ _ _ _ _).trans ?_
      refine (canon_slab_ne 1 3 (by decide) _ _ _ _ _).trans ?_
      refine (canon_slab_ne 0 3 (by decide) _ _ _ _ _).trans ?_
      refine (canon_whole3 _ _ _ _ _ _).trans ?_
      pointwise [k0_pay16]
    rotate_left 30
    · exact ldD_eq hB _ _ _ 1 _ (zero_read hτ _ _ _ _ (fun h c => by pointwise [k0_pay14]) _)
    · exact ldD_eq hB _ _ _ 2 _ (zero_read hτ _ _ _ _ (fun h c => by pointwise [k0_pay14]) _)
    all_goals first
        | exact ldQ_eq hB _ hv _ _ _ _ _ _ rfl _ (zero_read hτ _ _ _ _ (fun h c => by pointwise [k0_pay15]) _)
        | exact ldQ_eq hB _ hv _ _ _ _ 0 _ rfl _ (fun ρ c h5 h6 => absurd h6 (by omega))
  | 4 =>
    refine (canon_slab_eq 4 4 rfl _ _ _ _ _).trans ?_
    refine (accD4_eq hB ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ _ l k).trans (congrArg (· + _) ?_)
    rotate_left 32
    · refine (cov_slab _ _ 4 4 rfl _ _ _).trans ?_
      refine (canon_slab_ne 3 4 (by decide) _ _ _ _ _).trans ?_
      refine (canon_slab_ne 2 4 (by decide) _ _ _ _ _).trans ?_
      refine (canon_slab_ne 1 4 (by decide) _ _ _ _ _).trans ?_
      refine (canon_slab_ne 0 4 (by decide) _ _ _ _ _).trans ?_
      refine (canon_whole3 _ _ _ _ _ _).trans ?_
      pointwise [k0_pay16]
    rotate_left 30
    · exact ldD_eq hB _ _ _ 1 _ (zero_read hτ _ _ _ _ (fun h c => by pointwise [k0_pay14]) _)
    · exact ldD_eq hB _ _ _ 2 _ (zero_read hτ _ _ _ _ (fun h c => by pointwise [k0_pay14]) _)
    all_goals first
        | exact ldQ_eq hB _ hv _ _ _ _ _ _ rfl _ (zero_read hτ _ _ _ _ (fun h c => by pointwise [k0_pay15]) _)
        | exact ldQ_eq hB _ hv _ _ _ _ 0 _ rfl _ (fun ρ c h5 h6 => absurd h6 (by omega))

end Both
end Pool

end CaseA

end Cert.KernelIdeal.Hand
-- ==== Proof.CaseB.lean ====
module

public import proofs.«01_k».proof.Proof.Gen.KernelIdeal.Value
public import proofs.«01_k».proof.Proof.Buffers
public import Idealize.ShloMosaic.Lib.Pipeline.ValueKit
public import Idealize.ShloMosaic.Lib.Pointwise

@[expose] public section

set_option maxRecDepth 16384

/-!
# The outputs and the scratch after a middle point
-/

noncomputable section

namespace Cert.KernelIdeal.Hand
open Cert.KernelIdeal Cert.KernelIdeal.Gen Cert.KernelIdeal.Value Idealize.ShloMosaic Idealize.ShloMosaic.TcCoe Idealize.SL.Sem
open Idealize.ShloMosaic.Pipeline (Dat)
open Cert.Norm Cert.Spec Cert.Read

namespace CaseB

variable (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x1024 .f32) (harg3 : arg3.IsWhole) (arg4 : Memref sig .tc .vmem S512x2560 .bf16) (harg4 : arg4.IsWhole) (arg5 : Memref sig .tc .vmem S8x6144 .f32) (harg5 : arg5.IsWhole) (arg6 : Memref sig .tc .vmem S8x512 .f32) (harg6 : arg6.IsWhole) (arg7 : Memref sig .tc .vmem S4x1024x512 .bf16) (harg7 : arg7.IsWhole) (arg8 : Memref sig .tc .vmem S4x128x128 .f32) (harg8 : arg8.IsWhole) (arg9 : Memref sig .tc .vmem S1x512 .f32) (harg9 : arg9.IsWhole) (arg10 : Memref sig .tc .vmem S1024x1024 .bf16) (harg10 : arg10.IsWhole) (arg11 : Memref sig .tc .vmem S1x1024 .f32) (harg11 : arg11.IsWhole) (arg13 : Memref sig .tc .vmem S512x1024 .f32) (harg13 : arg13.IsWhole) (arg14 : Memref sig .tc .vmem S4x512x512 .bf16) (harg14 : arg14.IsWhole) (arg15 : Memref sig .tc .vmem S512x1024 .bf16) (harg15 : arg15.IsWhole) (arg16 : Memref sig .tc .vmem S8x1024 .f32) (harg16 : arg16.IsWhole) (arg17 : Memref sig .tc .vmem S8x512 .f32) (harg17 : arg17.IsWhole) (arg18 : Memref sig .tc .vmem S4x128x128 .f32) (harg18 : arg18.IsWhole) (arg19 : Memref sig .tc .vmem S528x512 .f32) (harg19 : arg19.IsWhole) (arg20 : Memref sig .tc .vmem S528x512 .f32) (harg20 : arg20.IsWhole) (arg21 : Memref sig .tc .vmem S5x8x1024 .f32) (harg21 : arg21.IsWhole) (arg22 : Memref sig .tc .vmem S4x8x512 .f32) (harg22 : arg22.IsWhole) (arg23 : Memref sig .tc .vmem S4x128x128 .f32) (harg23 : arg23.IsWhole) (hc0 : ¬cond0_0 i) (hc1 : ¬cond0_1 i)
    (x0 : Vec Ideal S512x1024 .f32) (x1 : Vec Ideal S512x1024 .f32) (x2 : Vec Ideal S512x1024 .f32) (x3 : Vec Ideal S512x2560 .bf16) (x4 : Vec Ideal S8x6144 .f32) (x5 : Vec Ideal S8x512 .f32) (x6 : Vec Ideal S4x1024x512 .bf16) (x7 : Vec Ideal S4x128x128 .f32) (x8 : Vec Ideal S1x512 .f32) (x9 : Vec Ideal S1024x1024 .bf16) (x10 : Vec Ideal S1x1024 .f32) (xs0 : Vec Ideal S528x512 .f32) (xs1 : Vec Ideal S528x512 .f32) (xs2 : Vec Ideal S5x8x1024 .f32) (xs3 : Vec Ideal S4x8x512 .f32) (xs4 : Vec Ideal S4x128x128 .f32)
    {D : Data} {τ : Fin 16} (hB : Blk D τ x0 x1 x2 x3 x4 x5 x6 x7 x8 x9 x10)

include hB

theorem dm (ρ : Fin 512) (k : Fin 1024) :
    out0_B_13 (F := Ideal) c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 xs0 xs1 xs2 xs3 xs4 (ix2 ρ k) = D.DM (row τ ρ) k := by
  frame_out
  exact pay26_eq hB ρ k

theorem halo0 (h : Fin 16) (c' : Fin 512) :
    sout0_B_0 (F := Ideal) c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 xs0 xs1 xs2 xs3 xs4 (ix2 ⟨512 + h.val, by omega⟩ c') = past D.DCV (512 * τ.val + h.val) c' := by
  frame_out
  exact (canon_rows_eq 512 16 h _ rfl _ _ _ c').trans (haloD_eq hB _ _ h c')

theorem accP (g : Fin 4) (d e : Fin 128) :
    sout0_B_4 (F := Ideal) c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 xs0 xs1 xs2 xs3 xs4 (ix3 g d e) = xs4 (ix3 g d e) + ∑ ρ, D.termP g d e (row τ ρ) := by
  frame_out
  match g with
  | 0 =>
    refine (canon_slab_ne 3 0 (by decide) _ _ _ _ _).trans ((canon_slab_ne 2 0 (by decide) _ _ _ _ _).trans ((canon_slab_ne 1 0 (by decide) _ _ _ _ _).trans ((canon_slab_eq 0 0 rfl _ _ _ _ _).trans ?_)))
    refine (accP0_eq hB _ d e).trans (congrArg (· + _) ?_)
    refine (ld3 _ _ _ _ _).trans (congrArg _ ?_)
    congr 1 <;> exact Fin.ext (Nat.zero_add _)
  | 1 =>
    refine (canon_slab_ne 3 1 (by decide) _ _ _ _ _).trans ((canon_slab_ne 2 1 (by decide) _ _ _ _ _).trans ((canon_slab_eq 1 1 rfl _ _ _ _ _).trans ?_))
    refine (accP1_eq hB _ d e).trans (congrArg (· + _) ?_)
    refine (ld3 _ _ _ _ _).trans (congrArg _ ?_)
    congr 1 <;> exact Fin.ext (Nat.zero_add _)
  | 2 =>
    refine (canon_slab_ne 3 2 (by decide) _ _ _ _ _).trans ((canon_slab_eq 2 2 rfl _ _ _ _ _).trans ?_)
    refine (accP2_eq hB _ d e).trans (congrArg (· + _) ?_)
    refine (ld3 _ _ _ _ _).trans (congrArg _ ?_)
    congr 1 <;> exact Fin.ext (Nat.zero_add _)
  | 3 =>
    refine (canon_slab_eq 3 3 rfl _ _ _ _ _).trans ?_
    refine (accP3_eq hB _ d e).trans (congrArg (· + _) ?_)
    refine (ld3 _ _ _ _ _).trans (congrArg _ ?_)
    congr 1 <;> exact Fin.ext (Nat.zero_add _)

section Conv
variable (hx0 : Halo D.DCV τ xs0)
include hx0

theorem accC (q : Fin 4) (l : Fin 8) (c' : Fin 512) :
    sout0_B_3 (F := Ideal) c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 xs0 xs1 xs2 xs3 xs4 (ix3 q l c') = xs3 (ix3 q l c') + ∑ x, D.termC q (row τ (lane x l)) c' := by
  frame_out
  match q with
  | 0 =>
    refine (canon_slab_ne 3 0 (by decide) _ _ _ _ _).trans ((canon_slab_ne 2 0 (by decide) _ _ _ _ _).trans ((canon_slab_ne 1 0 (by decide) _ _ _ _ _).trans ((canon_slab_eq 0 0 rfl _ _ _ _ _).trans ?_)))
    refine (accC0_eq hB ?_ _ l c').trans (congrArg (· + _) ?_)
    · exact ldD_eq hB _ _ _ 2 _ (hx0.read _ _ _)
    refine (ld3 _ _ _ _ _).trans (congrArg _ ?_)
    congr 1 <;> exact Fin.ext (Nat.zero_add _)
  | 1 =>
    refine (canon_slab_ne 3 1 (by decide) _ _ _ _ _).trans ((canon_slab_ne 2 1 (by decide) _ _ _ _ _).trans ((canon_slab_eq 1 1 rfl _ _ _ _ _).trans ?_))
    refine (accC1_eq hB ?_ _ l c').trans (congrArg (· + _) ?_)
    · exact ldD_eq hB _ _ _ 1 _ (hx0.read _ _ _)
    refine (ld3 _ _ _ _ _).trans (congrArg _ ?_)
    congr 1 <;> exact Fin.ext (Nat.zero_add _)
  | 2 =>
    refine (canon_slab_ne 3 2 (by decide) _ _ _ _ _).trans ((canon_slab_eq 2 2 rfl _ _ _ _ _).trans ?_)
    refine (accC2_eq hB _ l c').trans (congrArg (· + _) ?_)
    refine (ld3 _ _ _ _ _).trans (congrArg _ ?_)
    congr 1 <;> exact Fin.ext (Nat.zero_add _)
  | 3 =>
    refine (canon_slab_eq 3 3 rfl _ _ _ _ _).trans ?_
    refine (accC3_eq hB _ l c').trans (congrArg (· + _) ?_)
    refine (ld3 _ _ _ _ _).trans (congrArg _ ?_)
    congr 1 <;> exact Fin.ext (Nat.zero_add _)

end Conv

section Pool
variable (hv : Scalar.subi 15#32 (BitVec.ofNat 32 (i 0).val) = BitVec.ofNat 32 τ.val)
include hv

theorem halo1 (h : Fin 16) (c' : Fin 512) :
    sout0_B_1 (F := Ideal) c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 xs0 xs1 xs2 xs3 xs4 (ix2 ⟨512 + h.val, by omega⟩ c') = past D.Q (512 * τ.val + h.val) c' := by
  frame_out
  exact (canon_rows_eq 512 16 h _ rfl _ _ _ c').trans (haloQ_eq hB _ hv _ _ h c')

section Both
variable (hx0 : Halo D.DCV τ xs0) (hx1 : Halo D.Q τ xs1)
include hx0 hx1

theorem gx (ρ : Fin 512) (k : Fin 1024) :
    out0_B_11 (F := Ideal) c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 xs0 xs1 xs2 xs3 xs4 (ix2 ρ k) = D.GX (row τ ρ) k := by
  frame_out
  refine gx_eq hB ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ρ k
  rotate_left 30
  · exact ldD_eq hB _ _ _ 1 _ (hx0.read _ _ _)
  · exact ldD_eq hB _ _ _ 2 _ (hx0.read _ _ _)
  all_goals first
    | exact ldQ_eq hB _ hv _ _ _ _ _ _ rfl _ (hx1.read _ _ _)
    | exact ldQ_eq hB _ hv _ _ _ _ 0 _ rfl _ (fun ρ c h5 h6 => absurd h6 (by omega))

theorem dz (j : Fin 4) (ρ c' : Fin 512) :
    out0_B_12 (F := Ideal) c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 xs0 xs1 xs2 xs3 xs4 (ix3 j ρ c') = D.DZ j (row τ ρ) c' := by
  frame_out
  match j with
  | 0 =>
    refine (canon_slab_ne 3 0 (by decide) _ _ _ _ _).trans ((canon_slab_ne 2 0 (by decide) _ _ _ _ _).trans ((canon_slab_ne 1 0 (by decide) _ _ _ _ _).trans ((canon_slab_eq 0 0 rfl _ _ _ _ _).trans ?_)))
    exact dz0_eq hB ρ c'
  | 1 =>
    refine (canon_slab_ne 3 1 (by decide) _ _ _ _ _).trans ((canon_slab_ne 2 1 (by decide) _ _ _ _ _).trans ((canon_slab_eq 1 1 rfl _ _ _ _ _).trans ?_))
    refine dz1_eq hB ?_ ?_ ρ c'
    · exact ldD_eq hB _ _ _ 1 _ (hx0.read _ _ _)
    · exact ldD_eq hB _ _ _ 2 _ (hx0.read _ _ _)
  | 2 =>
    refine (canon_slab_ne 3 2 (by decide) _ _ _ _ _).trans ((canon_slab_eq 2 2 rfl _ _ _ _ _).trans ?_)
    refine dz2_eq hB ?_ ?_ ρ c'
    · exact ldD_eq hB _ _ _ 1 _ (hx0.read _ _ _)
    · exact ldD_eq hB _ _ _ 2 _ (hx0.read _ _ _)
  | 3 =>
    refine (canon_slab_eq 3 3 rfl _ _ _ _ _).trans ?_
    refine dz3_eq hB ?_ ?_ ?_ ?_ ?_ ?_ ?_ ?_ ?_ ?_ ?_ ?_ ?_ ?_ ?_ ?_ ?_ ?_ ?_ ?_ ?_ ?_ ?_ ?_ ?_ ?_ ?_ ?_ ?_ ?_ ρ c'
    all_goals first
      | exact ldQ_eq hB _ hv _ _ _ _ _ _ rfl _ (hx1.read _ _ _)
      | exact ldQ_eq hB _ hv _ _ _ _ 0 _ rfl _ (fun ρ c h5 h6 => absurd h6 (by omega))

set_option maxHeartbeats 1600000 in
theorem accD (q : Fin 5) (l : Fin 8) (k : Fin 1024) :
    sout0_B_2 (F := Ideal) c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 xs0 xs1 xs2 xs3 xs4 (ix3 q l k) = xs2 (ix3 q l k) + ∑ x, D.termD q (row τ (lane x l)) k := by
  frame_out
  match q with
  | 0 =>
    refine (canon_slab_ne 4 0 (by decide) _ _ _ _ _).trans ((canon_slab_ne 3 0 (by decide) _ _ _ _ _).trans ((canon_slab_ne 2 0 (by decide) _ _ _ _ _).trans ((canon_slab_ne 1 0 (by decide) _ _ _ _ _).trans ((canon_slab_eq 0 0 rfl _ _ _ _ _).trans ?_))))
    refine (accD0_eq hB _ l k).trans (congrArg (· + _) ?_)
    refine (ld3 _ _ _ _ _).trans (congrArg _ ?_)
    congr 1 <;> exact Fin.ext (Nat.zero_add _)
  | 1 =>
    refine (canon_slab_ne 4 1 (by decide) _ _ _ _ _).trans ((canon_slab_ne 3 1 (by decide) _ _ _ _ _).trans ((canon_slab_ne 2 1 (by decide) _ _ _ _ _).trans ((canon_slab_eq 1 1 rfl _ _ _ _ _).trans ?_)))
    refine (accD1_eq hB _ l k).trans (congrArg (· + _) ?_)
    refine (ld3 _ _ _ _ _).trans (congrArg _ ?_)
    congr 1 <;> exact Fin.ext (Nat.zero_add _)
  | 2 =>
    refine (canon_slab_ne 4 2 (by decide) _ _ _ _ _).trans ((canon_slab_ne 3 2 (by decide) _ _ _ _ _).trans ((canon_slab_eq 2 2 rfl _ _ _ _ _).trans ?_))
    refine (accD2_eq hB _ l k).trans (congrArg (· + _) ?_)
    refine (ld3 _ _ _ _ _).trans (congrArg _ ?_)
    congr 1 <;> exact Fin.ext (Nat.zero_add _)
  | 3 =>
    refine (canon_slab_ne 4 3 (by decide) _ _ _ _ _).trans ((canon_slab_eq 3 3 rfl _ _ _ _ _).trans ?_)
    refine (accD3_eq hB ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ _ l k).trans (congrArg (· + _) ?_)
    rotate_left 32
    · refine (ld3 _ _ _ _ _).trans (congrArg _ ?_)
      congr 1 <;> exact Fin.ext (Nat.zero_add _)
    rotate_left 30
    · exact ldD_eq hB _ _ _ 1 _ (hx0.read _ _ _)
    · exact ldD_eq hB _ _ _ 2 _ (hx0.read _ _ _)
    all_goals first
        | exact ldQ_eq hB _ hv _ _ _ _ _ _ rfl _ (hx1.read _ _ _)
        | exact ldQ_eq hB _ hv _ _ _ _ 0 _ rfl _ (fun ρ c h5 h6 => absurd h6 (by omega))
  | 4 =>
    refine (canon_slab_eq 4 4 rfl _ _ _ _ _).trans ?_
    refine (accD4_eq hB ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ _ l k).trans (congrArg (· + _) ?_)
    rotate_left 32
    · refine (ld3 _ _ _ _ _).trans (congrArg _ ?_)
      congr 1 <;> exact Fin.ext (Nat.zero_add _)
    rotate_left 30
    · exact ldD_eq hB _ _ _ 1 _ (hx0.read _ _ _)
    · exact ldD_eq hB _ _ _ 2 _ (hx0.read _ _ _)
    all_goals first
        | exact ldQ_eq hB _ hv _ _ _ _ _ _ rfl _ (hx1.read _ _ _)
        | exact ldQ_eq hB _ hv _ _ _ _ 0 _ rfl _ (fun ρ c h5 h6 => absurd h6 (by omega))

end Both
end Pool

end CaseB

end Cert.KernelIdeal.Hand
-- ==== Proof.CaseC.lean ====
module

public import proofs.«01_k».proof.Proof.Gen.KernelIdeal.Value
public import proofs.«01_k».proof.Proof.Buffers
public import Idealize.ShloMosaic.Lib.Pipeline.ValueKit
public import Idealize.ShloMosaic.Lib.Pointwise

@[expose] public section

set_option maxRecDepth 16384

/-!
# The outputs and the scratch after the last point
-/

noncomputable section

namespace Cert.KernelIdeal.Hand
open Cert.KernelIdeal Cert.KernelIdeal.Gen Cert.KernelIdeal.Value Idealize.ShloMosaic Idealize.ShloMosaic.TcCoe Idealize.SL.Sem
open Idealize.ShloMosaic.Pipeline (Dat)
open Cert.Norm Cert.Spec Cert.Read

namespace CaseC

variable (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x1024 .f32) (harg3 : arg3.IsWhole) (arg4 : Memref sig .tc .vmem S512x2560 .bf16) (harg4 : arg4.IsWhole) (arg5 : Memref sig .tc .vmem S8x6144 .f32) (harg5 : arg5.IsWhole) (arg6 : Memref sig .tc .vmem S8x512 .f32) (harg6 : arg6.IsWhole) (arg7 : Memref sig .tc .vmem S4x1024x512 .bf16) (harg7 : arg7.IsWhole) (arg8 : Memref sig .tc .vmem S4x128x128 .f32) (harg8 : arg8.IsWhole) (arg9 : Memref sig .tc .vmem S1x512 .f32) (harg9 : arg9.IsWhole) (arg10 : Memref sig .tc .vmem S1024x1024 .bf16) (harg10 : arg10.IsWhole) (arg11 : Memref sig .tc .vmem S1x1024 .f32) (harg11 : arg11.IsWhole) (arg13 : Memref sig .tc .vmem S512x1024 .f32) (harg13 : arg13.IsWhole) (arg14 : Memref sig .tc .vmem S4x512x512 .bf16) (harg14 : arg14.IsWhole) (arg15 : Memref sig .tc .vmem S512x1024 .bf16) (harg15 : arg15.IsWhole) (arg16 : Memref sig .tc .vmem S8x1024 .f32) (harg16 : arg16.IsWhole) (arg17 : Memref sig .tc .vmem S8x512 .f32) (harg17 : arg17.IsWhole) (arg18 : Memref sig .tc .vmem S4x128x128 .f32) (harg18 : arg18.IsWhole) (arg19 : Memref sig .tc .vmem S528x512 .f32) (harg19 : arg19.IsWhole) (arg20 : Memref sig .tc .vmem S528x512 .f32) (harg20 : arg20.IsWhole) (arg21 : Memref sig .tc .vmem S5x8x1024 .f32) (harg21 : arg21.IsWhole) (arg22 : Memref sig .tc .vmem S4x8x512 .f32) (harg22 : arg22.IsWhole) (arg23 : Memref sig .tc .vmem S4x128x128 .f32) (harg23 : arg23.IsWhole) (hc0 : ¬cond0_0 i) (hc1 : cond0_1 i)
    (x0 : Vec Ideal S512x1024 .f32) (x1 : Vec Ideal S512x1024 .f32) (x2 : Vec Ideal S512x1024 .f32) (x3 : Vec Ideal S512x2560 .bf16) (x4 : Vec Ideal S8x6144 .f32) (x5 : Vec Ideal S8x512 .f32) (x6 : Vec Ideal S4x1024x512 .bf16) (x7 : Vec Ideal S4x128x128 .f32) (x8 : Vec Ideal S1x512 .f32) (x9 : Vec Ideal S1024x1024 .bf16) (x10 : Vec Ideal S1x1024 .f32) (xs0 : Vec Ideal S528x512 .f32) (xs1 : Vec Ideal S528x512 .f32) (xs2 : Vec Ideal S5x8x1024 .f32) (xs3 : Vec Ideal S4x8x512 .f32) (xs4 : Vec Ideal S4x128x128 .f32)
    {D : Data} {τ : Fin 16} (hB : Blk D τ x0 x1 x2 x3 x4 x5 x6 x7 x8 x9 x10)

include hB

theorem dm (ρ : Fin 512) (k : Fin 1024) :
    out0_C_13 (F := Ideal) c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 xs0 xs1 xs2 xs3 xs4 (ix2 ρ k) = D.DM (row τ ρ) k := by
  frame_out
  exact pay26_eq hB ρ k

theorem halo0 (h : Fin 16) (c' : Fin 512) :
    sout0_C_0 (F := Ideal) c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 xs0 xs1 xs2 xs3 xs4 (ix2 ⟨512 + h.val, by omega⟩ c') = past D.DCV (512 * τ.val + h.val) c' := by
  frame_out
  exact (canon_rows_eq 512 16 h _ rfl _ _ _ c').trans (haloD_eq hB _ _ h c')

theorem accP (g : Fin 4) (d e : Fin 128) :
    sout0_C_4 (F := Ideal) c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 xs0 xs1 xs2 xs3 xs4 (ix3 g d e) = xs4 (ix3 g d e) + ∑ ρ, D.termP g d e (row τ ρ) := by
  frame_out
  match g with
  | 0 =>
    refine (canon_slab_ne 3 0 (by decide) _ _ _ _ _).trans ((canon_slab_ne 2 0 (by decide) _ _ _ _ _).trans ((canon_slab_ne 1 0 (by decide) _ _ _ _ _).trans ((canon_slab_eq 0 0 rfl _ _ _ _ _).trans ?_)))
    refine (accP0_eq hB _ d e).trans (congrArg (· + _) ?_)
    refine (ld3 _ _ _ _ _).trans (congrArg _ ?_)
    congr 1 <;> exact Fin.ext (Nat.zero_add _)
  | 1 =>
    refine (canon_slab_ne 3 1 (by decide) _ _ _ _ _).trans ((canon_slab_ne 2 1 (by decide) _ _ _ _ _).trans ((canon_slab_eq 1 1 rfl _ _ _ _ _).trans ?_))
    refine (accP1_eq hB _ d e).trans (congrArg (· + _) ?_)
    refine (ld3 _ _ _ _ _).trans (congrArg _ ?_)
    congr 1 <;> exact Fin.ext (Nat.zero_add _)
  | 2 =>
    refine (canon_slab_ne 3 2 (by decide) _ _ _ _ _).trans ((canon_slab_eq 2 2 rfl _ _ _ _ _).trans ?_)
    refine (accP2_eq hB _ d e).trans (congrArg (· + _) ?_)
    refine (ld3 _ _ _ _ _).trans (congrArg _ ?_)
    congr 1 <;> exact Fin.ext (Nat.zero_add _)
  | 3 =>
    refine (canon_slab_eq 3 3 rfl _ _ _ _ _).trans ?_
    refine (accP3_eq hB _ d e).trans (congrArg (· + _) ?_)
    refine (ld3 _ _ _ _ _).trans (congrArg _ ?_)
    congr 1 <;> exact Fin.ext (Nat.zero_add _)

section Conv
variable (hx0 : Halo D.DCV τ xs0)
include hx0

theorem accC (q : Fin 4) (l : Fin 8) (c' : Fin 512) :
    sout0_C_3 (F := Ideal) c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 xs0 xs1 xs2 xs3 xs4 (ix3 q l c') = xs3 (ix3 q l c') + ∑ x, D.termC q (row τ (lane x l)) c' := by
  frame_out
  match q with
  | 0 =>
    refine (canon_slab_ne 3 0 (by decide) _ _ _ _ _).trans ((canon_slab_ne 2 0 (by decide) _ _ _ _ _).trans ((canon_slab_ne 1 0 (by decide) _ _ _ _ _).trans ((canon_slab_eq 0 0 rfl _ _ _ _ _).trans ?_)))
    refine (accC0_eq hB ?_ _ l c').trans (congrArg (· + _) ?_)
    · exact ldD_eq hB _ _ _ 2 _ (hx0.read _ _ _)
    refine (ld3 _ _ _ _ _).trans (congrArg _ ?_)
    congr 1 <;> exact Fin.ext (Nat.zero_add _)
  | 1 =>
    refine (canon_slab_ne 3 1 (by decide) _ _ _ _ _).trans ((canon_slab_ne 2 1 (by decide) _ _ _ _ _).trans ((canon_slab_eq 1 1 rfl _ _ _ _ _).trans ?_))
    refine (accC1_eq hB ?_ _ l c').trans (congrArg (· + _) ?_)
    · exact ldD_eq hB _ _ _ 1 _ (hx0.read _ _ _)
    refine (ld3 _ _ _ _ _).trans (congrArg _ ?_)
    congr 1 <;> exact Fin.ext (Nat.zero_add _)
  | 2 =>
    refine (canon_slab_ne 3 2 (by decide) _ _ _ _ _).trans ((canon_slab_eq 2 2 rfl _ _ _ _ _).trans ?_)
    refine (accC2_eq hB _ l c').trans (congrArg (· + _) ?_)
    refine (ld3 _ _ _ _ _).trans (congrArg _ ?_)
    congr 1 <;> exact Fin.ext (Nat.zero_add _)
  | 3 =>
    refine (canon_slab_eq 3 3 rfl _ _ _ _ _).trans ?_
    refine (accC3_eq hB _ l c').trans (congrArg (· + _) ?_)
    refine (ld3 _ _ _ _ _).trans (congrArg _ ?_)
    congr 1 <;> exact Fin.ext (Nat.zero_add _)

end Conv

section Pool
variable (hv : Scalar.subi 15#32 (BitVec.ofNat 32 (i 0).val) = BitVec.ofNat 32 τ.val)
include hv

theorem halo1 (h : Fin 16) (c' : Fin 512) :
    sout0_C_1 (F := Ideal) c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 xs0 xs1 xs2 xs3 xs4 (ix2 ⟨512 + h.val, by omega⟩ c') = past D.Q (512 * τ.val + h.val) c' := by
  frame_out
  exact (canon_rows_eq 512 16 h _ rfl _ _ _ c').trans (haloQ_eq hB _ hv _ _ h c')

section Both
variable (hx0 : Halo D.DCV τ xs0) (hx1 : Halo D.Q τ xs1)
include hx0 hx1

theorem gx (ρ : Fin 512) (k : Fin 1024) :
    out0_C_11 (F := Ideal) c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 xs0 xs1 xs2 xs3 xs4 (ix2 ρ k) = D.GX (row τ ρ) k := by
  frame_out
  refine gx_eq hB ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ρ k
  rotate_left 30
  · exact ldD_eq hB _ _ _ 1 _ (hx0.read _ _ _)
  · exact ldD_eq hB _ _ _ 2 _ (hx0.read _ _ _)
  all_goals first
    | exact ldQ_eq hB _ hv _ _ _ _ _ _ rfl _ (hx1.read _ _ _)
    | exact ldQ_eq hB _ hv _ _ _ _ 0 _ rfl _ (fun ρ c h5 h6 => absurd h6 (by omega))

theorem dz (j : Fin 4) (ρ c' : Fin 512) :
    out0_C_12 (F := Ideal) c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 xs0 xs1 xs2 xs3 xs4 (ix3 j ρ c') = D.DZ j (row τ ρ) c' := by
  frame_out
  match j with
  | 0 =>
    refine (canon_slab_ne 3 0 (by decide) _ _ _ _ _).trans ((canon_slab_ne 2 0 (by decide) _ _ _ _ _).trans ((canon_slab_ne 1 0 (by decide) _ _ _ _ _).trans ((canon_slab_eq 0 0 rfl _ _ _ _ _).trans ?_)))
    exact dz0_eq hB ρ c'
  | 1 =>
    refine (canon_slab_ne 3 1 (by decide) _ _ _ _ _).trans ((canon_slab_ne 2 1 (by decide) _ _ _ _ _).trans ((canon_slab_eq 1 1 rfl _ _ _ _ _).trans ?_))
    refine dz1_eq hB ?_ ?_ ρ c'
    · exact ldD_eq hB _ _ _ 1 _ (hx0.read _ _ _)
    · exact ldD_eq hB _ _ _ 2 _ (hx0.read _ _ _)
  | 2 =>
    refine (canon_slab_ne 3 2 (by decide) _ _ _ _ _).trans ((canon_slab_eq 2 2 rfl _ _ _ _ _).trans ?_)
    refine dz2_eq hB ?_ ?_ ρ c'
    · exact ldD_eq hB _ _ _ 1 _ (hx0.read _ _ _)
    · exact ldD_eq hB _ _ _ 2 _ (hx0.read _ _ _)
  | 3 =>
    refine (canon_slab_eq 3 3 rfl _ _ _ _ _).trans ?_
    refine dz3_eq hB ?_ ?_ ?_ ?_ ?_ ?_ ?_ ?_ ?_ ?_ ?_ ?_ ?_ ?_ ?_ ?_ ?_ ?_ ?_ ?_ ?_ ?_ ?_ ?_ ?_ ?_ ?_ ?_ ?_ ?_ ρ c'
    all_goals first
      | exact ldQ_eq hB _ hv _ _ _ _ _ _ rfl _ (hx1.read _ _ _)
      | exact ldQ_eq hB _ hv _ _ _ _ 0 _ rfl _ (fun ρ c h5 h6 => absurd h6 (by omega))

set_option maxHeartbeats 1600000 in
theorem accD (q : Fin 5) (l : Fin 8) (k : Fin 1024) :
    sout0_C_2 (F := Ideal) c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 xs0 xs1 xs2 xs3 xs4 (ix3 q l k) = xs2 (ix3 q l k) + ∑ x, D.termD q (row τ (lane x l)) k := by
  frame_out
  match q with
  | 0 =>
    refine (canon_slab_ne 4 0 (by decide) _ _ _ _ _).trans ((canon_slab_ne 3 0 (by decide) _ _ _ _ _).trans ((canon_slab_ne 2 0 (by decide) _ _ _ _ _).trans ((canon_slab_ne 1 0 (by decide) _ _ _ _ _).trans ((canon_slab_eq 0 0 rfl _ _ _ _ _).trans ?_))))
    refine (accD0_eq hB _ l k).trans (congrArg (· + _) ?_)
    refine (ld3 _ _ _ _ _).trans (congrArg _ ?_)
    congr 1 <;> exact Fin.ext (Nat.zero_add _)
  | 1 =>
    refine (canon_slab_ne 4 1 (by decide) _ _ _ _ _).trans ((canon_slab_ne 3 1 (by decide) _ _ _ _ _).trans ((canon_slab_ne 2 1 (by decide) _ _ _ _ _).trans ((canon_slab_eq 1 1 rfl _ _ _ _ _).trans ?_)))
    refine (accD1_eq hB _ l k).trans (congrArg (· + _) ?_)
    refine (ld3 _ _ _ _ _).trans (congrArg _ ?_)
    congr 1 <;> exact Fin.ext (Nat.zero_add _)
  | 2 =>
    refine (canon_slab_ne 4 2 (by decide) _ _ _ _ _).trans ((canon_slab_ne 3 2 (by decide) _ _ _ _ _).trans ((canon_slab_eq 2 2 rfl _ _ _ _ _).trans ?_))
    refine (accD2_eq hB _ l k).trans (congrArg (· + _) ?_)
    refine (ld3 _ _ _ _ _).trans (congrArg _ ?_)
    congr 1 <;> exact Fin.ext (Nat.zero_add _)
  | 3 =>
    refine (canon_slab_ne 4 3 (by decide) _ _ _ _ _).trans ((canon_slab_eq 3 3 rfl _ _ _ _ _).trans ?_)
    refine (accD3_eq hB ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ _ l k).trans (congrArg (· + _) ?_)
    rotate_left 32
    · refine (ld3 _ _ _ _ _).trans (congrArg _ ?_)
      congr 1 <;> exact Fin.ext (Nat.zero_add _)
    rotate_left 30
    · exact ldD_eq hB _ _ _ 1 _ (hx0.read _ _ _)
    · exact ldD_eq hB _ _ _ 2 _ (hx0.read _ _ _)
    all_goals first
        | exact ldQ_eq hB _ hv _ _ _ _ _ _ rfl _ (hx1.read _ _ _)
        | exact ldQ_eq hB _ hv _ _ _ _ 0 _ rfl _ (fun ρ c h5 h6 => absurd h6 (by omega))
  | 4 =>
    refine (canon_slab_eq 4 4 rfl _ _ _ _ _).trans ?_
    refine (accD4_eq hB ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ _ l k).trans (congrArg (· + _) ?_)
    rotate_left 32
    · refine (ld3 _ _ _ _ _).trans (congrArg _ ?_)
      congr 1 <;> exact Fin.ext (Nat.zero_add _)
    rotate_left 30
    · exact ldD_eq hB _ _ _ 1 _ (hx0.read _ _ _)
    · exact ldD_eq hB _ _ _ 2 _ (hx0.read _ _ _)
    all_goals first
        | exact ldQ_eq hB _ hv _ _ _ _ _ _ rfl _ (hx1.read _ _ _)
        | exact ldQ_eq hB _ hv _ _ _ _ 0 _ rfl _ (fun ρ c h5 h6 => absurd h6 (by omega))

end Both
end Pool

omit hB

/-- The rows of the fifth output are the five sums over the lanes of the scratch, then zeros. -/
theorem sd (q : Fin 8) (k : Fin 1024) :
    out0_C_14 (F := Ideal) c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 xs0 xs1 xs2 xs3 xs4 (ix2 q k)
      = if h : q.val < 5 then ∑ l, sout0_C_2 (F := Ideal) c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 xs0 xs1 xs2 xs3 xs4 (ix3 ⟨q.val, h⟩ l k) else 0 := by
  frame_out
  match q with
  | 0 =>
    refine (canon_row_ne 5 3 0 (by decide) _ _ _ _).trans ?_
    refine (canon_row_ne 4 1 0 (by decide) _ _ _ _).trans ?_
    refine (canon_row_ne 3 1 0 (by decide) _ _ _ _).trans ?_
    refine (canon_row_ne 2 1 0 (by decide) _ _ _ _).trans ?_
    refine (canon_row_ne 1 1 0 (by decide) _ _ _ _).trans ?_
    refine (canon_row_eq 0 0 rfl _ _ _ _).trans ?_
    rw [dif_pos (by decide)]
    pointwise [k0_pay3]
    exact Finset.sum_congr rfl fun l _ => cov_slab _ _ 0 0 rfl _ l _
  | 1 =>
    refine (canon_row_ne 5 3 1 (by decide) _ _ _ _).trans ?_
    refine (canon_row_ne 4 1 1 (by decide) _ _ _ _).trans ?_
    refine (canon_row_ne 3 1 1 (by decide) _ _ _ _).trans ?_
    refine (canon_row_ne 2 1 1 (by decide) _ _ _ _).trans ?_
    refine (canon_row_eq 1 1 rfl _ _ _ _).trans ?_
    rw [dif_pos (by decide)]
    pointwise [k0_pay4]
    exact Finset.sum_congr rfl fun l _ => cov_slab _ _ 1 1 rfl _ l _
  | 2 =>
    refine (canon_row_ne 5 3 2 (by decide) _ _ _ _).trans ?_
    refine (canon_row_ne 4 1 2 (by decide) _ _ _ _).trans ?_
    refine (canon_row_ne 3 1 2 (by decide) _ _ _ _).trans ?_
    refine (canon_row_eq 2 2 rfl _ _ _ _).trans ?_
    rw [dif_pos (by decide)]
    pointwise [k0_pay5]
    exact Finset.sum_congr rfl fun l _ => cov_slab _ _ 2 2 rfl _ l _
  | 3 =>
    refine (canon_row_ne 5 3 3 (by decide) _ _ _ _).trans ?_
    refine (canon_row_ne 4 1 3 (by decide) _ _ _ _).trans ?_
    refine (canon_row_eq 3 3 rfl _ _ _ _).trans ?_
    rw [dif_pos (by decide)]
    pointwise [k0_pay6]
    exact Finset.sum_congr rfl fun l _ => cov_slab _ _ 3 3 rfl _ l _
  | 4 =>
    refine (canon_row_ne 5 3 4 (by decide) _ _ _ _).trans ?_
    refine (canon_row_eq 4 4 rfl _ _ _ _).trans ?_
    rw [dif_pos (by decide)]
    pointwise [k0_pay7]
    exact Finset.sum_congr rfl fun l _ => cov_slab _ _ 4 4 rfl _ l _
  | 5 =>
    rw [dif_neg (by decide)]
    refine (canon_rows_eq 5 3 0 5 rfl _ _ _ _).trans ?_
    pointwise [k0_pay8]
  | 6 =>
    rw [dif_neg (by decide)]
    refine (canon_rows_eq 5 3 1 6 rfl _ _ _ _).trans ?_
    pointwise [k0_pay8]
  | 7 =>
    rw [dif_neg (by decide)]
    refine (canon_rows_eq 5 3 2 7 rfl _ _ _ _).trans ?_
    pointwise [k0_pay8]

/-- The rows of the sixth are the four sums over the lanes, then zeros. -/
theorem sc (q : Fin 8) (c' : Fin 512) :
    out0_C_15 (F := Ideal) c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 xs0 xs1 xs2 xs3 xs4 (ix2 q c')
      = if h : q.val < 4 then ∑ l, sout0_C_3 (F := Ideal) c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 xs0 xs1 xs2 xs3 xs4 (ix3 ⟨q.val, h⟩ l c') else 0 := by
  frame_out
  match q with
  | 0 =>
    refine (canon_row_ne 4 4 0 (by decide) _ _ _ _).trans ?_
    refine (canon_row_ne 3 1 0 (by decide) _ _ _ _).trans ?_
    refine (canon_row_ne 2 1 0 (by decide) _ _ _ _).trans ?_
    refine (canon_row_ne 1 1 0 (by decide) _ _ _ _).trans ?_
    refine (canon_row_eq 0 0 rfl _ _ _ _).trans ?_
    rw [dif_pos (by decide)]
    pointwise [k0_pay9]
    exact Finset.sum_congr rfl fun l _ => cov_slab _ _ 0 0 rfl _ l _
  | 1 =>
    refine (canon_row_ne 4 4 1 (by decide) _ _ _ _).trans ?_
    refine (canon_row_ne 3 1 1 (by decide) _ _ _ _).trans ?_
    refine (canon_row_ne 2 1 1 (by decide) _ _ _ _).trans ?_
    refine (canon_row_eq 1 1 rfl _ _ _ _).trans ?_
    rw [dif_pos (by decide)]
    pointwise [k0_pay10]
    exact Finset.sum_congr rfl fun l _ => cov_slab _ _ 1 1 rfl _ l _
  | 2 =>
    refine (canon_row_ne 4 4 2 (by decide) _ _ _ _).trans ?_
    refine (canon_row_ne 3 1 2 (by decide) _ _ _ _).trans ?_
    refine (canon_row_eq 2 2 rfl _ _ _ _).trans ?_
    rw [dif_pos (by decide)]
    pointwise [k0_pay11]
    exact Finset.sum_congr rfl fun l _ => cov_slab _ _ 2 2 rfl _ l _
  | 3 =>
    refine (canon_row_ne 4 4 3 (by decide) _ _ _ _).trans ?_
    refine (canon_row_eq 3 3 rfl _ _ _ _).trans ?_
    rw [dif_pos (by decide)]
    pointwise [k0_pay12]
    exact Finset.sum_congr rfl fun l _ => cov_slab _ _ 3 3 rfl _ l _
  | 4 =>
    rw [dif_neg (by decide)]
    refine (canon_rows_eq 4 4 0 4 rfl _ _ _ _).trans ?_
    pointwise [k0_pay13]
  | 5 =>
    rw [dif_neg (by decide)]
    refine (canon_rows_eq 4 4 1 5 rfl _ _ _ _).trans ?_
    pointwise [k0_pay13]
  | 6 =>
    rw [dif_neg (by decide)]
    refine (canon_rows_eq 4 4 2 6 rfl _ _ _ _).trans ?_
    pointwise [k0_pay13]
  | 7 =>
    rw [dif_neg (by decide)]
    refine (canon_rows_eq 4 4 3 7 rfl _ _ _ _).trans ?_
    pointwise [k0_pay13]

/-- The seventh is the scratch. -/
theorem dwp (g : Fin 4) (d e : Fin 128) :
    out0_C_16 (F := Ideal) c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 xs0 xs1 xs2 xs3 xs4 (ix3 g d e)
      = sout0_C_4 (F := Ideal) c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 xs0 xs1 xs2 xs3 xs4 (ix3 g d e) := by
  frame_out
  exact cov_whole3 _ _ _ g d e

end CaseC

end Cert.KernelIdeal.Hand
-- ==== Proof.Blocks.lean ====
module

public import proofs.«01_k».proof.Proof.Gen.KernelIdeal.Value
public import proofs.«01_k».proof.Proof.Point
public import Idealize.ShloMosaic.Lib.Pipeline.ValueKit
public import Idealize.ShloMosaic.Lib.Pointwise

@[expose] public section

set_option maxRecDepth 16384

/-!
# The blocks the kernel's points read

Point `t` works on the tile `15 - t`: its blocks are the rows of that tile, and the whole of the parameters.
-/

noncomputable section

namespace Cert.KernelIdeal.Hand
open Cert.KernelIdeal Cert.KernelIdeal.Gen Cert.KernelIdeal.Value Idealize.ShloMosaic Idealize.ShloMosaic.TcCoe Idealize.SL.Sem
open Idealize.ShloMosaic.Pipeline (Dat)
open Cert.Norm Cert.Spec Cert.Read

section Points
variable (m : (ℓ : Loc nD τ sig) → Buf (Elt Ideal) ℓ) (c : Dev nD)

/-- The arrays the call is handed, by rows and columns. -/
def data : Data where
  x r k := V m c main_arg0 (ix2 r k)
  mix r k := V m c main_v181 (ix2 r k)
  dx r k := V m c main_arg8 (ix2 r k)
  zb r k := V m c main_v92 (ix2 r ⟨k.val, by omega⟩)
  zc r k := V m c main_v92 (ix2 r ⟨512 + k.val, by omega⟩)
  zv r k := V m c main_v92 (ix2 r ⟨1024 + k.val, by omega⟩)
  cv r k := V m c main_v92 (ix2 r ⟨1536 + k.val, by omega⟩)
  pl r k := V m c main_v92 (ix2 r ⟨2048 + k.val, by omega⟩)
  sc1 k := V m c main_v182 (ix2 0 ⟨1024 + k.val, by omega⟩)
  g1 k := V m c main_v182 (ix2 0 ⟨2048 + k.val, by omega⟩)
  cw q k := V m c main_v183 (ix2 ⟨q.val, by omega⟩ k)
  wi j k l := V m c main_v186 (ix3 j k l)
  wp g d e := V m c main_arg4 (ix3 g d e)
  ps k := V m c main_arg5 (ix2 0 k)
  wo k l := V m c main_v188 (ix2 k l)
  lng k := V m c main_arg7 (ix2 0 k)

/-- The tile of point `n`. -/
def tile (n : ℕ) : Fin 16 := ⟨15 - n, by omega⟩

theorem idx : ∀ t : Fin cfg0.N, win0_0.index t = ![15 - t.val, 0] ∧ win0_1.index t = ![15 - t.val, 0]
    ∧ win0_2.index t = ![15 - t.val, 0] ∧ win0_3.index t = ![15 - t.val, 0] ∧ win0_4.index t = ![0, 0]
    ∧ win0_5.index t = ![0, 0] ∧ win0_6.index t = ![0, 0, 0] ∧ win0_7.index t = ![0, 0, 0] ∧ win0_8.index t = ![0, 0]
    ∧ win0_9.index t = ![0, 0] ∧ win0_10.index t = ![0, 0] ∧ win0_11.index t = ![15 - t.val, 0]
    ∧ win0_12.index t = ![0, 15 - t.val, 0] ∧ win0_13.index t = ![15 - t.val, 0] ∧ win0_14.index t = ![0, 0]
    ∧ win0_15.index t = ![0, 0] ∧ win0_16.index t = ![0, 0, 0] :=
  (by decide +kernel : ∀ t : Fin grid0.N, _)

theorem word : ∀ t : Fin cfg0.N, Scalar.subi 15#32 (BitVec.ofNat 32 ((grid0.coords t) 0).val) = BitVec.ofNat 32 (tile t.val).val :=
  (by decide +kernel : ∀ t : Fin grid0.N, _)

theorem blk (t : Fin cfg0.N) : Blk (data m c) (tile t.val) (iblk m c 0 t) (iblk m c 1 t) (iblk m c 2 t) (iblk m c 3 t)
    (iblk m c 4 t) (iblk m c 5 t) (iblk m c 6 t) (iblk m c 7 t) (iblk m c 8 t) (iblk m c 9 t) (iblk m c 10 t) := by
  have ht : t.val < 16 := lt_of_lt_of_eq t.isLt N_0
  constructor
  all_goals intros
  all_goals simp only [data, row, tile, iblk]
  all_goals generalize V m c = W
  all_goals blk_point [idx t]

end Points
end Cert.KernelIdeal.Hand
-- ==== Proof.Points.lean ====
module

public import proofs.«01_k».proof.Proof.Gen.KernelIdeal.Value
public import proofs.«01_k».proof.Proof.CaseA
public import proofs.«01_k».proof.Proof.CaseB
public import proofs.«01_k».proof.Proof.CaseC
public import proofs.«01_k».proof.Proof.Blocks
public import Idealize.ShloMosaic.Lib.Pipeline.ValueKit
public import Idealize.ShloMosaic.Lib.Pointwise

@[expose] public section

set_option maxRecDepth 16384

/-!
# The kernel's points in order

Point `t` works on the tile `15 - t`. By induction over the points: each writes its rows of the outputs, leaves the
first rows of its tile for the next, and adds its tile's sums to the accumulators.
-/

noncomputable section

namespace Cert.KernelIdeal.Hand
open Cert.KernelIdeal Cert.KernelIdeal.Gen Cert.KernelIdeal.Value Idealize.ShloMosaic Idealize.ShloMosaic.TcCoe Idealize.SL.Sem
open Idealize.ShloMosaic.Pipeline (Dat)
open Cert.Norm Cert.Spec Cert.Read

section Points
variable (m : (ℓ : Loc nD τ sig) → Buf (Elt Ideal) ℓ) (c : Dev nD)

/-- What holds after point `n`. -/
structure After (n : ℕ) (o : Vec Ideal S512x1024 .f32 × Vec Ideal S4x512x512 .bf16 × Vec Ideal S512x1024 .bf16
    × Vec Ideal S8x1024 .f32 × Vec Ideal S8x512 .f32 × Vec Ideal S4x128x128 .f32 × Vec Ideal S528x512 .f32
    × Vec Ideal S528x512 .f32 × Vec Ideal S5x8x1024 .f32 × Vec Ideal S4x8x512 .f32 × Vec Ideal S4x128x128 .f32) : Prop where
  gx : ∀ ρ k, o.1 (ix2 ρ k) = (data m c).GX (row (tile n) ρ) k
  dz : ∀ j ρ k, o.2.1 (ix3 j ρ k) = (data m c).DZ j (row (tile n) ρ) k
  dm : ∀ ρ k, o.2.2.1 (ix2 ρ k) = (data m c).DM (row (tile n) ρ) k
  halo0 : ∀ (h : Fin 16) k, o.2.2.2.2.2.2.1 (ix2 ⟨512 + h.val, by omega⟩ k) = past (data m c).DCV (512 * (tile n).val + h.val) k
  halo1 : ∀ (h : Fin 16) k, o.2.2.2.2.2.2.2.1 (ix2 ⟨512 + h.val, by omega⟩ k) = past (data m c).Q (512 * (tile n).val + h.val) k
  accD : ∀ q l k, o.2.2.2.2.2.2.2.2.1 (ix3 q l k) = ∑ t ∈ Finset.range (n + 1), ∑ x, (data m c).termD q (row (tile t) (lane x l)) k
  accC : ∀ q l k, o.2.2.2.2.2.2.2.2.2.1 (ix3 q l k) = ∑ t ∈ Finset.range (n + 1), ∑ x, (data m c).termC q (row (tile t) (lane x l)) k
  accP : ∀ g d e, o.2.2.2.2.2.2.2.2.2.2 (ix3 g d e) = ∑ t ∈ Finset.range (n + 1), ∑ ρ, (data m c).termP g d e (row (tile t) ρ)

variable {m c}

/-- The rows the point before left are the ones this point reads. -/
theorem After.haloD {n : ℕ} (h0 : 0 < n) (hn : n < 16) {o} (h : After m c (n - 1) o) : Halo (data m c).DCV (tile n) o.2.2.2.2.2.2.1 := by
  intro i k
  refine (h.halo0 i k).trans (congrArg₂ _ ?_ rfl)
  show 512 * (15 - (n - 1)) + i.val = 512 * (15 - n) + 512 + i.val
  omega

theorem After.haloQ {n : ℕ} (h0 : 0 < n) (hn : n < 16) {o} (h : After m c (n - 1) o) : Halo (data m c).Q (tile n) o.2.2.2.2.2.2.2.1 := by
  intro i k
  refine (h.halo1 i k).trans (congrArg₂ _ ?_ rfl)
  show 512 * (15 - (n - 1)) + i.val = 512 * (15 - n) + 512 + i.val
  omega

variable (m c)

/-- The point's own sum after those of the points before it. -/
theorem step {t : ℕ} (ht : 0 < t) (f : ℕ → EReal) :
    (∑ s ∈ Finset.range (t - 1 + 1), f s) + f t = ∑ s ∈ Finset.range (t + 1), f s := by
  rw [Nat.sub_add_cancel ht, Finset.sum_range_succ]

theorem first {t : ℕ} (ht : t = 0) (f : ℕ → EReal) : 0 + f t = ∑ s ∈ Finset.range (t + 1), f s := by
  subst ht
  rw [Finset.sum_range_succ, Finset.sum_range_zero]

theorem afterA (t : Fin cfg0.N) (h0 : t.val % 16 = 0) (h1 : ¬t.val % 16 = 15)  :
    After m c t.val (outsAt0 m c t.val t.isLt) := by
  have hB := blk m c t
  have hv := word t
  have hn : t.val < 16 := lt_of_lt_of_eq t.isLt N_0
  have ht : t.val = 0 := by omega
  have hτ : (tile t.val).val = 15 := by show 15 - t.val = 15; omega
  rw [outsAt0_A m c t h0 h1]
  constructor
  · dsimp only
    exact fun ρ k => CaseA.gx (hB := hB) (hv := hv) (hτ := hτ) ..
  · dsimp only
    exact fun j ρ k => CaseA.dz (hB := hB) (hv := hv) (hτ := hτ) ..
  · dsimp only
    exact fun ρ k => CaseA.dm (hB := hB) ..
  · dsimp only
    exact fun i k => CaseA.halo0 (hB := hB) ..
  · dsimp only
    exact fun i k => CaseA.halo1 (hB := hB) (hv := hv) ..
  · dsimp only
    exact fun q l k => (CaseA.accD (hB := hB) (hv := hv) (hτ := hτ) ..).trans (first ht (fun t => ∑ x, (data m c).termD q (row (tile t) (lane x l)) k))
  · dsimp only
    exact fun q l k => (CaseA.accC (hB := hB) (hτ := hτ) ..).trans (first ht (fun t => ∑ x, (data m c).termC q (row (tile t) (lane x l)) k))
  · dsimp only
    exact fun q l k => (CaseA.accP (hB := hB) ..).trans (first ht (fun t => ∑ ρ, (data m c).termP q l k (row (tile t) ρ)))

theorem afterB (t : Fin cfg0.N) (h0 : ¬t.val % 16 = 0) (h1 : ¬t.val % 16 = 15) (ht : 0 < t.val) (h : After m c (t.val - 1) (outsAt0 m c (t.val - 1) (Nat.lt_of_le_of_lt (Nat.sub_le _ _) t.isLt))) :
    After m c t.val (outsAt0 m c t.val t.isLt) := by
  have hB := blk m c t
  have hv := word t
  have hn : t.val < 16 := lt_of_lt_of_eq t.isLt N_0
  rw [outsAt0_B m c t h0 h1]
  constructor
  · dsimp only
    exact fun ρ k => CaseB.gx (hB := hB) (hv := hv) (hx0 := After.haloD ht hn h) (hx1 := After.haloQ ht hn h) ..
  · dsimp only
    exact fun j ρ k => CaseB.dz (hB := hB) (hv := hv) (hx0 := After.haloD ht hn h) (hx1 := After.haloQ ht hn h) ..
  · dsimp only
    exact fun ρ k => CaseB.dm (hB := hB) ..
  · dsimp only
    exact fun i k => CaseB.halo0 (hB := hB) ..
  · dsimp only
    exact fun i k => CaseB.halo1 (hB := hB) (hv := hv) ..
  · dsimp only
    exact fun q l k => (CaseB.accD (hB := hB) (hv := hv) (hx0 := After.haloD ht hn h) (hx1 := After.haloQ ht hn h) ..).trans ((congrArg (· + _) (h.accD q l k)).trans (step ht (fun t => ∑ x, (data m c).termD q (row (tile t) (lane x l)) k)))
  · dsimp only
    exact fun q l k => (CaseB.accC (hB := hB) (hx0 := After.haloD ht hn h) ..).trans ((congrArg (· + _) (h.accC q l k)).trans (step ht (fun t => ∑ x, (data m c).termC q (row (tile t) (lane x l)) k)))
  · dsimp only
    exact fun q l k => (CaseB.accP (hB := hB) ..).trans ((congrArg (· + _) (h.accP q l k)).trans (step ht (fun t => ∑ ρ, (data m c).termP q l k (row (tile t) ρ))))

theorem afterC (t : Fin cfg0.N) (h0 : ¬t.val % 16 = 0) (h1 : t.val % 16 = 15) (ht : 0 < t.val) (h : After m c (t.val - 1) (outsAt0 m c (t.val - 1) (Nat.lt_of_le_of_lt (Nat.sub_le _ _) t.isLt))) :
    After m c t.val (outsAt0 m c t.val t.isLt) := by
  have hB := blk m c t
  have hv := word t
  have hn : t.val < 16 := lt_of_lt_of_eq t.isLt N_0
  rw [outsAt0_C m c t h0 h1]
  constructor
  · dsimp only
    exact fun ρ k => CaseC.gx (hB := hB) (hv := hv) (hx0 := After.haloD ht hn h) (hx1 := After.haloQ ht hn h) ..
  · dsimp only
    exact fun j ρ k => CaseC.dz (hB := hB) (hv := hv) (hx0 := After.haloD ht hn h) (hx1 := After.haloQ ht hn h) ..
  · dsimp only
    exact fun ρ k => CaseC.dm (hB := hB) ..
  · dsimp only
    exact fun i k => CaseC.halo0 (hB := hB) ..
  · dsimp only
    exact fun i k => CaseC.halo1 (hB := hB) (hv := hv) ..
  · dsimp only
    exact fun q l k => (CaseC.accD (hB := hB) (hv := hv) (hx0 := After.haloD ht hn h) (hx1 := After.haloQ ht hn h) ..).trans ((congrArg (· + _) (h.accD q l k)).trans (step ht (fun t => ∑ x, (data m c).termD q (row (tile t) (lane x l)) k)))
  · dsimp only
    exact fun q l k => (CaseC.accC (hB := hB) (hx0 := After.haloD ht hn h) ..).trans ((congrArg (· + _) (h.accC q l k)).trans (step ht (fun t => ∑ x, (data m c).termC q (row (tile t) (lane x l)) k)))
  · dsimp only
    exact fun q l k => (CaseC.accP (hB := hB) ..).trans ((congrArg (· + _) (h.accP q l k)).trans (step ht (fun t => ∑ ρ, (data m c).termP q l k (row (tile t) ρ))))

theorem after : ∀ (n : ℕ) (hn : n < cfg0.N), After m c n (outsAt0 m c n hn)
  | 0, hn => afterA m c ⟨0, hn⟩ rfl (by show ¬ 0 % 16 = 15; omega)
  | n + 1, hn => by
    have h16 : n + 1 < 16 := lt_of_lt_of_eq hn N_0
    by_cases h1 : (n + 1) % 16 = 15
    · exact afterC m c ⟨n + 1, hn⟩ (by show ¬ (n + 1) % 16 = 0; omega) h1 (Nat.succ_pos n) (after n (Nat.lt_of_succ_lt hn))
    · exact afterB m c ⟨n + 1, hn⟩ (by show ¬ (n + 1) % 16 = 0; omega) h1 (Nat.succ_pos n) (after n (Nat.lt_of_succ_lt hn))

/-- At the last point the sums over the lanes are written out. -/
theorem last (t : Fin cfg0.N) (h1 : t.val % 16 = 15) :
    (∀ (q : Fin 8) k, (outsAt0 m c t.val t.isLt).2.2.2.1 (ix2 q k)
      = if h : q.val < 5 then ∑ l, (outsAt0 m c t.val t.isLt).2.2.2.2.2.2.2.2.1 (ix3 ⟨q.val, h⟩ l k) else 0)
    ∧ (∀ (q : Fin 8) k, (outsAt0 m c t.val t.isLt).2.2.2.2.1 (ix2 q k)
      = if h : q.val < 4 then ∑ l, (outsAt0 m c t.val t.isLt).2.2.2.2.2.2.2.2.2.1 (ix3 ⟨q.val, h⟩ l k) else 0)
    ∧ ∀ g d e, (outsAt0 m c t.val t.isLt).2.2.2.2.2.1 (ix3 g d e)
      = (outsAt0 m c t.val t.isLt).2.2.2.2.2.2.2.2.2.2 (ix3 g d e) := by
  rw [outsAt0_C m c t (by omega) h1]
  refine ⟨?_, ?_, ?_⟩
  · dsimp only
    exact fun q k => CaseC.sd ..
  · dsimp only
    exact fun q k => CaseC.sc ..
  · dsimp only
    exact fun g d e => CaseC.dwp ..

end Points
end Cert.KernelIdeal.Hand
-- ==== Proof.Outputs.lean ====
module

public import proofs.«01_k».proof.Proof.Gen.KernelIdeal.Value
public import proofs.«01_k».proof.Proof.Points
public import Idealize.ShloMosaic.Lib.Pipeline.ValueKit
public import Idealize.ShloMosaic.Lib.Pointwise

@[expose] public section

set_option maxRecDepth 16384

/-!
# The kernel's outputs

Each output array as a function of the arrays the call is handed.
-/

noncomputable section

namespace Cert.KernelIdeal.Hand
open Cert.KernelIdeal Cert.KernelIdeal.Gen Cert.KernelIdeal.Value Idealize.ShloMosaic Idealize.ShloMosaic.TcCoe Idealize.SL.Sem
open Idealize.ShloMosaic.Pipeline (Dat)
open Cert.Norm Cert.Spec Cert.Read

section Points
variable (m : (ℓ : Loc nD τ sig) → Buf (Elt Ideal) ℓ) (c : Dev nD)

/-- An index of a matrix is the pair of its coordinates. -/
theorem idx2_eta {N M : ℕ} (y : (⟨2, ![N, M]⟩ : Shape).Idx) : y = ix2 (y 0) (y 1) := by
  funext a
  fin_cases a <;> rfl

theorem idx3_eta {N M K : ℕ} (y : (⟨3, ![N, M, K]⟩ : Shape).Idx) : y = ix3 (y 0) (y 1) (y 2) := by
  funext a
  fin_cases a <;> rfl

/-- The sums over the tiles, last tile first, are the sum over the rows. -/
theorem tiles_sum (f : Fin 8192 → EReal) : ∑ t ∈ Finset.range (15 + 1), ∑ ρ : Fin 512, f (row (tile t) ρ) = ∑ r, f r := by
  rw [← Finset.sum_range_reflect, Finset.sum_range, Fin.sum_univ_tiles 16 512 rfl f]
  refine Finset.sum_congr rfl fun j _ => Finset.sum_congr rfl fun ρ _ => congrArg f (Fin.ext ?_)
  show 512 * (15 - (15 + 1 - 1 - j.val)) + ρ.val = j.val * 512 + ρ.val
  omega

/-- The same with the rows of a tile by lanes. -/
theorem rows_sum (f : Fin 8192 → EReal) :
    ∑ l : Fin 8, ∑ t ∈ Finset.range (15 + 1), ∑ x : Fin 64, f (row (tile t) (lane x l)) = ∑ r, f r := by
  rw [Finset.sum_comm, ← tiles_sum f]
  refine Finset.sum_congr rfl fun t _ => ?_
  rw [Finset.sum_comm, Fin.sum_univ_tiles 64 8 rfl (fun ρ => f (row (tile t) ρ))]
  rfl

theorem out_gx (r : Fin 8192) (k : Fin 1024) : (dats m 0 c).arrAt 11 cfg0.N (ix2 r k) = (data m c).GX r k := by
  have h : (dats m 0 c).arrAt 11 cfg0.N = fun i => (data m c).GX (i 0) (i 1) := by
    refine (dats m 0 c).arrAt_eq_of_covers 11 _ (by decide +kernel) fun t hf y => ?_
    have ht : t.val < 16 := lt_of_lt_of_eq t.isLt N_0
    blk_simp
    rw [after0_11]
    refine Eq.trans (congrArg _ (idx2_eta (N := 512) (M := 1024) y)) (((after m c t.val t.isLt).gx (y 0) (y 1)).trans ?_)
    refine congrArg₂ _ (Fin.ext ?_) (Fin.ext ?_)
    · simp only [row, tile]
      blk_simp [idx t]
      omega
    · blk_simp [idx t]
  rw [h]
  rfl

theorem out_dz (j : Fin 4) (r : Fin 8192) (k : Fin 512) : (dats m 0 c).arrAt 12 cfg0.N (ix3 j r k) = (data m c).DZ j r k := by
  have h : (dats m 0 c).arrAt 12 cfg0.N = fun i => (data m c).DZ (i 0) (i 1) (i 2) := by
    refine (dats m 0 c).arrAt_eq_of_covers 12 _ (by decide +kernel) fun t hf y => ?_
    have ht : t.val < 16 := lt_of_lt_of_eq t.isLt N_0
    blk_simp
    rw [after0_12]
    refine Eq.trans (congrArg _ (idx3_eta (N := 4) (M := 512) (K := 512) y)) (((after m c t.val t.isLt).dz (y 0) (y 1) (y 2)).trans ?_)
    refine congr (congr (congrArg _ (Fin.ext ?_)) (Fin.ext ?_)) (Fin.ext ?_)
    · blk_simp [idx t]
    · simp only [row, tile]
      blk_simp [idx t]
      omega
    · blk_simp [idx t]
  rw [h]
  rfl

theorem out_dm (r : Fin 8192) (k : Fin 1024) : (dats m 0 c).arrAt 13 cfg0.N (ix2 r k) = (data m c).DM r k := by
  have h : (dats m 0 c).arrAt 13 cfg0.N = fun i => (data m c).DM (i 0) (i 1) := by
    refine (dats m 0 c).arrAt_eq_of_covers 13 _ (by decide +kernel) fun t hf y => ?_
    have ht : t.val < 16 := lt_of_lt_of_eq t.isLt N_0
    blk_simp
    rw [after0_13]
    refine Eq.trans (congrArg _ (idx2_eta (N := 512) (M := 1024) y)) (((after m c t.val t.isLt).dm (y 0) (y 1)).trans ?_)
    refine congrArg₂ _ (Fin.ext ?_) (Fin.ext ?_)
    · simp only [row, tile]
      blk_simp [idx t]
      omega
    · blk_simp [idx t]
  rw [h]
  rfl

theorem out_sd (q : Fin 8) (k : Fin 1024) : (dats m 0 c).arrAt 14 cfg0.N (ix2 q k)
    = if h : q.val < 5 then ∑ r, (data m c).termD ⟨q.val, h⟩ r k else 0 := by
  have h : (dats m 0 c).arrAt 14 cfg0.N
      = fun i : S8x1024.Idx => if h : (i 0).val < 5 then ∑ r, (data m c).termD ⟨(i 0).val, h⟩ r (i 1) else 0 := by
    refine Dat.arrAt_eq_of_after_last (dats m 0 c) 14 t0_15 (by decide +kernel) _ fun j => ?_
    blk_simp
    rw [after0_14]
    refine Eq.trans (congrArg _ (idx2_eta (N := 8) (M := 1024) j)) ((((last m c t0_15 rfl).1) (j 0) (j 1)).trans ?_)
    refine dite_congr rfl (fun h => ?_) (fun _ => rfl)
    refine (Finset.sum_congr rfl fun l _ => (after m c t0_15.val t0_15.isLt).accD _ l _).trans ?_
    exact rows_sum fun r => (data m c).termD ⟨(j 0).val, h⟩ r (j 1)
  rw [h]
  rfl

theorem out_sc (q : Fin 8) (k : Fin 512) : (dats m 0 c).arrAt 15 cfg0.N (ix2 q k)
    = if h : q.val < 4 then ∑ r, (data m c).termC ⟨q.val, h⟩ r k else 0 := by
  have h : (dats m 0 c).arrAt 15 cfg0.N
      = fun i : S8x512.Idx => if h : (i 0).val < 4 then ∑ r, (data m c).termC ⟨(i 0).val, h⟩ r (i 1) else 0 := by
    refine Dat.arrAt_eq_of_after_last (dats m 0 c) 15 t0_15 (by decide +kernel) _ fun j => ?_
    blk_simp
    rw [after0_15]
    refine Eq.trans (congrArg _ (idx2_eta (N := 8) (M := 512) j)) ((((last m c t0_15 rfl).2.1) (j 0) (j 1)).trans ?_)
    refine dite_congr rfl (fun h => ?_) (fun _ => rfl)
    refine (Finset.sum_congr rfl fun l _ => (after m c t0_15.val t0_15.isLt).accC _ l _).trans ?_
    exact rows_sum fun r => (data m c).termC ⟨(j 0).val, h⟩ r (j 1)
  rw [h]
  rfl

theorem out_dwp (g : Fin 4) (d e : Fin 128) : (dats m 0 c).arrAt 16 cfg0.N (ix3 g d e) = ∑ r, (data m c).termP g d e r := by
  have h : (dats m 0 c).arrAt 16 cfg0.N = fun i : S4x128x128.Idx => ∑ r, (data m c).termP (i 0) (i 1) (i 2) r := by
    refine Dat.arrAt_eq_of_after_last (dats m 0 c) 16 t0_15 (by decide +kernel) _ fun j => ?_
    blk_simp
    rw [after0_16]
    refine Eq.trans (congrArg _ (idx3_eta (N := 4) (M := 128) (K := 128) j)) (((last m c t0_15 rfl).2.2 (j 0) (j 1) (j 2)).trans ?_)
    refine ((after m c t0_15.val t0_15.isLt).accP _ _ _).trans ?_
    exact tiles_sum fun r => (data m c).termP (j 0) (j 1) (j 2) r
  rw [h]
  rfl

end Points
end Cert.KernelIdeal.Hand
-- ==== Proof.Operands.lean ====
module

public import proofs.«01_k».proof.Proof.Outputs
public import proofs.«01_k».proof.Proof.RefOut
public import Idealize.ShloMosaic.Lib.StableHlo.RunRead

@[expose] public section

set_option maxRecDepth 16384

/-!
# The arrays the call is handed are the reference's forward values

The lines before the call are the reference's own forward lines: each operand of the call is the value of a line of the
reference, cast or laid out.
-/

noncomputable section

namespace Cert.KernelIdeal.Hand
open Cert.KernelIdeal Cert.KernelIdeal.Gen Cert.KernelIdeal.Value Idealize.ShloMosaic Idealize.ShloMosaic.TcCoe Idealize.SL.Sem
open Cert.Norm Cert.Spec
open Cert.ReferenceIdeal.Hand (refData)
open Cert.ReferenceIdeal.Read

variable (m : (ℓ : Loc nD τ sig) → Buf (Elt Ideal) ℓ) (c : Dev nD)

theorem v182_eq : V m c main_v182 = broadcastInDim S8x6144 ![0, 1] bcast_S1x6144_S8x6144_0_1 (m (c.tc.loc main_arg1)) := by
  unfold V
  simp only [List.flatten_cons, List.flatten_nil, List.append_nil, StableHlo.after_append]
  after_reads_simp

theorem v188_eq : V m c main_v188 = truncf (F := Ideal) .bf16 (m (c.tc.loc main_arg6)) bitsLt_bf16_f32 := by
  unfold V
  simp only [List.flatten_cons, List.flatten_nil, List.append_nil, StableHlo.after_append]
  after_reads_simp

theorem v186_eq : V m c main_v186 = truncf (F := Ideal) .bf16
    (transpose S4x1024x512 [1, 0, 2] (shapeCast S1024x4x512 (m (c.tc.loc main_arg2)) shapeCasts_S1024x2048_S1024x4x512)
      transposes_S1024x4x512_S4x1024x512_1_0_2) bitsLt_bf16_f32 := by
  unfold V
  simp only [List.flatten_cons, List.flatten_nil, List.append_nil, StableHlo.after_append]
  after_reads_simp
  rfl

theorem v183_eq : V m c main_v183 = pad (α := Ideal .f32) S8x512 ![0, 0] ![5, 0] ![0, 0] (m (c.tc.loc main_arg3))
    (sitofp (F := Ideal) .f32 (constantI S_ 32 0#32)) pads_S3x512_S8x512_050_000 h_S_ := by
  unfold V
  simp only [List.flatten_cons, List.flatten_nil, List.append_nil, StableHlo.after_append]
  after_reads_simp
  rfl

theorem v92_eq : V m c main_v92 = truncf (F := Ideal) .bf16 (concatenate S8192x2560 1
    [⟨S8192x1536, extractStridedSlice S8192x1536 ![0, 0] (val_main_v9 (F := Ideal) (m (c.tc.loc main_arg0))
        (m (c.tc.loc main_arg1)) (m (c.tc.loc main_arg2))) slices_S8192x2048_S8192x1536_0_0⟩,
     ⟨S8192x512, val_main_v37 (F := Ideal) (m (c.tc.loc main_arg0)) (m (c.tc.loc main_arg1)) (m (c.tc.loc main_arg2))
        (m (c.tc.loc main_arg3))⟩,
     ⟨S8192x512, shapeCast S8192x512 (val_main_v96 (F := Ideal) (m (c.tc.loc main_arg0)) (m (c.tc.loc main_arg1))
        (m (c.tc.loc main_arg2))) shapeCasts_S8192x4x128_S8192x512⟩]
    concatenates_S8192x1536_S8192x512_S8192x512_S8192x2560_d1) bitsLt_bf16_f32 := by
  unfold V
  simp only [List.flatten_cons, List.flatten_nil, List.append_nil, StableHlo.after_append]
  after_reads_simp [StableHlo.readPieces, Matrix.cons_val]
  rfl

theorem v181_eq : V m c main_v181 = val_main_v103 (F := Ideal) (m (c.tc.loc main_arg0)) (m (c.tc.loc main_arg1))
    (m (c.tc.loc main_arg2)) (m (c.tc.loc main_arg3)) (m (c.tc.loc main_arg4)) (m (c.tc.loc main_arg5))
    (m (c.tc.loc main_arg6)) := by
  unfold V
  simp only [List.flatten_cons, List.flatten_nil, List.append_nil, StableHlo.after_append]
  after_reads_simp [StableHlo.readPieces, Matrix.cons_val]
  rfl

/-- The data of the launch are the reference's, at the arguments. -/
theorem data_eq : data m c = refData (m (c.tc.loc main_arg0)) (m (c.tc.loc main_arg1)) (m (c.tc.loc main_arg2))
    (m (c.tc.loc main_arg3)) (m (c.tc.loc main_arg4)) (m (c.tc.loc main_arg5)) (m (c.tc.loc main_arg6))
    (m (c.tc.loc main_arg7)) (m (c.tc.loc main_arg8)) := by
  unfold data refData
  rw [Data.mk.injEq]
  refine ⟨?_, ?_, ?_, ?_, ?_, ?_, ?_, ?_, ?_, ?_, ?_, ?_, ?_, ?_, ?_, ?_⟩
  · funext r k
    rw [V_main_arg0]
  · funext r k
    rw [v181_eq]
  · funext r k
    rw [V_main_arg8]
  · funext r k
    rw [v92_eq]
    pointwise [val_main_v10]
    rw [dif_pos (by omega)]
  · funext r k
    rw [v92_eq]
    pointwise [val_main_v11]
    rw [dif_pos (by omega)]
  · funext r k
    rw [v92_eq]
    pointwise [val_main_v12]
    rw [dif_pos (by omega)]
  · funext r k
    rw [v92_eq]
    pointwise
  · funext r k
    rw [v92_eq]
    pointwise
    rw [dif_neg (by omega), dif_neg (by omega)]
    simp only [show 2048 + k.val - 1536 - 512 = k.val by omega]
    rfl
  · funext k
    rw [v182_eq]
    pointwise
  · funext k
    rw [v182_eq]
    pointwise
  · funext q k
    rw [v183_eq]
    have h : ∀ a : FVec Ideal S3x512 .f32, pad (α := Ideal .f32) S8x512 ![0, 0] ![5, 0] ![0, 0] a
        (sitofp (F := Ideal) .f32 (constantI S_ 32 0#32)) pads_S3x512_S8x512_050_000 h_S_ (ix2 ⟨q.val, by omega⟩ k)
        = a (ix2 q k) := by
      intro a
      pointwise
    exact h _
  · funext j k l
    rw [v186_eq]
    pointwise
    refine congrArg (fun i => m (c.tc.loc main_arg2) (ix2 k i)) (Fin.ext ?_)
    show j.val * 512 + l.val = 512 * j.val + l.val
    omega
  · funext g d e
    rw [V_main_arg4]
  · funext k
    rw [V_main_arg5]
  · funext k l
    rw [v188_eq]
    pointwise
  · funext k
    rw [V_main_arg7]

end Cert.KernelIdeal.Hand
-- ==== Proof.Algebraic.lean ====
/- The kernel and the reference end with equal results: each result array of the kernel's run is the reference's
   result, by way of the specification both are shown equal to. -/
module

public import proofs.«01_k».proof.Proof.Pre
public import proofs.«01_k».proof.Proof.Operands
public import proofs.«01_k».proof.Proof.Outputs
public import proofs.«01_k».proof.Proof.Gen.ReferenceIdeal.Run
public import Idealize.ShloMosaic.Adequacy
public import Idealize.ShloMosaic.Init

@[expose] public section

noncomputable section

namespace Cert.Algebraic

open Idealize.ShloMosaic Idealize.ShloMosaic.TcCoe Idealize.SL.Sem Cert.KernelIdeal Cert.KernelIdeal.Gen Cert.KernelIdeal.Value Cert.KernelIdeal.Hand

attribute [local instance] Cert.Pre_finite.Gen.facts Cert.ReferenceIdeal.Gen.facts

variable (m : (ℓ : Loc nD τ sig) → Buf (Elt Ideal) ℓ) (pre : Cert.Pre_KernelIdeal_finite m) (c : Dev nD)

include pre in
theorem finite : Cert.ReferenceIdeal.Hand.Finite (m (c.tc.loc Cert.KernelIdeal.main_arg0)) (m (c.tc.loc Cert.KernelIdeal.main_arg1)) (m (c.tc.loc Cert.KernelIdeal.main_arg2)) (m (c.tc.loc Cert.KernelIdeal.main_arg3)) (m (c.tc.loc Cert.KernelIdeal.main_arg4)) (m (c.tc.loc Cert.KernelIdeal.main_arg5)) (m (c.tc.loc Cert.KernelIdeal.main_arg6)) (m (c.tc.loc Cert.KernelIdeal.main_arg7)) (m (c.tc.loc Cert.KernelIdeal.main_arg8)) :=
  Cert.Pre_finite.Hand.finite_of_fn _ _ _ _ _ _ _ _ _ (fun d => d.elim0) (congrFun (pre c) _)

include pre in
theorem eq_gx : (dats m 0 c).arrAt 11 cfg0.N = Cert.ReferenceIdeal.Read.val_main_v298 (F := Ideal) (m (c.tc.loc Cert.KernelIdeal.main_arg0)) (m (c.tc.loc Cert.KernelIdeal.main_arg1)) (m (c.tc.loc Cert.KernelIdeal.main_arg2)) (m (c.tc.loc Cert.KernelIdeal.main_arg3)) (m (c.tc.loc Cert.KernelIdeal.main_arg4)) (m (c.tc.loc Cert.KernelIdeal.main_arg5)) (m (c.tc.loc Cert.KernelIdeal.main_arg6)) (m (c.tc.loc Cert.KernelIdeal.main_arg7)) (m (c.tc.loc Cert.KernelIdeal.main_arg8)) := by
  funext i
  rw [idx2_eta i]
  refine (out_gx m c (i 0) (i 1)).trans ?_
  rw [data_eq]
  exact (Cert.ReferenceIdeal.Hand.out_gx (finite m pre c) (i 0) (i 1)).symm

include pre in
theorem eq_dz : (dats m 0 c).arrAt 12 cfg0.N = Cert.ReferenceIdeal.Read.val_main_v301 (F := Ideal) (m (c.tc.loc Cert.KernelIdeal.main_arg0)) (m (c.tc.loc Cert.KernelIdeal.main_arg1)) (m (c.tc.loc Cert.KernelIdeal.main_arg2)) (m (c.tc.loc Cert.KernelIdeal.main_arg3)) (m (c.tc.loc Cert.KernelIdeal.main_arg4)) (m (c.tc.loc Cert.KernelIdeal.main_arg5)) (m (c.tc.loc Cert.KernelIdeal.main_arg6)) (m (c.tc.loc Cert.KernelIdeal.main_arg7)) (m (c.tc.loc Cert.KernelIdeal.main_arg8)) := by
  funext i
  rw [idx3_eta i]
  refine (out_dz m c (i 0) (i 1) (i 2)).trans ?_
  rw [data_eq]
  exact (Cert.ReferenceIdeal.Hand.out_dz (finite m pre c) (i 0) (i 1) (i 2)).symm

include pre in
theorem eq_dm : (dats m 0 c).arrAt 13 cfg0.N = Cert.ReferenceIdeal.Read.val_main_v302 (F := Ideal) (m (c.tc.loc Cert.KernelIdeal.main_arg0)) (m (c.tc.loc Cert.KernelIdeal.main_arg1)) (m (c.tc.loc Cert.KernelIdeal.main_arg2)) (m (c.tc.loc Cert.KernelIdeal.main_arg3)) (m (c.tc.loc Cert.KernelIdeal.main_arg4)) (m (c.tc.loc Cert.KernelIdeal.main_arg5)) (m (c.tc.loc Cert.KernelIdeal.main_arg6)) (m (c.tc.loc Cert.KernelIdeal.main_arg7)) (m (c.tc.loc Cert.KernelIdeal.main_arg8)) := by
  funext i
  rw [idx2_eta i]
  refine (out_dm m c (i 0) (i 1)).trans ?_
  rw [data_eq]
  exact (Cert.ReferenceIdeal.Hand.out_dm (finite m pre c) (i 0) (i 1)).symm

include pre in
theorem eq_sd : (dats m 0 c).arrAt 14 cfg0.N = Cert.ReferenceIdeal.Read.val_main_v295 (F := Ideal) (m (c.tc.loc Cert.KernelIdeal.main_arg0)) (m (c.tc.loc Cert.KernelIdeal.main_arg1)) (m (c.tc.loc Cert.KernelIdeal.main_arg2)) (m (c.tc.loc Cert.KernelIdeal.main_arg3)) (m (c.tc.loc Cert.KernelIdeal.main_arg4)) (m (c.tc.loc Cert.KernelIdeal.main_arg5)) (m (c.tc.loc Cert.KernelIdeal.main_arg6)) (m (c.tc.loc Cert.KernelIdeal.main_arg7)) (m (c.tc.loc Cert.KernelIdeal.main_arg8)) := by
  funext i
  rw [idx2_eta i]
  refine (out_sd m c (i 0) (i 1)).trans ?_
  rw [data_eq]
  exact (Cert.ReferenceIdeal.Hand.out_sd (finite m pre c) (i 0) (i 1)).symm

include pre in
theorem eq_sc : (dats m 0 c).arrAt 15 cfg0.N = Cert.ReferenceIdeal.Read.val_main_v297 (F := Ideal) (m (c.tc.loc Cert.KernelIdeal.main_arg0)) (m (c.tc.loc Cert.KernelIdeal.main_arg1)) (m (c.tc.loc Cert.KernelIdeal.main_arg2)) (m (c.tc.loc Cert.KernelIdeal.main_arg3)) (m (c.tc.loc Cert.KernelIdeal.main_arg4)) (m (c.tc.loc Cert.KernelIdeal.main_arg5)) (m (c.tc.loc Cert.KernelIdeal.main_arg6)) (m (c.tc.loc Cert.KernelIdeal.main_arg7)) (m (c.tc.loc Cert.KernelIdeal.main_arg8)) := by
  funext i
  rw [idx2_eta i]
  refine (out_sc m c (i 0) (i 1)).trans ?_
  rw [data_eq]
  exact (Cert.ReferenceIdeal.Hand.out_sc (finite m pre c) (i 0) (i 1)).symm

include pre in
theorem eq_dwp : (dats m 0 c).arrAt 16 cfg0.N = Cert.ReferenceIdeal.Read.val_main_v191 (F := Ideal) (m (c.tc.loc Cert.KernelIdeal.main_arg0)) (m (c.tc.loc Cert.KernelIdeal.main_arg1)) (m (c.tc.loc Cert.KernelIdeal.main_arg2)) (m (c.tc.loc Cert.KernelIdeal.main_arg3)) (m (c.tc.loc Cert.KernelIdeal.main_arg4)) (m (c.tc.loc Cert.KernelIdeal.main_arg5)) (m (c.tc.loc Cert.KernelIdeal.main_arg6)) (m (c.tc.loc Cert.KernelIdeal.main_arg7)) (m (c.tc.loc Cert.KernelIdeal.main_arg8)) := by
  funext i
  rw [idx3_eta i]
  refine (out_dwp m c (i 0) (i 1) (i 2)).trans ?_
  rw [data_eq]
  exact (Cert.ReferenceIdeal.Hand.out_dwp (finite m pre c) (i 0) (i 1) (i 2)).symm

/-- A function of nine arguments at equal arguments. -/
theorem agree {A0 A1 A2 A3 A4 A5 A6 A7 A8 B : Type} (f : A0 → A1 → A2 → A3 → A4 → A5 → A6 → A7 → A8 → B)
    {a0 b0 a1 b1 a2 b2 a3 b3 a4 b4 a5 b5 a6 b6 a7 b7 a8 b8} (h0 : a0 = b0) (h1 : a1 = b1) (h2 : a2 = b2) (h3 : a3 = b3)
    (h4 : a4 = b4) (h5 : a5 = b5) (h6 : a6 = b6) (h7 : a7 = b7) (h8 : a8 = b8) :
    f a0 a1 a2 a3 a4 a5 a6 a7 a8 = f b0 b1 b2 b3 b4 b5 b6 b7 b8 := by
  subst h0 h1 h2 h3 h4 h5 h6 h7 h8
  rfl

set_option maxHeartbeats 4000000 in
/-- From memories that agree on the arguments, the kernel and the reference end with equal results. -/
theorem algebraic : Cert.algebraic_KernelIdeal_ReferenceIdeal_pre_finite (hKernelIdeal := Cert.KernelIdeal.Gen.facts) := by
  intro m ρ m' ρ' pre hag
  refine ⟨fun c => (dats m 0 c).arrAt 11 cfg0.N, fun c => (dats m 0 c).arrAt 12 cfg0.N, fun c => (dats m 0 c).arrAt 13 cfg0.N, fun c => (dats m 0 c).arrAt 14 cfg0.N, fun c => (dats m 0 c).arrAt 15 cfg0.N, fun c => (dats m 0 c).arrAt 16 cfg0.N,
    run_blocks m ρ, (θ_run _ _ _).mono (fun r h => ?_) (Cert.ReferenceIdeal.Value.run (F := Ideal) m' ρ')⟩
  intro c
  obtain ⟨g0, g1, g2, g3, g4, g5, kept⟩ := h c
  obtain ⟨e0, e1, e2, e3, e4, e5, e6, e7, e8⟩ := hag c
  have f0 := g0.trans (Cert.ReferenceIdeal.Read.val_main_v298_eq _)
  have f1 := g1.trans (Cert.ReferenceIdeal.Read.val_main_v301_eq _)
  have f2 := g2.trans (Cert.ReferenceIdeal.Read.val_main_v302_eq _)
  have f3 := g3.trans (Cert.ReferenceIdeal.Read.val_main_v295_eq _)
  have f4 := g4.trans (Cert.ReferenceIdeal.Read.val_main_v297_eq _)
  have f5 := g5.trans (Cert.ReferenceIdeal.Read.val_main_v191_eq _)
  refine ⟨?_, ?_, ?_, ?_, ?_, ?_, kept⟩
  · exact f0.trans ((agree (Cert.ReferenceIdeal.Read.val_main_v298 (F := Ideal)) e0 e1 e2 e3 e4 e5 e6 e7 e8).trans (eq_gx m pre c).symm)
  · exact f1.trans ((agree (Cert.ReferenceIdeal.Read.val_main_v301 (F := Ideal)) e0 e1 e2 e3 e4 e5 e6 e7 e8).trans (eq_dz m pre c).symm)
  · exact f2.trans ((agree (Cert.ReferenceIdeal.Read.val_main_v302 (F := Ideal)) e0 e1 e2 e3 e4 e5 e6 e7 e8).trans (eq_dm m pre c).symm)
  · exact f3.trans ((agree (Cert.ReferenceIdeal.Read.val_main_v295 (F := Ideal)) e0 e1 e2 e3 e4 e5 e6 e7 e8).trans (eq_sd m pre c).symm)
  · exact f4.trans ((agree (Cert.ReferenceIdeal.Read.val_main_v297 (F := Ideal)) e0 e1 e2 e3 e4 e5 e6 e7 e8).trans (eq_sc m pre c).symm)
  · exact f5.trans ((agree (Cert.ReferenceIdeal.Read.val_main_v191 (F := Ideal)) e0 e1 e2 e3 e4 e5 e6 e7 e8).trans (eq_dwp m pre c).symm)

end Cert.Algebraic

end
-- ==== Proof.MlpSpec.lean ====
module

public import proofs.«01_k».proof.Proof.Norm

@[expose] public section

/-!
# The feed-forward half of the block and the loss, forward and backward, row by row

What the second kernel and its reference both compute. `Data` holds what they read; the functions after it are the
values of the forward, then the gradients.
-/

noncomputable section

namespace Cert.Mlp
open Idealize.ShloMosaic Cert.Norm

/-- The rows and the target, the modulation's shift, scale and gate, the two matrices of the feed-forward in four parts,
and the parameters of the layer norm. -/
structure Data where
  x : Fin 8192 → Fin 1024 → EReal
  tg : Fin 8192 → Fin 1024 → EReal
  sh : Fin 1024 → EReal
  sc : Fin 1024 → EReal
  g : Fin 1024 → EReal
  wi : Fin 4 → Fin 1024 → Fin 1024 → EReal
  wo : Fin 4 → Fin 1024 → Fin 1024 → EReal
  lng : Fin 1024 → EReal
  lnb : Fin 1024 → EReal

/-- The residual's scale. -/
def alpha : EReal := Ideal.ofBits .f32 0x3F9837F0#32

/-- A sum over the four parts of the hidden width, in order. -/
def sum4 (f : Fin 4 → EReal) : EReal := f 0 + f 1 + f 2 + f 3

namespace Data
variable (D : Data)

/-- The modulated rows. -/
def H (r : Fin 8192) (k : Fin 1024) : EReal := D.x r k * (1 + D.sc k) + D.sh k

/-- The hidden values before and after the rectifier, and their squares. -/
def Z (j : Fin 4) (r : Fin 8192) (l : Fin 1024) : EReal := ∑ k, D.H r k * D.wi j k l

def A (j : Fin 4) (r : Fin 8192) (l : Fin 1024) : EReal := max (D.Z j r l) 0

def S (j : Fin 4) (r : Fin 8192) (l : Fin 1024) : EReal := D.A j r l * D.A j r l

/-- The feed-forward's value. -/
def FO (r : Fin 8192) (k : Fin 1024) : EReal := sum4 fun j => ∑ l, D.S j r l * D.wo j l k

/-- The row that is normalised. -/
def R (r : Fin 8192) (k : Fin 1024) : EReal := alpha * D.x r k + (1 + D.g k) * D.FO r k

def XH (r : Fin 8192) (k : Fin 1024) : EReal := xhat (D.R r) k

/-- The difference to the target. -/
def ERR (r : Fin 8192) (k : Fin 1024) : EReal := D.XH r k * D.lng k + D.lnb k - D.tg r k

/-- The gradient of the normalised row's image. -/
def DY (r : Fin 8192) (k : Fin 1024) : EReal := D.ERR r k * Ideal.ofBits .f32 0x3A800000#32

/-- The gradient of the residual. -/
def DR (r : Fin 8192) (k : Fin 1024) : EReal := bwd (D.R r) (fun l => D.DY r l * D.lng l) k

/-- The gradient of the feed-forward's value. -/
def DF (r : Fin 8192) (k : Fin 1024) : EReal := (1 + D.g k) * D.DR r k

/-- The gradients of the squares, and of the hidden values. -/
def DS (j : Fin 4) (r : Fin 8192) (l : Fin 1024) : EReal := ∑ k, D.DF r k * D.wo j l k

def DA (j : Fin 4) (r : Fin 8192) (l : Fin 1024) : EReal := D.DS j r l * (Ideal.ofBits .f32 0x40000000#32 * D.A j r l)

/-- The gradient of the modulated rows. -/
def DH (r : Fin 8192) (k : Fin 1024) : EReal := sum4 fun j => ∑ l, D.DA j r l * D.wi j k l

/-- The gradient of the rows. -/
def DX (r : Fin 8192) (k : Fin 1024) : EReal := alpha * D.DR r k + D.DH r k * (1 + D.sc k)

/-- What the six sums over the rows add up. -/
def term (q : Fin 6) (r : Fin 8192) (k : Fin 1024) : EReal :=
  ![D.DY r k * D.XH r k, D.DY r k, D.DR r k * D.FO r k, D.DH r k * D.x r k, D.DH r k, D.ERR r k * D.ERR r k] q

/-- The loss. -/
def LOSS : EReal := (∑ k, ∑ r, D.term 5 r k) * Ideal.ofBits .f32 0x3A000000#32

end Data
end Cert.Mlp
-- ==== Proof.MlpRef.lean ====
module

public import proofs.«01_k».proof.Proof.Gen.Reference2Ideal.Read
public import proofs.«01_k».proof.Proof.MlpSpec
public import Idealize.ShloMosaic.Lib.Pointwise

@[expose] public section

set_option maxRecDepth 16384

/-!
# The second reference's forward and its backward through the loss and the layer norm

The arguments of the reference give the data of the specification. On finite data the chain rule's backward is the
specification's closed form.
-/

noncomputable section

namespace Cert.Reference2Ideal.Hand
open Cert.Reference2Ideal Cert.Reference2Ideal.Gen Cert.Reference2Ideal.Read Idealize.ShloMosaic Idealize.ShloMosaic.TcCoe
open Cert.Norm Cert.Mlp

variable (x0 x1 : FVec Ideal S8192x1024 .f32) (x2 : FVec Ideal S1x6144 .f32) (x3 : FVec Ideal S1024x4096 .f32)
  (x4 : FVec Ideal S4096x1024 .f32) (x5 x6 : FVec Ideal S1x1024 .f32)

/-- The data the reference works on: its arguments, the two matrices in four parts. -/
def refData : Data where
  x r k := x0 (ix2 r k)
  tg r k := x1 (ix2 r k)
  sh k := x2 (ix2 0 ⟨3072 + k.val, by omega⟩)
  sc k := x2 (ix2 0 ⟨4096 + k.val, by omega⟩)
  g k := x2 (ix2 0 ⟨5120 + k.val, by omega⟩)
  wi j k l := x3 (ix2 k ⟨j.val * 1024 + l.val, by omega⟩)
  wo j l k := x4 (ix2 ⟨j.val * 1024 + l.val, by omega⟩ k)
  lng k := x5 (ix2 0 k)
  lnb k := x6 (ix2 0 k)

/-- A column of the hidden width, by its part and its place there. -/
def col (j : Fin 4) (l : Fin 1024) : Fin 4096 := ⟨j.val * 1024 + l.val, by omega⟩

/-- A sum over the hidden width is the sum over its four parts. -/
theorem sum_hidden (f : Fin 4096 → EReal) : ∑ n, f n = sum4 fun j => ∑ l, f (col j l) := by
  rw [Fin.sum_univ_tiles 4 1024 rfl f, Fin.sum_univ_four]
  rfl

theorem ofBits_half : Ideal.ofBits .f32 0x3F000000#32 = ((1 / 2 : ℝ) : EReal) := by
  simp [Ideal.ofBits, Ideal.ieee, -EReal.coe_mul]; norm_num

theorem ofBits_inv1024 : Ideal.ofBits .f32 0x3A800000#32 = ((1 / 1024 : ℝ) : EReal) := by
  simp [Ideal.ofBits, Ideal.ieee, -EReal.coe_mul]; norm_num

theorem ofBits_inv2048 : Ideal.ofBits .f32 0x3A000000#32 = ((1 / 2048 : ℝ) : EReal) := by
  simp [Ideal.ofBits, Ideal.ieee, -EReal.coe_mul]; norm_num

theorem h_eq (r : Fin 8192) (k : Fin 1024) : (val_main_v8 (F := Ideal) x0 x2) (ix2 r k) = (refData x0 x1 x2 x3 x4 x5 x6).H r k := by
  pointwise [val_main_v0, val_main_v1, val_main_v2, val_main_cst, val_main_v3, val_main_v4, val_main_v5, val_main_v6, val_main_v7, val_main_v8]
  rfl

theorem z_eq (j : Fin 4) (r : Fin 8192) (l : Fin 1024) : (val_main_v9 (F := Ideal) x0 x2 x3) (ix2 r (col j l)) = (refData x0 x1 x2 x3 x4 x5 x6).Z j r l := by
  pointwise [val_main_v9]
  simp only [h_eq x0 x1 x2 x3 x4 x5 x6]
  rfl

theorem a_eq (j : Fin 4) (r : Fin 8192) (l : Fin 1024) : (val_main_v10 (F := Ideal) x0 x2 x3) (ix2 r (col j l)) = (refData x0 x1 x2 x3 x4 x5 x6).A j r l := by
  pointwise [val_main_call0_cst, val_main_call0_v0, val_main_v10]
  rw [z_eq x0 x1 x2 x3 x4 x5 x6]
  rfl

theorem s_eq (j : Fin 4) (r : Fin 8192) (l : Fin 1024) : (val_main_v14 (F := Ideal) x0 x2 x3) (ix2 r (col j l)) = (refData x0 x1 x2 x3 x4 x5 x6).S j r l := by
  pointwise [val_main_v14]
  rw [a_eq x0 x1 x2 x3 x4 x5 x6]
  rfl

theorem fo_eq (r : Fin 8192) (k : Fin 1024) : (val_main_v17 (F := Ideal) x0 x2 x3 x4) (ix2 r k) = (refData x0 x1 x2 x3 x4 x5 x6).FO r k := by
  pointwise [val_main_v17]
  rw [sum_hidden]
  simp only [s_eq x0 x1 x2 x3 x4 x5 x6]
  rfl

theorem R_eq (r : Fin 8192) (k : Fin 1024) : (val_main_v24 (F := Ideal) x0 x2 x3 x4) (ix2 r k) = (refData x0 x1 x2 x3 x4 x5 x6).R r k := by
  pointwise [val_main_v2, val_main_cst_3, val_main_v18, val_main_v19, val_main_cst_4, val_main_v20, val_main_v21, val_main_v22, val_main_v23, val_main_v24]
  rw [fo_eq x0 x1 x2 x3 x4 x5 x6]
  rfl

theorem mean_eq (r : Fin 8192) : (val_main_v28 (F := Ideal) x0 x2 x3 x4) (ix2 r 0) = mean ((refData x0 x1 x2 x3 x4 x5 x6).R r) := by
  pointwise [val_main_cst_5, val_main_v25, val_main_v26, val_main_cst_6, val_main_v27, val_main_v28]
  simp only [R_eq x0 x1 x2 x3 x4 x5 x6]
  rfl

theorem cen'_eq (r : Fin 8192) (k : Fin 1024) : (val_main_v30 (F := Ideal) x0 x2 x3 x4) (ix2 r k) = cen ((refData x0 x1 x2 x3 x4 x5 x6).R r) k := by
  pointwise [val_main_v29, val_main_v30]
  rw [R_eq x0 x1 x2 x3 x4 x5 x6, mean_eq x0 x1 x2 x3 x4 x5 x6]
  rfl

theorem cen_eq (r : Fin 8192) (k : Fin 1024) : (val_main_v39 (F := Ideal) x0 x2 x3 x4) (ix2 r k) = cen ((refData x0 x1 x2 x3 x4 x5 x6).R r) k := by
  pointwise [val_main_v38, val_main_v39]
  rw [R_eq x0 x1 x2 x3 x4 x5 x6, mean_eq x0 x1 x2 x3 x4 x5 x6]
  rfl

theorem varEps_eq (r : Fin 8192) : (val_main_v41 (F := Ideal) x0 x2 x3 x4) (ix2 r 0) = varEps ((refData x0 x1 x2 x3 x4 x5 x6).R r) := by
  pointwise [val_main_v31, val_main_cst_8, val_main_v34, val_main_v35, val_main_cst_9, val_main_v36, val_main_v37, val_main_cst_10, val_main_v40, val_main_v41]
  simp only [cen'_eq x0 x1 x2 x3 x4 x5 x6]
  rfl

theorem rstd_eq (r : Fin 8192) : (val_main_v42 (F := Ideal) x0 x2 x3 x4) (ix2 r 0) = rstd ((refData x0 x1 x2 x3 x4 x5 x6).R r) := by
  pointwise [val_main_v42]
  rw [varEps_eq x0 x1 x2 x3 x4 x5 x6]
  rfl

theorem xhat_eq (r : Fin 8192) (k : Fin 1024) : (val_main_v47 (F := Ideal) x0 x2 x3 x4) (ix2 r k) = (refData x0 x1 x2 x3 x4 x5 x6).XH r k := by
  pointwise [val_main_v46, val_main_v47]
  rw [cen_eq x0 x1 x2 x3 x4 x5 x6, rstd_eq x0 x1 x2 x3 x4 x5 x6]
  rfl

theorem err_eq (r : Fin 8192) (k : Fin 1024) : (val_main_v52 (F := Ideal) x0 x1 x2 x3 x4 x5 x6) (ix2 r k) = (refData x0 x1 x2 x3 x4 x5 x6).ERR r k := by
  pointwise [val_main_v48, val_main_v49, val_main_v50, val_main_v51, val_main_v52]
  rw [xhat_eq x0 x1 x2 x3 x4 x5 x6]
  rfl

theorem dy_eq (r : Fin 8192) (k : Fin 1024) : (val_main_v66 (F := Ideal) x0 x1 x2 x3 x4 x5 x6) (ix2 r k) = (refData x0 x1 x2 x3 x4 x5 x6).DY r k := by
  pointwise [val_main_cst_12, val_main_v54, val_main_v55, val_main_cst_17, val_main_cst_18, val_main_v61, val_main_v62, val_main_cst_19, val_main_v63, val_main_v64, val_main_v65, val_main_v66]
  rw [err_eq x0 x1 x2 x3 x4 x5 x6, ofBits_half, ofBits_1024, ofBits_two]
  unfold Data.DY
  rw [ofBits_inv1024]
  generalize (refData x0 x1 x2 x3 x4 x5 x6).ERR r k = e
  rw [div_coe_coe _ _ (by norm_num), ← mul_assoc, ← EReal.coe_mul, mul_comm e]
  norm_num

theorem dl_eq (r : Fin 8192) (k : Fin 1024) : (val_main_v73 (F := Ideal) x0 x1 x2 x3 x4 x5 x6) (ix2 r k) = (refData x0 x1 x2 x3 x4 x5 x6).DY r k * (refData x0 x1 x2 x3 x4 x5 x6).lng k := by
  pointwise [val_main_v72, val_main_v73]
  rw [dy_eq x0 x1 x2 x3 x4 x5 x6]
  rfl

theorem dvar_eq (r : Fin 8192) : (val_main_v84 (F := Ideal) x0 x1 x2 x3 x4 x5 x6) (ix2 r 0) = dvar ((refData x0 x1 x2 x3 x4 x5 x6).R r) (fun l => (refData x0 x1 x2 x3 x4 x5 x6).DY r l * (refData x0 x1 x2 x3 x4 x5 x6).lng l) := by
  pointwise [val_main_v43, val_main_cst_11, val_main_v44, val_main_v45, val_main_v74, val_main_cst_22, val_main_v75, val_main_v76, val_main_v79, val_main_cst_24, val_main_v83, val_main_v84]
  simp only [dl_eq x0 x1 x2 x3 x4 x5 x6, cen_eq x0 x1 x2 x3 x4 x5 x6, rstd_eq x0 x1 x2 x3 x4 x5 x6, varEps_eq x0 x1 x2 x3 x4 x5 x6]
  rfl

theorem scaled_eq (r : Fin 8192) (k : Fin 1024) :
    (val_main_v78 (F := Ideal) x0 x1 x2 x3 x4 x5 x6) (ix2 r k) = (refData x0 x1 x2 x3 x4 x5 x6).DY r k * (refData x0 x1 x2 x3 x4 x5 x6).lng k * rstd ((refData x0 x1 x2 x3 x4 x5 x6).R r) := by
  pointwise [val_main_v77, val_main_v78]
  rw [dl_eq x0 x1 x2 x3 x4 x5 x6, rstd_eq x0 x1 x2 x3 x4 x5 x6]

theorem viaVar_eq (r : Fin 8192) (k : Fin 1024) :
    (val_main_v87 (F := Ideal) x0 x1 x2 x3 x4 x5 x6) (ix2 r k) = viaVar ((refData x0 x1 x2 x3 x4 x5 x6).R r) (fun l => (refData x0 x1 x2 x3 x4 x5 x6).DY r l * (refData x0 x1 x2 x3 x4 x5 x6).lng l) k := by
  pointwise [val_main_cst_25, val_main_v85, val_main_v86, val_main_v87, val_main_cst_7, val_main_v32, val_main_v33]
  rw [Fin.sum_univ_one]
  rw [cen'_eq x0 x1 x2 x3 x4 x5 x6, dvar_eq x0 x1 x2 x3 x4 x5 x6]
  rfl

theorem drChain_eq (r : Fin 8192) (k : Fin 1024) :
    (val_main_v97 (F := Ideal) x0 x1 x2 x3 x4 x5 x6) (ix2 r k) = bwdChain ((refData x0 x1 x2 x3 x4 x5 x6).R r) (fun l => (refData x0 x1 x2 x3 x4 x5 x6).DY r l * (refData x0 x1 x2 x3 x4 x5 x6).lng l) k := by
  pointwise [val_main_v80, val_main_cst_23, val_main_v81, val_main_v82, val_main_v88, val_main_cst_26, val_main_v89, val_main_v90, val_main_v91, val_main_v92, val_main_cst_27, val_main_v93, val_main_v94, val_main_cst_28, val_main_v95, val_main_v96, val_main_v97]
  rw [Fin.sum_univ_one]
  simp only [scaled_eq x0 x1 x2 x3 x4 x5 x6, viaVar_eq x0 x1 x2 x3 x4 x5 x6]
  rfl

end Cert.Reference2Ideal.Hand
-- ==== Proof.MlpRefOut.lean ====
module

public import proofs.«01_k».proof.Proof.MlpRef
public import Idealize.ShloMosaic.Lib.Pointwise

@[expose] public section

set_option maxRecDepth 16384

/-!
# The second reference's six results

On finite arguments each result is the specification's function of `refData`.
-/

noncomputable section

namespace Cert.Reference2Ideal.Hand
open Cert.Reference2Ideal Cert.Reference2Ideal.Gen Cert.Reference2Ideal.Read Idealize.ShloMosaic Idealize.ShloMosaic.TcCoe
open Cert.Norm Cert.Mlp

variable (x0 x1 : FVec Ideal S8192x1024 .f32) (x2 : FVec Ideal S1x6144 .f32) (x3 : FVec Ideal S1024x4096 .f32)
  (x4 : FVec Ideal S4096x1024 .f32) (x5 x6 : FVec Ideal S1x1024 .f32)

/-- Every argument holds finite numbers. -/
structure Finite : Prop where
  a0 : ∀ r k, Fin' (x0 (ix2 r k))
  a1 : ∀ r k, Fin' (x1 (ix2 r k))
  a2 : ∀ k, Fin' (x2 (ix2 0 k))
  a3 : ∀ k n, Fin' (x3 (ix2 k n))
  a4 : ∀ n k, Fin' (x4 (ix2 n k))
  a5 : ∀ k, Fin' (x5 (ix2 0 k))
  a6 : ∀ k, Fin' (x6 (ix2 0 k))

theorem fin_max {x y : EReal} (hx : Fin' x) (hy : Fin' y) : Fin' (max x y) := by
  rcases max_choice x y with h | h <;> rw [h] <;> assumption

theorem fin_sum4 {f : Fin 4 → EReal} (h : ∀ j, Fin' (f j)) : Fin' (sum4 f) := (((h 0).add (h 1)).add (h 2)).add (h 3)

/-- The rectifier's derivative: where the value is not positive, so is twice its rectified value. -/
theorem rect (d z : EReal) :
    (if z > 0 then d * (Ideal.ofBits .f32 0x40000000#32 * max z 0) else 0) = d * (Ideal.ofBits .f32 0x40000000#32 * max z 0) := by
  split
  · rfl
  · rename_i h
    rw [max_eq_right (not_lt.1 h), mul_zero, mul_zero]

/-- The mean of the rows' means of squares, halved, is the sum of the squares times one number. -/
theorem loss_sum {f : Fin 8192 → Fin 1024 → EReal} (hf : ∀ r k, Fin' (f r k)) :
    ((1 / 2 : ℝ) : EReal) * ∑ r, Ideal.div (∑ k, f r k) ((1024 : ℝ) : EReal) = (∑ k, ∑ r, f r k) * ((1 / 2048 : ℝ) : EReal) := by
  choose a ha using hf
  obtain rfl : f = fun r k => (a r k : EReal) := funext fun r => funext fun k => ha r k
  simp only [coe_sum, div_coe_coe _ _ (show (1024 : ℝ) ≠ 0 by norm_num), ← EReal.coe_mul]
  congr 1
  rw [Finset.sum_comm, ← Finset.sum_div]
  ring

section
variable {x0 x1 x2 x3 x4 x5 x6} (H : Finite x0 x1 x2 x3 x4 x5 x6)
include H

theorem fin_H (r : Fin 8192) (k : Fin 1024) : Fin' ((refData x0 x1 x2 x3 x4 x5 x6).H r k) := ((H.a0 r k).mul (fin_one.add (H.a2 _))).add (H.a2 _)

theorem fin_S (j : Fin 4) (r : Fin 8192) (l : Fin 1024) : Fin' ((refData x0 x1 x2 x3 x4 x5 x6).S j r l) := by
  have h : Fin' ((refData x0 x1 x2 x3 x4 x5 x6).A j r l) := fin_max (fin_sum _ fun k _ => (fin_H H r k).mul (H.a3 k _)) fin_zero
  exact h.mul h

theorem fin_R (r : Fin 8192) (k : Fin 1024) : Fin' ((refData x0 x1 x2 x3 x4 x5 x6).R r k) :=
  (fin_alpha.mul (H.a0 r k)).add ((fin_one.add (H.a2 _)).mul
    (fin_sum4 fun j => fin_sum _ fun l _ => (fin_S H j r l).mul (H.a4 _ k)))

theorem fin_ERR (r : Fin 8192) (k : Fin 1024) : Fin' ((refData x0 x1 x2 x3 x4 x5 x6).ERR r k) :=
  (((fin_xhat (fin_R H r) k).mul (H.a5 k)).add (H.a6 k)).sub (H.a1 r k)

theorem fin_DL (r : Fin 8192) (k : Fin 1024) : Fin' ((refData x0 x1 x2 x3 x4 x5 x6).DY r k * (refData x0 x1 x2 x3 x4 x5 x6).lng k) :=
  ((fin_ERR H r k).mul ⟨_, ofBits_inv1024⟩).mul (H.a5 k)

theorem dr (r : Fin 8192) (k : Fin 1024) : (val_main_v97 (F := Ideal) x0 x1 x2 x3 x4 x5 x6) (ix2 r k) = (refData x0 x1 x2 x3 x4 x5 x6).DR r k :=
  (drChain_eq x0 x1 x2 x3 x4 x5 x6 r k).trans (bwdChain_eq (fin_R H r) (fin_DL H r) k)

theorem df (r : Fin 8192) (k : Fin 1024) : (val_main_v99 (F := Ideal) x0 x1 x2 x3 x4 x5 x6) (ix2 r k) = (refData x0 x1 x2 x3 x4 x5 x6).DF r k := by
  pointwise [val_main_v2, val_main_cst_4, val_main_v20, val_main_v21, val_main_v98, val_main_v99]
  rw [dr H]
  rfl

theorem ds (j : Fin 4) (r : Fin 8192) (l : Fin 1024) : (val_main_v105 (F := Ideal) x0 x1 x2 x3 x4 x5 x6) (ix2 r (col j l)) = (refData x0 x1 x2 x3 x4 x5 x6).DS j r l := by
  pointwise [val_main_v105]
  simp only [df H]
  rfl

theorem da (j : Fin 4) (r : Fin 8192) (l : Fin 1024) : (val_main_v108 (F := Ideal) x0 x1 x2 x3 x4 x5 x6) (ix2 r (col j l)) = (refData x0 x1 x2 x3 x4 x5 x6).DA j r l := by
  pointwise [val_main_cst_0, val_main_v11, val_main_v12, val_main_cst_2, val_main_v15, val_main_v16, val_main_v106, val_main_cst_31, val_main_v107, val_main_v108]
  rw [ds H, a_eq x0 x1 x2 x3 x4 x5 x6, z_eq x0 x1 x2 x3 x4 x5 x6]
  exact rect _ _

theorem dh (r : Fin 8192) (k : Fin 1024) : (val_main_v109 (F := Ideal) x0 x1 x2 x3 x4 x5 x6) (ix2 r k) = (refData x0 x1 x2 x3 x4 x5 x6).DH r k := by
  pointwise [val_main_v109]
  rw [sum_hidden]
  simp only [da H]
  rfl

theorem loss : (val_main_v60 (F := Ideal) x0 x1 x2 x3 x4 x5 x6) ix0 = (refData x0 x1 x2 x3 x4 x5 x6).LOSS := by
  pointwise [val_main_v53, val_main_cst_12, val_main_v54, val_main_v55, val_main_cst_13, val_main_v56, val_main_cst_14, val_main_v57, val_main_v58, val_main_cst_15, val_main_v59, val_main_cst_16, val_main_v60]
  simp only [err_eq x0 x1 x2 x3 x4 x5 x6, ofBits_half, ofBits_1024]
  rw [Data.LOSS, ofBits_inv2048]
  exact loss_sum fun r k => (fin_ERR H r k).mul (fin_ERR H r k)

theorem out_dx (r : Fin 8192) (k : Fin 1024) : (val_main_v120 (F := Ideal) x0 x1 x2 x3 x4 x5 x6) (ix2 r k) = (refData x0 x1 x2 x3 x4 x5 x6).DX r k := by
  pointwise [val_main_v1, val_main_cst, val_main_v3, val_main_v4, val_main_cst_30, val_main_v103, val_main_v104, val_main_v115, val_main_v116, val_main_v120]
  rw [dr H, dh H]
  rfl

theorem out_da (j : Fin 4) (r : Fin 8192) (l : Fin 1024) : (val_main_v123 (F := Ideal) x0 x1 x2 x3 x4 x5 x6) (ix3 j r l) = (refData x0 x1 x2 x3 x4 x5 x6).DA j r l := by
  pointwise [val_main_v121, val_main_v122, val_main_v123]
  exact da H j r l

theorem out_df (r : Fin 8192) (k : Fin 1024) : (val_main_v127 (F := Ideal) x0 x1 x2 x3 x4 x5 x6) (ix2 r k) = (refData x0 x1 x2 x3 x4 x5 x6).DF r k := by
  pointwise [val_main_v127]
  exact df H r k

omit H in
theorem out_sq (j : Fin 4) (r : Fin 8192) (l : Fin 1024) : (val_main_v126 (F := Ideal) x0 x2 x3) (ix3 j r l) = (refData x0 x1 x2 x3 x4 x5 x6).S j r l := by
  pointwise [val_main_v124, val_main_v125, val_main_v126]
  exact s_eq x0 x1 x2 x3 x4 x5 x6 j r l

omit H in
theorem out_h (r : Fin 8192) (k : Fin 1024) : (val_main_v128 (F := Ideal) x0 x2) (ix2 r k) = (refData x0 x1 x2 x3 x4 x5 x6).H r k := by
  pointwise [val_main_v128]
  exact h_eq x0 x1 x2 x3 x4 x5 x6 r k

theorem out_rows (q : Fin 8) (k : Fin 1024) :
    (val_main_v119 (F := Ideal) x0 x1 x2 x3 x4 x5 x6) (ix2 q k) = if h : q.val < 5 then ∑ r, (refData x0 x1 x2 x3 x4 x5 x6).term ⟨q.val, by omega⟩ r k else if q.val = 5 then (refData x0 x1 x2 x3 x4 x5 x6).LOSS else 0 := by
  fin_cases q
  · pointwise [val_main_v117, val_main_cst_34, val_main_v118, val_main_v119, val_main_v69, val_main_cst_21, val_main_v70, val_main_v71]
    simp only [xhat_eq x0 x1 x2 x3 x4 x5 x6, dy_eq x0 x1 x2 x3 x4 x5 x6]
    exact Finset.sum_congr rfl fun r _ => mul_comm _ _
  · pointwise [val_main_v117, val_main_cst_34, val_main_v118, val_main_v119, val_main_cst_20, val_main_v67, val_main_v68]
    simp only [dy_eq x0 x1 x2 x3 x4 x5 x6]
    rfl
  · pointwise [val_main_v117, val_main_cst_34, val_main_v118, val_main_v119, val_main_v100, val_main_cst_29, val_main_v101, val_main_v102]
    simp only [dr H, fo_eq x0 x1 x2 x3 x4 x5 x6]
    rfl
  · pointwise [val_main_v117, val_main_cst_34, val_main_v118, val_main_v119, val_main_v112, val_main_cst_33, val_main_v113, val_main_v114]
    simp only [dh H]
    exact Finset.sum_congr rfl fun r _ => mul_comm _ _
  · pointwise [val_main_v117, val_main_cst_34, val_main_v118, val_main_v119, val_main_cst_32, val_main_v110, val_main_v111]
    simp only [dh H]
    rfl
  · pointwise [val_main_v117, val_main_cst_34, val_main_v118, val_main_v119]
    exact loss H
  all_goals
    pointwise [val_main_v117, val_main_cst_34, val_main_v118, val_main_v119]

end
end Cert.Reference2Ideal.Hand
-- ==== Proof.MlpPre.lean ====
module

public import proofs.«01_k».proof.Defs
public import proofs.«01_k».proof.Proof.Gen.Pre_finite2
public import proofs.«01_k».proof.Proof.MlpRefOut
public import Idealize.ShloMosaic.Lib.ReduceAll
public import Idealize.ShloMosaic.Lib.WordCmp

/-! What the second precondition says: every element of every argument is a finite number. -/

@[expose] public section

noncomputable section

namespace Cert.Pre_finite2.Hand

open Idealize.ShloMosaic Cert.Norm Cert.Pre_finite2

/-- A comparison of absolute values with infinity that is true at an index says the element is finite. -/
theorem fin_of_cmp {s : Shape} (a : FVec Ideal s .f32) (b : S_.BroadcastsInDim s (![] : Fin 0 → Fin s.rank)) (i : s.Idx)
    (h : cmpf .olt (Host.absf a) (broadcastInDim s ![] b (constant S_ .f32 0x7F800000#32)) i = 1#1) : Fin' (a i) := by
  change BitVec.ofBool (decide (max (a i) (-a i) < FloatOps.ofBits (F := Ideal) .f32 0x7F800000#32)) = 1#1 at h
  have h1 : max (a i) (-a i) < FloatOps.ofBits (F := Ideal) .f32 0x7F800000#32 := by
    by_contra hn
    rw [decide_eq_false hn] at h
    exact absurd h (by decide)
  have h2 := max_lt_iff.1 (lt_top_of_lt h1)
  refine ⟨(a i).toReal, (EReal.coe_toReal h2.1.ne ?_).symm⟩
  intro hb
  rw [hb] at h2
  exact absurd h2.2 (by simp)

attribute [local instance] Cert.Pre_finite2.Gen.facts

instance : Subsingleton S_.Idx := ⟨fun a b => funext fun d => d.elim0⟩

/-- The precondition gives finite numbers everywhere. -/
theorem finite_of_fn (x0 x1 : FVec Ideal S8192x1024 .f32) (x2 : FVec Ideal S1x6144 .f32) (x3 : FVec Ideal S1024x4096 .f32)
    (x4 : FVec Ideal S4096x1024 .f32) (x5 x6 : FVec Ideal S1x1024 .f32) (j : S_.Idx)
    (h : fn (F := Ideal) x0 x1 x2 x3 x4 x5 x6 j = 1#1) :
    Cert.Reference2Ideal.Hand.Finite x0 x1 x2 x3 x4 x5 x6 := by
  dsimp only [fn, fn_part1, fn_part2] at h
  simp only [show ∀ (x y : IVec S_ 1) (i : S_.Idx), andi x y i = IntOp.andi (x i) (y i) from fun _ _ _ => rfl, IntOp.andi_eq_one] at h
  obtain ⟨⟨⟨⟨⟨⟨⟨-, h0⟩, h1⟩, h2⟩, h3⟩, h4⟩, h5⟩, h6⟩ := h
  exact {
    a0 := fun r k => fin_of_cmp x0 _ _ (Host.reduce_andi_all _ _ _ _ _ h0 _)
    a1 := fun r k => fin_of_cmp x1 _ _ (Host.reduce_andi_all _ _ _ _ _ h1 _)
    a2 := fun k => fin_of_cmp x2 _ _ (Host.reduce_andi_all _ _ _ _ _ h2 _)
    a3 := fun k n => fin_of_cmp x3 _ _ (Host.reduce_andi_all _ _ _ _ _ h3 _)
    a4 := fun n k => fin_of_cmp x4 _ _ (Host.reduce_andi_all _ _ _ _ _ h4 _)
    a5 := fun k => fin_of_cmp x5 _ _ (Host.reduce_andi_all _ _ _ _ _ h5 _)
    a6 := fun k => fin_of_cmp x6 _ _ (Host.reduce_andi_all _ _ _ _ _ h6 _) }

end Cert.Pre_finite2.Hand

end
-- ==== Proof.MlpPoint.lean ====
module

public import proofs.«01_k».proof.Proof.Gen.Kernel2Ideal.Value
public import proofs.«01_k».proof.Proof.Read
public import proofs.«01_k».proof.Proof.MlpSpec
public import Idealize.ShloMosaic.Lib.Pipeline.ValueKit
public import Idealize.ShloMosaic.Lib.Pointwise

@[expose] public section

set_option maxRecDepth 16384

/-!
# What the kernel's body computes at one point

Point `t` works on the row tile `τ = t`. Each lemma reads one value of the body at an index, the blocks being
the rows of the tile and the whole of the parameters.
-/

noncomputable section

namespace Cert.Kernel2Ideal.Hand
open Cert.Kernel2Ideal Cert.Kernel2Ideal.Gen Cert.Kernel2Ideal.Value Idealize.ShloMosaic Idealize.ShloMosaic.TcCoe Idealize.SL.Sem
open Idealize.ShloMosaic.Pipeline (Dat)
open Cert.Norm Cert.Mlp Cert.Read

/-- Row `ρ` of tile `τ`. -/
def row (τ : Fin 32) (ρ : Fin 256) : Fin 8192 := ⟨256 * τ.val + ρ.val, by omega⟩

/-- Row `l` of the eight that lane `x` of the tile holds. -/
def lane (x : Fin 32) (l : Fin 8) : Fin 256 := ⟨x.val * 8 + l.val, by omega⟩

/-- The blocks of a point are the tile's rows and the parameters. -/
structure Blk (D : Data) (τ : Fin 32) (x0 x1 : Vec Ideal S256x1024 .f32) (x2 : Vec Ideal S8x6144 .f32)
    (x3 x4 : Vec Ideal S4x1024x1024 .bf16) (x5 x6 : Vec Ideal S1x1024 .f32) : Prop where
  x : ∀ ρ k, x0 (ix2 ρ k) = D.x (row τ ρ) k
  tg : ∀ ρ k, x1 (ix2 ρ k) = D.tg (row τ ρ) k
  sh : ∀ k : Fin 1024, x2 (ix2 0 ⟨3072 + k.val, by omega⟩) = D.sh k
  sc : ∀ k : Fin 1024, x2 (ix2 0 ⟨4096 + k.val, by omega⟩) = D.sc k
  g : ∀ k : Fin 1024, x2 (ix2 0 ⟨5120 + k.val, by omega⟩) = D.g k
  wi : ∀ j k l, x3 (ix3 j k l) = D.wi j k l
  wo : ∀ j l k, x4 (ix3 j l k) = D.wo j l k
  lng : ∀ k, x5 (ix2 0 k) = D.lng k
  lnb : ∀ k, x6 (ix2 0 k) = D.lnb k

/-- The rows of the modulation, and the parts of a matrix. -/
abbrev ldsh (x2 : Vec Ideal S8x6144 .f32) : Vec Ideal S1x1024 .f32 :=
  View.ld x2 (Rect.unit ![0, 3072] S1x1024.size inb_S8x6144_S1x1024_0_3072)
abbrev ldsc (x2 : Vec Ideal S8x6144 .f32) : Vec Ideal S1x1024 .f32 :=
  View.ld x2 (Rect.unit ![0, 4096] S1x1024.size inb_S8x6144_S1x1024_0_4096)
abbrev ldg (x2 : Vec Ideal S8x6144 .f32) : Vec Ideal S1x1024 .f32 :=
  View.ld x2 (Rect.unit ![0, 5120] S1x1024.size inb_S8x6144_S1x1024_0_5120)
abbrev ldw0 (w : Vec Ideal S4x1024x1024 .bf16) : Vec Ideal S1x1024x1024 .bf16 :=
  View.ld w (Rect.unit ![0, 0, 0] S1x1024x1024.size inb_S4x1024x1024_S1x1024x1024_0_0_0)
abbrev ldw1 (w : Vec Ideal S4x1024x1024 .bf16) : Vec Ideal S1x1024x1024 .bf16 :=
  View.ld w (Rect.unit ![1, 0, 0] S1x1024x1024.size inb_S4x1024x1024_S1x1024x1024_1_0_0)
abbrev ldw2 (w : Vec Ideal S4x1024x1024 .bf16) : Vec Ideal S1x1024x1024 .bf16 :=
  View.ld w (Rect.unit ![2, 0, 0] S1x1024x1024.size inb_S4x1024x1024_S1x1024x1024_2_0_0)
abbrev ldw3 (w : Vec Ideal S4x1024x1024 .bf16) : Vec Ideal S1x1024x1024 .bf16 :=
  View.ld w (Rect.unit ![3, 0, 0] S1x1024x1024.size inb_S4x1024x1024_S1x1024x1024_3_0_0)

/-- The values the body names, in the order it computes them. -/
abbrev h2 (x0 : Vec Ideal S256x1024 .f32) (x2 : Vec Ideal S8x6144 .f32) : FVec Ideal S256x1024 .bf16 :=
  k0_pay12 x0 (ldsh x2) (ldsc x2)
abbrev s0 (x0 : Vec Ideal S256x1024 .f32) (x2 : Vec Ideal S8x6144 .f32) (x3 : Vec Ideal S4x1024x1024 .bf16) : FVec Ideal S256x1024 .bf16 :=
  k0_pay16 x0 (ldsh x2) (ldsc x2) (ldw0 x3)
abbrev a1 (x0 : Vec Ideal S256x1024 .f32) (x2 : Vec Ideal S8x6144 .f32) (x3 : Vec Ideal S4x1024x1024 .bf16) : FVec Ideal S256x1024 .f32 :=
  k0_pay18 (h2 x0 x2) (ldw1 x3)
abbrev a2 (x0 : Vec Ideal S256x1024 .f32) (x2 : Vec Ideal S8x6144 .f32) (x3 : Vec Ideal S4x1024x1024 .bf16) : FVec Ideal S256x1024 .f32 :=
  k0_pay23 (h2 x0 x2) (ldw2 x3)
abbrev a3 (x0 : Vec Ideal S256x1024 .f32) (x2 : Vec Ideal S8x6144 .f32) (x3 : Vec Ideal S4x1024x1024 .bf16) : FVec Ideal S256x1024 .f32 :=
  k0_pay27 (h2 x0 x2) (ldw3 x3)
abbrev f01 (x0 : Vec Ideal S256x1024 .f32) (x2 : Vec Ideal S8x6144 .f32) (x3 : Vec Ideal S4x1024x1024 .bf16) (x4 : Vec Ideal S4x1024x1024 .bf16) : FVec Ideal S256x1024 .f32 :=
  k0_pay22 (h2 x0 x2) k0_pay13 (s0 x0 x2 x3) (ldw0 x4) (ldw1 x3) (ldw1 x4)
abbrev fo (x0 : Vec Ideal S256x1024 .f32) (x2 : Vec Ideal S8x6144 .f32) (x3 : Vec Ideal S4x1024x1024 .bf16) (x4 : Vec Ideal S4x1024x1024 .bf16) : FVec Ideal S256x1024 .f32 :=
  k0_pay31 (h2 x0 x2) (f01 x0 x2 x3 x4) (a2 x0 x2 x3) (ldw2 x4) (ldw3 x3) (ldw3 x4)
abbrev gf (x0 : Vec Ideal S256x1024 .f32) (x2 : Vec Ideal S8x6144 .f32) (x3 : Vec Ideal S4x1024x1024 .bf16) (x4 : Vec Ideal S4x1024x1024 .bf16) : FVec Ideal S256x1024 .f32 :=
  k0_pay33 (k0_pay11 (ldg x2)) (h2 x0 x2) (f01 x0 x2 x3 x4) (a2 x0 x2 x3) (ldw2 x4) (ldw3 x3) (ldw3 x4)
abbrev xh (x0 : Vec Ideal S256x1024 .f32) (x2 : Vec Ideal S8x6144 .f32) (x3 : Vec Ideal S4x1024x1024 .bf16) (x4 : Vec Ideal S4x1024x1024 .bf16) : FVec Ideal S256x1024 .f32 :=
  k0_pay36 (k0_pay32 x0) (gf x0 x2 x3 x4)
abbrev er (x0 : Vec Ideal S256x1024 .f32) (x1 : Vec Ideal S256x1024 .f32) (x2 : Vec Ideal S8x6144 .f32) (x3 : Vec Ideal S4x1024x1024 .bf16) (x4 : Vec Ideal S4x1024x1024 .bf16) (x5 : Vec Ideal S1x1024 .f32) (x6 : Vec Ideal S1x1024 .f32) : FVec Ideal S256x1024 .f32 :=
  k0_pay37 (k0_pay32 x0) (gf x0 x2 x3 x4) x5 x6 x1
abbrev dy (x0 : Vec Ideal S256x1024 .f32) (x1 : Vec Ideal S256x1024 .f32) (x2 : Vec Ideal S8x6144 .f32) (x3 : Vec Ideal S4x1024x1024 .bf16) (x4 : Vec Ideal S4x1024x1024 .bf16) (x5 : Vec Ideal S1x1024 .f32) (x6 : Vec Ideal S1x1024 .f32) : FVec Ideal S256x1024 .f32 :=
  k0_pay38 (k0_pay32 x0) (gf x0 x2 x3 x4) x5 x6 x1
abbrev dd (x0 : Vec Ideal S256x1024 .f32) (x1 : Vec Ideal S256x1024 .f32) (x2 : Vec Ideal S8x6144 .f32) (x3 : Vec Ideal S4x1024x1024 .bf16) (x4 : Vec Ideal S4x1024x1024 .bf16) (x5 : Vec Ideal S1x1024 .f32) (x6 : Vec Ideal S1x1024 .f32) : FVec Ideal S256x1024 .f32 :=
  k0_pay39 (k0_pay32 x0) (gf x0 x2 x3 x4) x5 x6 x1
abbrev rs (x0 : Vec Ideal S256x1024 .f32) (x2 : Vec Ideal S8x6144 .f32) (x3 : Vec Ideal S4x1024x1024 .bf16) (x4 : Vec Ideal S4x1024x1024 .bf16) : FVec Ideal S256x1024 .f32 :=
  k0_pay40 (k0_pay32 x0) (gf x0 x2 x3 x4)
abbrev dr (x0 : Vec Ideal S256x1024 .f32) (x1 : Vec Ideal S256x1024 .f32) (x2 : Vec Ideal S8x6144 .f32) (x3 : Vec Ideal S4x1024x1024 .bf16) (x4 : Vec Ideal S4x1024x1024 .bf16) (x5 : Vec Ideal S1x1024 .f32) (x6 : Vec Ideal S1x1024 .f32) : FVec Ideal S256x1024 .f32 :=
  k0_pay41 (dd x0 x1 x2 x3 x4 x5 x6) (rs x0 x2 x3 x4)
abbrev df (x0 : Vec Ideal S256x1024 .f32) (x1 : Vec Ideal S256x1024 .f32) (x2 : Vec Ideal S8x6144 .f32) (x3 : Vec Ideal S4x1024x1024 .bf16) (x4 : Vec Ideal S4x1024x1024 .bf16) (x5 : Vec Ideal S1x1024 .f32) (x6 : Vec Ideal S1x1024 .f32) : FVec Ideal S256x1024 .bf16 :=
  k0_pay42 (k0_pay11 (ldg x2)) (dd x0 x1 x2 x3 x4 x5 x6) (rs x0 x2 x3 x4)
abbrev da0 (x0 : Vec Ideal S256x1024 .f32) (x1 : Vec Ideal S256x1024 .f32) (x2 : Vec Ideal S8x6144 .f32) (x3 : Vec Ideal S4x1024x1024 .bf16) (x4 : Vec Ideal S4x1024x1024 .bf16) (x5 : Vec Ideal S1x1024 .f32) (x6 : Vec Ideal S1x1024 .f32) (r0 : Vec Ideal S1x256x1024 .f32) : FVec Ideal S256x1024 .bf16 :=
  k0_pay43 (k0_pay11 (ldg x2)) (dd x0 x1 x2 x3 x4 x5 x6) (rs x0 x2 x3 x4) (ldw0 x4) r0
abbrev dh0 (x0 : Vec Ideal S256x1024 .f32) (x1 : Vec Ideal S256x1024 .f32) (x2 : Vec Ideal S8x6144 .f32) (x3 : Vec Ideal S4x1024x1024 .bf16) (x4 : Vec Ideal S4x1024x1024 .bf16) (x5 : Vec Ideal S1x1024 .f32) (x6 : Vec Ideal S1x1024 .f32) (r0 : Vec Ideal S1x256x1024 .f32) : FVec Ideal S256x1024 .f32 :=
  k0_pay45 (k0_pay11 (ldg x2)) (dd x0 x1 x2 x3 x4 x5 x6) (rs x0 x2 x3 x4) (ldw0 x4) r0 (ldw0 x3)
abbrev ds1 (x0 : Vec Ideal S256x1024 .f32) (x1 : Vec Ideal S256x1024 .f32) (x2 : Vec Ideal S8x6144 .f32) (x3 : Vec Ideal S4x1024x1024 .bf16) (x4 : Vec Ideal S4x1024x1024 .bf16) (x5 : Vec Ideal S1x1024 .f32) (x6 : Vec Ideal S1x1024 .f32) : FVec Ideal S256x1024 .f32 :=
  k0_pay46 (k0_pay11 (ldg x2)) (dd x0 x1 x2 x3 x4 x5 x6) (rs x0 x2 x3 x4) (ldw1 x4)
abbrev da2 (x0 : Vec Ideal S256x1024 .f32) (x1 : Vec Ideal S256x1024 .f32) (x2 : Vec Ideal S8x6144 .f32) (x3 : Vec Ideal S4x1024x1024 .bf16) (x4 : Vec Ideal S4x1024x1024 .bf16) (x5 : Vec Ideal S1x1024 .f32) (x6 : Vec Ideal S1x1024 .f32) (r2 : Vec Ideal S1x256x1024 .f32) : FVec Ideal S256x1024 .bf16 :=
  k0_pay50 (df x0 x1 x2 x3 x4 x5 x6) (ldw2 x4) r2
abbrev dh012 (x0 : Vec Ideal S256x1024 .f32) (x1 : Vec Ideal S256x1024 .f32) (x2 : Vec Ideal S8x6144 .f32) (x3 : Vec Ideal S4x1024x1024 .bf16) (x4 : Vec Ideal S4x1024x1024 .bf16) (x5 : Vec Ideal S1x1024 .f32) (x6 : Vec Ideal S1x1024 .f32) (r0 : Vec Ideal S1x256x1024 .f32) (r1 : Vec Ideal S1x256x1024 .f32) (r2 : Vec Ideal S1x256x1024 .f32) : FVec Ideal S256x1024 .f32 :=
  k0_pay52 (df x0 x1 x2 x3 x4 x5 x6) (dh0 x0 x1 x2 x3 x4 x5 x6 r0) (ds1 x0 x1 x2 x3 x4 x5 x6) (k0_pay47 r1) (ldw1 x3) (ldw2 x4) r2 (ldw2 x3)
abbrev ds3 (x0 : Vec Ideal S256x1024 .f32) (x1 : Vec Ideal S256x1024 .f32) (x2 : Vec Ideal S8x6144 .f32) (x3 : Vec Ideal S4x1024x1024 .bf16) (x4 : Vec Ideal S4x1024x1024 .bf16) (x5 : Vec Ideal S1x1024 .f32) (x6 : Vec Ideal S1x1024 .f32) : FVec Ideal S256x1024 .f32 :=
  k0_pay53 (df x0 x1 x2 x3 x4 x5 x6) (ldw3 x4)
abbrev dh (x0 : Vec Ideal S256x1024 .f32) (x1 : Vec Ideal S256x1024 .f32) (x2 : Vec Ideal S8x6144 .f32) (x3 : Vec Ideal S4x1024x1024 .bf16) (x4 : Vec Ideal S4x1024x1024 .bf16) (x5 : Vec Ideal S1x1024 .f32) (x6 : Vec Ideal S1x1024 .f32) (r0 : Vec Ideal S1x256x1024 .f32) (r1 : Vec Ideal S1x256x1024 .f32) (r2 : Vec Ideal S1x256x1024 .f32) (r3 : Vec Ideal S1x256x1024 .f32) : FVec Ideal S256x1024 .f32 :=
  k0_pay56 (dh012 x0 x1 x2 x3 x4 x5 x6 r0 r1 r2) (ds3 x0 x1 x2 x3 x4 x5 x6) r3 (ldw3 x3)
abbrev dx (x0 : Vec Ideal S256x1024 .f32) (x1 : Vec Ideal S256x1024 .f32) (x2 : Vec Ideal S8x6144 .f32) (x3 : Vec Ideal S4x1024x1024 .bf16) (x4 : Vec Ideal S4x1024x1024 .bf16) (x5 : Vec Ideal S1x1024 .f32) (x6 : Vec Ideal S1x1024 .f32) (r0 : Vec Ideal S1x256x1024 .f32) (r1 : Vec Ideal S1x256x1024 .f32) (r2 : Vec Ideal S1x256x1024 .f32) (r3 : Vec Ideal S1x256x1024 .f32) : FVec Ideal S256x1024 .f32 :=
  k0_pay57 (k0_pay10 (ldsc x2)) (dr x0 x1 x2 x3 x4 x5 x6) (dh012 x0 x1 x2 x3 x4 x5 x6 r0 r1 r2) (ds3 x0 x1 x2 x3 x4 x5 x6) r3 (ldw3 x3)

section Tile
variable {D : Data} {τ : Fin 32} {x0 x1 : Vec Ideal S256x1024 .f32} {x2 : Vec Ideal S8x6144 .f32}
    {x3 x4 : Vec Ideal S4x1024x1024 .bf16} {x5 x6 : Vec Ideal S1x1024 .f32} (hB : Blk D τ x0 x1 x2 x3 x4 x5 x6)

include hB

theorem ldsh_eq (k : Fin 1024) : ldsh x2 (ix2 0 k) = D.sh k := (ld2 x2 _ 0 k).trans (hB.sh k)
theorem ldsc_eq (k : Fin 1024) : ldsc x2 (ix2 0 k) = D.sc k := (ld2 x2 _ 0 k).trans (hB.sc k)
theorem ldg_eq (k : Fin 1024) : ldg x2 (ix2 0 k) = D.g k := (ld2 x2 _ 0 k).trans (hB.g k)
theorem ldwi0_eq (k l : Fin 1024) : ldw0 x3 (ix3 0 k l) = D.wi 0 k l :=
  (ld3 x3 _ 0 k l).trans ((congrArg x3 (by congr 1 <;> exact Fin.ext (Nat.zero_add _))).trans (hB.wi 0 k l))
theorem ldwo0_eq (k l : Fin 1024) : ldw0 x4 (ix3 0 k l) = D.wo 0 k l :=
  (ld3 x4 _ 0 k l).trans ((congrArg x4 (by congr 1 <;> exact Fin.ext (Nat.zero_add _))).trans (hB.wo 0 k l))
theorem ldwi1_eq (k l : Fin 1024) : ldw1 x3 (ix3 0 k l) = D.wi 1 k l :=
  (ld3 x3 _ 0 k l).trans ((congrArg x3 (by congr 1 <;> exact Fin.ext (Nat.zero_add _))).trans (hB.wi 1 k l))
theorem ldwo1_eq (k l : Fin 1024) : ldw1 x4 (ix3 0 k l) = D.wo 1 k l :=
  (ld3 x4 _ 0 k l).trans ((congrArg x4 (by congr 1 <;> exact Fin.ext (Nat.zero_add _))).trans (hB.wo 1 k l))
theorem ldwi2_eq (k l : Fin 1024) : ldw2 x3 (ix3 0 k l) = D.wi 2 k l :=
  (ld3 x3 _ 0 k l).trans ((congrArg x3 (by congr 1 <;> exact Fin.ext (Nat.zero_add _))).trans (hB.wi 2 k l))
theorem ldwo2_eq (k l : Fin 1024) : ldw2 x4 (ix3 0 k l) = D.wo 2 k l :=
  (ld3 x4 _ 0 k l).trans ((congrArg x4 (by congr 1 <;> exact Fin.ext (Nat.zero_add _))).trans (hB.wo 2 k l))
theorem ldwi3_eq (k l : Fin 1024) : ldw3 x3 (ix3 0 k l) = D.wi 3 k l :=
  (ld3 x3 _ 0 k l).trans ((congrArg x3 (by congr 1 <;> exact Fin.ext (Nat.zero_add _))).trans (hB.wi 3 k l))
theorem ldwo3_eq (k l : Fin 1024) : ldw3 x4 (ix3 0 k l) = D.wo 3 k l :=
  (ld3 x4 _ 0 k l).trans ((congrArg x4 (by congr 1 <;> exact Fin.ext (Nat.zero_add _))).trans (hB.wo 3 k l))

theorem h2_eq (ρ : Fin 256) (k : Fin 1024) : h2 x0 x2 (ix2 ρ k) = D.H (row τ ρ) k := by
  pointwise [h2, k0_pay12, k0_pay10]
  simp only [hB.x, ldsh_eq hB, ldsc_eq hB]
  rfl

theorem a0_eq (ρ : Fin 256) (k : Fin 1024) : k0_pay14 x0 (ldsh x2) (ldsc x2) (ldw0 x3) (ix2 ρ k) = D.A 0 (row τ ρ) k := by
  pointwise [k0_pay14]
  simp only [h2_eq hB, ldwi0_eq hB]
  rfl

theorem a1_eq (ρ : Fin 256) (k : Fin 1024) : a1 x0 x2 x3 (ix2 ρ k) = D.A 1 (row τ ρ) k := by
  pointwise [a1, k0_pay18]
  simp only [h2_eq hB, ldwi1_eq hB]
  rfl

theorem a2_eq (ρ : Fin 256) (k : Fin 1024) : a2 x0 x2 x3 (ix2 ρ k) = D.A 2 (row τ ρ) k := by
  pointwise [a2, k0_pay23]
  simp only [h2_eq hB, ldwi2_eq hB]
  rfl

theorem a3_eq (ρ : Fin 256) (k : Fin 1024) : a3 x0 x2 x3 (ix2 ρ k) = D.A 3 (row τ ρ) k := by
  pointwise [a3, k0_pay27]
  simp only [h2_eq hB, ldwi3_eq hB]
  rfl

theorem s0_eq (ρ : Fin 256) (k : Fin 1024) : s0 x0 x2 x3 (ix2 ρ k) = D.S 0 (row τ ρ) k := by
  pointwise [s0, k0_pay16]
  simp only [a0_eq hB]
  rfl

theorem s1_eq (ρ : Fin 256) (k : Fin 1024) : k0_pay20 (h2 x0 x2) (ldw1 x3) (ix2 ρ k) = D.S 1 (row τ ρ) k := by
  pointwise [k0_pay20]
  simp only [a1_eq hB]
  rfl

theorem s2_eq (ρ : Fin 256) (k : Fin 1024) : k0_pay25 (a2 x0 x2 x3) (ix2 ρ k) = D.S 2 (row τ ρ) k := by
  pointwise [k0_pay25]
  simp only [a2_eq hB]
  rfl

theorem s3_eq (ρ : Fin 256) (k : Fin 1024) : k0_pay29 (h2 x0 x2) (ldw3 x3) (ix2 ρ k) = D.S 3 (row τ ρ) k := by
  pointwise [k0_pay29]
  simp only [a3_eq hB]
  rfl

theorem f01_eq (ρ : Fin 256) (k : Fin 1024) : f01 x0 x2 x3 x4 (ix2 ρ k) = (∑ l, D.S 0 (row τ ρ) l * D.wo 0 l k) + ∑ l, D.S 1 (row τ ρ) l * D.wo 1 l k := by
  pointwise [f01, k0_pay22, k0_pay13]
  simp only [s0_eq hB, s1_eq hB, ldwo0_eq hB, ldwo1_eq hB, zero_add]

theorem fo_eq (ρ : Fin 256) (k : Fin 1024) : fo x0 x2 x3 x4 (ix2 ρ k) = D.FO (row τ ρ) k := by
  pointwise [fo, k0_pay31]
  simp only [f01_eq hB, s2_eq hB, s3_eq hB, ldwo2_eq hB, ldwo3_eq hB]
  rfl

theorem cen_eq (ρ : Fin 256) (k : Fin 1024) : k0_pay34 (k0_pay32 x0) (gf x0 x2 x3 x4) (ix2 ρ k) = cen (D.R (row τ ρ)) k := by
  pointwise [k0_pay34, k0_pay32, gf, k0_pay33, k0_pay11]
  simp only [hB.x, ldg_eq hB, fo_eq hB]
  rfl

theorem rstd_eq (ρ : Fin 256) : k0_pay35 (k0_pay32 x0) (gf x0 x2 x3 x4) (ix2 ρ 0) = rstd (D.R (row τ ρ)) := by
  pointwise [k0_pay35]
  simp only [cen_eq hB]
  rfl

theorem xh_eq (ρ : Fin 256) (k : Fin 1024) : xh x0 x2 x3 x4 (ix2 ρ k) = D.XH (row τ ρ) k := by
  pointwise [xh, k0_pay36]
  simp only [cen_eq hB, rstd_eq hB]
  rfl

theorem er_eq (ρ : Fin 256) (k : Fin 1024) : er x0 x1 x2 x3 x4 x5 x6 (ix2 ρ k) = D.ERR (row τ ρ) k := by
  pointwise [er, k0_pay37]
  simp only [xh_eq hB, hB.lng, hB.lnb, hB.tg]
  rfl

theorem dy_eq (ρ : Fin 256) (k : Fin 1024) : dy x0 x1 x2 x3 x4 x5 x6 (ix2 ρ k) = D.DY (row τ ρ) k := by
  pointwise [dy, k0_pay38]
  simp only [er_eq hB]
  rfl

theorem dr_eq (ρ : Fin 256) (k : Fin 1024) : dr x0 x1 x2 x3 x4 x5 x6 (ix2 ρ k) = D.DR (row τ ρ) k := by
  pointwise [dr, k0_pay41, dd, k0_pay39, rs, k0_pay40]
  simp only [xh_eq hB, dy_eq hB, rstd_eq hB, hB.lng]
  rfl

theorem df_eq (ρ : Fin 256) (k : Fin 1024) : df x0 x1 x2 x3 x4 x5 x6 (ix2 ρ k) = D.DF (row τ ρ) k := by
  pointwise [df, k0_pay42, k0_pay11]
  simp only [dr_eq hB, ldg_eq hB]
  rfl

theorem ds1_eq (ρ : Fin 256) (k : Fin 1024) : ds1 x0 x1 x2 x3 x4 x5 x6 (ix2 ρ k) = D.DS 1 (row τ ρ) k := by
  pointwise [ds1, k0_pay46]
  simp only [df_eq hB, ldwo1_eq hB]
  rfl

theorem ds3_eq (ρ : Fin 256) (k : Fin 1024) : ds3 x0 x1 x2 x3 x4 x5 x6 (ix2 ρ k) = D.DS 3 (row τ ρ) k := by
  pointwise [ds3, k0_pay53]
  simp only [df_eq hB, ldwo3_eq hB]
  rfl

section Hidden
variable {r0 r1 r2 r3 : Vec Ideal S1x256x1024 .f32} (h0 : ∀ ρ l, r0 (ix3 0 ρ l) = D.A 0 (row τ ρ) l)
  (h1 : ∀ ρ l, r1 (ix3 0 ρ l) = D.A 1 (row τ ρ) l) (h2' : ∀ ρ l, r2 (ix3 0 ρ l) = D.A 2 (row τ ρ) l)
  (h3 : ∀ ρ l, r3 (ix3 0 ρ l) = D.A 3 (row τ ρ) l)

include h0

theorem da0_eq (ρ : Fin 256) (k : Fin 1024) : da0 x0 x1 x2 x3 x4 x5 x6 r0 (ix2 ρ k) = D.DA 0 (row τ ρ) k := by
  pointwise [da0, k0_pay43]
  simp only [df_eq hB, ldwo0_eq hB, h0]
  rfl

theorem dh0_eq (ρ : Fin 256) (k : Fin 1024) : dh0 x0 x1 x2 x3 x4 x5 x6 r0 (ix2 ρ k) = ∑ l, D.DA 0 (row τ ρ) l * D.wi 0 k l := by
  pointwise [dh0, k0_pay45]
  simp only [da0_eq hB h0, ldwi0_eq hB, zero_add]

omit h0
include h1

theorem da1_eq (ρ : Fin 256) (k : Fin 1024) : k0_pay48 (ds1 x0 x1 x2 x3 x4 x5 x6) (k0_pay47 r1) (ix2 ρ k) = D.DA 1 (row τ ρ) k := by
  pointwise [k0_pay48, k0_pay47]
  simp only [ds1_eq hB, h1]
  rfl

omit h1
include h2'

theorem da2_eq (ρ : Fin 256) (k : Fin 1024) : da2 x0 x1 x2 x3 x4 x5 x6 r2 (ix2 ρ k) = D.DA 2 (row τ ρ) k := by
  pointwise [da2, k0_pay50]
  simp only [df_eq hB, ldwo2_eq hB, h2']
  rfl

omit h2'
include h3

theorem da3_eq (ρ : Fin 256) (k : Fin 1024) : k0_pay54 (ds3 x0 x1 x2 x3 x4 x5 x6) r3 (ix2 ρ k) = D.DA 3 (row τ ρ) k := by
  pointwise [k0_pay54]
  simp only [ds3_eq hB, h3]
  rfl

include h0 h1 h2'

theorem dh_eq (ρ : Fin 256) (k : Fin 1024) : dh x0 x1 x2 x3 x4 x5 x6 r0 r1 r2 r3 (ix2 ρ k) = D.DH (row τ ρ) k := by
  pointwise [dh, k0_pay56, dh012, k0_pay52]
  simp only [dh0_eq hB h0, da1_eq hB h1, da2_eq hB h2', da3_eq hB h3, ldwi1_eq hB, ldwi2_eq hB, ldwi3_eq hB]
  rfl

theorem dx_eq (ρ : Fin 256) (k : Fin 1024) : dx x0 x1 x2 x3 x4 x5 x6 r0 r1 r2 r3 (ix2 ρ k) = D.DX (row τ ρ) k := by
  pointwise [dx, k0_pay57, k0_pay10]
  simp only [dr_eq hB, dh_eq hB h0 h1 h2' h3, ldsc_eq hB]
  rfl

theorem acc3_eq (a : Vec Ideal S1x8x1024 .f32) (l : Fin 8) (k : Fin 1024) : k0_pay62 x0 (dh x0 x1 x2 x3 x4 x5 x6 r0 r1 r2 r3) a (ix3 0 l k) = a (ix3 0 l k) + ∑ x, D.term 3 (row τ (lane x l)) k := by
  pointwise [k0_pay62]
  simp only [dh_eq hB h0 h1 h2' h3, hB.x]
  rfl

theorem acc4_eq (a : Vec Ideal S1x8x1024 .f32) (l : Fin 8) (k : Fin 1024) : k0_pay63 (dh x0 x1 x2 x3 x4 x5 x6 r0 r1 r2 r3) a (ix3 0 l k) = a (ix3 0 l k) + ∑ x, D.term 4 (row τ (lane x l)) k := by
  pointwise [k0_pay63]
  simp only [dh_eq hB h0 h1 h2' h3]
  rfl

end Hidden

theorem acc0_eq (a : Vec Ideal S1x8x1024 .f32) (l : Fin 8) (k : Fin 1024) : k0_pay58 (xh x0 x2 x3 x4) (dy x0 x1 x2 x3 x4 x5 x6) a (ix3 0 l k) = a (ix3 0 l k) + ∑ x, D.term 0 (row τ (lane x l)) k := by
  pointwise [k0_pay58]
  simp only [xh_eq hB, dy_eq hB]
  rfl

theorem acc1_eq (a : Vec Ideal S1x8x1024 .f32) (l : Fin 8) (k : Fin 1024) : k0_pay60 (k0_pay59 (dy x0 x1 x2 x3 x4 x5 x6) a) (ix3 0 l k) = a (ix3 0 l k) + ∑ x, D.term 1 (row τ (lane x l)) k := by
  pointwise [k0_pay60, k0_pay59]
  simp only [dy_eq hB]
  rfl

theorem acc2_eq (a : Vec Ideal S1x8x1024 .f32) (l : Fin 8) (k : Fin 1024) : k0_pay61 (fo x0 x2 x3 x4) (dr x0 x1 x2 x3 x4 x5 x6) a (ix3 0 l k) = a (ix3 0 l k) + ∑ x, D.term 2 (row τ (lane x l)) k := by
  pointwise [k0_pay61]
  simp only [fo_eq hB, dr_eq hB]
  rfl

theorem acc5_eq (a : Vec Ideal S1x8x1024 .f32) (l : Fin 8) (k : Fin 1024) : k0_pay1 (er x0 x1 x2 x3 x4 x5 x6) a (ix3 0 l k) = a (ix3 0 l k) + ∑ x, D.term 5 (row τ (lane x l)) k := by
  pointwise [k0_pay1]
  simp only [er_eq hB]
  rfl

end Tile

/-! The last point sums the eight rows of each accumulator. -/

theorem sum0_eq (a : Vec Ideal S1x8x1024 .f32) (k : Fin 1024) : k0_pay4 a (ix2 0 k) = ∑ l, a (ix3 0 l k) := by
  pointwise [k0_pay4]

theorem sum1_eq (a : Vec Ideal S1x8x1024 .f32) (k : Fin 1024) : k0_pay5 a (ix2 0 k) = ∑ l, a (ix3 0 l k) := by
  pointwise [k0_pay5]

theorem sum2_eq (a : Vec Ideal S1x8x1024 .f32) (k : Fin 1024) : k0_pay6 a (ix2 0 k) = ∑ l, a (ix3 0 l k) := by
  pointwise [k0_pay6]

theorem sum3_eq (a : Vec Ideal S1x8x1024 .f32) (k : Fin 1024) : k0_pay7 a (ix2 0 k) = ∑ l, a (ix3 0 l k) := by
  pointwise [k0_pay7]

theorem sum4_eq (a : Vec Ideal S1x8x1024 .f32) (k : Fin 1024) : k0_pay8 a (ix2 0 k) = ∑ l, a (ix3 0 l k) := by
  pointwise [k0_pay8]

theorem loss_eq (a : Vec Ideal S1x8x1024 .f32) (k : Fin 1024) :
    k0_pay2 a (ix2 0 k) = (∑ l, ∑ k', a (ix3 0 l k')) * Ideal.ofBits .f32 0x3A000000#32 := by
  pointwise [k0_pay2]

theorem zeros_eq (i : Fin 2) (k : Fin 1024) : k0_pay3 (F := Ideal) (ix2 i k) = 0 := by
  pointwise [k0_pay3]

theorem start_eq (q : Fin 6) (l : Fin 8) (k : Fin 1024) : k0_pay9 (F := Ideal) (ix3 q l k) = 0 := by
  pointwise [k0_pay9]

/-! ### The buffers of four parts: each part is stored once and read back -/

/-- The stores of the rectified hidden values. -/
abbrev reluL (x0 : Vec Ideal S256x1024 .f32) (x2 : Vec Ideal S8x6144 .f32) (x3 : Vec Ideal S4x1024x1024 .bf16) : List (View.Piece (Elt Ideal) S4x256x1024 .f32) :=
  [⟨Rect.unit ![3, 0, 0] S1x256x1024.size inb_S4x256x1024_S1x256x1024_3_0_0, k0_pay28 (h2 x0 x2) (ldw3 x3)⟩,
   ⟨Rect.unit ![2, 0, 0] S1x256x1024.size inb_S4x256x1024_S1x256x1024_2_0_0, k0_pay24 (h2 x0 x2) (ldw2 x3)⟩,
   ⟨Rect.unit ![1, 0, 0] S1x256x1024.size inb_S4x256x1024_S1x256x1024_1_0_0, k0_pay19 (h2 x0 x2) (ldw1 x3)⟩,
   ⟨Rect.unit ![0, 0, 0] S1x256x1024.size inb_S4x256x1024_S1x256x1024_0_0_0, k0_pay15 x0 (ldsh x2) (ldsc x2) (ldw0 x3)⟩]

/-- The stores of their squares. -/
abbrev sqL (x0 : Vec Ideal S256x1024 .f32) (x2 : Vec Ideal S8x6144 .f32) (x3 : Vec Ideal S4x1024x1024 .bf16) : List (View.Piece (Elt Ideal) S4x256x1024 .bf16) :=
  [⟨Rect.unit ![3, 0, 0] S1x256x1024.size inb_S4x256x1024_S1x256x1024_3_0_0, k0_pay30 (h2 x0 x2) (ldw3 x3)⟩,
   ⟨Rect.unit ![2, 0, 0] S1x256x1024.size inb_S4x256x1024_S1x256x1024_2_0_0, k0_pay26 (a2 x0 x2 x3)⟩,
   ⟨Rect.unit ![1, 0, 0] S1x256x1024.size inb_S4x256x1024_S1x256x1024_1_0_0, k0_pay21 (h2 x0 x2) (ldw1 x3)⟩,
   ⟨Rect.unit ![0, 0, 0] S1x256x1024.size inb_S4x256x1024_S1x256x1024_0_0_0, k0_pay17 (s0 x0 x2 x3)⟩]

/-- The stores of the hidden values' gradients. -/
abbrev daL (x0 : Vec Ideal S256x1024 .f32) (x1 : Vec Ideal S256x1024 .f32) (x2 : Vec Ideal S8x6144 .f32) (x3 : Vec Ideal S4x1024x1024 .bf16) (x4 : Vec Ideal S4x1024x1024 .bf16) (x5 : Vec Ideal S1x1024 .f32) (x6 : Vec Ideal S1x1024 .f32) (r0 : Vec Ideal S1x256x1024 .f32) (r1 : Vec Ideal S1x256x1024 .f32) (r2 : Vec Ideal S1x256x1024 .f32) (r3 : Vec Ideal S1x256x1024 .f32) : List (View.Piece (Elt Ideal) S4x256x1024 .bf16) :=
  [⟨Rect.unit ![3, 0, 0] S1x256x1024.size inb_S4x256x1024_S1x256x1024_3_0_0, k0_pay55 (ds3 x0 x1 x2 x3 x4 x5 x6) r3⟩,
   ⟨Rect.unit ![2, 0, 0] S1x256x1024.size inb_S4x256x1024_S1x256x1024_2_0_0, k0_pay51 (df x0 x1 x2 x3 x4 x5 x6) (ldw2 x4) r2⟩,
   ⟨Rect.unit ![1, 0, 0] S1x256x1024.size inb_S4x256x1024_S1x256x1024_1_0_0, k0_pay49 (ds1 x0 x1 x2 x3 x4 x5 x6) (k0_pay47 r1)⟩,
   ⟨Rect.unit ![0, 0, 0] S1x256x1024.size inb_S4x256x1024_S1x256x1024_0_0_0, k0_pay44 (k0_pay11 (ldg x2)) (dd x0 x1 x2 x3 x4 x5 x6) (rs x0 x2 x3 x4) (ldw0 x4) r0⟩]

/-- The stores of the six accumulators, over what was there. -/
abbrev accL (x0 : Vec Ideal S256x1024 .f32) (x1 : Vec Ideal S256x1024 .f32) (x2 : Vec Ideal S8x6144 .f32) (x3 : Vec Ideal S4x1024x1024 .bf16) (x4 : Vec Ideal S4x1024x1024 .bf16) (x5 : Vec Ideal S1x1024 .f32) (x6 : Vec Ideal S1x1024 .f32) (r0 : Vec Ideal S1x256x1024 .f32) (r1 : Vec Ideal S1x256x1024 .f32) (r2 : Vec Ideal S1x256x1024 .f32) (r3 : Vec Ideal S1x256x1024 .f32) (a0 a1 a2 a3 a4 a5 : Vec Ideal S1x8x1024 .f32)
    (L : List (View.Piece (Elt Ideal) S6x8x1024 .f32)) : List (View.Piece (Elt Ideal) S6x8x1024 .f32) :=
  ⟨Rect.unit ![5, 0, 0] S1x8x1024.size inb_S6x8x1024_S1x8x1024_5_0_0, k0_pay1 (er x0 x1 x2 x3 x4 x5 x6) a5⟩ ::
  ⟨Rect.unit ![4, 0, 0] S1x8x1024.size inb_S6x8x1024_S1x8x1024_4_0_0, k0_pay63 (dh x0 x1 x2 x3 x4 x5 x6 r0 r1 r2 r3) a4⟩ ::
  ⟨Rect.unit ![3, 0, 0] S1x8x1024.size inb_S6x8x1024_S1x8x1024_3_0_0, k0_pay62 x0 (dh x0 x1 x2 x3 x4 x5 x6 r0 r1 r2 r3) a3⟩ ::
  ⟨Rect.unit ![2, 0, 0] S1x8x1024.size inb_S6x8x1024_S1x8x1024_2_0_0, k0_pay61 (fo x0 x2 x3 x4) (dr x0 x1 x2 x3 x4 x5 x6) a2⟩ ::
  ⟨Rect.unit ![1, 0, 0] S1x8x1024.size inb_S6x8x1024_S1x8x1024_1_0_0, k0_pay60 (k0_pay59 (dy x0 x1 x2 x3 x4 x5 x6) a1)⟩ ::
  ⟨Rect.unit ![0, 0, 0] S1x8x1024.size inb_S6x8x1024_S1x8x1024_0_0_0, k0_pay58 (xh x0 x2 x3 x4) (dy x0 x1 x2 x3 x4 x5 x6) a0⟩ :: L

section Tile
variable {D : Data} {τ : Fin 32} {x0 x1 : Vec Ideal S256x1024 .f32} {x2 : Vec Ideal S8x6144 .f32}
    {x3 x4 : Vec Ideal S4x1024x1024 .bf16} {x5 x6 : Vec Ideal S1x1024 .f32} (hB : Blk D τ x0 x1 x2 x3 x4 x5 x6)

include hB

theorem relu_eq (j : Fin 4) (ρ : Fin 256) (l : Fin 1024) :
    View.canon (reluL x0 x2 x3) (ix3 j ρ l) = D.A j (row τ ρ) l := by
  match j with
  | 0 =>
    refine (canon_slab_ne 3 0 (by decide) _ _ _ _ _).trans ((canon_slab_ne 2 0 (by decide) _ _ _ _ _).trans ((canon_slab_ne 1 0 (by decide) _ _ _ _ _).trans ((canon_slab_eq 0 0 rfl _ _ _ _ _).trans ?_)))
    pointwise [k0_pay15]
    exact a0_eq hB ρ l
  | 1 =>
    refine (canon_slab_ne 3 1 (by decide) _ _ _ _ _).trans ((canon_slab_ne 2 1 (by decide) _ _ _ _ _).trans ((canon_slab_eq 1 1 rfl _ _ _ _ _).trans ?_))
    pointwise [k0_pay19]
    exact a1_eq hB ρ l
  | 2 =>
    refine (canon_slab_ne 3 2 (by decide) _ _ _ _ _).trans ((canon_slab_eq 2 2 rfl _ _ _ _ _).trans ?_)
    pointwise [k0_pay24]
    exact a2_eq hB ρ l
  | 3 =>
    refine (canon_slab_eq 3 3 rfl _ _ _ _ _).trans ?_
    pointwise [k0_pay28]
    exact a3_eq hB ρ l

theorem sq_eq (j : Fin 4) (ρ : Fin 256) (l : Fin 1024) :
    View.canon (sqL x0 x2 x3) (ix3 j ρ l) = D.S j (row τ ρ) l := by
  match j with
  | 0 =>
    refine (canon_slab_ne 3 0 (by decide) _ _ _ _ _).trans ((canon_slab_ne 2 0 (by decide) _ _ _ _ _).trans ((canon_slab_ne 1 0 (by decide) _ _ _ _ _).trans ((canon_slab_eq 0 0 rfl _ _ _ _ _).trans ?_)))
    pointwise [k0_pay17]
    exact s0_eq hB ρ l
  | 1 =>
    refine (canon_slab_ne 3 1 (by decide) _ _ _ _ _).trans ((canon_slab_ne 2 1 (by decide) _ _ _ _ _).trans ((canon_slab_eq 1 1 rfl _ _ _ _ _).trans ?_))
    pointwise [k0_pay21]
    exact s1_eq hB ρ l
  | 2 =>
    refine (canon_slab_ne 3 2 (by decide) _ _ _ _ _).trans ((canon_slab_eq 2 2 rfl _ _ _ _ _).trans ?_)
    pointwise [k0_pay26]
    exact s2_eq hB ρ l
  | 3 =>
    refine (canon_slab_eq 3 3 rfl _ _ _ _ _).trans ?_
    pointwise [k0_pay30]
    exact s3_eq hB ρ l

theorem read0_eq (v : View sig .tc .vmem S4x256x1024 .f32) (ρ : Fin 256) (l : Fin 1024) :
    v.readCov (reluL x0 x2 x3) (Rect.unit (s := S4x256x1024) ![0, 0, 0] S1x256x1024.size inb_S4x256x1024_S1x256x1024_0_0_0).toLoadRect (ix3 0 ρ l) = D.A 0 (row τ ρ) l :=
  (cov_slab v _ 0 0 rfl _ ρ l).trans (relu_eq hB 0 ρ l)

theorem read1_eq (v : View sig .tc .vmem S4x256x1024 .f32) (ρ : Fin 256) (l : Fin 1024) :
    v.readCov (reluL x0 x2 x3) (Rect.unit (s := S4x256x1024) ![1, 0, 0] S1x256x1024.size inb_S4x256x1024_S1x256x1024_1_0_0).toLoadRect (ix3 0 ρ l) = D.A 1 (row τ ρ) l :=
  (cov_slab v _ 1 1 rfl _ ρ l).trans (relu_eq hB 1 ρ l)

theorem read2_eq (v : View sig .tc .vmem S4x256x1024 .f32) (ρ : Fin 256) (l : Fin 1024) :
    v.readCov (reluL x0 x2 x3) (Rect.unit (s := S4x256x1024) ![2, 0, 0] S1x256x1024.size inb_S4x256x1024_S1x256x1024_2_0_0).toLoadRect (ix3 0 ρ l) = D.A 2 (row τ ρ) l :=
  (cov_slab v _ 2 2 rfl _ ρ l).trans (relu_eq hB 2 ρ l)

theorem read3_eq (v : View sig .tc .vmem S4x256x1024 .f32) (ρ : Fin 256) (l : Fin 1024) :
    v.readCov (reluL x0 x2 x3) (Rect.unit (s := S4x256x1024) ![3, 0, 0] S1x256x1024.size inb_S4x256x1024_S1x256x1024_3_0_0).toLoadRect (ix3 0 ρ l) = D.A 3 (row τ ρ) l :=
  (cov_slab v _ 3 3 rfl _ ρ l).trans (relu_eq hB 3 ρ l)

variable {r0 r1 r2 r3 : Vec Ideal S1x256x1024 .f32} (h0 : ∀ ρ l, r0 (ix3 0 ρ l) = D.A 0 (row τ ρ) l)
  (h1 : ∀ ρ l, r1 (ix3 0 ρ l) = D.A 1 (row τ ρ) l) (h2' : ∀ ρ l, r2 (ix3 0 ρ l) = D.A 2 (row τ ρ) l)
  (h3 : ∀ ρ l, r3 (ix3 0 ρ l) = D.A 3 (row τ ρ) l)
include h0 h1 h2' h3

theorem da_eq (j : Fin 4) (ρ : Fin 256) (l : Fin 1024) :
    View.canon (daL x0 x1 x2 x3 x4 x5 x6 r0 r1 r2 r3) (ix3 j ρ l) = D.DA j (row τ ρ) l := by
  match j with
  | 0 =>
    refine (canon_slab_ne 3 0 (by decide) _ _ _ _ _).trans ((canon_slab_ne 2 0 (by decide) _ _ _ _ _).trans ((canon_slab_ne 1 0 (by decide) _ _ _ _ _).trans ((canon_slab_eq 0 0 rfl _ _ _ _ _).trans ?_)))
    pointwise [k0_pay44]
    exact da0_eq hB h0 ρ l
  | 1 =>
    refine (canon_slab_ne 3 1 (by decide) _ _ _ _ _).trans ((canon_slab_ne 2 1 (by decide) _ _ _ _ _).trans ((canon_slab_eq 1 1 rfl _ _ _ _ _).trans ?_))
    pointwise [k0_pay49]
    exact da1_eq hB h1 ρ l
  | 2 =>
    refine (canon_slab_ne 3 2 (by decide) _ _ _ _ _).trans ((canon_slab_eq 2 2 rfl _ _ _ _ _).trans ?_)
    pointwise [k0_pay51]
    exact da2_eq hB h2' ρ l
  | 3 =>
    refine (canon_slab_eq 3 3 rfl _ _ _ _ _).trans ?_
    pointwise [k0_pay55]
    exact da3_eq hB h3 ρ l

theorem acc_eq (a0 a1 a2 a3 a4 a5 : Vec Ideal S1x8x1024 .f32) (L : List (View.Piece (Elt Ideal) S6x8x1024 .f32))
    (q : Fin 6) (l : Fin 8) (k : Fin 1024) :
    View.canon (accL x0 x1 x2 x3 x4 x5 x6 r0 r1 r2 r3 a0 a1 a2 a3 a4 a5 L) (ix3 q l k)
      = ![a0, a1, a2, a3, a4, a5] q (ix3 0 l k) + ∑ x, D.term q (row τ (lane x l)) k := by
  match q with
  | 0 =>
    refine (canon_slab_ne 5 0 (by decide) _ _ _ _ _).trans ((canon_slab_ne 4 0 (by decide) _ _ _ _ _).trans ((canon_slab_ne 3 0 (by decide) _ _ _ _ _).trans ((canon_slab_ne 2 0 (by decide) _ _ _ _ _).trans ((canon_slab_ne 1 0 (by decide) _ _ _ _ _).trans ((canon_slab_eq 0 0 rfl _ _ _ _ _).trans ?_)))))
    exact acc0_eq hB a0 l k
  | 1 =>
    refine (canon_slab_ne 5 1 (by decide) _ _ _ _ _).trans ((canon_slab_ne 4 1 (by decide) _ _ _ _ _).trans ((canon_slab_ne 3 1 (by decide) _ _ _ _ _).trans ((canon_slab_ne 2 1 (by decide) _ _ _ _ _).trans ((canon_slab_eq 1 1 rfl _ _ _ _ _).trans ?_))))
    exact acc1_eq hB a1 l k
  | 2 =>
    refine (canon_slab_ne 5 2 (by decide) _ _ _ _ _).trans ((canon_slab_ne 4 2 (by decide) _ _ _ _ _).trans ((canon_slab_ne 3 2 (by decide) _ _ _ _ _).trans ((canon_slab_eq 2 2 rfl _ _ _ _ _).trans ?_)))
    exact acc2_eq hB a2 l k
  | 3 =>
    refine (canon_slab_ne 5 3 (by decide) _ _ _ _ _).trans ((canon_slab_ne 4 3 (by decide) _ _ _ _ _).trans ((canon_slab_eq 3 3 rfl _ _ _ _ _).trans ?_))
    exact acc3_eq hB h0 h1 h2' h3 a3 l k
  | 4 =>
    refine (canon_slab_ne 5 4 (by decide) _ _ _ _ _).trans ((canon_slab_eq 4 4 rfl _ _ _ _ _).trans ?_)
    exact acc4_eq hB h0 h1 h2' h3 a4 l k
  | 5 =>
    refine (canon_slab_eq 5 5 rfl _ _ _ _ _).trans ?_
    exact acc5_eq hB a5 l k

end Tile
end Cert.Kernel2Ideal.Hand
-- ==== Proof.MlpCaseA.lean ====
module

public import proofs.«01_k».proof.Proof.Gen.Kernel2Ideal.Value
public import proofs.«01_k».proof.Proof.MlpPoint
public import Idealize.ShloMosaic.Lib.Pipeline.ValueKit
public import Idealize.ShloMosaic.Lib.Pointwise

@[expose] public section

set_option maxRecDepth 16384

/-!
# The outputs and the accumulators after a first point
-/

noncomputable section

namespace Cert.Kernel2Ideal.Hand
open Cert.Kernel2Ideal Cert.Kernel2Ideal.Gen Cert.Kernel2Ideal.Value Idealize.ShloMosaic Idealize.ShloMosaic.TcCoe Idealize.SL.Sem
open Idealize.ShloMosaic.Pipeline (Dat)
open Cert.Norm Cert.Mlp Cert.Read

namespace CaseA

variable (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S8x6144 .f32) (harg3 : arg3.IsWhole) (arg4 : Memref sig .tc .vmem S4x1024x1024 .bf16) (harg4 : arg4.IsWhole) (arg5 : Memref sig .tc .vmem S4x1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S256x1024 .f32) (harg8 : arg8.IsWhole) (arg9 : Memref sig .tc .vmem S4x256x1024 .bf16) (harg9 : arg9.IsWhole) (arg10 : Memref sig .tc .vmem S4x256x1024 .bf16) (harg10 : arg10.IsWhole) (arg11 : Memref sig .tc .vmem S256x1024 .bf16) (harg11 : arg11.IsWhole) (arg12 : Memref sig .tc .vmem S256x1024 .bf16) (harg12 : arg12.IsWhole) (arg13 : Memref sig .tc .vmem S8x1024 .f32) (harg13 : arg13.IsWhole) (arg14 : Memref sig .tc .vmem S4x256x1024 .f32) (harg14 : arg14.IsWhole) (arg15 : Memref sig .tc .vmem S6x8x1024 .f32) (harg15 : arg15.IsWhole) (hc0 : cond0_0 i) (hc1 : ¬cond0_1 i)
    (x0 : Vec Ideal S256x1024 .f32) (x1 : Vec Ideal S256x1024 .f32) (x2 : Vec Ideal S8x6144 .f32) (x3 : Vec Ideal S4x1024x1024 .bf16) (x4 : Vec Ideal S4x1024x1024 .bf16) (x5 : Vec Ideal S1x1024 .f32) (x6 : Vec Ideal S1x1024 .f32)
    {D : Data} {τ : Fin 32} (hB : Blk D τ x0 x1 x2 x3 x4 x5 x6)

include hB

theorem dx (ρ : Fin 256) (k : Fin 1024) :
    out0_A_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 (ix2 ρ k) = D.DX (row τ ρ) k := by
  frame_out
  exact dx_eq hB (read0_eq hB _) (read1_eq hB _) (read2_eq hB _) (read3_eq hB _) ρ k

theorem da (j : Fin 4) (ρ : Fin 256) (l : Fin 1024) :
    out0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 (ix3 j ρ l) = D.DA j (row τ ρ) l := by
  frame_out
  exact da_eq hB (read0_eq hB _) (read1_eq hB _) (read2_eq hB _) (read3_eq hB _) j ρ l

theorem sq (j : Fin 4) (ρ : Fin 256) (l : Fin 1024) :
    out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 (ix3 j ρ l) = D.S j (row τ ρ) l := by
  frame_out
  exact sq_eq hB j ρ l

theorem df (ρ : Fin 256) (k : Fin 1024) :
    out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 (ix2 ρ k) = D.DF (row τ ρ) k := by
  frame_out
  exact df_eq hB ρ k

theorem h (ρ : Fin 256) (k : Fin 1024) :
    out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 (ix2 ρ k) = D.H (row τ ρ) k := by
  frame_out
  exact h2_eq hB ρ k

theorem acc (q : Fin 6) (l : Fin 8) (k : Fin 1024) :
    sout0_A_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 (ix3 q l k) = 0 + ∑ x, D.term q (row τ (lane x l)) k := by
  frame_out
  refine (acc_eq hB (read0_eq hB _) (read1_eq hB _) (read2_eq hB _) (read3_eq hB _) _ _ _ _ _ _ _ q l k).trans (congrArg (· + _) ?_)
  match q with
  | 0 =>
    refine (cov_slab _ _ 0 0 rfl _ _ _).trans ?_
    exact (canon_whole3 _ _ _ _ _ _).trans (start_eq _ _ _)
  | 1 =>
    refine (cov_slab _ _ 1 1 rfl _ _ _).trans ?_
    refine (canon_slab_ne 0 1 (by decide) _ _ _ _ _).trans ?_
    exact (canon_whole3 _ _ _ _ _ _).trans (start_eq _ _ _)
  | 2 =>
    refine (cov_slab _ _ 2 2 rfl _ _ _).trans ?_
    refine (canon_slab_ne 1 2 (by decide) _ _ _ _ _).trans ?_
    refine (canon_slab_ne 0 2 (by decide) _ _ _ _ _).trans ?_
    exact (canon_whole3 _ _ _ _ _ _).trans (start_eq _ _ _)
  | 3 =>
    refine (cov_slab _ _ 3 3 rfl _ _ _).trans ?_
    refine (canon_slab_ne 2 3 (by decide) _ _ _ _ _).trans ?_
    refine (canon_slab_ne 1 3 (by decide) _ _ _ _ _).trans ?_
    refine (canon_slab_ne 0 3 (by decide) _ _ _ _ _).trans ?_
    exact (canon_whole3 _ _ _ _ _ _).trans (start_eq _ _ _)
  | 4 =>
    refine (cov_slab _ _ 4 4 rfl _ _ _).trans ?_
    refine (canon_slab_ne 3 4 (by decide) _ _ _ _ _).trans ?_
    refine (canon_slab_ne 2 4 (by decide) _ _ _ _ _).trans ?_
    refine (canon_slab_ne 1 4 (by decide) _ _ _ _ _).trans ?_
    refine (canon_slab_ne 0 4 (by decide) _ _ _ _ _).trans ?_
    exact (canon_whole3 _ _ _ _ _ _).trans (start_eq _ _ _)
  | 5 =>
    refine (cov_slab _ _ 5 5 rfl _ _ _).trans ?_
    refine (canon_slab_ne 4 5 (by decide) _ _ _ _ _).trans ?_
    refine (canon_slab_ne 3 5 (by decide) _ _ _ _ _).trans ?_
    refine (canon_slab_ne 2 5 (by decide) _ _ _ _ _).trans ?_
    refine (canon_slab_ne 1 5 (by decide) _ _ _ _ _).trans ?_
    refine (canon_slab_ne 0 5 (by decide) _ _ _ _ _).trans ?_
    exact (canon_whole3 _ _ _ _ _ _).trans (start_eq _ _ _)

end CaseA
end Cert.Kernel2Ideal.Hand
-- ==== Proof.MlpCaseB.lean ====
module

public import proofs.«01_k».proof.Proof.Gen.Kernel2Ideal.Value
public import proofs.«01_k».proof.Proof.MlpPoint
public import Idealize.ShloMosaic.Lib.Pipeline.ValueKit
public import Idealize.ShloMosaic.Lib.Pointwise

@[expose] public section

set_option maxRecDepth 16384

/-!
# The outputs and the accumulators after a middle point
-/

noncomputable section

namespace Cert.Kernel2Ideal.Hand
open Cert.Kernel2Ideal Cert.Kernel2Ideal.Gen Cert.Kernel2Ideal.Value Idealize.ShloMosaic Idealize.ShloMosaic.TcCoe Idealize.SL.Sem
open Idealize.ShloMosaic.Pipeline (Dat)
open Cert.Norm Cert.Mlp Cert.Read

namespace CaseB

variable (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S8x6144 .f32) (harg3 : arg3.IsWhole) (arg4 : Memref sig .tc .vmem S4x1024x1024 .bf16) (harg4 : arg4.IsWhole) (arg5 : Memref sig .tc .vmem S4x1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S256x1024 .f32) (harg8 : arg8.IsWhole) (arg9 : Memref sig .tc .vmem S4x256x1024 .bf16) (harg9 : arg9.IsWhole) (arg10 : Memref sig .tc .vmem S4x256x1024 .bf16) (harg10 : arg10.IsWhole) (arg11 : Memref sig .tc .vmem S256x1024 .bf16) (harg11 : arg11.IsWhole) (arg12 : Memref sig .tc .vmem S256x1024 .bf16) (harg12 : arg12.IsWhole) (arg13 : Memref sig .tc .vmem S8x1024 .f32) (harg13 : arg13.IsWhole) (arg14 : Memref sig .tc .vmem S4x256x1024 .f32) (harg14 : arg14.IsWhole) (arg15 : Memref sig .tc .vmem S6x8x1024 .f32) (harg15 : arg15.IsWhole) (hc0 : ¬cond0_0 i) (hc1 : ¬cond0_1 i)
    (x0 : Vec Ideal S256x1024 .f32) (x1 : Vec Ideal S256x1024 .f32) (x2 : Vec Ideal S8x6144 .f32) (x3 : Vec Ideal S4x1024x1024 .bf16) (x4 : Vec Ideal S4x1024x1024 .bf16) (x5 : Vec Ideal S1x1024 .f32) (x6 : Vec Ideal S1x1024 .f32) (xs1 : Vec Ideal S6x8x1024 .f32)
    {D : Data} {τ : Fin 32} (hB : Blk D τ x0 x1 x2 x3 x4 x5 x6)

include hB

theorem dx (ρ : Fin 256) (k : Fin 1024) :
    out0_B_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs1 (ix2 ρ k) = D.DX (row τ ρ) k := by
  frame_out
  exact dx_eq hB (read0_eq hB _) (read1_eq hB _) (read2_eq hB _) (read3_eq hB _) ρ k

theorem da (j : Fin 4) (ρ : Fin 256) (l : Fin 1024) :
    out0_B_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs1 (ix3 j ρ l) = D.DA j (row τ ρ) l := by
  frame_out
  exact da_eq hB (read0_eq hB _) (read1_eq hB _) (read2_eq hB _) (read3_eq hB _) j ρ l

theorem sq (j : Fin 4) (ρ : Fin 256) (l : Fin 1024) :
    out0_B_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs1 (ix3 j ρ l) = D.S j (row τ ρ) l := by
  frame_out
  exact sq_eq hB j ρ l

theorem df (ρ : Fin 256) (k : Fin 1024) :
    out0_B_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs1 (ix2 ρ k) = D.DF (row τ ρ) k := by
  frame_out
  exact df_eq hB ρ k

theorem h (ρ : Fin 256) (k : Fin 1024) :
    out0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs1 (ix2 ρ k) = D.H (row τ ρ) k := by
  frame_out
  exact h2_eq hB ρ k

theorem acc (q : Fin 6) (l : Fin 8) (k : Fin 1024) :
    sout0_B_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs1 (ix3 q l k) = xs1 (ix3 q l k) + ∑ x, D.term q (row τ (lane x l)) k := by
  frame_out
  refine (acc_eq hB (read0_eq hB _) (read1_eq hB _) (read2_eq hB _) (read3_eq hB _) _ _ _ _ _ _ _ q l k).trans (congrArg (· + _) ?_)
  match q with
  | 0 =>
    refine (ld3 _ _ _ _ _).trans (congrArg _ ?_)
    congr 1 <;> exact Fin.ext (Nat.zero_add _)
  | 1 =>
    refine (ld3 _ _ _ _ _).trans (congrArg _ ?_)
    congr 1 <;> exact Fin.ext (Nat.zero_add _)
  | 2 =>
    refine (ld3 _ _ _ _ _).trans (congrArg _ ?_)
    congr 1 <;> exact Fin.ext (Nat.zero_add _)
  | 3 =>
    refine (ld3 _ _ _ _ _).trans (congrArg _ ?_)
    congr 1 <;> exact Fin.ext (Nat.zero_add _)
  | 4 =>
    refine (ld3 _ _ _ _ _).trans (congrArg _ ?_)
    congr 1 <;> exact Fin.ext (Nat.zero_add _)
  | 5 =>
    refine (ld3 _ _ _ _ _).trans (congrArg _ ?_)
    congr 1 <;> exact Fin.ext (Nat.zero_add _)

end CaseB
end Cert.Kernel2Ideal.Hand
-- ==== Proof.MlpCaseC.lean ====
module

public import proofs.«01_k».proof.Proof.Gen.Kernel2Ideal.Value
public import proofs.«01_k».proof.Proof.MlpPoint
public import Idealize.ShloMosaic.Lib.Pipeline.ValueKit
public import Idealize.ShloMosaic.Lib.Pointwise

@[expose] public section

set_option maxRecDepth 16384

/-!
# The outputs and the accumulators after a last point
-/

noncomputable section

namespace Cert.Kernel2Ideal.Hand
open Cert.Kernel2Ideal Cert.Kernel2Ideal.Gen Cert.Kernel2Ideal.Value Idealize.ShloMosaic Idealize.ShloMosaic.TcCoe Idealize.SL.Sem
open Idealize.ShloMosaic.Pipeline (Dat)
open Cert.Norm Cert.Mlp Cert.Read

namespace CaseC

variable (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S8x6144 .f32) (harg3 : arg3.IsWhole) (arg4 : Memref sig .tc .vmem S4x1024x1024 .bf16) (harg4 : arg4.IsWhole) (arg5 : Memref sig .tc .vmem S4x1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S256x1024 .f32) (harg8 : arg8.IsWhole) (arg9 : Memref sig .tc .vmem S4x256x1024 .bf16) (harg9 : arg9.IsWhole) (arg10 : Memref sig .tc .vmem S4x256x1024 .bf16) (harg10 : arg10.IsWhole) (arg11 : Memref sig .tc .vmem S256x1024 .bf16) (harg11 : arg11.IsWhole) (arg12 : Memref sig .tc .vmem S256x1024 .bf16) (harg12 : arg12.IsWhole) (arg13 : Memref sig .tc .vmem S8x1024 .f32) (harg13 : arg13.IsWhole) (arg14 : Memref sig .tc .vmem S4x256x1024 .f32) (harg14 : arg14.IsWhole) (arg15 : Memref sig .tc .vmem S6x8x1024 .f32) (harg15 : arg15.IsWhole) (hc0 : ¬cond0_0 i) (hc1 : cond0_1 i)
    (x0 : Vec Ideal S256x1024 .f32) (x1 : Vec Ideal S256x1024 .f32) (x2 : Vec Ideal S8x6144 .f32) (x3 : Vec Ideal S4x1024x1024 .bf16) (x4 : Vec Ideal S4x1024x1024 .bf16) (x5 : Vec Ideal S1x1024 .f32) (x6 : Vec Ideal S1x1024 .f32) (xs1 : Vec Ideal S6x8x1024 .f32)
    {D : Data} {τ : Fin 32} (hB : Blk D τ x0 x1 x2 x3 x4 x5 x6)

include hB

theorem dx (ρ : Fin 256) (k : Fin 1024) :
    out0_C_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs1 (ix2 ρ k) = D.DX (row τ ρ) k := by
  frame_out
  exact dx_eq hB (read0_eq hB _) (read1_eq hB _) (read2_eq hB _) (read3_eq hB _) ρ k

theorem da (j : Fin 4) (ρ : Fin 256) (l : Fin 1024) :
    out0_C_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs1 (ix3 j ρ l) = D.DA j (row τ ρ) l := by
  frame_out
  exact da_eq hB (read0_eq hB _) (read1_eq hB _) (read2_eq hB _) (read3_eq hB _) j ρ l

theorem sq (j : Fin 4) (ρ : Fin 256) (l : Fin 1024) :
    out0_C_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs1 (ix3 j ρ l) = D.S j (row τ ρ) l := by
  frame_out
  exact sq_eq hB j ρ l

theorem df (ρ : Fin 256) (k : Fin 1024) :
    out0_C_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs1 (ix2 ρ k) = D.DF (row τ ρ) k := by
  frame_out
  exact df_eq hB ρ k

theorem h (ρ : Fin 256) (k : Fin 1024) :
    out0_C_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs1 (ix2 ρ k) = D.H (row τ ρ) k := by
  frame_out
  exact h2_eq hB ρ k

theorem acc (q : Fin 6) (l : Fin 8) (k : Fin 1024) :
    sout0_C_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs1 (ix3 q l k) = xs1 (ix3 q l k) + ∑ x, D.term q (row τ (lane x l)) k := by
  frame_out
  refine (acc_eq hB (read0_eq hB _) (read1_eq hB _) (read2_eq hB _) (read3_eq hB _) _ _ _ _ _ _ _ q l k).trans (congrArg (· + _) ?_)
  match q with
  | 0 =>
    refine (ld3 _ _ _ _ _).trans (congrArg _ ?_)
    congr 1 <;> exact Fin.ext (Nat.zero_add _)
  | 1 =>
    refine (ld3 _ _ _ _ _).trans (congrArg _ ?_)
    congr 1 <;> exact Fin.ext (Nat.zero_add _)
  | 2 =>
    refine (ld3 _ _ _ _ _).trans (congrArg _ ?_)
    congr 1 <;> exact Fin.ext (Nat.zero_add _)
  | 3 =>
    refine (ld3 _ _ _ _ _).trans (congrArg _ ?_)
    congr 1 <;> exact Fin.ext (Nat.zero_add _)
  | 4 =>
    refine (ld3 _ _ _ _ _).trans (congrArg _ ?_)
    congr 1 <;> exact Fin.ext (Nat.zero_add _)
  | 5 =>
    refine (ld3 _ _ _ _ _).trans (congrArg _ ?_)
    congr 1 <;> exact Fin.ext (Nat.zero_add _)

theorem rows (q : Fin 5) (k : Fin 1024) :
    out0_C_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs1 (ix2 ⟨q.val, by omega⟩ k) = ∑ l, (xs1 (ix3 ⟨q.val, by omega⟩ l k) + ∑ x, D.term ⟨q.val, by omega⟩ (row τ (lane x l)) k) := by
  frame_out
  match q with
  | 0 =>
    refine (canon_row_ne 6 2 0 (by decide) _ _ _ _).trans ?_
    refine (canon_row_ne 5 1 0 (by decide) _ _ _ _).trans ?_
    refine (canon_row_ne 4 1 0 (by decide) _ _ _ _).trans ?_
    refine (canon_row_ne 3 1 0 (by decide) _ _ _ _).trans ?_
    refine (canon_row_ne 2 1 0 (by decide) _ _ _ _).trans ?_
    refine (canon_row_ne 1 1 0 (by decide) _ _ _ _).trans ?_
    refine (canon_row_eq 0 0 rfl _ _ _ _).trans ?_
    refine (sum0_eq _ k).trans (Finset.sum_congr rfl fun l _ => ?_)
    refine (cov_slab _ _ 0 0 rfl _ _ _).trans ?_
    refine (acc_eq hB (read0_eq hB _) (read1_eq hB _) (read2_eq hB _) (read3_eq hB _) _ _ _ _ _ _ _ 0 l k).trans (congrArg (· + _) ?_)
    refine (ld3 _ _ _ _ _).trans (congrArg _ ?_)
    congr 1 <;> exact Fin.ext (Nat.zero_add _)
  | 1 =>
    refine (canon_row_ne 6 2 1 (by decide) _ _ _ _).trans ?_
    refine (canon_row_ne 5 1 1 (by decide) _ _ _ _).trans ?_
    refine (canon_row_ne 4 1 1 (by decide) _ _ _ _).trans ?_
    refine (canon_row_ne 3 1 1 (by decide) _ _ _ _).trans ?_
    refine (canon_row_ne 2 1 1 (by decide) _ _ _ _).trans ?_
    refine (canon_row_eq 1 1 rfl _ _ _ _).trans ?_
    refine (sum1_eq _ k).trans (Finset.sum_congr rfl fun l _ => ?_)
    refine (cov_slab _ _ 1 1 rfl _ _ _).trans ?_
    refine (acc_eq hB (read0_eq hB _) (read1_eq hB _) (read2_eq hB _) (read3_eq hB _) _ _ _ _ _ _ _ 1 l k).trans (congrArg (· + _) ?_)
    refine (ld3 _ _ _ _ _).trans (congrArg _ ?_)
    congr 1 <;> exact Fin.ext (Nat.zero_add _)
  | 2 =>
    refine (canon_row_ne 6 2 2 (by decide) _ _ _ _).trans ?_
    refine (canon_row_ne 5 1 2 (by decide) _ _ _ _).trans ?_
    refine (canon_row_ne 4 1 2 (by decide) _ _ _ _).trans ?_
    refine (canon_row_ne 3 1 2 (by decide) _ _ _ _).trans ?_
    refine (canon_row_eq 2 2 rfl _ _ _ _).trans ?_
    refine (sum2_eq _ k).trans (Finset.sum_congr rfl fun l _ => ?_)
    refine (cov_slab _ _ 2 2 rfl _ _ _).trans ?_
    refine (acc_eq hB (read0_eq hB _) (read1_eq hB _) (read2_eq hB _) (read3_eq hB _) _ _ _ _ _ _ _ 2 l k).trans (congrArg (· + _) ?_)
    refine (ld3 _ _ _ _ _).trans (congrArg _ ?_)
    congr 1 <;> exact Fin.ext (Nat.zero_add _)
  | 3 =>
    refine (canon_row_ne 6 2 3 (by decide) _ _ _ _).trans ?_
    refine (canon_row_ne 5 1 3 (by decide) _ _ _ _).trans ?_
    refine (canon_row_ne 4 1 3 (by decide) _ _ _ _).trans ?_
    refine (canon_row_eq 3 3 rfl _ _ _ _).trans ?_
    refine (sum3_eq _ k).trans (Finset.sum_congr rfl fun l _ => ?_)
    refine (cov_slab _ _ 3 3 rfl _ _ _).trans ?_
    refine (acc_eq hB (read0_eq hB _) (read1_eq hB _) (read2_eq hB _) (read3_eq hB _) _ _ _ _ _ _ _ 3 l k).trans (congrArg (· + _) ?_)
    refine (ld3 _ _ _ _ _).trans (congrArg _ ?_)
    congr 1 <;> exact Fin.ext (Nat.zero_add _)
  | 4 =>
    refine (canon_row_ne 6 2 4 (by decide) _ _ _ _).trans ?_
    refine (canon_row_ne 5 1 4 (by decide) _ _ _ _).trans ?_
    refine (canon_row_eq 4 4 rfl _ _ _ _).trans ?_
    refine (sum4_eq _ k).trans (Finset.sum_congr rfl fun l _ => ?_)
    refine (cov_slab _ _ 4 4 rfl _ _ _).trans ?_
    refine (acc_eq hB (read0_eq hB _) (read1_eq hB _) (read2_eq hB _) (read3_eq hB _) _ _ _ _ _ _ _ 4 l k).trans (congrArg (· + _) ?_)
    refine (ld3 _ _ _ _ _).trans (congrArg _ ?_)
    congr 1 <;> exact Fin.ext (Nat.zero_add _)

theorem loss (k : Fin 1024) :
    out0_C_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs1 (ix2 5 k) = (∑ l, ∑ k', (xs1 (ix3 5 l k') + ∑ x, D.term 5 (row τ (lane x l)) k')) * Ideal.ofBits .f32 0x3A000000#32 := by
  frame_out
  refine (canon_row_ne 6 2 5 (by decide) _ _ _ _).trans ((canon_row_eq 5 5 rfl _ _ _ _).trans ?_)
  refine (loss_eq _ k).trans (congrArg (· * _) (Finset.sum_congr rfl fun l _ => Finset.sum_congr rfl fun k' _ => ?_))
  refine (cov_slab _ _ 5 5 rfl _ _ _).trans ?_
  refine (acc_eq hB (read0_eq hB _) (read1_eq hB _) (read2_eq hB _) (read3_eq hB _) _ _ _ _ _ _ _ 5 l k').trans (congrArg (· + _) ?_)
  refine (ld3 _ _ _ _ _).trans (congrArg _ ?_)
  congr 1 <;> exact Fin.ext (Nat.zero_add _)

omit hB

theorem zero (z : Fin 2) (k : Fin 1024) :
    out0_C_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs1 (ix2 ⟨6 + z.val, by omega⟩ k) = 0 := by
  frame_out
  exact (canon_rows_eq 6 2 z _ rfl _ _ _ k).trans (zeros_eq z k)

end CaseC
end Cert.Kernel2Ideal.Hand
-- ==== Proof.MlpBlocks.lean ====
module

public import proofs.«01_k».proof.Proof.Gen.Kernel2Ideal.Value
public import proofs.«01_k».proof.Proof.MlpPoint
public import Idealize.ShloMosaic.Lib.Pipeline.ValueKit
public import Idealize.ShloMosaic.Lib.Pointwise

@[expose] public section

set_option maxRecDepth 16384

/-!
# The blocks the points of the second kernel read

Point `t` works on the tile `t`: its blocks are the rows of that tile, and the whole of the parameters.
-/

noncomputable section

namespace Cert.Kernel2Ideal.Hand
open Cert.Kernel2Ideal Cert.Kernel2Ideal.Gen Cert.Kernel2Ideal.Value Idealize.ShloMosaic Idealize.ShloMosaic.TcCoe Idealize.SL.Sem
open Idealize.ShloMosaic.Pipeline (Dat)
open Cert.Norm Cert.Mlp Cert.Read

section Points
variable (m : (ℓ : Loc nD τ sig) → Buf (Elt Ideal) ℓ) (c : Dev nD)

/-- The arrays the call is handed, by rows and columns. -/
def data : Data where
  x r k := V m c main_arg0 (ix2 r k)
  tg r k := V m c main_arg1 (ix2 r k)
  sh k := V m c main_v0 (ix2 0 ⟨3072 + k.val, by omega⟩)
  sc k := V m c main_v0 (ix2 0 ⟨4096 + k.val, by omega⟩)
  g k := V m c main_v0 (ix2 0 ⟨5120 + k.val, by omega⟩)
  wi j k l := V m c main_v3 (ix3 j k l)
  wo j l k := V m c main_v5 (ix3 j l k)
  lng k := V m c main_arg5 (ix2 0 k)
  lnb k := V m c main_arg6 (ix2 0 k)

/-- The tile of point `n`. -/
def tile (n : ℕ) : Fin 32 := ⟨n % 32, by omega⟩

theorem idx : ∀ t : Fin cfg0.N, win0_0.index t = ![t.val, 0] ∧ win0_1.index t = ![t.val, 0]
    ∧ win0_2.index t = ![0, 0] ∧ win0_3.index t = ![0, 0, 0] ∧ win0_4.index t = ![0, 0, 0]
    ∧ win0_5.index t = ![0, 0] ∧ win0_6.index t = ![0, 0] ∧ win0_7.index t = ![t.val, 0]
    ∧ win0_8.index t = ![0, t.val, 0] ∧ win0_9.index t = ![0, t.val, 0] ∧ win0_10.index t = ![t.val, 0]
    ∧ win0_11.index t = ![t.val, 0] ∧ win0_12.index t = ![0, 0] :=
  (by decide +kernel : ∀ t : Fin grid0.N, _)

theorem blk (t : Fin cfg0.N) : Blk (data m c) (tile t.val) (iblk m c 0 t) (iblk m c 1 t) (iblk m c 2 t) (iblk m c 3 t)
    (iblk m c 4 t) (iblk m c 5 t) (iblk m c 6 t) := by
  have ht : t.val < 32 := lt_of_lt_of_eq t.isLt N_0
  have hm : t.val % 32 = t.val := Nat.mod_eq_of_lt ht
  constructor
  all_goals intros
  all_goals simp only [data, row, tile, iblk, hm]
  all_goals generalize V m c = W
  all_goals blk_point [idx t]

end Points
end Cert.Kernel2Ideal.Hand
-- ==== Proof.MlpPoints.lean ====
module

public import proofs.«01_k».proof.Proof.Gen.Kernel2Ideal.Value
public import proofs.«01_k».proof.Proof.MlpCaseA
public import proofs.«01_k».proof.Proof.MlpCaseB
public import proofs.«01_k».proof.Proof.MlpCaseC
public import proofs.«01_k».proof.Proof.MlpBlocks
public import Idealize.ShloMosaic.Lib.Pipeline.ValueKit
public import Idealize.ShloMosaic.Lib.Pointwise

@[expose] public section

set_option maxRecDepth 16384

/-!
# The points of the second kernel in order

By induction over the points: each writes its rows of the outputs and adds its tile's sums to the accumulators.
-/

noncomputable section

namespace Cert.Kernel2Ideal.Hand
open Cert.Kernel2Ideal Cert.Kernel2Ideal.Gen Cert.Kernel2Ideal.Value Idealize.ShloMosaic Idealize.ShloMosaic.TcCoe Idealize.SL.Sem
open Idealize.ShloMosaic.Pipeline (Dat)
open Cert.Norm Cert.Mlp Cert.Read

section Points
variable (m : (ℓ : Loc nD τ sig) → Buf (Elt Ideal) ℓ) (c : Dev nD)

/-- What holds after point `n`. -/
structure After (n : ℕ) (o : Vec Ideal S256x1024 .f32 × Vec Ideal S4x256x1024 .bf16 × Vec Ideal S4x256x1024 .bf16 × Vec Ideal S256x1024 .bf16
    × Vec Ideal S256x1024 .bf16 × Vec Ideal S8x1024 .f32 × Vec Ideal S6x8x1024 .f32) : Prop where
  dx : ∀ ρ k, o.1 (ix2 ρ k) = (data m c).DX (row (tile n) ρ) k
  da : ∀ j ρ l, o.2.1 (ix3 j ρ l) = (data m c).DA j (row (tile n) ρ) l
  sq : ∀ j ρ l, o.2.2.1 (ix3 j ρ l) = (data m c).S j (row (tile n) ρ) l
  df : ∀ ρ k, o.2.2.2.1 (ix2 ρ k) = (data m c).DF (row (tile n) ρ) k
  h : ∀ ρ k, o.2.2.2.2.1 (ix2 ρ k) = (data m c).H (row (tile n) ρ) k
  acc : ∀ q l k, o.2.2.2.2.2.2 (ix3 q l k) = ∑ t ∈ Finset.range (n + 1), ∑ x, (data m c).term q (row (tile t) (lane x l)) k

/-- The point's own sum after those of the points before it. -/
theorem step {t : ℕ} (ht : 0 < t) (f : ℕ → EReal) :
    (∑ s ∈ Finset.range (t - 1 + 1), f s) + f t = ∑ s ∈ Finset.range (t + 1), f s := by
  rw [Nat.sub_add_cancel ht, Finset.sum_range_succ]

theorem first {t : ℕ} (ht : t = 0) (f : ℕ → EReal) : 0 + f t = ∑ s ∈ Finset.range (t + 1), f s := by
  subst ht
  rw [Finset.sum_range_succ, Finset.sum_range_zero]

theorem afterA (t : Fin cfg0.N) (h0 : t.val % 32 = 0) (h1 : ¬t.val % 32 = 31) :
    After m c t.val (outsAt0 m c t.val t.isLt) := by
  have hB := blk m c t
  have hn : t.val < 32 := lt_of_lt_of_eq t.isLt N_0
  rw [outsAt0_A m c t h0 h1]
  constructor
  · dsimp only
    exact fun ρ k => CaseA.dx (hB := hB) ..
  · dsimp only
    exact fun j ρ l => CaseA.da (hB := hB) ..
  · dsimp only
    exact fun j ρ l => CaseA.sq (hB := hB) ..
  · dsimp only
    exact fun ρ k => CaseA.df (hB := hB) ..
  · dsimp only
    exact fun ρ k => CaseA.h (hB := hB) ..
  · dsimp only
    exact fun q l k => (CaseA.acc (hB := hB) ..).trans (first (by omega) (fun t => ∑ x, (data m c).term q (row (tile t) (lane x l)) k))

theorem afterB (t : Fin cfg0.N) (h0 : ¬t.val % 32 = 0) (h1 : ¬t.val % 32 = 31)
    (ht : 0 < t.val) (h : After m c (t.val - 1) (outsAt0 m c (t.val - 1) (Nat.lt_of_le_of_lt (Nat.sub_le _ _) t.isLt))) :
    After m c t.val (outsAt0 m c t.val t.isLt) := by
  have hB := blk m c t
  have hn : t.val < 32 := lt_of_lt_of_eq t.isLt N_0
  rw [outsAt0_B m c t h0 h1]
  constructor
  · dsimp only
    exact fun ρ k => CaseB.dx (hB := hB) ..
  · dsimp only
    exact fun j ρ l => CaseB.da (hB := hB) ..
  · dsimp only
    exact fun j ρ l => CaseB.sq (hB := hB) ..
  · dsimp only
    exact fun ρ k => CaseB.df (hB := hB) ..
  · dsimp only
    exact fun ρ k => CaseB.h (hB := hB) ..
  · dsimp only
    exact fun q l k => (CaseB.acc (hB := hB) ..).trans ((congrArg (· + _) (h.acc q l k)).trans (step ht (fun t => ∑ x, (data m c).term q (row (tile t) (lane x l)) k)))

theorem afterC (t : Fin cfg0.N) (h0 : ¬t.val % 32 = 0) (h1 : t.val % 32 = 31)
    (ht : 0 < t.val) (h : After m c (t.val - 1) (outsAt0 m c (t.val - 1) (Nat.lt_of_le_of_lt (Nat.sub_le _ _) t.isLt))) :
    After m c t.val (outsAt0 m c t.val t.isLt) := by
  have hB := blk m c t
  have hn : t.val < 32 := lt_of_lt_of_eq t.isLt N_0
  rw [outsAt0_C m c t h0 h1]
  constructor
  · dsimp only
    exact fun ρ k => CaseC.dx (hB := hB) ..
  · dsimp only
    exact fun j ρ l => CaseC.da (hB := hB) ..
  · dsimp only
    exact fun j ρ l => CaseC.sq (hB := hB) ..
  · dsimp only
    exact fun ρ k => CaseC.df (hB := hB) ..
  · dsimp only
    exact fun ρ k => CaseC.h (hB := hB) ..
  · dsimp only
    exact fun q l k => (CaseC.acc (hB := hB) ..).trans ((congrArg (· + _) (h.acc q l k)).trans (step ht (fun t => ∑ x, (data m c).term q (row (tile t) (lane x l)) k)))

theorem after : ∀ (n : ℕ) (hn : n < cfg0.N), After m c n (outsAt0 m c n hn)
  | 0, hn => afterA m c ⟨0, hn⟩ rfl (by show ¬ 0 % 32 = 31; omega)
  | n + 1, hn => by
    have h32 : n + 1 < 32 := lt_of_lt_of_eq hn N_0
    by_cases h1 : (n + 1) % 32 = 31
    · exact afterC m c ⟨n + 1, hn⟩ (by show ¬ (n + 1) % 32 = 0; omega) h1 (Nat.succ_pos n) (after n (Nat.lt_of_succ_lt hn))
    · exact afterB m c ⟨n + 1, hn⟩ (by show ¬ (n + 1) % 32 = 0; omega) h1 (Nat.succ_pos n) (after n (Nat.lt_of_succ_lt hn))

/-- At the last point the sums over the lanes are written out. -/
theorem last (t : Fin cfg0.N) (h1 : t.val % 32 = 31) :
    (∀ (q : Fin 5) k, (outsAt0 m c t.val t.isLt).2.2.2.2.2.1 (ix2 ⟨q.val, by omega⟩ k)
      = ∑ l, (outsAt0 m c t.val t.isLt).2.2.2.2.2.2 (ix3 ⟨q.val, by omega⟩ l k))
    ∧ (∀ k, (outsAt0 m c t.val t.isLt).2.2.2.2.2.1 (ix2 5 k)
      = (∑ l, ∑ k', (outsAt0 m c t.val t.isLt).2.2.2.2.2.2 (ix3 5 l k')) * Ideal.ofBits .f32 0x3A000000#32)
    ∧ ∀ (z : Fin 2) k, (outsAt0 m c t.val t.isLt).2.2.2.2.2.1 (ix2 ⟨6 + z.val, by omega⟩ k) = 0 := by
  have hB := blk m c t
  rw [outsAt0_C m c t (by omega) h1]
  refine ⟨?_, ?_, ?_⟩
  · dsimp only
    exact fun q k => (CaseC.rows (hB := hB) ..).trans (Finset.sum_congr rfl fun l _ => (CaseC.acc (hB := hB) ..).symm)
  · dsimp only
    exact fun k => (CaseC.loss (hB := hB) ..).trans (congrArg (· * _) (Finset.sum_congr rfl fun l _ =>
      Finset.sum_congr rfl fun k' _ => (CaseC.acc (hB := hB) ..).symm))
  · dsimp only
    exact fun z k => CaseC.zero ..

end Points
end Cert.Kernel2Ideal.Hand
-- ==== Proof.MlpOutputs.lean ====
module

public import proofs.«01_k».proof.Proof.Gen.Kernel2Ideal.Value
public import proofs.«01_k».proof.Proof.MlpPoints
public import Idealize.ShloMosaic.Lib.Pipeline.ValueKit
public import Idealize.ShloMosaic.Lib.Pointwise

@[expose] public section

set_option maxRecDepth 16384

/-!
# The outputs of the second kernel

Each output array as a function of the arrays the call is handed.
-/

noncomputable section

namespace Cert.Kernel2Ideal.Hand
open Cert.Kernel2Ideal Cert.Kernel2Ideal.Gen Cert.Kernel2Ideal.Value Idealize.ShloMosaic Idealize.ShloMosaic.TcCoe Idealize.SL.Sem
open Idealize.ShloMosaic.Pipeline (Dat)
open Cert.Norm Cert.Mlp Cert.Read

section Points
variable (m : (ℓ : Loc nD τ sig) → Buf (Elt Ideal) ℓ) (c : Dev nD)

/-- An index of a matrix is the pair of its coordinates. -/
theorem idx2_eta {N M : ℕ} (y : (⟨2, ![N, M]⟩ : Shape).Idx) : y = ix2 (y 0) (y 1) := by
  funext a
  fin_cases a <;> rfl

theorem idx3_eta {N M K : ℕ} (y : (⟨3, ![N, M, K]⟩ : Shape).Idx) : y = ix3 (y 0) (y 1) (y 2) := by
  funext a
  fin_cases a <;> rfl

/-- The sums over the tiles and the lanes are the sum over the rows. -/
theorem rows_sum (f : Fin 8192 → EReal) :
    ∑ l : Fin 8, ∑ t ∈ Finset.range (31 + 1), ∑ x : Fin 32, f (row (tile t) (lane x l)) = ∑ r, f r := by
  rw [Finset.sum_comm, Finset.sum_range, Fin.sum_univ_tiles 32 256 rfl f]
  refine Finset.sum_congr rfl fun t _ => ?_
  rw [Finset.sum_comm, Fin.sum_univ_tiles 32 8 rfl (fun ρ : Fin 256 => f ⟨t.val * 256 + ρ.val, by omega⟩)]
  refine Finset.sum_congr rfl fun x _ => Finset.sum_congr rfl fun l _ => congrArg f (Fin.ext ?_)
  show 256 * (t.val % 32) + (x.val * 8 + l.val) = t.val * 256 + (x.val * 8 + l.val)
  omega

theorem out_dx (r : Fin 8192) (k : Fin 1024) : (dats m 0 c).arrAt 7 cfg0.N (ix2 r k) = (data m c).DX r k := by
  have h : (dats m 0 c).arrAt 7 cfg0.N = fun i => (data m c).DX (i 0) (i 1) := by
    refine (dats m 0 c).arrAt_eq_of_covers 7 _ (by decide +kernel) fun t hf y => ?_
    have ht : t.val < 32 := lt_of_lt_of_eq t.isLt N_0
    blk_simp
    rw [after0_7]
    refine Eq.trans (congrArg _ (idx2_eta (N := 256) (M := 1024) y)) (((after m c t.val t.isLt).dx (y 0) (y 1)).trans ?_)
    refine congrArg₂ _ (Fin.ext ?_) (Fin.ext ?_)
    · simp only [row, tile]
      blk_simp [idx t]
      omega
    · blk_simp [idx t]
  rw [h]
  rfl

theorem out_da (j : Fin 4) (r : Fin 8192) (k : Fin 1024) : (dats m 0 c).arrAt 8 cfg0.N (ix3 j r k) = (data m c).DA j r k := by
  have h : (dats m 0 c).arrAt 8 cfg0.N = fun i => (data m c).DA (i 0) (i 1) (i 2) := by
    refine (dats m 0 c).arrAt_eq_of_covers 8 _ (by decide +kernel) fun t hf y => ?_
    have ht : t.val < 32 := lt_of_lt_of_eq t.isLt N_0
    blk_simp
    rw [after0_8]
    refine Eq.trans (congrArg _ (idx3_eta (N := 4) (M := 256) (K := 1024) y)) (((after m c t.val t.isLt).da (y 0) (y 1) (y 2)).trans ?_)
    refine congr (congr (congrArg _ (Fin.ext ?_)) (Fin.ext ?_)) (Fin.ext ?_)
    · blk_simp [idx t]
    · simp only [row, tile]
      blk_simp [idx t]
      omega
    · blk_simp [idx t]
  rw [h]
  rfl

theorem out_sq (j : Fin 4) (r : Fin 8192) (k : Fin 1024) : (dats m 0 c).arrAt 9 cfg0.N (ix3 j r k) = (data m c).S j r k := by
  have h : (dats m 0 c).arrAt 9 cfg0.N = fun i => (data m c).S (i 0) (i 1) (i 2) := by
    refine (dats m 0 c).arrAt_eq_of_covers 9 _ (by decide +kernel) fun t hf y => ?_
    have ht : t.val < 32 := lt_of_lt_of_eq t.isLt N_0
    blk_simp
    rw [after0_9]
    refine Eq.trans (congrArg _ (idx3_eta (N := 4) (M := 256) (K := 1024) y)) (((after m c t.val t.isLt).sq (y 0) (y 1) (y 2)).trans ?_)
    refine congr (congr (congrArg _ (Fin.ext ?_)) (Fin.ext ?_)) (Fin.ext ?_)
    · blk_simp [idx t]
    · simp only [row, tile]
      blk_simp [idx t]
      omega
    · blk_simp [idx t]
  rw [h]
  rfl

theorem out_df (r : Fin 8192) (k : Fin 1024) : (dats m 0 c).arrAt 10 cfg0.N (ix2 r k) = (data m c).DF r k := by
  have h : (dats m 0 c).arrAt 10 cfg0.N = fun i => (data m c).DF (i 0) (i 1) := by
    refine (dats m 0 c).arrAt_eq_of_covers 10 _ (by decide +kernel) fun t hf y => ?_
    have ht : t.val < 32 := lt_of_lt_of_eq t.isLt N_0
    blk_simp
    rw [after0_10]
    refine Eq.trans (congrArg _ (idx2_eta (N := 256) (M := 1024) y)) (((after m c t.val t.isLt).df (y 0) (y 1)).trans ?_)
    refine congrArg₂ _ (Fin.ext ?_) (Fin.ext ?_)
    · simp only [row, tile]
      blk_simp [idx t]
      omega
    · blk_simp [idx t]
  rw [h]
  rfl

theorem out_h (r : Fin 8192) (k : Fin 1024) : (dats m 0 c).arrAt 11 cfg0.N (ix2 r k) = (data m c).H r k := by
  have h : (dats m 0 c).arrAt 11 cfg0.N = fun i => (data m c).H (i 0) (i 1) := by
    refine (dats m 0 c).arrAt_eq_of_covers 11 _ (by decide +kernel) fun t hf y => ?_
    have ht : t.val < 32 := lt_of_lt_of_eq t.isLt N_0
    blk_simp
    rw [after0_11]
    refine Eq.trans (congrArg _ (idx2_eta (N := 256) (M := 1024) y)) (((after m c t.val t.isLt).h (y 0) (y 1)).trans ?_)
    refine congrArg₂ _ (Fin.ext ?_) (Fin.ext ?_)
    · simp only [row, tile]
      blk_simp [idx t]
      omega
    · blk_simp [idx t]
  rw [h]
  rfl

/-- The last point. -/
abbrev lastPt : Fin cfg0.N := ⟨31, by change 31 < grid0.N; rw [N_0]; decide⟩

/-- The rows of sums, the loss, and two rows of zeros. -/
def rowVal (D : Data) (q : Fin 8) (k : Fin 1024) : EReal :=
  if h : q.val < 5 then ∑ r, D.term ⟨q.val, by omega⟩ r k else if q.val = 5 then D.LOSS else 0

theorem rowVal_lt (D : Data) (q : Fin 8) (k : Fin 1024) (h : q.val < 5) :
    rowVal D q k = ∑ r, D.term ⟨q.val, by omega⟩ r k := dif_pos h

theorem rowVal_five (D : Data) (k : Fin 1024) : rowVal D 5 k = D.LOSS := rfl

theorem rowVal_gt (D : Data) (q : Fin 8) (k : Fin 1024) (h : 5 < q.val) : rowVal D q k = 0 :=
  (dif_neg (by omega)).trans (if_neg (by omega))

/-- The rows of sums after the last point, from the sums over the tiles and the lanes. -/
theorem rows_of (D : Data) (o : Fin 8 → Fin 1024 → EReal) (a : Fin 6 → Fin 8 → Fin 1024 → EReal)
    (hacc : ∀ q l k, a q l k = ∑ t ∈ Finset.range (31 + 1), ∑ x : Fin 32, D.term q (row (tile t) (lane x l)) k)
    (h0 : ∀ (q : Fin 5) k, o ⟨q.val, by omega⟩ k = ∑ l, a ⟨q.val, by omega⟩ l k)
    (h1 : ∀ k, o 5 k = (∑ l, ∑ k', a 5 l k') * Ideal.ofBits .f32 0x3A000000#32)
    (h2 : ∀ (z : Fin 2) k, o ⟨6 + z.val, by omega⟩ k = 0) (q : Fin 8) (k : Fin 1024) : o q k = rowVal D q k := by
  by_cases h5 : q.val < 5
  · rw [rowVal_lt D q k h5, ← rows_sum fun r => D.term ⟨q.val, by omega⟩ r k]
    exact (h0 ⟨q.val, h5⟩ k).trans (Finset.sum_congr rfl fun l _ => hacc _ l k)
  · by_cases h6 : q.val = 5
    · obtain rfl : q = 5 := Fin.ext h6
      rw [rowVal_five, Data.LOSS, h1 k, Finset.sum_comm]
      refine congrArg (· * _) (Finset.sum_congr rfl fun k' _ => ?_)
      rw [← rows_sum fun r => D.term 5 r k']
      exact Finset.sum_congr rfl fun l _ => hacc 5 l k'
    · rw [rowVal_gt D q k (by omega), ← h2 ⟨q.val - 6, by omega⟩ k]
      exact congrArg (fun q' : Fin 8 => o q' k) (Fin.ext (by show q.val = 6 + (q.val - 6); omega))

theorem last_row (q : Fin 8) (k : Fin 1024) :
    (outsAt0 m c lastPt.val lastPt.isLt).2.2.2.2.2.1 (ix2 q k) = rowVal (data m c) q k := by
  have hl := last m c lastPt rfl
  have hacc := (after m c lastPt.val lastPt.isLt).acc
  generalize outsAt0 m c lastPt.val lastPt.isLt = o at hl hacc ⊢
  exact rows_of (data m c) (fun q k => o.2.2.2.2.2.1 (ix2 q k)) (fun q l k => o.2.2.2.2.2.2 (ix3 q l k)) hacc hl.1 hl.2.1 hl.2.2 q k

theorem out_rows (q : Fin 8) (k : Fin 1024) : (dats m 0 c).arrAt 12 cfg0.N (ix2 q k) = rowVal (data m c) q k := by
  have h : (dats m 0 c).arrAt 12 cfg0.N = fun i : S8x1024.Idx => rowVal (data m c) (i 0) (i 1) := by
    refine Dat.arrAt_eq_of_after_last (dats m 0 c) 12 lastPt (by decide +kernel) _ fun j => ?_
    blk_simp
    rw [after0_12]
    exact Eq.trans (congrArg _ (idx2_eta (N := 8) (M := 1024) j)) (last_row m c (j 0) (j 1))
  rw [h]
  rfl

end Points
end Cert.Kernel2Ideal.Hand
-- ==== Proof.MlpOperands.lean ====
module

public import proofs.«01_k».proof.Proof.MlpOutputs
public import proofs.«01_k».proof.Proof.MlpRefOut
public import Idealize.ShloMosaic.Lib.StableHlo.RunRead

@[expose] public section

set_option maxRecDepth 16384

/-!
# The arrays the second call is handed are the arguments

The lines before the call cast and lay out the arguments: the modulation's row spread over eight, the two matrices in
four parts.
-/

noncomputable section

namespace Cert.Kernel2Ideal.Hand
open Cert.Kernel2Ideal Cert.Kernel2Ideal.Gen Cert.Kernel2Ideal.Value Idealize.ShloMosaic Idealize.ShloMosaic.TcCoe Idealize.SL.Sem
open Cert.Norm Cert.Mlp
open Cert.Reference2Ideal.Hand (refData)

variable (m : (ℓ : Loc nD τ sig) → Buf (Elt Ideal) ℓ) (c : Dev nD)

theorem v0_eq : V m c main_v0 = broadcastInDim S8x6144 ![0, 1] bcast_S1x6144_S8x6144_0_1 (m (c.tc.loc main_arg2)) := by
  unfold V
  simp only [List.flatten_cons, List.flatten_nil, List.append_nil, StableHlo.after_append]
  after_reads_simp

theorem v3_eq : V m c main_v3 = truncf (F := Ideal) .bf16
    (transpose S4x1024x1024 [1, 0, 2] (shapeCast S1024x4x1024 (m (c.tc.loc main_arg3)) shapeCasts_S1024x4096_S1024x4x1024)
      transposes_S1024x4x1024_S4x1024x1024_1_0_2) bitsLt_bf16_f32 := by
  unfold V
  simp only [List.flatten_cons, List.flatten_nil, List.append_nil, StableHlo.after_append]
  after_reads_simp
  rfl

theorem v5_eq : V m c main_v5 = truncf (F := Ideal) .bf16
    (shapeCast S4x1024x1024 (m (c.tc.loc main_arg4)) shapeCasts_S4096x1024_S4x1024x1024) bitsLt_bf16_f32 := by
  unfold V
  after_reads_simp
  rfl

/-- The data of the launch are the reference's, at the arguments. -/
theorem data_eq : data m c = refData (m (c.tc.loc main_arg0)) (m (c.tc.loc main_arg1)) (m (c.tc.loc main_arg2))
    (m (c.tc.loc main_arg3)) (m (c.tc.loc main_arg4)) (m (c.tc.loc main_arg5)) (m (c.tc.loc main_arg6)) := by
  unfold data refData
  rw [Data.mk.injEq]
  refine ⟨?_, ?_, ?_, ?_, ?_, ?_, ?_, ?_, ?_⟩
  · funext r k
    rw [V_main_arg0]
  · funext r k
    rw [V_main_arg1]
  · funext k
    rw [v0_eq]
    pointwise
  · funext k
    rw [v0_eq]
    pointwise
  · funext k
    rw [v0_eq]
    pointwise
  · funext j k l
    rw [v3_eq]
    have h : ∀ a : FVec Ideal S1024x4096 .f32, truncf (F := Ideal) .bf16 (transpose S4x1024x1024 [1, 0, 2]
        (shapeCast S1024x4x1024 a shapeCasts_S1024x4096_S1024x4x1024) transposes_S1024x4x1024_S4x1024x1024_1_0_2)
        bitsLt_bf16_f32 (ix3 j k l) = a (ix2 k ⟨j.val * 1024 + l.val, by omega⟩) := by
      intro a
      pointwise
    exact h _
  · funext j l k
    rw [v5_eq]
    have h : ∀ a : FVec Ideal S4096x1024 .f32, truncf (F := Ideal) .bf16
        (shapeCast S4x1024x1024 a shapeCasts_S4096x1024_S4x1024x1024) bitsLt_bf16_f32 (ix3 j l k)
        = a (ix2 ⟨j.val * 1024 + l.val, by omega⟩ k) := by
      intro a
      pointwise
    exact h _
  · funext k
    rw [V_main_arg5]
  · funext k
    rw [V_main_arg6]

end Cert.Kernel2Ideal.Hand
-- ==== Proof.MlpAlgebraic.lean ====
/- The second kernel and the reference end with equal results: each result array of the kernel's run is the reference's
   result, by way of the specification both are shown equal to. -/
module

public import proofs.«01_k».proof.Proof.MlpPre
public import proofs.«01_k».proof.Proof.MlpOperands
public import proofs.«01_k».proof.Proof.MlpOutputs
public import proofs.«01_k».proof.Proof.Gen.Reference2Ideal.Run
public import Idealize.ShloMosaic.Adequacy
public import Idealize.ShloMosaic.Init

@[expose] public section

noncomputable section

namespace Cert.Algebraic2

open Idealize.ShloMosaic Idealize.ShloMosaic.TcCoe Idealize.SL.Sem Cert.Kernel2Ideal Cert.Kernel2Ideal.Gen Cert.Kernel2Ideal.Value Cert.Kernel2Ideal.Hand

attribute [local instance] Cert.Pre_finite2.Gen.facts Cert.Reference2Ideal.Gen.facts

variable (m : (ℓ : Loc nD τ sig) → Buf (Elt Ideal) ℓ) (pre : Cert.Pre_Kernel2Ideal_finite2 m) (c : Dev nD)

include pre in
theorem finite : Cert.Reference2Ideal.Hand.Finite (m (c.tc.loc Cert.Kernel2Ideal.main_arg0)) (m (c.tc.loc Cert.Kernel2Ideal.main_arg1)) (m (c.tc.loc Cert.Kernel2Ideal.main_arg2)) (m (c.tc.loc Cert.Kernel2Ideal.main_arg3)) (m (c.tc.loc Cert.Kernel2Ideal.main_arg4)) (m (c.tc.loc Cert.Kernel2Ideal.main_arg5)) (m (c.tc.loc Cert.Kernel2Ideal.main_arg6)) :=
  Cert.Pre_finite2.Hand.finite_of_fn _ _ _ _ _ _ _ (fun d => d.elim0) (congrFun (pre c) _)

include pre in
theorem eq_dx : (dats m 0 c).arrAt 7 cfg0.N = Cert.Reference2Ideal.Read.val_main_v120 (F := Ideal) (m (c.tc.loc Cert.Kernel2Ideal.main_arg0)) (m (c.tc.loc Cert.Kernel2Ideal.main_arg1)) (m (c.tc.loc Cert.Kernel2Ideal.main_arg2)) (m (c.tc.loc Cert.Kernel2Ideal.main_arg3)) (m (c.tc.loc Cert.Kernel2Ideal.main_arg4)) (m (c.tc.loc Cert.Kernel2Ideal.main_arg5)) (m (c.tc.loc Cert.Kernel2Ideal.main_arg6)) := by
  funext i
  rw [idx2_eta i]
  refine (out_dx m c (i 0) (i 1)).trans ?_
  rw [data_eq]
  exact (Cert.Reference2Ideal.Hand.out_dx (finite m pre c) (i 0) (i 1)).symm

include pre in
theorem eq_da : (dats m 0 c).arrAt 8 cfg0.N = Cert.Reference2Ideal.Read.val_main_v123 (F := Ideal) (m (c.tc.loc Cert.Kernel2Ideal.main_arg0)) (m (c.tc.loc Cert.Kernel2Ideal.main_arg1)) (m (c.tc.loc Cert.Kernel2Ideal.main_arg2)) (m (c.tc.loc Cert.Kernel2Ideal.main_arg3)) (m (c.tc.loc Cert.Kernel2Ideal.main_arg4)) (m (c.tc.loc Cert.Kernel2Ideal.main_arg5)) (m (c.tc.loc Cert.Kernel2Ideal.main_arg6)) := by
  funext i
  rw [idx3_eta i]
  refine (out_da m c (i 0) (i 1) (i 2)).trans ?_
  rw [data_eq]
  exact (Cert.Reference2Ideal.Hand.out_da (finite m pre c) (i 0) (i 1) (i 2)).symm

theorem eq_sq : (dats m 0 c).arrAt 9 cfg0.N = Cert.Reference2Ideal.Read.val_main_v126 (F := Ideal) (m (c.tc.loc Cert.Kernel2Ideal.main_arg0)) (m (c.tc.loc Cert.Kernel2Ideal.main_arg2)) (m (c.tc.loc Cert.Kernel2Ideal.main_arg3)) := by
  funext i
  rw [idx3_eta i]
  refine (out_sq m c (i 0) (i 1) (i 2)).trans ?_
  rw [data_eq]
  exact (Cert.Reference2Ideal.Hand.out_sq (i 0) (i 1) (i 2)).symm

include pre in
theorem eq_df : (dats m 0 c).arrAt 10 cfg0.N = Cert.Reference2Ideal.Read.val_main_v127 (F := Ideal) (m (c.tc.loc Cert.Kernel2Ideal.main_arg0)) (m (c.tc.loc Cert.Kernel2Ideal.main_arg1)) (m (c.tc.loc Cert.Kernel2Ideal.main_arg2)) (m (c.tc.loc Cert.Kernel2Ideal.main_arg3)) (m (c.tc.loc Cert.Kernel2Ideal.main_arg4)) (m (c.tc.loc Cert.Kernel2Ideal.main_arg5)) (m (c.tc.loc Cert.Kernel2Ideal.main_arg6)) := by
  funext i
  rw [idx2_eta i]
  refine (out_df m c (i 0) (i 1)).trans ?_
  rw [data_eq]
  exact (Cert.Reference2Ideal.Hand.out_df (finite m pre c) (i 0) (i 1)).symm

theorem eq_h : (dats m 0 c).arrAt 11 cfg0.N = Cert.Reference2Ideal.Read.val_main_v128 (F := Ideal) (m (c.tc.loc Cert.Kernel2Ideal.main_arg0)) (m (c.tc.loc Cert.Kernel2Ideal.main_arg2)) := by
  funext i
  rw [idx2_eta i]
  refine (out_h m c (i 0) (i 1)).trans ?_
  rw [data_eq]
  exact (Cert.Reference2Ideal.Hand.out_h (i 0) (i 1)).symm

include pre in
theorem eq_rows : (dats m 0 c).arrAt 12 cfg0.N = Cert.Reference2Ideal.Read.val_main_v119 (F := Ideal) (m (c.tc.loc Cert.Kernel2Ideal.main_arg0)) (m (c.tc.loc Cert.Kernel2Ideal.main_arg1)) (m (c.tc.loc Cert.Kernel2Ideal.main_arg2)) (m (c.tc.loc Cert.Kernel2Ideal.main_arg3)) (m (c.tc.loc Cert.Kernel2Ideal.main_arg4)) (m (c.tc.loc Cert.Kernel2Ideal.main_arg5)) (m (c.tc.loc Cert.Kernel2Ideal.main_arg6)) := by
  funext i
  rw [idx2_eta i]
  refine (out_rows m c (i 0) (i 1)).trans ?_
  rw [data_eq]
  exact (Cert.Reference2Ideal.Hand.out_rows (finite m pre c) (i 0) (i 1)).symm

theorem agree2 {A0 A1 B : Type} (f : A0 → A1 → B) {a0 b0 a1 b1} (h0 : a0 = b0) (h1 : a1 = b1) : f a0 a1 = f b0 b1 := by
  subst h0 h1
  rfl

theorem agree3 {A0 A1 A2 B : Type} (f : A0 → A1 → A2 → B) {a0 b0 a1 b1 a2 b2} (h0 : a0 = b0) (h1 : a1 = b1) (h2 : a2 = b2) :
    f a0 a1 a2 = f b0 b1 b2 := by
  subst h0 h1 h2
  rfl

/-- A function of seven arguments at equal arguments. -/
theorem agree {A0 A1 A2 A3 A4 A5 A6 B : Type} (f : A0 → A1 → A2 → A3 → A4 → A5 → A6 → B)
    {a0 b0 a1 b1 a2 b2 a3 b3 a4 b4 a5 b5 a6 b6} (h0 : a0 = b0) (h1 : a1 = b1) (h2 : a2 = b2) (h3 : a3 = b3)
    (h4 : a4 = b4) (h5 : a5 = b5) (h6 : a6 = b6) :
    f a0 a1 a2 a3 a4 a5 a6 = f b0 b1 b2 b3 b4 b5 b6 := by
  subst h0 h1 h2 h3 h4 h5 h6
  rfl

set_option maxHeartbeats 4000000 in
/-- From memories that agree on the arguments, the kernel and the reference end with equal results. -/
theorem algebraic : Cert.algebraic_Kernel2Ideal_Reference2Ideal_pre_finite2 (hKernel2Ideal := Cert.Kernel2Ideal.Gen.facts) := by
  intro m ρ m' ρ' pre hag
  refine ⟨fun c => (dats m 0 c).arrAt 7 cfg0.N, fun c => (dats m 0 c).arrAt 8 cfg0.N, fun c => (dats m 0 c).arrAt 9 cfg0.N, fun c => (dats m 0 c).arrAt 10 cfg0.N, fun c => (dats m 0 c).arrAt 11 cfg0.N, fun c => (dats m 0 c).arrAt 12 cfg0.N,
    run_blocks m ρ, (θ_run _ _ _).mono (fun r h => ?_) (Cert.Reference2Ideal.Value.run (F := Ideal) m' ρ')⟩
  intro c
  obtain ⟨g0, g1, g2, g3, g4, g5, kept⟩ := h c
  obtain ⟨e0, e1, e2, e3, e4, e5, e6⟩ := hag c
  have f0 := g0.trans (Cert.Reference2Ideal.Read.val_main_v120_eq _)
  have f1 := g1.trans (Cert.Reference2Ideal.Read.val_main_v123_eq _)
  have f2 := g2.trans (Cert.Reference2Ideal.Read.val_main_v126_eq _)
  have f3 := g3.trans (Cert.Reference2Ideal.Read.val_main_v127_eq _)
  have f4 := g4.trans (Cert.Reference2Ideal.Read.val_main_v128_eq _)
  have f5 := g5.trans (Cert.Reference2Ideal.Read.val_main_v119_eq _)
  refine ⟨?_, ?_, ?_, ?_, ?_, ?_, kept⟩
  · exact f0.trans ((agree (Cert.Reference2Ideal.Read.val_main_v120 (F := Ideal)) e0 e1 e2 e3 e4 e5 e6).trans (eq_dx m pre c).symm)
  · exact f1.trans ((agree (Cert.Reference2Ideal.Read.val_main_v123 (F := Ideal)) e0 e1 e2 e3 e4 e5 e6).trans (eq_da m pre c).symm)
  · exact f2.trans ((agree3 (Cert.Reference2Ideal.Read.val_main_v126 (F := Ideal)) e0 e2 e3).trans (eq_sq m c).symm)
  · exact f3.trans ((agree (Cert.Reference2Ideal.Read.val_main_v127 (F := Ideal)) e0 e1 e2 e3 e4 e5 e6).trans (eq_df m pre c).symm)
  · exact f4.trans ((agree2 (Cert.Reference2Ideal.Read.val_main_v128 (F := Ideal)) e0 e2).trans (eq_h m c).symm)
  · exact f5.trans ((agree (Cert.Reference2Ideal.Read.val_main_v119 (F := Ideal)) e0 e1 e2 e3 e4 e5 e6).trans (eq_rows m pre c).symm)

end Cert.Algebraic2

end
-- ==== Proof.AdamSpec.lean ====
module

public import Idealize.ShloMosaic.Lib.Pointwise

@[expose] public section

/-!
# The optimiser's step at one entry

From a weight, its gradient and its two moments: the moments after the step and the change of the weight.
-/

noncomputable section

namespace Cert.Adam
open Idealize.ShloMosaic

/-- The first moment: nine tenths of the old one and a tenth of the gradient. -/
def mom (m g : EReal) : EReal := Ideal.ofBits .f32 0x3F666666#32 * m + Ideal.ofBits .f32 0x3DCCCCCD#32 * g

/-- The second moment: 0.999 of the old one and 0.001 of the gradient's square. -/
def sq (v g : EReal) : EReal := Ideal.ofBits .f32 0x3F7FBE77#32 * v + Ideal.ofBits .f32 0x3A83126F#32 * (g * g)

/-- The change of the weight: the corrected first moment over the root of the corrected second, and the decay. -/
def delta (w m v g : EReal) : EReal :=
  Ideal.ofBits .f32 0xBA83126F#32
    * (Ideal.div (Ideal.div (mom m g) (Ideal.ofBits .f32 0x3F26BD02#32))
        (Ideal.sqrt (Ideal.div (sq v g) (Ideal.ofBits .f32 0x3C231ACC#32)) + Ideal.ofBits .f32 0x322BCC77#32)
      + Ideal.ofBits .f32 0x3C23D70A#32 * w)

end Cert.Adam
-- ==== Proof.AdamAda.lean ====
module

public import proofs.«01_k».proof.Proof.Gen.Kernel3Ideal.Value
public import proofs.«01_k».proof.Proof.Gen.Reference3Ideal.Read
public import proofs.«01_k».proof.Proof.AdamSpec
public import Idealize.ShloMosaic.Lib.Pipeline.ValueKit
public import Idealize.ShloMosaic.Lib.Pointwise

@[expose] public section

set_option maxRecDepth 16384

/-!
# The optimiser's step of the modulation's matrix

Point `t` works on rows `128 t …`: the gradient is the product of the transposed conditions with the modulation's
gradient, over the eight samples.
-/

noncomputable section

namespace Cert.Kernel3Ideal.Hand
open Cert.Kernel3Ideal Cert.Kernel3Ideal.Gen Cert.Kernel3Ideal.Value Idealize.ShloMosaic Idealize.ShloMosaic.TcCoe Idealize.SL.Sem
open Idealize.ShloMosaic.Pipeline (Dat)

/-- The gradient: the sum over the samples. -/
def grad (x : FVec Ideal S8x1024 .f32) (d : FVec Ideal S8x1536 .f32) (i : S1024x1536.Idx) : EReal :=
  ∑ s : Fin 8, x (ix2 s (i 0)) * d (ix2 s (i 1))

section Body
variable (x0 : Vec Ideal S8x128 .f32) (x1 : Vec Ideal S8x1536 .f32) (x2 x3 x4 : Vec Ideal S128x1536 .f32)

theorem pay1_eq (a : Fin 128) (b : Fin 1536) : k0_pay1 (F := Ideal) x0 x1 (ix2 a b) = ∑ s : Fin 8, x0 (ix2 s a) * x1 (ix2 s b) := by
  pointwise [k0_pay1]

theorem pay2_eq (y : S128x1536.Idx) : k0_pay2 (F := Ideal) x0 x1 x3 y = Adam.mom (x3 y) (k0_pay1 (F := Ideal) x0 x1 y) := rfl

theorem pay3_eq (y : S128x1536.Idx) : k0_pay3 (F := Ideal) x0 x1 x4 y = Adam.sq (x4 y) (k0_pay1 (F := Ideal) x0 x1 y) := rfl

theorem pay4_eq (y : S128x1536.Idx) :
    k0_pay4 (F := Ideal) x0 x1 x2 x3 x4 y = Adam.delta (x2 y) (x3 y) (x4 y) (k0_pay1 (F := Ideal) x0 x1 y) := rfl

end Body

section Points
variable (m : (ℓ : Loc nD τ sig) → Buf (Elt Ideal) ℓ) (c : Dev nD)

theorem idx : ∀ t : Fin cfg0.N, win0_0.index t = ![0, t.val] ∧ win0_1.index t = ![0, 0]
    ∧ win0_2.index t = ![t.val, 0] ∧ win0_3.index t = ![t.val, 0] ∧ win0_4.index t = ![t.val, 0]
    ∧ win0_5.index t = ![t.val, 0] ∧ win0_6.index t = ![t.val, 0] ∧ win0_7.index t = ![t.val, 0]
    ∧ win0_8.index t = ![t.val, 0] :=
  (by decide +kernel : ∀ t : Fin grid0.N, _)

/-- An index of a matrix is the pair of its coordinates. -/
theorem idx2_eta {N M : ℕ} (y : (⟨2, ![N, M]⟩ : Shape).Idx) : y = ix2 (y 0) (y 1) := by
  funext a
  fin_cases a <;> rfl

/-- A row of tile `t`. -/
def row (t : Fin cfg0.N) (a : Fin 128) : Fin 1024 := ⟨128 * t.val + a.val, by have := lt_of_lt_of_eq t.isLt N_0; omega⟩

theorem blk0 (t : Fin cfg0.N) (s : Fin 8) (a : Fin 128) : iblk m c 0 t (ix2 s a) = V m c main_arg0 (ix2 s (row t a)) := by
  simp only [row, iblk]
  generalize V m c = W
  blk_point [idx t]

theorem blk1 (t : Fin cfg0.N) (s : Fin 8) (b : Fin 1536) : iblk m c 1 t (ix2 s b) = V m c main_arg1 (ix2 s b) := by
  simp only [iblk]
  generalize V m c = W
  blk_point [idx t]

theorem blk2 (t : Fin cfg0.N) (a : Fin 128) (b : Fin 1536) : iblk m c 2 t (ix2 a b) = V m c main_arg2 (ix2 (row t a) b) := by
  simp only [row, iblk]
  generalize V m c = W
  blk_point [idx t]

theorem blk3 (t : Fin cfg0.N) (a : Fin 128) (b : Fin 1536) : iblk m c 3 t (ix2 a b) = V m c main_arg3 (ix2 (row t a) b) := by
  simp only [row, iblk]
  generalize V m c = W
  blk_point [idx t]

theorem blk4 (t : Fin cfg0.N) (a : Fin 128) (b : Fin 1536) : iblk m c 4 t (ix2 a b) = V m c main_arg4 (ix2 (row t a) b) := by
  simp only [row, iblk]
  generalize V m c = W
  blk_point [idx t]

theorem grad_blk (t : Fin cfg0.N) (a : Fin 128) (b : Fin 1536) :
    k0_pay1 (F := Ideal) (iblk m c 0 t) (iblk m c 1 t) (ix2 a b) = grad (V m c main_arg0) (V m c main_arg1) (ix2 (row t a) b) := by
  refine (pay1_eq _ _ a b).trans (Finset.sum_congr rfl fun s _ => ?_)
  rw [blk0, blk1]
  rfl

theorem delta_blk (t : Fin cfg0.N) (a : Fin 128) (b : Fin 1536) :
    k0_pay4 (F := Ideal) (iblk m c 0 t) (iblk m c 1 t) (iblk m c 2 t) (iblk m c 3 t) (iblk m c 4 t) (ix2 a b)
      = Adam.delta (V m c main_arg2 (ix2 (row t a) b)) (V m c main_arg3 (ix2 (row t a) b)) (V m c main_arg4 (ix2 (row t a) b))
          (grad (V m c main_arg0) (V m c main_arg1) (ix2 (row t a) b)) := by
  rw [pay4_eq, grad_blk, blk2, blk3, blk4]

theorem mom_blk (t : Fin cfg0.N) (a : Fin 128) (b : Fin 1536) :
    k0_pay2 (F := Ideal) (iblk m c 0 t) (iblk m c 1 t) (iblk m c 3 t) (ix2 a b)
      = Adam.mom (V m c main_arg3 (ix2 (row t a) b)) (grad (V m c main_arg0) (V m c main_arg1) (ix2 (row t a) b)) := by
  rw [pay2_eq, grad_blk, blk3]

theorem sq_blk (t : Fin cfg0.N) (a : Fin 128) (b : Fin 1536) :
    k0_pay3 (F := Ideal) (iblk m c 0 t) (iblk m c 1 t) (iblk m c 4 t) (ix2 a b)
      = Adam.sq (V m c main_arg4 (ix2 (row t a) b)) (grad (V m c main_arg0) (V m c main_arg1) (ix2 (row t a) b)) := by
  rw [pay3_eq, grad_blk, blk4]

theorem out_g : (dats m 0 c).arrAt 5 cfg0.N = fun i => grad (V m c main_arg0) (V m c main_arg1) i := by
  refine (dats m 0 c).arrAt_eq_of_covers 5 _ (by decide +kernel) fun t hf y => ?_
  have ht : t.val < 8 := lt_of_lt_of_eq t.isLt N_0
  blk_simp
  rw [after0_5]
  have e := grad_blk m c t (y 0) (y 1)
  rw [show (ix2 (row t (y 0)) (y 1) : S1024x1536.Idx) = ((cfg0.win 5).blk t).view.emb y from ?_] at e
  · refine Eq.trans (congrArg _ (idx2_eta (N := 128) (M := 1536) y)) (Eq.trans ?_ e)
    dsimp only [outsAt0]
    frame_out
    rfl
  · refine Eq.trans (congrArg₂ ix2 (Fin.ext ?_) (Fin.ext ?_)) (idx2_eta (N := 1024) (M := 1536) _).symm
    · simp only [row]
      blk_simp [idx t]
      omega
    · blk_simp [idx t]

theorem out_delta : (dats m 0 c).arrAt 6 cfg0.N = fun i => Adam.delta (V m c main_arg2 i) (V m c main_arg3 i) (V m c main_arg4 i) (grad (V m c main_arg0) (V m c main_arg1) i) := by
  refine (dats m 0 c).arrAt_eq_of_covers 6 _ (by decide +kernel) fun t hf y => ?_
  have ht : t.val < 8 := lt_of_lt_of_eq t.isLt N_0
  blk_simp
  rw [after0_6]
  have e := delta_blk m c t (y 0) (y 1)
  rw [show (ix2 (row t (y 0)) (y 1) : S1024x1536.Idx) = ((cfg0.win 6).blk t).view.emb y from ?_] at e
  · refine Eq.trans (congrArg _ (idx2_eta (N := 128) (M := 1536) y)) (Eq.trans ?_ e)
    dsimp only [outsAt0]
    frame_out
    rfl
  · refine Eq.trans (congrArg₂ ix2 (Fin.ext ?_) (Fin.ext ?_)) (idx2_eta (N := 1024) (M := 1536) _).symm
    · simp only [row]
      blk_simp [idx t]
      omega
    · blk_simp [idx t]

theorem out_mom : (dats m 0 c).arrAt 7 cfg0.N = fun i => Adam.mom (V m c main_arg3 i) (grad (V m c main_arg0) (V m c main_arg1) i) := by
  refine (dats m 0 c).arrAt_eq_of_covers 7 _ (by decide +kernel) fun t hf y => ?_
  have ht : t.val < 8 := lt_of_lt_of_eq t.isLt N_0
  blk_simp
  rw [after0_7]
  have e := mom_blk m c t (y 0) (y 1)
  rw [show (ix2 (row t (y 0)) (y 1) : S1024x1536.Idx) = ((cfg0.win 7).blk t).view.emb y from ?_] at e
  · refine Eq.trans (congrArg _ (idx2_eta (N := 128) (M := 1536) y)) (Eq.trans ?_ e)
    dsimp only [outsAt0]
    frame_out
    rfl
  · refine Eq.trans (congrArg₂ ix2 (Fin.ext ?_) (Fin.ext ?_)) (idx2_eta (N := 1024) (M := 1536) _).symm
    · simp only [row]
      blk_simp [idx t]
      omega
    · blk_simp [idx t]

theorem out_sq : (dats m 0 c).arrAt 8 cfg0.N = fun i => Adam.sq (V m c main_arg4 i) (grad (V m c main_arg0) (V m c main_arg1) i) := by
  refine (dats m 0 c).arrAt_eq_of_covers 8 _ (by decide +kernel) fun t hf y => ?_
  have ht : t.val < 8 := lt_of_lt_of_eq t.isLt N_0
  blk_simp
  rw [after0_8]
  have e := sq_blk m c t (y 0) (y 1)
  rw [show (ix2 (row t (y 0)) (y 1) : S1024x1536.Idx) = ((cfg0.win 8).blk t).view.emb y from ?_] at e
  · refine Eq.trans (congrArg _ (idx2_eta (N := 128) (M := 1536) y)) (Eq.trans ?_ e)
    dsimp only [outsAt0]
    frame_out
    rfl
  · refine Eq.trans (congrArg₂ ix2 (Fin.ext ?_) (Fin.ext ?_)) (idx2_eta (N := 1024) (M := 1536) _).symm
    · simp only [row]
      blk_simp [idx t]
      omega
    · blk_simp [idx t]

end Points
end Cert.Kernel3Ideal.Hand
-- ==== Proof.AdamAdaAlgebraic.lean ====
/- The optimiser's step of the modulation's matrix: kernel and reference end with equal results. -/
module

public import proofs.«01_k».proof.Defs
public import proofs.«01_k».proof.Proof.AdamAda
public import proofs.«01_k».proof.Proof.Gen.Reference3Ideal.Run
public import Idealize.ShloMosaic.Adequacy
public import Idealize.ShloMosaic.Init

@[expose] public section

noncomputable section

namespace Cert.Algebraic3

open Idealize.ShloMosaic Idealize.ShloMosaic.TcCoe Idealize.SL.Sem Cert.Kernel3Ideal Cert.Kernel3Ideal.Gen Cert.Kernel3Ideal.Value Cert.Kernel3Ideal.Hand

attribute [local instance] Cert.Reference3Ideal.Gen.facts

section Reference
open Cert.Reference3Ideal.Read
variable (x : FVec Ideal S8x1024 .f32) (d : FVec Ideal S8x1536 .f32) (w p v : FVec Ideal S1024x1536 .f32)

theorem ref_g (i : S1024x1536.Idx) : val_main_v2 (F := Ideal) x d i = grad x d i := by
  rw [idx2_eta (N := 1024) (M := 1536) i]
  generalize i 0 = a
  generalize i 1 = b
  show _ = ∑ s : Fin 8, x (ix2 s a) * d (ix2 s b)
  pointwise [val_main_v2, val_main_v1]
  exact Finset.sum_congr rfl fun s _ => mul_comm _ _

theorem ref_mom (i : S1024x1536.Idx) : val_main_v7 (F := Ideal) x d p i = Adam.mom (p i) (val_main_v2 (F := Ideal) x d i) := rfl

theorem ref_sq (i : S1024x1536.Idx) : val_main_v13 (F := Ideal) x d v i = Adam.sq (v i) (val_main_v2 (F := Ideal) x d i) := rfl

theorem ref_delta (i : S1024x1536.Idx) :
    val_main_v26 (F := Ideal) x d w p v i = Adam.delta (w i) (p i) (v i) (val_main_v2 (F := Ideal) x d i) := rfl

end Reference

variable (m : (ℓ : Loc nD τ sig) → Buf (Elt Ideal) ℓ) (c : Dev nD)

theorem eq_g : (dats m 0 c).arrAt 5 cfg0.N = Cert.Reference3Ideal.Read.val_main_v2 (F := Ideal) (m (c.tc.loc Cert.Kernel3Ideal.main_arg0)) (m (c.tc.loc Cert.Kernel3Ideal.main_arg1)) := by
  refine (out_g m c).trans (funext fun i => ?_)
  rw [ref_g, V_main_arg0, V_main_arg1]

theorem eq_delta : (dats m 0 c).arrAt 6 cfg0.N = Cert.Reference3Ideal.Read.val_main_v26 (F := Ideal) (m (c.tc.loc Cert.Kernel3Ideal.main_arg0)) (m (c.tc.loc Cert.Kernel3Ideal.main_arg1)) (m (c.tc.loc Cert.Kernel3Ideal.main_arg2)) (m (c.tc.loc Cert.Kernel3Ideal.main_arg3)) (m (c.tc.loc Cert.Kernel3Ideal.main_arg4)) := by
  refine (out_delta m c).trans (funext fun i => ?_)
  rw [ref_delta, ref_g, V_main_arg0, V_main_arg1, V_main_arg2, V_main_arg3, V_main_arg4]

theorem eq_mom : (dats m 0 c).arrAt 7 cfg0.N = Cert.Reference3Ideal.Read.val_main_v7 (F := Ideal) (m (c.tc.loc Cert.Kernel3Ideal.main_arg0)) (m (c.tc.loc Cert.Kernel3Ideal.main_arg1)) (m (c.tc.loc Cert.Kernel3Ideal.main_arg3)) := by
  refine (out_mom m c).trans (funext fun i => ?_)
  rw [ref_mom, ref_g, V_main_arg0, V_main_arg1, V_main_arg3]

theorem eq_sq : (dats m 0 c).arrAt 8 cfg0.N = Cert.Reference3Ideal.Read.val_main_v13 (F := Ideal) (m (c.tc.loc Cert.Kernel3Ideal.main_arg0)) (m (c.tc.loc Cert.Kernel3Ideal.main_arg1)) (m (c.tc.loc Cert.Kernel3Ideal.main_arg4)) := by
  refine (out_sq m c).trans (funext fun i => ?_)
  rw [ref_sq, ref_g, V_main_arg0, V_main_arg1, V_main_arg4]

/-- From memories that agree on the arguments, the kernel and the reference end with equal results. -/
theorem algebraic : Cert.algebraic_Kernel3Ideal_Reference3Ideal (hKernel3Ideal := Cert.Kernel3Ideal.Gen.facts) := by
  intro m ρ m' ρ' _ hag
  refine ⟨fun c => (dats m 0 c).arrAt 5 cfg0.N, fun c => (dats m 0 c).arrAt 6 cfg0.N, fun c => (dats m 0 c).arrAt 7 cfg0.N, fun c => (dats m 0 c).arrAt 8 cfg0.N,
    run_blocks m ρ, (θ_run _ _ _).mono (fun r h => ?_) (Cert.Reference3Ideal.Value.run (F := Ideal) m' ρ')⟩
  intro c
  obtain ⟨g0, g1, g2, g3, kept⟩ := h c
  obtain ⟨e0, e1, e2, e3, e4⟩ := hag c
  have f0 := g0.trans (Cert.Reference3Ideal.Read.val_main_v2_eq _  _)
  have f1 := g1.trans (Cert.Reference3Ideal.Read.val_main_v26_eq _  _ _ _ _)
  have f2 := g2.trans (Cert.Reference3Ideal.Read.val_main_v7_eq _  _ _)
  have f3 := g3.trans (Cert.Reference3Ideal.Read.val_main_v13_eq _  _ _)
  refine ⟨?_, ?_, ?_, ?_, kept⟩
  · exact f0.trans ((congr (congrArg (Cert.Reference3Ideal.Read.val_main_v2 (F := Ideal)) e0) e1).trans (eq_g m c).symm)
  · exact f1.trans ((congr (congr (congr (congr (congrArg (Cert.Reference3Ideal.Read.val_main_v26 (F := Ideal)) e0) e1) e2) e3) e4).trans (eq_delta m c).symm)
  · exact f2.trans ((congr (congr (congrArg (Cert.Reference3Ideal.Read.val_main_v7 (F := Ideal)) e0) e1) e3).trans (eq_mom m c).symm)
  · exact f3.trans ((congr (congr (congrArg (Cert.Reference3Ideal.Read.val_main_v13 (F := Ideal)) e0) e1) e4).trans (eq_sq m c).symm)

end Cert.Algebraic3

end
-- ==== Proof.AdamMlp.lean ====
module

public import proofs.«01_k».proof.Proof.Gen.Kernel4Ideal.Value
public import proofs.«01_k».proof.Proof.AdamSpec
public import Idealize.ShloMosaic.Lib.Pipeline.ValueKit
public import Idealize.ShloMosaic.Lib.Pointwise

@[expose] public section

set_option maxRecDepth 16384

/-!
# The optimiser's step of the two matrices of the mlp

Point `t` works on the `t`-th quarter of the rows of each of the two matrices.
-/

noncomputable section

namespace Cert.Kernel4Ideal.Hand
open Cert.Kernel4Ideal Cert.Kernel4Ideal.Gen Cert.Kernel4Ideal.Value Idealize.ShloMosaic Idealize.ShloMosaic.TcCoe Idealize.SL.Sem
open Idealize.ShloMosaic.Pipeline (Dat)

section Points
variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] ∧ win0_9.index t = ![t.val, 0] ∧ win0_10.index t = ![t.val, 0] ∧ win0_11.index t = ![t.val, 0] ∧ win0_12.index t = ![t.val, 0] ∧ win0_13.index t = ![t.val, 0] :=
  (by decide +kernel : ∀ t : Fin grid0.N, _)

/-- An index of a matrix is the pair of its coordinates. -/
theorem idx2_eta {N M : ℕ} (y : (⟨2, ![N, M]⟩ : Shape).Idx) : y = ix2 (y 0) (y 1) := by
  funext a
  fin_cases a <;> rfl

/-- A row of the `t`-th quarter. -/
def rowIn (t : Fin cfg0.N) (a : Fin 256) : Fin 1024 :=
  ⟨256 * t.val + a.val, by have := lt_of_lt_of_eq t.isLt N_0; omega⟩

theorem blk0 (t : Fin cfg0.N) (a : Fin 256) (b : Fin 1024) :
    iblk m c 0 t (ix2 a b) = V m c main_arg0 (ix2 (rowIn t a) b) := by
  simp only [rowIn, iblk]
  generalize V m c = W
  blk_point [idx t]

theorem blk2 (t : Fin cfg0.N) (a : Fin 256) (b : Fin 1024) :
    iblk m c 2 t (ix2 a b) = V m c main_arg2 (ix2 (rowIn t a) b) := by
  simp only [rowIn, iblk]
  generalize V m c = W
  blk_point [idx t]

theorem blk4 (t : Fin cfg0.N) (a : Fin 256) (b : Fin 1024) :
    iblk m c 4 t (ix2 a b) = V m c main_arg4 (ix2 (rowIn t a) b) := by
  simp only [rowIn, iblk]
  generalize V m c = W
  blk_point [idx t]

theorem blk6 (t : Fin cfg0.N) (a : Fin 256) (b : Fin 1024) :
    iblk m c 6 t (ix2 a b) = V m c main_arg6 (ix2 (rowIn t a) b) := by
  simp only [rowIn, iblk]
  generalize V m c = W
  blk_point [idx t]

/-- A row of the `t`-th quarter. -/
def rowOut (t : Fin cfg0.N) (a : Fin 256) : Fin 1024 :=
  ⟨256 * t.val + a.val, by have := lt_of_lt_of_eq t.isLt N_0; omega⟩

theorem blk1 (t : Fin cfg0.N) (a : Fin 256) (b : Fin 1024) :
    iblk m c 1 t (ix2 a b) = V m c main_arg1 (ix2 (rowOut t a) b) := by
  simp only [rowOut, iblk]
  generalize V m c = W
  blk_point [idx t]

theorem blk3 (t : Fin cfg0.N) (a : Fin 256) (b : Fin 1024) :
    iblk m c 3 t (ix2 a b) = V m c main_arg3 (ix2 (rowOut t a) b) := by
  simp only [rowOut, iblk]
  generalize V m c = W
  blk_point [idx t]

theorem blk5 (t : Fin cfg0.N) (a : Fin 256) (b : Fin 1024) :
    iblk m c 5 t (ix2 a b) = V m c main_arg5 (ix2 (rowOut t a) b) := by
  simp only [rowOut, iblk]
  generalize V m c = W
  blk_point [idx t]

theorem blk7 (t : Fin cfg0.N) (a : Fin 256) (b : Fin 1024) :
    iblk m c 7 t (ix2 a b) = V m c main_arg7 (ix2 (rowOut t a) b) := by
  simp only [rowOut, iblk]
  generalize V m c = W
  blk_point [idx t]

theorem step8 (t : Fin cfg0.N) (a : Fin 256) (b : Fin 1024) : Adam.delta (iblk m c 2 t (ix2 a b)) (iblk m c 4 t (ix2 a b)) (iblk m c 6 t (ix2 a b)) (iblk m c 0 t (ix2 a b))
    = Adam.delta (V m c main_arg2 (ix2 (rowIn t a) b)) (V m c main_arg4 (ix2 (rowIn t a) b)) (V m c main_arg6 (ix2 (rowIn t a) b)) (V m c main_arg0 (ix2 (rowIn t a) b)) := by
  rw [blk0, blk2, blk4, blk6]

theorem out8 : (dats m 0 c).arrAt 8 cfg0.N = fun i => Adam.delta (V m c main_arg2 i) (V m c main_arg4 i) (V m c main_arg6 i) (V m c main_arg0 i) := by
  refine (dats m 0 c).arrAt_eq_of_covers 8 _ (by decide +kernel) fun t hf y => ?_
  have ht : t.val < 4 := lt_of_lt_of_eq t.isLt N_0
  blk_simp
  rw [after0_8]
  have e := step8 m c t (y 0) (y 1)
  rw [show (ix2 (rowIn t (y 0)) (y 1) : S1024x1024.Idx) = ((cfg0.win 8).blk t).view.emb y from ?_] at e
  · refine Eq.trans (congrArg _ (idx2_eta (N := 256) (M := 1024) y)) (Eq.trans ?_ e)
    frame_out
    rfl
  · refine Eq.trans (congrArg₂ ix2 (Fin.ext ?_) (Fin.ext ?_)) (idx2_eta (N := 1024) (M := 1024) _).symm
    · simp only [rowIn]
      blk_simp [idx t]
      omega
    · blk_simp [idx t]

theorem step9 (t : Fin cfg0.N) (a : Fin 256) (b : Fin 1024) : Adam.mom (iblk m c 4 t (ix2 a b)) (iblk m c 0 t (ix2 a b))
    = Adam.mom (V m c main_arg4 (ix2 (rowIn t a) b)) (V m c main_arg0 (ix2 (rowIn t a) b)) := by
  rw [blk0, blk4]

theorem out9 : (dats m 0 c).arrAt 9 cfg0.N = fun i => Adam.mom (V m c main_arg4 i) (V m c main_arg0 i) := by
  refine (dats m 0 c).arrAt_eq_of_covers 9 _ (by decide +kernel) fun t hf y => ?_
  have ht : t.val < 4 := lt_of_lt_of_eq t.isLt N_0
  blk_simp
  rw [after0_9]
  have e := step9 m c t (y 0) (y 1)
  rw [show (ix2 (rowIn t (y 0)) (y 1) : S1024x1024.Idx) = ((cfg0.win 9).blk t).view.emb y from ?_] at e
  · refine Eq.trans (congrArg _ (idx2_eta (N := 256) (M := 1024) y)) (Eq.trans ?_ e)
    frame_out
    rfl
  · refine Eq.trans (congrArg₂ ix2 (Fin.ext ?_) (Fin.ext ?_)) (idx2_eta (N := 1024) (M := 1024) _).symm
    · simp only [rowIn]
      blk_simp [idx t]
      omega
    · blk_simp [idx t]

theorem step10 (t : Fin cfg0.N) (a : Fin 256) (b : Fin 1024) : Adam.sq (iblk m c 6 t (ix2 a b)) (iblk m c 0 t (ix2 a b))
    = Adam.sq (V m c main_arg6 (ix2 (rowIn t a) b)) (V m c main_arg0 (ix2 (rowIn t a) b)) := by
  rw [blk0, blk6]

theorem out10 : (dats m 0 c).arrAt 10 cfg0.N = fun i => Adam.sq (V m c main_arg6 i) (V m c main_arg0 i) := by
  refine (dats m 0 c).arrAt_eq_of_covers 10 _ (by decide +kernel) fun t hf y => ?_
  have ht : t.val < 4 := lt_of_lt_of_eq t.isLt N_0
  blk_simp
  rw [after0_10]
  have e := step10 m c t (y 0) (y 1)
  rw [show (ix2 (rowIn t (y 0)) (y 1) : S1024x1024.Idx) = ((cfg0.win 10).blk t).view.emb y from ?_] at e
  · refine Eq.trans (congrArg _ (idx2_eta (N := 256) (M := 1024) y)) (Eq.trans ?_ e)
    frame_out
    rfl
  · refine Eq.trans (congrArg₂ ix2 (Fin.ext ?_) (Fin.ext ?_)) (idx2_eta (N := 1024) (M := 1024) _).symm
    · simp only [rowIn]
      blk_simp [idx t]
      omega
    · blk_simp [idx t]

theorem step11 (t : Fin cfg0.N) (a : Fin 256) (b : Fin 1024) : Adam.delta (iblk m c 3 t (ix2 a b)) (iblk m c 5 t (ix2 a b)) (iblk m c 7 t (ix2 a b)) (iblk m c 1 t (ix2 a b))
    = Adam.delta (V m c main_arg3 (ix2 (rowOut t a) b)) (V m c main_arg5 (ix2 (rowOut t a) b)) (V m c main_arg7 (ix2 (rowOut t a) b)) (V m c main_arg1 (ix2 (rowOut t a) b)) := by
  rw [blk1, blk3, blk5, blk7]

theorem out11 : (dats m 0 c).arrAt 11 cfg0.N = fun i => Adam.delta (V m c main_arg3 i) (V m c main_arg5 i) (V m c main_arg7 i) (V m c main_arg1 i) := by
  refine (dats m 0 c).arrAt_eq_of_covers 11 _ (by decide +kernel) fun t hf y => ?_
  have ht : t.val < 4 := lt_of_lt_of_eq t.isLt N_0
  blk_simp
  rw [after0_11]
  have e := step11 m c t (y 0) (y 1)
  rw [show (ix2 (rowOut t (y 0)) (y 1) : S1024x1024.Idx) = ((cfg0.win 11).blk t).view.emb y from ?_] at e
  · refine Eq.trans (congrArg _ (idx2_eta (N := 256) (M := 1024) y)) (Eq.trans ?_ e)
    frame_out
    rfl
  · refine Eq.trans (congrArg₂ ix2 (Fin.ext ?_) (Fin.ext ?_)) (idx2_eta (N := 1024) (M := 1024) _).symm
    · simp only [rowOut]
      blk_simp [idx t]
      omega
    · blk_simp [idx t]

theorem step12 (t : Fin cfg0.N) (a : Fin 256) (b : Fin 1024) : Adam.mom (iblk m c 5 t (ix2 a b)) (iblk m c 1 t (ix2 a b))
    = Adam.mom (V m c main_arg5 (ix2 (rowOut t a) b)) (V m c main_arg1 (ix2 (rowOut t a) b)) := by
  rw [blk1, blk5]

theorem out12 : (dats m 0 c).arrAt 12 cfg0.N = fun i => Adam.mom (V m c main_arg5 i) (V m c main_arg1 i) := by
  refine (dats m 0 c).arrAt_eq_of_covers 12 _ (by decide +kernel) fun t hf y => ?_
  have ht : t.val < 4 := lt_of_lt_of_eq t.isLt N_0
  blk_simp
  rw [after0_12]
  have e := step12 m c t (y 0) (y 1)
  rw [show (ix2 (rowOut t (y 0)) (y 1) : S1024x1024.Idx) = ((cfg0.win 12).blk t).view.emb y from ?_] at e
  · refine Eq.trans (congrArg _ (idx2_eta (N := 256) (M := 1024) y)) (Eq.trans ?_ e)
    frame_out
    rfl
  · refine Eq.trans (congrArg₂ ix2 (Fin.ext ?_) (Fin.ext ?_)) (idx2_eta (N := 1024) (M := 1024) _).symm
    · simp only [rowOut]
      blk_simp [idx t]
      omega
    · blk_simp [idx t]

theorem step13 (t : Fin cfg0.N) (a : Fin 256) (b : Fin 1024) : Adam.sq (iblk m c 7 t (ix2 a b)) (iblk m c 1 t (ix2 a b))
    = Adam.sq (V m c main_arg7 (ix2 (rowOut t a) b)) (V m c main_arg1 (ix2 (rowOut t a) b)) := by
  rw [blk1, blk7]

theorem out13 : (dats m 0 c).arrAt 13 cfg0.N = fun i => Adam.sq (V m c main_arg7 i) (V m c main_arg1 i) := by
  refine (dats m 0 c).arrAt_eq_of_covers 13 _ (by decide +kernel) fun t hf y => ?_
  have ht : t.val < 4 := lt_of_lt_of_eq t.isLt N_0
  blk_simp
  rw [after0_13]
  have e := step13 m c t (y 0) (y 1)
  rw [show (ix2 (rowOut t (y 0)) (y 1) : S1024x1024.Idx) = ((cfg0.win 13).blk t).view.emb y from ?_] at e
  · refine Eq.trans (congrArg _ (idx2_eta (N := 256) (M := 1024) y)) (Eq.trans ?_ e)
    frame_out
    rfl
  · refine Eq.trans (congrArg₂ ix2 (Fin.ext ?_) (Fin.ext ?_)) (idx2_eta (N := 1024) (M := 1024) _).symm
    · simp only [rowOut]
      blk_simp [idx t]
      omega
    · blk_simp [idx t]

end Points
end Cert.Kernel4Ideal.Hand
-- ==== Proof.AdamMlpAlgebraic.lean ====
/- The optimiser's step of the two matrices of the mlp: kernel and reference end with equal results. -/
module

public import proofs.«01_k».proof.Defs
public import proofs.«01_k».proof.Proof.AdamMlp
public import proofs.«01_k».proof.Proof.Gen.Reference4Ideal.Run
public import proofs.«01_k».proof.Proof.Gen.Reference4Ideal.Read
public import Idealize.ShloMosaic.Adequacy
public import Idealize.ShloMosaic.Init

@[expose] public section

noncomputable section

namespace Cert.Algebraic4

open Idealize.ShloMosaic Idealize.ShloMosaic.TcCoe Idealize.SL.Sem Cert.Kernel4Ideal Cert.Kernel4Ideal.Gen Cert.Kernel4Ideal.Value Cert.Kernel4Ideal.Hand

attribute [local instance] Cert.Reference4Ideal.Gen.facts

variable (m : (ℓ : Loc nD τ sig) → Buf (Elt Ideal) ℓ) (c : Dev nD)

theorem eq8 : (dats m 0 c).arrAt 8 cfg0.N = Cert.Reference4Ideal.Read.val_main_v23 (F := Ideal) (m (c.tc.loc Cert.Kernel4Ideal.main_arg0)) (m (c.tc.loc Cert.Kernel4Ideal.main_arg2)) (m (c.tc.loc Cert.Kernel4Ideal.main_arg4)) (m (c.tc.loc Cert.Kernel4Ideal.main_arg6)) := by
  refine (out8 m c).trans (funext fun i => ?_)
  rw [V_main_arg0, V_main_arg2, V_main_arg4, V_main_arg6]
  rfl

theorem eq9 : (dats m 0 c).arrAt 9 cfg0.N = Cert.Reference4Ideal.Read.val_main_v4 (F := Ideal) (m (c.tc.loc Cert.Kernel4Ideal.main_arg0)) (m (c.tc.loc Cert.Kernel4Ideal.main_arg4)) := by
  refine (out9 m c).trans (funext fun i => ?_)
  rw [V_main_arg0, V_main_arg4]
  rfl

theorem eq10 : (dats m 0 c).arrAt 10 cfg0.N = Cert.Reference4Ideal.Read.val_main_v10 (F := Ideal) (m (c.tc.loc Cert.Kernel4Ideal.main_arg0)) (m (c.tc.loc Cert.Kernel4Ideal.main_arg6)) := by
  refine (out10 m c).trans (funext fun i => ?_)
  rw [V_main_arg0, V_main_arg6]
  rfl

theorem eq11 : (dats m 0 c).arrAt 11 cfg0.N = Cert.Reference4Ideal.Read.val_main_v47 (F := Ideal) (m (c.tc.loc Cert.Kernel4Ideal.main_arg1)) (m (c.tc.loc Cert.Kernel4Ideal.main_arg3)) (m (c.tc.loc Cert.Kernel4Ideal.main_arg5)) (m (c.tc.loc Cert.Kernel4Ideal.main_arg7)) := by
  refine (out11 m c).trans (funext fun i => ?_)
  rw [V_main_arg1, V_main_arg3, V_main_arg5, V_main_arg7]
  rfl

theorem eq12 : (dats m 0 c).arrAt 12 cfg0.N = Cert.Reference4Ideal.Read.val_main_v28 (F := Ideal) (m (c.tc.loc Cert.Kernel4Ideal.main_arg1)) (m (c.tc.loc Cert.Kernel4Ideal.main_arg5)) := by
  refine (out12 m c).trans (funext fun i => ?_)
  rw [V_main_arg1, V_main_arg5]
  rfl

theorem eq13 : (dats m 0 c).arrAt 13 cfg0.N = Cert.Reference4Ideal.Read.val_main_v34 (F := Ideal) (m (c.tc.loc Cert.Kernel4Ideal.main_arg1)) (m (c.tc.loc Cert.Kernel4Ideal.main_arg7)) := by
  refine (out13 m c).trans (funext fun i => ?_)
  rw [V_main_arg1, V_main_arg7]
  rfl

/-- From memories that agree on the arguments, the kernel and the reference end with equal results. -/
theorem algebraic : Cert.algebraic_Kernel4Ideal_Reference4Ideal (hKernel4Ideal := Cert.Kernel4Ideal.Gen.facts) := by
  intro m ρ m' ρ' _ hag
  refine ⟨fun c => (dats m 0 c).arrAt 8 cfg0.N, fun c => (dats m 0 c).arrAt 9 cfg0.N, fun c => (dats m 0 c).arrAt 10 cfg0.N, fun c => (dats m 0 c).arrAt 11 cfg0.N, fun c => (dats m 0 c).arrAt 12 cfg0.N, fun c => (dats m 0 c).arrAt 13 cfg0.N,
    run_blocks m ρ, (θ_run _ _ _).mono (fun r h => ?_) (Cert.Reference4Ideal.Value.run (F := Ideal) m' ρ')⟩
  intro c
  obtain ⟨g0, g1, g2, g3, g4, g5, kept⟩ := h c
  obtain ⟨e0, e1, e2, e3, e4, e5, e6, e7⟩ := hag c
  have f0 := g0.trans (Cert.Reference4Ideal.Read.val_main_v23_eq _ _ _ _)
  have f1 := g1.trans (Cert.Reference4Ideal.Read.val_main_v4_eq _ _)
  have f2 := g2.trans (Cert.Reference4Ideal.Read.val_main_v10_eq _ _)
  have f3 := g3.trans (Cert.Reference4Ideal.Read.val_main_v47_eq _ _ _ _)
  have f4 := g4.trans (Cert.Reference4Ideal.Read.val_main_v28_eq _ _)
  have f5 := g5.trans (Cert.Reference4Ideal.Read.val_main_v34_eq _ _)
  refine ⟨?_, ?_, ?_, ?_, ?_, ?_, kept⟩
  · exact f0.trans ((congr (congr (congr (congrArg (Cert.Reference4Ideal.Read.val_main_v23 (F := Ideal)) e0) e2) e4) e6).trans (eq8 m c).symm)
  · exact f1.trans ((congr (congrArg (Cert.Reference4Ideal.Read.val_main_v4 (F := Ideal)) e0) e4).trans (eq9 m c).symm)
  · exact f2.trans ((congr (congrArg (Cert.Reference4Ideal.Read.val_main_v10 (F := Ideal)) e0) e6).trans (eq10 m c).symm)
  · exact f3.trans ((congr (congr (congr (congrArg (Cert.Reference4Ideal.Read.val_main_v47 (F := Ideal)) e1) e3) e5) e7).trans (eq11 m c).symm)
  · exact f4.trans ((congr (congrArg (Cert.Reference4Ideal.Read.val_main_v28 (F := Ideal)) e1) e5).trans (eq12 m c).symm)
  · exact f5.trans ((congr (congrArg (Cert.Reference4Ideal.Read.val_main_v34 (F := Ideal)) e1) e7).trans (eq13 m c).symm)

end Cert.Algebraic4

end
-- ==== Proof.AdamMix.lean ====
module

public import proofs.«01_k».proof.Proof.Gen.Kernel5Ideal.Value
public import proofs.«01_k».proof.Proof.AdamSpec
public import Idealize.ShloMosaic.Lib.Pipeline.ValueKit
public import Idealize.ShloMosaic.Lib.Pointwise

@[expose] public section

set_option maxRecDepth 16384

/-!
# The optimiser's step of the two matrices of the mixing layer

Point `t` works on the `t`-th quarter of the rows of each of the two matrices.
-/

noncomputable section

namespace Cert.Kernel5Ideal.Hand
open Cert.Kernel5Ideal Cert.Kernel5Ideal.Gen Cert.Kernel5Ideal.Value Idealize.ShloMosaic Idealize.ShloMosaic.TcCoe Idealize.SL.Sem
open Idealize.ShloMosaic.Pipeline (Dat)

section Points
variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] ∧ win0_9.index t = ![t.val, 0] ∧ win0_10.index t = ![t.val, 0] ∧ win0_11.index t = ![t.val, 0] ∧ win0_12.index t = ![t.val, 0] ∧ win0_13.index t = ![t.val, 0] :=
  (by decide +kernel : ∀ t : Fin grid0.N, _)

/-- An index of a matrix is the pair of its coordinates. -/
theorem idx2_eta {N M : ℕ} (y : (⟨2, ![N, M]⟩ : Shape).Idx) : y = ix2 (y 0) (y 1) := by
  funext a
  fin_cases a <;> rfl

/-- A row of the `t`-th quarter. -/
def rowIn (t : Fin cfg0.N) (a : Fin 256) : Fin 1024 :=
  ⟨256 * t.val + a.val, by have := lt_of_lt_of_eq t.isLt N_0; omega⟩

theorem blk0 (t : Fin cfg0.N) (a : Fin 256) (b : Fin 512) :
    iblk m c 0 t (ix2 a b) = V m c main_arg0 (ix2 (rowIn t a) b) := by
  simp only [rowIn, iblk]
  generalize V m c = W
  blk_point [idx t]

theorem blk2 (t : Fin cfg0.N) (a : Fin 256) (b : Fin 512) :
    iblk m c 2 t (ix2 a b) = V m c main_arg2 (ix2 (rowIn t a) b) := by
  simp only [rowIn, iblk]
  generalize V m c = W
  blk_point [idx t]

theorem blk4 (t : Fin cfg0.N) (a : Fin 256) (b : Fin 512) :
    iblk m c 4 t (ix2 a b) = V m c main_arg4 (ix2 (rowIn t a) b) := by
  simp only [rowIn, iblk]
  generalize V m c = W
  blk_point [idx t]

theorem blk6 (t : Fin cfg0.N) (a : Fin 256) (b : Fin 512) :
    iblk m c 6 t (ix2 a b) = V m c main_arg6 (ix2 (rowIn t a) b) := by
  simp only [rowIn, iblk]
  generalize V m c = W
  blk_point [idx t]

/-- A row of the `t`-th quarter. -/
def rowOut (t : Fin cfg0.N) (a : Fin 64) : Fin 256 :=
  ⟨64 * t.val + a.val, by have := lt_of_lt_of_eq t.isLt N_0; omega⟩

theorem blk1 (t : Fin cfg0.N) (a : Fin 64) (b : Fin 1024) :
    iblk m c 1 t (ix2 a b) = V m c main_arg1 (ix2 (rowOut t a) b) := by
  simp only [rowOut, iblk]
  generalize V m c = W
  blk_point [idx t]

theorem blk3 (t : Fin cfg0.N) (a : Fin 64) (b : Fin 1024) :
    iblk m c 3 t (ix2 a b) = V m c main_arg3 (ix2 (rowOut t a) b) := by
  simp only [rowOut, iblk]
  generalize V m c = W
  blk_point [idx t]

theorem blk5 (t : Fin cfg0.N) (a : Fin 64) (b : Fin 1024) :
    iblk m c 5 t (ix2 a b) = V m c main_arg5 (ix2 (rowOut t a) b) := by
  simp only [rowOut, iblk]
  generalize V m c = W
  blk_point [idx t]

theorem blk7 (t : Fin cfg0.N) (a : Fin 64) (b : Fin 1024) :
    iblk m c 7 t (ix2 a b) = V m c main_arg7 (ix2 (rowOut t a) b) := by
  simp only [rowOut, iblk]
  generalize V m c = W
  blk_point [idx t]

theorem step8 (t : Fin cfg0.N) (a : Fin 256) (b : Fin 512) : Adam.delta (iblk m c 2 t (ix2 a b)) (iblk m c 4 t (ix2 a b)) (iblk m c 6 t (ix2 a b)) (iblk m c 0 t (ix2 a b))
    = Adam.delta (V m c main_arg2 (ix2 (rowIn t a) b)) (V m c main_arg4 (ix2 (rowIn t a) b)) (V m c main_arg6 (ix2 (rowIn t a) b)) (V m c main_arg0 (ix2 (rowIn t a) b)) := by
  rw [blk0, blk2, blk4, blk6]

theorem out8 : (dats m 0 c).arrAt 8 cfg0.N = fun i => Adam.delta (V m c main_arg2 i) (V m c main_arg4 i) (V m c main_arg6 i) (V m c main_arg0 i) := by
  refine (dats m 0 c).arrAt_eq_of_covers 8 _ (by decide +kernel) fun t hf y => ?_
  have ht : t.val < 4 := lt_of_lt_of_eq t.isLt N_0
  blk_simp
  rw [after0_8]
  have e := step8 m c t (y 0) (y 1)
  rw [show (ix2 (rowIn t (y 0)) (y 1) : S1024x512.Idx) = ((cfg0.win 8).blk t).view.emb y from ?_] at e
  · refine Eq.trans (congrArg _ (idx2_eta (N := 256) (M := 512) y)) (Eq.trans ?_ e)
    frame_out
    rfl
  · refine Eq.trans (congrArg₂ ix2 (Fin.ext ?_) (Fin.ext ?_)) (idx2_eta (N := 1024) (M := 512) _).symm
    · simp only [rowIn]
      blk_simp [idx t]
      omega
    · blk_simp [idx t]

theorem step9 (t : Fin cfg0.N) (a : Fin 256) (b : Fin 512) : Adam.mom (iblk m c 4 t (ix2 a b)) (iblk m c 0 t (ix2 a b))
    = Adam.mom (V m c main_arg4 (ix2 (rowIn t a) b)) (V m c main_arg0 (ix2 (rowIn t a) b)) := by
  rw [blk0, blk4]

theorem out9 : (dats m 0 c).arrAt 9 cfg0.N = fun i => Adam.mom (V m c main_arg4 i) (V m c main_arg0 i) := by
  refine (dats m 0 c).arrAt_eq_of_covers 9 _ (by decide +kernel) fun t hf y => ?_
  have ht : t.val < 4 := lt_of_lt_of_eq t.isLt N_0
  blk_simp
  rw [after0_9]
  have e := step9 m c t (y 0) (y 1)
  rw [show (ix2 (rowIn t (y 0)) (y 1) : S1024x512.Idx) = ((cfg0.win 9).blk t).view.emb y from ?_] at e
  · refine Eq.trans (congrArg _ (idx2_eta (N := 256) (M := 512) y)) (Eq.trans ?_ e)
    frame_out
    rfl
  · refine Eq.trans (congrArg₂ ix2 (Fin.ext ?_) (Fin.ext ?_)) (idx2_eta (N := 1024) (M := 512) _).symm
    · simp only [rowIn]
      blk_simp [idx t]
      omega
    · blk_simp [idx t]

theorem step10 (t : Fin cfg0.N) (a : Fin 256) (b : Fin 512) : Adam.sq (iblk m c 6 t (ix2 a b)) (iblk m c 0 t (ix2 a b))
    = Adam.sq (V m c main_arg6 (ix2 (rowIn t a) b)) (V m c main_arg0 (ix2 (rowIn t a) b)) := by
  rw [blk0, blk6]

theorem out10 : (dats m 0 c).arrAt 10 cfg0.N = fun i => Adam.sq (V m c main_arg6 i) (V m c main_arg0 i) := by
  refine (dats m 0 c).arrAt_eq_of_covers 10 _ (by decide +kernel) fun t hf y => ?_
  have ht : t.val < 4 := lt_of_lt_of_eq t.isLt N_0
  blk_simp
  rw [after0_10]
  have e := step10 m c t (y 0) (y 1)
  rw [show (ix2 (rowIn t (y 0)) (y 1) : S1024x512.Idx) = ((cfg0.win 10).blk t).view.emb y from ?_] at e
  · refine Eq.trans (congrArg _ (idx2_eta (N := 256) (M := 512) y)) (Eq.trans ?_ e)
    frame_out
    rfl
  · refine Eq.trans (congrArg₂ ix2 (Fin.ext ?_) (Fin.ext ?_)) (idx2_eta (N := 1024) (M := 512) _).symm
    · simp only [rowIn]
      blk_simp [idx t]
      omega
    · blk_simp [idx t]

theorem step11 (t : Fin cfg0.N) (a : Fin 64) (b : Fin 1024) : Adam.delta (iblk m c 3 t (ix2 a b)) (iblk m c 5 t (ix2 a b)) (iblk m c 7 t (ix2 a b)) (iblk m c 1 t (ix2 a b))
    = Adam.delta (V m c main_arg3 (ix2 (rowOut t a) b)) (V m c main_arg5 (ix2 (rowOut t a) b)) (V m c main_arg7 (ix2 (rowOut t a) b)) (V m c main_arg1 (ix2 (rowOut t a) b)) := by
  rw [blk1, blk3, blk5, blk7]

theorem out11 : (dats m 0 c).arrAt 11 cfg0.N = fun i => Adam.delta (V m c main_arg3 i) (V m c main_arg5 i) (V m c main_arg7 i) (V m c main_arg1 i) := by
  refine (dats m 0 c).arrAt_eq_of_covers 11 _ (by decide +kernel) fun t hf y => ?_
  have ht : t.val < 4 := lt_of_lt_of_eq t.isLt N_0
  blk_simp
  rw [after0_11]
  have e := step11 m c t (y 0) (y 1)
  rw [show (ix2 (rowOut t (y 0)) (y 1) : S256x1024.Idx) = ((cfg0.win 11).blk t).view.emb y from ?_] at e
  · refine Eq.trans (congrArg _ (idx2_eta (N := 64) (M := 1024) y)) (Eq.trans ?_ e)
    frame_out
    rfl
  · refine Eq.trans (congrArg₂ ix2 (Fin.ext ?_) (Fin.ext ?_)) (idx2_eta (N := 256) (M := 1024) _).symm
    · simp only [rowOut]
      blk_simp [idx t]
      omega
    · blk_simp [idx t]

theorem step12 (t : Fin cfg0.N) (a : Fin 64) (b : Fin 1024) : Adam.mom (iblk m c 5 t (ix2 a b)) (iblk m c 1 t (ix2 a b))
    = Adam.mom (V m c main_arg5 (ix2 (rowOut t a) b)) (V m c main_arg1 (ix2 (rowOut t a) b)) := by
  rw [blk1, blk5]

theorem out12 : (dats m 0 c).arrAt 12 cfg0.N = fun i => Adam.mom (V m c main_arg5 i) (V m c main_arg1 i) := by
  refine (dats m 0 c).arrAt_eq_of_covers 12 _ (by decide +kernel) fun t hf y => ?_
  have ht : t.val < 4 := lt_of_lt_of_eq t.isLt N_0
  blk_simp
  rw [after0_12]
  have e := step12 m c t (y 0) (y 1)
  rw [show (ix2 (rowOut t (y 0)) (y 1) : S256x1024.Idx) = ((cfg0.win 12).blk t).view.emb y from ?_] at e
  · refine Eq.trans (congrArg _ (idx2_eta (N := 64) (M := 1024) y)) (Eq.trans ?_ e)
    frame_out
    rfl
  · refine Eq.trans (congrArg₂ ix2 (Fin.ext ?_) (Fin.ext ?_)) (idx2_eta (N := 256) (M := 1024) _).symm
    · simp only [rowOut]
      blk_simp [idx t]
      omega
    · blk_simp [idx t]

theorem step13 (t : Fin cfg0.N) (a : Fin 64) (b : Fin 1024) : Adam.sq (iblk m c 7 t (ix2 a b)) (iblk m c 1 t (ix2 a b))
    = Adam.sq (V m c main_arg7 (ix2 (rowOut t a) b)) (V m c main_arg1 (ix2 (rowOut t a) b)) := by
  rw [blk1, blk7]

theorem out13 : (dats m 0 c).arrAt 13 cfg0.N = fun i => Adam.sq (V m c main_arg7 i) (V m c main_arg1 i) := by
  refine (dats m 0 c).arrAt_eq_of_covers 13 _ (by decide +kernel) fun t hf y => ?_
  have ht : t.val < 4 := lt_of_lt_of_eq t.isLt N_0
  blk_simp
  rw [after0_13]
  have e := step13 m c t (y 0) (y 1)
  rw [show (ix2 (rowOut t (y 0)) (y 1) : S256x1024.Idx) = ((cfg0.win 13).blk t).view.emb y from ?_] at e
  · refine Eq.trans (congrArg _ (idx2_eta (N := 64) (M := 1024) y)) (Eq.trans ?_ e)
    frame_out
    rfl
  · refine Eq.trans (congrArg₂ ix2 (Fin.ext ?_) (Fin.ext ?_)) (idx2_eta (N := 256) (M := 1024) _).symm
    · simp only [rowOut]
      blk_simp [idx t]
      omega
    · blk_simp [idx t]

end Points
end Cert.Kernel5Ideal.Hand
-- ==== Proof.AdamMixAlgebraic.lean ====
/- The optimiser's step of the two matrices of the mixing layer: kernel and reference end with equal results. -/
module

public import proofs.«01_k».proof.Defs
public import proofs.«01_k».proof.Proof.AdamMix
public import proofs.«01_k».proof.Proof.Gen.Reference5Ideal.Run
public import proofs.«01_k».proof.Proof.Gen.Reference5Ideal.Read
public import Idealize.ShloMosaic.Adequacy
public import Idealize.ShloMosaic.Init

@[expose] public section

noncomputable section

namespace Cert.Algebraic5

open Idealize.ShloMosaic Idealize.ShloMosaic.TcCoe Idealize.SL.Sem Cert.Kernel5Ideal Cert.Kernel5Ideal.Gen Cert.Kernel5Ideal.Value Cert.Kernel5Ideal.Hand

attribute [local instance] Cert.Reference5Ideal.Gen.facts

variable (m : (ℓ : Loc nD τ sig) → Buf (Elt Ideal) ℓ) (c : Dev nD)

theorem eq8 : (dats m 0 c).arrAt 8 cfg0.N = Cert.Reference5Ideal.Read.val_main_v23 (F := Ideal) (m (c.tc.loc Cert.Kernel5Ideal.main_arg0)) (m (c.tc.loc Cert.Kernel5Ideal.main_arg2)) (m (c.tc.loc Cert.Kernel5Ideal.main_arg4)) (m (c.tc.loc Cert.Kernel5Ideal.main_arg6)) := by
  refine (out8 m c).trans (funext fun i => ?_)
  rw [V_main_arg0, V_main_arg2, V_main_arg4, V_main_arg6]
  rfl

theorem eq9 : (dats m 0 c).arrAt 9 cfg0.N = Cert.Reference5Ideal.Read.val_main_v4 (F := Ideal) (m (c.tc.loc Cert.Kernel5Ideal.main_arg0)) (m (c.tc.loc Cert.Kernel5Ideal.main_arg4)) := by
  refine (out9 m c).trans (funext fun i => ?_)
  rw [V_main_arg0, V_main_arg4]
  rfl

theorem eq10 : (dats m 0 c).arrAt 10 cfg0.N = Cert.Reference5Ideal.Read.val_main_v10 (F := Ideal) (m (c.tc.loc Cert.Kernel5Ideal.main_arg0)) (m (c.tc.loc Cert.Kernel5Ideal.main_arg6)) := by
  refine (out10 m c).trans (funext fun i => ?_)
  rw [V_main_arg0, V_main_arg6]
  rfl

theorem eq11 : (dats m 0 c).arrAt 11 cfg0.N = Cert.Reference5Ideal.Read.val_main_v47 (F := Ideal) (m (c.tc.loc Cert.Kernel5Ideal.main_arg1)) (m (c.tc.loc Cert.Kernel5Ideal.main_arg3)) (m (c.tc.loc Cert.Kernel5Ideal.main_arg5)) (m (c.tc.loc Cert.Kernel5Ideal.main_arg7)) := by
  refine (out11 m c).trans (funext fun i => ?_)
  rw [V_main_arg1, V_main_arg3, V_main_arg5, V_main_arg7]
  rfl

theorem eq12 : (dats m 0 c).arrAt 12 cfg0.N = Cert.Reference5Ideal.Read.val_main_v28 (F := Ideal) (m (c.tc.loc Cert.Kernel5Ideal.main_arg1)) (m (c.tc.loc Cert.Kernel5Ideal.main_arg5)) := by
  refine (out12 m c).trans (funext fun i => ?_)
  rw [V_main_arg1, V_main_arg5]
  rfl

theorem eq13 : (dats m 0 c).arrAt 13 cfg0.N = Cert.Reference5Ideal.Read.val_main_v34 (F := Ideal) (m (c.tc.loc Cert.Kernel5Ideal.main_arg1)) (m (c.tc.loc Cert.Kernel5Ideal.main_arg7)) := by
  refine (out13 m c).trans (funext fun i => ?_)
  rw [V_main_arg1, V_main_arg7]
  rfl

/-- From memories that agree on the arguments, the kernel and the reference end with equal results. -/
theorem algebraic : Cert.algebraic_Kernel5Ideal_Reference5Ideal (hKernel5Ideal := Cert.Kernel5Ideal.Gen.facts) := by
  intro m ρ m' ρ' _ hag
  refine ⟨fun c => (dats m 0 c).arrAt 8 cfg0.N, fun c => (dats m 0 c).arrAt 9 cfg0.N, fun c => (dats m 0 c).arrAt 10 cfg0.N, fun c => (dats m 0 c).arrAt 11 cfg0.N, fun c => (dats m 0 c).arrAt 12 cfg0.N, fun c => (dats m 0 c).arrAt 13 cfg0.N,
    run_blocks m ρ, (θ_run _ _ _).mono (fun r h => ?_) (Cert.Reference5Ideal.Value.run (F := Ideal) m' ρ')⟩
  intro c
  obtain ⟨g0, g1, g2, g3, g4, g5, kept⟩ := h c
  obtain ⟨e0, e1, e2, e3, e4, e5, e6, e7⟩ := hag c
  have f0 := g0.trans (Cert.Reference5Ideal.Read.val_main_v23_eq _ _ _ _)
  have f1 := g1.trans (Cert.Reference5Ideal.Read.val_main_v4_eq _ _)
  have f2 := g2.trans (Cert.Reference5Ideal.Read.val_main_v10_eq _ _)
  have f3 := g3.trans (Cert.Reference5Ideal.Read.val_main_v47_eq _ _ _ _)
  have f4 := g4.trans (Cert.Reference5Ideal.Read.val_main_v28_eq _ _)
  have f5 := g5.trans (Cert.Reference5Ideal.Read.val_main_v34_eq _ _)
  refine ⟨?_, ?_, ?_, ?_, ?_, ?_, kept⟩
  · exact f0.trans ((congr (congr (congr (congrArg (Cert.Reference5Ideal.Read.val_main_v23 (F := Ideal)) e0) e2) e4) e6).trans (eq8 m c).symm)
  · exact f1.trans ((congr (congrArg (Cert.Reference5Ideal.Read.val_main_v4 (F := Ideal)) e0) e4).trans (eq9 m c).symm)
  · exact f2.trans ((congr (congrArg (Cert.Reference5Ideal.Read.val_main_v10 (F := Ideal)) e0) e6).trans (eq10 m c).symm)
  · exact f3.trans ((congr (congr (congr (congrArg (Cert.Reference5Ideal.Read.val_main_v47 (F := Ideal)) e1) e3) e5) e7).trans (eq11 m c).symm)
  · exact f4.trans ((congr (congrArg (Cert.Reference5Ideal.Read.val_main_v28 (F := Ideal)) e1) e5).trans (eq12 m c).symm)
  · exact f5.trans ((congr (congrArg (Cert.Reference5Ideal.Read.val_main_v34 (F := Ideal)) e1) e7).trans (eq13 m c).symm)

end Cert.Algebraic5

end
-- ==== Proof.SmallSpec.lean ====
module

public import proofs.«01_k».proof.Proof.Gen.Kernel6Ideal.Skeleton
public import Idealize.ShloMosaic.Lib.VecWindow
public import Idealize.ShloMosaic.Lib.Pipeline.Value

@[expose] public section

set_option maxRecDepth 16384

/-!
# What the small weights' optimiser step stores

The kernel cuts the small gradients out of the summed rows and steps the eight small weights. `res30` to `res59` are its
thirty results in terms of its inputs: first the cut gradients, then the changes, the first moments and the second moments.
-/

noncomputable section

namespace Cert.Kernel6Ideal.Hand

open Cert.Kernel6Ideal Cert.Kernel6Ideal.Gen
open Idealize.ShloMosaic Idealize.ShloMosaic.TcCoe

variable {F : FTy → Type} [FloatOps F]

/-- A row of one of the summed arrays of rows. -/
def row0 (x : Vec F S8x1024 .f32) : Vec F S1x1024 .f32 := View.ld x (Rect.unit (s := S8x1024) ![0, 0] S1x1024.size inb_S8x1024_S1x1024_0_0)
def row1 (x : Vec F S8x1024 .f32) : Vec F S1x1024 .f32 := View.ld x (Rect.unit (s := S8x1024) ![1, 0] S1x1024.size inb_S8x1024_S1x1024_1_0)
def row3 (x : Vec F S8x512 .f32) : Vec F S1x512 .f32 := View.ld x (Rect.unit (s := S8x512) ![3, 0] S1x512.size inb_S8x512_S1x512_3_0)
/-- A chip's columns of the gradient of the convolution's weights. -/
def cols0 (x : Vec F S8x512 .f32) : Vec F S3x128 .f32 := View.ld x (Rect.unit (s := S8x512) ![0, 0] S3x128.size inb_S8x512_S3x128_0_0)
def cols1 (x : Vec F S8x512 .f32) : Vec F S3x128 .f32 := View.ld x (Rect.unit (s := S8x512) ![0, 128] S3x128.size inb_S8x512_S3x128_0_128)
def cols2 (x : Vec F S8x512 .f32) : Vec F S3x128 .f32 := View.ld x (Rect.unit (s := S8x512) ![0, 256] S3x128.size inb_S8x512_S3x128_0_256)
def cols3 (x : Vec F S8x512 .f32) : Vec F S3x128 .f32 := View.ld x (Rect.unit (s := S8x512) ![0, 384] S3x128.size inb_S8x512_S3x128_0_384)
/-- The number of the chip. -/
def word (x : Vec F S2 .i32) : Elt F .i32 := View.ld x (Rect.unit (s := S2) ![1] S1.size inb_S2_S1_1) (Shape.Idx.first (numel1_S1.symm ▸ Nat.one_pos))

def res30 (x0 : Vec F S2 .i32) (x3 : Vec F S8x512 .f32) : Vec F S3x128 .f32 := k0_pay5 (word x0) (Scalar.ofBits .f32 0x00000000#32) (cols0 x3) (cols1 x3) (cols2 x3) (cols3 x3)
def res31 (x3 : Vec F S8x512 .f32) : Vec F S1x512 .f32 := row3 x3
def res32 (x1 : Vec F S8x1024 .f32) : Vec F S1x1024 .f32 := row0 x1
def res33 (x1 : Vec F S8x1024 .f32) : Vec F S1x1024 .f32 := row1 x1
def res34 (x2 : Vec F S8x1024 .f32) : Vec F S1x1024 .f32 := row0 x2
def res35 (x2 : Vec F S8x1024 .f32) : Vec F S1x1024 .f32 := row1 x2
def res36 (x4 : Vec F S1x6144 .f32) (x6 : Vec F S1x6144 .f32) (x14 : Vec F S1x6144 .f32) (x22 : Vec F S1x6144 .f32) : Vec F S1x6144 .f32 := k0_pay4 x4 x6 x14 x22
def res37 (x0 : Vec F S2 .i32) (x3 : Vec F S8x512 .f32) (x7 : Vec F S3x128 .f32) (x15 : Vec F S3x128 .f32) (x23 : Vec F S3x128 .f32) : Vec F S3x128 .f32 := k0_pay10 x7 (k0_pay8 (word x0) (Scalar.ofBits .f32 0x00000000#32) (cols0 x3) (cols1 x3) (cols2 x3) (cols3 x3) x15) (k0_pay9 (word x0) (Scalar.ofBits .f32 0x00000000#32) (cols0 x3) (cols1 x3) (cols2 x3) (cols3 x3) x23)
def res38 (x5 : Vec F S512x128 .f32) (x8 : Vec F S512x128 .f32) (x16 : Vec F S512x128 .f32) (x24 : Vec F S512x128 .f32) : Vec F S512x128 .f32 := k0_pay17 (k0_pay12 x8) (k0_pay15 x5 x16) (k0_pay16 x5 x24)
def res39 (x3 : Vec F S8x512 .f32) (x9 : Vec F S1x512 .f32) (x17 : Vec F S1x512 .f32) (x25 : Vec F S1x512 .f32) : Vec F S1x512 .f32 := k0_pay22 x9 (k0_pay19 (row3 x3) x25) (k0_pay20 (row3 x3) x17) (k0_pay21 (F := F))
def res40 (x1 : Vec F S8x1024 .f32) (x10 : Vec F S1x1024 .f32) (x18 : Vec F S1x1024 .f32) (x26 : Vec F S1x1024 .f32) : Vec F S1x1024 .f32 := k0_pay26 x10 (k0_pay24 (row0 x1) x26) (k0_pay25 (row0 x1) x18) (Scalar.ofBits .f32 0x3C231ACC#32)
def res41 (x1 : Vec F S8x1024 .f32) (x11 : Vec F S1x1024 .f32) (x19 : Vec F S1x1024 .f32) (x27 : Vec F S1x1024 .f32) : Vec F S1x1024 .f32 := k0_pay30 x11 (k0_pay28 (row1 x1) x27) (k0_pay29 (row1 x1) x19)
def res42 (x2 : Vec F S8x1024 .f32) (x12 : Vec F S1x1024 .f32) (x20 : Vec F S1x1024 .f32) (x28 : Vec F S1x1024 .f32) : Vec F S1x1024 .f32 := k0_pay34 x12 (k0_pay31 (row0 x2) x20) (k0_pay32 (row0 x2) x28) (k0_pay33 (F := F))
def res43 (x2 : Vec F S8x1024 .f32) (x13 : Vec F S1x1024 .f32) (x21 : Vec F S1x1024 .f32) (x29 : Vec F S1x1024 .f32) : Vec F S1x1024 .f32 := k0_pay1 x13 (k0_pay35 (row1 x2) x21) (k0_pay36 (row1 x2) x29) (Scalar.ofBits .f32 0x3F26BD02#32)
def res44 (x4 : Vec F S1x6144 .f32) (x14 : Vec F S1x6144 .f32) : Vec F S1x6144 .f32 := k0_pay2 x4 x14
def res45 (x0 : Vec F S2 .i32) (x3 : Vec F S8x512 .f32) (x15 : Vec F S3x128 .f32) : Vec F S3x128 .f32 := k0_pay6 (word x0) (Scalar.ofBits .f32 0x00000000#32) (cols0 x3) (cols1 x3) (cols2 x3) (cols3 x3) x15
def res46 (x5 : Vec F S512x128 .f32) (x16 : Vec F S512x128 .f32) : Vec F S512x128 .f32 := k0_pay13 x5 x16
def res47 (x3 : Vec F S8x512 .f32) (x17 : Vec F S1x512 .f32) : Vec F S1x512 .f32 := k0_pay18 (row3 x3) x17
def res48 (x1 : Vec F S8x1024 .f32) (x18 : Vec F S1x1024 .f32) : Vec F S1x1024 .f32 := k0_pay23 (row0 x1) x18
def res49 (x1 : Vec F S8x1024 .f32) (x19 : Vec F S1x1024 .f32) : Vec F S1x1024 .f32 := k0_pay27 (row1 x1) x19
def res50 (x2 : Vec F S8x1024 .f32) (x20 : Vec F S1x1024 .f32) : Vec F S1x1024 .f32 := k0_pay31 (row0 x2) x20
def res51 (x2 : Vec F S8x1024 .f32) (x21 : Vec F S1x1024 .f32) : Vec F S1x1024 .f32 := k0_pay35 (row1 x2) x21
def res52 (x4 : Vec F S1x6144 .f32) (x22 : Vec F S1x6144 .f32) : Vec F S1x6144 .f32 := k0_pay3 x4 x22
def res53 (x0 : Vec F S2 .i32) (x3 : Vec F S8x512 .f32) (x23 : Vec F S3x128 .f32) : Vec F S3x128 .f32 := k0_pay7 (word x0) (Scalar.ofBits .f32 0x00000000#32) (cols0 x3) (cols1 x3) (cols2 x3) (cols3 x3) x23
def res54 (x5 : Vec F S512x128 .f32) (x24 : Vec F S512x128 .f32) : Vec F S512x128 .f32 := k0_pay14 x5 x24
def res55 (x3 : Vec F S8x512 .f32) (x25 : Vec F S1x512 .f32) : Vec F S1x512 .f32 := k0_pay19 (row3 x3) x25
def res56 (x1 : Vec F S8x1024 .f32) (x26 : Vec F S1x1024 .f32) : Vec F S1x1024 .f32 := k0_pay24 (row0 x1) x26
def res57 (x1 : Vec F S8x1024 .f32) (x27 : Vec F S1x1024 .f32) : Vec F S1x1024 .f32 := k0_pay28 (row1 x1) x27
def res58 (x2 : Vec F S8x1024 .f32) (x28 : Vec F S1x1024 .f32) : Vec F S1x1024 .f32 := k0_pay32 (row0 x2) x28
def res59 (x2 : Vec F S8x1024 .f32) (x29 : Vec F S1x1024 .f32) : Vec F S1x1024 .f32 := k0_pay36 (row1 x2) x29

/-- A load of all of a matrix is the matrix. -/
theorem whole {Val : EltTy → Type} {e : EltTy} {a b : ℕ} (x : (⟨2, ![a, b]⟩ : Shape).Idx → Val e)
    (h : ∀ k, (![0, 0] : Fin 2 → ℕ) k + (![a, b] : Fin 2 → ℕ) k ≤ (⟨2, ![a, b]⟩ : Shape).size k) :
    View.ld x (Rect.unit (s := ⟨2, ![a, b]⟩) ![0, 0] ![a, b] h) = x :=
  View.ld_unit_zero (S := ⟨2, ![a, b]⟩) (funext fun k => by fin_cases k <;> rfl) h x

end Cert.Kernel6Ideal.Hand

end
-- ==== Proof.SmallRun.lean ====
module

public import proofs.«01_k».proof.Proof.Gen.Kernel6Ideal.Frame.Runs
public import proofs.«01_k».proof.Proof.SmallSpec
public import Idealize.ShloMosaic.Lib.VecWindow
public import Idealize.ShloMosaic.Lib.WholeRead

@[expose] public section

set_option maxRecDepth 16384

/-!
# One run of the small weights' optimiser step

The kernel has no grid: it reads every input once, cuts the small gradients out of the summed rows, and stores the thirty
results, `res30` to `res59` of the inputs.
-/

noncomputable section

namespace Cert.Kernel6Ideal.Hand

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 8000000 in
/-- On whole buffers, the inputs' at their contents and the outputs' at anything, the kernel leaves the inputs as they were
    and each output at its result. -/
theorem body_run (c : Dev nD) (arg0 : Memref sig .tc .smem S2 .i32) (harg0 : arg0.IsWhole) (arg1 : Memref sig .tc .vmem S8x1024 .f32) (harg1 : arg1.IsWhole) (arg2 : Memref sig .tc .vmem S8x1024 .f32) (harg2 : arg2.IsWhole) (arg3 : Memref sig .tc .vmem S8x512 .f32) (harg3 : arg3.IsWhole) (arg4 : Memref sig .tc .vmem S1x6144 .f32) (harg4 : arg4.IsWhole) (arg5 : Memref sig .tc .vmem S512x128 .f32) (harg5 : arg5.IsWhole) (arg6 : Memref sig .tc .vmem S1x6144 .f32) (harg6 : arg6.IsWhole) (arg7 : Memref sig .tc .vmem S3x128 .f32) (harg7 : arg7.IsWhole) (arg8 : Memref sig .tc .vmem S512x128 .f32) (harg8 : arg8.IsWhole) (arg9 : Memref sig .tc .vmem S1x512 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x6144 .f32) (harg14 : arg14.IsWhole) (arg15 : Memref sig .tc .vmem S3x128 .f32) (harg15 : arg15.IsWhole) (arg16 : Memref sig .tc .vmem S512x128 .f32) (harg16 : arg16.IsWhole) (arg17 : Memref sig .tc .vmem S1x512 .f32) (harg17 : arg17.IsWhole) (arg18 : Memref sig .tc .vmem S1x1024 .f32) (harg18 : arg18.IsWhole) (arg19 : Memref sig .tc .vmem S1x1024 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S1x6144 .f32) (harg22 : arg22.IsWhole) (arg23 : Memref sig .tc .vmem S3x128 .f32) (harg23 : arg23.IsWhole) (arg24 : Memref sig .tc .vmem S512x128 .f32) (harg24 : arg24.IsWhole) (arg25 : Memref sig .tc .vmem S1x512 .f32) (harg25 : arg25.IsWhole) (arg26 : Memref sig .tc .vmem S1x1024 .f32) (harg26 : arg26.IsWhole) (arg27 : Memref sig .tc .vmem S1x1024 .f32) (harg27 : arg27.IsWhole) (arg28 : Memref sig .tc .vmem S1x1024 .f32) (harg28 : arg28.IsWhole) (arg29 : Memref sig .tc .vmem S1x1024 .f32) (harg29 : arg29.IsWhole) (arg30 : Memref sig .tc .vmem S3x128 .f32) (harg30 : arg30.IsWhole) (arg31 : Memref sig .tc .vmem S1x512 .f32) (harg31 : arg31.IsWhole) (arg32 : Memref sig .tc .vmem S1x1024 .f32) (harg32 : arg32.IsWhole) (arg33 : Memref sig .tc .vmem S1x1024 .f32) (harg33 : arg33.IsWhole) (arg34 : Memref sig .tc .vmem S1x1024 .f32) (harg34 : arg34.IsWhole) (arg35 : Memref sig .tc .vmem S1x1024 .f32) (harg35 : arg35.IsWhole) (arg36 : Memref sig .tc .vmem S1x6144 .f32) (harg36 : arg36.IsWhole) (arg37 : Memref sig .tc .vmem S3x128 .f32) (harg37 : arg37.IsWhole) (arg38 : Memref sig .tc .vmem S512x128 .f32) (harg38 : arg38.IsWhole) (arg39 : Memref sig .tc .vmem S1x512 .f32) (harg39 : arg39.IsWhole) (arg40 : Memref sig .tc .vmem S1x1024 .f32) (harg40 : arg40.IsWhole) (arg41 : Memref sig .tc .vmem S1x1024 .f32) (harg41 : arg41.IsWhole) (arg42 : Memref sig .tc .vmem S1x1024 .f32) (harg42 : arg42.IsWhole) (arg43 : Memref sig .tc .vmem S1x1024 .f32) (harg43 : arg43.IsWhole) (arg44 : Memref sig .tc .vmem S1x6144 .f32) (harg44 : arg44.IsWhole) (arg45 : Memref sig .tc .vmem S3x128 .f32) (harg45 : arg45.IsWhole) (arg46 : Memref sig .tc .vmem S512x128 .f32) (harg46 : arg46.IsWhole) (arg47 : Memref sig .tc .vmem S1x512 .f32) (harg47 : arg47.IsWhole) (arg48 : Memref sig .tc .vmem S1x1024 .f32) (harg48 : arg48.IsWhole) (arg49 : Memref sig .tc .vmem S1x1024 .f32) (harg49 : arg49.IsWhole) (arg50 : Memref sig .tc .vmem S1x1024 .f32) (harg50 : arg50.IsWhole) (arg51 : Memref sig .tc .vmem S1x1024 .f32) (harg51 : arg51.IsWhole) (arg52 : Memref sig .tc .vmem S1x6144 .f32) (harg52 : arg52.IsWhole) (arg53 : Memref sig .tc .vmem S3x128 .f32) (harg53 : arg53.IsWhole) (arg54 : Memref sig .tc .vmem S512x128 .f32) (harg54 : arg54.IsWhole) (arg55 : Memref sig .tc .vmem S1x512 .f32) (harg55 : arg55.IsWhole) (arg56 : Memref sig .tc .vmem S1x1024 .f32) (harg56 : arg56.IsWhole) (arg57 : Memref sig .tc .vmem S1x1024 .f32) (harg57 : arg57.IsWhole) (arg58 : Memref sig .tc .vmem S1x1024 .f32) (harg58 : arg58.IsWhole) (arg59 : Memref sig .tc .vmem S1x1024 .f32) (harg59 : arg59.IsWhole)
    (x0 : Vec F S2 .i32) (x1 : Vec F S8x1024 .f32) (x2 : Vec F S8x1024 .f32) (x3 : Vec F S8x512 .f32) (x4 : Vec F S1x6144 .f32) (x5 : Vec F S512x128 .f32) (x6 : Vec F S1x6144 .f32) (x7 : Vec F S3x128 .f32) (x8 : Vec F S512x128 .f32) (x9 : Vec F S1x512 .f32) (x10 : Vec F S1x1024 .f32) (x11 : Vec F S1x1024 .f32) (x12 : Vec F S1x1024 .f32) (x13 : Vec F S1x1024 .f32) (x14 : Vec F S1x6144 .f32) (x15 : Vec F S3x128 .f32) (x16 : Vec F S512x128 .f32) (x17 : Vec F S1x512 .f32) (x18 : Vec F S1x1024 .f32) (x19 : Vec F S1x1024 .f32) (x20 : Vec F S1x1024 .f32) (x21 : Vec F S1x1024 .f32) (x22 : Vec F S1x6144 .f32) (x23 : Vec F S3x128 .f32) (x24 : Vec F S512x128 .f32) (x25 : Vec F S1x512 .f32) (x26 : Vec F S1x1024 .f32) (x27 : Vec F S1x1024 .f32) (x28 : Vec F S1x1024 .f32) (x29 : Vec F S1x1024 .f32) (E : Set ℕ) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26 ∗ owns (c : Thread nD τ) arg27 fullShare x27 ∗ owns (c : Thread nD τ) arg28 fullShare x28 ∗ owns (c : Thread nD τ) arg29 fullShare x29
        ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d) ∗ (∃ d, owns (c : Thread nD τ) arg37 fullShare d) ∗ (∃ d, owns (c : Thread nD τ) arg38 fullShare d) ∗ (∃ d, owns (c : Thread nD τ) arg39 fullShare d) ∗ (∃ d, owns (c : Thread nD τ) arg40 fullShare d) ∗ (∃ d, owns (c : Thread nD τ) arg41 fullShare d) ∗ (∃ d, owns (c : Thread nD τ) arg42 fullShare d) ∗ (∃ d, owns (c : Thread nD τ) arg43 fullShare d) ∗ (∃ d, owns (c : Thread nD τ) arg44 fullShare d) ∗ (∃ d, owns (c : Thread nD τ) arg45 fullShare d) ∗ (∃ d, owns (c : Thread nD τ) arg46 fullShare d) ∗ (∃ d, owns (c : Thread nD τ) arg47 fullShare d) ∗ (∃ d, owns (c : Thread nD τ) arg48 fullShare d) ∗ (∃ d, owns (c : Thread nD τ) arg49 fullShare d) ∗ (∃ d, owns (c : Thread nD τ) arg50 fullShare d) ∗ (∃ d, owns (c : Thread nD τ) arg51 fullShare d) ∗ (∃ d, owns (c : Thread nD τ) arg52 fullShare d) ∗ (∃ d, owns (c : Thread nD τ) arg53 fullShare d) ∗ (∃ d, owns (c : Thread nD τ) arg54 fullShare d) ∗ (∃ d, owns (c : Thread nD τ) arg55 fullShare d) ∗ (∃ d, owns (c : Thread nD τ) arg56 fullShare d) ∗ (∃ d, owns (c : Thread nD τ) arg57 fullShare d) ∗ (∃ d, owns (c : Thread nD τ) arg58 fullShare d) ∗ (∃ d, owns (c : Thread nD τ) arg59 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26 ∗ owns (c : Thread nD τ) arg27 fullShare x27 ∗ owns (c : Thread nD τ) arg28 fullShare x28 ∗ owns (c : Thread nD τ) arg29 fullShare x29
            ∗ owns (c : Thread nD τ) arg30 fullShare (res30 x0 x3) ∗ owns (c : Thread nD τ) arg31 fullShare (res31 x3) ∗ owns (c : Thread nD τ) arg32 fullShare (res32 x1) ∗ owns (c : Thread nD τ) arg33 fullShare (res33 x1) ∗ owns (c : Thread nD τ) arg34 fullShare (res34 x2) ∗ owns (c : Thread nD τ) arg35 fullShare (res35 x2) ∗ owns (c : Thread nD τ) arg36 fullShare (res36 x4 x6 x14 x22) ∗ owns (c : Thread nD τ) arg37 fullShare (res37 x0 x3 x7 x15 x23) ∗ owns (c : Thread nD τ) arg38 fullShare (res38 x5 x8 x16 x24) ∗ owns (c : Thread nD τ) arg39 fullShare (res39 x3 x9 x17 x25) ∗ owns (c : Thread nD τ) arg40 fullShare (res40 x1 x10 x18 x26) ∗ owns (c : Thread nD τ) arg41 fullShare (res41 x1 x11 x19 x27) ∗ owns (c : Thread nD τ) arg42 fullShare (res42 x2 x12 x20 x28) ∗ owns (c : Thread nD τ) arg43 fullShare (res43 x2 x13 x21 x29) ∗ owns (c : Thread nD τ) arg44 fullShare (res44 x4 x14) ∗ owns (c : Thread nD τ) arg45 fullShare (res45 x0 x3 x15) ∗ owns (c : Thread nD τ) arg46 fullShare (res46 x5 x16) ∗ owns (c : Thread nD τ) arg47 fullShare (res47 x3 x17) ∗ owns (c : Thread nD τ) arg48 fullShare (res48 x1 x18) ∗ owns (c : Thread nD τ) arg49 fullShare (res49 x1 x19) ∗ owns (c : Thread nD τ) arg50 fullShare (res50 x2 x20) ∗ owns (c : Thread nD τ) arg51 fullShare (res51 x2 x21) ∗ owns (c : Thread nD τ) arg52 fullShare (res52 x4 x22) ∗ owns (c : Thread nD τ) arg53 fullShare (res53 x0 x3 x23) ∗ owns (c : Thread nD τ) arg54 fullShare (res54 x5 x24) ∗ owns (c : Thread nD τ) arg55 fullShare (res55 x3 x25) ∗ owns (c : Thread nD τ) arg56 fullShare (res56 x1 x26) ∗ owns (c : Thread nD τ) arg57 fullShare (res57 x1 x27) ∗ owns (c : Thread nD τ) arg58 fullShare (res58 x2 x28) ∗ owns (c : Thread nD τ) arg59 fullShare (res59 x2 x29)) -∗ K ⟨⟩))
      ⊢ wp frame (wpE (defs₀ (F := F)) Variants.none c none) E (cc0_adamw_small arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 arg57 harg57 arg58 harg58 arg59 harg59) K := by
  simp only [cc0_adamw_small_eq_skeleton]; unfold cc0_adamw_small_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%d30, %f30, -, H30⟩, ⟨%d31, %f31, -, H31⟩, ⟨%d32, %f32, -, H32⟩, ⟨%d33, %f33, -, H33⟩, ⟨%d34, %f34, -, H34⟩, ⟨%d35, %f35, -, H35⟩, ⟨%d36, %f36, -, H36⟩, ⟨%d37, %f37, -, H37⟩, ⟨%d38, %f38, -, H38⟩, ⟨%d39, %f39, -, H39⟩, ⟨%d40, %f40, -, H40⟩, ⟨%d41, %f41, -, H41⟩, ⟨%d42, %f42, -, H42⟩, ⟨%d43, %f43, -, H43⟩, ⟨%d44, %f44, -, H44⟩, ⟨%d45, %f45, -, H45⟩, ⟨%d46, %f46, -, H46⟩, ⟨%d47, %f47, -, H47⟩, ⟨%d48, %f48, -, H48⟩, ⟨%d49, %f49, -, H49⟩, ⟨%d50, %f50, -, H50⟩, ⟨%d51, %f51, -, H51⟩, ⟨%d52, %f52, -, H52⟩, ⟨%d53, %f53, -, H53⟩, ⟨%d54, %f54, -, H54⟩, ⟨%d55, %f55, -, H55⟩, ⟨%d56, %f56, -, H56⟩, ⟨%d57, %f57, -, H57⟩, ⟨%d58, %f58, -, H58⟩, ⟨%d59, %f59, -, H59⟩, Hk⟩
  obtain rfl := harg0.eq_unread hf0; obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg21.eq_unread hf21; obtain rfl := harg22.eq_unread hf22; obtain rfl := harg23.eq_unread hf23; obtain rfl := harg24.eq_unread hf24; obtain rfl := harg25.eq_unread hf25; obtain rfl := harg26.eq_unread hf26; obtain rfl := harg27.eq_unread hf27; obtain rfl := harg28.eq_unread hf28; obtain rfl := harg29.eq_unread hf29
  sl_exec
  sl_step
  iapply Hk
  isplitl [H0]
  · iexists _; isplitr; · ipureintro; exact harg0.read_unread _
    iexact H0
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; · ipureintro; exact harg14.read_unread _
    iexact H14
  isplitl [H15]
  · iexists _; isplitr; · ipureintro; exact harg15.read_unread _
    iexact H15
  isplitl [H16]
  · iexists _; isplitr; · ipureintro; exact harg16.read_unread _
    iexact H16
  isplitl [H17]
  · iexists _; isplitr; · ipureintro; exact harg17.read_unread _
    iexact H17
  isplitl [H18]
  · iexists _; isplitr; · ipureintro; exact harg18.read_unread _
    iexact H18
  isplitl [H19]
  · iexists _; isplitr; · ipureintro; exact harg19.read_unread _
    iexact H19
  isplitl [H20]
  · iexists _; isplitr; · ipureintro; exact harg20.read_unread _
    iexact H20
  isplitl [H21]
  · iexists _; isplitr; · ipureintro; exact harg21.read_unread _
    iexact H21
  isplitl [H22]
  · iexists _; isplitr; · ipureintro; exact harg22.read_unread _
    iexact H22
  isplitl [H23]
  · iexists _; isplitr; · ipureintro; exact harg23.read_unread _
    iexact H23
  isplitl [H24]
  · iexists _; isplitr; · ipureintro; exact harg24.read_unread _
    iexact H24
  isplitl [H25]
  · iexists _; isplitr; · ipureintro; exact harg25.read_unread _
    iexact H25
  isplitl [H26]
  · iexists _; isplitr; · ipureintro; exact harg26.read_unread _
    iexact H26
  isplitl [H27]
  · iexists _; isplitr; · ipureintro; exact harg27.read_unread _
    iexact H27
  isplitl [H28]
  · iexists _; isplitr; · ipureintro; exact harg28.read_unread _
    iexact H28
  isplitl [H29]
  · iexists _; isplitr; · ipureintro; exact harg29.read_unread _
    iexact H29
  isplitl [H30]
  · iexists _; isplitr; swap; · iexact H30
    ipureintro; rw [View.read_writes_full]; sl_unfold_run_names; simp only [View.readAt_eq_ld, Memref.IsWhole.read_unread, whole]; rfl
  isplitl [H31]
  · iexists _; isplitr; swap; · iexact H31
    ipureintro; rw [View.read_writes_full]; sl_unfold_run_names; simp only [View.readAt_eq_ld, Memref.IsWhole.read_unread, whole]; rfl
  isplitl [H32]
  · iexists _; isplitr; swap; · iexact H32
    ipureintro; rw [View.read_writes_full]; sl_unfold_run_names; simp only [View.readAt_eq_ld, Memref.IsWhole.read_unread, whole]; rfl
  isplitl [H33]
  · iexists _; isplitr; swap; · iexact H33
    ipureintro; rw [View.read_writes_full]; sl_unfold_run_names; simp only [View.readAt_eq_ld, Memref.IsWhole.read_unread, whole]; rfl
  isplitl [H34]
  · iexists _; isplitr; swap; · iexact H34
    ipureintro; rw [View.read_writes_full]; sl_unfold_run_names; simp only [View.readAt_eq_ld, Memref.IsWhole.read_unread, whole]; rfl
  isplitl [H35]
  · iexists _; isplitr; swap; · iexact H35
    ipureintro; rw [View.read_writes_full]; sl_unfold_run_names; simp only [View.readAt_eq_ld, Memref.IsWhole.read_unread, whole]; rfl
  isplitl [H36]
  · iexists _; isplitr; swap; · iexact H36
    ipureintro; rw [View.read_writes_full]; sl_unfold_run_names; simp only [View.readAt_eq_ld, Memref.IsWhole.read_unread, whole]; rfl
  isplitl [H37]
  · iexists _; isplitr; swap; · iexact H37
    ipureintro; rw [View.read_writes_full]; sl_unfold_run_names; simp only [View.readAt_eq_ld, Memref.IsWhole.read_unread, whole]; rfl
  isplitl [H38]
  · iexists _; isplitr; swap; · iexact H38
    ipureintro; rw [View.read_writes_full]; sl_unfold_run_names; simp only [View.readAt_eq_ld, Memref.IsWhole.read_unread, whole]; rfl
  isplitl [H39]
  · iexists _; isplitr; swap; · iexact H39
    ipureintro; rw [View.read_writes_full]; sl_unfold_run_names; simp only [View.readAt_eq_ld, Memref.IsWhole.read_unread, whole]; rfl
  isplitl [H40]
  · iexists _; isplitr; swap; · iexact H40
    ipureintro; rw [View.read_writes_full]; sl_unfold_run_names; simp only [View.readAt_eq_ld, Memref.IsWhole.read_unread, whole]; rfl
  isplitl [H41]
  · iexists _; isplitr; swap; · iexact H41
    ipureintro; rw [View.read_writes_full]; sl_unfold_run_names; simp only [View.readAt_eq_ld, Memref.IsWhole.read_unread, whole]; rfl
  isplitl [H42]
  · iexists _; isplitr; swap; · iexact H42
    ipureintro; rw [View.read_writes_full]; sl_unfold_run_names; simp only [View.readAt_eq_ld, Memref.IsWhole.read_unread, whole]; rfl
  isplitl [H43]
  · iexists _; isplitr; swap; · iexact H43
    ipureintro; rw [View.read_writes_full]; sl_unfold_run_names; simp only [View.readAt_eq_ld, Memref.IsWhole.read_unread, whole]; rfl
  isplitl [H44]
  · iexists _; isplitr; swap; · iexact H44
    ipureintro; rw [View.read_writes_full]; sl_unfold_run_names; simp only [View.readAt_eq_ld, Memref.IsWhole.read_unread, whole]; rfl
  isplitl [H45]
  · iexists _; isplitr; swap; · iexact H45
    ipureintro; rw [View.read_writes_full]; sl_unfold_run_names; simp only [View.readAt_eq_ld, Memref.IsWhole.read_unread, whole]; rfl
  isplitl [H46]
  · iexists _; isplitr; swap; · iexact H46
    ipureintro; rw [View.read_writes_full]; sl_unfold_run_names; simp only [View.readAt_eq_ld, Memref.IsWhole.read_unread, whole]; rfl
  isplitl [H47]
  · iexists _; isplitr; swap; · iexact H47
    ipureintro; rw [View.read_writes_full]; sl_unfold_run_names; simp only [View.readAt_eq_ld, Memref.IsWhole.read_unread, whole]; rfl
  isplitl [H48]
  · iexists _; isplitr; swap; · iexact H48
    ipureintro; rw [View.read_writes_full]; sl_unfold_run_names; simp only [View.readAt_eq_ld, Memref.IsWhole.read_unread, whole]; rfl
  isplitl [H49]
  · iexists _; isplitr; swap; · iexact H49
    ipureintro; rw [View.read_writes_full]; sl_unfold_run_names; simp only [View.readAt_eq_ld, Memref.IsWhole.read_unread, whole]; rfl
  isplitl [H50]
  · iexists _; isplitr; swap; · iexact H50
    ipureintro; rw [View.read_writes_full]; sl_unfold_run_names; simp only [View.readAt_eq_ld, Memref.IsWhole.read_unread, whole]; rfl
  isplitl [H51]
  · iexists _; isplitr; swap; · iexact H51
    ipureintro; rw [View.read_writes_full]; sl_unfold_run_names; simp only [View.readAt_eq_ld, Memref.IsWhole.read_unread, whole]; rfl
  isplitl [H52]
  · iexists _; isplitr; swap; · iexact H52
    ipureintro; rw [View.read_writes_full]; sl_unfold_run_names; simp only [View.readAt_eq_ld, Memref.IsWhole.read_unread, whole]; rfl
  isplitl [H53]
  · iexists _; isplitr; swap; · iexact H53
    ipureintro; rw [View.read_writes_full]; sl_unfold_run_names; simp only [View.readAt_eq_ld, Memref.IsWhole.read_unread, whole]; rfl
  isplitl [H54]
  · iexists _; isplitr; swap; · iexact H54
    ipureintro; rw [View.read_writes_full]; sl_unfold_run_names; simp only [View.readAt_eq_ld, Memref.IsWhole.read_unread, whole]; rfl
  isplitl [H55]
  · iexists _; isplitr; swap; · iexact H55
    ipureintro; rw [View.read_writes_full]; sl_unfold_run_names; simp only [View.readAt_eq_ld, Memref.IsWhole.read_unread, whole]; rfl
  isplitl [H56]
  · iexists _; isplitr; swap; · iexact H56
    ipureintro; rw [View.read_writes_full]; sl_unfold_run_names; simp only [View.readAt_eq_ld, Memref.IsWhole.read_unread, whole]; rfl
  isplitl [H57]
  · iexists _; isplitr; swap; · iexact H57
    ipureintro; rw [View.read_writes_full]; sl_unfold_run_names; simp only [View.readAt_eq_ld, Memref.IsWhole.read_unread, whole]; rfl
  isplitl [H58]
  · iexists _; isplitr; swap; · iexact H58
    ipureintro; rw [View.read_writes_full]; sl_unfold_run_names; simp only [View.readAt_eq_ld, Memref.IsWhole.read_unread, whole]; rfl
  · iexists _; isplitr; swap; · iexact H59
    ipureintro; rw [View.read_writes_full]; sl_unfold_run_names; simp only [View.readAt_eq_ld, Memref.IsWhole.read_unread, whole]; rfl

end Cert.Kernel6Ideal.Hand

end
-- ==== Proof.SmallFrame.lean ====
module

public import proofs.«01_k».proof.Proof.SmallRun
public import Idealize.ShloMosaic.Lib.Claim

@[expose] public section

set_option maxRecDepth 16384

/-!
# The small weights' optimiser step as a whole program

What each buffer holds after the one point, the obligation that `body_run` discharges, and the run of the program.
-/

noncomputable section

namespace Cert.Kernel6Ideal.Hand

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body leaves in window `w`'s buffer: an input's block, an output's result. -/
def left (c : Dev nD) (w : Fin cfg0.W) (t : Fin cfg0.N) : ((cfg0.win w).block).Idx → Elt F (cfg0.win w).elt :=
  match w with
  | ⟨0, _⟩ => iblk m c 0 t
  | ⟨1, _⟩ => iblk m c 1 t
  | ⟨2, _⟩ => iblk m c 2 t
  | ⟨3, _⟩ => iblk m c 3 t
  | ⟨4, _⟩ => iblk m c 4 t
  | ⟨5, _⟩ => iblk m c 5 t
  | ⟨6, _⟩ => iblk m c 6 t
  | ⟨7, _⟩ => iblk m c 7 t
  | ⟨8, _⟩ => iblk m c 8 t
  | ⟨9, _⟩ => iblk m c 9 t
  | ⟨10, _⟩ => iblk m c 10 t
  | ⟨11, _⟩ => iblk m c 11 t
  | ⟨12, _⟩ => iblk m c 12 t
  | ⟨13, _⟩ => iblk m c 13 t
  | ⟨14, _⟩ => iblk m c 14 t
  | ⟨15, _⟩ => iblk m c 15 t
  | ⟨16, _⟩ => iblk m c 16 t
  | ⟨17, _⟩ => iblk m c 17 t
  | ⟨18, _⟩ => iblk m c 18 t
  | ⟨19, _⟩ => iblk m c 19 t
  | ⟨20, _⟩ => iblk m c 20 t
  | ⟨21, _⟩ => iblk m c 21 t
  | ⟨22, _⟩ => iblk m c 22 t
  | ⟨23, _⟩ => iblk m c 23 t
  | ⟨24, _⟩ => iblk m c 24 t
  | ⟨25, _⟩ => iblk m c 25 t
  | ⟨26, _⟩ => iblk m c 26 t
  | ⟨27, _⟩ => iblk m c 27 t
  | ⟨28, _⟩ => iblk m c 28 t
  | ⟨29, _⟩ => iblk m c 29 t
  | ⟨30, _⟩ => res30 (iblk m c 0 t) (iblk m c 3 t)
  | ⟨31, _⟩ => res31 (iblk m c 3 t)
  | ⟨32, _⟩ => res32 (iblk m c 1 t)
  | ⟨33, _⟩ => res33 (iblk m c 1 t)
  | ⟨34, _⟩ => res34 (iblk m c 2 t)
  | ⟨35, _⟩ => res35 (iblk m c 2 t)
  | ⟨36, _⟩ => res36 (iblk m c 4 t) (iblk m c 6 t) (iblk m c 14 t) (iblk m c 22 t)
  | ⟨37, _⟩ => res37 (iblk m c 0 t) (iblk m c 3 t) (iblk m c 7 t) (iblk m c 15 t) (iblk m c 23 t)
  | ⟨38, _⟩ => res38 (iblk m c 5 t) (iblk m c 8 t) (iblk m c 16 t) (iblk m c 24 t)
  | ⟨39, _⟩ => res39 (iblk m c 3 t) (iblk m c 9 t) (iblk m c 17 t) (iblk m c 25 t)
  | ⟨40, _⟩ => res40 (iblk m c 1 t) (iblk m c 10 t) (iblk m c 18 t) (iblk m c 26 t)
  | ⟨41, _⟩ => res41 (iblk m c 1 t) (iblk m c 11 t) (iblk m c 19 t) (iblk m c 27 t)
  | ⟨42, _⟩ => res42 (iblk m c 2 t) (iblk m c 12 t) (iblk m c 20 t) (iblk m c 28 t)
  | ⟨43, _⟩ => res43 (iblk m c 2 t) (iblk m c 13 t) (iblk m c 21 t) (iblk m c 29 t)
  | ⟨44, _⟩ => res44 (iblk m c 4 t) (iblk m c 14 t)
  | ⟨45, _⟩ => res45 (iblk m c 0 t) (iblk m c 3 t) (iblk m c 15 t)
  | ⟨46, _⟩ => res46 (iblk m c 5 t) (iblk m c 16 t)
  | ⟨47, _⟩ => res47 (iblk m c 3 t) (iblk m c 17 t)
  | ⟨48, _⟩ => res48 (iblk m c 1 t) (iblk m c 18 t)
  | ⟨49, _⟩ => res49 (iblk m c 1 t) (iblk m c 19 t)
  | ⟨50, _⟩ => res50 (iblk m c 2 t) (iblk m c 20 t)
  | ⟨51, _⟩ => res51 (iblk m c 2 t) (iblk m c 21 t)
  | ⟨52, _⟩ => res52 (iblk m c 4 t) (iblk m c 22 t)
  | ⟨53, _⟩ => res53 (iblk m c 0 t) (iblk m c 3 t) (iblk m c 23 t)
  | ⟨54, _⟩ => res54 (iblk m c 5 t) (iblk m c 24 t)
  | ⟨55, _⟩ => res55 (iblk m c 3 t) (iblk m c 25 t)
  | ⟨56, _⟩ => res56 (iblk m c 1 t) (iblk m c 26 t)
  | ⟨57, _⟩ => res57 (iblk m c 1 t) (iblk m c 27 t)
  | ⟨58, _⟩ => res58 (iblk m c 2 t) (iblk m c 28 t)
  | ⟨59, _⟩ => res59 (iblk m c 2 t) (iblk m c 29 t)
  | ⟨_ + 60, h⟩ => absurd h (Nat.not_lt.2 (Nat.le_add_left _ _))

/-- The pipeline's proof data: the arrays as the region finds them, the buffers as the body leaves them. -/
def dats (_ : Fin 1) (c : Dev nD) : Dat τ (Elt F) Unit ℕ (UR sig nD τ) ℕ cfg0 c where
  A w := V m c (Pipeline.arrRef spec0 w)
  after w t := left m c w t
  Φ _ := Pipeline.ΦA spec0 c
  q _ := fullShare
  owed _ := 0

theorem dats_A (c : Dev nD) (w : Fin cfg0.W) : (dats m 0 c).A w = V m c (Pipeline.arrRef spec0 w) := by dsimp only [dats]
theorem dats_after (c : Dev nD) (w : Fin cfg0.W) (t : Fin cfg0.N) : (dats m 0 c).after w t = left m c w t := by dsimp only [dats]

theorem left0 (c : Dev nD) (t : Fin cfg0.N) : left m c 0 t = iblk m c 0 t := rfl
theorem left1 (c : Dev nD) (t : Fin cfg0.N) : left m c 1 t = iblk m c 1 t := rfl
theorem left2 (c : Dev nD) (t : Fin cfg0.N) : left m c 2 t = iblk m c 2 t := rfl
theorem left3 (c : Dev nD) (t : Fin cfg0.N) : left m c 3 t = iblk m c 3 t := rfl
theorem left4 (c : Dev nD) (t : Fin cfg0.N) : left m c 4 t = iblk m c 4 t := rfl
theorem left5 (c : Dev nD) (t : Fin cfg0.N) : left m c 5 t = iblk m c 5 t := rfl
theorem left6 (c : Dev nD) (t : Fin cfg0.N) : left m c 6 t = iblk m c 6 t := rfl
theorem left7 (c : Dev nD) (t : Fin cfg0.N) : left m c 7 t = iblk m c 7 t := rfl
theorem left8 (c : Dev nD) (t : Fin cfg0.N) : left m c 8 t = iblk m c 8 t := rfl
theorem left9 (c : Dev nD) (t : Fin cfg0.N) : left m c 9 t = iblk m c 9 t := rfl
theorem left10 (c : Dev nD) (t : Fin cfg0.N) : left m c 10 t = iblk m c 10 t := rfl
theorem left11 (c : Dev nD) (t : Fin cfg0.N) : left m c 11 t = iblk m c 11 t := rfl
theorem left12 (c : Dev nD) (t : Fin cfg0.N) : left m c 12 t = iblk m c 12 t := rfl
theorem left13 (c : Dev nD) (t : Fin cfg0.N) : left m c 13 t = iblk m c 13 t := rfl
theorem left14 (c : Dev nD) (t : Fin cfg0.N) : left m c 14 t = iblk m c 14 t := rfl
theorem left15 (c : Dev nD) (t : Fin cfg0.N) : left m c 15 t = iblk m c 15 t := rfl
theorem left16 (c : Dev nD) (t : Fin cfg0.N) : left m c 16 t = iblk m c 16 t := rfl
theorem left17 (c : Dev nD) (t : Fin cfg0.N) : left m c 17 t = iblk m c 17 t := rfl
theorem left18 (c : Dev nD) (t : Fin cfg0.N) : left m c 18 t = iblk m c 18 t := rfl
theorem left19 (c : Dev nD) (t : Fin cfg0.N) : left m c 19 t = iblk m c 19 t := rfl
theorem left20 (c : Dev nD) (t : Fin cfg0.N) : left m c 20 t = iblk m c 20 t := rfl
theorem left21 (c : Dev nD) (t : Fin cfg0.N) : left m c 21 t = iblk m c 21 t := rfl
theorem left22 (c : Dev nD) (t : Fin cfg0.N) : left m c 22 t = iblk m c 22 t := rfl
theorem left23 (c : Dev nD) (t : Fin cfg0.N) : left m c 23 t = iblk m c 23 t := rfl
theorem left24 (c : Dev nD) (t : Fin cfg0.N) : left m c 24 t = iblk m c 24 t := rfl
theorem left25 (c : Dev nD) (t : Fin cfg0.N) : left m c 25 t = iblk m c 25 t := rfl
theorem left26 (c : Dev nD) (t : Fin cfg0.N) : left m c 26 t = iblk m c 26 t := rfl
theorem left27 (c : Dev nD) (t : Fin cfg0.N) : left m c 27 t = iblk m c 27 t := rfl
theorem left28 (c : Dev nD) (t : Fin cfg0.N) : left m c 28 t = iblk m c 28 t := rfl
theorem left29 (c : Dev nD) (t : Fin cfg0.N) : left m c 29 t = iblk m c 29 t := rfl
theorem left30 (c : Dev nD) (t : Fin cfg0.N) : left m c 30 t = res30 (iblk m c 0 t) (iblk m c 3 t) := rfl
theorem left31 (c : Dev nD) (t : Fin cfg0.N) : left m c 31 t = res31 (iblk m c 3 t) := rfl
theorem left32 (c : Dev nD) (t : Fin cfg0.N) : left m c 32 t = res32 (iblk m c 1 t) := rfl
theorem left33 (c : Dev nD) (t : Fin cfg0.N) : left m c 33 t = res33 (iblk m c 1 t) := rfl
theorem left34 (c : Dev nD) (t : Fin cfg0.N) : left m c 34 t = res34 (iblk m c 2 t) := rfl
theorem left35 (c : Dev nD) (t : Fin cfg0.N) : left m c 35 t = res35 (iblk m c 2 t) := rfl
theorem left36 (c : Dev nD) (t : Fin cfg0.N) : left m c 36 t = res36 (iblk m c 4 t) (iblk m c 6 t) (iblk m c 14 t) (iblk m c 22 t) := rfl
theorem left37 (c : Dev nD) (t : Fin cfg0.N) : left m c 37 t = res37 (iblk m c 0 t) (iblk m c 3 t) (iblk m c 7 t) (iblk m c 15 t) (iblk m c 23 t) := rfl
theorem left38 (c : Dev nD) (t : Fin cfg0.N) : left m c 38 t = res38 (iblk m c 5 t) (iblk m c 8 t) (iblk m c 16 t) (iblk m c 24 t) := rfl
theorem left39 (c : Dev nD) (t : Fin cfg0.N) : left m c 39 t = res39 (iblk m c 3 t) (iblk m c 9 t) (iblk m c 17 t) (iblk m c 25 t) := rfl
theorem left40 (c : Dev nD) (t : Fin cfg0.N) : left m c 40 t = res40 (iblk m c 1 t) (iblk m c 10 t) (iblk m c 18 t) (iblk m c 26 t) := rfl
theorem left41 (c : Dev nD) (t : Fin cfg0.N) : left m c 41 t = res41 (iblk m c 1 t) (iblk m c 11 t) (iblk m c 19 t) (iblk m c 27 t) := rfl
theorem left42 (c : Dev nD) (t : Fin cfg0.N) : left m c 42 t = res42 (iblk m c 2 t) (iblk m c 12 t) (iblk m c 20 t) (iblk m c 28 t) := rfl
theorem left43 (c : Dev nD) (t : Fin cfg0.N) : left m c 43 t = res43 (iblk m c 2 t) (iblk m c 13 t) (iblk m c 21 t) (iblk m c 29 t) := rfl
theorem left44 (c : Dev nD) (t : Fin cfg0.N) : left m c 44 t = res44 (iblk m c 4 t) (iblk m c 14 t) := rfl
theorem left45 (c : Dev nD) (t : Fin cfg0.N) : left m c 45 t = res45 (iblk m c 0 t) (iblk m c 3 t) (iblk m c 15 t) := rfl
theorem left46 (c : Dev nD) (t : Fin cfg0.N) : left m c 46 t = res46 (iblk m c 5 t) (iblk m c 16 t) := rfl
theorem left47 (c : Dev nD) (t : Fin cfg0.N) : left m c 47 t = res47 (iblk m c 3 t) (iblk m c 17 t) := rfl
theorem left48 (c : Dev nD) (t : Fin cfg0.N) : left m c 48 t = res48 (iblk m c 1 t) (iblk m c 18 t) := rfl
theorem left49 (c : Dev nD) (t : Fin cfg0.N) : left m c 49 t = res49 (iblk m c 1 t) (iblk m c 19 t) := rfl
theorem left50 (c : Dev nD) (t : Fin cfg0.N) : left m c 50 t = res50 (iblk m c 2 t) (iblk m c 20 t) := rfl
theorem left51 (c : Dev nD) (t : Fin cfg0.N) : left m c 51 t = res51 (iblk m c 2 t) (iblk m c 21 t) := rfl
theorem left52 (c : Dev nD) (t : Fin cfg0.N) : left m c 52 t = res52 (iblk m c 4 t) (iblk m c 22 t) := rfl
theorem left53 (c : Dev nD) (t : Fin cfg0.N) : left m c 53 t = res53 (iblk m c 0 t) (iblk m c 3 t) (iblk m c 23 t) := rfl
theorem left54 (c : Dev nD) (t : Fin cfg0.N) : left m c 54 t = res54 (iblk m c 5 t) (iblk m c 24 t) := rfl
theorem left55 (c : Dev nD) (t : Fin cfg0.N) : left m c 55 t = res55 (iblk m c 3 t) (iblk m c 25 t) := rfl
theorem left56 (c : Dev nD) (t : Fin cfg0.N) : left m c 56 t = res56 (iblk m c 1 t) (iblk m c 26 t) := rfl
theorem left57 (c : Dev nD) (t : Fin cfg0.N) : left m c 57 t = res57 (iblk m c 1 t) (iblk m c 27 t) := rfl
theorem left58 (c : Dev nD) (t : Fin cfg0.N) : left m c 58 t = res58 (iblk m c 2 t) (iblk m c 28 t) := rfl
theorem left59 (c : Dev nD) (t : Fin cfg0.N) : left m c 59 t = res59 (iblk m c 2 t) (iblk m c 29 t) := rfl

section Before
variable (c : Dev nD) (t : Fin cfg0.N)
theorem held0 (d) : (dats m 0 c).before 0 t d = iblk m c 0 t := before0_0_of m (dats m 0 c) (dats_A m c 0) (fun t => (dats_after m c 0 t).trans (left0 m c t)) t d
theorem held1 (d) : (dats m 0 c).before 1 t d = iblk m c 1 t := before0_1_of m (dats m 0 c) (dats_A m c 1) (fun t => (dats_after m c 1 t).trans (left1 m c t)) t d
theorem held2 (d) : (dats m 0 c).before 2 t d = iblk m c 2 t := before0_2_of m (dats m 0 c) (dats_A m c 2) (fun t => (dats_after m c 2 t).trans (left2 m c t)) t d
theorem held3 (d) : (dats m 0 c).before 3 t d = iblk m c 3 t := before0_3_of m (dats m 0 c) (dats_A m c 3) (fun t => (dats_after m c 3 t).trans (left3 m c t)) t d
theorem held4 (d) : (dats m 0 c).before 4 t d = iblk m c 4 t := before0_4_of m (dats m 0 c) (dats_A m c 4) (fun t => (dats_after m c 4 t).trans (left4 m c t)) t d
theorem held5 (d) : (dats m 0 c).before 5 t d = iblk m c 5 t := before0_5_of m (dats m 0 c) (dats_A m c 5) (fun t => (dats_after m c 5 t).trans (left5 m c t)) t d
theorem held6 (d) : (dats m 0 c).before 6 t d = iblk m c 6 t := before0_6_of m (dats m 0 c) (dats_A m c 6) (fun t => (dats_after m c 6 t).trans (left6 m c t)) t d
theorem held7 (d) : (dats m 0 c).before 7 t d = iblk m c 7 t := before0_7_of m (dats m 0 c) (dats_A m c 7) (fun t => (dats_after m c 7 t).trans (left7 m c t)) t d
theorem held8 (d) : (dats m 0 c).before 8 t d = iblk m c 8 t := before0_8_of m (dats m 0 c) (dats_A m c 8) (fun t => (dats_after m c 8 t).trans (left8 m c t)) t d
theorem held9 (d) : (dats m 0 c).before 9 t d = iblk m c 9 t := before0_9_of m (dats m 0 c) (dats_A m c 9) (fun t => (dats_after m c 9 t).trans (left9 m c t)) t d
theorem held10 (d) : (dats m 0 c).before 10 t d = iblk m c 10 t := before0_10_of m (dats m 0 c) (dats_A m c 10) (fun t => (dats_after m c 10 t).trans (left10 m c t)) t d
theorem held11 (d) : (dats m 0 c).before 11 t d = iblk m c 11 t := before0_11_of m (dats m 0 c) (dats_A m c 11) (fun t => (dats_after m c 11 t).trans (left11 m c t)) t d
theorem held12 (d) : (dats m 0 c).before 12 t d = iblk m c 12 t := before0_12_of m (dats m 0 c) (dats_A m c 12) (fun t => (dats_after m c 12 t).trans (left12 m c t)) t d
theorem held13 (d) : (dats m 0 c).before 13 t d = iblk m c 13 t := before0_13_of m (dats m 0 c) (dats_A m c 13) (fun t => (dats_after m c 13 t).trans (left13 m c t)) t d
theorem held14 (d) : (dats m 0 c).before 14 t d = iblk m c 14 t := before0_14_of m (dats m 0 c) (dats_A m c 14) (fun t => (dats_after m c 14 t).trans (left14 m c t)) t d
theorem held15 (d) : (dats m 0 c).before 15 t d = iblk m c 15 t := before0_15_of m (dats m 0 c) (dats_A m c 15) (fun t => (dats_after m c 15 t).trans (left15 m c t)) t d
theorem held16 (d) : (dats m 0 c).before 16 t d = iblk m c 16 t := before0_16_of m (dats m 0 c) (dats_A m c 16) (fun t => (dats_after m c 16 t).trans (left16 m c t)) t d
theorem held17 (d) : (dats m 0 c).before 17 t d = iblk m c 17 t := before0_17_of m (dats m 0 c) (dats_A m c 17) (fun t => (dats_after m c 17 t).trans (left17 m c t)) t d
theorem held18 (d) : (dats m 0 c).before 18 t d = iblk m c 18 t := before0_18_of m (dats m 0 c) (dats_A m c 18) (fun t => (dats_after m c 18 t).trans (left18 m c t)) t d
theorem held19 (d) : (dats m 0 c).before 19 t d = iblk m c 19 t := before0_19_of m (dats m 0 c) (dats_A m c 19) (fun t => (dats_after m c 19 t).trans (left19 m c t)) t d
theorem held20 (d) : (dats m 0 c).before 20 t d = iblk m c 20 t := before0_20_of m (dats m 0 c) (dats_A m c 20) (fun t => (dats_after m c 20 t).trans (left20 m c t)) t d
theorem held21 (d) : (dats m 0 c).before 21 t d = iblk m c 21 t := before0_21_of m (dats m 0 c) (dats_A m c 21) (fun t => (dats_after m c 21 t).trans (left21 m c t)) t d
theorem held22 (d) : (dats m 0 c).before 22 t d = iblk m c 22 t := before0_22_of m (dats m 0 c) (dats_A m c 22) (fun t => (dats_after m c 22 t).trans (left22 m c t)) t d
theorem held23 (d) : (dats m 0 c).before 23 t d = iblk m c 23 t := before0_23_of m (dats m 0 c) (dats_A m c 23) (fun t => (dats_after m c 23 t).trans (left23 m c t)) t d
theorem held24 (d) : (dats m 0 c).before 24 t d = iblk m c 24 t := before0_24_of m (dats m 0 c) (dats_A m c 24) (fun t => (dats_after m c 24 t).trans (left24 m c t)) t d
theorem held25 (d) : (dats m 0 c).before 25 t d = iblk m c 25 t := before0_25_of m (dats m 0 c) (dats_A m c 25) (fun t => (dats_after m c 25 t).trans (left25 m c t)) t d
theorem held26 (d) : (dats m 0 c).before 26 t d = iblk m c 26 t := before0_26_of m (dats m 0 c) (dats_A m c 26) (fun t => (dats_after m c 26 t).trans (left26 m c t)) t d
theorem held27 (d) : (dats m 0 c).before 27 t d = iblk m c 27 t := before0_27_of m (dats m 0 c) (dats_A m c 27) (fun t => (dats_after m c 27 t).trans (left27 m c t)) t d
theorem held28 (d) : (dats m 0 c).before 28 t d = iblk m c 28 t := before0_28_of m (dats m 0 c) (dats_A m c 28) (fun t => (dats_after m c 28 t).trans (left28 m c t)) t d
theorem held29 (d) : (dats m 0 c).before 29 t d = iblk m c 29 t := before0_29_of m (dats m 0 c) (dats_A m c 29) (fun t => (dats_after m c 29 t).trans (left29 m c t)) t d
end Before

set_option maxHeartbeats 4000000 in
set_option maxHeartbeats 4000000 in
/-- The body at the one point, from the buffers as they stand before it to the buffers as `left` says. -/
theorem point_run (c : Dev nD) (t : Fin cfg0.N) :
    iprop((dats m 0 c).Φ t.castSucc ∗ (dats m 0 c).owesAt () t.castSucc
      ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ d, owns (c : Thread nD τ) (ms0_5 t) fullShare ((dats m 0 c).before 5 t d)) ∗ (∃ d, owns (c : Thread nD τ) (ms0_6 t) fullShare ((dats m 0 c).before 6 t d)) ∗ (∃ d, owns (c : Thread nD τ) (ms0_7 t) fullShare ((dats m 0 c).before 7 t d)) ∗ (∃ d, owns (c : Thread nD τ) (ms0_8 t) fullShare ((dats m 0 c).before 8 t d)) ∗ (∃ d, owns (c : Thread nD τ) (ms0_9 t) fullShare ((dats m 0 c).before 9 t d)) ∗ (∃ d, owns (c : Thread nD τ) (ms0_10 t) fullShare ((dats m 0 c).before 10 t d)) ∗ (∃ d, owns (c : Thread nD τ) (ms0_11 t) fullShare ((dats m 0 c).before 11 t d)) ∗ (∃ d, owns (c : Thread nD τ) (ms0_12 t) fullShare ((dats m 0 c).before 12 t d)) ∗ (∃ d, owns (c : Thread nD τ) (ms0_13 t) fullShare ((dats m 0 c).before 13 t d)) ∗ (∃ d, owns (c : Thread nD τ) (ms0_14 t) fullShare ((dats m 0 c).before 14 t d)) ∗ (∃ d, owns (c : Thread nD τ) (ms0_15 t) fullShare ((dats m 0 c).before 15 t d)) ∗ (∃ d, owns (c : Thread nD τ) (ms0_16 t) fullShare ((dats m 0 c).before 16 t d)) ∗ (∃ d, owns (c : Thread nD τ) (ms0_17 t) fullShare ((dats m 0 c).before 17 t d)) ∗ (∃ d, owns (c : Thread nD τ) (ms0_18 t) fullShare ((dats m 0 c).before 18 t d)) ∗ (∃ d, owns (c : Thread nD τ) (ms0_19 t) fullShare ((dats m 0 c).before 19 t d)) ∗ (∃ d, owns (c : Thread nD τ) (ms0_20 t) fullShare ((dats m 0 c).before 20 t d)) ∗ (∃ d, owns (c : Thread nD τ) (ms0_21 t) fullShare ((dats m 0 c).before 21 t d)) ∗ (∃ d, owns (c : Thread nD τ) (ms0_22 t) fullShare ((dats m 0 c).before 22 t d)) ∗ (∃ d, owns (c : Thread nD τ) (ms0_23 t) fullShare ((dats m 0 c).before 23 t d)) ∗ (∃ d, owns (c : Thread nD τ) (ms0_24 t) fullShare ((dats m 0 c).before 24 t d)) ∗ (∃ d, owns (c : Thread nD τ) (ms0_25 t) fullShare ((dats m 0 c).before 25 t d)) ∗ (∃ d, owns (c : Thread nD τ) (ms0_26 t) fullShare ((dats m 0 c).before 26 t d)) ∗ (∃ d, owns (c : Thread nD τ) (ms0_27 t) fullShare ((dats m 0 c).before 27 t d)) ∗ (∃ d, owns (c : Thread nD τ) (ms0_28 t) fullShare ((dats m 0 c).before 28 t d)) ∗ (∃ d, owns (c : Thread nD τ) (ms0_29 t) fullShare ((dats m 0 c).before 29 t d)) ∗ (∃ d, owns (c : Thread nD τ) (ms0_30 t) fullShare ((dats m 0 c).before 30 t d)) ∗ (∃ d, owns (c : Thread nD τ) (ms0_31 t) fullShare ((dats m 0 c).before 31 t d)) ∗ (∃ d, owns (c : Thread nD τ) (ms0_32 t) fullShare ((dats m 0 c).before 32 t d)) ∗ (∃ d, owns (c : Thread nD τ) (ms0_33 t) fullShare ((dats m 0 c).before 33 t d)) ∗ (∃ d, owns (c : Thread nD τ) (ms0_34 t) fullShare ((dats m 0 c).before 34 t d)) ∗ (∃ d, owns (c : Thread nD τ) (ms0_35 t) fullShare ((dats m 0 c).before 35 t d)) ∗ (∃ d, owns (c : Thread nD τ) (ms0_36 t) fullShare ((dats m 0 c).before 36 t d)) ∗ (∃ d, owns (c : Thread nD τ) (ms0_37 t) fullShare ((dats m 0 c).before 37 t d)) ∗ (∃ d, owns (c : Thread nD τ) (ms0_38 t) fullShare ((dats m 0 c).before 38 t d)) ∗ (∃ d, owns (c : Thread nD τ) (ms0_39 t) fullShare ((dats m 0 c).before 39 t d)) ∗ (∃ d, owns (c : Thread nD τ) (ms0_40 t) fullShare ((dats m 0 c).before 40 t d)) ∗ (∃ d, owns (c : Thread nD τ) (ms0_41 t) fullShare ((dats m 0 c).before 41 t d)) ∗ (∃ d, owns (c : Thread nD τ) (ms0_42 t) fullShare ((dats m 0 c).before 42 t d)) ∗ (∃ d, owns (c : Thread nD τ) (ms0_43 t) fullShare ((dats m 0 c).before 43 t d)) ∗ (∃ d, owns (c : Thread nD τ) (ms0_44 t) fullShare ((dats m 0 c).before 44 t d)) ∗ (∃ d, owns (c : Thread nD τ) (ms0_45 t) fullShare ((dats m 0 c).before 45 t d)) ∗ (∃ d, owns (c : Thread nD τ) (ms0_46 t) fullShare ((dats m 0 c).before 46 t d)) ∗ (∃ d, owns (c : Thread nD τ) (ms0_47 t) fullShare ((dats m 0 c).before 47 t d)) ∗ (∃ d, owns (c : Thread nD τ) (ms0_48 t) fullShare ((dats m 0 c).before 48 t d)) ∗ (∃ d, owns (c : Thread nD τ) (ms0_49 t) fullShare ((dats m 0 c).before 49 t d)) ∗ (∃ d, owns (c : Thread nD τ) (ms0_50 t) fullShare ((dats m 0 c).before 50 t d)) ∗ (∃ d, owns (c : Thread nD τ) (ms0_51 t) fullShare ((dats m 0 c).before 51 t d)) ∗ (∃ d, owns (c : Thread nD τ) (ms0_52 t) fullShare ((dats m 0 c).before 52 t d)) ∗ (∃ d, owns (c : Thread nD τ) (ms0_53 t) fullShare ((dats m 0 c).before 53 t d)) ∗ (∃ d, owns (c : Thread nD τ) (ms0_54 t) fullShare ((dats m 0 c).before 54 t d)) ∗ (∃ d, owns (c : Thread nD τ) (ms0_55 t) fullShare ((dats m 0 c).before 55 t d)) ∗ (∃ d, owns (c : Thread nD τ) (ms0_56 t) fullShare ((dats m 0 c).before 56 t d)) ∗ (∃ d, owns (c : Thread nD τ) (ms0_57 t) fullShare ((dats m 0 c).before 57 t d)) ∗ (∃ d, owns (c : Thread nD τ) (ms0_58 t) fullShare ((dats m 0 c).before 58 t d)) ∗ (∃ d, owns (c : Thread nD τ) (ms0_59 t) fullShare ((dats m 0 c).before 59 t d)))
      ⊢ wp frame (wpE (defs₀ (F := F)) Variants.none c none) Set.univ (bodyAt0 t) (fun _ =>
        iprop((dats m 0 c).Φ t.succ ∗ (dats m 0 c).owesAt () t.succ
          ∗ owns (c : Thread nD τ) (ms0_0 t) fullShare ((dats m 0 c).after 0 t) ∗ owns (c : Thread nD τ) (ms0_1 t) fullShare ((dats m 0 c).after 1 t) ∗ owns (c : Thread nD τ) (ms0_2 t) fullShare ((dats m 0 c).after 2 t) ∗ owns (c : Thread nD τ) (ms0_3 t) fullShare ((dats m 0 c).after 3 t) ∗ owns (c : Thread nD τ) (ms0_4 t) fullShare ((dats m 0 c).after 4 t) ∗ owns (c : Thread nD τ) (ms0_5 t) fullShare ((dats m 0 c).after 5 t) ∗ owns (c : Thread nD τ) (ms0_6 t) fullShare ((dats m 0 c).after 6 t) ∗ owns (c : Thread nD τ) (ms0_7 t) fullShare ((dats m 0 c).after 7 t) ∗ owns (c : Thread nD τ) (ms0_8 t) fullShare ((dats m 0 c).after 8 t) ∗ owns (c : Thread nD τ) (ms0_9 t) fullShare ((dats m 0 c).after 9 t) ∗ owns (c : Thread nD τ) (ms0_10 t) fullShare ((dats m 0 c).after 10 t) ∗ owns (c : Thread nD τ) (ms0_11 t) fullShare ((dats m 0 c).after 11 t) ∗ owns (c : Thread nD τ) (ms0_12 t) fullShare ((dats m 0 c).after 12 t) ∗ owns (c : Thread nD τ) (ms0_13 t) fullShare ((dats m 0 c).after 13 t) ∗ owns (c : Thread nD τ) (ms0_14 t) fullShare ((dats m 0 c).after 14 t) ∗ owns (c : Thread nD τ) (ms0_15 t) fullShare ((dats m 0 c).after 15 t) ∗ owns (c : Thread nD τ) (ms0_16 t) fullShare ((dats m 0 c).after 16 t) ∗ owns (c : Thread nD τ) (ms0_17 t) fullShare ((dats m 0 c).after 17 t) ∗ owns (c : Thread nD τ) (ms0_18 t) fullShare ((dats m 0 c).after 18 t) ∗ owns (c : Thread nD τ) (ms0_19 t) fullShare ((dats m 0 c).after 19 t) ∗ owns (c : Thread nD τ) (ms0_20 t) fullShare ((dats m 0 c).after 20 t) ∗ owns (c : Thread nD τ) (ms0_21 t) fullShare ((dats m 0 c).after 21 t) ∗ owns (c : Thread nD τ) (ms0_22 t) fullShare ((dats m 0 c).after 22 t) ∗ owns (c : Thread nD τ) (ms0_23 t) fullShare ((dats m 0 c).after 23 t) ∗ owns (c : Thread nD τ) (ms0_24 t) fullShare ((dats m 0 c).after 24 t) ∗ owns (c : Thread nD τ) (ms0_25 t) fullShare ((dats m 0 c).after 25 t) ∗ owns (c : Thread nD τ) (ms0_26 t) fullShare ((dats m 0 c).after 26 t) ∗ owns (c : Thread nD τ) (ms0_27 t) fullShare ((dats m 0 c).after 27 t) ∗ owns (c : Thread nD τ) (ms0_28 t) fullShare ((dats m 0 c).after 28 t) ∗ owns (c : Thread nD τ) (ms0_29 t) fullShare ((dats m 0 c).after 29 t) ∗ owns (c : Thread nD τ) (ms0_30 t) fullShare ((dats m 0 c).after 30 t) ∗ owns (c : Thread nD τ) (ms0_31 t) fullShare ((dats m 0 c).after 31 t) ∗ owns (c : Thread nD τ) (ms0_32 t) fullShare ((dats m 0 c).after 32 t) ∗ owns (c : Thread nD τ) (ms0_33 t) fullShare ((dats m 0 c).after 33 t) ∗ owns (c : Thread nD τ) (ms0_34 t) fullShare ((dats m 0 c).after 34 t) ∗ owns (c : Thread nD τ) (ms0_35 t) fullShare ((dats m 0 c).after 35 t) ∗ owns (c : Thread nD τ) (ms0_36 t) fullShare ((dats m 0 c).after 36 t) ∗ owns (c : Thread nD τ) (ms0_37 t) fullShare ((dats m 0 c).after 37 t) ∗ owns (c : Thread nD τ) (ms0_38 t) fullShare ((dats m 0 c).after 38 t) ∗ owns (c : Thread nD τ) (ms0_39 t) fullShare ((dats m 0 c).after 39 t) ∗ owns (c : Thread nD τ) (ms0_40 t) fullShare ((dats m 0 c).after 40 t) ∗ owns (c : Thread nD τ) (ms0_41 t) fullShare ((dats m 0 c).after 41 t) ∗ owns (c : Thread nD τ) (ms0_42 t) fullShare ((dats m 0 c).after 42 t) ∗ owns (c : Thread nD τ) (ms0_43 t) fullShare ((dats m 0 c).after 43 t) ∗ owns (c : Thread nD τ) (ms0_44 t) fullShare ((dats m 0 c).after 44 t) ∗ owns (c : Thread nD τ) (ms0_45 t) fullShare ((dats m 0 c).after 45 t) ∗ owns (c : Thread nD τ) (ms0_46 t) fullShare ((dats m 0 c).after 46 t) ∗ owns (c : Thread nD τ) (ms0_47 t) fullShare ((dats m 0 c).after 47 t) ∗ owns (c : Thread nD τ) (ms0_48 t) fullShare ((dats m 0 c).after 48 t) ∗ owns (c : Thread nD τ) (ms0_49 t) fullShare ((dats m 0 c).after 49 t) ∗ owns (c : Thread nD τ) (ms0_50 t) fullShare ((dats m 0 c).after 50 t) ∗ owns (c : Thread nD τ) (ms0_51 t) fullShare ((dats m 0 c).after 51 t) ∗ owns (c : Thread nD τ) (ms0_52 t) fullShare ((dats m 0 c).after 52 t) ∗ owns (c : Thread nD τ) (ms0_53 t) fullShare ((dats m 0 c).after 53 t) ∗ owns (c : Thread nD τ) (ms0_54 t) fullShare ((dats m 0 c).after 54 t) ∗ owns (c : Thread nD τ) (ms0_55 t) fullShare ((dats m 0 c).after 55 t) ∗ owns (c : Thread nD τ) (ms0_56 t) fullShare ((dats m 0 c).after 56 t) ∗ owns (c : Thread nD τ) (ms0_57 t) fullShare ((dats m 0 c).after 57 t) ∗ owns (c : Thread nD τ) (ms0_58 t) fullShare ((dats m 0 c).after 58 t) ∗ owns (c : Thread nD τ) (ms0_59 t) fullShare ((dats m 0 c).after 59 t))) := by
  unfold bodyAt0
  simp only [held0, held1, held2, held3, held4, held5, held6, held7, held8, held9, held10, held11, held12, held13, held14, held15, held16, held17, held18, held19, held20, held21, held22, held23, held24, held25, held26, held27, held28, held29]
  rw [show (dats m 0 c).Φ t.succ = (dats m 0 c).Φ t.castSucc from rfl,
    show (dats m 0 c).owesAt () t.succ = (dats m 0 c).owesAt () t.castSucc from rfl]
  simp only [dats_after, left0, left1, left2, left3, left4, left5, left6, left7, left8, left9, left10, left11, left12, left13, left14, left15, left16, left17, left18, left19, left20, left21, left22, left23, left24, left25, left26, left27, left28, left29, left30, left31, left32, left33, left34, left35, left36, left37, left38, left39, left40, left41, left42, left43, left44, left45, left46, left47, left48, left49, left50, left51, left52, left53, left54, left55, left56, left57, left58, left59]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩, ⟨%d37, H37⟩, ⟨%d38, H38⟩, ⟨%d39, H39⟩, ⟨%d40, H40⟩, ⟨%d41, H41⟩, ⟨%d42, H42⟩, ⟨%d43, H43⟩, ⟨%d44, H44⟩, ⟨%d45, H45⟩, ⟨%d46, H46⟩, ⟨%d47, H47⟩, ⟨%d48, H48⟩, ⟨%d49, H49⟩, ⟨%d50, H50⟩, ⟨%d51, H51⟩, ⟨%d52, H52⟩, ⟨%d53, H53⟩, ⟨%d54, H54⟩, ⟨%d55, H55⟩, ⟨%d56, H56⟩, ⟨%d57, H57⟩, ⟨%d58, H58⟩, ⟨%d59, H59⟩⟩
  iapply (body_run c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexists _; iexact H30
  isplitl [H31]; · iexists _; iexact H31
  isplitl [H32]; · iexists _; iexact H32
  isplitl [H33]; · iexists _; iexact H33
  isplitl [H34]; · iexists _; iexact H34
  isplitl [H35]; · iexists _; iexact H35
  isplitl [H36]; · iexists _; iexact H36
  isplitl [H37]; · iexists _; iexact H37
  isplitl [H38]; · iexists _; iexact H38
  isplitl [H39]; · iexists _; iexact H39
  isplitl [H40]; · iexists _; iexact H40
  isplitl [H41]; · iexists _; iexact H41
  isplitl [H42]; · iexists _; iexact H42
  isplitl [H43]; · iexists _; iexact H43
  isplitl [H44]; · iexists _; iexact H44
  isplitl [H45]; · iexists _; iexact H45
  isplitl [H46]; · iexists _; iexact H46
  isplitl [H47]; · iexists _; iexact H47
  isplitl [H48]; · iexists _; iexact H48
  isplitl [H49]; · iexists _; iexact H49
  isplitl [H50]; · iexists _; iexact H50
  isplitl [H51]; · iexists _; iexact H51
  isplitl [H52]; · iexists _; iexact H52
  isplitl [H53]; · iexists _; iexact H53
  isplitl [H54]; · iexists _; iexact H54
  isplitl [H55]; · iexists _; iexact H55
  isplitl [H56]; · iexists _; iexact H56
  isplitl [H57]; · iexists _; iexact H57
  isplitl [H58]; · iexists _; iexact H58
  isplitl [H59]; · iexists _; iexact H59
  iintro ⟨H0, H1, H2, H3, H4, H5, H6, H7, H8, H9, H10, H11, H12, H13, H14, H15, H16, H17, H18, H19, H20, H21, H22, H23, H24, H25, H26, H27, H28, H29, H30, H31, H32, H33, H34, H35, H36, H37, H38, H39, H40, H41, H42, H43, H44, H45, H46, H47, H48, H49, H50, H51, H52, H53, H54, H55, H56, H57, H58, H59⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  isplitl [H40]; · iexact H40
  isplitl [H41]; · iexact H41
  isplitl [H42]; · iexact H42
  isplitl [H43]; · iexact H43
  isplitl [H44]; · iexact H44
  isplitl [H45]; · iexact H45
  isplitl [H46]; · iexact H46
  isplitl [H47]; · iexact H47
  isplitl [H48]; · iexact H48
  isplitl [H49]; · iexact H49
  isplitl [H50]; · iexact H50
  isplitl [H51]; · iexact H51
  isplitl [H52]; · iexact H52
  isplitl [H53]; · iexact H53
  isplitl [H54]; · iexact H54
  isplitl [H55]; · iexact H55
  isplitl [H56]; · iexact H56
  isplitl [H57]; · iexact H57
  isplitl [H58]; · iexact H58
  iexact H59

theorem row_eq (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row_eq]
  exact triple_restated (point_run m c t) rfl .rfl fun _ => .rfl

set_option backward.isDefEq.respectTransparency.types false in
/-- Every run of the program ends with each array as the proof data says and every counter at zero. -/
theorem run_all : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := dats_A m) (hΦ := fun _ _ => rfl)

/-- The arguments end as they began. -/
theorem kept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)) :=
  frame_of m ρ (dats m) (dats_A m) ((θ_run defs _ _).mono (fun _ h => h.1) (run_all m ρ))

/-- The arguments end as they began and the counters at zero. -/
theorem small_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29))
      ∧ r.2.sem = fun _ => 0) :=
  θ_run_and (kept m ρ) ((θ_run defs _ _).mono (fun _ h => h.2) (run_all m ρ))

set_option maxHeartbeats 4000000 in
/-- The results end as the proof data says, and the arguments as they began. -/
theorem small_results : θ_run defs (onTc (τ := τ) (main (F := F))) ⟨m, fun _ => 0, ρ⟩ (fun r => ∀ c : Dev nD,
      r.2.mem ((c.tc : Thread nD τ).loc main_v4_0) = (dats m 0 c).arrAt 30 cfg0.N
      ∧ r.2.mem ((c.tc : Thread nD τ).loc main_v4_1) = (dats m 0 c).arrAt 31 cfg0.N
      ∧ r.2.mem ((c.tc : Thread nD τ).loc main_v4_2) = (dats m 0 c).arrAt 32 cfg0.N
      ∧ r.2.mem ((c.tc : Thread nD τ).loc main_v4_3) = (dats m 0 c).arrAt 33 cfg0.N
      ∧ r.2.mem ((c.tc : Thread nD τ).loc main_v4_4) = (dats m 0 c).arrAt 34 cfg0.N
      ∧ r.2.mem ((c.tc : Thread nD τ).loc main_v4_5) = (dats m 0 c).arrAt 35 cfg0.N
      ∧ r.2.mem ((c.tc : Thread nD τ).loc main_v4_6) = (dats m 0 c).arrAt 36 cfg0.N
      ∧ r.2.mem ((c.tc : Thread nD τ).loc main_v4_7) = (dats m 0 c).arrAt 37 cfg0.N
      ∧ r.2.mem ((c.tc : Thread nD τ).loc main_v4_8) = (dats m 0 c).arrAt 38 cfg0.N
      ∧ r.2.mem ((c.tc : Thread nD τ).loc main_v4_9) = (dats m 0 c).arrAt 39 cfg0.N
      ∧ r.2.mem ((c.tc : Thread nD τ).loc main_v4_10) = (dats m 0 c).arrAt 40 cfg0.N
      ∧ r.2.mem ((c.tc : Thread nD τ).loc main_v4_11) = (dats m 0 c).arrAt 41 cfg0.N
      ∧ r.2.mem ((c.tc : Thread nD τ).loc main_v4_12) = (dats m 0 c).arrAt 42 cfg0.N
      ∧ r.2.mem ((c.tc : Thread nD τ).loc main_v4_13) = (dats m 0 c).arrAt 43 cfg0.N
      ∧ r.2.mem ((c.tc : Thread nD τ).loc main_v4_14) = (dats m 0 c).arrAt 44 cfg0.N
      ∧ r.2.mem ((c.tc : Thread nD τ).loc main_v4_15) = (dats m 0 c).arrAt 45 cfg0.N
      ∧ r.2.mem ((c.tc : Thread nD τ).loc main_v4_16) = (dats m 0 c).arrAt 46 cfg0.N
      ∧ r.2.mem ((c.tc : Thread nD τ).loc main_v4_17) = (dats m 0 c).arrAt 47 cfg0.N
      ∧ r.2.mem ((c.tc : Thread nD τ).loc main_v4_18) = (dats m 0 c).arrAt 48 cfg0.N
      ∧ r.2.mem ((c.tc : Thread nD τ).loc main_v4_19) = (dats m 0 c).arrAt 49 cfg0.N
      ∧ r.2.mem ((c.tc : Thread nD τ).loc main_v4_20) = (dats m 0 c).arrAt 50 cfg0.N
      ∧ r.2.mem ((c.tc : Thread nD τ).loc main_v4_21) = (dats m 0 c).arrAt 51 cfg0.N
      ∧ r.2.mem ((c.tc : Thread nD τ).loc main_v4_22) = (dats m 0 c).arrAt 52 cfg0.N
      ∧ r.2.mem ((c.tc : Thread nD τ).loc main_v4_23) = (dats m 0 c).arrAt 53 cfg0.N
      ∧ r.2.mem ((c.tc : Thread nD τ).loc main_v4_24) = (dats m 0 c).arrAt 54 cfg0.N
      ∧ r.2.mem ((c.tc : Thread nD τ).loc main_v4_25) = (dats m 0 c).arrAt 55 cfg0.N
      ∧ r.2.mem ((c.tc : Thread nD τ).loc main_v4_26) = (dats m 0 c).arrAt 56 cfg0.N
      ∧ r.2.mem ((c.tc : Thread nD τ).loc main_v4_27) = (dats m 0 c).arrAt 57 cfg0.N
      ∧ r.2.mem ((c.tc : Thread nD τ).loc main_v4_28) = (dats m 0 c).arrAt 58 cfg0.N
      ∧ r.2.mem ((c.tc : Thread nD τ).loc main_v4_29) = (dats m 0 c).arrAt 59 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)) :=
  (θ_run defs _ _).mono (fun r h c => ⟨(h.2.1 c).1 30, (h.2.1 c).1 31, (h.2.1 c).1 32, (h.2.1 c).1 33, (h.2.1 c).1 34, (h.2.1 c).1 35, (h.2.1 c).1 36, (h.2.1 c).1 37, (h.2.1 c).1 38, (h.2.1 c).1 39, (h.2.1 c).1 40, (h.2.1 c).1 41, (h.2.1 c).1 42, (h.2.1 c).1 43, (h.2.1 c).1 44, (h.2.1 c).1 45, (h.2.1 c).1 46, (h.2.1 c).1 47, (h.2.1 c).1 48, (h.2.1 c).1 49, (h.2.1 c).1 50, (h.2.1 c).1 51, (h.2.1 c).1 52, (h.2.1 c).1 53, (h.2.1 c).1 54, (h.2.1 c).1 55, (h.2.1 c).1 56, (h.2.1 c).1 57, (h.2.1 c).1 58, (h.2.1 c).1 59, h.1 c⟩)
    (θ_run_and (kept m ρ) (run_all m ρ))

end Cert.Kernel6Ideal.Hand

end
-- ==== Proof.SmallValue.lean ====
module

public import proofs.«01_k».proof.Proof.SmallSpec
public import proofs.«01_k».proof.Proof.AdamSpec
public import proofs.«01_k».proof.Proof.Gen.Reference6Ideal.Read
public import proofs.«01_k».proof.Proof.Gen.Pre_chip_exists
public import Idealize.ShloMosaic.Lib.Pipeline.Value
public import Idealize.ShloMosaic.Lib.WordCmp

@[expose] public section

set_option maxRecDepth 16384

/-!
# The small weights' step: each result of the kernel is the reference's

All but one of the gradients are plain cuts. The gradient of the convolution's weights is a chip's columns: the kernel
chooses among four cuts, the reference starts its cut at 128 times the chip's number, so the two agree for chips 0 to 3.
-/

noncomputable section

namespace Cert.Kernel6Ideal.Hand

open Cert.Kernel6Ideal Cert.Kernel6Ideal.Gen Cert.Reference6Ideal.Read
open Idealize.ShloMosaic Idealize.ShloMosaic.TcCoe Idealize.ShloMosaic.WordCmp

attribute [local instance] Cert.Reference6Ideal.Gen.facts Cert.Pre_chip_exists.Gen.facts

/-- The pool's weights as a matrix. -/
def flat (x : FVec Ideal S4x128x128 .f32) : FVec Ideal S512x128 .f32 := shapeCast S512x128 x shapeCasts_S4x128x128_S512x128

section Cuts
variable (x0 : Vec Ideal S2 .i32) (x1 : Vec Ideal S8x1024 .f32) (x2 : Vec Ideal S8x1024 .f32) (x3 : Vec Ideal S8x512 .f32) (x4 : Vec Ideal S1x6144 .f32) (x5 : Vec Ideal S4x128x128 .f32) (x6 : Vec Ideal S1x6144 .f32) (x7 : Vec Ideal S3x128 .f32) (x8 : Vec Ideal S4x128x128 .f32) (x9 : Vec Ideal S1x512 .f32) (x10 : Vec Ideal S1x1024 .f32) (x11 : Vec Ideal S1x1024 .f32) (x12 : Vec Ideal S1x1024 .f32) (x13 : Vec Ideal S1x1024 .f32) (x14 : Vec Ideal S1x6144 .f32) (x15 : Vec Ideal S3x128 .f32) (x16 : Vec Ideal S4x128x128 .f32) (x17 : Vec Ideal S1x512 .f32) (x18 : Vec Ideal S1x1024 .f32) (x19 : Vec Ideal S1x1024 .f32) (x20 : Vec Ideal S1x1024 .f32) (x21 : Vec Ideal S1x1024 .f32) (x22 : Vec Ideal S1x6144 .f32) (x23 : Vec Ideal S3x128 .f32) (x24 : Vec Ideal S4x128x128 .f32) (x25 : Vec Ideal S1x512 .f32) (x26 : Vec Ideal S1x1024 .f32) (x27 : Vec Ideal S1x1024 .f32) (x28 : Vec Ideal S1x1024 .f32) (x29 : Vec Ideal S1x1024 .f32)

theorem eq31 : res31 (F := Ideal) x3 = val_main_v8 (F := Ideal) x3 := View.ld_unit x3 ![3, 0] S1x512.size inb_S8x512_S1x512_3_0
theorem eq32 : res32 (F := Ideal) x1 = val_main_v9 (F := Ideal) x1 := View.ld_unit x1 ![0, 0] S1x1024.size inb_S8x1024_S1x1024_0_0
theorem eq33 : res33 (F := Ideal) x1 = val_main_v10 (F := Ideal) x1 := View.ld_unit x1 ![1, 0] S1x1024.size inb_S8x1024_S1x1024_1_0
theorem eq34 : res34 (F := Ideal) x2 = val_main_v11 (F := Ideal) x2 := View.ld_unit x2 ![0, 0] S1x1024.size inb_S8x1024_S1x1024_0_0
theorem eq35 : res35 (F := Ideal) x2 = val_main_v12 (F := Ideal) x2 := View.ld_unit x2 ![1, 0] S1x1024.size inb_S8x1024_S1x1024_1_0

/-- The chip's number is one of four. -/
theorem four (w : BitVec 32) (h : IntOp.andi (IntOp.cmpi .sge w 0#32) (IntOp.cmpi .slt w 4#32) = 1#1) :
    w = 0#32 ∨ w = 1#32 ∨ w = 2#32 ∨ w = 3#32 := by
  rw [cmpi_sge_eq, cmpi_slt_eq] at h
  have h0 : 0 ≤ w.toInt := by
    by_contra hn
    have : (0#32 : BitVec 32).toInt = 0 := by decide
    simp [IntOp.andi, this, hn] at h
  have h4 : w.toInt < 4 := by
    by_contra hn
    have : (4#32 : BitVec 32).toInt = 4 := by decide
    simp [IntOp.andi, this, hn] at h
  have : w.toInt = 0 ∨ w.toInt = 1 ∨ w.toInt = 2 ∨ w.toInt = 3 := by omega
  rcases this with e | e | e | e
  · exact Or.inl (BitVec.eq_of_toInt_eq (e.trans (by decide)))
  · exact Or.inr (Or.inl (BitVec.eq_of_toInt_eq (e.trans (by decide))))
  · exact Or.inr (Or.inr (Or.inl (BitVec.eq_of_toInt_eq (e.trans (by decide)))))
  · exact Or.inr (Or.inr (Or.inr (BitVec.eq_of_toInt_eq (e.trans (by decide)))))

/-- The reference's chip number is the kernel's. -/
theorem ref_word (i : Cert.Reference6Ideal.S_.Idx) : val_main_v2 (F := Ideal) x0 i = word (F := Ideal) x0 := by
  unfold val_main_v2 word
  show val_main_v1 (F := Ideal) x0 _ = _
  rw [val_main_v1_apply]
  show x0 _ = x0 _
  refine congrArg x0 (funext fun a => ?_)
  fin_cases a
  refine Fin.ext ?_
  have h1 : ∀ j : Cert.Reference6Ideal.S1.Idx, (j 0).val = 0 := fun j => Nat.lt_one_iff.mp (j 0).isLt
  have h2 : ∀ j : S1.Idx, (j 0).val = 0 := fun j => Nat.lt_one_iff.mp (j 0).isLt
  exact congrArg (1 + ·) ((h1 _).trans (((Nat.one_mul _).trans (h2 _)).symm))

theorem ref_start (i : Cert.Reference6Ideal.S_.Idx) : val_main_v6 (F := Ideal) x0 i
    = Scalar.select (IntOp.cmpi .slt (IntOp.muli (word (F := Ideal) x0) 128#32) 0#32)
        (IntOp.addi (IntOp.muli (word (F := Ideal) x0) 128#32) 512#32) (IntOp.muli (word (F := Ideal) x0) 128#32) := by
  rw [val_main_v6_apply, val_main_v4_apply, val_main_v5_apply, val_main_v3_apply, ref_word]
  rfl

theorem eq30 (h : word (F := Ideal) x0 = 0#32 ∨ word (F := Ideal) x0 = 1#32 ∨ word (F := Ideal) x0 = 2#32 ∨ word (F := Ideal) x0 = 3#32) :
    res30 (F := Ideal) x0 x3 = val_main_v7 (F := Ideal) x0 x3 := by
  unfold val_main_v7 res30 k0_pay5
  rcases h with h | h | h | h
  · rw [dynamicSlice_eq_extract Cert.Reference6Ideal.S3x128 _ _ _ ![0, 0] (by decide) (by
      intro a
      fin_cases a
      · rfl
      · show (val_main_v6 (F := Ideal) x0 _).toInt = _
        rw [ref_start, h]
        decide), h]
    refine Eq.trans (b := cols0 (F := Ideal) x3) ?_ (funext fun y => congrArg x3 (funext fun a => Fin.ext ?_))
    · rfl
    · fin_cases a
      · show 0 + 1 * (y 0).val = 0 + (0 + (y 0).val)
        omega
      · show 0 + 1 * (y 1).val = 0 + (0 + (y 1).val)
        omega
  · rw [dynamicSlice_eq_extract Cert.Reference6Ideal.S3x128 _ _ _ ![0, 128] (by decide) (by
      intro a
      fin_cases a
      · rfl
      · show (val_main_v6 (F := Ideal) x0 _).toInt = _
        rw [ref_start, h]
        decide), h]
    refine Eq.trans (b := cols1 (F := Ideal) x3) ?_ (funext fun y => congrArg x3 (funext fun a => Fin.ext ?_))
    · rfl
    · fin_cases a
      · show 0 + 1 * (y 0).val = 0 + (0 + (y 0).val)
        omega
      · show 128 + 1 * (y 1).val = 0 + (128 + (y 1).val)
        omega
  · rw [dynamicSlice_eq_extract Cert.Reference6Ideal.S3x128 _ _ _ ![0, 256] (by decide) (by
      intro a
      fin_cases a
      · rfl
      · show (val_main_v6 (F := Ideal) x0 _).toInt = _
        rw [ref_start, h]
        decide), h]
    refine Eq.trans (b := cols2 (F := Ideal) x3) ?_ (funext fun y => congrArg x3 (funext fun a => Fin.ext ?_))
    · rfl
    · fin_cases a
      · show 0 + 1 * (y 0).val = 0 + (0 + (y 0).val)
        omega
      · show 256 + 1 * (y 1).val = 0 + (256 + (y 1).val)
        omega
  · rw [dynamicSlice_eq_extract Cert.Reference6Ideal.S3x128 _ _ _ ![0, 384] (by decide) (by
      intro a
      fin_cases a
      · rfl
      · show (val_main_v6 (F := Ideal) x0 _).toInt = _
        rw [ref_start, h]
        decide), h]
    refine Eq.trans (b := cols3 (F := Ideal) x3) ?_ (funext fun y => congrArg x3 (funext fun a => Fin.ext ?_))
    · rfl
    · fin_cases a
      · show 0 + 1 * (y 0).val = 0 + (0 + (y 0).val)
        omega
      · show 384 + 1 * (y 1).val = 0 + (384 + (y 1).val)
        omega
end Cuts

section Steps
variable (x0 : Vec Ideal S2 .i32) (x1 : Vec Ideal S8x1024 .f32) (x2 : Vec Ideal S8x1024 .f32) (x3 : Vec Ideal S8x512 .f32) (x4 : Vec Ideal S1x6144 .f32) (x5 : Vec Ideal S4x128x128 .f32) (x6 : Vec Ideal S1x6144 .f32) (x7 : Vec Ideal S3x128 .f32) (x8 : Vec Ideal S4x128x128 .f32) (x9 : Vec Ideal S1x512 .f32) (x10 : Vec Ideal S1x1024 .f32) (x11 : Vec Ideal S1x1024 .f32) (x12 : Vec Ideal S1x1024 .f32) (x13 : Vec Ideal S1x1024 .f32) (x14 : Vec Ideal S1x6144 .f32) (x15 : Vec Ideal S3x128 .f32) (x16 : Vec Ideal S4x128x128 .f32) (x17 : Vec Ideal S1x512 .f32) (x18 : Vec Ideal S1x1024 .f32) (x19 : Vec Ideal S1x1024 .f32) (x20 : Vec Ideal S1x1024 .f32) (x21 : Vec Ideal S1x1024 .f32) (x22 : Vec Ideal S1x6144 .f32) (x23 : Vec Ideal S3x128 .f32) (x24 : Vec Ideal S4x128x128 .f32) (x25 : Vec Ideal S1x512 .f32) (x26 : Vec Ideal S1x1024 .f32) (x27 : Vec Ideal S1x1024 .f32) (x28 : Vec Ideal S1x1024 .f32) (x29 : Vec Ideal S1x1024 .f32)

theorem eq36 : res36 (F := Ideal) x4 x6 x14 x22 = val_main_v36 (F := Ideal) x4 x6 x14 x22 := rfl
theorem eq37 (h : res30 (F := Ideal) x0 x3 = val_main_v7 (F := Ideal) x0 x3) : res37 (F := Ideal) x0 x3 x7 x15 x23 = val_main_v60 (F := Ideal) x0 x3 x7 x15 x23 := by
  refine (show _ = fun i => Adam.delta (x7 i) (x15 i) (x23 i) (res30 (F := Ideal) x0 x3 i) from rfl).trans ?_
  rw [h]
  rfl
theorem eq38 : res38 (F := Ideal) (flat x5) (flat x8) (flat x16) (flat x24) = val_main_v205 (F := Ideal) x5 x8 x16 x24 := by
  simp only [res38, k0_pay11, k0_pay12, k0_pay13, k0_pay14, k0_pay15, k0_pay16, k0_pay17, shapeCast_self]
  rfl
theorem eq39 : res39 (F := Ideal) x3 x9 x17 x25 = val_main_v108 (F := Ideal) x3 x9 x17 x25 := by
  refine (show _ = fun i => Adam.delta (x9 i) (x17 i) (x25 i) (res31 (F := Ideal) x3 i) from rfl).trans ?_
  rw [eq31]
  rfl
theorem eq40 : res40 (F := Ideal) x1 x10 x18 x26 = val_main_v132 (F := Ideal) x1 x10 x18 x26 := by
  refine (show _ = fun i => Adam.delta (x10 i) (x18 i) (x26 i) (res32 (F := Ideal) x1 i) from rfl).trans ?_
  rw [eq32]
  rfl
theorem eq41 : res41 (F := Ideal) x1 x11 x19 x27 = val_main_v156 (F := Ideal) x1 x11 x19 x27 := by
  refine (show _ = fun i => Adam.delta (x11 i) (x19 i) (x27 i) (res33 (F := Ideal) x1 i) from rfl).trans ?_
  rw [eq33]
  rfl
theorem eq42 : res42 (F := Ideal) x2 x12 x20 x28 = val_main_v180 (F := Ideal) x2 x12 x20 x28 := by
  refine (show _ = fun i => Adam.delta (x12 i) (x20 i) (x28 i) (res34 (F := Ideal) x2 i) from rfl).trans ?_
  rw [eq34]
  rfl
theorem eq43 : res43 (F := Ideal) x2 x13 x21 x29 = val_main_v204 (F := Ideal) x2 x13 x21 x29 := by
  refine (show _ = fun i => Adam.delta (x13 i) (x21 i) (x29 i) (res35 (F := Ideal) x2 i) from rfl).trans ?_
  rw [eq35]
  rfl
theorem eq44 : res44 (F := Ideal) x4 x14 = val_main_v17 (F := Ideal) x4 x14 := rfl
theorem eq45 (h : res30 (F := Ideal) x0 x3 = val_main_v7 (F := Ideal) x0 x3) : res45 (F := Ideal) x0 x3 x15 = val_main_v41 (F := Ideal) x0 x3 x15 := by
  refine (show _ = fun i => Adam.mom (x15 i) (res30 (F := Ideal) x0 x3 i) from rfl).trans ?_
  rw [h]
  rfl
theorem eq46 : res46 (F := Ideal) (flat x5) (flat x16) = val_main_v206 (F := Ideal) x5 x16 := by
  simp only [res46, k0_pay11, k0_pay12, k0_pay13, k0_pay14, k0_pay15, k0_pay16, k0_pay17, shapeCast_self]
  rfl
theorem eq47 : res47 (F := Ideal) x3 x17 = val_main_v89 (F := Ideal) x3 x17 := by
  refine (show _ = fun i => Adam.mom (x17 i) (res31 (F := Ideal) x3 i) from rfl).trans ?_
  rw [eq31]
  rfl
theorem eq48 : res48 (F := Ideal) x1 x18 = val_main_v113 (F := Ideal) x1 x18 := by
  refine (show _ = fun i => Adam.mom (x18 i) (res32 (F := Ideal) x1 i) from rfl).trans ?_
  rw [eq32]
  rfl
theorem eq49 : res49 (F := Ideal) x1 x19 = val_main_v137 (F := Ideal) x1 x19 := by
  refine (show _ = fun i => Adam.mom (x19 i) (res33 (F := Ideal) x1 i) from rfl).trans ?_
  rw [eq33]
  rfl
theorem eq50 : res50 (F := Ideal) x2 x20 = val_main_v161 (F := Ideal) x2 x20 := by
  refine (show _ = fun i => Adam.mom (x20 i) (res34 (F := Ideal) x2 i) from rfl).trans ?_
  rw [eq34]
  rfl
theorem eq51 : res51 (F := Ideal) x2 x21 = val_main_v185 (F := Ideal) x2 x21 := by
  refine (show _ = fun i => Adam.mom (x21 i) (res35 (F := Ideal) x2 i) from rfl).trans ?_
  rw [eq35]
  rfl
theorem eq52 : res52 (F := Ideal) x4 x22 = val_main_v23 (F := Ideal) x4 x22 := rfl
theorem eq53 (h : res30 (F := Ideal) x0 x3 = val_main_v7 (F := Ideal) x0 x3) : res53 (F := Ideal) x0 x3 x23 = val_main_v47 (F := Ideal) x0 x3 x23 := by
  refine (show _ = fun i => Adam.sq (x23 i) (res30 (F := Ideal) x0 x3 i) from rfl).trans ?_
  rw [h]
  rfl
theorem eq54 : res54 (F := Ideal) (flat x5) (flat x24) = val_main_v207 (F := Ideal) x5 x24 := by
  simp only [res54, k0_pay11, k0_pay12, k0_pay13, k0_pay14, k0_pay15, k0_pay16, k0_pay17, shapeCast_self]
  rfl
theorem eq55 : res55 (F := Ideal) x3 x25 = val_main_v95 (F := Ideal) x3 x25 := by
  refine (show _ = fun i => Adam.sq (x25 i) (res31 (F := Ideal) x3 i) from rfl).trans ?_
  rw [eq31]
  rfl
theorem eq56 : res56 (F := Ideal) x1 x26 = val_main_v119 (F := Ideal) x1 x26 := by
  refine (show _ = fun i => Adam.sq (x26 i) (res32 (F := Ideal) x1 i) from rfl).trans ?_
  rw [eq32]
  rfl
theorem eq57 : res57 (F := Ideal) x1 x27 = val_main_v143 (F := Ideal) x1 x27 := by
  refine (show _ = fun i => Adam.sq (x27 i) (res33 (F := Ideal) x1 i) from rfl).trans ?_
  rw [eq33]
  rfl
theorem eq58 : res58 (F := Ideal) x2 x28 = val_main_v167 (F := Ideal) x2 x28 := by
  refine (show _ = fun i => Adam.sq (x28 i) (res34 (F := Ideal) x2 i) from rfl).trans ?_
  rw [eq34]
  rfl
theorem eq59 : res59 (F := Ideal) x2 x29 = val_main_v191 (F := Ideal) x2 x29 := by
  refine (show _ = fun i => Adam.sq (x29 i) (res35 (F := Ideal) x2 i) from rfl).trans ?_
  rw [eq35]
  rfl
end Steps

end Cert.Kernel6Ideal.Hand

end
-- ==== Proof.SmallOperands.lean ====
module

public import proofs.«01_k».proof.Proof.Gen.Kernel6Ideal.Frame.Runs
public import proofs.«01_k».proof.Proof.SmallValue
public import Idealize.ShloMosaic.Lib.Pipeline.ValueKit
public import Idealize.ShloMosaic.Lib.StableHlo.RunRead

@[expose] public section

set_option maxRecDepth 16384

/-!
# The small weights' step reads and writes whole arrays

There is one grid point, and every window's block is its whole array: an input's block is the argument, the pool's weights
and moments reshaped to a matrix.
-/

noncomputable section

namespace Cert.Kernel6Ideal.Hand

open Cert.Kernel6Ideal Cert.Kernel6Ideal.Gen
open Idealize.ShloMosaic Idealize.ShloMosaic.TcCoe

variable (m : (ℓ : Loc nD τ sig) → Buf (Elt Ideal) ℓ) (c : Dev nD)

theorem idx0 : ∀ t : Fin cfg0.N, win0_0.index t = ![0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![0, 0] := (by decide +kernel : ∀ t : Fin grid0.N, _)
theorem idx12 : ∀ t : Fin cfg0.N, win0_12.index t = ![0, 0] := (by decide +kernel : ∀ t : Fin grid0.N, _)
theorem idx13 : ∀ t : Fin cfg0.N, win0_13.index t = ![0, 0] := (by decide +kernel : ∀ t : Fin grid0.N, _)
theorem idx14 : ∀ t : Fin cfg0.N, win0_14.index t = ![0, 0] := (by decide +kernel : ∀ t : Fin grid0.N, _)
theorem idx15 : ∀ t : Fin cfg0.N, win0_15.index t = ![0, 0] := (by decide +kernel : ∀ t : Fin grid0.N, _)
theorem idx16 : ∀ t : Fin cfg0.N, win0_16.index t = ![0, 0] := (by decide +kernel : ∀ t : Fin grid0.N, _)
theorem idx17 : ∀ t : Fin cfg0.N, win0_17.index t = ![0, 0] := (by decide +kernel : ∀ t : Fin grid0.N, _)
theorem idx18 : ∀ t : Fin cfg0.N, win0_18.index t = ![0, 0] := (by decide +kernel : ∀ t : Fin grid0.N, _)
theorem idx19 : ∀ t : Fin cfg0.N, win0_19.index t = ![0, 0] := (by decide +kernel : ∀ t : Fin grid0.N, _)
theorem idx20 : ∀ t : Fin cfg0.N, win0_20.index t = ![0, 0] := (by decide +kernel : ∀ t : Fin grid0.N, _)
theorem idx21 : ∀ t : Fin cfg0.N, win0_21.index t = ![0, 0] := (by decide +kernel : ∀ t : Fin grid0.N, _)
theorem idx22 : ∀ t : Fin cfg0.N, win0_22.index t = ![0, 0] := (by decide +kernel : ∀ t : Fin grid0.N, _)
theorem idx23 : ∀ t : Fin cfg0.N, win0_23.index t = ![0, 0] := (by decide +kernel : ∀ t : Fin grid0.N, _)
theorem idx24 : ∀ t : Fin cfg0.N, win0_24.index t = ![0, 0] := (by decide +kernel : ∀ t : Fin grid0.N, _)
theorem idx25 : ∀ t : Fin cfg0.N, win0_25.index t = ![0, 0] := (by decide +kernel : ∀ t : Fin grid0.N, _)
theorem idx26 : ∀ t : Fin cfg0.N, win0_26.index t = ![0, 0] := (by decide +kernel : ∀ t : Fin grid0.N, _)
theorem idx27 : ∀ t : Fin cfg0.N, win0_27.index t = ![0, 0] := (by decide +kernel : ∀ t : Fin grid0.N, _)
theorem idx28 : ∀ t : Fin cfg0.N, win0_28.index t = ![0, 0] := (by decide +kernel : ∀ t : Fin grid0.N, _)
theorem idx29 : ∀ t : Fin cfg0.N, win0_29.index t = ![0, 0] := (by decide +kernel : ∀ t : Fin grid0.N, _)
theorem idx30 : ∀ t : Fin cfg0.N, win0_30.index t = ![0, 0] := (by decide +kernel : ∀ t : Fin grid0.N, _)
theorem idx31 : ∀ t : Fin cfg0.N, win0_31.index t = ![0, 0] := (by decide +kernel : ∀ t : Fin grid0.N, _)
theorem idx32 : ∀ t : Fin cfg0.N, win0_32.index t = ![0, 0] := (by decide +kernel : ∀ t : Fin grid0.N, _)
theorem idx33 : ∀ t : Fin cfg0.N, win0_33.index t = ![0, 0] := (by decide +kernel : ∀ t : Fin grid0.N, _)
theorem idx34 : ∀ t : Fin cfg0.N, win0_34.index t = ![0, 0] := (by decide +kernel : ∀ t : Fin grid0.N, _)
theorem idx35 : ∀ t : Fin cfg0.N, win0_35.index t = ![0, 0] := (by decide +kernel : ∀ t : Fin grid0.N, _)
theorem idx36 : ∀ t : Fin cfg0.N, win0_36.index t = ![0, 0] := (by decide +kernel : ∀ t : Fin grid0.N, _)
theorem idx37 : ∀ t : Fin cfg0.N, win0_37.index t = ![0, 0] := (by decide +kernel : ∀ t : Fin grid0.N, _)
theorem idx38 : ∀ t : Fin cfg0.N, win0_38.index t = ![0, 0] := (by decide +kernel : ∀ t : Fin grid0.N, _)
theorem idx39 : ∀ t : Fin cfg0.N, win0_39.index t = ![0, 0] := (by decide +kernel : ∀ t : Fin grid0.N, _)
theorem idx40 : ∀ t : Fin cfg0.N, win0_40.index t = ![0, 0] := (by decide +kernel : ∀ t : Fin grid0.N, _)
theorem idx41 : ∀ t : Fin cfg0.N, win0_41.index t = ![0, 0] := (by decide +kernel : ∀ t : Fin grid0.N, _)
theorem idx42 : ∀ t : Fin cfg0.N, win0_42.index t = ![0, 0] := (by decide +kernel : ∀ t : Fin grid0.N, _)
theorem idx43 : ∀ t : Fin cfg0.N, win0_43.index t = ![0, 0] := (by decide +kernel : ∀ t : Fin grid0.N, _)
theorem idx44 : ∀ t : Fin cfg0.N, win0_44.index t = ![0, 0] := (by decide +kernel : ∀ t : Fin grid0.N, _)
theorem idx45 : ∀ t : Fin cfg0.N, win0_45.index t = ![0, 0] := (by decide +kernel : ∀ t : Fin grid0.N, _)
theorem idx46 : ∀ t : Fin cfg0.N, win0_46.index t = ![0, 0] := (by decide +kernel : ∀ t : Fin grid0.N, _)
theorem idx47 : ∀ t : Fin cfg0.N, win0_47.index t = ![0, 0] := (by decide +kernel : ∀ t : Fin grid0.N, _)
theorem idx48 : ∀ t : Fin cfg0.N, win0_48.index t = ![0, 0] := (by decide +kernel : ∀ t : Fin grid0.N, _)
theorem idx49 : ∀ t : Fin cfg0.N, win0_49.index t = ![0, 0] := (by decide +kernel : ∀ t : Fin grid0.N, _)
theorem idx50 : ∀ t : Fin cfg0.N, win0_50.index t = ![0, 0] := (by decide +kernel : ∀ t : Fin grid0.N, _)
theorem idx51 : ∀ t : Fin cfg0.N, win0_51.index t = ![0, 0] := (by decide +kernel : ∀ t : Fin grid0.N, _)
theorem idx52 : ∀ t : Fin cfg0.N, win0_52.index t = ![0, 0] := (by decide +kernel : ∀ t : Fin grid0.N, _)
theorem idx53 : ∀ t : Fin cfg0.N, win0_53.index t = ![0, 0] := (by decide +kernel : ∀ t : Fin grid0.N, _)
theorem idx54 : ∀ t : Fin cfg0.N, win0_54.index t = ![0, 0] := (by decide +kernel : ∀ t : Fin grid0.N, _)
theorem idx55 : ∀ t : Fin cfg0.N, win0_55.index t = ![0, 0] := (by decide +kernel : ∀ t : Fin grid0.N, _)
theorem idx56 : ∀ t : Fin cfg0.N, win0_56.index t = ![0, 0] := (by decide +kernel : ∀ t : Fin grid0.N, _)
theorem idx57 : ∀ t : Fin cfg0.N, win0_57.index t = ![0, 0] := (by decide +kernel : ∀ t : Fin grid0.N, _)
theorem idx58 : ∀ t : Fin cfg0.N, win0_58.index t = ![0, 0] := (by decide +kernel : ∀ t : Fin grid0.N, _)
theorem idx59 : ∀ t : Fin cfg0.N, win0_59.index t = ![0, 0] := (by decide +kernel : ∀ t : Fin grid0.N, _)

theorem v3_eq : V m c main_v3 = flat (m (c.tc.loc main_arg5)) := by
  unfold V
  after_reads_simp
  rfl

theorem v0_eq : V m c main_v0 = flat (m (c.tc.loc main_arg8)) := by
  unfold V
  after_reads_simp
  rfl

theorem v1_eq : V m c main_v1 = flat (m (c.tc.loc main_arg16)) := by
  unfold V
  after_reads_simp
  rfl

theorem v2_eq : V m c main_v2 = flat (m (c.tc.loc main_arg24)) := by
  unfold V
  after_reads_simp
  rfl

theorem arg0 (t : Fin cfg0.N) : iblk m c 0 t = (m (c.tc.loc main_arg0)) := by
  refine Eq.trans ?_ (V_main_arg0 m c)
  funext y
  simp only [iblk]
  generalize V m c = W
  blk_point [idx0 t]

theorem arg1 (t : Fin cfg0.N) : iblk m c 1 t = (m (c.tc.loc main_arg1)) := by
  refine Eq.trans ?_ (V_main_arg1 m c)
  funext y
  simp only [iblk]
  generalize V m c = W
  blk_point [idx1 t]

theorem arg2 (t : Fin cfg0.N) : iblk m c 2 t = (m (c.tc.loc main_arg2)) := by
  refine Eq.trans ?_ (V_main_arg2 m c)
  funext y
  simp only [iblk]
  generalize V m c = W
  blk_point [idx2 t]

theorem arg3 (t : Fin cfg0.N) : iblk m c 3 t = (m (c.tc.loc main_arg3)) := by
  refine Eq.trans ?_ (V_main_arg3 m c)
  funext y
  simp only [iblk]
  generalize V m c = W
  blk_point [idx3 t]

theorem arg4 (t : Fin cfg0.N) : iblk m c 4 t = (m (c.tc.loc main_arg4)) := by
  refine Eq.trans ?_ (V_main_arg4 m c)
  funext y
  simp only [iblk]
  generalize V m c = W
  blk_point [idx4 t]

theorem arg5 (t : Fin cfg0.N) : iblk m c 5 t = (flat (m (c.tc.loc main_arg5))) := by
  refine Eq.trans ?_ (v3_eq m c)
  funext y
  simp only [iblk]
  generalize V m c = W
  blk_point [idx5 t]

theorem arg6 (t : Fin cfg0.N) : iblk m c 6 t = (m (c.tc.loc main_arg6)) := by
  refine Eq.trans ?_ (V_main_arg6 m c)
  funext y
  simp only [iblk]
  generalize V m c = W
  blk_point [idx6 t]

theorem arg7 (t : Fin cfg0.N) : iblk m c 7 t = (m (c.tc.loc main_arg7)) := by
  refine Eq.trans ?_ (V_main_arg7 m c)
  funext y
  simp only [iblk]
  generalize V m c = W
  blk_point [idx7 t]

theorem arg8 (t : Fin cfg0.N) : iblk m c 8 t = (flat (m (c.tc.loc main_arg8))) := by
  refine Eq.trans ?_ (v0_eq m c)
  funext y
  simp only [iblk]
  generalize V m c = W
  blk_point [idx8 t]

theorem arg9 (t : Fin cfg0.N) : iblk m c 9 t = (m (c.tc.loc main_arg9)) := by
  refine Eq.trans ?_ (V_main_arg9 m c)
  funext y
  simp only [iblk]
  generalize V m c = W
  blk_point [idx9 t]

theorem arg10 (t : Fin cfg0.N) : iblk m c 10 t = (m (c.tc.loc main_arg10)) := by
  refine Eq.trans ?_ (V_main_arg10 m c)
  funext y
  simp only [iblk]
  generalize V m c = W
  blk_point [idx10 t]

theorem arg11 (t : Fin cfg0.N) : iblk m c 11 t = (m (c.tc.loc main_arg11)) := by
  refine Eq.trans ?_ (V_main_arg11 m c)
  funext y
  simp only [iblk]
  generalize V m c = W
  blk_point [idx11 t]

theorem arg12 (t : Fin cfg0.N) : iblk m c 12 t = (m (c.tc.loc main_arg12)) := by
  refine Eq.trans ?_ (V_main_arg12 m c)
  funext y
  simp only [iblk]
  generalize V m c = W
  blk_point [idx12 t]

theorem arg13 (t : Fin cfg0.N) : iblk m c 13 t = (m (c.tc.loc main_arg13)) := by
  refine Eq.trans ?_ (V_main_arg13 m c)
  funext y
  simp only [iblk]
  generalize V m c = W
  blk_point [idx13 t]

theorem arg14 (t : Fin cfg0.N) : iblk m c 14 t = (m (c.tc.loc main_arg14)) := by
  refine Eq.trans ?_ (V_main_arg14 m c)
  funext y
  simp only [iblk]
  generalize V m c = W
  blk_point [idx14 t]

theorem arg15 (t : Fin cfg0.N) : iblk m c 15 t = (m (c.tc.loc main_arg15)) := by
  refine Eq.trans ?_ (V_main_arg15 m c)
  funext y
  simp only [iblk]
  generalize V m c = W
  blk_point [idx15 t]

theorem arg16 (t : Fin cfg0.N) : iblk m c 16 t = (flat (m (c.tc.loc main_arg16))) := by
  refine Eq.trans ?_ (v1_eq m c)
  funext y
  simp only [iblk]
  generalize V m c = W
  blk_point [idx16 t]

theorem arg17 (t : Fin cfg0.N) : iblk m c 17 t = (m (c.tc.loc main_arg17)) := by
  refine Eq.trans ?_ (V_main_arg17 m c)
  funext y
  simp only [iblk]
  generalize V m c = W
  blk_point [idx17 t]

theorem arg18 (t : Fin cfg0.N) : iblk m c 18 t = (m (c.tc.loc main_arg18)) := by
  refine Eq.trans ?_ (V_main_arg18 m c)
  funext y
  simp only [iblk]
  generalize V m c = W
  blk_point [idx18 t]

theorem arg19 (t : Fin cfg0.N) : iblk m c 19 t = (m (c.tc.loc main_arg19)) := by
  refine Eq.trans ?_ (V_main_arg19 m c)
  funext y
  simp only [iblk]
  generalize V m c = W
  blk_point [idx19 t]

theorem arg20 (t : Fin cfg0.N) : iblk m c 20 t = (m (c.tc.loc main_arg20)) := by
  refine Eq.trans ?_ (V_main_arg20 m c)
  funext y
  simp only [iblk]
  generalize V m c = W
  blk_point [idx20 t]

theorem arg21 (t : Fin cfg0.N) : iblk m c 21 t = (m (c.tc.loc main_arg21)) := by
  refine Eq.trans ?_ (V_main_arg21 m c)
  funext y
  simp only [iblk]
  generalize V m c = W
  blk_point [idx21 t]

theorem arg22 (t : Fin cfg0.N) : iblk m c 22 t = (m (c.tc.loc main_arg22)) := by
  refine Eq.trans ?_ (V_main_arg22 m c)
  funext y
  simp only [iblk]
  generalize V m c = W
  blk_point [idx22 t]

theorem arg23 (t : Fin cfg0.N) : iblk m c 23 t = (m (c.tc.loc main_arg23)) := by
  refine Eq.trans ?_ (V_main_arg23 m c)
  funext y
  simp only [iblk]
  generalize V m c = W
  blk_point [idx23 t]

theorem arg24 (t : Fin cfg0.N) : iblk m c 24 t = (flat (m (c.tc.loc main_arg24))) := by
  refine Eq.trans ?_ (v2_eq m c)
  funext y
  simp only [iblk]
  generalize V m c = W
  blk_point [idx24 t]

theorem arg25 (t : Fin cfg0.N) : iblk m c 25 t = (m (c.tc.loc main_arg25)) := by
  refine Eq.trans ?_ (V_main_arg25 m c)
  funext y
  simp only [iblk]
  generalize V m c = W
  blk_point [idx25 t]

theorem arg26 (t : Fin cfg0.N) : iblk m c 26 t = (m (c.tc.loc main_arg26)) := by
  refine Eq.trans ?_ (V_main_arg26 m c)
  funext y
  simp only [iblk]
  generalize V m c = W
  blk_point [idx26 t]

theorem arg27 (t : Fin cfg0.N) : iblk m c 27 t = (m (c.tc.loc main_arg27)) := by
  refine Eq.trans ?_ (V_main_arg27 m c)
  funext y
  simp only [iblk]
  generalize V m c = W
  blk_point [idx27 t]

theorem arg28 (t : Fin cfg0.N) : iblk m c 28 t = (m (c.tc.loc main_arg28)) := by
  refine Eq.trans ?_ (V_main_arg28 m c)
  funext y
  simp only [iblk]
  generalize V m c = W
  blk_point [idx28 t]

theorem arg29 (t : Fin cfg0.N) : iblk m c 29 t = (m (c.tc.loc main_arg29)) := by
  refine Eq.trans ?_ (V_main_arg29 m c)
  funext y
  simp only [iblk]
  generalize V m c = W
  blk_point [idx29 t]

theorem emb30 (t : Fin cfg0.N) (y : ((cfg0.win 30).block).Idx) : ((cfg0.win 30).blk t).view.emb y = y := by
  funext a
  apply Fin.ext
  fin_cases a <;> blk_simp [idx30 t]

theorem emb31 (t : Fin cfg0.N) (y : ((cfg0.win 31).block).Idx) : ((cfg0.win 31).blk t).view.emb y = y := by
  funext a
  apply Fin.ext
  fin_cases a <;> blk_simp [idx31 t]

theorem emb32 (t : Fin cfg0.N) (y : ((cfg0.win 32).block).Idx) : ((cfg0.win 32).blk t).view.emb y = y := by
  funext a
  apply Fin.ext
  fin_cases a <;> blk_simp [idx32 t]

theorem emb33 (t : Fin cfg0.N) (y : ((cfg0.win 33).block).Idx) : ((cfg0.win 33).blk t).view.emb y = y := by
  funext a
  apply Fin.ext
  fin_cases a <;> blk_simp [idx33 t]

theorem emb34 (t : Fin cfg0.N) (y : ((cfg0.win 34).block).Idx) : ((cfg0.win 34).blk t).view.emb y = y := by
  funext a
  apply Fin.ext
  fin_cases a <;> blk_simp [idx34 t]

theorem emb35 (t : Fin cfg0.N) (y : ((cfg0.win 35).block).Idx) : ((cfg0.win 35).blk t).view.emb y = y := by
  funext a
  apply Fin.ext
  fin_cases a <;> blk_simp [idx35 t]

theorem emb36 (t : Fin cfg0.N) (y : ((cfg0.win 36).block).Idx) : ((cfg0.win 36).blk t).view.emb y = y := by
  funext a
  apply Fin.ext
  fin_cases a <;> blk_simp [idx36 t]

theorem emb37 (t : Fin cfg0.N) (y : ((cfg0.win 37).block).Idx) : ((cfg0.win 37).blk t).view.emb y = y := by
  funext a
  apply Fin.ext
  fin_cases a <;> blk_simp [idx37 t]

theorem emb38 (t : Fin cfg0.N) (y : ((cfg0.win 38).block).Idx) : ((cfg0.win 38).blk t).view.emb y = y := by
  funext a
  apply Fin.ext
  fin_cases a <;> blk_simp [idx38 t]

theorem emb39 (t : Fin cfg0.N) (y : ((cfg0.win 39).block).Idx) : ((cfg0.win 39).blk t).view.emb y = y := by
  funext a
  apply Fin.ext
  fin_cases a <;> blk_simp [idx39 t]

theorem emb40 (t : Fin cfg0.N) (y : ((cfg0.win 40).block).Idx) : ((cfg0.win 40).blk t).view.emb y = y := by
  funext a
  apply Fin.ext
  fin_cases a <;> blk_simp [idx40 t]

theorem emb41 (t : Fin cfg0.N) (y : ((cfg0.win 41).block).Idx) : ((cfg0.win 41).blk t).view.emb y = y := by
  funext a
  apply Fin.ext
  fin_cases a <;> blk_simp [idx41 t]

theorem emb42 (t : Fin cfg0.N) (y : ((cfg0.win 42).block).Idx) : ((cfg0.win 42).blk t).view.emb y = y := by
  funext a
  apply Fin.ext
  fin_cases a <;> blk_simp [idx42 t]

theorem emb43 (t : Fin cfg0.N) (y : ((cfg0.win 43).block).Idx) : ((cfg0.win 43).blk t).view.emb y = y := by
  funext a
  apply Fin.ext
  fin_cases a <;> blk_simp [idx43 t]

theorem emb44 (t : Fin cfg0.N) (y : ((cfg0.win 44).block).Idx) : ((cfg0.win 44).blk t).view.emb y = y := by
  funext a
  apply Fin.ext
  fin_cases a <;> blk_simp [idx44 t]

theorem emb45 (t : Fin cfg0.N) (y : ((cfg0.win 45).block).Idx) : ((cfg0.win 45).blk t).view.emb y = y := by
  funext a
  apply Fin.ext
  fin_cases a <;> blk_simp [idx45 t]

theorem emb46 (t : Fin cfg0.N) (y : ((cfg0.win 46).block).Idx) : ((cfg0.win 46).blk t).view.emb y = y := by
  funext a
  apply Fin.ext
  fin_cases a <;> blk_simp [idx46 t]

theorem emb47 (t : Fin cfg0.N) (y : ((cfg0.win 47).block).Idx) : ((cfg0.win 47).blk t).view.emb y = y := by
  funext a
  apply Fin.ext
  fin_cases a <;> blk_simp [idx47 t]

theorem emb48 (t : Fin cfg0.N) (y : ((cfg0.win 48).block).Idx) : ((cfg0.win 48).blk t).view.emb y = y := by
  funext a
  apply Fin.ext
  fin_cases a <;> blk_simp [idx48 t]

theorem emb49 (t : Fin cfg0.N) (y : ((cfg0.win 49).block).Idx) : ((cfg0.win 49).blk t).view.emb y = y := by
  funext a
  apply Fin.ext
  fin_cases a <;> blk_simp [idx49 t]

theorem emb50 (t : Fin cfg0.N) (y : ((cfg0.win 50).block).Idx) : ((cfg0.win 50).blk t).view.emb y = y := by
  funext a
  apply Fin.ext
  fin_cases a <;> blk_simp [idx50 t]

theorem emb51 (t : Fin cfg0.N) (y : ((cfg0.win 51).block).Idx) : ((cfg0.win 51).blk t).view.emb y = y := by
  funext a
  apply Fin.ext
  fin_cases a <;> blk_simp [idx51 t]

theorem emb52 (t : Fin cfg0.N) (y : ((cfg0.win 52).block).Idx) : ((cfg0.win 52).blk t).view.emb y = y := by
  funext a
  apply Fin.ext
  fin_cases a <;> blk_simp [idx52 t]

theorem emb53 (t : Fin cfg0.N) (y : ((cfg0.win 53).block).Idx) : ((cfg0.win 53).blk t).view.emb y = y := by
  funext a
  apply Fin.ext
  fin_cases a <;> blk_simp [idx53 t]

theorem emb54 (t : Fin cfg0.N) (y : ((cfg0.win 54).block).Idx) : ((cfg0.win 54).blk t).view.emb y = y := by
  funext a
  apply Fin.ext
  fin_cases a <;> blk_simp [idx54 t]

theorem emb55 (t : Fin cfg0.N) (y : ((cfg0.win 55).block).Idx) : ((cfg0.win 55).blk t).view.emb y = y := by
  funext a
  apply Fin.ext
  fin_cases a <;> blk_simp [idx55 t]

theorem emb56 (t : Fin cfg0.N) (y : ((cfg0.win 56).block).Idx) : ((cfg0.win 56).blk t).view.emb y = y := by
  funext a
  apply Fin.ext
  fin_cases a <;> blk_simp [idx56 t]

theorem emb57 (t : Fin cfg0.N) (y : ((cfg0.win 57).block).Idx) : ((cfg0.win 57).blk t).view.emb y = y := by
  funext a
  apply Fin.ext
  fin_cases a <;> blk_simp [idx57 t]

theorem emb58 (t : Fin cfg0.N) (y : ((cfg0.win 58).block).Idx) : ((cfg0.win 58).blk t).view.emb y = y := by
  funext a
  apply Fin.ext
  fin_cases a <;> blk_simp [idx58 t]

theorem emb59 (t : Fin cfg0.N) (y : ((cfg0.win 59).block).Idx) : ((cfg0.win 59).blk t).view.emb y = y := by
  funext a
  apply Fin.ext
  fin_cases a <;> blk_simp [idx59 t]

end Cert.Kernel6Ideal.Hand

end
-- ==== Proof.SmallBlocks.lean ====
module

public import proofs.«01_k».proof.Proof.SmallFrame
public import proofs.«01_k».proof.Proof.SmallOperands

@[expose] public section

set_option maxRecDepth 16384

/-! Each array the small weights' step leaves, in terms of the arguments. -/

noncomputable section

namespace Cert.Kernel6Ideal.Hand

open Cert.Kernel6Ideal Cert.Kernel6Ideal.Gen
open Idealize.ShloMosaic Idealize.ShloMosaic.TcCoe

variable (m : (ℓ : Loc nD τ sig) → Buf (Elt Ideal) ℓ) (c : Dev nD)

set_option maxHeartbeats 2000000 in
theorem out30 : (dats m 0 c).arrAt 30 cfg0.N = res30 (F := Ideal) (m (c.tc.loc main_arg0)) (m (c.tc.loc main_arg3)) := by
  refine (dats m 0 c).arrAt_eq_of_covers 30 _ (by decide +kernel) fun t hf y => ?_
  rw [dats_after]
  show res30 (F := Ideal) (iblk m c 0 t) (iblk m c 3 t) y = _
  rw [arg0, arg3]
  exact congrArg (res30 (F := Ideal) (m (c.tc.loc main_arg0)) (m (c.tc.loc main_arg3))) (emb30 t y).symm

theorem out31 : (dats m 0 c).arrAt 31 cfg0.N = res31 (F := Ideal) (m (c.tc.loc main_arg3)) := by
  refine (dats m 0 c).arrAt_eq_of_covers 31 _ (by decide +kernel) fun t hf y => ?_
  rw [dats_after]
  show res31 (F := Ideal) (iblk m c 3 t) y = _
  rw [arg3]
  exact congrArg (res31 (F := Ideal) (m (c.tc.loc main_arg3))) (emb31 t y).symm

theorem out32 : (dats m 0 c).arrAt 32 cfg0.N = res32 (F := Ideal) (m (c.tc.loc main_arg1)) := by
  refine (dats m 0 c).arrAt_eq_of_covers 32 _ (by decide +kernel) fun t hf y => ?_
  rw [dats_after]
  show res32 (F := Ideal) (iblk m c 1 t) y = _
  rw [arg1]
  exact congrArg (res32 (F := Ideal) (m (c.tc.loc main_arg1))) (emb32 t y).symm

theorem out33 : (dats m 0 c).arrAt 33 cfg0.N = res33 (F := Ideal) (m (c.tc.loc main_arg1)) := by
  refine (dats m 0 c).arrAt_eq_of_covers 33 _ (by decide +kernel) fun t hf y => ?_
  rw [dats_after]
  show res33 (F := Ideal) (iblk m c 1 t) y = _
  rw [arg1]
  exact congrArg (res33 (F := Ideal) (m (c.tc.loc main_arg1))) (emb33 t y).symm

theorem out34 : (dats m 0 c).arrAt 34 cfg0.N = res34 (F := Ideal) (m (c.tc.loc main_arg2)) := by
  refine (dats m 0 c).arrAt_eq_of_covers 34 _ (by decide +kernel) fun t hf y => ?_
  rw [dats_after]
  show res34 (F := Ideal) (iblk m c 2 t) y = _
  rw [arg2]
  exact congrArg (res34 (F := Ideal) (m (c.tc.loc main_arg2))) (emb34 t y).symm

theorem out35 : (dats m 0 c).arrAt 35 cfg0.N = res35 (F := Ideal) (m (c.tc.loc main_arg2)) := by
  refine (dats m 0 c).arrAt_eq_of_covers 35 _ (by decide +kernel) fun t hf y => ?_
  rw [dats_after]
  show res35 (F := Ideal) (iblk m c 2 t) y = _
  rw [arg2]
  exact congrArg (res35 (F := Ideal) (m (c.tc.loc main_arg2))) (emb35 t y).symm

theorem out36 : (dats m 0 c).arrAt 36 cfg0.N = res36 (F := Ideal) (m (c.tc.loc main_arg4)) (m (c.tc.loc main_arg6)) (m (c.tc.loc main_arg14)) (m (c.tc.loc main_arg22)) := by
  refine (dats m 0 c).arrAt_eq_of_covers 36 _ (by decide +kernel) fun t hf y => ?_
  rw [dats_after]
  show res36 (F := Ideal) (iblk m c 4 t) (iblk m c 6 t) (iblk m c 14 t) (iblk m c 22 t) y = _
  rw [arg4, arg6, arg14, arg22]
  exact congrArg (res36 (F := Ideal) (m (c.tc.loc main_arg4)) (m (c.tc.loc main_arg6)) (m (c.tc.loc main_arg14)) (m (c.tc.loc main_arg22))) (emb36 t y).symm

theorem out37 : (dats m 0 c).arrAt 37 cfg0.N = res37 (F := Ideal) (m (c.tc.loc main_arg0)) (m (c.tc.loc main_arg3)) (m (c.tc.loc main_arg7)) (m (c.tc.loc main_arg15)) (m (c.tc.loc main_arg23)) := by
  refine (dats m 0 c).arrAt_eq_of_covers 37 _ (by decide +kernel) fun t hf y => ?_
  rw [dats_after]
  show res37 (F := Ideal) (iblk m c 0 t) (iblk m c 3 t) (iblk m c 7 t) (iblk m c 15 t) (iblk m c 23 t) y = _
  rw [arg0, arg3, arg7, arg15, arg23]
  exact congrArg (res37 (F := Ideal) (m (c.tc.loc main_arg0)) (m (c.tc.loc main_arg3)) (m (c.tc.loc main_arg7)) (m (c.tc.loc main_arg15)) (m (c.tc.loc main_arg23))) (emb37 t y).symm

theorem out38 : (dats m 0 c).arrAt 38 cfg0.N = res38 (F := Ideal) (flat (m (c.tc.loc main_arg5))) (flat (m (c.tc.loc main_arg8))) (flat (m (c.tc.loc main_arg16))) (flat (m (c.tc.loc main_arg24))) := by
  refine (dats m 0 c).arrAt_eq_of_covers 38 _ (by decide +kernel) fun t hf y => ?_
  rw [dats_after]
  show res38 (F := Ideal) (iblk m c 5 t) (iblk m c 8 t) (iblk m c 16 t) (iblk m c 24 t) y = _
  rw [arg5, arg8, arg16, arg24]
  exact congrArg (res38 (F := Ideal) (flat (m (c.tc.loc main_arg5))) (flat (m (c.tc.loc main_arg8))) (flat (m (c.tc.loc main_arg16))) (flat (m (c.tc.loc main_arg24)))) (emb38 t y).symm

theorem out39 : (dats m 0 c).arrAt 39 cfg0.N = res39 (F := Ideal) (m (c.tc.loc main_arg3)) (m (c.tc.loc main_arg9)) (m (c.tc.loc main_arg17)) (m (c.tc.loc main_arg25)) := by
  refine (dats m 0 c).arrAt_eq_of_covers 39 _ (by decide +kernel) fun t hf y => ?_
  rw [dats_after]
  show res39 (F := Ideal) (iblk m c 3 t) (iblk m c 9 t) (iblk m c 17 t) (iblk m c 25 t) y = _
  rw [arg3, arg9, arg17, arg25]
  exact congrArg (res39 (F := Ideal) (m (c.tc.loc main_arg3)) (m (c.tc.loc main_arg9)) (m (c.tc.loc main_arg17)) (m (c.tc.loc main_arg25))) (emb39 t y).symm

theorem out40 : (dats m 0 c).arrAt 40 cfg0.N = res40 (F := Ideal) (m (c.tc.loc main_arg1)) (m (c.tc.loc main_arg10)) (m (c.tc.loc main_arg18)) (m (c.tc.loc main_arg26)) := by
  refine (dats m 0 c).arrAt_eq_of_covers 40 _ (by decide +kernel) fun t hf y => ?_
  rw [dats_after]
  show res40 (F := Ideal) (iblk m c 1 t) (iblk m c 10 t) (iblk m c 18 t) (iblk m c 26 t) y = _
  rw [arg1, arg10, arg18, arg26]
  exact congrArg (res40 (F := Ideal) (m (c.tc.loc main_arg1)) (m (c.tc.loc main_arg10)) (m (c.tc.loc main_arg18)) (m (c.tc.loc main_arg26))) (emb40 t y).symm

theorem out41 : (dats m 0 c).arrAt 41 cfg0.N = res41 (F := Ideal) (m (c.tc.loc main_arg1)) (m (c.tc.loc main_arg11)) (m (c.tc.loc main_arg19)) (m (c.tc.loc main_arg27)) := by
  refine (dats m 0 c).arrAt_eq_of_covers 41 _ (by decide +kernel) fun t hf y => ?_
  rw [dats_after]
  show res41 (F := Ideal) (iblk m c 1 t) (iblk m c 11 t) (iblk m c 19 t) (iblk m c 27 t) y = _
  rw [arg1, arg11, arg19, arg27]
  exact congrArg (res41 (F := Ideal) (m (c.tc.loc main_arg1)) (m (c.tc.loc main_arg11)) (m (c.tc.loc main_arg19)) (m (c.tc.loc main_arg27))) (emb41 t y).symm

theorem out42 : (dats m 0 c).arrAt 42 cfg0.N = res42 (F := Ideal) (m (c.tc.loc main_arg2)) (m (c.tc.loc main_arg12)) (m (c.tc.loc main_arg20)) (m (c.tc.loc main_arg28)) := by
  refine (dats m 0 c).arrAt_eq_of_covers 42 _ (by decide +kernel) fun t hf y => ?_
  rw [dats_after]
  show res42 (F := Ideal) (iblk m c 2 t) (iblk m c 12 t) (iblk m c 20 t) (iblk m c 28 t) y = _
  rw [arg2, arg12, arg20, arg28]
  exact congrArg (res42 (F := Ideal) (m (c.tc.loc main_arg2)) (m (c.tc.loc main_arg12)) (m (c.tc.loc main_arg20)) (m (c.tc.loc main_arg28))) (emb42 t y).symm

theorem out43 : (dats m 0 c).arrAt 43 cfg0.N = res43 (F := Ideal) (m (c.tc.loc main_arg2)) (m (c.tc.loc main_arg13)) (m (c.tc.loc main_arg21)) (m (c.tc.loc main_arg29)) := by
  refine (dats m 0 c).arrAt_eq_of_covers 43 _ (by decide +kernel) fun t hf y => ?_
  rw [dats_after]
  show res43 (F := Ideal) (iblk m c 2 t) (iblk m c 13 t) (iblk m c 21 t) (iblk m c 29 t) y = _
  rw [arg2, arg13, arg21, arg29]
  exact congrArg (res43 (F := Ideal) (m (c.tc.loc main_arg2)) (m (c.tc.loc main_arg13)) (m (c.tc.loc main_arg21)) (m (c.tc.loc main_arg29))) (emb43 t y).symm

theorem out44 : (dats m 0 c).arrAt 44 cfg0.N = res44 (F := Ideal) (m (c.tc.loc main_arg4)) (m (c.tc.loc main_arg14)) := by
  refine (dats m 0 c).arrAt_eq_of_covers 44 _ (by decide +kernel) fun t hf y => ?_
  rw [dats_after]
  show res44 (F := Ideal) (iblk m c 4 t) (iblk m c 14 t) y = _
  rw [arg4, arg14]
  exact congrArg (res44 (F := Ideal) (m (c.tc.loc main_arg4)) (m (c.tc.loc main_arg14))) (emb44 t y).symm

theorem out45 : (dats m 0 c).arrAt 45 cfg0.N = res45 (F := Ideal) (m (c.tc.loc main_arg0)) (m (c.tc.loc main_arg3)) (m (c.tc.loc main_arg15)) := by
  refine (dats m 0 c).arrAt_eq_of_covers 45 _ (by decide +kernel) fun t hf y => ?_
  rw [dats_after]
  show res45 (F := Ideal) (iblk m c 0 t) (iblk m c 3 t) (iblk m c 15 t) y = _
  rw [arg0, arg3, arg15]
  exact congrArg (res45 (F := Ideal) (m (c.tc.loc main_arg0)) (m (c.tc.loc main_arg3)) (m (c.tc.loc main_arg15))) (emb45 t y).symm

theorem out46 : (dats m 0 c).arrAt 46 cfg0.N = res46 (F := Ideal) (flat (m (c.tc.loc main_arg5))) (flat (m (c.tc.loc main_arg16))) := by
  refine (dats m 0 c).arrAt_eq_of_covers 46 _ (by decide +kernel) fun t hf y => ?_
  rw [dats_after]
  show res46 (F := Ideal) (iblk m c 5 t) (iblk m c 16 t) y = _
  rw [arg5, arg16]
  exact congrArg (res46 (F := Ideal) (flat (m (c.tc.loc main_arg5))) (flat (m (c.tc.loc main_arg16)))) (emb46 t y).symm

theorem out47 : (dats m 0 c).arrAt 47 cfg0.N = res47 (F := Ideal) (m (c.tc.loc main_arg3)) (m (c.tc.loc main_arg17)) := by
  refine (dats m 0 c).arrAt_eq_of_covers 47 _ (by decide +kernel) fun t hf y => ?_
  rw [dats_after]
  show res47 (F := Ideal) (iblk m c 3 t) (iblk m c 17 t) y = _
  rw [arg3, arg17]
  exact congrArg (res47 (F := Ideal) (m (c.tc.loc main_arg3)) (m (c.tc.loc main_arg17))) (emb47 t y).symm

theorem out48 : (dats m 0 c).arrAt 48 cfg0.N = res48 (F := Ideal) (m (c.tc.loc main_arg1)) (m (c.tc.loc main_arg18)) := by
  refine (dats m 0 c).arrAt_eq_of_covers 48 _ (by decide +kernel) fun t hf y => ?_
  rw [dats_after]
  show res48 (F := Ideal) (iblk m c 1 t) (iblk m c 18 t) y = _
  rw [arg1, arg18]
  exact congrArg (res48 (F := Ideal) (m (c.tc.loc main_arg1)) (m (c.tc.loc main_arg18))) (emb48 t y).symm

theorem out49 : (dats m 0 c).arrAt 49 cfg0.N = res49 (F := Ideal) (m (c.tc.loc main_arg1)) (m (c.tc.loc main_arg19)) := by
  refine (dats m 0 c).arrAt_eq_of_covers 49 _ (by decide +kernel) fun t hf y => ?_
  rw [dats_after]
  show res49 (F := Ideal) (iblk m c 1 t) (iblk m c 19 t) y = _
  rw [arg1, arg19]
  exact congrArg (res49 (F := Ideal) (m (c.tc.loc main_arg1)) (m (c.tc.loc main_arg19))) (emb49 t y).symm

theorem out50 : (dats m 0 c).arrAt 50 cfg0.N = res50 (F := Ideal) (m (c.tc.loc main_arg2)) (m (c.tc.loc main_arg20)) := by
  refine (dats m 0 c).arrAt_eq_of_covers 50 _ (by decide +kernel) fun t hf y => ?_
  rw [dats_after]
  show res50 (F := Ideal) (iblk m c 2 t) (iblk m c 20 t) y = _
  rw [arg2, arg20]
  exact congrArg (res50 (F := Ideal) (m (c.tc.loc main_arg2)) (m (c.tc.loc main_arg20))) (emb50 t y).symm

theorem out51 : (dats m 0 c).arrAt 51 cfg0.N = res51 (F := Ideal) (m (c.tc.loc main_arg2)) (m (c.tc.loc main_arg21)) := by
  refine (dats m 0 c).arrAt_eq_of_covers 51 _ (by decide +kernel) fun t hf y => ?_
  rw [dats_after]
  show res51 (F := Ideal) (iblk m c 2 t) (iblk m c 21 t) y = _
  rw [arg2, arg21]
  exact congrArg (res51 (F := Ideal) (m (c.tc.loc main_arg2)) (m (c.tc.loc main_arg21))) (emb51 t y).symm

theorem out52 : (dats m 0 c).arrAt 52 cfg0.N = res52 (F := Ideal) (m (c.tc.loc main_arg4)) (m (c.tc.loc main_arg22)) := by
  refine (dats m 0 c).arrAt_eq_of_covers 52 _ (by decide +kernel) fun t hf y => ?_
  rw [dats_after]
  show res52 (F := Ideal) (iblk m c 4 t) (iblk m c 22 t) y = _
  rw [arg4, arg22]
  exact congrArg (res52 (F := Ideal) (m (c.tc.loc main_arg4)) (m (c.tc.loc main_arg22))) (emb52 t y).symm

theorem out53 : (dats m 0 c).arrAt 53 cfg0.N = res53 (F := Ideal) (m (c.tc.loc main_arg0)) (m (c.tc.loc main_arg3)) (m (c.tc.loc main_arg23)) := by
  refine (dats m 0 c).arrAt_eq_of_covers 53 _ (by decide +kernel) fun t hf y => ?_
  rw [dats_after]
  show res53 (F := Ideal) (iblk m c 0 t) (iblk m c 3 t) (iblk m c 23 t) y = _
  rw [arg0, arg3, arg23]
  exact congrArg (res53 (F := Ideal) (m (c.tc.loc main_arg0)) (m (c.tc.loc main_arg3)) (m (c.tc.loc main_arg23))) (emb53 t y).symm

theorem out54 : (dats m 0 c).arrAt 54 cfg0.N = res54 (F := Ideal) (flat (m (c.tc.loc main_arg5))) (flat (m (c.tc.loc main_arg24))) := by
  refine (dats m 0 c).arrAt_eq_of_covers 54 _ (by decide +kernel) fun t hf y => ?_
  rw [dats_after]
  show res54 (F := Ideal) (iblk m c 5 t) (iblk m c 24 t) y = _
  rw [arg5, arg24]
  exact congrArg (res54 (F := Ideal) (flat (m (c.tc.loc main_arg5))) (flat (m (c.tc.loc main_arg24)))) (emb54 t y).symm

theorem out55 : (dats m 0 c).arrAt 55 cfg0.N = res55 (F := Ideal) (m (c.tc.loc main_arg3)) (m (c.tc.loc main_arg25)) := by
  refine (dats m 0 c).arrAt_eq_of_covers 55 _ (by decide +kernel) fun t hf y => ?_
  rw [dats_after]
  show res55 (F := Ideal) (iblk m c 3 t) (iblk m c 25 t) y = _
  rw [arg3, arg25]
  exact congrArg (res55 (F := Ideal) (m (c.tc.loc main_arg3)) (m (c.tc.loc main_arg25))) (emb55 t y).symm

theorem out56 : (dats m 0 c).arrAt 56 cfg0.N = res56 (F := Ideal) (m (c.tc.loc main_arg1)) (m (c.tc.loc main_arg26)) := by
  refine (dats m 0 c).arrAt_eq_of_covers 56 _ (by decide +kernel) fun t hf y => ?_
  rw [dats_after]
  show res56 (F := Ideal) (iblk m c 1 t) (iblk m c 26 t) y = _
  rw [arg1, arg26]
  exact congrArg (res56 (F := Ideal) (m (c.tc.loc main_arg1)) (m (c.tc.loc main_arg26))) (emb56 t y).symm

theorem out57 : (dats m 0 c).arrAt 57 cfg0.N = res57 (F := Ideal) (m (c.tc.loc main_arg1)) (m (c.tc.loc main_arg27)) := by
  refine (dats m 0 c).arrAt_eq_of_covers 57 _ (by decide +kernel) fun t hf y => ?_
  rw [dats_after]
  show res57 (F := Ideal) (iblk m c 1 t) (iblk m c 27 t) y = _
  rw [arg1, arg27]
  exact congrArg (res57 (F := Ideal) (m (c.tc.loc main_arg1)) (m (c.tc.loc main_arg27))) (emb57 t y).symm

theorem out58 : (dats m 0 c).arrAt 58 cfg0.N = res58 (F := Ideal) (m (c.tc.loc main_arg2)) (m (c.tc.loc main_arg28)) := by
  refine (dats m 0 c).arrAt_eq_of_covers 58 _ (by decide +kernel) fun t hf y => ?_
  rw [dats_after]
  show res58 (F := Ideal) (iblk m c 2 t) (iblk m c 28 t) y = _
  rw [arg2, arg28]
  exact congrArg (res58 (F := Ideal) (m (c.tc.loc main_arg2)) (m (c.tc.loc main_arg28))) (emb58 t y).symm

theorem out59 : (dats m 0 c).arrAt 59 cfg0.N = res59 (F := Ideal) (m (c.tc.loc main_arg2)) (m (c.tc.loc main_arg29)) := by
  refine (dats m 0 c).arrAt_eq_of_covers 59 _ (by decide +kernel) fun t hf y => ?_
  rw [dats_after]
  show res59 (F := Ideal) (iblk m c 2 t) (iblk m c 29 t) y = _
  rw [arg2, arg29]
  exact congrArg (res59 (F := Ideal) (m (c.tc.loc main_arg2)) (m (c.tc.loc main_arg29))) (emb59 t y).symm

end Cert.Kernel6Ideal.Hand

end
-- ==== Proof.SmallAlgebraic.lean ====
/- The small weights' step: from memories that agree on the arguments, and a chip's number among the four, the kernel and
   the reference end with equal results. -/
module

public import proofs.«01_k».proof.Defs
public import proofs.«01_k».proof.Proof.SmallBlocks
public import proofs.«01_k».proof.Proof.Gen.Reference6Ideal.Run
public import proofs.«01_k».proof.Proof.Gen.Pre_chip_exists
public import Idealize.ShloMosaic.Adequacy
public import Idealize.ShloMosaic.Init

@[expose] public section

set_option maxRecDepth 16384

noncomputable section

namespace Cert.Algebraic6

open Idealize.ShloMosaic Idealize.ShloMosaic.TcCoe Idealize.SL.Sem Cert.Kernel6Ideal Cert.Kernel6Ideal.Gen Cert.Kernel6Ideal.Hand

attribute [local instance] Cert.Reference6Ideal.Gen.facts Cert.Pre_chip_exists.Gen.facts

variable (m : (ℓ : Loc nD τ sig) → Buf (Elt Ideal) ℓ) (c : Dev nD)

/-- The chip's number, the second word of the first argument, is one of four. -/
abbrev Four : Prop := word (F := Ideal) (m (c.tc.loc Cert.Kernel6Ideal.main_arg0)) = 0#32 ∨ word (F := Ideal) (m (c.tc.loc Cert.Kernel6Ideal.main_arg0)) = 1#32
  ∨ word (F := Ideal) (m (c.tc.loc Cert.Kernel6Ideal.main_arg0)) = 2#32 ∨ word (F := Ideal) (m (c.tc.loc Cert.Kernel6Ideal.main_arg0)) = 3#32

theorem four_of_pre (h : Cert.Pre_Kernel6Ideal_chip_exists m) : Four m c := by
  refine four _ ?_
  have h' : IntOp.andi (IntOp.cmpi .sge (Cert.Reference6Ideal.Read.val_main_v2 (F := Ideal) (m (c.tc.loc Cert.Kernel6Ideal.main_arg0)) (fun a => a.elim0)) 0#32)
      (IntOp.cmpi .slt (Cert.Reference6Ideal.Read.val_main_v2 (F := Ideal) (m (c.tc.loc Cert.Kernel6Ideal.main_arg0)) (fun a => a.elim0)) 4#32) = 1#1 := congrFun (h c) (fun a => a.elim0)
  rw [ref_word] at h'
  exact h'

theorem fin30 (h : Four m c) : (dats m 0 c).arrAt 30 cfg0.N = Cert.Reference6Ideal.Read.val_main_v7 (F := Ideal) (m (c.tc.loc Cert.Kernel6Ideal.main_arg0)) (m (c.tc.loc Cert.Kernel6Ideal.main_arg3)) :=
  (out30 m c).trans (eq30 _ _ h)

theorem fin31 : (dats m 0 c).arrAt 31 cfg0.N = Cert.Reference6Ideal.Read.val_main_v8 (F := Ideal) (m (c.tc.loc Cert.Kernel6Ideal.main_arg3)) :=
  (out31 m c).trans (eq31 _)

theorem fin32 : (dats m 0 c).arrAt 32 cfg0.N = Cert.Reference6Ideal.Read.val_main_v9 (F := Ideal) (m (c.tc.loc Cert.Kernel6Ideal.main_arg1)) :=
  (out32 m c).trans (eq32 _)

theorem fin33 : (dats m 0 c).arrAt 33 cfg0.N = Cert.Reference6Ideal.Read.val_main_v10 (F := Ideal) (m (c.tc.loc Cert.Kernel6Ideal.main_arg1)) :=
  (out33 m c).trans (eq33 _)

theorem fin34 : (dats m 0 c).arrAt 34 cfg0.N = Cert.Reference6Ideal.Read.val_main_v11 (F := Ideal) (m (c.tc.loc Cert.Kernel6Ideal.main_arg2)) :=
  (out34 m c).trans (eq34 _)

theorem fin35 : (dats m 0 c).arrAt 35 cfg0.N = Cert.Reference6Ideal.Read.val_main_v12 (F := Ideal) (m (c.tc.loc Cert.Kernel6Ideal.main_arg2)) :=
  (out35 m c).trans (eq35 _)

theorem fin36 : (dats m 0 c).arrAt 36 cfg0.N = Cert.Reference6Ideal.Read.val_main_v36 (F := Ideal) (m (c.tc.loc Cert.Kernel6Ideal.main_arg4)) (m (c.tc.loc Cert.Kernel6Ideal.main_arg6)) (m (c.tc.loc Cert.Kernel6Ideal.main_arg14)) (m (c.tc.loc Cert.Kernel6Ideal.main_arg22)) :=
  (out36 m c).trans (eq36 _ _ _ _)

theorem fin37 (h : Four m c) : (dats m 0 c).arrAt 37 cfg0.N = Cert.Reference6Ideal.Read.val_main_v60 (F := Ideal) (m (c.tc.loc Cert.Kernel6Ideal.main_arg0)) (m (c.tc.loc Cert.Kernel6Ideal.main_arg3)) (m (c.tc.loc Cert.Kernel6Ideal.main_arg7)) (m (c.tc.loc Cert.Kernel6Ideal.main_arg15)) (m (c.tc.loc Cert.Kernel6Ideal.main_arg23)) :=
  (out37 m c).trans (eq37 _ _ _ _ _ (eq30 _ _ h))

theorem fin38 : (dats m 0 c).arrAt 38 cfg0.N = Cert.Reference6Ideal.Read.val_main_v205 (F := Ideal) (m (c.tc.loc Cert.Kernel6Ideal.main_arg5)) (m (c.tc.loc Cert.Kernel6Ideal.main_arg8)) (m (c.tc.loc Cert.Kernel6Ideal.main_arg16)) (m (c.tc.loc Cert.Kernel6Ideal.main_arg24)) :=
  (out38 m c).trans (eq38 _ _ _ _)

theorem fin39 : (dats m 0 c).arrAt 39 cfg0.N = Cert.Reference6Ideal.Read.val_main_v108 (F := Ideal) (m (c.tc.loc Cert.Kernel6Ideal.main_arg3)) (m (c.tc.loc Cert.Kernel6Ideal.main_arg9)) (m (c.tc.loc Cert.Kernel6Ideal.main_arg17)) (m (c.tc.loc Cert.Kernel6Ideal.main_arg25)) :=
  (out39 m c).trans (eq39 _ _ _ _)

theorem fin40 : (dats m 0 c).arrAt 40 cfg0.N = Cert.Reference6Ideal.Read.val_main_v132 (F := Ideal) (m (c.tc.loc Cert.Kernel6Ideal.main_arg1)) (m (c.tc.loc Cert.Kernel6Ideal.main_arg10)) (m (c.tc.loc Cert.Kernel6Ideal.main_arg18)) (m (c.tc.loc Cert.Kernel6Ideal.main_arg26)) :=
  (out40 m c).trans (eq40 _ _ _ _)

theorem fin41 : (dats m 0 c).arrAt 41 cfg0.N = Cert.Reference6Ideal.Read.val_main_v156 (F := Ideal) (m (c.tc.loc Cert.Kernel6Ideal.main_arg1)) (m (c.tc.loc Cert.Kernel6Ideal.main_arg11)) (m (c.tc.loc Cert.Kernel6Ideal.main_arg19)) (m (c.tc.loc Cert.Kernel6Ideal.main_arg27)) :=
  (out41 m c).trans (eq41 _ _ _ _)

theorem fin42 : (dats m 0 c).arrAt 42 cfg0.N = Cert.Reference6Ideal.Read.val_main_v180 (F := Ideal) (m (c.tc.loc Cert.Kernel6Ideal.main_arg2)) (m (c.tc.loc Cert.Kernel6Ideal.main_arg12)) (m (c.tc.loc Cert.Kernel6Ideal.main_arg20)) (m (c.tc.loc Cert.Kernel6Ideal.main_arg28)) :=
  (out42 m c).trans (eq42 _ _ _ _)

theorem fin43 : (dats m 0 c).arrAt 43 cfg0.N = Cert.Reference6Ideal.Read.val_main_v204 (F := Ideal) (m (c.tc.loc Cert.Kernel6Ideal.main_arg2)) (m (c.tc.loc Cert.Kernel6Ideal.main_arg13)) (m (c.tc.loc Cert.Kernel6Ideal.main_arg21)) (m (c.tc.loc Cert.Kernel6Ideal.main_arg29)) :=
  (out43 m c).trans (eq43 _ _ _ _)

theorem fin44 : (dats m 0 c).arrAt 44 cfg0.N = Cert.Reference6Ideal.Read.val_main_v17 (F := Ideal) (m (c.tc.loc Cert.Kernel6Ideal.main_arg4)) (m (c.tc.loc Cert.Kernel6Ideal.main_arg14)) :=
  (out44 m c).trans (eq44 _ _)

theorem fin45 (h : Four m c) : (dats m 0 c).arrAt 45 cfg0.N = Cert.Reference6Ideal.Read.val_main_v41 (F := Ideal) (m (c.tc.loc Cert.Kernel6Ideal.main_arg0)) (m (c.tc.loc Cert.Kernel6Ideal.main_arg3)) (m (c.tc.loc Cert.Kernel6Ideal.main_arg15)) :=
  (out45 m c).trans (eq45 _ _ _ (eq30 _ _ h))

theorem fin46 : (dats m 0 c).arrAt 46 cfg0.N = Cert.Reference6Ideal.Read.val_main_v206 (F := Ideal) (m (c.tc.loc Cert.Kernel6Ideal.main_arg5)) (m (c.tc.loc Cert.Kernel6Ideal.main_arg16)) :=
  (out46 m c).trans (eq46 _ _)

theorem fin47 : (dats m 0 c).arrAt 47 cfg0.N = Cert.Reference6Ideal.Read.val_main_v89 (F := Ideal) (m (c.tc.loc Cert.Kernel6Ideal.main_arg3)) (m (c.tc.loc Cert.Kernel6Ideal.main_arg17)) :=
  (out47 m c).trans (eq47 _ _)

theorem fin48 : (dats m 0 c).arrAt 48 cfg0.N = Cert.Reference6Ideal.Read.val_main_v113 (F := Ideal) (m (c.tc.loc Cert.Kernel6Ideal.main_arg1)) (m (c.tc.loc Cert.Kernel6Ideal.main_arg18)) :=
  (out48 m c).trans (eq48 _ _)

theorem fin49 : (dats m 0 c).arrAt 49 cfg0.N = Cert.Reference6Ideal.Read.val_main_v137 (F := Ideal) (m (c.tc.loc Cert.Kernel6Ideal.main_arg1)) (m (c.tc.loc Cert.Kernel6Ideal.main_arg19)) :=
  (out49 m c).trans (eq49 _ _)

theorem fin50 : (dats m 0 c).arrAt 50 cfg0.N = Cert.Reference6Ideal.Read.val_main_v161 (F := Ideal) (m (c.tc.loc Cert.Kernel6Ideal.main_arg2)) (m (c.tc.loc Cert.Kernel6Ideal.main_arg20)) :=
  (out50 m c).trans (eq50 _ _)

theorem fin51 : (dats m 0 c).arrAt 51 cfg0.N = Cert.Reference6Ideal.Read.val_main_v185 (F := Ideal) (m (c.tc.loc Cert.Kernel6Ideal.main_arg2)) (m (c.tc.loc Cert.Kernel6Ideal.main_arg21)) :=
  (out51 m c).trans (eq51 _ _)

theorem fin52 : (dats m 0 c).arrAt 52 cfg0.N = Cert.Reference6Ideal.Read.val_main_v23 (F := Ideal) (m (c.tc.loc Cert.Kernel6Ideal.main_arg4)) (m (c.tc.loc Cert.Kernel6Ideal.main_arg22)) :=
  (out52 m c).trans (eq52 _ _)

theorem fin53 (h : Four m c) : (dats m 0 c).arrAt 53 cfg0.N = Cert.Reference6Ideal.Read.val_main_v47 (F := Ideal) (m (c.tc.loc Cert.Kernel6Ideal.main_arg0)) (m (c.tc.loc Cert.Kernel6Ideal.main_arg3)) (m (c.tc.loc Cert.Kernel6Ideal.main_arg23)) :=
  (out53 m c).trans (eq53 _ _ _ (eq30 _ _ h))

theorem fin54 : (dats m 0 c).arrAt 54 cfg0.N = Cert.Reference6Ideal.Read.val_main_v207 (F := Ideal) (m (c.tc.loc Cert.Kernel6Ideal.main_arg5)) (m (c.tc.loc Cert.Kernel6Ideal.main_arg24)) :=
  (out54 m c).trans (eq54 _ _)

theorem fin55 : (dats m 0 c).arrAt 55 cfg0.N = Cert.Reference6Ideal.Read.val_main_v95 (F := Ideal) (m (c.tc.loc Cert.Kernel6Ideal.main_arg3)) (m (c.tc.loc Cert.Kernel6Ideal.main_arg25)) :=
  (out55 m c).trans (eq55 _ _)

theorem fin56 : (dats m 0 c).arrAt 56 cfg0.N = Cert.Reference6Ideal.Read.val_main_v119 (F := Ideal) (m (c.tc.loc Cert.Kernel6Ideal.main_arg1)) (m (c.tc.loc Cert.Kernel6Ideal.main_arg26)) :=
  (out56 m c).trans (eq56 _ _)

theorem fin57 : (dats m 0 c).arrAt 57 cfg0.N = Cert.Reference6Ideal.Read.val_main_v143 (F := Ideal) (m (c.tc.loc Cert.Kernel6Ideal.main_arg1)) (m (c.tc.loc Cert.Kernel6Ideal.main_arg27)) :=
  (out57 m c).trans (eq57 _ _)

theorem fin58 : (dats m 0 c).arrAt 58 cfg0.N = Cert.Reference6Ideal.Read.val_main_v167 (F := Ideal) (m (c.tc.loc Cert.Kernel6Ideal.main_arg2)) (m (c.tc.loc Cert.Kernel6Ideal.main_arg28)) :=
  (out58 m c).trans (eq58 _ _)

theorem fin59 : (dats m 0 c).arrAt 59 cfg0.N = Cert.Reference6Ideal.Read.val_main_v191 (F := Ideal) (m (c.tc.loc Cert.Kernel6Ideal.main_arg2)) (m (c.tc.loc Cert.Kernel6Ideal.main_arg29)) :=
  (out59 m c).trans (eq59 _ _)

set_option maxHeartbeats 8000000 in
/-- From memories that agree on the arguments, the kernel and the reference end with equal results. -/
theorem algebraic : Cert.algebraic_Kernel6Ideal_Reference6Ideal_pre_chip_exists (hKernel6Ideal := Cert.Kernel6Ideal.Gen.facts) := by
  intro m ρ m' ρ' hpre hag
  refine ⟨fun c => (dats m 0 c).arrAt 30 cfg0.N, fun c => (dats m 0 c).arrAt 31 cfg0.N, fun c => (dats m 0 c).arrAt 32 cfg0.N, fun c => (dats m 0 c).arrAt 33 cfg0.N, fun c => (dats m 0 c).arrAt 34 cfg0.N, fun c => (dats m 0 c).arrAt 35 cfg0.N, fun c => (dats m 0 c).arrAt 36 cfg0.N, fun c => (dats m 0 c).arrAt 37 cfg0.N, fun c => (dats m 0 c).arrAt 38 cfg0.N, fun c => (dats m 0 c).arrAt 39 cfg0.N, fun c => (dats m 0 c).arrAt 40 cfg0.N, fun c => (dats m 0 c).arrAt 41 cfg0.N, fun c => (dats m 0 c).arrAt 42 cfg0.N, fun c => (dats m 0 c).arrAt 43 cfg0.N, fun c => (dats m 0 c).arrAt 44 cfg0.N, fun c => (dats m 0 c).arrAt 45 cfg0.N, fun c => (dats m 0 c).arrAt 46 cfg0.N, fun c => (dats m 0 c).arrAt 47 cfg0.N, fun c => (dats m 0 c).arrAt 48 cfg0.N, fun c => (dats m 0 c).arrAt 49 cfg0.N, fun c => (dats m 0 c).arrAt 50 cfg0.N, fun c => (dats m 0 c).arrAt 51 cfg0.N, fun c => (dats m 0 c).arrAt 52 cfg0.N, fun c => (dats m 0 c).arrAt 53 cfg0.N, fun c => (dats m 0 c).arrAt 54 cfg0.N, fun c => (dats m 0 c).arrAt 55 cfg0.N, fun c => (dats m 0 c).arrAt 56 cfg0.N, fun c => (dats m 0 c).arrAt 57 cfg0.N, fun c => (dats m 0 c).arrAt 58 cfg0.N, fun c => (dats m 0 c).arrAt 59 cfg0.N,
    small_results m ρ, (θ_run _ _ _).mono (fun r h => ?_) (Cert.Reference6Ideal.Value.run (F := Ideal) m' ρ')⟩
  intro c
  have hf := four_of_pre m c hpre
  obtain ⟨g30, g31, g32, g33, g34, g35, g36, g37, g38, g39, g40, g41, g42, g43, g44, g45, g46, g47, g48, g49, g50, g51, g52, g53, g54, g55, g56, g57, g58, g59, kept⟩ := h c
  obtain ⟨e0, e1, e2, e3, e4, e5, e6, e7, e8, e9, e10, e11, e12, e13, e14, e15, e16, e17, e18, e19, e20, e21, e22, e23, e24, e25, e26, e27, e28, e29⟩ := hag c
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, kept⟩
  · exact (g30.trans (Cert.Reference6Ideal.Read.val_main_v7_eq _)).trans ((congr (congrArg (Cert.Reference6Ideal.Read.val_main_v7 (F := Ideal)) e0) e3).trans (fin30 m c hf).symm)
  · exact (g31.trans (Cert.Reference6Ideal.Read.val_main_v8_eq _)).trans ((congrArg (Cert.Reference6Ideal.Read.val_main_v8 (F := Ideal)) e3).trans (fin31 m c).symm)
  · exact (g32.trans (Cert.Reference6Ideal.Read.val_main_v9_eq _)).trans ((congrArg (Cert.Reference6Ideal.Read.val_main_v9 (F := Ideal)) e1).trans (fin32 m c).symm)
  · exact (g33.trans (Cert.Reference6Ideal.Read.val_main_v10_eq _)).trans ((congrArg (Cert.Reference6Ideal.Read.val_main_v10 (F := Ideal)) e1).trans (fin33 m c).symm)
  · exact (g34.trans (Cert.Reference6Ideal.Read.val_main_v11_eq _)).trans ((congrArg (Cert.Reference6Ideal.Read.val_main_v11 (F := Ideal)) e2).trans (fin34 m c).symm)
  · exact (g35.trans (Cert.Reference6Ideal.Read.val_main_v12_eq _)).trans ((congrArg (Cert.Reference6Ideal.Read.val_main_v12 (F := Ideal)) e2).trans (fin35 m c).symm)
  · exact (g36.trans (Cert.Reference6Ideal.Read.val_main_v36_eq _)).trans ((congr (congr (congr (congrArg (Cert.Reference6Ideal.Read.val_main_v36 (F := Ideal)) e4) e6) e14) e22).trans (fin36 m c).symm)
  · exact (g37.trans (Cert.Reference6Ideal.Read.val_main_v60_eq _)).trans ((congr (congr (congr (congr (congrArg (Cert.Reference6Ideal.Read.val_main_v60 (F := Ideal)) e0) e3) e7) e15) e23).trans (fin37 m c hf).symm)
  · exact (g38.trans (Cert.Reference6Ideal.Read.val_main_v205_eq _)).trans ((congr (congr (congr (congrArg (Cert.Reference6Ideal.Read.val_main_v205 (F := Ideal)) e5) e8) e16) e24).trans (fin38 m c).symm)
  · exact (g39.trans (Cert.Reference6Ideal.Read.val_main_v108_eq _)).trans ((congr (congr (congr (congrArg (Cert.Reference6Ideal.Read.val_main_v108 (F := Ideal)) e3) e9) e17) e25).trans (fin39 m c).symm)
  · exact (g40.trans (Cert.Reference6Ideal.Read.val_main_v132_eq _)).trans ((congr (congr (congr (congrArg (Cert.Reference6Ideal.Read.val_main_v132 (F := Ideal)) e1) e10) e18) e26).trans (fin40 m c).symm)
  · exact (g41.trans (Cert.Reference6Ideal.Read.val_main_v156_eq _)).trans ((congr (congr (congr (congrArg (Cert.Reference6Ideal.Read.val_main_v156 (F := Ideal)) e1) e11) e19) e27).trans (fin41 m c).symm)
  · exact (g42.trans (Cert.Reference6Ideal.Read.val_main_v180_eq _)).trans ((congr (congr (congr (congrArg (Cert.Reference6Ideal.Read.val_main_v180 (F := Ideal)) e2) e12) e20) e28).trans (fin42 m c).symm)
  · exact (g43.trans (Cert.Reference6Ideal.Read.val_main_v204_eq _)).trans ((congr (congr (congr (congrArg (Cert.Reference6Ideal.Read.val_main_v204 (F := Ideal)) e2) e13) e21) e29).trans (fin43 m c).symm)
  · exact (g44.trans (Cert.Reference6Ideal.Read.val_main_v17_eq _)).trans ((congr (congrArg (Cert.Reference6Ideal.Read.val_main_v17 (F := Ideal)) e4) e14).trans (fin44 m c).symm)
  · exact (g45.trans (Cert.Reference6Ideal.Read.val_main_v41_eq _)).trans ((congr (congr (congrArg (Cert.Reference6Ideal.Read.val_main_v41 (F := Ideal)) e0) e3) e15).trans (fin45 m c hf).symm)
  · exact (g46.trans (Cert.Reference6Ideal.Read.val_main_v206_eq _)).trans ((congr (congrArg (Cert.Reference6Ideal.Read.val_main_v206 (F := Ideal)) e5) e16).trans (fin46 m c).symm)
  · exact (g47.trans (Cert.Reference6Ideal.Read.val_main_v89_eq _)).trans ((congr (congrArg (Cert.Reference6Ideal.Read.val_main_v89 (F := Ideal)) e3) e17).trans (fin47 m c).symm)
  · exact (g48.trans (Cert.Reference6Ideal.Read.val_main_v113_eq _)).trans ((congr (congrArg (Cert.Reference6Ideal.Read.val_main_v113 (F := Ideal)) e1) e18).trans (fin48 m c).symm)
  · exact (g49.trans (Cert.Reference6Ideal.Read.val_main_v137_eq _)).trans ((congr (congrArg (Cert.Reference6Ideal.Read.val_main_v137 (F := Ideal)) e1) e19).trans (fin49 m c).symm)
  · exact (g50.trans (Cert.Reference6Ideal.Read.val_main_v161_eq _)).trans ((congr (congrArg (Cert.Reference6Ideal.Read.val_main_v161 (F := Ideal)) e2) e20).trans (fin50 m c).symm)
  · exact (g51.trans (Cert.Reference6Ideal.Read.val_main_v185_eq _)).trans ((congr (congrArg (Cert.Reference6Ideal.Read.val_main_v185 (F := Ideal)) e2) e21).trans (fin51 m c).symm)
  · exact (g52.trans (Cert.Reference6Ideal.Read.val_main_v23_eq _)).trans ((congr (congrArg (Cert.Reference6Ideal.Read.val_main_v23 (F := Ideal)) e4) e22).trans (fin52 m c).symm)
  · exact (g53.trans (Cert.Reference6Ideal.Read.val_main_v47_eq _)).trans ((congr (congr (congrArg (Cert.Reference6Ideal.Read.val_main_v47 (F := Ideal)) e0) e3) e23).trans (fin53 m c hf).symm)
  · exact (g54.trans (Cert.Reference6Ideal.Read.val_main_v207_eq _)).trans ((congr (congrArg (Cert.Reference6Ideal.Read.val_main_v207 (F := Ideal)) e5) e24).trans (fin54 m c).symm)
  · exact (g55.trans (Cert.Reference6Ideal.Read.val_main_v95_eq _)).trans ((congr (congrArg (Cert.Reference6Ideal.Read.val_main_v95 (F := Ideal)) e3) e25).trans (fin55 m c).symm)
  · exact (g56.trans (Cert.Reference6Ideal.Read.val_main_v119_eq _)).trans ((congr (congrArg (Cert.Reference6Ideal.Read.val_main_v119 (F := Ideal)) e1) e26).trans (fin56 m c).symm)
  · exact (g57.trans (Cert.Reference6Ideal.Read.val_main_v143_eq _)).trans ((congr (congrArg (Cert.Reference6Ideal.Read.val_main_v143 (F := Ideal)) e1) e27).trans (fin57 m c).symm)
  · exact (g58.trans (Cert.Reference6Ideal.Read.val_main_v167_eq _)).trans ((congr (congrArg (Cert.Reference6Ideal.Read.val_main_v167 (F := Ideal)) e2) e28).trans (fin58 m c).symm)
  · exact (g59.trans (Cert.Reference6Ideal.Read.val_main_v191_eq _)).trans ((congr (congrArg (Cert.Reference6Ideal.Read.val_main_v191 (F := Ideal)) e2) e29).trans (fin59 m c).symm)

end Cert.Algebraic6

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_finite2
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Reference6Ideal
public import proofs.«01_k».proof.Proof.Gen.Reference6Ideal.Run
public import proofs.«01_k».proof.Proof.Gen.Reference6Ideal.Read
public import proofs.«01_k».proof.Proof.Gen.Pre_chip_exists
public import proofs.«01_k».proof.Proof.Algebraic
public import proofs.«01_k».proof.Proof.MlpAlgebraic
public import proofs.«01_k».proof.Proof.AdamAdaAlgebraic
public import proofs.«01_k».proof.Proof.AdamMlpAlgebraic
public import proofs.«01_k».proof.Proof.AdamMixAlgebraic
public import proofs.«01_k».proof.Proof.BitsFrame
public import proofs.«01_k».proof.Proof.SmallAlgebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Pre_finite.Gen.facts, Cert.Pre_finite2.Gen.facts, Cert.Pre_chip_exists.Gen.facts,
  fun m ρ _ => Cert.Kernel.Gen.frame m ρ,
  fun m ρ _ => Cert.KernelIdeal.Gen.frame m ρ,
  fun m ρ _ => Cert.KernelIdeal.Gen.frame m ρ,
  fun m ρ _ => (θ_run _ _ _).mono (fun r h => ⟨fun c => (h c).2.2.2.2.2.2, sem_eq_zero_of_no_sems rfl r.2⟩)
    (Cert.ReferenceIdeal.Value.run (F := Ideal) m ρ),
  fun m ρ _ => (θ_run _ _ _).mono (fun r h => ⟨fun c => (h c).2.2.2.2.2.2, sem_eq_zero_of_no_sems rfl r.2⟩)
    (Cert.ReferenceIdeal.Value.run (F := Ideal) m ρ),
  fun m ρ _ => Cert.Kernel2.Gen.frame m ρ,
  fun m ρ _ => Cert.Kernel2Ideal.Gen.frame m ρ,
  fun m ρ _ => Cert.Kernel2Ideal.Gen.frame m ρ,
  fun m ρ _ => (θ_run _ _ _).mono (fun r h => ⟨fun c => (h c).2.2.2.2.2.2, sem_eq_zero_of_no_sems rfl r.2⟩)
    (Cert.Reference2Ideal.Value.run (F := Ideal) m ρ),
  fun m ρ _ => (θ_run _ _ _).mono (fun r h => ⟨fun c => (h c).2.2.2.2.2.2, sem_eq_zero_of_no_sems rfl r.2⟩)
    (Cert.Reference2Ideal.Value.run (F := Ideal) m ρ),
  fun m ρ _ => Cert.Kernel3.Gen.frame m ρ,
  fun m ρ _ => Cert.Kernel3Ideal.Gen.frame m ρ,
  fun m ρ _ => (θ_run _ _ _).mono (fun r h => ⟨fun c => (h c).2.2.2.2, sem_eq_zero_of_no_sems rfl r.2⟩)
    (Cert.Reference3Ideal.Value.run (F := Ideal) m ρ),
  fun m ρ _ => Cert.Kernel4.Gen.frame m ρ,
  fun m ρ _ => Cert.Kernel4Ideal.Gen.frame m ρ,
  fun m ρ _ => (θ_run _ _ _).mono (fun r h => ⟨fun c => (h c).2.2.2.2.2.2, sem_eq_zero_of_no_sems rfl r.2⟩)
    (Cert.Reference4Ideal.Value.run (F := Ideal) m ρ),
  fun m ρ _ => Cert.Kernel5.Gen.frame m ρ,
  fun m ρ _ => Cert.Kernel5Ideal.Gen.frame m ρ,
  fun m ρ _ => (θ_run _ _ _).mono (fun r h => ⟨fun c => (h c).2.2.2.2.2.2, sem_eq_zero_of_no_sems rfl r.2⟩)
    (Cert.Reference5Ideal.Value.run (F := Ideal) m ρ),
  fun m ρ _ => Cert.Kernel6.Hand.small_frame m ρ,
  fun m ρ _ => Cert.Kernel6Ideal.Hand.small_frame m ρ,
  fun m ρ _ => Cert.Kernel6Ideal.Hand.small_frame m ρ,
  fun m ρ _ => (θ_run _ _ _).mono (fun r h => ⟨fun c => (h c).2.2.2.2.2.2.2.2.2.2.2.2.2.2.2.2.2.2.2.2.2.2.2.2.2.2.2.2.2.2, sem_eq_zero_of_no_sems rfl r.2⟩)
    (Cert.Reference6Ideal.Value.run (F := Ideal) m ρ),
  fun m ρ _ => (θ_run _ _ _).mono (fun r h => ⟨fun c => (h c).2.2.2.2.2.2.2.2.2.2.2.2.2.2.2.2.2.2.2.2.2.2.2.2.2.2.2.2.2.2, sem_eq_zero_of_no_sems rfl r.2⟩)
    (Cert.Reference6Ideal.Value.run (F := Ideal) m ρ),
  trivial,
  Cert.Algebraic.algebraic,
  trivial,
  Cert.Algebraic2.algebraic,
  trivial,
  Cert.Algebraic3.algebraic,
  trivial,
  Cert.Algebraic4.algebraic,
  trivial,
  Cert.Algebraic5.algebraic,
  trivial,
  Cert.Algebraic6.algebraic⟩

end Cert.Proof

end
